-- ==== Defs.lean ====
def Pre_DiscB (m : (ℓ : Loc Cert.DiscB.nD Cert.DiscB.τ Cert.DiscB.sig) → Buf (Elt Bits) ℓ) : Prop :=
  True

def Pre_DiscBIdeal (m : (ℓ : Loc Cert.DiscBIdeal.nD Cert.DiscBIdeal.τ Cert.DiscBIdeal.sig) → Buf (Elt Ideal) ℓ) : Prop :=
  True

def Pre_DiscBRefIdeal (m : (ℓ : Loc Cert.DiscBRefIdeal.nD Cert.DiscBRefIdeal.τ Cert.DiscBRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjIdeal_out_proj_finite [hPre_out_proj_finite : Cert.Pre_out_proj_finite.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_out_proj_finite.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5))) = (fun _ => 1#1)

def Pre_OutProjRefIdeal (m : (ℓ : Loc Cert.OutProjRefIdeal.nD Cert.OutProjRefIdeal.τ Cert.OutProjRefIdeal.sig) → Buf (Elt Ideal) ℓ) : Prop :=
  True

def Pre_OutProjRefIdeal_out_proj_finite [hPre_out_proj_finite : Cert.Pre_out_proj_finite.Facts] (m : (ℓ : Loc Cert.OutProjRefIdeal.nD Cert.OutProjRefIdeal.τ Cert.OutProjRefIdeal.sig) → Buf (Elt Ideal) ℓ) : Prop :=
  ∀ c : Dev Cert.OutProjRefIdeal.nD,
    (Cert.Pre_out_proj_finite.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_in_proj_finite [hPre_in_proj_finite : Cert.Pre_in_proj_finite.Facts] (m : (ℓ : Loc Cert.InProjIdeal.nD Cert.InProjIdeal.τ Cert.InProjIdeal.sig) → Buf (Elt Ideal) ℓ) : Prop :=
  ∀ c : Dev Cert.InProjIdeal.nD,
    (Cert.Pre_in_proj_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_in_proj_finite [hPre_in_proj_finite : Cert.Pre_in_proj_finite.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))) = (fun _ => 1#1)

def Pre_DiscA (m : (ℓ : Loc Cert.DiscA.nD Cert.DiscA.τ Cert.DiscA.sig) → Buf (Elt Bits) ℓ) : Prop :=
  True

def Pre_DiscAIdeal (m : (ℓ : Loc Cert.DiscAIdeal.nD Cert.DiscAIdeal.τ Cert.DiscAIdeal.sig) → Buf (Elt Ideal) ℓ) : Prop :=
  True

def Pre_DiscARefIdeal (m : (ℓ : Loc Cert.DiscARefIdeal.nD Cert.DiscARefIdeal.τ Cert.DiscARefIdeal.sig) → Buf (Elt Ideal) ℓ) : Prop :=
  True

def Pre_DiscAFwd (m : (ℓ : Loc Cert.DiscAFwd.nD Cert.DiscAFwd.τ Cert.DiscAFwd.sig) → Buf (Elt Bits) ℓ) : Prop :=
  True

def Pre_DiscAFwdIdeal (m : (ℓ : Loc Cert.DiscAFwdIdeal.nD Cert.DiscAFwdIdeal.τ Cert.DiscAFwdIdeal.sig) → Buf (Elt Ideal) ℓ) : Prop :=
  True

def Pre_DiscAFwdRefIdeal (m : (ℓ : Loc Cert.DiscAFwdRefIdeal.nD Cert.DiscAFwdRefIdeal.τ Cert.DiscAFwdRefIdeal.sig) → Buf (Elt Ideal) ℓ) : Prop :=
  True

def Pre_DiscBFwd (m : (ℓ : Loc Cert.DiscBFwd.nD Cert.DiscBFwd.τ Cert.DiscBFwd.sig) → Buf (Elt Bits) ℓ) : Prop :=
  True

def Pre_DiscBFwdIdeal (m : (ℓ : Loc Cert.DiscBFwdIdeal.nD Cert.DiscBFwdIdeal.τ Cert.DiscBFwdIdeal.sig) → Buf (Elt Ideal) ℓ) : Prop :=
  True

def Pre_DiscBFwdRefIdeal (m : (ℓ : Loc Cert.DiscBFwdRefIdeal.nD Cert.DiscBFwdRefIdeal.τ Cert.DiscBFwdRefIdeal.sig) → Buf (Elt Ideal) ℓ) : Prop :=
  True

def Pre_InProjFwd (m : (ℓ : Loc Cert.InProjFwd.nD Cert.InProjFwd.τ Cert.InProjFwd.sig) → Buf (Elt Bits) ℓ) : Prop :=
  True

def Pre_InProjFwdIdeal (m : (ℓ : Loc Cert.InProjFwdIdeal.nD Cert.InProjFwdIdeal.τ Cert.InProjFwdIdeal.sig) → Buf (Elt Ideal) ℓ) : Prop :=
  True

def Pre_InProjFwdRefIdeal (m : (ℓ : Loc Cert.InProjFwdRefIdeal.nD Cert.InProjFwdRefIdeal.τ Cert.InProjFwdRefIdeal.sig) → Buf (Elt Ideal) ℓ) : Prop :=
  True

def Pre_OutProjFwd (m : (ℓ : Loc Cert.OutProjFwd.nD Cert.OutProjFwd.τ Cert.OutProjFwd.sig) → Buf (Elt Bits) ℓ) : Prop :=
  True

def Pre_OutProjFwdIdeal (m : (ℓ : Loc Cert.OutProjFwdIdeal.nD Cert.OutProjFwdIdeal.τ Cert.OutProjFwdIdeal.sig) → Buf (Elt Ideal) ℓ) : Prop :=
  True

def Pre_OutProjFwdRefIdeal (m : (ℓ : Loc Cert.OutProjFwdRefIdeal.nD Cert.OutProjFwdRefIdeal.τ Cert.OutProjFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_pool_fwd_finite [hPre_pool_fwd_finite : Cert.Pre_pool_fwd_finite.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_pool_fwd_finite.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_pool_fwd_finite [hPre_pool_fwd_finite : Cert.Pre_pool_fwd_finite.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_pool_fwd_finite.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2))) = (fun _ => 1#1)

def Pre_AdamRows (m : (ℓ : Loc Cert.AdamRows.nD Cert.AdamRows.τ Cert.AdamRows.sig) → Buf (Elt Bits) ℓ) : Prop :=
  True

def Pre_AdamRowsIdeal (m : (ℓ : Loc Cert.AdamRowsIdeal.nD Cert.AdamRowsIdeal.τ Cert.AdamRowsIdeal.sig) → Buf (Elt Ideal) ℓ) : Prop :=
  True

def Pre_AdamRowsRefIdeal (m : (ℓ : Loc Cert.AdamRowsRefIdeal.nD Cert.AdamRowsRefIdeal.τ Cert.AdamRowsRefIdeal.sig) → Buf (Elt Ideal) ℓ) : Prop :=
  True

def Pre_AdamMeta (m : (ℓ : Loc Cert.AdamMeta.nD Cert.AdamMeta.τ Cert.AdamMeta.sig) → Buf (Elt Bits) ℓ) : Prop :=
  True

def Pre_AdamMetaIdeal (m : (ℓ : Loc Cert.AdamMetaIdeal.nD Cert.AdamMetaIdeal.τ Cert.AdamMetaIdeal.sig) → Buf (Elt Ideal) ℓ) : Prop :=
  True

def Pre_AdamMetaRefIdeal (m : (ℓ : Loc Cert.AdamMetaRefIdeal.nD Cert.AdamMetaRefIdeal.τ Cert.AdamMetaRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Sums (m : (ℓ : Loc Cert.Sums.nD Cert.Sums.τ Cert.Sums.sig) → Buf (Elt Bits) ℓ) : Prop :=
  True

def Pre_SumsIdeal (m : (ℓ : Loc Cert.SumsIdeal.nD Cert.SumsIdeal.τ Cert.SumsIdeal.sig) → Buf (Elt Ideal) ℓ) : Prop :=
  True

def Pre_SumsRefIdeal (m : (ℓ : Loc Cert.SumsRefIdeal.nD Cert.SumsRefIdeal.τ Cert.SumsRefIdeal.sig) → Buf (Elt Ideal) ℓ) : Prop :=
  True

def quiescent_DiscB [hDiscB : Cert.DiscB.Facts] : Prop :=
  ∀ (m : (ℓ : Loc Cert.DiscB.nD Cert.DiscB.τ Cert.DiscB.sig) → Buf (Elt Bits) ℓ) (g : Dev Cert.DiscB.nD → PrngReg), Pre_DiscB m →
    θ_run (Cert.DiscB.defs (F := Bits)) (onTc (τ := Cert.DiscB.τ) (Cert.DiscB.main (F := Bits))) ⟨m, fun _ => 0, g⟩ (fun r => (∀ c : Dev Cert.DiscB.nD,
      r.2.mem ((c.tc : Thread Cert.DiscB.nD Cert.DiscB.τ).loc Cert.DiscB.main_arg0) = m ((c.tc : Thread Cert.DiscB.nD Cert.DiscB.τ).loc Cert.DiscB.main_arg0)
      ∧ r.2.mem ((c.tc : Thread Cert.DiscB.nD Cert.DiscB.τ).loc Cert.DiscB.main_arg1) = m ((c.tc : Thread Cert.DiscB.nD Cert.DiscB.τ).loc Cert.DiscB.main_arg1)
      ∧ r.2.mem ((c.tc : Thread Cert.DiscB.nD Cert.DiscB.τ).loc Cert.DiscB.main_arg2) = m ((c.tc : Thread Cert.DiscB.nD Cert.DiscB.τ).loc Cert.DiscB.main_arg2)
      ∧ r.2.mem ((c.tc : Thread Cert.DiscB.nD Cert.DiscB.τ).loc Cert.DiscB.main_arg3) = m ((c.tc : Thread Cert.DiscB.nD Cert.DiscB.τ).loc Cert.DiscB.main_arg3)
      ∧ r.2.mem ((c.tc : Thread Cert.DiscB.nD Cert.DiscB.τ).loc Cert.DiscB.main_arg4) = m ((c.tc : Thread Cert.DiscB.nD Cert.DiscB.τ).loc Cert.DiscB.main_arg4)
      ∧ r.2.mem ((c.tc : Thread Cert.DiscB.nD Cert.DiscB.τ).loc Cert.DiscB.main_arg5) = m ((c.tc : Thread Cert.DiscB.nD Cert.DiscB.τ).loc Cert.DiscB.main_arg5))
      ∧ r.2.sem = fun _ => 0)

def quiescent_DiscBIdeal [hDiscBIdeal : Cert.DiscBIdeal.Facts] : Prop :=
  ∀ (m : (ℓ : Loc Cert.DiscBIdeal.nD Cert.DiscBIdeal.τ Cert.DiscBIdeal.sig) → Buf (Elt Ideal) ℓ) (g : Dev Cert.DiscBIdeal.nD → PrngReg), Pre_DiscBIdeal m →
    θ_run (Cert.DiscBIdeal.defs (F := Ideal)) (onTc (τ := Cert.DiscBIdeal.τ) (Cert.DiscBIdeal.main (F := Ideal))) ⟨m, fun _ => 0, g⟩ (fun r => (∀ c : Dev Cert.DiscBIdeal.nD,
      r.2.mem ((c.tc : Thread Cert.DiscBIdeal.nD Cert.DiscBIdeal.τ).loc Cert.DiscBIdeal.main_arg0) = m ((c.tc : Thread Cert.DiscBIdeal.nD Cert.DiscBIdeal.τ).loc Cert.DiscBIdeal.main_arg0)
      ∧ r.2.mem ((c.tc : Thread Cert.DiscBIdeal.nD Cert.DiscBIdeal.τ).loc Cert.DiscBIdeal.main_arg1) = m ((c.tc : Thread Cert.DiscBIdeal.nD Cert.DiscBIdeal.τ).loc Cert.DiscBIdeal.main_arg1)
      ∧ r.2.mem ((c.tc : Thread Cert.DiscBIdeal.nD Cert.DiscBIdeal.τ).loc Cert.DiscBIdeal.main_arg2) = m ((c.tc : Thread Cert.DiscBIdeal.nD Cert.DiscBIdeal.τ).loc Cert.DiscBIdeal.main_arg2)
      ∧ r.2.mem ((c.tc : Thread Cert.DiscBIdeal.nD Cert.DiscBIdeal.τ).loc Cert.DiscBIdeal.main_arg3) = m ((c.tc : Thread Cert.DiscBIdeal.nD Cert.DiscBIdeal.τ).loc Cert.DiscBIdeal.main_arg3)
      ∧ r.2.mem ((c.tc : Thread Cert.DiscBIdeal.nD Cert.DiscBIdeal.τ).loc Cert.DiscBIdeal.main_arg4) = m ((c.tc : Thread Cert.DiscBIdeal.nD Cert.DiscBIdeal.τ).loc Cert.DiscBIdeal.main_arg4)
      ∧ r.2.mem ((c.tc : Thread Cert.DiscBIdeal.nD Cert.DiscBIdeal.τ).loc Cert.DiscBIdeal.main_arg5) = m ((c.tc : Thread Cert.DiscBIdeal.nD Cert.DiscBIdeal.τ).loc Cert.DiscBIdeal.main_arg5))
      ∧ r.2.sem = fun _ => 0)

def quiescent_DiscBRefIdeal [hDiscBRefIdeal : Cert.DiscBRefIdeal.Facts] : Prop :=
  ∀ (m : (ℓ : Loc Cert.DiscBRefIdeal.nD Cert.DiscBRefIdeal.τ Cert.DiscBRefIdeal.sig) → Buf (Elt Ideal) ℓ) (g : Dev Cert.DiscBRefIdeal.nD → PrngReg), Pre_DiscBRefIdeal m →
    θ_run (Cert.DiscBRefIdeal.defs (F := Ideal)) (onTc (τ := Cert.DiscBRefIdeal.τ) (Cert.DiscBRefIdeal.main (F := Ideal))) ⟨m, fun _ => 0, g⟩ (fun r => (∀ c : Dev Cert.DiscBRefIdeal.nD,
      r.2.mem ((c.tc : Thread Cert.DiscBRefIdeal.nD Cert.DiscBRefIdeal.τ).loc Cert.DiscBRefIdeal.main_arg0) = m ((c.tc : Thread Cert.DiscBRefIdeal.nD Cert.DiscBRefIdeal.τ).loc Cert.DiscBRefIdeal.main_arg0)
      ∧ r.2.mem ((c.tc : Thread Cert.DiscBRefIdeal.nD Cert.DiscBRefIdeal.τ).loc Cert.DiscBRefIdeal.main_arg1) = m ((c.tc : Thread Cert.DiscBRefIdeal.nD Cert.DiscBRefIdeal.τ).loc Cert.DiscBRefIdeal.main_arg1)
      ∧ r.2.mem ((c.tc : Thread Cert.DiscBRefIdeal.nD Cert.DiscBRefIdeal.τ).loc Cert.DiscBRefIdeal.main_arg2) = m ((c.tc : Thread Cert.DiscBRefIdeal.nD Cert.DiscBRefIdeal.τ).loc Cert.DiscBRefIdeal.main_arg2)
      ∧ r.2.mem ((c.tc : Thread Cert.DiscBRefIdeal.nD Cert.DiscBRefIdeal.τ).loc Cert.DiscBRefIdeal.main_arg3) = m ((c.tc : Thread Cert.DiscBRefIdeal.nD Cert.DiscBRefIdeal.τ).loc Cert.DiscBRefIdeal.main_arg3)
      ∧ r.2.mem ((c.tc : Thread Cert.DiscBRefIdeal.nD Cert.DiscBRefIdeal.τ).loc Cert.DiscBRefIdeal.main_arg4) = m ((c.tc : Thread Cert.DiscBRefIdeal.nD Cert.DiscBRefIdeal.τ).loc Cert.DiscBRefIdeal.main_arg4)
      ∧ r.2.mem ((c.tc : Thread Cert.DiscBRefIdeal.nD Cert.DiscBRefIdeal.τ).loc Cert.DiscBRefIdeal.main_arg5) = m ((c.tc : Thread Cert.DiscBRefIdeal.nD Cert.DiscBRefIdeal.τ).loc Cert.DiscBRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjIdeal_pre_out_proj_finite [hOutProjIdeal : Cert.OutProjIdeal.Facts] [hPre_out_proj_finite : Cert.Pre_out_proj_finite.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal_out_proj_finite m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_OutProjRefIdeal_pre_out_proj_finite [hOutProjRefIdeal : Cert.OutProjRefIdeal.Facts] [hPre_out_proj_finite : Cert.Pre_out_proj_finite.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal_out_proj_finite m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjIdeal_pre_in_proj_finite [hInProjIdeal : Cert.InProjIdeal.Facts] [hPre_in_proj_finite : Cert.Pre_in_proj_finite.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_in_proj_finite m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_InProjRefIdeal_pre_in_proj_finite [hInProjRefIdeal : Cert.InProjRefIdeal.Facts] [hPre_in_proj_finite : Cert.Pre_in_proj_finite.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_in_proj_finite m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_DiscA [hDiscA : Cert.DiscA.Facts] : Prop :=
  ∀ (m : (ℓ : Loc Cert.DiscA.nD Cert.DiscA.τ Cert.DiscA.sig) → Buf (Elt Bits) ℓ) (g : Dev Cert.DiscA.nD → PrngReg), Pre_DiscA m →
    θ_run (Cert.DiscA.defs (F := Bits)) (onTc (τ := Cert.DiscA.τ) (Cert.DiscA.main (F := Bits))) ⟨m, fun _ => 0, g⟩ (fun r => (∀ c : Dev Cert.DiscA.nD,
      r.2.mem ((c.tc : Thread Cert.DiscA.nD Cert.DiscA.τ).loc Cert.DiscA.main_arg0) = m ((c.tc : Thread Cert.DiscA.nD Cert.DiscA.τ).loc Cert.DiscA.main_arg0)
      ∧ r.2.mem ((c.tc : Thread Cert.DiscA.nD Cert.DiscA.τ).loc Cert.DiscA.main_arg1) = m ((c.tc : Thread Cert.DiscA.nD Cert.DiscA.τ).loc Cert.DiscA.main_arg1)
      ∧ r.2.mem ((c.tc : Thread Cert.DiscA.nD Cert.DiscA.τ).loc Cert.DiscA.main_arg2) = m ((c.tc : Thread Cert.DiscA.nD Cert.DiscA.τ).loc Cert.DiscA.main_arg2)
      ∧ r.2.mem ((c.tc : Thread Cert.DiscA.nD Cert.DiscA.τ).loc Cert.DiscA.main_arg3) = m ((c.tc : Thread Cert.DiscA.nD Cert.DiscA.τ).loc Cert.DiscA.main_arg3)
      ∧ r.2.mem ((c.tc : Thread Cert.DiscA.nD Cert.DiscA.τ).loc Cert.DiscA.main_arg4) = m ((c.tc : Thread Cert.DiscA.nD Cert.DiscA.τ).loc Cert.DiscA.main_arg4)
      ∧ r.2.mem ((c.tc : Thread Cert.DiscA.nD Cert.DiscA.τ).loc Cert.DiscA.main_arg5) = m ((c.tc : Thread Cert.DiscA.nD Cert.DiscA.τ).loc Cert.DiscA.main_arg5)
      ∧ r.2.mem ((c.tc : Thread Cert.DiscA.nD Cert.DiscA.τ).loc Cert.DiscA.main_arg6) = m ((c.tc : Thread Cert.DiscA.nD Cert.DiscA.τ).loc Cert.DiscA.main_arg6))
      ∧ r.2.sem = fun _ => 0)

def quiescent_DiscAIdeal [hDiscAIdeal : Cert.DiscAIdeal.Facts] : Prop :=
  ∀ (m : (ℓ : Loc Cert.DiscAIdeal.nD Cert.DiscAIdeal.τ Cert.DiscAIdeal.sig) → Buf (Elt Ideal) ℓ) (g : Dev Cert.DiscAIdeal.nD → PrngReg), Pre_DiscAIdeal m →
    θ_run (Cert.DiscAIdeal.defs (F := Ideal)) (onTc (τ := Cert.DiscAIdeal.τ) (Cert.DiscAIdeal.main (F := Ideal))) ⟨m, fun _ => 0, g⟩ (fun r => (∀ c : Dev Cert.DiscAIdeal.nD,
      r.2.mem ((c.tc : Thread Cert.DiscAIdeal.nD Cert.DiscAIdeal.τ).loc Cert.DiscAIdeal.main_arg0) = m ((c.tc : Thread Cert.DiscAIdeal.nD Cert.DiscAIdeal.τ).loc Cert.DiscAIdeal.main_arg0)
      ∧ r.2.mem ((c.tc : Thread Cert.DiscAIdeal.nD Cert.DiscAIdeal.τ).loc Cert.DiscAIdeal.main_arg1) = m ((c.tc : Thread Cert.DiscAIdeal.nD Cert.DiscAIdeal.τ).loc Cert.DiscAIdeal.main_arg1)
      ∧ r.2.mem ((c.tc : Thread Cert.DiscAIdeal.nD Cert.DiscAIdeal.τ).loc Cert.DiscAIdeal.main_arg2) = m ((c.tc : Thread Cert.DiscAIdeal.nD Cert.DiscAIdeal.τ).loc Cert.DiscAIdeal.main_arg2)
      ∧ r.2.mem ((c.tc : Thread Cert.DiscAIdeal.nD Cert.DiscAIdeal.τ).loc Cert.DiscAIdeal.main_arg3) = m ((c.tc : Thread Cert.DiscAIdeal.nD Cert.DiscAIdeal.τ).loc Cert.DiscAIdeal.main_arg3)
      ∧ r.2.mem ((c.tc : Thread Cert.DiscAIdeal.nD Cert.DiscAIdeal.τ).loc Cert.DiscAIdeal.main_arg4) = m ((c.tc : Thread Cert.DiscAIdeal.nD Cert.DiscAIdeal.τ).loc Cert.DiscAIdeal.main_arg4)
      ∧ r.2.mem ((c.tc : Thread Cert.DiscAIdeal.nD Cert.DiscAIdeal.τ).loc Cert.DiscAIdeal.main_arg5) = m ((c.tc : Thread Cert.DiscAIdeal.nD Cert.DiscAIdeal.τ).loc Cert.DiscAIdeal.main_arg5)
      ∧ r.2.mem ((c.tc : Thread Cert.DiscAIdeal.nD Cert.DiscAIdeal.τ).loc Cert.DiscAIdeal.main_arg6) = m ((c.tc : Thread Cert.DiscAIdeal.nD Cert.DiscAIdeal.τ).loc Cert.DiscAIdeal.main_arg6))
      ∧ r.2.sem = fun _ => 0)

def quiescent_DiscARefIdeal [hDiscARefIdeal : Cert.DiscARefIdeal.Facts] : Prop :=
  ∀ (m : (ℓ : Loc Cert.DiscARefIdeal.nD Cert.DiscARefIdeal.τ Cert.DiscARefIdeal.sig) → Buf (Elt Ideal) ℓ) (g : Dev Cert.DiscARefIdeal.nD → PrngReg), Pre_DiscARefIdeal m →
    θ_run (Cert.DiscARefIdeal.defs (F := Ideal)) (onTc (τ := Cert.DiscARefIdeal.τ) (Cert.DiscARefIdeal.main (F := Ideal))) ⟨m, fun _ => 0, g⟩ (fun r => (∀ c : Dev Cert.DiscARefIdeal.nD,
      r.2.mem ((c.tc : Thread Cert.DiscARefIdeal.nD Cert.DiscARefIdeal.τ).loc Cert.DiscARefIdeal.main_arg0) = m ((c.tc : Thread Cert.DiscARefIdeal.nD Cert.DiscARefIdeal.τ).loc Cert.DiscARefIdeal.main_arg0)
      ∧ r.2.mem ((c.tc : Thread Cert.DiscARefIdeal.nD Cert.DiscARefIdeal.τ).loc Cert.DiscARefIdeal.main_arg1) = m ((c.tc : Thread Cert.DiscARefIdeal.nD Cert.DiscARefIdeal.τ).loc Cert.DiscARefIdeal.main_arg1)
      ∧ r.2.mem ((c.tc : Thread Cert.DiscARefIdeal.nD Cert.DiscARefIdeal.τ).loc Cert.DiscARefIdeal.main_arg2) = m ((c.tc : Thread Cert.DiscARefIdeal.nD Cert.DiscARefIdeal.τ).loc Cert.DiscARefIdeal.main_arg2)
      ∧ r.2.mem ((c.tc : Thread Cert.DiscARefIdeal.nD Cert.DiscARefIdeal.τ).loc Cert.DiscARefIdeal.main_arg3) = m ((c.tc : Thread Cert.DiscARefIdeal.nD Cert.DiscARefIdeal.τ).loc Cert.DiscARefIdeal.main_arg3)
      ∧ r.2.mem ((c.tc : Thread Cert.DiscARefIdeal.nD Cert.DiscARefIdeal.τ).loc Cert.DiscARefIdeal.main_arg4) = m ((c.tc : Thread Cert.DiscARefIdeal.nD Cert.DiscARefIdeal.τ).loc Cert.DiscARefIdeal.main_arg4)
      ∧ r.2.mem ((c.tc : Thread Cert.DiscARefIdeal.nD Cert.DiscARefIdeal.τ).loc Cert.DiscARefIdeal.main_arg5) = m ((c.tc : Thread Cert.DiscARefIdeal.nD Cert.DiscARefIdeal.τ).loc Cert.DiscARefIdeal.main_arg5)
      ∧ r.2.mem ((c.tc : Thread Cert.DiscARefIdeal.nD Cert.DiscARefIdeal.τ).loc Cert.DiscARefIdeal.main_arg6) = m ((c.tc : Thread Cert.DiscARefIdeal.nD Cert.DiscARefIdeal.τ).loc Cert.DiscARefIdeal.main_arg6))
      ∧ r.2.sem = fun _ => 0)

def quiescent_DiscAFwd [hDiscAFwd : Cert.DiscAFwd.Facts] : Prop :=
  ∀ (m : (ℓ : Loc Cert.DiscAFwd.nD Cert.DiscAFwd.τ Cert.DiscAFwd.sig) → Buf (Elt Bits) ℓ) (g : Dev Cert.DiscAFwd.nD → PrngReg), Pre_DiscAFwd m →
    θ_run (Cert.DiscAFwd.defs (F := Bits)) (onTc (τ := Cert.DiscAFwd.τ) (Cert.DiscAFwd.main (F := Bits))) ⟨m, fun _ => 0, g⟩ (fun r => (∀ c : Dev Cert.DiscAFwd.nD,
      r.2.mem ((c.tc : Thread Cert.DiscAFwd.nD Cert.DiscAFwd.τ).loc Cert.DiscAFwd.main_arg0) = m ((c.tc : Thread Cert.DiscAFwd.nD Cert.DiscAFwd.τ).loc Cert.DiscAFwd.main_arg0)
      ∧ r.2.mem ((c.tc : Thread Cert.DiscAFwd.nD Cert.DiscAFwd.τ).loc Cert.DiscAFwd.main_arg1) = m ((c.tc : Thread Cert.DiscAFwd.nD Cert.DiscAFwd.τ).loc Cert.DiscAFwd.main_arg1)
      ∧ r.2.mem ((c.tc : Thread Cert.DiscAFwd.nD Cert.DiscAFwd.τ).loc Cert.DiscAFwd.main_arg2) = m ((c.tc : Thread Cert.DiscAFwd.nD Cert.DiscAFwd.τ).loc Cert.DiscAFwd.main_arg2))
      ∧ r.2.sem = fun _ => 0)

def quiescent_DiscAFwdIdeal [hDiscAFwdIdeal : Cert.DiscAFwdIdeal.Facts] : Prop :=
  ∀ (m : (ℓ : Loc Cert.DiscAFwdIdeal.nD Cert.DiscAFwdIdeal.τ Cert.DiscAFwdIdeal.sig) → Buf (Elt Ideal) ℓ) (g : Dev Cert.DiscAFwdIdeal.nD → PrngReg), Pre_DiscAFwdIdeal m →
    θ_run (Cert.DiscAFwdIdeal.defs (F := Ideal)) (onTc (τ := Cert.DiscAFwdIdeal.τ) (Cert.DiscAFwdIdeal.main (F := Ideal))) ⟨m, fun _ => 0, g⟩ (fun r => (∀ c : Dev Cert.DiscAFwdIdeal.nD,
      r.2.mem ((c.tc : Thread Cert.DiscAFwdIdeal.nD Cert.DiscAFwdIdeal.τ).loc Cert.DiscAFwdIdeal.main_arg0) = m ((c.tc : Thread Cert.DiscAFwdIdeal.nD Cert.DiscAFwdIdeal.τ).loc Cert.DiscAFwdIdeal.main_arg0)
      ∧ r.2.mem ((c.tc : Thread Cert.DiscAFwdIdeal.nD Cert.DiscAFwdIdeal.τ).loc Cert.DiscAFwdIdeal.main_arg1) = m ((c.tc : Thread Cert.DiscAFwdIdeal.nD Cert.DiscAFwdIdeal.τ).loc Cert.DiscAFwdIdeal.main_arg1)
      ∧ r.2.mem ((c.tc : Thread Cert.DiscAFwdIdeal.nD Cert.DiscAFwdIdeal.τ).loc Cert.DiscAFwdIdeal.main_arg2) = m ((c.tc : Thread Cert.DiscAFwdIdeal.nD Cert.DiscAFwdIdeal.τ).loc Cert.DiscAFwdIdeal.main_arg2))
      ∧ r.2.sem = fun _ => 0)

def quiescent_DiscAFwdRefIdeal [hDiscAFwdRefIdeal : Cert.DiscAFwdRefIdeal.Facts] : Prop :=
  ∀ (m : (ℓ : Loc Cert.DiscAFwdRefIdeal.nD Cert.DiscAFwdRefIdeal.τ Cert.DiscAFwdRefIdeal.sig) → Buf (Elt Ideal) ℓ) (g : Dev Cert.DiscAFwdRefIdeal.nD → PrngReg), Pre_DiscAFwdRefIdeal m →
    θ_run (Cert.DiscAFwdRefIdeal.defs (F := Ideal)) (onTc (τ := Cert.DiscAFwdRefIdeal.τ) (Cert.DiscAFwdRefIdeal.main (F := Ideal))) ⟨m, fun _ => 0, g⟩ (fun r => (∀ c : Dev Cert.DiscAFwdRefIdeal.nD,
      r.2.mem ((c.tc : Thread Cert.DiscAFwdRefIdeal.nD Cert.DiscAFwdRefIdeal.τ).loc Cert.DiscAFwdRefIdeal.main_arg0) = m ((c.tc : Thread Cert.DiscAFwdRefIdeal.nD Cert.DiscAFwdRefIdeal.τ).loc Cert.DiscAFwdRefIdeal.main_arg0)
      ∧ r.2.mem ((c.tc : Thread Cert.DiscAFwdRefIdeal.nD Cert.DiscAFwdRefIdeal.τ).loc Cert.DiscAFwdRefIdeal.main_arg1) = m ((c.tc : Thread Cert.DiscAFwdRefIdeal.nD Cert.DiscAFwdRefIdeal.τ).loc Cert.DiscAFwdRefIdeal.main_arg1)
      ∧ r.2.mem ((c.tc : Thread Cert.DiscAFwdRefIdeal.nD Cert.DiscAFwdRefIdeal.τ).loc Cert.DiscAFwdRefIdeal.main_arg2) = m ((c.tc : Thread Cert.DiscAFwdRefIdeal.nD Cert.DiscAFwdRefIdeal.τ).loc Cert.DiscAFwdRefIdeal.main_arg2))
      ∧ r.2.sem = fun _ => 0)

def quiescent_DiscBFwd [hDiscBFwd : Cert.DiscBFwd.Facts] : Prop :=
  ∀ (m : (ℓ : Loc Cert.DiscBFwd.nD Cert.DiscBFwd.τ Cert.DiscBFwd.sig) → Buf (Elt Bits) ℓ) (g : Dev Cert.DiscBFwd.nD → PrngReg), Pre_DiscBFwd m →
    θ_run (Cert.DiscBFwd.defs (F := Bits)) (onTc (τ := Cert.DiscBFwd.τ) (Cert.DiscBFwd.main (F := Bits))) ⟨m, fun _ => 0, g⟩ (fun r => (∀ c : Dev Cert.DiscBFwd.nD,
      r.2.mem ((c.tc : Thread Cert.DiscBFwd.nD Cert.DiscBFwd.τ).loc Cert.DiscBFwd.main_arg0) = m ((c.tc : Thread Cert.DiscBFwd.nD Cert.DiscBFwd.τ).loc Cert.DiscBFwd.main_arg0)
      ∧ r.2.mem ((c.tc : Thread Cert.DiscBFwd.nD Cert.DiscBFwd.τ).loc Cert.DiscBFwd.main_arg1) = m ((c.tc : Thread Cert.DiscBFwd.nD Cert.DiscBFwd.τ).loc Cert.DiscBFwd.main_arg1)
      ∧ r.2.mem ((c.tc : Thread Cert.DiscBFwd.nD Cert.DiscBFwd.τ).loc Cert.DiscBFwd.main_arg2) = m ((c.tc : Thread Cert.DiscBFwd.nD Cert.DiscBFwd.τ).loc Cert.DiscBFwd.main_arg2)
      ∧ r.2.mem ((c.tc : Thread Cert.DiscBFwd.nD Cert.DiscBFwd.τ).loc Cert.DiscBFwd.main_arg3) = m ((c.tc : Thread Cert.DiscBFwd.nD Cert.DiscBFwd.τ).loc Cert.DiscBFwd.main_arg3))
      ∧ r.2.sem = fun _ => 0)

def quiescent_DiscBFwdIdeal [hDiscBFwdIdeal : Cert.DiscBFwdIdeal.Facts] : Prop :=
  ∀ (m : (ℓ : Loc Cert.DiscBFwdIdeal.nD Cert.DiscBFwdIdeal.τ Cert.DiscBFwdIdeal.sig) → Buf (Elt Ideal) ℓ) (g : Dev Cert.DiscBFwdIdeal.nD → PrngReg), Pre_DiscBFwdIdeal m →
    θ_run (Cert.DiscBFwdIdeal.defs (F := Ideal)) (onTc (τ := Cert.DiscBFwdIdeal.τ) (Cert.DiscBFwdIdeal.main (F := Ideal))) ⟨m, fun _ => 0, g⟩ (fun r => (∀ c : Dev Cert.DiscBFwdIdeal.nD,
      r.2.mem ((c.tc : Thread Cert.DiscBFwdIdeal.nD Cert.DiscBFwdIdeal.τ).loc Cert.DiscBFwdIdeal.main_arg0) = m ((c.tc : Thread Cert.DiscBFwdIdeal.nD Cert.DiscBFwdIdeal.τ).loc Cert.DiscBFwdIdeal.main_arg0)
      ∧ r.2.mem ((c.tc : Thread Cert.DiscBFwdIdeal.nD Cert.DiscBFwdIdeal.τ).loc Cert.DiscBFwdIdeal.main_arg1) = m ((c.tc : Thread Cert.DiscBFwdIdeal.nD Cert.DiscBFwdIdeal.τ).loc Cert.DiscBFwdIdeal.main_arg1)
      ∧ r.2.mem ((c.tc : Thread Cert.DiscBFwdIdeal.nD Cert.DiscBFwdIdeal.τ).loc Cert.DiscBFwdIdeal.main_arg2) = m ((c.tc : Thread Cert.DiscBFwdIdeal.nD Cert.DiscBFwdIdeal.τ).loc Cert.DiscBFwdIdeal.main_arg2)
      ∧ r.2.mem ((c.tc : Thread Cert.DiscBFwdIdeal.nD Cert.DiscBFwdIdeal.τ).loc Cert.DiscBFwdIdeal.main_arg3) = m ((c.tc : Thread Cert.DiscBFwdIdeal.nD Cert.DiscBFwdIdeal.τ).loc Cert.DiscBFwdIdeal.main_arg3))
      ∧ r.2.sem = fun _ => 0)

def quiescent_DiscBFwdRefIdeal [hDiscBFwdRefIdeal : Cert.DiscBFwdRefIdeal.Facts] : Prop :=
  ∀ (m : (ℓ : Loc Cert.DiscBFwdRefIdeal.nD Cert.DiscBFwdRefIdeal.τ Cert.DiscBFwdRefIdeal.sig) → Buf (Elt Ideal) ℓ) (g : Dev Cert.DiscBFwdRefIdeal.nD → PrngReg), Pre_DiscBFwdRefIdeal m →
    θ_run (Cert.DiscBFwdRefIdeal.defs (F := Ideal)) (onTc (τ := Cert.DiscBFwdRefIdeal.τ) (Cert.DiscBFwdRefIdeal.main (F := Ideal))) ⟨m, fun _ => 0, g⟩ (fun r => (∀ c : Dev Cert.DiscBFwdRefIdeal.nD,
      r.2.mem ((c.tc : Thread Cert.DiscBFwdRefIdeal.nD Cert.DiscBFwdRefIdeal.τ).loc Cert.DiscBFwdRefIdeal.main_arg0) = m ((c.tc : Thread Cert.DiscBFwdRefIdeal.nD Cert.DiscBFwdRefIdeal.τ).loc Cert.DiscBFwdRefIdeal.main_arg0)
      ∧ r.2.mem ((c.tc : Thread Cert.DiscBFwdRefIdeal.nD Cert.DiscBFwdRefIdeal.τ).loc Cert.DiscBFwdRefIdeal.main_arg1) = m ((c.tc : Thread Cert.DiscBFwdRefIdeal.nD Cert.DiscBFwdRefIdeal.τ).loc Cert.DiscBFwdRefIdeal.main_arg1)
      ∧ r.2.mem ((c.tc : Thread Cert.DiscBFwdRefIdeal.nD Cert.DiscBFwdRefIdeal.τ).loc Cert.DiscBFwdRefIdeal.main_arg2) = m ((c.tc : Thread Cert.DiscBFwdRefIdeal.nD Cert.DiscBFwdRefIdeal.τ).loc Cert.DiscBFwdRefIdeal.main_arg2)
      ∧ r.2.mem ((c.tc : Thread Cert.DiscBFwdRefIdeal.nD Cert.DiscBFwdRefIdeal.τ).loc Cert.DiscBFwdRefIdeal.main_arg3) = m ((c.tc : Thread Cert.DiscBFwdRefIdeal.nD Cert.DiscBFwdRefIdeal.τ).loc Cert.DiscBFwdRefIdeal.main_arg3))
      ∧ r.2.sem = fun _ => 0)

def quiescent_InProjFwd [hInProjFwd : Cert.InProjFwd.Facts] : Prop :=
  ∀ (m : (ℓ : Loc Cert.InProjFwd.nD Cert.InProjFwd.τ Cert.InProjFwd.sig) → Buf (Elt Bits) ℓ) (g : Dev Cert.InProjFwd.nD → PrngReg), Pre_InProjFwd m →
    θ_run (Cert.InProjFwd.defs (F := Bits)) (onTc (τ := Cert.InProjFwd.τ) (Cert.InProjFwd.main (F := Bits))) ⟨m, fun _ => 0, g⟩ (fun r => (∀ c : Dev Cert.InProjFwd.nD,
      r.2.mem ((c.tc : Thread Cert.InProjFwd.nD Cert.InProjFwd.τ).loc Cert.InProjFwd.main_arg0) = m ((c.tc : Thread Cert.InProjFwd.nD Cert.InProjFwd.τ).loc Cert.InProjFwd.main_arg0)
      ∧ r.2.mem ((c.tc : Thread Cert.InProjFwd.nD Cert.InProjFwd.τ).loc Cert.InProjFwd.main_arg1) = m ((c.tc : Thread Cert.InProjFwd.nD Cert.InProjFwd.τ).loc Cert.InProjFwd.main_arg1)
      ∧ r.2.mem ((c.tc : Thread Cert.InProjFwd.nD Cert.InProjFwd.τ).loc Cert.InProjFwd.main_arg2) = m ((c.tc : Thread Cert.InProjFwd.nD Cert.InProjFwd.τ).loc Cert.InProjFwd.main_arg2))
      ∧ r.2.sem = fun _ => 0)

def quiescent_InProjFwdIdeal [hInProjFwdIdeal : Cert.InProjFwdIdeal.Facts] : Prop :=
  ∀ (m : (ℓ : Loc Cert.InProjFwdIdeal.nD Cert.InProjFwdIdeal.τ Cert.InProjFwdIdeal.sig) → Buf (Elt Ideal) ℓ) (g : Dev Cert.InProjFwdIdeal.nD → PrngReg), Pre_InProjFwdIdeal m →
    θ_run (Cert.InProjFwdIdeal.defs (F := Ideal)) (onTc (τ := Cert.InProjFwdIdeal.τ) (Cert.InProjFwdIdeal.main (F := Ideal))) ⟨m, fun _ => 0, g⟩ (fun r => (∀ c : Dev Cert.InProjFwdIdeal.nD,
      r.2.mem ((c.tc : Thread Cert.InProjFwdIdeal.nD Cert.InProjFwdIdeal.τ).loc Cert.InProjFwdIdeal.main_arg0) = m ((c.tc : Thread Cert.InProjFwdIdeal.nD Cert.InProjFwdIdeal.τ).loc Cert.InProjFwdIdeal.main_arg0)
      ∧ r.2.mem ((c.tc : Thread Cert.InProjFwdIdeal.nD Cert.InProjFwdIdeal.τ).loc Cert.InProjFwdIdeal.main_arg1) = m ((c.tc : Thread Cert.InProjFwdIdeal.nD Cert.InProjFwdIdeal.τ).loc Cert.InProjFwdIdeal.main_arg1)
      ∧ r.2.mem ((c.tc : Thread Cert.InProjFwdIdeal.nD Cert.InProjFwdIdeal.τ).loc Cert.InProjFwdIdeal.main_arg2) = m ((c.tc : Thread Cert.InProjFwdIdeal.nD Cert.InProjFwdIdeal.τ).loc Cert.InProjFwdIdeal.main_arg2))
      ∧ r.2.sem = fun _ => 0)

def quiescent_InProjFwdRefIdeal [hInProjFwdRefIdeal : Cert.InProjFwdRefIdeal.Facts] : Prop :=
  ∀ (m : (ℓ : Loc Cert.InProjFwdRefIdeal.nD Cert.InProjFwdRefIdeal.τ Cert.InProjFwdRefIdeal.sig) → Buf (Elt Ideal) ℓ) (g : Dev Cert.InProjFwdRefIdeal.nD → PrngReg), Pre_InProjFwdRefIdeal m →
    θ_run (Cert.InProjFwdRefIdeal.defs (F := Ideal)) (onTc (τ := Cert.InProjFwdRefIdeal.τ) (Cert.InProjFwdRefIdeal.main (F := Ideal))) ⟨m, fun _ => 0, g⟩ (fun r => (∀ c : Dev Cert.InProjFwdRefIdeal.nD,
      r.2.mem ((c.tc : Thread Cert.InProjFwdRefIdeal.nD Cert.InProjFwdRefIdeal.τ).loc Cert.InProjFwdRefIdeal.main_arg0) = m ((c.tc : Thread Cert.InProjFwdRefIdeal.nD Cert.InProjFwdRefIdeal.τ).loc Cert.InProjFwdRefIdeal.main_arg0)
      ∧ r.2.mem ((c.tc : Thread Cert.InProjFwdRefIdeal.nD Cert.InProjFwdRefIdeal.τ).loc Cert.InProjFwdRefIdeal.main_arg1) = m ((c.tc : Thread Cert.InProjFwdRefIdeal.nD Cert.InProjFwdRefIdeal.τ).loc Cert.InProjFwdRefIdeal.main_arg1)
      ∧ r.2.mem ((c.tc : Thread Cert.InProjFwdRefIdeal.nD Cert.InProjFwdRefIdeal.τ).loc Cert.InProjFwdRefIdeal.main_arg2) = m ((c.tc : Thread Cert.InProjFwdRefIdeal.nD Cert.InProjFwdRefIdeal.τ).loc Cert.InProjFwdRefIdeal.main_arg2))
      ∧ r.2.sem = fun _ => 0)

def quiescent_OutProjFwd [hOutProjFwd : Cert.OutProjFwd.Facts] : Prop :=
  ∀ (m : (ℓ : Loc Cert.OutProjFwd.nD Cert.OutProjFwd.τ Cert.OutProjFwd.sig) → Buf (Elt Bits) ℓ) (g : Dev Cert.OutProjFwd.nD → PrngReg), Pre_OutProjFwd m →
    θ_run (Cert.OutProjFwd.defs (F := Bits)) (onTc (τ := Cert.OutProjFwd.τ) (Cert.OutProjFwd.main (F := Bits))) ⟨m, fun _ => 0, g⟩ (fun r => (∀ c : Dev Cert.OutProjFwd.nD,
      r.2.mem ((c.tc : Thread Cert.OutProjFwd.nD Cert.OutProjFwd.τ).loc Cert.OutProjFwd.main_arg0) = m ((c.tc : Thread Cert.OutProjFwd.nD Cert.OutProjFwd.τ).loc Cert.OutProjFwd.main_arg0)
      ∧ r.2.mem ((c.tc : Thread Cert.OutProjFwd.nD Cert.OutProjFwd.τ).loc Cert.OutProjFwd.main_arg1) = m ((c.tc : Thread Cert.OutProjFwd.nD Cert.OutProjFwd.τ).loc Cert.OutProjFwd.main_arg1)
      ∧ r.2.mem ((c.tc : Thread Cert.OutProjFwd.nD Cert.OutProjFwd.τ).loc Cert.OutProjFwd.main_arg2) = m ((c.tc : Thread Cert.OutProjFwd.nD Cert.OutProjFwd.τ).loc Cert.OutProjFwd.main_arg2)
      ∧ r.2.mem ((c.tc : Thread Cert.OutProjFwd.nD Cert.OutProjFwd.τ).loc Cert.OutProjFwd.main_arg3) = m ((c.tc : Thread Cert.OutProjFwd.nD Cert.OutProjFwd.τ).loc Cert.OutProjFwd.main_arg3)
      ∧ r.2.mem ((c.tc : Thread Cert.OutProjFwd.nD Cert.OutProjFwd.τ).loc Cert.OutProjFwd.main_arg4) = m ((c.tc : Thread Cert.OutProjFwd.nD Cert.OutProjFwd.τ).loc Cert.OutProjFwd.main_arg4)
      ∧ r.2.mem ((c.tc : Thread Cert.OutProjFwd.nD Cert.OutProjFwd.τ).loc Cert.OutProjFwd.main_arg5) = m ((c.tc : Thread Cert.OutProjFwd.nD Cert.OutProjFwd.τ).loc Cert.OutProjFwd.main_arg5))
      ∧ r.2.sem = fun _ => 0)

def quiescent_OutProjFwdIdeal [hOutProjFwdIdeal : Cert.OutProjFwdIdeal.Facts] : Prop :=
  ∀ (m : (ℓ : Loc Cert.OutProjFwdIdeal.nD Cert.OutProjFwdIdeal.τ Cert.OutProjFwdIdeal.sig) → Buf (Elt Ideal) ℓ) (g : Dev Cert.OutProjFwdIdeal.nD → PrngReg), Pre_OutProjFwdIdeal m →
    θ_run (Cert.OutProjFwdIdeal.defs (F := Ideal)) (onTc (τ := Cert.OutProjFwdIdeal.τ) (Cert.OutProjFwdIdeal.main (F := Ideal))) ⟨m, fun _ => 0, g⟩ (fun r => (∀ c : Dev Cert.OutProjFwdIdeal.nD,
      r.2.mem ((c.tc : Thread Cert.OutProjFwdIdeal.nD Cert.OutProjFwdIdeal.τ).loc Cert.OutProjFwdIdeal.main_arg0) = m ((c.tc : Thread Cert.OutProjFwdIdeal.nD Cert.OutProjFwdIdeal.τ).loc Cert.OutProjFwdIdeal.main_arg0)
      ∧ r.2.mem ((c.tc : Thread Cert.OutProjFwdIdeal.nD Cert.OutProjFwdIdeal.τ).loc Cert.OutProjFwdIdeal.main_arg1) = m ((c.tc : Thread Cert.OutProjFwdIdeal.nD Cert.OutProjFwdIdeal.τ).loc Cert.OutProjFwdIdeal.main_arg1)
      ∧ r.2.mem ((c.tc : Thread Cert.OutProjFwdIdeal.nD Cert.OutProjFwdIdeal.τ).loc Cert.OutProjFwdIdeal.main_arg2) = m ((c.tc : Thread Cert.OutProjFwdIdeal.nD Cert.OutProjFwdIdeal.τ).loc Cert.OutProjFwdIdeal.main_arg2)
      ∧ r.2.mem ((c.tc : Thread Cert.OutProjFwdIdeal.nD Cert.OutProjFwdIdeal.τ).loc Cert.OutProjFwdIdeal.main_arg3) = m ((c.tc : Thread Cert.OutProjFwdIdeal.nD Cert.OutProjFwdIdeal.τ).loc Cert.OutProjFwdIdeal.main_arg3)
      ∧ r.2.mem ((c.tc : Thread Cert.OutProjFwdIdeal.nD Cert.OutProjFwdIdeal.τ).loc Cert.OutProjFwdIdeal.main_arg4) = m ((c.tc : Thread Cert.OutProjFwdIdeal.nD Cert.OutProjFwdIdeal.τ).loc Cert.OutProjFwdIdeal.main_arg4)
      ∧ r.2.mem ((c.tc : Thread Cert.OutProjFwdIdeal.nD Cert.OutProjFwdIdeal.τ).loc Cert.OutProjFwdIdeal.main_arg5) = m ((c.tc : Thread Cert.OutProjFwdIdeal.nD Cert.OutProjFwdIdeal.τ).loc Cert.OutProjFwdIdeal.main_arg5))
      ∧ r.2.sem = fun _ => 0)

def quiescent_OutProjFwdRefIdeal [hOutProjFwdRefIdeal : Cert.OutProjFwdRefIdeal.Facts] : Prop :=
  ∀ (m : (ℓ : Loc Cert.OutProjFwdRefIdeal.nD Cert.OutProjFwdRefIdeal.τ Cert.OutProjFwdRefIdeal.sig) → Buf (Elt Ideal) ℓ) (g : Dev Cert.OutProjFwdRefIdeal.nD → PrngReg), Pre_OutProjFwdRefIdeal m →
    θ_run (Cert.OutProjFwdRefIdeal.defs (F := Ideal)) (onTc (τ := Cert.OutProjFwdRefIdeal.τ) (Cert.OutProjFwdRefIdeal.main (F := Ideal))) ⟨m, fun _ => 0, g⟩ (fun r => (∀ c : Dev Cert.OutProjFwdRefIdeal.nD,
      r.2.mem ((c.tc : Thread Cert.OutProjFwdRefIdeal.nD Cert.OutProjFwdRefIdeal.τ).loc Cert.OutProjFwdRefIdeal.main_arg0) = m ((c.tc : Thread Cert.OutProjFwdRefIdeal.nD Cert.OutProjFwdRefIdeal.τ).loc Cert.OutProjFwdRefIdeal.main_arg0)
      ∧ r.2.mem ((c.tc : Thread Cert.OutProjFwdRefIdeal.nD Cert.OutProjFwdRefIdeal.τ).loc Cert.OutProjFwdRefIdeal.main_arg1) = m ((c.tc : Thread Cert.OutProjFwdRefIdeal.nD Cert.OutProjFwdRefIdeal.τ).loc Cert.OutProjFwdRefIdeal.main_arg1)
      ∧ r.2.mem ((c.tc : Thread Cert.OutProjFwdRefIdeal.nD Cert.OutProjFwdRefIdeal.τ).loc Cert.OutProjFwdRefIdeal.main_arg2) = m ((c.tc : Thread Cert.OutProjFwdRefIdeal.nD Cert.OutProjFwdRefIdeal.τ).loc Cert.OutProjFwdRefIdeal.main_arg2)
      ∧ r.2.mem ((c.tc : Thread Cert.OutProjFwdRefIdeal.nD Cert.OutProjFwdRefIdeal.τ).loc Cert.OutProjFwdRefIdeal.main_arg3) = m ((c.tc : Thread Cert.OutProjFwdRefIdeal.nD Cert.OutProjFwdRefIdeal.τ).loc Cert.OutProjFwdRefIdeal.main_arg3)
      ∧ r.2.mem ((c.tc : Thread Cert.OutProjFwdRefIdeal.nD Cert.OutProjFwdRefIdeal.τ).loc Cert.OutProjFwdRefIdeal.main_arg4) = m ((c.tc : Thread Cert.OutProjFwdRefIdeal.nD Cert.OutProjFwdRefIdeal.τ).loc Cert.OutProjFwdRefIdeal.main_arg4)
      ∧ r.2.mem ((c.tc : Thread Cert.OutProjFwdRefIdeal.nD Cert.OutProjFwdRefIdeal.τ).loc Cert.OutProjFwdRefIdeal.main_arg5) = m ((c.tc : Thread Cert.OutProjFwdRefIdeal.nD Cert.OutProjFwdRefIdeal.τ).loc Cert.OutProjFwdRefIdeal.main_arg5))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdIdeal_pre_pool_fwd_finite [hPoolFwdIdeal : Cert.PoolFwdIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_pool_fwd_finite m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_PoolFwdRefIdeal_pre_pool_fwd_finite [hPoolFwdRefIdeal : Cert.PoolFwdRefIdeal.Facts] [hPre_pool_fwd_finite : Cert.Pre_pool_fwd_finite.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_pool_fwd_finite m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_AdamRows [hAdamRows : Cert.AdamRows.Facts] : Prop :=
  ∀ (m : (ℓ : Loc Cert.AdamRows.nD Cert.AdamRows.τ Cert.AdamRows.sig) → Buf (Elt Bits) ℓ) (g : Dev Cert.AdamRows.nD → PrngReg), Pre_AdamRows m →
    θ_run (Cert.AdamRows.defs (F := Bits)) (onTc (τ := Cert.AdamRows.τ) (Cert.AdamRows.main (F := Bits))) ⟨m, fun _ => 0, g⟩ (fun r => (∀ c : Dev Cert.AdamRows.nD,
      r.2.mem ((c.tc : Thread Cert.AdamRows.nD Cert.AdamRows.τ).loc Cert.AdamRows.main_arg0) = m ((c.tc : Thread Cert.AdamRows.nD Cert.AdamRows.τ).loc Cert.AdamRows.main_arg0)
      ∧ r.2.mem ((c.tc : Thread Cert.AdamRows.nD Cert.AdamRows.τ).loc Cert.AdamRows.main_arg1) = m ((c.tc : Thread Cert.AdamRows.nD Cert.AdamRows.τ).loc Cert.AdamRows.main_arg1)
      ∧ r.2.mem ((c.tc : Thread Cert.AdamRows.nD Cert.AdamRows.τ).loc Cert.AdamRows.main_arg2) = m ((c.tc : Thread Cert.AdamRows.nD Cert.AdamRows.τ).loc Cert.AdamRows.main_arg2)
      ∧ r.2.mem ((c.tc : Thread Cert.AdamRows.nD Cert.AdamRows.τ).loc Cert.AdamRows.main_arg3) = m ((c.tc : Thread Cert.AdamRows.nD Cert.AdamRows.τ).loc Cert.AdamRows.main_arg3))
      ∧ r.2.sem = fun _ => 0)

def quiescent_AdamRowsIdeal [hAdamRowsIdeal : Cert.AdamRowsIdeal.Facts] : Prop :=
  ∀ (m : (ℓ : Loc Cert.AdamRowsIdeal.nD Cert.AdamRowsIdeal.τ Cert.AdamRowsIdeal.sig) → Buf (Elt Ideal) ℓ) (g : Dev Cert.AdamRowsIdeal.nD → PrngReg), Pre_AdamRowsIdeal m →
    θ_run (Cert.AdamRowsIdeal.defs (F := Ideal)) (onTc (τ := Cert.AdamRowsIdeal.τ) (Cert.AdamRowsIdeal.main (F := Ideal))) ⟨m, fun _ => 0, g⟩ (fun r => (∀ c : Dev Cert.AdamRowsIdeal.nD,
      r.2.mem ((c.tc : Thread Cert.AdamRowsIdeal.nD Cert.AdamRowsIdeal.τ).loc Cert.AdamRowsIdeal.main_arg0) = m ((c.tc : Thread Cert.AdamRowsIdeal.nD Cert.AdamRowsIdeal.τ).loc Cert.AdamRowsIdeal.main_arg0)
      ∧ r.2.mem ((c.tc : Thread Cert.AdamRowsIdeal.nD Cert.AdamRowsIdeal.τ).loc Cert.AdamRowsIdeal.main_arg1) = m ((c.tc : Thread Cert.AdamRowsIdeal.nD Cert.AdamRowsIdeal.τ).loc Cert.AdamRowsIdeal.main_arg1)
      ∧ r.2.mem ((c.tc : Thread Cert.AdamRowsIdeal.nD Cert.AdamRowsIdeal.τ).loc Cert.AdamRowsIdeal.main_arg2) = m ((c.tc : Thread Cert.AdamRowsIdeal.nD Cert.AdamRowsIdeal.τ).loc Cert.AdamRowsIdeal.main_arg2)
      ∧ r.2.mem ((c.tc : Thread Cert.AdamRowsIdeal.nD Cert.AdamRowsIdeal.τ).loc Cert.AdamRowsIdeal.main_arg3) = m ((c.tc : Thread Cert.AdamRowsIdeal.nD Cert.AdamRowsIdeal.τ).loc Cert.AdamRowsIdeal.main_arg3))
      ∧ r.2.sem = fun _ => 0)

def quiescent_AdamRowsRefIdeal [hAdamRowsRefIdeal : Cert.AdamRowsRefIdeal.Facts] : Prop :=
  ∀ (m : (ℓ : Loc Cert.AdamRowsRefIdeal.nD Cert.AdamRowsRefIdeal.τ Cert.AdamRowsRefIdeal.sig) → Buf (Elt Ideal) ℓ) (g : Dev Cert.AdamRowsRefIdeal.nD → PrngReg), Pre_AdamRowsRefIdeal m →
    θ_run (Cert.AdamRowsRefIdeal.defs (F := Ideal)) (onTc (τ := Cert.AdamRowsRefIdeal.τ) (Cert.AdamRowsRefIdeal.main (F := Ideal))) ⟨m, fun _ => 0, g⟩ (fun r => (∀ c : Dev Cert.AdamRowsRefIdeal.nD,
      r.2.mem ((c.tc : Thread Cert.AdamRowsRefIdeal.nD Cert.AdamRowsRefIdeal.τ).loc Cert.AdamRowsRefIdeal.main_arg0) = m ((c.tc : Thread Cert.AdamRowsRefIdeal.nD Cert.AdamRowsRefIdeal.τ).loc Cert.AdamRowsRefIdeal.main_arg0)
      ∧ r.2.mem ((c.tc : Thread Cert.AdamRowsRefIdeal.nD Cert.AdamRowsRefIdeal.τ).loc Cert.AdamRowsRefIdeal.main_arg1) = m ((c.tc : Thread Cert.AdamRowsRefIdeal.nD Cert.AdamRowsRefIdeal.τ).loc Cert.AdamRowsRefIdeal.main_arg1)
      ∧ r.2.mem ((c.tc : Thread Cert.AdamRowsRefIdeal.nD Cert.AdamRowsRefIdeal.τ).loc Cert.AdamRowsRefIdeal.main_arg2) = m ((c.tc : Thread Cert.AdamRowsRefIdeal.nD Cert.AdamRowsRefIdeal.τ).loc Cert.AdamRowsRefIdeal.main_arg2)
      ∧ r.2.mem ((c.tc : Thread Cert.AdamRowsRefIdeal.nD Cert.AdamRowsRefIdeal.τ).loc Cert.AdamRowsRefIdeal.main_arg3) = m ((c.tc : Thread Cert.AdamRowsRefIdeal.nD Cert.AdamRowsRefIdeal.τ).loc Cert.AdamRowsRefIdeal.main_arg3))
      ∧ r.2.sem = fun _ => 0)

def quiescent_AdamMeta [hAdamMeta : Cert.AdamMeta.Facts] : Prop :=
  ∀ (m : (ℓ : Loc Cert.AdamMeta.nD Cert.AdamMeta.τ Cert.AdamMeta.sig) → Buf (Elt Bits) ℓ) (g : Dev Cert.AdamMeta.nD → PrngReg), Pre_AdamMeta m →
    θ_run (Cert.AdamMeta.defs (F := Bits)) (onTc (τ := Cert.AdamMeta.τ) (Cert.AdamMeta.main (F := Bits))) ⟨m, fun _ => 0, g⟩ (fun r => (∀ c : Dev Cert.AdamMeta.nD,
      r.2.mem ((c.tc : Thread Cert.AdamMeta.nD Cert.AdamMeta.τ).loc Cert.AdamMeta.main_arg0) = m ((c.tc : Thread Cert.AdamMeta.nD Cert.AdamMeta.τ).loc Cert.AdamMeta.main_arg0)
      ∧ r.2.mem ((c.tc : Thread Cert.AdamMeta.nD Cert.AdamMeta.τ).loc Cert.AdamMeta.main_arg1) = m ((c.tc : Thread Cert.AdamMeta.nD Cert.AdamMeta.τ).loc Cert.AdamMeta.main_arg1)
      ∧ r.2.mem ((c.tc : Thread Cert.AdamMeta.nD Cert.AdamMeta.τ).loc Cert.AdamMeta.main_arg2) = m ((c.tc : Thread Cert.AdamMeta.nD Cert.AdamMeta.τ).loc Cert.AdamMeta.main_arg2)
      ∧ r.2.mem ((c.tc : Thread Cert.AdamMeta.nD Cert.AdamMeta.τ).loc Cert.AdamMeta.main_arg3) = m ((c.tc : Thread Cert.AdamMeta.nD Cert.AdamMeta.τ).loc Cert.AdamMeta.main_arg3))
      ∧ r.2.sem = fun _ => 0)

def quiescent_AdamMetaIdeal [hAdamMetaIdeal : Cert.AdamMetaIdeal.Facts] : Prop :=
  ∀ (m : (ℓ : Loc Cert.AdamMetaIdeal.nD Cert.AdamMetaIdeal.τ Cert.AdamMetaIdeal.sig) → Buf (Elt Ideal) ℓ) (g : Dev Cert.AdamMetaIdeal.nD → PrngReg), Pre_AdamMetaIdeal m →
    θ_run (Cert.AdamMetaIdeal.defs (F := Ideal)) (onTc (τ := Cert.AdamMetaIdeal.τ) (Cert.AdamMetaIdeal.main (F := Ideal))) ⟨m, fun _ => 0, g⟩ (fun r => (∀ c : Dev Cert.AdamMetaIdeal.nD,
      r.2.mem ((c.tc : Thread Cert.AdamMetaIdeal.nD Cert.AdamMetaIdeal.τ).loc Cert.AdamMetaIdeal.main_arg0) = m ((c.tc : Thread Cert.AdamMetaIdeal.nD Cert.AdamMetaIdeal.τ).loc Cert.AdamMetaIdeal.main_arg0)
      ∧ r.2.mem ((c.tc : Thread Cert.AdamMetaIdeal.nD Cert.AdamMetaIdeal.τ).loc Cert.AdamMetaIdeal.main_arg1) = m ((c.tc : Thread Cert.AdamMetaIdeal.nD Cert.AdamMetaIdeal.τ).loc Cert.AdamMetaIdeal.main_arg1)
      ∧ r.2.mem ((c.tc : Thread Cert.AdamMetaIdeal.nD Cert.AdamMetaIdeal.τ).loc Cert.AdamMetaIdeal.main_arg2) = m ((c.tc : Thread Cert.AdamMetaIdeal.nD Cert.AdamMetaIdeal.τ).loc Cert.AdamMetaIdeal.main_arg2)
      ∧ r.2.mem ((c.tc : Thread Cert.AdamMetaIdeal.nD Cert.AdamMetaIdeal.τ).loc Cert.AdamMetaIdeal.main_arg3) = m ((c.tc : Thread Cert.AdamMetaIdeal.nD Cert.AdamMetaIdeal.τ).loc Cert.AdamMetaIdeal.main_arg3))
      ∧ r.2.sem = fun _ => 0)

def quiescent_AdamMetaRefIdeal [hAdamMetaRefIdeal : Cert.AdamMetaRefIdeal.Facts] : Prop :=
  ∀ (m : (ℓ : Loc Cert.AdamMetaRefIdeal.nD Cert.AdamMetaRefIdeal.τ Cert.AdamMetaRefIdeal.sig) → Buf (Elt Ideal) ℓ) (g : Dev Cert.AdamMetaRefIdeal.nD → PrngReg), Pre_AdamMetaRefIdeal m →
    θ_run (Cert.AdamMetaRefIdeal.defs (F := Ideal)) (onTc (τ := Cert.AdamMetaRefIdeal.τ) (Cert.AdamMetaRefIdeal.main (F := Ideal))) ⟨m, fun _ => 0, g⟩ (fun r => (∀ c : Dev Cert.AdamMetaRefIdeal.nD,
      r.2.mem ((c.tc : Thread Cert.AdamMetaRefIdeal.nD Cert.AdamMetaRefIdeal.τ).loc Cert.AdamMetaRefIdeal.main_arg0) = m ((c.tc : Thread Cert.AdamMetaRefIdeal.nD Cert.AdamMetaRefIdeal.τ).loc Cert.AdamMetaRefIdeal.main_arg0)
      ∧ r.2.mem ((c.tc : Thread Cert.AdamMetaRefIdeal.nD Cert.AdamMetaRefIdeal.τ).loc Cert.AdamMetaRefIdeal.main_arg1) = m ((c.tc : Thread Cert.AdamMetaRefIdeal.nD Cert.AdamMetaRefIdeal.τ).loc Cert.AdamMetaRefIdeal.main_arg1)
      ∧ r.2.mem ((c.tc : Thread Cert.AdamMetaRefIdeal.nD Cert.AdamMetaRefIdeal.τ).loc Cert.AdamMetaRefIdeal.main_arg2) = m ((c.tc : Thread Cert.AdamMetaRefIdeal.nD Cert.AdamMetaRefIdeal.τ).loc Cert.AdamMetaRefIdeal.main_arg2)
      ∧ r.2.mem ((c.tc : Thread Cert.AdamMetaRefIdeal.nD Cert.AdamMetaRefIdeal.τ).loc Cert.AdamMetaRefIdeal.main_arg3) = m ((c.tc : Thread Cert.AdamMetaRefIdeal.nD Cert.AdamMetaRefIdeal.τ).loc Cert.AdamMetaRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1)
      ∧ r.2.mem ((c.tc : Thread Cert.Wgrad.nD Cert.Wgrad.τ).loc Cert.Wgrad.main_arg2) = m ((c.tc : Thread Cert.Wgrad.nD Cert.Wgrad.τ).loc Cert.Wgrad.main_arg2)
      ∧ r.2.mem ((c.tc : Thread Cert.Wgrad.nD Cert.Wgrad.τ).loc Cert.Wgrad.main_arg3) = m ((c.tc : Thread Cert.Wgrad.nD Cert.Wgrad.τ).loc Cert.Wgrad.main_arg3)
      ∧ r.2.mem ((c.tc : Thread Cert.Wgrad.nD Cert.Wgrad.τ).loc Cert.Wgrad.main_arg4) = m ((c.tc : Thread Cert.Wgrad.nD Cert.Wgrad.τ).loc Cert.Wgrad.main_arg4))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
      ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3)
      ∧ r.2.mem ((c.tc : Thread Cert.WgradIdeal.nD Cert.WgradIdeal.τ).loc Cert.WgradIdeal.main_arg4) = m ((c.tc : Thread Cert.WgradIdeal.nD Cert.WgradIdeal.τ).loc Cert.WgradIdeal.main_arg4))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1)
      ∧ r.2.mem ((c.tc : Thread Cert.WgradRefIdeal.nD Cert.WgradRefIdeal.τ).loc Cert.WgradRefIdeal.main_arg2) = m ((c.tc : Thread Cert.WgradRefIdeal.nD Cert.WgradRefIdeal.τ).loc Cert.WgradRefIdeal.main_arg2)
      ∧ r.2.mem ((c.tc : Thread Cert.WgradRefIdeal.nD Cert.WgradRefIdeal.τ).loc Cert.WgradRefIdeal.main_arg3) = m ((c.tc : Thread Cert.WgradRefIdeal.nD Cert.WgradRefIdeal.τ).loc Cert.WgradRefIdeal.main_arg3)
      ∧ r.2.mem ((c.tc : Thread Cert.WgradRefIdeal.nD Cert.WgradRefIdeal.τ).loc Cert.WgradRefIdeal.main_arg4) = m ((c.tc : Thread Cert.WgradRefIdeal.nD Cert.WgradRefIdeal.τ).loc Cert.WgradRefIdeal.main_arg4))
      ∧ r.2.sem = fun _ => 0)

def quiescent_Sums [hSums : Cert.Sums.Facts] : Prop :=
  ∀ (m : (ℓ : Loc Cert.Sums.nD Cert.Sums.τ Cert.Sums.sig) → Buf (Elt Bits) ℓ) (g : Dev Cert.Sums.nD → PrngReg), Pre_Sums m →
    θ_run (Cert.Sums.defs (F := Bits)) (onTc (τ := Cert.Sums.τ) (Cert.Sums.main (F := Bits))) ⟨m, fun _ => 0, g⟩ (fun r => (∀ c : Dev Cert.Sums.nD,
      r.2.mem ((c.tc : Thread Cert.Sums.nD Cert.Sums.τ).loc Cert.Sums.main_arg0) = m ((c.tc : Thread Cert.Sums.nD Cert.Sums.τ).loc Cert.Sums.main_arg0)
      ∧ r.2.mem ((c.tc : Thread Cert.Sums.nD Cert.Sums.τ).loc Cert.Sums.main_arg1) = m ((c.tc : Thread Cert.Sums.nD Cert.Sums.τ).loc Cert.Sums.main_arg1)
      ∧ r.2.mem ((c.tc : Thread Cert.Sums.nD Cert.Sums.τ).loc Cert.Sums.main_arg2) = m ((c.tc : Thread Cert.Sums.nD Cert.Sums.τ).loc Cert.Sums.main_arg2)
      ∧ r.2.mem ((c.tc : Thread Cert.Sums.nD Cert.Sums.τ).loc Cert.Sums.main_arg3) = m ((c.tc : Thread Cert.Sums.nD Cert.Sums.τ).loc Cert.Sums.main_arg3)
      ∧ r.2.mem ((c.tc : Thread Cert.Sums.nD Cert.Sums.τ).loc Cert.Sums.main_arg4) = m ((c.tc : Thread Cert.Sums.nD Cert.Sums.τ).loc Cert.Sums.main_arg4)
      ∧ r.2.mem ((c.tc : Thread Cert.Sums.nD Cert.Sums.τ).loc Cert.Sums.main_arg5) = m ((c.tc : Thread Cert.Sums.nD Cert.Sums.τ).loc Cert.Sums.main_arg5)
      ∧ r.2.mem ((c.tc : Thread Cert.Sums.nD Cert.Sums.τ).loc Cert.Sums.main_arg6) = m ((c.tc : Thread Cert.Sums.nD Cert.Sums.τ).loc Cert.Sums.main_arg6)
      ∧ r.2.mem ((c.tc : Thread Cert.Sums.nD Cert.Sums.τ).loc Cert.Sums.main_arg7) = m ((c.tc : Thread Cert.Sums.nD Cert.Sums.τ).loc Cert.Sums.main_arg7)
      ∧ r.2.mem ((c.tc : Thread Cert.Sums.nD Cert.Sums.τ).loc Cert.Sums.main_arg8) = m ((c.tc : Thread Cert.Sums.nD Cert.Sums.τ).loc Cert.Sums.main_arg8)
      ∧ r.2.mem ((c.tc : Thread Cert.Sums.nD Cert.Sums.τ).loc Cert.Sums.main_arg9) = m ((c.tc : Thread Cert.Sums.nD Cert.Sums.τ).loc Cert.Sums.main_arg9)
      ∧ r.2.mem ((c.tc : Thread Cert.Sums.nD Cert.Sums.τ).loc Cert.Sums.main_arg10) = m ((c.tc : Thread Cert.Sums.nD Cert.Sums.τ).loc Cert.Sums.main_arg10)
      ∧ r.2.mem ((c.tc : Thread Cert.Sums.nD Cert.Sums.τ).loc Cert.Sums.main_arg11) = m ((c.tc : Thread Cert.Sums.nD Cert.Sums.τ).loc Cert.Sums.main_arg11)
      ∧ r.2.mem ((c.tc : Thread Cert.Sums.nD Cert.Sums.τ).loc Cert.Sums.main_arg12) = m ((c.tc : Thread Cert.Sums.nD Cert.Sums.τ).loc Cert.Sums.main_arg12)
      ∧ r.2.mem ((c.tc : Thread Cert.Sums.nD Cert.Sums.τ).loc Cert.Sums.main_arg13) = m ((c.tc : Thread Cert.Sums.nD Cert.Sums.τ).loc Cert.Sums.main_arg13)
      ∧ r.2.mem ((c.tc : Thread Cert.Sums.nD Cert.Sums.τ).loc Cert.Sums.main_arg14) = m ((c.tc : Thread Cert.Sums.nD Cert.Sums.τ).loc Cert.Sums.main_arg14)
      ∧ r.2.mem ((c.tc : Thread Cert.Sums.nD Cert.Sums.τ).loc Cert.Sums.main_arg15) = m ((c.tc : Thread Cert.Sums.nD Cert.Sums.τ).loc Cert.Sums.main_arg15)
      ∧ r.2.mem ((c.tc : Thread Cert.Sums.nD Cert.Sums.τ).loc Cert.Sums.main_arg16) = m ((c.tc : Thread Cert.Sums.nD Cert.Sums.τ).loc Cert.Sums.main_arg16)
      ∧ r.2.mem ((c.tc : Thread Cert.Sums.nD Cert.Sums.τ).loc Cert.Sums.main_arg17) = m ((c.tc : Thread Cert.Sums.nD Cert.Sums.τ).loc Cert.Sums.main_arg17)
      ∧ r.2.mem ((c.tc : Thread Cert.Sums.nD Cert.Sums.τ).loc Cert.Sums.main_arg18) = m ((c.tc : Thread Cert.Sums.nD Cert.Sums.τ).loc Cert.Sums.main_arg18))
      ∧ r.2.sem = fun _ => 0)

def quiescent_SumsIdeal [hSumsIdeal : Cert.SumsIdeal.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0)
      ∧ r.2.mem ((c.tc : Thread Cert.SumsIdeal.nD Cert.SumsIdeal.τ).loc Cert.SumsIdeal.main_arg1) = m ((c.tc : Thread Cert.SumsIdeal.nD Cert.SumsIdeal.τ).loc Cert.SumsIdeal.main_arg1)
      ∧ r.2.mem ((c.tc : Thread Cert.SumsIdeal.nD Cert.SumsIdeal.τ).loc Cert.SumsIdeal.main_arg2) = m ((c.tc : Thread Cert.SumsIdeal.nD Cert.SumsIdeal.τ).loc Cert.SumsIdeal.main_arg2)
      ∧ r.2.mem ((c.tc : Thread Cert.SumsIdeal.nD Cert.SumsIdeal.τ).loc Cert.SumsIdeal.main_arg3) = m ((c.tc : Thread Cert.SumsIdeal.nD Cert.SumsIdeal.τ).loc Cert.SumsIdeal.main_arg3)
      ∧ r.2.mem ((c.tc : Thread Cert.SumsIdeal.nD Cert.SumsIdeal.τ).loc Cert.SumsIdeal.main_arg4) = m ((c.tc : Thread Cert.SumsIdeal.nD Cert.SumsIdeal.τ).loc Cert.SumsIdeal.main_arg4)
      ∧ r.2.mem ((c.tc : Thread Cert.SumsIdeal.nD Cert.SumsIdeal.τ).loc Cert.SumsIdeal.main_arg5) = m ((c.tc : Thread Cert.SumsIdeal.nD Cert.SumsIdeal.τ).loc Cert.SumsIdeal.main_arg5)
      ∧ r.2.mem ((c.tc : Thread Cert.SumsIdeal.nD Cert.SumsIdeal.τ).loc Cert.SumsIdeal.main_arg6) = m ((c.tc : Thread Cert.SumsIdeal.nD Cert.SumsIdeal.τ).loc Cert.SumsIdeal.main_arg6)
      ∧ r.2.mem ((c.tc : Thread Cert.SumsIdeal.nD Cert.SumsIdeal.τ).loc Cert.SumsIdeal.main_arg7) = m ((c.tc : Thread Cert.SumsIdeal.nD Cert.SumsIdeal.τ).loc Cert.SumsIdeal.main_arg7)
      ∧ r.2.mem ((c.tc : Thread Cert.SumsIdeal.nD Cert.SumsIdeal.τ).loc Cert.SumsIdeal.main_arg8) = m ((c.tc : Thread Cert.SumsIdeal.nD Cert.SumsIdeal.τ).loc Cert.SumsIdeal.main_arg8)
      ∧ r.2.mem ((c.tc : Thread Cert.SumsIdeal.nD Cert.SumsIdeal.τ).loc Cert.SumsIdeal.main_arg9) = m ((c.tc : Thread Cert.SumsIdeal.nD Cert.SumsIdeal.τ).loc Cert.SumsIdeal.main_arg9)
      ∧ r.2.mem ((c.tc : Thread Cert.SumsIdeal.nD Cert.SumsIdeal.τ).loc Cert.SumsIdeal.main_arg10) = m ((c.tc : Thread Cert.SumsIdeal.nD Cert.SumsIdeal.τ).loc Cert.SumsIdeal.main_arg10)
      ∧ r.2.mem ((c.tc : Thread Cert.SumsIdeal.nD Cert.SumsIdeal.τ).loc Cert.SumsIdeal.main_arg11) = m ((c.tc : Thread Cert.SumsIdeal.nD Cert.SumsIdeal.τ).loc Cert.SumsIdeal.main_arg11)
      ∧ r.2.mem ((c.tc : Thread Cert.SumsIdeal.nD Cert.SumsIdeal.τ).loc Cert.SumsIdeal.main_arg12) = m ((c.tc : Thread Cert.SumsIdeal.nD Cert.SumsIdeal.τ).loc Cert.SumsIdeal.main_arg12)
      ∧ r.2.mem ((c.tc : Thread Cert.SumsIdeal.nD Cert.SumsIdeal.τ).loc Cert.SumsIdeal.main_arg13) = m ((c.tc : Thread Cert.SumsIdeal.nD Cert.SumsIdeal.τ).loc Cert.SumsIdeal.main_arg13)
      ∧ r.2.mem ((c.tc : Thread Cert.SumsIdeal.nD Cert.SumsIdeal.τ).loc Cert.SumsIdeal.main_arg14) = m ((c.tc : Thread Cert.SumsIdeal.nD Cert.SumsIdeal.τ).loc Cert.SumsIdeal.main_arg14)
      ∧ r.2.mem ((c.tc : Thread Cert.SumsIdeal.nD Cert.SumsIdeal.τ).loc Cert.SumsIdeal.main_arg15) = m ((c.tc : Thread Cert.SumsIdeal.nD Cert.SumsIdeal.τ).loc Cert.SumsIdeal.main_arg15)
      ∧ r.2.mem ((c.tc : Thread Cert.SumsIdeal.nD Cert.SumsIdeal.τ).loc Cert.SumsIdeal.main_arg16) = m ((c.tc : Thread Cert.SumsIdeal.nD Cert.SumsIdeal.τ).loc Cert.SumsIdeal.main_arg16)
      ∧ r.2.mem ((c.tc : Thread Cert.SumsIdeal.nD Cert.SumsIdeal.τ).loc Cert.SumsIdeal.main_arg17) = m ((c.tc : Thread Cert.SumsIdeal.nD Cert.SumsIdeal.τ).loc Cert.SumsIdeal.main_arg17)
      ∧ r.2.mem ((c.tc : Thread Cert.SumsIdeal.nD Cert.SumsIdeal.τ).loc Cert.SumsIdeal.main_arg18) = m ((c.tc : Thread Cert.SumsIdeal.nD Cert.SumsIdeal.τ).loc Cert.SumsIdeal.main_arg18))
      ∧ r.2.sem = fun _ => 0)

def quiescent_SumsRefIdeal [hSumsRefIdeal : Cert.SumsRefIdeal.Facts] : Prop :=
  ∀ (m : (ℓ : Loc Cert.SumsRefIdeal.nD Cert.SumsRefIdeal.τ Cert.SumsRefIdeal.sig) → Buf (Elt Ideal) ℓ) (g : Dev Cert.SumsRefIdeal.nD → PrngReg), Pre_SumsRefIdeal m →
    θ_run (Cert.SumsRefIdeal.defs (F := Ideal)) (onTc (τ := Cert.SumsRefIdeal.τ) (Cert.SumsRefIdeal.main (F := Ideal))) ⟨m, fun _ => 0, g⟩ (fun r => (∀ c : Dev Cert.SumsRefIdeal.nD,
      r.2.mem ((c.tc : Thread Cert.SumsRefIdeal.nD Cert.SumsRefIdeal.τ).loc Cert.SumsRefIdeal.main_arg0) = m ((c.tc : Thread Cert.SumsRefIdeal.nD Cert.SumsRefIdeal.τ).loc Cert.SumsRefIdeal.main_arg0)
      ∧ r.2.mem ((c.tc : Thread Cert.SumsRefIdeal.nD Cert.SumsRefIdeal.τ).loc Cert.SumsRefIdeal.main_arg1) = m ((c.tc : Thread Cert.SumsRefIdeal.nD Cert.SumsRefIdeal.τ).loc Cert.SumsRefIdeal.main_arg1)
      ∧ r.2.mem ((c.tc : Thread Cert.SumsRefIdeal.nD Cert.SumsRefIdeal.τ).loc Cert.SumsRefIdeal.main_arg2) = m ((c.tc : Thread Cert.SumsRefIdeal.nD Cert.SumsRefIdeal.τ).loc Cert.SumsRefIdeal.main_arg2)
      ∧ r.2.mem ((c.tc : Thread Cert.SumsRefIdeal.nD Cert.SumsRefIdeal.τ).loc Cert.SumsRefIdeal.main_arg3) = m ((c.tc : Thread Cert.SumsRefIdeal.nD Cert.SumsRefIdeal.τ).loc Cert.SumsRefIdeal.main_arg3)
      ∧ r.2.mem ((c.tc : Thread Cert.SumsRefIdeal.nD Cert.SumsRefIdeal.τ).loc Cert.SumsRefIdeal.main_arg4) = m ((c.tc : Thread Cert.SumsRefIdeal.nD Cert.SumsRefIdeal.τ).loc Cert.SumsRefIdeal.main_arg4)
      ∧ r.2.mem ((c.tc : Thread Cert.SumsRefIdeal.nD Cert.SumsRefIdeal.τ).loc Cert.SumsRefIdeal.main_arg5) = m ((c.tc : Thread Cert.SumsRefIdeal.nD Cert.SumsRefIdeal.τ).loc Cert.SumsRefIdeal.main_arg5)
      ∧ r.2.mem ((c.tc : Thread Cert.SumsRefIdeal.nD Cert.SumsRefIdeal.τ).loc Cert.SumsRefIdeal.main_arg6) = m ((c.tc : Thread Cert.SumsRefIdeal.nD Cert.SumsRefIdeal.τ).loc Cert.SumsRefIdeal.main_arg6)
      ∧ r.2.mem ((c.tc : Thread Cert.SumsRefIdeal.nD Cert.SumsRefIdeal.τ).loc Cert.SumsRefIdeal.main_arg7) = m ((c.tc : Thread Cert.SumsRefIdeal.nD Cert.SumsRefIdeal.τ).loc Cert.SumsRefIdeal.main_arg7)
      ∧ r.2.mem ((c.tc : Thread Cert.SumsRefIdeal.nD Cert.SumsRefIdeal.τ).loc Cert.SumsRefIdeal.main_arg8) = m ((c.tc : Thread Cert.SumsRefIdeal.nD Cert.SumsRefIdeal.τ).loc Cert.SumsRefIdeal.main_arg8)
      ∧ r.2.mem ((c.tc : Thread Cert.SumsRefIdeal.nD Cert.SumsRefIdeal.τ).loc Cert.SumsRefIdeal.main_arg9) = m ((c.tc : Thread Cert.SumsRefIdeal.nD Cert.SumsRefIdeal.τ).loc Cert.SumsRefIdeal.main_arg9)
      ∧ r.2.mem ((c.tc : Thread Cert.SumsRefIdeal.nD Cert.SumsRefIdeal.τ).loc Cert.SumsRefIdeal.main_arg10) = m ((c.tc : Thread Cert.SumsRefIdeal.nD Cert.SumsRefIdeal.τ).loc Cert.SumsRefIdeal.main_arg10)
      ∧ r.2.mem ((c.tc : Thread Cert.SumsRefIdeal.nD Cert.SumsRefIdeal.τ).loc Cert.SumsRefIdeal.main_arg11) = m ((c.tc : Thread Cert.SumsRefIdeal.nD Cert.SumsRefIdeal.τ).loc Cert.SumsRefIdeal.main_arg11)
      ∧ r.2.mem ((c.tc : Thread Cert.SumsRefIdeal.nD Cert.SumsRefIdeal.τ).loc Cert.SumsRefIdeal.main_arg12) = m ((c.tc : Thread Cert.SumsRefIdeal.nD Cert.SumsRefIdeal.τ).loc Cert.SumsRefIdeal.main_arg12)
      ∧ r.2.mem ((c.tc : Thread Cert.SumsRefIdeal.nD Cert.SumsRefIdeal.τ).loc Cert.SumsRefIdeal.main_arg13) = m ((c.tc : Thread Cert.SumsRefIdeal.nD Cert.SumsRefIdeal.τ).loc Cert.SumsRefIdeal.main_arg13)
      ∧ r.2.mem ((c.tc : Thread Cert.SumsRefIdeal.nD Cert.SumsRefIdeal.τ).loc Cert.SumsRefIdeal.main_arg14) = m ((c.tc : Thread Cert.SumsRefIdeal.nD Cert.SumsRefIdeal.τ).loc Cert.SumsRefIdeal.main_arg14)
      ∧ r.2.mem ((c.tc : Thread Cert.SumsRefIdeal.nD Cert.SumsRefIdeal.τ).loc Cert.SumsRefIdeal.main_arg15) = m ((c.tc : Thread Cert.SumsRefIdeal.nD Cert.SumsRefIdeal.τ).loc Cert.SumsRefIdeal.main_arg15)
      ∧ r.2.mem ((c.tc : Thread Cert.SumsRefIdeal.nD Cert.SumsRefIdeal.τ).loc Cert.SumsRefIdeal.main_arg16) = m ((c.tc : Thread Cert.SumsRefIdeal.nD Cert.SumsRefIdeal.τ).loc Cert.SumsRefIdeal.main_arg16)
      ∧ r.2.mem ((c.tc : Thread Cert.SumsRefIdeal.nD Cert.SumsRefIdeal.τ).loc Cert.SumsRefIdeal.main_arg17) = m ((c.tc : Thread Cert.SumsRefIdeal.nD Cert.SumsRefIdeal.τ).loc Cert.SumsRefIdeal.main_arg17)
      ∧ r.2.mem ((c.tc : Thread Cert.SumsRefIdeal.nD Cert.SumsRefIdeal.τ).loc Cert.SumsRefIdeal.main_arg18) = m ((c.tc : Thread Cert.SumsRefIdeal.nD Cert.SumsRefIdeal.τ).loc Cert.SumsRefIdeal.main_arg18))
      ∧ r.2.sem = fun _ => 0)

def preserves_DiscB_DiscBIdeal : Prop :=
  True

def algebraic_DiscBIdeal_DiscBRefIdeal [hDiscBIdeal : Cert.DiscBIdeal.Facts] [hDiscBRefIdeal : Cert.DiscBRefIdeal.Facts] : Prop :=
  ∀ (m : (ℓ : Loc Cert.DiscBIdeal.nD Cert.DiscBIdeal.τ Cert.DiscBIdeal.sig) → Buf (Elt Ideal) ℓ) (g : Dev Cert.DiscBIdeal.nD → PrngReg)
    (m' : (ℓ : Loc Cert.DiscBRefIdeal.nD Cert.DiscBRefIdeal.τ Cert.DiscBRefIdeal.sig) → Buf (Elt Ideal) ℓ) (g' : Dev Cert.DiscBRefIdeal.nD → PrngReg), Pre_DiscBIdeal m →
    (∀ c : Dev Cert.DiscBIdeal.nD,
      m' ((c.tc : Thread Cert.DiscBRefIdeal.nD Cert.DiscBRefIdeal.τ).loc Cert.DiscBRefIdeal.main_arg0) = m ((c.tc : Thread Cert.DiscBIdeal.nD Cert.DiscBIdeal.τ).loc Cert.DiscBIdeal.main_arg0)
      ∧ m' ((c.tc : Thread Cert.DiscBRefIdeal.nD Cert.DiscBRefIdeal.τ).loc Cert.DiscBRefIdeal.main_arg1) = m ((c.tc : Thread Cert.DiscBIdeal.nD Cert.DiscBIdeal.τ).loc Cert.DiscBIdeal.main_arg1)
      ∧ m' ((c.tc : Thread Cert.DiscBRefIdeal.nD Cert.DiscBRefIdeal.τ).loc Cert.DiscBRefIdeal.main_arg2) = m ((c.tc : Thread Cert.DiscBIdeal.nD Cert.DiscBIdeal.τ).loc Cert.DiscBIdeal.main_arg2)
      ∧ m' ((c.tc : Thread Cert.DiscBRefIdeal.nD Cert.DiscBRefIdeal.τ).loc Cert.DiscBRefIdeal.main_arg3) = m ((c.tc : Thread Cert.DiscBIdeal.nD Cert.DiscBIdeal.τ).loc Cert.DiscBIdeal.main_arg3)
      ∧ m' ((c.tc : Thread Cert.DiscBRefIdeal.nD Cert.DiscBRefIdeal.τ).loc Cert.DiscBRefIdeal.main_arg4) = m ((c.tc : Thread Cert.DiscBIdeal.nD Cert.DiscBIdeal.τ).loc Cert.DiscBIdeal.main_arg4)
      ∧ m' ((c.tc : Thread Cert.DiscBRefIdeal.nD Cert.DiscBRefIdeal.τ).loc Cert.DiscBRefIdeal.main_arg5) = m ((c.tc : Thread Cert.DiscBIdeal.nD Cert.DiscBIdeal.τ).loc Cert.DiscBIdeal.main_arg5)) →
    ∃ (v0 : (c : Dev Cert.DiscBIdeal.nD) → Buf (Elt Ideal) ((c.tc : Thread Cert.DiscBIdeal.nD Cert.DiscBIdeal.τ).loc Cert.DiscBIdeal.main_v0_0)) (v1 : (c : Dev Cert.DiscBIdeal.nD) → Buf (Elt Ideal) ((c.tc : Thread Cert.DiscBIdeal.nD Cert.DiscBIdeal.τ).loc Cert.DiscBIdeal.main_v0_1)) (v2 : (c : Dev Cert.DiscBIdeal.nD) → Buf (Elt Ideal) ((c.tc : Thread Cert.DiscBIdeal.nD Cert.DiscBIdeal.τ).loc Cert.DiscBIdeal.main_v0_2)) (v3 : (c : Dev Cert.DiscBIdeal.nD) → Buf (Elt Ideal) ((c.tc : Thread Cert.DiscBIdeal.nD Cert.DiscBIdeal.τ).loc Cert.DiscBIdeal.main_v0_3)),
      θ_run (Cert.DiscBIdeal.defs (F := Ideal)) (onTc (τ := Cert.DiscBIdeal.τ) (Cert.DiscBIdeal.main (F := Ideal))) ⟨m, fun _ => 0, g⟩ (fun r => ∀ c : Dev Cert.DiscBIdeal.nD,
          r.2.mem ((c.tc : Thread Cert.DiscBIdeal.nD Cert.DiscBIdeal.τ).loc Cert.DiscBIdeal.main_v0_0) = v0 c
          ∧ r.2.mem ((c.tc : Thread Cert.DiscBIdeal.nD Cert.DiscBIdeal.τ).loc Cert.DiscBIdeal.main_v0_1) = v1 c
          ∧ r.2.mem ((c.tc : Thread Cert.DiscBIdeal.nD Cert.DiscBIdeal.τ).loc Cert.DiscBIdeal.main_v0_2) = v2 c
          ∧ r.2.mem ((c.tc : Thread Cert.DiscBIdeal.nD Cert.DiscBIdeal.τ).loc Cert.DiscBIdeal.main_v0_3) = v3 c
          ∧ r.2.mem ((c.tc : Thread Cert.DiscBIdeal.nD Cert.DiscBIdeal.τ).loc Cert.DiscBIdeal.main_arg0) = m ((c.tc : Thread Cert.DiscBIdeal.nD Cert.DiscBIdeal.τ).loc Cert.DiscBIdeal.main_arg0)
          ∧ r.2.mem ((c.tc : Thread Cert.DiscBIdeal.nD Cert.DiscBIdeal.τ).loc Cert.DiscBIdeal.main_arg1) = m ((c.tc : Thread Cert.DiscBIdeal.nD Cert.DiscBIdeal.τ).loc Cert.DiscBIdeal.main_arg1)
          ∧ r.2.mem ((c.tc : Thread Cert.DiscBIdeal.nD Cert.DiscBIdeal.τ).loc Cert.DiscBIdeal.main_arg2) = m ((c.tc : Thread Cert.DiscBIdeal.nD Cert.DiscBIdeal.τ).loc Cert.DiscBIdeal.main_arg2)
          ∧ r.2.mem ((c.tc : Thread Cert.DiscBIdeal.nD Cert.DiscBIdeal.τ).loc Cert.DiscBIdeal.main_arg3) = m ((c.tc : Thread Cert.DiscBIdeal.nD Cert.DiscBIdeal.τ).loc Cert.DiscBIdeal.main_arg3)
          ∧ r.2.mem ((c.tc : Thread Cert.DiscBIdeal.nD Cert.DiscBIdeal.τ).loc Cert.DiscBIdeal.main_arg4) = m ((c.tc : Thread Cert.DiscBIdeal.nD Cert.DiscBIdeal.τ).loc Cert.DiscBIdeal.main_arg4)
          ∧ r.2.mem ((c.tc : Thread Cert.DiscBIdeal.nD Cert.DiscBIdeal.τ).loc Cert.DiscBIdeal.main_arg5) = m ((c.tc : Thread Cert.DiscBIdeal.nD Cert.DiscBIdeal.τ).loc Cert.DiscBIdeal.main_arg5))
      ∧ θ_run (Cert.DiscBRefIdeal.defs (F := Ideal)) (onTc (τ := Cert.DiscBRefIdeal.τ) (Cert.DiscBRefIdeal.main (F := Ideal))) ⟨m', fun _ => 0, g'⟩ (fun r => ∀ c : Dev Cert.DiscBRefIdeal.nD,
          r.2.mem ((c.tc : Thread Cert.DiscBRefIdeal.nD Cert.DiscBRefIdeal.τ).loc Cert.DiscBRefIdeal.main_v37) = v0 c
          ∧ r.2.mem ((c.tc : Thread Cert.DiscBRefIdeal.nD Cert.DiscBRefIdeal.τ).loc Cert.DiscBRefIdeal.main_v30) = v1 c
          ∧ r.2.mem ((c.tc : Thread Cert.DiscBRefIdeal.nD Cert.DiscBRefIdeal.τ).loc Cert.DiscBRefIdeal.main_v33) = v2 c
          ∧ r.2.mem ((c.tc : Thread Cert.DiscBRefIdeal.nD Cert.DiscBRefIdeal.τ).loc Cert.DiscBRefIdeal.main_v26) = v3 c
          ∧ r.2.mem ((c.tc : Thread Cert.DiscBRefIdeal.nD Cert.DiscBRefIdeal.τ).loc Cert.DiscBRefIdeal.main_arg0) = m' ((c.tc : Thread Cert.DiscBRefIdeal.nD Cert.DiscBRefIdeal.τ).loc Cert.DiscBRefIdeal.main_arg0)
          ∧ r.2.mem ((c.tc : Thread Cert.DiscBRefIdeal.nD Cert.DiscBRefIdeal.τ).loc Cert.DiscBRefIdeal.main_arg1) = m' ((c.tc : Thread Cert.DiscBRefIdeal.nD Cert.DiscBRefIdeal.τ).loc Cert.DiscBRefIdeal.main_arg1)
          ∧ r.2.mem ((c.tc : Thread Cert.DiscBRefIdeal.nD Cert.DiscBRefIdeal.τ).loc Cert.DiscBRefIdeal.main_arg2) = m' ((c.tc : Thread Cert.DiscBRefIdeal.nD Cert.DiscBRefIdeal.τ).loc Cert.DiscBRefIdeal.main_arg2)
          ∧ r.2.mem ((c.tc : Thread Cert.DiscBRefIdeal.nD Cert.DiscBRefIdeal.τ).loc Cert.DiscBRefIdeal.main_arg3) = m' ((c.tc : Thread Cert.DiscBRefIdeal.nD Cert.DiscBRefIdeal.τ).loc Cert.DiscBRefIdeal.main_arg3)
          ∧ r.2.mem ((c.tc : Thread Cert.DiscBRefIdeal.nD Cert.DiscBRefIdeal.τ).loc Cert.DiscBRefIdeal.main_arg4) = m' ((c.tc : Thread Cert.DiscBRefIdeal.nD Cert.DiscBRefIdeal.τ).loc Cert.DiscBRefIdeal.main_arg4)
          ∧ r.2.mem ((c.tc : Thread Cert.DiscBRefIdeal.nD Cert.DiscBRefIdeal.τ).loc Cert.DiscBRefIdeal.main_arg5) = m' ((c.tc : Thread Cert.DiscBRefIdeal.nD Cert.DiscBRefIdeal.τ).loc Cert.DiscBRefIdeal.main_arg5))

def preserves_OutProj_OutProjIdeal : Prop :=
  True

def algebraic_OutProjIdeal_OutProjRefIdeal_pre_out_proj_finite [hOutProjIdeal : Cert.OutProjIdeal.Facts] [hOutProjRefIdeal : Cert.OutProjRefIdeal.Facts] [hPre_out_proj_finite : Cert.Pre_out_proj_finite.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal_out_proj_finite m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v5_0)) (v1 : (c : Dev Cert.OutProjIdeal.nD) → Buf (Elt Ideal) ((c.tc : Thread Cert.OutProjIdeal.nD Cert.OutProjIdeal.τ).loc Cert.OutProjIdeal.main_v5_1)) (v2 : (c : Dev Cert.OutProjIdeal.nD) → Buf (Elt Ideal) ((c.tc : Thread Cert.OutProjIdeal.nD Cert.OutProjIdeal.τ).loc Cert.OutProjIdeal.main_v5_2)) (v3 : (c : Dev Cert.OutProjIdeal.nD) → Buf (Elt Ideal) ((c.tc : Thread Cert.OutProjIdeal.nD Cert.OutProjIdeal.τ).loc Cert.OutProjIdeal.main_v5_3)) (v4 : (c : Dev Cert.OutProjIdeal.nD) → Buf (Elt Ideal) ((c.tc : Thread Cert.OutProjIdeal.nD Cert.OutProjIdeal.τ).loc Cert.OutProjIdeal.main_v5_4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v5_0) = v0 c
          ∧ r.2.mem ((c.tc : Thread Cert.OutProjIdeal.nD Cert.OutProjIdeal.τ).loc Cert.OutProjIdeal.main_v5_1) = v1 c
          ∧ r.2.mem ((c.tc : Thread Cert.OutProjIdeal.nD Cert.OutProjIdeal.τ).loc Cert.OutProjIdeal.main_v5_2) = v2 c
          ∧ r.2.mem ((c.tc : Thread Cert.OutProjIdeal.nD Cert.OutProjIdeal.τ).loc Cert.OutProjIdeal.main_v5_3) = v3 c
          ∧ r.2.mem ((c.tc : Thread Cert.OutProjIdeal.nD Cert.OutProjIdeal.τ).loc Cert.OutProjIdeal.main_v5_4) = v4 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v85) = v0 c
          ∧ r.2.mem ((c.tc : Thread Cert.OutProjRefIdeal.nD Cert.OutProjRefIdeal.τ).loc Cert.OutProjRefIdeal.main_v86) = v1 c
          ∧ r.2.mem ((c.tc : Thread Cert.OutProjRefIdeal.nD Cert.OutProjRefIdeal.τ).loc Cert.OutProjRefIdeal.main_v84) = v2 c
          ∧ r.2.mem ((c.tc : Thread Cert.OutProjRefIdeal.nD Cert.OutProjRefIdeal.τ).loc Cert.OutProjRefIdeal.main_v63) = v3 c
          ∧ r.2.mem ((c.tc : Thread Cert.OutProjRefIdeal.nD Cert.OutProjRefIdeal.τ).loc Cert.OutProjRefIdeal.main_v88) = v4 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_InProj_InProjIdeal : Prop :=
  True

def algebraic_InProjIdeal_InProjRefIdeal_pre_in_proj_finite [hInProjIdeal : Cert.InProjIdeal.Facts] [hInProjRefIdeal : Cert.InProjRefIdeal.Facts] [hPre_in_proj_finite : Cert.Pre_in_proj_finite.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_in_proj_finite m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v8_0)) (v1 : (c : Dev Cert.InProjIdeal.nD) → Buf (Elt Ideal) ((c.tc : Thread Cert.InProjIdeal.nD Cert.InProjIdeal.τ).loc Cert.InProjIdeal.main_v8_1)) (v2 : (c : Dev Cert.InProjIdeal.nD) → Buf (Elt Ideal) ((c.tc : Thread Cert.InProjIdeal.nD Cert.InProjIdeal.τ).loc Cert.InProjIdeal.main_v8_2)) (v3 : (c : Dev Cert.InProjIdeal.nD) → Buf (Elt Ideal) ((c.tc : Thread Cert.InProjIdeal.nD Cert.InProjIdeal.τ).loc Cert.InProjIdeal.main_v8_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v8_0) = v0 c
          ∧ r.2.mem ((c.tc : Thread Cert.InProjIdeal.nD Cert.InProjIdeal.τ).loc Cert.InProjIdeal.main_v8_1) = v1 c
          ∧ r.2.mem ((c.tc : Thread Cert.InProjIdeal.nD Cert.InProjIdeal.τ).loc Cert.InProjIdeal.main_v8_2) = v2 c
          ∧ r.2.mem ((c.tc : Thread Cert.InProjIdeal.nD Cert.InProjIdeal.τ).loc Cert.InProjIdeal.main_v8_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v50) = v0 c
          ∧ r.2.mem ((c.tc : Thread Cert.InProjRefIdeal.nD Cert.InProjRefIdeal.τ).loc Cert.InProjRefIdeal.main_v52) = v1 c
          ∧ r.2.mem ((c.tc : Thread Cert.InProjRefIdeal.nD Cert.InProjRefIdeal.τ).loc Cert.InProjRefIdeal.main_v49) = v2 c
          ∧ r.2.mem ((c.tc : Thread Cert.InProjRefIdeal.nD Cert.InProjRefIdeal.τ).loc Cert.InProjRefIdeal.main_v54) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def preserves_Pool_PoolIdeal : Prop :=
  True

def algebraic_PoolIdeal_PoolRefIdeal_on_sequence_rows_pre_pool_finite [hPoolIdeal : Cert.PoolIdeal.Facts] [hPoolRefIdeal : Cert.PoolRefIdeal.Facts] [hPre_pool_finite : Cert.Pre_pool_finite.Facts] [hOn_sequence_rows : Cert.On_sequence_rows.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v5_0)) (v1 : (c : Dev Cert.PoolIdeal.nD) → Buf (Elt Ideal) ((c.tc : Thread Cert.PoolIdeal.nD Cert.PoolIdeal.τ).loc Cert.PoolIdeal.main_v5_1)) (v2 : (c : Dev Cert.PoolIdeal.nD) → Buf (Elt Ideal) ((c.tc : Thread Cert.PoolIdeal.nD Cert.PoolIdeal.τ).loc Cert.PoolIdeal.main_v5_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          (∀ i : (⟨2, ![4352, 512]⟩ : Shape).Idx, (Cert.On_sequence_rows.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).1 i = 1#1 → r.2.mem ((c.tc : Thread Cert.PoolIdeal.nD Cert.PoolIdeal.τ).loc Cert.PoolIdeal.main_v5_0) i = v0 c i)
          ∧ (∀ i : (⟨3, ![4, 128, 128]⟩ : Shape).Idx, (Cert.On_sequence_rows.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.1 i = 1#1 → r.2.mem ((c.tc : Thread Cert.PoolIdeal.nD Cert.PoolIdeal.τ).loc Cert.PoolIdeal.main_v5_1) i = v1 c i)
          ∧ (∀ i : (⟨3, ![4, 1, 128]⟩ : Shape).Idx, (Cert.On_sequence_rows.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2 i = 1#1 → r.2.mem ((c.tc : Thread Cert.PoolIdeal.nD Cert.PoolIdeal.τ).loc Cert.PoolIdeal.main_v5_2) i = v2 c i)
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          (∀ i : (⟨2, ![4352, 512]⟩ : Shape).Idx, (Cert.On_sequence_rows.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).1 i = 1#1 → r.2.mem ((c.tc : Thread Cert.PoolRefIdeal.nD Cert.PoolRefIdeal.τ).loc Cert.PoolRefIdeal.main_v157) i = v0 c i)
          ∧ (∀ i : (⟨3, ![4, 128, 128]⟩ : Shape).Idx, (Cert.On_sequence_rows.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.1 i = 1#1 → r.2.mem ((c.tc : Thread Cert.PoolRefIdeal.nD Cert.PoolRefIdeal.τ).loc Cert.PoolRefIdeal.main_v158) i = v1 c i)
          ∧ (∀ i : (⟨3, ![4, 1, 128]⟩ : Shape).Idx, (Cert.On_sequence_rows.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2 i = 1#1 → r.2.mem ((c.tc : Thread Cert.PoolRefIdeal.nD Cert.PoolRefIdeal.τ).loc Cert.PoolRefIdeal.main_v159) i = v2 c i)
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v37_0)) (v1 : (c : Dev Cert.FfnIdeal.nD) → Buf (Elt Ideal) ((c.tc : Thread Cert.FfnIdeal.nD Cert.FfnIdeal.τ).loc Cert.FfnIdeal.main_v37_1)) (v2 : (c : Dev Cert.FfnIdeal.nD) → Buf (Elt Ideal) ((c.tc : Thread Cert.FfnIdeal.nD Cert.FfnIdeal.τ).loc Cert.FfnIdeal.main_v37_2)) (v3 : (c : Dev Cert.FfnIdeal.nD) → Buf (Elt Ideal) ((c.tc : Thread Cert.FfnIdeal.nD Cert.FfnIdeal.τ).loc Cert.FfnIdeal.main_v37_3)) (v4 : (c : Dev Cert.FfnIdeal.nD) → Buf (Elt Ideal) ((c.tc : Thread Cert.FfnIdeal.nD Cert.FfnIdeal.τ).loc Cert.FfnIdeal.main_v37_4)) (v5 : (c : Dev Cert.FfnIdeal.nD) → Buf (Elt Ideal) ((c.tc : Thread Cert.FfnIdeal.nD Cert.FfnIdeal.τ).loc Cert.FfnIdeal.main_v37_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v37_0) = v0 c
          ∧ r.2.mem ((c.tc : Thread Cert.FfnIdeal.nD Cert.FfnIdeal.τ).loc Cert.FfnIdeal.main_v37_1) = v1 c
          ∧ r.2.mem ((c.tc : Thread Cert.FfnIdeal.nD Cert.FfnIdeal.τ).loc Cert.FfnIdeal.main_v37_2) = v2 c
          ∧ r.2.mem ((c.tc : Thread Cert.FfnIdeal.nD Cert.FfnIdeal.τ).loc Cert.FfnIdeal.main_v37_3) = v3 c
          ∧ r.2.mem ((c.tc : Thread Cert.FfnIdeal.nD Cert.FfnIdeal.τ).loc Cert.FfnIdeal.main_v37_4) = v4 c
          ∧ r.2.mem ((c.tc : Thread Cert.FfnIdeal.nD Cert.FfnIdeal.τ).loc Cert.FfnIdeal.main_v37_5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v110) = v0 c
          ∧ r.2.mem ((c.tc : Thread Cert.FfnRefIdeal.nD Cert.FfnRefIdeal.τ).loc Cert.FfnRefIdeal.main_v112) = v1 c
          ∧ r.2.mem ((c.tc : Thread Cert.FfnRefIdeal.nD Cert.FfnRefIdeal.τ).loc Cert.FfnRefIdeal.main_v114) = v2 c
          ∧ r.2.mem ((c.tc : Thread Cert.FfnRefIdeal.nD Cert.FfnRefIdeal.τ).loc Cert.FfnRefIdeal.main_v115) = v3 c
          ∧ r.2.mem ((c.tc : Thread Cert.FfnRefIdeal.nD Cert.FfnRefIdeal.τ).loc Cert.FfnRefIdeal.main_v116) = v4 c
          ∧ r.2.mem ((c.tc : Thread Cert.FfnRefIdeal.nD Cert.FfnRefIdeal.τ).loc Cert.FfnRefIdeal.main_v106) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_DiscA_DiscAIdeal : Prop :=
  True

def algebraic_DiscAIdeal_DiscARefIdeal [hDiscAIdeal : Cert.DiscAIdeal.Facts] [hDiscARefIdeal : Cert.DiscARefIdeal.Facts] : Prop :=
  ∀ (m : (ℓ : Loc Cert.DiscAIdeal.nD Cert.DiscAIdeal.τ Cert.DiscAIdeal.sig) → Buf (Elt Ideal) ℓ) (g : Dev Cert.DiscAIdeal.nD → PrngReg)
    (m' : (ℓ : Loc Cert.DiscARefIdeal.nD Cert.DiscARefIdeal.τ Cert.DiscARefIdeal.sig) → Buf (Elt Ideal) ℓ) (g' : Dev Cert.DiscARefIdeal.nD → PrngReg), Pre_DiscAIdeal m →
    (∀ c : Dev Cert.DiscAIdeal.nD,
      m' ((c.tc : Thread Cert.DiscARefIdeal.nD Cert.DiscARefIdeal.τ).loc Cert.DiscARefIdeal.main_arg0) = m ((c.tc : Thread Cert.DiscAIdeal.nD Cert.DiscAIdeal.τ).loc Cert.DiscAIdeal.main_arg0)
      ∧ m' ((c.tc : Thread Cert.DiscARefIdeal.nD Cert.DiscARefIdeal.τ).loc Cert.DiscARefIdeal.main_arg1) = m ((c.tc : Thread Cert.DiscAIdeal.nD Cert.DiscAIdeal.τ).loc Cert.DiscAIdeal.main_arg1)
      ∧ m' ((c.tc : Thread Cert.DiscARefIdeal.nD Cert.DiscARefIdeal.τ).loc Cert.DiscARefIdeal.main_arg2) = m ((c.tc : Thread Cert.DiscAIdeal.nD Cert.DiscAIdeal.τ).loc Cert.DiscAIdeal.main_arg2)
      ∧ m' ((c.tc : Thread Cert.DiscARefIdeal.nD Cert.DiscARefIdeal.τ).loc Cert.DiscARefIdeal.main_arg3) = m ((c.tc : Thread Cert.DiscAIdeal.nD Cert.DiscAIdeal.τ).loc Cert.DiscAIdeal.main_arg3)
      ∧ m' ((c.tc : Thread Cert.DiscARefIdeal.nD Cert.DiscARefIdeal.τ).loc Cert.DiscARefIdeal.main_arg4) = m ((c.tc : Thread Cert.DiscAIdeal.nD Cert.DiscAIdeal.τ).loc Cert.DiscAIdeal.main_arg4)
      ∧ m' ((c.tc : Thread Cert.DiscARefIdeal.nD Cert.DiscARefIdeal.τ).loc Cert.DiscARefIdeal.main_arg5) = m ((c.tc : Thread Cert.DiscAIdeal.nD Cert.DiscAIdeal.τ).loc Cert.DiscAIdeal.main_arg5)
      ∧ m' ((c.tc : Thread Cert.DiscARefIdeal.nD Cert.DiscARefIdeal.τ).loc Cert.DiscARefIdeal.main_arg6) = m ((c.tc : Thread Cert.DiscAIdeal.nD Cert.DiscAIdeal.τ).loc Cert.DiscAIdeal.main_arg6)) →
    ∃ (v0 : (c : Dev Cert.DiscAIdeal.nD) → Buf (Elt Ideal) ((c.tc : Thread Cert.DiscAIdeal.nD Cert.DiscAIdeal.τ).loc Cert.DiscAIdeal.main_v4_0)) (v1 : (c : Dev Cert.DiscAIdeal.nD) → Buf (Elt Ideal) ((c.tc : Thread Cert.DiscAIdeal.nD Cert.DiscAIdeal.τ).loc Cert.DiscAIdeal.main_v4_1)) (v2 : (c : Dev Cert.DiscAIdeal.nD) → Buf (Elt Ideal) ((c.tc : Thread Cert.DiscAIdeal.nD Cert.DiscAIdeal.τ).loc Cert.DiscAIdeal.main_v4_2)),
      θ_run (Cert.DiscAIdeal.defs (F := Ideal)) (onTc (τ := Cert.DiscAIdeal.τ) (Cert.DiscAIdeal.main (F := Ideal))) ⟨m, fun _ => 0, g⟩ (fun r => ∀ c : Dev Cert.DiscAIdeal.nD,
          r.2.mem ((c.tc : Thread Cert.DiscAIdeal.nD Cert.DiscAIdeal.τ).loc Cert.DiscAIdeal.main_v4_0) = v0 c
          ∧ r.2.mem ((c.tc : Thread Cert.DiscAIdeal.nD Cert.DiscAIdeal.τ).loc Cert.DiscAIdeal.main_v4_1) = v1 c
          ∧ r.2.mem ((c.tc : Thread Cert.DiscAIdeal.nD Cert.DiscAIdeal.τ).loc Cert.DiscAIdeal.main_v4_2) = v2 c
          ∧ r.2.mem ((c.tc : Thread Cert.DiscAIdeal.nD Cert.DiscAIdeal.τ).loc Cert.DiscAIdeal.main_arg0) = m ((c.tc : Thread Cert.DiscAIdeal.nD Cert.DiscAIdeal.τ).loc Cert.DiscAIdeal.main_arg0)
          ∧ r.2.mem ((c.tc : Thread Cert.DiscAIdeal.nD Cert.DiscAIdeal.τ).loc Cert.DiscAIdeal.main_arg1) = m ((c.tc : Thread Cert.DiscAIdeal.nD Cert.DiscAIdeal.τ).loc Cert.DiscAIdeal.main_arg1)
          ∧ r.2.mem ((c.tc : Thread Cert.DiscAIdeal.nD Cert.DiscAIdeal.τ).loc Cert.DiscAIdeal.main_arg2) = m ((c.tc : Thread Cert.DiscAIdeal.nD Cert.DiscAIdeal.τ).loc Cert.DiscAIdeal.main_arg2)
          ∧ r.2.mem ((c.tc : Thread Cert.DiscAIdeal.nD Cert.DiscAIdeal.τ).loc Cert.DiscAIdeal.main_arg3) = m ((c.tc : Thread Cert.DiscAIdeal.nD Cert.DiscAIdeal.τ).loc Cert.DiscAIdeal.main_arg3)
          ∧ r.2.mem ((c.tc : Thread Cert.DiscAIdeal.nD Cert.DiscAIdeal.τ).loc Cert.DiscAIdeal.main_arg4) = m ((c.tc : Thread Cert.DiscAIdeal.nD Cert.DiscAIdeal.τ).loc Cert.DiscAIdeal.main_arg4)
          ∧ r.2.mem ((c.tc : Thread Cert.DiscAIdeal.nD Cert.DiscAIdeal.τ).loc Cert.DiscAIdeal.main_arg5) = m ((c.tc : Thread Cert.DiscAIdeal.nD Cert.DiscAIdeal.τ).loc Cert.DiscAIdeal.main_arg5)
          ∧ r.2.mem ((c.tc : Thread Cert.DiscAIdeal.nD Cert.DiscAIdeal.τ).loc Cert.DiscAIdeal.main_arg6) = m ((c.tc : Thread Cert.DiscAIdeal.nD Cert.DiscAIdeal.τ).loc Cert.DiscAIdeal.main_arg6))
      ∧ θ_run (Cert.DiscARefIdeal.defs (F := Ideal)) (onTc (τ := Cert.DiscARefIdeal.τ) (Cert.DiscARefIdeal.main (F := Ideal))) ⟨m', fun _ => 0, g'⟩ (fun r => ∀ c : Dev Cert.DiscARefIdeal.nD,
          r.2.mem ((c.tc : Thread Cert.DiscARefIdeal.nD Cert.DiscARefIdeal.τ).loc Cert.DiscARefIdeal.main_v107) = v0 c
          ∧ r.2.mem ((c.tc : Thread Cert.DiscARefIdeal.nD Cert.DiscARefIdeal.τ).loc Cert.DiscARefIdeal.main_v108) = v1 c
          ∧ r.2.mem ((c.tc : Thread Cert.DiscARefIdeal.nD Cert.DiscARefIdeal.τ).loc Cert.DiscARefIdeal.main_v110) = v2 c
          ∧ r.2.mem ((c.tc : Thread Cert.DiscARefIdeal.nD Cert.DiscARefIdeal.τ).loc Cert.DiscARefIdeal.main_arg0) = m' ((c.tc : Thread Cert.DiscARefIdeal.nD Cert.DiscARefIdeal.τ).loc Cert.DiscARefIdeal.main_arg0)
          ∧ r.2.mem ((c.tc : Thread Cert.DiscARefIdeal.nD Cert.DiscARefIdeal.τ).loc Cert.DiscARefIdeal.main_arg1) = m' ((c.tc : Thread Cert.DiscARefIdeal.nD Cert.DiscARefIdeal.τ).loc Cert.DiscARefIdeal.main_arg1)
          ∧ r.2.mem ((c.tc : Thread Cert.DiscARefIdeal.nD Cert.DiscARefIdeal.τ).loc Cert.DiscARefIdeal.main_arg2) = m' ((c.tc : Thread Cert.DiscARefIdeal.nD Cert.DiscARefIdeal.τ).loc Cert.DiscARefIdeal.main_arg2)
          ∧ r.2.mem ((c.tc : Thread Cert.DiscARefIdeal.nD Cert.DiscARefIdeal.τ).loc Cert.DiscARefIdeal.main_arg3) = m' ((c.tc : Thread Cert.DiscARefIdeal.nD Cert.DiscARefIdeal.τ).loc Cert.DiscARefIdeal.main_arg3)
          ∧ r.2.mem ((c.tc : Thread Cert.DiscARefIdeal.nD Cert.DiscARefIdeal.τ).loc Cert.DiscARefIdeal.main_arg4) = m' ((c.tc : Thread Cert.DiscARefIdeal.nD Cert.DiscARefIdeal.τ).loc Cert.DiscARefIdeal.main_arg4)
          ∧ r.2.mem ((c.tc : Thread Cert.DiscARefIdeal.nD Cert.DiscARefIdeal.τ).loc Cert.DiscARefIdeal.main_arg5) = m' ((c.tc : Thread Cert.DiscARefIdeal.nD Cert.DiscARefIdeal.τ).loc Cert.DiscARefIdeal.main_arg5)
          ∧ r.2.mem ((c.tc : Thread Cert.DiscARefIdeal.nD Cert.DiscARefIdeal.τ).loc Cert.DiscARefIdeal.main_arg6) = m' ((c.tc : Thread Cert.DiscARefIdeal.nD Cert.DiscARefIdeal.τ).loc Cert.DiscARefIdeal.main_arg6))

def preserves_DiscAFwd_DiscAFwdIdeal : Prop :=
  True

def algebraic_DiscAFwdIdeal_DiscAFwdRefIdeal [hDiscAFwdIdeal : Cert.DiscAFwdIdeal.Facts] [hDiscAFwdRefIdeal : Cert.DiscAFwdRefIdeal.Facts] : Prop :=
  ∀ (m : (ℓ : Loc Cert.DiscAFwdIdeal.nD Cert.DiscAFwdIdeal.τ Cert.DiscAFwdIdeal.sig) → Buf (Elt Ideal) ℓ) (g : Dev Cert.DiscAFwdIdeal.nD → PrngReg)
    (m' : (ℓ : Loc Cert.DiscAFwdRefIdeal.nD Cert.DiscAFwdRefIdeal.τ Cert.DiscAFwdRefIdeal.sig) → Buf (Elt Ideal) ℓ) (g' : Dev Cert.DiscAFwdRefIdeal.nD → PrngReg), Pre_DiscAFwdIdeal m →
    (∀ c : Dev Cert.DiscAFwdIdeal.nD,
      m' ((c.tc : Thread Cert.DiscAFwdRefIdeal.nD Cert.DiscAFwdRefIdeal.τ).loc Cert.DiscAFwdRefIdeal.main_arg0) = m ((c.tc : Thread Cert.DiscAFwdIdeal.nD Cert.DiscAFwdIdeal.τ).loc Cert.DiscAFwdIdeal.main_arg0)
      ∧ m' ((c.tc : Thread Cert.DiscAFwdRefIdeal.nD Cert.DiscAFwdRefIdeal.τ).loc Cert.DiscAFwdRefIdeal.main_arg1) = m ((c.tc : Thread Cert.DiscAFwdIdeal.nD Cert.DiscAFwdIdeal.τ).loc Cert.DiscAFwdIdeal.main_arg1)
      ∧ m' ((c.tc : Thread Cert.DiscAFwdRefIdeal.nD Cert.DiscAFwdRefIdeal.τ).loc Cert.DiscAFwdRefIdeal.main_arg2) = m ((c.tc : Thread Cert.DiscAFwdIdeal.nD Cert.DiscAFwdIdeal.τ).loc Cert.DiscAFwdIdeal.main_arg2)) →
    ∃ (v0 : (c : Dev Cert.DiscAFwdIdeal.nD) → Buf (Elt Ideal) ((c.tc : Thread Cert.DiscAFwdIdeal.nD Cert.DiscAFwdIdeal.τ).loc Cert.DiscAFwdIdeal.main_v4_0)) (v1 : (c : Dev Cert.DiscAFwdIdeal.nD) → Buf (Elt Ideal) ((c.tc : Thread Cert.DiscAFwdIdeal.nD Cert.DiscAFwdIdeal.τ).loc Cert.DiscAFwdIdeal.main_v4_1)) (v2 : (c : Dev Cert.DiscAFwdIdeal.nD) → Buf (Elt Ideal) ((c.tc : Thread Cert.DiscAFwdIdeal.nD Cert.DiscAFwdIdeal.τ).loc Cert.DiscAFwdIdeal.main_v4_2)) (v3 : (c : Dev Cert.DiscAFwdIdeal.nD) → Buf (Elt Ideal) ((c.tc : Thread Cert.DiscAFwdIdeal.nD Cert.DiscAFwdIdeal.τ).loc Cert.DiscAFwdIdeal.main_v4_3)),
      θ_run (Cert.DiscAFwdIdeal.defs (F := Ideal)) (onTc (τ := Cert.DiscAFwdIdeal.τ) (Cert.DiscAFwdIdeal.main (F := Ideal))) ⟨m, fun _ => 0, g⟩ (fun r => ∀ c : Dev Cert.DiscAFwdIdeal.nD,
          r.2.mem ((c.tc : Thread Cert.DiscAFwdIdeal.nD Cert.DiscAFwdIdeal.τ).loc Cert.DiscAFwdIdeal.main_v4_0) = v0 c
          ∧ r.2.mem ((c.tc : Thread Cert.DiscAFwdIdeal.nD Cert.DiscAFwdIdeal.τ).loc Cert.DiscAFwdIdeal.main_v4_1) = v1 c
          ∧ r.2.mem ((c.tc : Thread Cert.DiscAFwdIdeal.nD Cert.DiscAFwdIdeal.τ).loc Cert.DiscAFwdIdeal.main_v4_2) = v2 c
          ∧ r.2.mem ((c.tc : Thread Cert.DiscAFwdIdeal.nD Cert.DiscAFwdIdeal.τ).loc Cert.DiscAFwdIdeal.main_v4_3) = v3 c
          ∧ r.2.mem ((c.tc : Thread Cert.DiscAFwdIdeal.nD Cert.DiscAFwdIdeal.τ).loc Cert.DiscAFwdIdeal.main_arg0) = m ((c.tc : Thread Cert.DiscAFwdIdeal.nD Cert.DiscAFwdIdeal.τ).loc Cert.DiscAFwdIdeal.main_arg0)
          ∧ r.2.mem ((c.tc : Thread Cert.DiscAFwdIdeal.nD Cert.DiscAFwdIdeal.τ).loc Cert.DiscAFwdIdeal.main_arg1) = m ((c.tc : Thread Cert.DiscAFwdIdeal.nD Cert.DiscAFwdIdeal.τ).loc Cert.DiscAFwdIdeal.main_arg1)
          ∧ r.2.mem ((c.tc : Thread Cert.DiscAFwdIdeal.nD Cert.DiscAFwdIdeal.τ).loc Cert.DiscAFwdIdeal.main_arg2) = m ((c.tc : Thread Cert.DiscAFwdIdeal.nD Cert.DiscAFwdIdeal.τ).loc Cert.DiscAFwdIdeal.main_arg2))
      ∧ θ_run (Cert.DiscAFwdRefIdeal.defs (F := Ideal)) (onTc (τ := Cert.DiscAFwdRefIdeal.τ) (Cert.DiscAFwdRefIdeal.main (F := Ideal))) ⟨m', fun _ => 0, g'⟩ (fun r => ∀ c : Dev Cert.DiscAFwdRefIdeal.nD,
          r.2.mem ((c.tc : Thread Cert.DiscAFwdRefIdeal.nD Cert.DiscAFwdRefIdeal.τ).loc Cert.DiscAFwdRefIdeal.main_v13) = v0 c
          ∧ r.2.mem ((c.tc : Thread Cert.DiscAFwdRefIdeal.nD Cert.DiscAFwdRefIdeal.τ).loc Cert.DiscAFwdRefIdeal.main_v15) = v1 c
          ∧ r.2.mem ((c.tc : Thread Cert.DiscAFwdRefIdeal.nD Cert.DiscAFwdRefIdeal.τ).loc Cert.DiscAFwdRefIdeal.main_v24) = v2 c
          ∧ r.2.mem ((c.tc : Thread Cert.DiscAFwdRefIdeal.nD Cert.DiscAFwdRefIdeal.τ).loc Cert.DiscAFwdRefIdeal.main_v28) = v3 c
          ∧ r.2.mem ((c.tc : Thread Cert.DiscAFwdRefIdeal.nD Cert.DiscAFwdRefIdeal.τ).loc Cert.DiscAFwdRefIdeal.main_arg0) = m' ((c.tc : Thread Cert.DiscAFwdRefIdeal.nD Cert.DiscAFwdRefIdeal.τ).loc Cert.DiscAFwdRefIdeal.main_arg0)
          ∧ r.2.mem ((c.tc : Thread Cert.DiscAFwdRefIdeal.nD Cert.DiscAFwdRefIdeal.τ).loc Cert.DiscAFwdRefIdeal.main_arg1) = m' ((c.tc : Thread Cert.DiscAFwdRefIdeal.nD Cert.DiscAFwdRefIdeal.τ).loc Cert.DiscAFwdRefIdeal.main_arg1)
          ∧ r.2.mem ((c.tc : Thread Cert.DiscAFwdRefIdeal.nD Cert.DiscAFwdRefIdeal.τ).loc Cert.DiscAFwdRefIdeal.main_arg2) = m' ((c.tc : Thread Cert.DiscAFwdRefIdeal.nD Cert.DiscAFwdRefIdeal.τ).loc Cert.DiscAFwdRefIdeal.main_arg2))

def preserves_DiscBFwd_DiscBFwdIdeal : Prop :=
  True

def algebraic_DiscBFwdIdeal_DiscBFwdRefIdeal [hDiscBFwdIdeal : Cert.DiscBFwdIdeal.Facts] [hDiscBFwdRefIdeal : Cert.DiscBFwdRefIdeal.Facts] : Prop :=
  ∀ (m : (ℓ : Loc Cert.DiscBFwdIdeal.nD Cert.DiscBFwdIdeal.τ Cert.DiscBFwdIdeal.sig) → Buf (Elt Ideal) ℓ) (g : Dev Cert.DiscBFwdIdeal.nD → PrngReg)
    (m' : (ℓ : Loc Cert.DiscBFwdRefIdeal.nD Cert.DiscBFwdRefIdeal.τ Cert.DiscBFwdRefIdeal.sig) → Buf (Elt Ideal) ℓ) (g' : Dev Cert.DiscBFwdRefIdeal.nD → PrngReg), Pre_DiscBFwdIdeal m →
    (∀ c : Dev Cert.DiscBFwdIdeal.nD,
      m' ((c.tc : Thread Cert.DiscBFwdRefIdeal.nD Cert.DiscBFwdRefIdeal.τ).loc Cert.DiscBFwdRefIdeal.main_arg0) = m ((c.tc : Thread Cert.DiscBFwdIdeal.nD Cert.DiscBFwdIdeal.τ).loc Cert.DiscBFwdIdeal.main_arg0)
      ∧ m' ((c.tc : Thread Cert.DiscBFwdRefIdeal.nD Cert.DiscBFwdRefIdeal.τ).loc Cert.DiscBFwdRefIdeal.main_arg1) = m ((c.tc : Thread Cert.DiscBFwdIdeal.nD Cert.DiscBFwdIdeal.τ).loc Cert.DiscBFwdIdeal.main_arg1)
      ∧ m' ((c.tc : Thread Cert.DiscBFwdRefIdeal.nD Cert.DiscBFwdRefIdeal.τ).loc Cert.DiscBFwdRefIdeal.main_arg2) = m ((c.tc : Thread Cert.DiscBFwdIdeal.nD Cert.DiscBFwdIdeal.τ).loc Cert.DiscBFwdIdeal.main_arg2)
      ∧ m' ((c.tc : Thread Cert.DiscBFwdRefIdeal.nD Cert.DiscBFwdRefIdeal.τ).loc Cert.DiscBFwdRefIdeal.main_arg3) = m ((c.tc : Thread Cert.DiscBFwdIdeal.nD Cert.DiscBFwdIdeal.τ).loc Cert.DiscBFwdIdeal.main_arg3)) →
    ∃ (v0 : (c : Dev Cert.DiscBFwdIdeal.nD) → Buf (Elt Ideal) ((c.tc : Thread Cert.DiscBFwdIdeal.nD Cert.DiscBFwdIdeal.τ).loc Cert.DiscBFwdIdeal.main_v6_0)) (v1 : (c : Dev Cert.DiscBFwdIdeal.nD) → Buf (Elt Ideal) ((c.tc : Thread Cert.DiscBFwdIdeal.nD Cert.DiscBFwdIdeal.τ).loc Cert.DiscBFwdIdeal.main_v6_1)),
      θ_run (Cert.DiscBFwdIdeal.defs (F := Ideal)) (onTc (τ := Cert.DiscBFwdIdeal.τ) (Cert.DiscBFwdIdeal.main (F := Ideal))) ⟨m, fun _ => 0, g⟩ (fun r => ∀ c : Dev Cert.DiscBFwdIdeal.nD,
          r.2.mem ((c.tc : Thread Cert.DiscBFwdIdeal.nD Cert.DiscBFwdIdeal.τ).loc Cert.DiscBFwdIdeal.main_v6_0) = v0 c
          ∧ r.2.mem ((c.tc : Thread Cert.DiscBFwdIdeal.nD Cert.DiscBFwdIdeal.τ).loc Cert.DiscBFwdIdeal.main_v6_1) = v1 c
          ∧ r.2.mem ((c.tc : Thread Cert.DiscBFwdIdeal.nD Cert.DiscBFwdIdeal.τ).loc Cert.DiscBFwdIdeal.main_arg0) = m ((c.tc : Thread Cert.DiscBFwdIdeal.nD Cert.DiscBFwdIdeal.τ).loc Cert.DiscBFwdIdeal.main_arg0)
          ∧ r.2.mem ((c.tc : Thread Cert.DiscBFwdIdeal.nD Cert.DiscBFwdIdeal.τ).loc Cert.DiscBFwdIdeal.main_arg1) = m ((c.tc : Thread Cert.DiscBFwdIdeal.nD Cert.DiscBFwdIdeal.τ).loc Cert.DiscBFwdIdeal.main_arg1)
          ∧ r.2.mem ((c.tc : Thread Cert.DiscBFwdIdeal.nD Cert.DiscBFwdIdeal.τ).loc Cert.DiscBFwdIdeal.main_arg2) = m ((c.tc : Thread Cert.DiscBFwdIdeal.nD Cert.DiscBFwdIdeal.τ).loc Cert.DiscBFwdIdeal.main_arg2)
          ∧ r.2.mem ((c.tc : Thread Cert.DiscBFwdIdeal.nD Cert.DiscBFwdIdeal.τ).loc Cert.DiscBFwdIdeal.main_arg3) = m ((c.tc : Thread Cert.DiscBFwdIdeal.nD Cert.DiscBFwdIdeal.τ).loc Cert.DiscBFwdIdeal.main_arg3))
      ∧ θ_run (Cert.DiscBFwdRefIdeal.defs (F := Ideal)) (onTc (τ := Cert.DiscBFwdRefIdeal.τ) (Cert.DiscBFwdRefIdeal.main (F := Ideal))) ⟨m', fun _ => 0, g'⟩ (fun r => ∀ c : Dev Cert.DiscBFwdRefIdeal.nD,
          r.2.mem ((c.tc : Thread Cert.DiscBFwdRefIdeal.nD Cert.DiscBFwdRefIdeal.τ).loc Cert.DiscBFwdRefIdeal.main_v14) = v0 c
          ∧ r.2.mem ((c.tc : Thread Cert.DiscBFwdRefIdeal.nD Cert.DiscBFwdRefIdeal.τ).loc Cert.DiscBFwdRefIdeal.main_v15) = v1 c
          ∧ r.2.mem ((c.tc : Thread Cert.DiscBFwdRefIdeal.nD Cert.DiscBFwdRefIdeal.τ).loc Cert.DiscBFwdRefIdeal.main_arg0) = m' ((c.tc : Thread Cert.DiscBFwdRefIdeal.nD Cert.DiscBFwdRefIdeal.τ).loc Cert.DiscBFwdRefIdeal.main_arg0)
          ∧ r.2.mem ((c.tc : Thread Cert.DiscBFwdRefIdeal.nD Cert.DiscBFwdRefIdeal.τ).loc Cert.DiscBFwdRefIdeal.main_arg1) = m' ((c.tc : Thread Cert.DiscBFwdRefIdeal.nD Cert.DiscBFwdRefIdeal.τ).loc Cert.DiscBFwdRefIdeal.main_arg1)
          ∧ r.2.mem ((c.tc : Thread Cert.DiscBFwdRefIdeal.nD Cert.DiscBFwdRefIdeal.τ).loc Cert.DiscBFwdRefIdeal.main_arg2) = m' ((c.tc : Thread Cert.DiscBFwdRefIdeal.nD Cert.DiscBFwdRefIdeal.τ).loc Cert.DiscBFwdRefIdeal.main_arg2)
          ∧ r.2.mem ((c.tc : Thread Cert.DiscBFwdRefIdeal.nD Cert.DiscBFwdRefIdeal.τ).loc Cert.DiscBFwdRefIdeal.main_arg3) = m' ((c.tc : Thread Cert.DiscBFwdRefIdeal.nD Cert.DiscBFwdRefIdeal.τ).loc Cert.DiscBFwdRefIdeal.main_arg3))

def preserves_InProjFwd_InProjFwdIdeal : Prop :=
  True

def algebraic_InProjFwdIdeal_InProjFwdRefIdeal [hInProjFwdIdeal : Cert.InProjFwdIdeal.Facts] [hInProjFwdRefIdeal : Cert.InProjFwdRefIdeal.Facts] : Prop :=
  ∀ (m : (ℓ : Loc Cert.InProjFwdIdeal.nD Cert.InProjFwdIdeal.τ Cert.InProjFwdIdeal.sig) → Buf (Elt Ideal) ℓ) (g : Dev Cert.InProjFwdIdeal.nD → PrngReg)
    (m' : (ℓ : Loc Cert.InProjFwdRefIdeal.nD Cert.InProjFwdRefIdeal.τ Cert.InProjFwdRefIdeal.sig) → Buf (Elt Ideal) ℓ) (g' : Dev Cert.InProjFwdRefIdeal.nD → PrngReg), Pre_InProjFwdIdeal m →
    (∀ c : Dev Cert.InProjFwdIdeal.nD,
      m' ((c.tc : Thread Cert.InProjFwdRefIdeal.nD Cert.InProjFwdRefIdeal.τ).loc Cert.InProjFwdRefIdeal.main_arg0) = m ((c.tc : Thread Cert.InProjFwdIdeal.nD Cert.InProjFwdIdeal.τ).loc Cert.InProjFwdIdeal.main_arg0)
      ∧ m' ((c.tc : Thread Cert.InProjFwdRefIdeal.nD Cert.InProjFwdRefIdeal.τ).loc Cert.InProjFwdRefIdeal.main_arg1) = m ((c.tc : Thread Cert.InProjFwdIdeal.nD Cert.InProjFwdIdeal.τ).loc Cert.InProjFwdIdeal.main_arg1)
      ∧ m' ((c.tc : Thread Cert.InProjFwdRefIdeal.nD Cert.InProjFwdRefIdeal.τ).loc Cert.InProjFwdRefIdeal.main_arg2) = m ((c.tc : Thread Cert.InProjFwdIdeal.nD Cert.InProjFwdIdeal.τ).loc Cert.InProjFwdIdeal.main_arg2)) →
    ∃ (v0 : (c : Dev Cert.InProjFwdIdeal.nD) → Buf (Elt Ideal) ((c.tc : Thread Cert.InProjFwdIdeal.nD Cert.InProjFwdIdeal.τ).loc Cert.InProjFwdIdeal.main_v5_0)) (v1 : (c : Dev Cert.InProjFwdIdeal.nD) → Buf (Elt Ideal) ((c.tc : Thread Cert.InProjFwdIdeal.nD Cert.InProjFwdIdeal.τ).loc Cert.InProjFwdIdeal.main_v5_1)),
      θ_run (Cert.InProjFwdIdeal.defs (F := Ideal)) (onTc (τ := Cert.InProjFwdIdeal.τ) (Cert.InProjFwdIdeal.main (F := Ideal))) ⟨m, fun _ => 0, g⟩ (fun r => ∀ c : Dev Cert.InProjFwdIdeal.nD,
          r.2.mem ((c.tc : Thread Cert.InProjFwdIdeal.nD Cert.InProjFwdIdeal.τ).loc Cert.InProjFwdIdeal.main_v5_0) = v0 c
          ∧ r.2.mem ((c.tc : Thread Cert.InProjFwdIdeal.nD Cert.InProjFwdIdeal.τ).loc Cert.InProjFwdIdeal.main_v5_1) = v1 c
          ∧ r.2.mem ((c.tc : Thread Cert.InProjFwdIdeal.nD Cert.InProjFwdIdeal.τ).loc Cert.InProjFwdIdeal.main_arg0) = m ((c.tc : Thread Cert.InProjFwdIdeal.nD Cert.InProjFwdIdeal.τ).loc Cert.InProjFwdIdeal.main_arg0)
          ∧ r.2.mem ((c.tc : Thread Cert.InProjFwdIdeal.nD Cert.InProjFwdIdeal.τ).loc Cert.InProjFwdIdeal.main_arg1) = m ((c.tc : Thread Cert.InProjFwdIdeal.nD Cert.InProjFwdIdeal.τ).loc Cert.InProjFwdIdeal.main_arg1)
          ∧ r.2.mem ((c.tc : Thread Cert.InProjFwdIdeal.nD Cert.InProjFwdIdeal.τ).loc Cert.InProjFwdIdeal.main_arg2) = m ((c.tc : Thread Cert.InProjFwdIdeal.nD Cert.InProjFwdIdeal.τ).loc Cert.InProjFwdIdeal.main_arg2))
      ∧ θ_run (Cert.InProjFwdRefIdeal.defs (F := Ideal)) (onTc (τ := Cert.InProjFwdRefIdeal.τ) (Cert.InProjFwdRefIdeal.main (F := Ideal))) ⟨m', fun _ => 0, g'⟩ (fun r => ∀ c : Dev Cert.InProjFwdRefIdeal.nD,
          r.2.mem ((c.tc : Thread Cert.InProjFwdRefIdeal.nD Cert.InProjFwdRefIdeal.τ).loc Cert.InProjFwdRefIdeal.main_v17) = v0 c
          ∧ r.2.mem ((c.tc : Thread Cert.InProjFwdRefIdeal.nD Cert.InProjFwdRefIdeal.τ).loc Cert.InProjFwdRefIdeal.main_v19) = v1 c
          ∧ r.2.mem ((c.tc : Thread Cert.InProjFwdRefIdeal.nD Cert.InProjFwdRefIdeal.τ).loc Cert.InProjFwdRefIdeal.main_arg0) = m' ((c.tc : Thread Cert.InProjFwdRefIdeal.nD Cert.InProjFwdRefIdeal.τ).loc Cert.InProjFwdRefIdeal.main_arg0)
          ∧ r.2.mem ((c.tc : Thread Cert.InProjFwdRefIdeal.nD Cert.InProjFwdRefIdeal.τ).loc Cert.InProjFwdRefIdeal.main_arg1) = m' ((c.tc : Thread Cert.InProjFwdRefIdeal.nD Cert.InProjFwdRefIdeal.τ).loc Cert.InProjFwdRefIdeal.main_arg1)
          ∧ r.2.mem ((c.tc : Thread Cert.InProjFwdRefIdeal.nD Cert.InProjFwdRefIdeal.τ).loc Cert.InProjFwdRefIdeal.main_arg2) = m' ((c.tc : Thread Cert.InProjFwdRefIdeal.nD Cert.InProjFwdRefIdeal.τ).loc Cert.InProjFwdRefIdeal.main_arg2))

def preserves_OutProjFwd_OutProjFwdIdeal : Prop :=
  True

def algebraic_OutProjFwdIdeal_OutProjFwdRefIdeal [hOutProjFwdIdeal : Cert.OutProjFwdIdeal.Facts] [hOutProjFwdRefIdeal : Cert.OutProjFwdRefIdeal.Facts] : Prop :=
  ∀ (m : (ℓ : Loc Cert.OutProjFwdIdeal.nD Cert.OutProjFwdIdeal.τ Cert.OutProjFwdIdeal.sig) → Buf (Elt Ideal) ℓ) (g : Dev Cert.OutProjFwdIdeal.nD → PrngReg)
    (m' : (ℓ : Loc Cert.OutProjFwdRefIdeal.nD Cert.OutProjFwdRefIdeal.τ Cert.OutProjFwdRefIdeal.sig) → Buf (Elt Ideal) ℓ) (g' : Dev Cert.OutProjFwdRefIdeal.nD → PrngReg), Pre_OutProjFwdIdeal m →
    (∀ c : Dev Cert.OutProjFwdIdeal.nD,
      m' ((c.tc : Thread Cert.OutProjFwdRefIdeal.nD Cert.OutProjFwdRefIdeal.τ).loc Cert.OutProjFwdRefIdeal.main_arg0) = m ((c.tc : Thread Cert.OutProjFwdIdeal.nD Cert.OutProjFwdIdeal.τ).loc Cert.OutProjFwdIdeal.main_arg0)
      ∧ m' ((c.tc : Thread Cert.OutProjFwdRefIdeal.nD Cert.OutProjFwdRefIdeal.τ).loc Cert.OutProjFwdRefIdeal.main_arg1) = m ((c.tc : Thread Cert.OutProjFwdIdeal.nD Cert.OutProjFwdIdeal.τ).loc Cert.OutProjFwdIdeal.main_arg1)
      ∧ m' ((c.tc : Thread Cert.OutProjFwdRefIdeal.nD Cert.OutProjFwdRefIdeal.τ).loc Cert.OutProjFwdRefIdeal.main_arg2) = m ((c.tc : Thread Cert.OutProjFwdIdeal.nD Cert.OutProjFwdIdeal.τ).loc Cert.OutProjFwdIdeal.main_arg2)
      ∧ m' ((c.tc : Thread Cert.OutProjFwdRefIdeal.nD Cert.OutProjFwdRefIdeal.τ).loc Cert.OutProjFwdRefIdeal.main_arg3) = m ((c.tc : Thread Cert.OutProjFwdIdeal.nD Cert.OutProjFwdIdeal.τ).loc Cert.OutProjFwdIdeal.main_arg3)
      ∧ m' ((c.tc : Thread Cert.OutProjFwdRefIdeal.nD Cert.OutProjFwdRefIdeal.τ).loc Cert.OutProjFwdRefIdeal.main_arg4) = m ((c.tc : Thread Cert.OutProjFwdIdeal.nD Cert.OutProjFwdIdeal.τ).loc Cert.OutProjFwdIdeal.main_arg4)
      ∧ m' ((c.tc : Thread Cert.OutProjFwdRefIdeal.nD Cert.OutProjFwdRefIdeal.τ).loc Cert.OutProjFwdRefIdeal.main_arg5) = m ((c.tc : Thread Cert.OutProjFwdIdeal.nD Cert.OutProjFwdIdeal.τ).loc Cert.OutProjFwdIdeal.main_arg5)) →
    ∃ (v0 : (c : Dev Cert.OutProjFwdIdeal.nD) → Buf (Elt Ideal) ((c.tc : Thread Cert.OutProjFwdIdeal.nD Cert.OutProjFwdIdeal.τ).loc Cert.OutProjFwdIdeal.main_v7)),
      θ_run (Cert.OutProjFwdIdeal.defs (F := Ideal)) (onTc (τ := Cert.OutProjFwdIdeal.τ) (Cert.OutProjFwdIdeal.main (F := Ideal))) ⟨m, fun _ => 0, g⟩ (fun r => ∀ c : Dev Cert.OutProjFwdIdeal.nD,
          r.2.mem ((c.tc : Thread Cert.OutProjFwdIdeal.nD Cert.OutProjFwdIdeal.τ).loc Cert.OutProjFwdIdeal.main_v7) = v0 c
          ∧ r.2.mem ((c.tc : Thread Cert.OutProjFwdIdeal.nD Cert.OutProjFwdIdeal.τ).loc Cert.OutProjFwdIdeal.main_arg0) = m ((c.tc : Thread Cert.OutProjFwdIdeal.nD Cert.OutProjFwdIdeal.τ).loc Cert.OutProjFwdIdeal.main_arg0)
          ∧ r.2.mem ((c.tc : Thread Cert.OutProjFwdIdeal.nD Cert.OutProjFwdIdeal.τ).loc Cert.OutProjFwdIdeal.main_arg1) = m ((c.tc : Thread Cert.OutProjFwdIdeal.nD Cert.OutProjFwdIdeal.τ).loc Cert.OutProjFwdIdeal.main_arg1)
          ∧ r.2.mem ((c.tc : Thread Cert.OutProjFwdIdeal.nD Cert.OutProjFwdIdeal.τ).loc Cert.OutProjFwdIdeal.main_arg2) = m ((c.tc : Thread Cert.OutProjFwdIdeal.nD Cert.OutProjFwdIdeal.τ).loc Cert.OutProjFwdIdeal.main_arg2)
          ∧ r.2.mem ((c.tc : Thread Cert.OutProjFwdIdeal.nD Cert.OutProjFwdIdeal.τ).loc Cert.OutProjFwdIdeal.main_arg3) = m ((c.tc : Thread Cert.OutProjFwdIdeal.nD Cert.OutProjFwdIdeal.τ).loc Cert.OutProjFwdIdeal.main_arg3)
          ∧ r.2.mem ((c.tc : Thread Cert.OutProjFwdIdeal.nD Cert.OutProjFwdIdeal.τ).loc Cert.OutProjFwdIdeal.main_arg4) = m ((c.tc : Thread Cert.OutProjFwdIdeal.nD Cert.OutProjFwdIdeal.τ).loc Cert.OutProjFwdIdeal.main_arg4)
          ∧ r.2.mem ((c.tc : Thread Cert.OutProjFwdIdeal.nD Cert.OutProjFwdIdeal.τ).loc Cert.OutProjFwdIdeal.main_arg5) = m ((c.tc : Thread Cert.OutProjFwdIdeal.nD Cert.OutProjFwdIdeal.τ).loc Cert.OutProjFwdIdeal.main_arg5))
      ∧ θ_run (Cert.OutProjFwdRefIdeal.defs (F := Ideal)) (onTc (τ := Cert.OutProjFwdRefIdeal.τ) (Cert.OutProjFwdRefIdeal.main (F := Ideal))) ⟨m', fun _ => 0, g'⟩ (fun r => ∀ c : Dev Cert.OutProjFwdRefIdeal.nD,
          r.2.mem ((c.tc : Thread Cert.OutProjFwdRefIdeal.nD Cert.OutProjFwdRefIdeal.τ).loc Cert.OutProjFwdRefIdeal.main_v32) = v0 c
          ∧ r.2.mem ((c.tc : Thread Cert.OutProjFwdRefIdeal.nD Cert.OutProjFwdRefIdeal.τ).loc Cert.OutProjFwdRefIdeal.main_arg0) = m' ((c.tc : Thread Cert.OutProjFwdRefIdeal.nD Cert.OutProjFwdRefIdeal.τ).loc Cert.OutProjFwdRefIdeal.main_arg0)
          ∧ r.2.mem ((c.tc : Thread Cert.OutProjFwdRefIdeal.nD Cert.OutProjFwdRefIdeal.τ).loc Cert.OutProjFwdRefIdeal.main_arg1) = m' ((c.tc : Thread Cert.OutProjFwdRefIdeal.nD Cert.OutProjFwdRefIdeal.τ).loc Cert.OutProjFwdRefIdeal.main_arg1)
          ∧ r.2.mem ((c.tc : Thread Cert.OutProjFwdRefIdeal.nD Cert.OutProjFwdRefIdeal.τ).loc Cert.OutProjFwdRefIdeal.main_arg2) = m' ((c.tc : Thread Cert.OutProjFwdRefIdeal.nD Cert.OutProjFwdRefIdeal.τ).loc Cert.OutProjFwdRefIdeal.main_arg2)
          ∧ r.2.mem ((c.tc : Thread Cert.OutProjFwdRefIdeal.nD Cert.OutProjFwdRefIdeal.τ).loc Cert.OutProjFwdRefIdeal.main_arg3) = m' ((c.tc : Thread Cert.OutProjFwdRefIdeal.nD Cert.OutProjFwdRefIdeal.τ).loc Cert.OutProjFwdRefIdeal.main_arg3)
          ∧ r.2.mem ((c.tc : Thread Cert.OutProjFwdRefIdeal.nD Cert.OutProjFwdRefIdeal.τ).loc Cert.OutProjFwdRefIdeal.main_arg4) = m' ((c.tc : Thread Cert.OutProjFwdRefIdeal.nD Cert.OutProjFwdRefIdeal.τ).loc Cert.OutProjFwdRefIdeal.main_arg4)
          ∧ r.2.mem ((c.tc : Thread Cert.OutProjFwdRefIdeal.nD Cert.OutProjFwdRefIdeal.τ).loc Cert.OutProjFwdRefIdeal.main_arg5) = m' ((c.tc : Thread Cert.OutProjFwdRefIdeal.nD Cert.OutProjFwdRefIdeal.τ).loc Cert.OutProjFwdRefIdeal.main_arg5))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v9_0)) (v1 : (c : Dev Cert.FfnFwdIdeal.nD) → Buf (Elt Ideal) ((c.tc : Thread Cert.FfnFwdIdeal.nD Cert.FfnFwdIdeal.τ).loc Cert.FfnFwdIdeal.main_v9_1)) (v2 : (c : Dev Cert.FfnFwdIdeal.nD) → Buf (Elt Ideal) ((c.tc : Thread Cert.FfnFwdIdeal.nD Cert.FfnFwdIdeal.τ).loc Cert.FfnFwdIdeal.main_v9_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v9_0) = v0 c
          ∧ r.2.mem ((c.tc : Thread Cert.FfnFwdIdeal.nD Cert.FfnFwdIdeal.τ).loc Cert.FfnFwdIdeal.main_v9_1) = v1 c
          ∧ r.2.mem ((c.tc : Thread Cert.FfnFwdIdeal.nD Cert.FfnFwdIdeal.τ).loc Cert.FfnFwdIdeal.main_v9_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v25) = v0 c
          ∧ r.2.mem ((c.tc : Thread Cert.FfnFwdRefIdeal.nD Cert.FfnFwdRefIdeal.τ).loc Cert.FfnFwdRefIdeal.main_v27) = v1 c
          ∧ r.2.mem ((c.tc : Thread Cert.FfnFwdRefIdeal.nD Cert.FfnFwdRefIdeal.τ).loc Cert.FfnFwdRefIdeal.main_v28) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_PoolFwd_PoolFwdIdeal : Prop :=
  True

def algebraic_PoolFwdIdeal_PoolFwdRefIdeal_pre_pool_fwd_finite [hPoolFwdIdeal : Cert.PoolFwdIdeal.Facts] [hPoolFwdRefIdeal : Cert.PoolFwdRefIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_pool_fwd_finite m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)) →
    ∃ (v0 : (c : Dev Cert.PoolFwdIdeal.nD) → Buf (Elt Ideal) ((c.tc : Thread Cert.PoolFwdIdeal.nD Cert.PoolFwdIdeal.τ).loc Cert.PoolFwdIdeal.main_v4)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v4) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v74) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2))

def preserves_AdamRows_AdamRowsIdeal : Prop :=
  True

def algebraic_AdamRowsIdeal_AdamRowsRefIdeal [hAdamRowsIdeal : Cert.AdamRowsIdeal.Facts] [hAdamRowsRefIdeal : Cert.AdamRowsRefIdeal.Facts] : Prop :=
  ∀ (m : (ℓ : Loc Cert.AdamRowsIdeal.nD Cert.AdamRowsIdeal.τ Cert.AdamRowsIdeal.sig) → Buf (Elt Ideal) ℓ) (g : Dev Cert.AdamRowsIdeal.nD → PrngReg)
    (m' : (ℓ : Loc Cert.AdamRowsRefIdeal.nD Cert.AdamRowsRefIdeal.τ Cert.AdamRowsRefIdeal.sig) → Buf (Elt Ideal) ℓ) (g' : Dev Cert.AdamRowsRefIdeal.nD → PrngReg), Pre_AdamRowsIdeal m →
    (∀ c : Dev Cert.AdamRowsIdeal.nD,
      m' ((c.tc : Thread Cert.AdamRowsRefIdeal.nD Cert.AdamRowsRefIdeal.τ).loc Cert.AdamRowsRefIdeal.main_arg0) = m ((c.tc : Thread Cert.AdamRowsIdeal.nD Cert.AdamRowsIdeal.τ).loc Cert.AdamRowsIdeal.main_arg0)
      ∧ m' ((c.tc : Thread Cert.AdamRowsRefIdeal.nD Cert.AdamRowsRefIdeal.τ).loc Cert.AdamRowsRefIdeal.main_arg1) = m ((c.tc : Thread Cert.AdamRowsIdeal.nD Cert.AdamRowsIdeal.τ).loc Cert.AdamRowsIdeal.main_arg1)
      ∧ m' ((c.tc : Thread Cert.AdamRowsRefIdeal.nD Cert.AdamRowsRefIdeal.τ).loc Cert.AdamRowsRefIdeal.main_arg2) = m ((c.tc : Thread Cert.AdamRowsIdeal.nD Cert.AdamRowsIdeal.τ).loc Cert.AdamRowsIdeal.main_arg2)
      ∧ m' ((c.tc : Thread Cert.AdamRowsRefIdeal.nD Cert.AdamRowsRefIdeal.τ).loc Cert.AdamRowsRefIdeal.main_arg3) = m ((c.tc : Thread Cert.AdamRowsIdeal.nD Cert.AdamRowsIdeal.τ).loc Cert.AdamRowsIdeal.main_arg3)) →
    ∃ (v0 : (c : Dev Cert.AdamRowsIdeal.nD) → Buf (Elt Ideal) ((c.tc : Thread Cert.AdamRowsIdeal.nD Cert.AdamRowsIdeal.τ).loc Cert.AdamRowsIdeal.main_v3_0)) (v1 : (c : Dev Cert.AdamRowsIdeal.nD) → Buf (Elt Ideal) ((c.tc : Thread Cert.AdamRowsIdeal.nD Cert.AdamRowsIdeal.τ).loc Cert.AdamRowsIdeal.main_v3_1)) (v2 : (c : Dev Cert.AdamRowsIdeal.nD) → Buf (Elt Ideal) ((c.tc : Thread Cert.AdamRowsIdeal.nD Cert.AdamRowsIdeal.τ).loc Cert.AdamRowsIdeal.main_v3_2)) (v3 : (c : Dev Cert.AdamRowsIdeal.nD) → Buf (Elt Ideal) ((c.tc : Thread Cert.AdamRowsIdeal.nD Cert.AdamRowsIdeal.τ).loc Cert.AdamRowsIdeal.main_v3_3)),
      θ_run (Cert.AdamRowsIdeal.defs (F := Ideal)) (onTc (τ := Cert.AdamRowsIdeal.τ) (Cert.AdamRowsIdeal.main (F := Ideal))) ⟨m, fun _ => 0, g⟩ (fun r => ∀ c : Dev Cert.AdamRowsIdeal.nD,
          r.2.mem ((c.tc : Thread Cert.AdamRowsIdeal.nD Cert.AdamRowsIdeal.τ).loc Cert.AdamRowsIdeal.main_v3_0) = v0 c
          ∧ r.2.mem ((c.tc : Thread Cert.AdamRowsIdeal.nD Cert.AdamRowsIdeal.τ).loc Cert.AdamRowsIdeal.main_v3_1) = v1 c
          ∧ r.2.mem ((c.tc : Thread Cert.AdamRowsIdeal.nD Cert.AdamRowsIdeal.τ).loc Cert.AdamRowsIdeal.main_v3_2) = v2 c
          ∧ r.2.mem ((c.tc : Thread Cert.AdamRowsIdeal.nD Cert.AdamRowsIdeal.τ).loc Cert.AdamRowsIdeal.main_v3_3) = v3 c
          ∧ r.2.mem ((c.tc : Thread Cert.AdamRowsIdeal.nD Cert.AdamRowsIdeal.τ).loc Cert.AdamRowsIdeal.main_arg0) = m ((c.tc : Thread Cert.AdamRowsIdeal.nD Cert.AdamRowsIdeal.τ).loc Cert.AdamRowsIdeal.main_arg0)
          ∧ r.2.mem ((c.tc : Thread Cert.AdamRowsIdeal.nD Cert.AdamRowsIdeal.τ).loc Cert.AdamRowsIdeal.main_arg1) = m ((c.tc : Thread Cert.AdamRowsIdeal.nD Cert.AdamRowsIdeal.τ).loc Cert.AdamRowsIdeal.main_arg1)
          ∧ r.2.mem ((c.tc : Thread Cert.AdamRowsIdeal.nD Cert.AdamRowsIdeal.τ).loc Cert.AdamRowsIdeal.main_arg2) = m ((c.tc : Thread Cert.AdamRowsIdeal.nD Cert.AdamRowsIdeal.τ).loc Cert.AdamRowsIdeal.main_arg2)
          ∧ r.2.mem ((c.tc : Thread Cert.AdamRowsIdeal.nD Cert.AdamRowsIdeal.τ).loc Cert.AdamRowsIdeal.main_arg3) = m ((c.tc : Thread Cert.AdamRowsIdeal.nD Cert.AdamRowsIdeal.τ).loc Cert.AdamRowsIdeal.main_arg3))
      ∧ θ_run (Cert.AdamRowsRefIdeal.defs (F := Ideal)) (onTc (τ := Cert.AdamRowsRefIdeal.τ) (Cert.AdamRowsRefIdeal.main (F := Ideal))) ⟨m', fun _ => 0, g'⟩ (fun r => ∀ c : Dev Cert.AdamRowsRefIdeal.nD,
          r.2.mem ((c.tc : Thread Cert.AdamRowsRefIdeal.nD Cert.AdamRowsRefIdeal.τ).loc Cert.AdamRowsRefIdeal.main_v2) = v0 c
          ∧ r.2.mem ((c.tc : Thread Cert.AdamRowsRefIdeal.nD Cert.AdamRowsRefIdeal.τ).loc Cert.AdamRowsRefIdeal.main_v28) = v1 c
          ∧ r.2.mem ((c.tc : Thread Cert.AdamRowsRefIdeal.nD Cert.AdamRowsRefIdeal.τ).loc Cert.AdamRowsRefIdeal.main_v9) = v2 c
          ∧ r.2.mem ((c.tc : Thread Cert.AdamRowsRefIdeal.nD Cert.AdamRowsRefIdeal.τ).loc Cert.AdamRowsRefIdeal.main_v15) = v3 c
          ∧ r.2.mem ((c.tc : Thread Cert.AdamRowsRefIdeal.nD Cert.AdamRowsRefIdeal.τ).loc Cert.AdamRowsRefIdeal.main_arg0) = m' ((c.tc : Thread Cert.AdamRowsRefIdeal.nD Cert.AdamRowsRefIdeal.τ).loc Cert.AdamRowsRefIdeal.main_arg0)
          ∧ r.2.mem ((c.tc : Thread Cert.AdamRowsRefIdeal.nD Cert.AdamRowsRefIdeal.τ).loc Cert.AdamRowsRefIdeal.main_arg1) = m' ((c.tc : Thread Cert.AdamRowsRefIdeal.nD Cert.AdamRowsRefIdeal.τ).loc Cert.AdamRowsRefIdeal.main_arg1)
          ∧ r.2.mem ((c.tc : Thread Cert.AdamRowsRefIdeal.nD Cert.AdamRowsRefIdeal.τ).loc Cert.AdamRowsRefIdeal.main_arg2) = m' ((c.tc : Thread Cert.AdamRowsRefIdeal.nD Cert.AdamRowsRefIdeal.τ).loc Cert.AdamRowsRefIdeal.main_arg2)
          ∧ r.2.mem ((c.tc : Thread Cert.AdamRowsRefIdeal.nD Cert.AdamRowsRefIdeal.τ).loc Cert.AdamRowsRefIdeal.main_arg3) = m' ((c.tc : Thread Cert.AdamRowsRefIdeal.nD Cert.AdamRowsRefIdeal.τ).loc Cert.AdamRowsRefIdeal.main_arg3))

def preserves_AdamMeta_AdamMetaIdeal : Prop :=
  True

def algebraic_AdamMetaIdeal_AdamMetaRefIdeal [hAdamMetaIdeal : Cert.AdamMetaIdeal.Facts] [hAdamMetaRefIdeal : Cert.AdamMetaRefIdeal.Facts] : Prop :=
  ∀ (m : (ℓ : Loc Cert.AdamMetaIdeal.nD Cert.AdamMetaIdeal.τ Cert.AdamMetaIdeal.sig) → Buf (Elt Ideal) ℓ) (g : Dev Cert.AdamMetaIdeal.nD → PrngReg)
    (m' : (ℓ : Loc Cert.AdamMetaRefIdeal.nD Cert.AdamMetaRefIdeal.τ Cert.AdamMetaRefIdeal.sig) → Buf (Elt Ideal) ℓ) (g' : Dev Cert.AdamMetaRefIdeal.nD → PrngReg), Pre_AdamMetaIdeal m →
    (∀ c : Dev Cert.AdamMetaIdeal.nD,
      m' ((c.tc : Thread Cert.AdamMetaRefIdeal.nD Cert.AdamMetaRefIdeal.τ).loc Cert.AdamMetaRefIdeal.main_arg0) = m ((c.tc : Thread Cert.AdamMetaIdeal.nD Cert.AdamMetaIdeal.τ).loc Cert.AdamMetaIdeal.main_arg0)
      ∧ m' ((c.tc : Thread Cert.AdamMetaRefIdeal.nD Cert.AdamMetaRefIdeal.τ).loc Cert.AdamMetaRefIdeal.main_arg1) = m ((c.tc : Thread Cert.AdamMetaIdeal.nD Cert.AdamMetaIdeal.τ).loc Cert.AdamMetaIdeal.main_arg1)
      ∧ m' ((c.tc : Thread Cert.AdamMetaRefIdeal.nD Cert.AdamMetaRefIdeal.τ).loc Cert.AdamMetaRefIdeal.main_arg2) = m ((c.tc : Thread Cert.AdamMetaIdeal.nD Cert.AdamMetaIdeal.τ).loc Cert.AdamMetaIdeal.main_arg2)
      ∧ m' ((c.tc : Thread Cert.AdamMetaRefIdeal.nD Cert.AdamMetaRefIdeal.τ).loc Cert.AdamMetaRefIdeal.main_arg3) = m ((c.tc : Thread Cert.AdamMetaIdeal.nD Cert.AdamMetaIdeal.τ).loc Cert.AdamMetaIdeal.main_arg3)) →
    ∃ (v0 : (c : Dev Cert.AdamMetaIdeal.nD) → Buf (Elt Ideal) ((c.tc : Thread Cert.AdamMetaIdeal.nD Cert.AdamMetaIdeal.τ).loc Cert.AdamMetaIdeal.main_v1_0)) (v1 : (c : Dev Cert.AdamMetaIdeal.nD) → Buf (Elt Ideal) ((c.tc : Thread Cert.AdamMetaIdeal.nD Cert.AdamMetaIdeal.τ).loc Cert.AdamMetaIdeal.main_v1_1)) (v2 : (c : Dev Cert.AdamMetaIdeal.nD) → Buf (Elt Ideal) ((c.tc : Thread Cert.AdamMetaIdeal.nD Cert.AdamMetaIdeal.τ).loc Cert.AdamMetaIdeal.main_v1_2)) (v3 : (c : Dev Cert.AdamMetaIdeal.nD) → Buf (Elt Ideal) ((c.tc : Thread Cert.AdamMetaIdeal.nD Cert.AdamMetaIdeal.τ).loc Cert.AdamMetaIdeal.main_v1_3)),
      θ_run (Cert.AdamMetaIdeal.defs (F := Ideal)) (onTc (τ := Cert.AdamMetaIdeal.τ) (Cert.AdamMetaIdeal.main (F := Ideal))) ⟨m, fun _ => 0, g⟩ (fun r => ∀ c : Dev Cert.AdamMetaIdeal.nD,
          r.2.mem ((c.tc : Thread Cert.AdamMetaIdeal.nD Cert.AdamMetaIdeal.τ).loc Cert.AdamMetaIdeal.main_v1_0) = v0 c
          ∧ r.2.mem ((c.tc : Thread Cert.AdamMetaIdeal.nD Cert.AdamMetaIdeal.τ).loc Cert.AdamMetaIdeal.main_v1_1) = v1 c
          ∧ r.2.mem ((c.tc : Thread Cert.AdamMetaIdeal.nD Cert.AdamMetaIdeal.τ).loc Cert.AdamMetaIdeal.main_v1_2) = v2 c
          ∧ r.2.mem ((c.tc : Thread Cert.AdamMetaIdeal.nD Cert.AdamMetaIdeal.τ).loc Cert.AdamMetaIdeal.main_v1_3) = v3 c
          ∧ r.2.mem ((c.tc : Thread Cert.AdamMetaIdeal.nD Cert.AdamMetaIdeal.τ).loc Cert.AdamMetaIdeal.main_arg0) = m ((c.tc : Thread Cert.AdamMetaIdeal.nD Cert.AdamMetaIdeal.τ).loc Cert.AdamMetaIdeal.main_arg0)
          ∧ r.2.mem ((c.tc : Thread Cert.AdamMetaIdeal.nD Cert.AdamMetaIdeal.τ).loc Cert.AdamMetaIdeal.main_arg1) = m ((c.tc : Thread Cert.AdamMetaIdeal.nD Cert.AdamMetaIdeal.τ).loc Cert.AdamMetaIdeal.main_arg1)
          ∧ r.2.mem ((c.tc : Thread Cert.AdamMetaIdeal.nD Cert.AdamMetaIdeal.τ).loc Cert.AdamMetaIdeal.main_arg2) = m ((c.tc : Thread Cert.AdamMetaIdeal.nD Cert.AdamMetaIdeal.τ).loc Cert.AdamMetaIdeal.main_arg2)
          ∧ r.2.mem ((c.tc : Thread Cert.AdamMetaIdeal.nD Cert.AdamMetaIdeal.τ).loc Cert.AdamMetaIdeal.main_arg3) = m ((c.tc : Thread Cert.AdamMetaIdeal.nD Cert.AdamMetaIdeal.τ).loc Cert.AdamMetaIdeal.main_arg3))
      ∧ θ_run (Cert.AdamMetaRefIdeal.defs (F := Ideal)) (onTc (τ := Cert.AdamMetaRefIdeal.τ) (Cert.AdamMetaRefIdeal.main (F := Ideal))) ⟨m', fun _ => 0, g'⟩ (fun r => ∀ c : Dev Cert.AdamMetaRefIdeal.nD,
          r.2.mem ((c.tc : Thread Cert.AdamMetaRefIdeal.nD Cert.AdamMetaRefIdeal.τ).loc Cert.AdamMetaRefIdeal.main_arg0) = v0 c
          ∧ r.2.mem ((c.tc : Thread Cert.AdamMetaRefIdeal.nD Cert.AdamMetaRefIdeal.τ).loc Cert.AdamMetaRefIdeal.main_v23) = v1 c
          ∧ r.2.mem ((c.tc : Thread Cert.AdamMetaRefIdeal.nD Cert.AdamMetaRefIdeal.τ).loc Cert.AdamMetaRefIdeal.main_v4) = v2 c
          ∧ r.2.mem ((c.tc : Thread Cert.AdamMetaRefIdeal.nD Cert.AdamMetaRefIdeal.τ).loc Cert.AdamMetaRefIdeal.main_v10) = v3 c
          ∧ r.2.mem ((c.tc : Thread Cert.AdamMetaRefIdeal.nD Cert.AdamMetaRefIdeal.τ).loc Cert.AdamMetaRefIdeal.main_arg0) = m' ((c.tc : Thread Cert.AdamMetaRefIdeal.nD Cert.AdamMetaRefIdeal.τ).loc Cert.AdamMetaRefIdeal.main_arg0)
          ∧ r.2.mem ((c.tc : Thread Cert.AdamMetaRefIdeal.nD Cert.AdamMetaRefIdeal.τ).loc Cert.AdamMetaRefIdeal.main_arg1) = m' ((c.tc : Thread Cert.AdamMetaRefIdeal.nD Cert.AdamMetaRefIdeal.τ).loc Cert.AdamMetaRefIdeal.main_arg1)
          ∧ r.2.mem ((c.tc : Thread Cert.AdamMetaRefIdeal.nD Cert.AdamMetaRefIdeal.τ).loc Cert.AdamMetaRefIdeal.main_arg2) = m' ((c.tc : Thread Cert.AdamMetaRefIdeal.nD Cert.AdamMetaRefIdeal.τ).loc Cert.AdamMetaRefIdeal.main_arg2)
          ∧ r.2.mem ((c.tc : Thread Cert.AdamMetaRefIdeal.nD Cert.AdamMetaRefIdeal.τ).loc Cert.AdamMetaRefIdeal.main_arg3) = m' ((c.tc : Thread Cert.AdamMetaRefIdeal.nD Cert.AdamMetaRefIdeal.τ).loc Cert.AdamMetaRefIdeal.main_arg3))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v6_0)) (v1 : (c : Dev Cert.AdamGateIdeal.nD) → Buf (Elt Ideal) ((c.tc : Thread Cert.AdamGateIdeal.nD Cert.AdamGateIdeal.τ).loc Cert.AdamGateIdeal.main_v6_1)) (v2 : (c : Dev Cert.AdamGateIdeal.nD) → Buf (Elt Ideal) ((c.tc : Thread Cert.AdamGateIdeal.nD Cert.AdamGateIdeal.τ).loc Cert.AdamGateIdeal.main_v6_2)) (v3 : (c : Dev Cert.AdamGateIdeal.nD) → Buf (Elt Ideal) ((c.tc : Thread Cert.AdamGateIdeal.nD Cert.AdamGateIdeal.τ).loc Cert.AdamGateIdeal.main_v6_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v6_0) = v0 c
          ∧ r.2.mem ((c.tc : Thread Cert.AdamGateIdeal.nD Cert.AdamGateIdeal.τ).loc Cert.AdamGateIdeal.main_v6_1) = v1 c
          ∧ r.2.mem ((c.tc : Thread Cert.AdamGateIdeal.nD Cert.AdamGateIdeal.τ).loc Cert.AdamGateIdeal.main_v6_2) = v2 c
          ∧ r.2.mem ((c.tc : Thread Cert.AdamGateIdeal.nD Cert.AdamGateIdeal.τ).loc Cert.AdamGateIdeal.main_v6_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v32) = v0 c
          ∧ r.2.mem ((c.tc : Thread Cert.AdamGateRefIdeal.nD Cert.AdamGateRefIdeal.τ).loc Cert.AdamGateRefIdeal.main_v33) = v1 c
          ∧ r.2.mem ((c.tc : Thread Cert.AdamGateRefIdeal.nD Cert.AdamGateRefIdeal.τ).loc Cert.AdamGateRefIdeal.main_v34) = v2 c
          ∧ r.2.mem ((c.tc : Thread Cert.AdamGateRefIdeal.nD Cert.AdamGateRefIdeal.τ).loc Cert.AdamGateRefIdeal.main_v35) = v3 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v6_0)) (v1 : (c : Dev Cert.AdamUpIdeal.nD) → Buf (Elt Ideal) ((c.tc : Thread Cert.AdamUpIdeal.nD Cert.AdamUpIdeal.τ).loc Cert.AdamUpIdeal.main_v6_1)) (v2 : (c : Dev Cert.AdamUpIdeal.nD) → Buf (Elt Ideal) ((c.tc : Thread Cert.AdamUpIdeal.nD Cert.AdamUpIdeal.τ).loc Cert.AdamUpIdeal.main_v6_2)) (v3 : (c : Dev Cert.AdamUpIdeal.nD) → Buf (Elt Ideal) ((c.tc : Thread Cert.AdamUpIdeal.nD Cert.AdamUpIdeal.τ).loc Cert.AdamUpIdeal.main_v6_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v6_0) = v0 c
          ∧ r.2.mem ((c.tc : Thread Cert.AdamUpIdeal.nD Cert.AdamUpIdeal.τ).loc Cert.AdamUpIdeal.main_v6_1) = v1 c
          ∧ r.2.mem ((c.tc : Thread Cert.AdamUpIdeal.nD Cert.AdamUpIdeal.τ).loc Cert.AdamUpIdeal.main_v6_2) = v2 c
          ∧ r.2.mem ((c.tc : Thread Cert.AdamUpIdeal.nD Cert.AdamUpIdeal.τ).loc Cert.AdamUpIdeal.main_v6_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v32) = v0 c
          ∧ r.2.mem ((c.tc : Thread Cert.AdamUpRefIdeal.nD Cert.AdamUpRefIdeal.τ).loc Cert.AdamUpRefIdeal.main_v33) = v1 c
          ∧ r.2.mem ((c.tc : Thread Cert.AdamUpRefIdeal.nD Cert.AdamUpRefIdeal.τ).loc Cert.AdamUpRefIdeal.main_v34) = v2 c
          ∧ r.2.mem ((c.tc : Thread Cert.AdamUpRefIdeal.nD Cert.AdamUpRefIdeal.τ).loc Cert.AdamUpRefIdeal.main_v35) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v3_0)) (v1 : (c : Dev Cert.AdamDownIdeal.nD) → Buf (Elt Ideal) ((c.tc : Thread Cert.AdamDownIdeal.nD Cert.AdamDownIdeal.τ).loc Cert.AdamDownIdeal.main_v3_1)) (v2 : (c : Dev Cert.AdamDownIdeal.nD) → Buf (Elt Ideal) ((c.tc : Thread Cert.AdamDownIdeal.nD Cert.AdamDownIdeal.τ).loc Cert.AdamDownIdeal.main_v3_2)) (v3 : (c : Dev Cert.AdamDownIdeal.nD) → Buf (Elt Ideal) ((c.tc : Thread Cert.AdamDownIdeal.nD Cert.AdamDownIdeal.τ).loc Cert.AdamDownIdeal.main_v3_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v3_0) = v0 c
          ∧ r.2.mem ((c.tc : Thread Cert.AdamDownIdeal.nD Cert.AdamDownIdeal.τ).loc Cert.AdamDownIdeal.main_v3_1) = v1 c
          ∧ r.2.mem ((c.tc : Thread Cert.AdamDownIdeal.nD Cert.AdamDownIdeal.τ).loc Cert.AdamDownIdeal.main_v3_2) = v2 c
          ∧ r.2.mem ((c.tc : Thread Cert.AdamDownIdeal.nD Cert.AdamDownIdeal.τ).loc Cert.AdamDownIdeal.main_v3_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v4) = v0 c
          ∧ r.2.mem ((c.tc : Thread Cert.AdamDownRefIdeal.nD Cert.AdamDownRefIdeal.τ).loc Cert.AdamDownRefIdeal.main_v30) = v1 c
          ∧ r.2.mem ((c.tc : Thread Cert.AdamDownRefIdeal.nD Cert.AdamDownRefIdeal.τ).loc Cert.AdamDownRefIdeal.main_v11) = v2 c
          ∧ r.2.mem ((c.tc : Thread Cert.AdamDownRefIdeal.nD Cert.AdamDownRefIdeal.τ).loc Cert.AdamDownRefIdeal.main_v17) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)
      ∧ m' ((c.tc : Thread Cert.WgradRefIdeal.nD Cert.WgradRefIdeal.τ).loc Cert.WgradRefIdeal.main_arg2) = m ((c.tc : Thread Cert.WgradIdeal.nD Cert.WgradIdeal.τ).loc Cert.WgradIdeal.main_arg2)
      ∧ m' ((c.tc : Thread Cert.WgradRefIdeal.nD Cert.WgradRefIdeal.τ).loc Cert.WgradRefIdeal.main_arg3) = m ((c.tc : Thread Cert.WgradIdeal.nD Cert.WgradIdeal.τ).loc Cert.WgradIdeal.main_arg3)
      ∧ m' ((c.tc : Thread Cert.WgradRefIdeal.nD Cert.WgradRefIdeal.τ).loc Cert.WgradRefIdeal.main_arg4) = m ((c.tc : Thread Cert.WgradIdeal.nD Cert.WgradIdeal.τ).loc Cert.WgradIdeal.main_arg4)) →
    ∃ (v0 : (c : Dev Cert.WgradIdeal.nD) → Buf (Elt Ideal) ((c.tc : Thread Cert.WgradIdeal.nD Cert.WgradIdeal.τ).loc Cert.WgradIdeal.main_v12)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v12) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
          ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
          ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3)
          ∧ r.2.mem ((c.tc : Thread Cert.WgradIdeal.nD Cert.WgradIdeal.τ).loc Cert.WgradIdeal.main_arg4) = m ((c.tc : Thread Cert.WgradIdeal.nD Cert.WgradIdeal.τ).loc Cert.WgradIdeal.main_arg4))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v16) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1)
          ∧ r.2.mem ((c.tc : Thread Cert.WgradRefIdeal.nD Cert.WgradRefIdeal.τ).loc Cert.WgradRefIdeal.main_arg2) = m' ((c.tc : Thread Cert.WgradRefIdeal.nD Cert.WgradRefIdeal.τ).loc Cert.WgradRefIdeal.main_arg2)
          ∧ r.2.mem ((c.tc : Thread Cert.WgradRefIdeal.nD Cert.WgradRefIdeal.τ).loc Cert.WgradRefIdeal.main_arg3) = m' ((c.tc : Thread Cert.WgradRefIdeal.nD Cert.WgradRefIdeal.τ).loc Cert.WgradRefIdeal.main_arg3)
          ∧ r.2.mem ((c.tc : Thread Cert.WgradRefIdeal.nD Cert.WgradRefIdeal.τ).loc Cert.WgradRefIdeal.main_arg4) = m' ((c.tc : Thread Cert.WgradRefIdeal.nD Cert.WgradRefIdeal.τ).loc Cert.WgradRefIdeal.main_arg4))

def preserves_Sums_SumsIdeal : Prop :=
  True

def algebraic_SumsIdeal_SumsRefIdeal [hSumsIdeal : Cert.SumsIdeal.Facts] [hSumsRefIdeal : Cert.SumsRefIdeal.Facts] : Prop :=
  ∀ (m : (ℓ : Loc Cert.SumsIdeal.nD Cert.SumsIdeal.τ Cert.SumsIdeal.sig) → Buf (Elt Ideal) ℓ) (g : Dev Cert.SumsIdeal.nD → PrngReg)
    (m' : (ℓ : Loc Cert.SumsRefIdeal.nD Cert.SumsRefIdeal.τ Cert.SumsRefIdeal.sig) → Buf (Elt Ideal) ℓ) (g' : Dev Cert.SumsRefIdeal.nD → PrngReg), Pre_SumsIdeal m →
    (∀ c : Dev Cert.SumsIdeal.nD,
      m' ((c.tc : Thread Cert.SumsRefIdeal.nD Cert.SumsRefIdeal.τ).loc Cert.SumsRefIdeal.main_arg0) = m ((c.tc : Thread Cert.SumsIdeal.nD Cert.SumsIdeal.τ).loc Cert.SumsIdeal.main_arg0)
      ∧ m' ((c.tc : Thread Cert.SumsRefIdeal.nD Cert.SumsRefIdeal.τ).loc Cert.SumsRefIdeal.main_arg1) = m ((c.tc : Thread Cert.SumsIdeal.nD Cert.SumsIdeal.τ).loc Cert.SumsIdeal.main_arg1)
      ∧ m' ((c.tc : Thread Cert.SumsRefIdeal.nD Cert.SumsRefIdeal.τ).loc Cert.SumsRefIdeal.main_arg2) = m ((c.tc : Thread Cert.SumsIdeal.nD Cert.SumsIdeal.τ).loc Cert.SumsIdeal.main_arg2)
      ∧ m' ((c.tc : Thread Cert.SumsRefIdeal.nD Cert.SumsRefIdeal.τ).loc Cert.SumsRefIdeal.main_arg3) = m ((c.tc : Thread Cert.SumsIdeal.nD Cert.SumsIdeal.τ).loc Cert.SumsIdeal.main_arg3)
      ∧ m' ((c.tc : Thread Cert.SumsRefIdeal.nD Cert.SumsRefIdeal.τ).loc Cert.SumsRefIdeal.main_arg4) = m ((c.tc : Thread Cert.SumsIdeal.nD Cert.SumsIdeal.τ).loc Cert.SumsIdeal.main_arg4)
      ∧ m' ((c.tc : Thread Cert.SumsRefIdeal.nD Cert.SumsRefIdeal.τ).loc Cert.SumsRefIdeal.main_arg5) = m ((c.tc : Thread Cert.SumsIdeal.nD Cert.SumsIdeal.τ).loc Cert.SumsIdeal.main_arg5)
      ∧ m' ((c.tc : Thread Cert.SumsRefIdeal.nD Cert.SumsRefIdeal.τ).loc Cert.SumsRefIdeal.main_arg6) = m ((c.tc : Thread Cert.SumsIdeal.nD Cert.SumsIdeal.τ).loc Cert.SumsIdeal.main_arg6)
      ∧ m' ((c.tc : Thread Cert.SumsRefIdeal.nD Cert.SumsRefIdeal.τ).loc Cert.SumsRefIdeal.main_arg7) = m ((c.tc : Thread Cert.SumsIdeal.nD Cert.SumsIdeal.τ).loc Cert.SumsIdeal.main_arg7)
      ∧ m' ((c.tc : Thread Cert.SumsRefIdeal.nD Cert.SumsRefIdeal.τ).loc Cert.SumsRefIdeal.main_arg8) = m ((c.tc : Thread Cert.SumsIdeal.nD Cert.SumsIdeal.τ).loc Cert.SumsIdeal.main_arg8)
      ∧ m' ((c.tc : Thread Cert.SumsRefIdeal.nD Cert.SumsRefIdeal.τ).loc Cert.SumsRefIdeal.main_arg9) = m ((c.tc : Thread Cert.SumsIdeal.nD Cert.SumsIdeal.τ).loc Cert.SumsIdeal.main_arg9)
      ∧ m' ((c.tc : Thread Cert.SumsRefIdeal.nD Cert.SumsRefIdeal.τ).loc Cert.SumsRefIdeal.main_arg10) = m ((c.tc : Thread Cert.SumsIdeal.nD Cert.SumsIdeal.τ).loc Cert.SumsIdeal.main_arg10)
      ∧ m' ((c.tc : Thread Cert.SumsRefIdeal.nD Cert.SumsRefIdeal.τ).loc Cert.SumsRefIdeal.main_arg11) = m ((c.tc : Thread Cert.SumsIdeal.nD Cert.SumsIdeal.τ).loc Cert.SumsIdeal.main_arg11)
      ∧ m' ((c.tc : Thread Cert.SumsRefIdeal.nD Cert.SumsRefIdeal.τ).loc Cert.SumsRefIdeal.main_arg12) = m ((c.tc : Thread Cert.SumsIdeal.nD Cert.SumsIdeal.τ).loc Cert.SumsIdeal.main_arg12)
      ∧ m' ((c.tc : Thread Cert.SumsRefIdeal.nD Cert.SumsRefIdeal.τ).loc Cert.SumsRefIdeal.main_arg13) = m ((c.tc : Thread Cert.SumsIdeal.nD Cert.SumsIdeal.τ).loc Cert.SumsIdeal.main_arg13)
      ∧ m' ((c.tc : Thread Cert.SumsRefIdeal.nD Cert.SumsRefIdeal.τ).loc Cert.SumsRefIdeal.main_arg14) = m ((c.tc : Thread Cert.SumsIdeal.nD Cert.SumsIdeal.τ).loc Cert.SumsIdeal.main_arg14)
      ∧ m' ((c.tc : Thread Cert.SumsRefIdeal.nD Cert.SumsRefIdeal.τ).loc Cert.SumsRefIdeal.main_arg15) = m ((c.tc : Thread Cert.SumsIdeal.nD Cert.SumsIdeal.τ).loc Cert.SumsIdeal.main_arg15)
      ∧ m' ((c.tc : Thread Cert.SumsRefIdeal.nD Cert.SumsRefIdeal.τ).loc Cert.SumsRefIdeal.main_arg16) = m ((c.tc : Thread Cert.SumsIdeal.nD Cert.SumsIdeal.τ).loc Cert.SumsIdeal.main_arg16)
      ∧ m' ((c.tc : Thread Cert.SumsRefIdeal.nD Cert.SumsRefIdeal.τ).loc Cert.SumsRefIdeal.main_arg17) = m ((c.tc : Thread Cert.SumsIdeal.nD Cert.SumsIdeal.τ).loc Cert.SumsIdeal.main_arg17)
      ∧ m' ((c.tc : Thread Cert.SumsRefIdeal.nD Cert.SumsRefIdeal.τ).loc Cert.SumsRefIdeal.main_arg18) = m ((c.tc : Thread Cert.SumsIdeal.nD Cert.SumsIdeal.τ).loc Cert.SumsIdeal.main_arg18)) →
    ∃ (v0 : (c : Dev Cert.SumsIdeal.nD) → Buf (Elt Ideal) ((c.tc : Thread Cert.SumsIdeal.nD Cert.SumsIdeal.τ).loc Cert.SumsIdeal.main_v163)) (v1 : (c : Dev Cert.SumsIdeal.nD) → Buf (Elt Ideal) ((c.tc : Thread Cert.SumsIdeal.nD Cert.SumsIdeal.τ).loc Cert.SumsIdeal.main_v164)) (v2 : (c : Dev Cert.SumsIdeal.nD) → Buf (Elt Ideal) ((c.tc : Thread Cert.SumsIdeal.nD Cert.SumsIdeal.τ).loc Cert.SumsIdeal.main_v108)) (v3 : (c : Dev Cert.SumsIdeal.nD) → Buf (Elt Ideal) ((c.tc : Thread Cert.SumsIdeal.nD Cert.SumsIdeal.τ).loc Cert.SumsIdeal.main_v167)) (v4 : (c : Dev Cert.SumsIdeal.nD) → Buf (Elt Ideal) ((c.tc : Thread Cert.SumsIdeal.nD Cert.SumsIdeal.τ).loc Cert.SumsIdeal.main_v170)) (v5 : (c : Dev Cert.SumsIdeal.nD) → Buf (Elt Ideal) ((c.tc : Thread Cert.SumsIdeal.nD Cert.SumsIdeal.τ).loc Cert.SumsIdeal.main_v171)) (v6 : (c : Dev Cert.SumsIdeal.nD) → Buf (Elt Ideal) ((c.tc : Thread Cert.SumsIdeal.nD Cert.SumsIdeal.τ).loc Cert.SumsIdeal.main_v172)) (v7 : (c : Dev Cert.SumsIdeal.nD) → Buf (Elt Ideal) ((c.tc : Thread Cert.SumsIdeal.nD Cert.SumsIdeal.τ).loc Cert.SumsIdeal.main_v174)) (v8 : (c : Dev Cert.SumsIdeal.nD) → Buf (Elt Ideal) ((c.tc : Thread Cert.SumsIdeal.nD Cert.SumsIdeal.τ).loc Cert.SumsIdeal.main_v177)) (v9 : (c : Dev Cert.SumsIdeal.nD) → Buf (Elt Ideal) ((c.tc : Thread Cert.SumsIdeal.nD Cert.SumsIdeal.τ).loc Cert.SumsIdeal.main_v179)) (v10 : (c : Dev Cert.SumsIdeal.nD) → Buf (Elt Ideal) ((c.tc : Thread Cert.SumsIdeal.nD Cert.SumsIdeal.τ).loc Cert.SumsIdeal.main_v135)) (v11 : (c : Dev Cert.SumsIdeal.nD) → Buf (Elt Ideal) ((c.tc : Thread Cert.SumsIdeal.nD Cert.SumsIdeal.τ).loc Cert.SumsIdeal.main_v180)) (v12 : (c : Dev Cert.SumsIdeal.nD) → Buf (Elt Ideal) ((c.tc : Thread Cert.SumsIdeal.nD Cert.SumsIdeal.τ).loc Cert.SumsIdeal.main_v181)) (v13 : (c : Dev Cert.SumsIdeal.nD) → Buf (Elt Ideal) ((c.tc : Thread Cert.SumsIdeal.nD Cert.SumsIdeal.τ).loc Cert.SumsIdeal.main_v146)) (v14 : (c : Dev Cert.SumsIdeal.nD) → Buf (Elt Ideal) ((c.tc : Thread Cert.SumsIdeal.nD Cert.SumsIdeal.τ).loc Cert.SumsIdeal.main_v149)) (v15 : (c : Dev Cert.SumsIdeal.nD) → Buf (Elt Ideal) ((c.tc : Thread Cert.SumsIdeal.nD Cert.SumsIdeal.τ).loc Cert.SumsIdeal.main_v152)) (v16 : (c : Dev Cert.SumsIdeal.nD) → Buf (Elt Ideal) ((c.tc : Thread Cert.SumsIdeal.nD Cert.SumsIdeal.τ).loc Cert.SumsIdeal.main_v182)) (v17 : (c : Dev Cert.SumsIdeal.nD) → Buf (Elt Ideal) ((c.tc : Thread Cert.SumsIdeal.nD Cert.SumsIdeal.τ).loc Cert.SumsIdeal.main_v158)) (v18 : (c : Dev Cert.SumsIdeal.nD) → Buf (Elt Ideal) ((c.tc : Thread Cert.SumsIdeal.nD Cert.SumsIdeal.τ).loc Cert.SumsIdeal.main_v184)),
      θ_run (Cert.SumsIdeal.defs (F := Ideal)) (onTc (τ := Cert.SumsIdeal.τ) (Cert.SumsIdeal.main (F := Ideal))) ⟨m, fun _ => 0, g⟩ (fun r => ∀ c : Dev Cert.SumsIdeal.nD,
          r.2.mem ((c.tc : Thread Cert.SumsIdeal.nD Cert.SumsIdeal.τ).loc Cert.SumsIdeal.main_v163) = v0 c
          ∧ r.2.mem ((c.tc : Thread Cert.SumsIdeal.nD Cert.SumsIdeal.τ).loc Cert.SumsIdeal.main_v164) = v1 c
          ∧ r.2.mem ((c.tc : Thread Cert.SumsIdeal.nD Cert.SumsIdeal.τ).loc Cert.SumsIdeal.main_v108) = v2 c
          ∧ r.2.mem ((c.tc : Thread Cert.SumsIdeal.nD Cert.SumsIdeal.τ).loc Cert.SumsIdeal.main_v167) = v3 c
          ∧ r.2.mem ((c.tc : Thread Cert.SumsIdeal.nD Cert.SumsIdeal.τ).loc Cert.SumsIdeal.main_v170) = v4 c
          ∧ r.2.mem ((c.tc : Thread Cert.SumsIdeal.nD Cert.SumsIdeal.τ).loc Cert.SumsIdeal.main_v171) = v5 c
          ∧ r.2.mem ((c.tc : Thread Cert.SumsIdeal.nD Cert.SumsIdeal.τ).loc Cert.SumsIdeal.main_v172) = v6 c
          ∧ r.2.mem ((c.tc : Thread Cert.SumsIdeal.nD Cert.SumsIdeal.τ).loc Cert.SumsIdeal.main_v174) = v7 c
          ∧ r.2.mem ((c.tc : Thread Cert.SumsIdeal.nD Cert.SumsIdeal.τ).loc Cert.SumsIdeal.main_v177) = v8 c
          ∧ r.2.mem ((c.tc : Thread Cert.SumsIdeal.nD Cert.SumsIdeal.τ).loc Cert.SumsIdeal.main_v179) = v9 c
          ∧ r.2.mem ((c.tc : Thread Cert.SumsIdeal.nD Cert.SumsIdeal.τ).loc Cert.SumsIdeal.main_v135) = v10 c
          ∧ r.2.mem ((c.tc : Thread Cert.SumsIdeal.nD Cert.SumsIdeal.τ).loc Cert.SumsIdeal.main_v180) = v11 c
          ∧ r.2.mem ((c.tc : Thread Cert.SumsIdeal.nD Cert.SumsIdeal.τ).loc Cert.SumsIdeal.main_v181) = v12 c
          ∧ r.2.mem ((c.tc : Thread Cert.SumsIdeal.nD Cert.SumsIdeal.τ).loc Cert.SumsIdeal.main_v146) = v13 c
          ∧ r.2.mem ((c.tc : Thread Cert.SumsIdeal.nD Cert.SumsIdeal.τ).loc Cert.SumsIdeal.main_v149) = v14 c
          ∧ r.2.mem ((c.tc : Thread Cert.SumsIdeal.nD Cert.SumsIdeal.τ).loc Cert.SumsIdeal.main_v152) = v15 c
          ∧ r.2.mem ((c.tc : Thread Cert.SumsIdeal.nD Cert.SumsIdeal.τ).loc Cert.SumsIdeal.main_v182) = v16 c
          ∧ r.2.mem ((c.tc : Thread Cert.SumsIdeal.nD Cert.SumsIdeal.τ).loc Cert.SumsIdeal.main_v158) = v17 c
          ∧ r.2.mem ((c.tc : Thread Cert.SumsIdeal.nD Cert.SumsIdeal.τ).loc Cert.SumsIdeal.main_v184) = v18 c
          ∧ r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0)
          ∧ r.2.mem ((c.tc : Thread Cert.SumsIdeal.nD Cert.SumsIdeal.τ).loc Cert.SumsIdeal.main_arg1) = m ((c.tc : Thread Cert.SumsIdeal.nD Cert.SumsIdeal.τ).loc Cert.SumsIdeal.main_arg1)
          ∧ r.2.mem ((c.tc : Thread Cert.SumsIdeal.nD Cert.SumsIdeal.τ).loc Cert.SumsIdeal.main_arg2) = m ((c.tc : Thread Cert.SumsIdeal.nD Cert.SumsIdeal.τ).loc Cert.SumsIdeal.main_arg2)
          ∧ r.2.mem ((c.tc : Thread Cert.SumsIdeal.nD Cert.SumsIdeal.τ).loc Cert.SumsIdeal.main_arg3) = m ((c.tc : Thread Cert.SumsIdeal.nD Cert.SumsIdeal.τ).loc Cert.SumsIdeal.main_arg3)
          ∧ r.2.mem ((c.tc : Thread Cert.SumsIdeal.nD Cert.SumsIdeal.τ).loc Cert.SumsIdeal.main_arg4) = m ((c.tc : Thread Cert.SumsIdeal.nD Cert.SumsIdeal.τ).loc Cert.SumsIdeal.main_arg4)
          ∧ r.2.mem ((c.tc : Thread Cert.SumsIdeal.nD Cert.SumsIdeal.τ).loc Cert.SumsIdeal.main_arg5) = m ((c.tc : Thread Cert.SumsIdeal.nD Cert.SumsIdeal.τ).loc Cert.SumsIdeal.main_arg5)
          ∧ r.2.mem ((c.tc : Thread Cert.SumsIdeal.nD Cert.SumsIdeal.τ).loc Cert.SumsIdeal.main_arg6) = m ((c.tc : Thread Cert.SumsIdeal.nD Cert.SumsIdeal.τ).loc Cert.SumsIdeal.main_arg6)
          ∧ r.2.mem ((c.tc : Thread Cert.SumsIdeal.nD Cert.SumsIdeal.τ).loc Cert.SumsIdeal.main_arg7) = m ((c.tc : Thread Cert.SumsIdeal.nD Cert.SumsIdeal.τ).loc Cert.SumsIdeal.main_arg7)
          ∧ r.2.mem ((c.tc : Thread Cert.SumsIdeal.nD Cert.SumsIdeal.τ).loc Cert.SumsIdeal.main_arg8) = m ((c.tc : Thread Cert.SumsIdeal.nD Cert.SumsIdeal.τ).loc Cert.SumsIdeal.main_arg8)
          ∧ r.2.mem ((c.tc : Thread Cert.SumsIdeal.nD Cert.SumsIdeal.τ).loc Cert.SumsIdeal.main_arg9) = m ((c.tc : Thread Cert.SumsIdeal.nD Cert.SumsIdeal.τ).loc Cert.SumsIdeal.main_arg9)
          ∧ r.2.mem ((c.tc : Thread Cert.SumsIdeal.nD Cert.SumsIdeal.τ).loc Cert.SumsIdeal.main_arg10) = m ((c.tc : Thread Cert.SumsIdeal.nD Cert.SumsIdeal.τ).loc Cert.SumsIdeal.main_arg10)
          ∧ r.2.mem ((c.tc : Thread Cert.SumsIdeal.nD Cert.SumsIdeal.τ).loc Cert.SumsIdeal.main_arg11) = m ((c.tc : Thread Cert.SumsIdeal.nD Cert.SumsIdeal.τ).loc Cert.SumsIdeal.main_arg11)
          ∧ r.2.mem ((c.tc : Thread Cert.SumsIdeal.nD Cert.SumsIdeal.τ).loc Cert.SumsIdeal.main_arg12) = m ((c.tc : Thread Cert.SumsIdeal.nD Cert.SumsIdeal.τ).loc Cert.SumsIdeal.main_arg12)
          ∧ r.2.mem ((c.tc : Thread Cert.SumsIdeal.nD Cert.SumsIdeal.τ).loc Cert.SumsIdeal.main_arg13) = m ((c.tc : Thread Cert.SumsIdeal.nD Cert.SumsIdeal.τ).loc Cert.SumsIdeal.main_arg13)
          ∧ r.2.mem ((c.tc : Thread Cert.SumsIdeal.nD Cert.SumsIdeal.τ).loc Cert.SumsIdeal.main_arg14) = m ((c.tc : Thread Cert.SumsIdeal.nD Cert.SumsIdeal.τ).loc Cert.SumsIdeal.main_arg14)
          ∧ r.2.mem ((c.tc : Thread Cert.SumsIdeal.nD Cert.SumsIdeal.τ).loc Cert.SumsIdeal.main_arg15) = m ((c.tc : Thread Cert.SumsIdeal.nD Cert.SumsIdeal.τ).loc Cert.SumsIdeal.main_arg15)
          ∧ r.2.mem ((c.tc : Thread Cert.SumsIdeal.nD Cert.SumsIdeal.τ).loc Cert.SumsIdeal.main_arg16) = m ((c.tc : Thread Cert.SumsIdeal.nD Cert.SumsIdeal.τ).loc Cert.SumsIdeal.main_arg16)
          ∧ r.2.mem ((c.tc : Thread Cert.SumsIdeal.nD Cert.SumsIdeal.τ).loc Cert.SumsIdeal.main_arg17) = m ((c.tc : Thread Cert.SumsIdeal.nD Cert.SumsIdeal.τ).loc Cert.SumsIdeal.main_arg17)
          ∧ r.2.mem ((c.tc : Thread Cert.SumsIdeal.nD Cert.SumsIdeal.τ).loc Cert.SumsIdeal.main_arg18) = m ((c.tc : Thread Cert.SumsIdeal.nD Cert.SumsIdeal.τ).loc Cert.SumsIdeal.main_arg18))
      ∧ θ_run (Cert.SumsRefIdeal.defs (F := Ideal)) (onTc (τ := Cert.SumsRefIdeal.τ) (Cert.SumsRefIdeal.main (F := Ideal))) ⟨m', fun _ => 0, g'⟩ (fun r => ∀ c : Dev Cert.SumsRefIdeal.nD,
          r.2.mem ((c.tc : Thread Cert.SumsRefIdeal.nD Cert.SumsRefIdeal.τ).loc Cert.SumsRefIdeal.main_v0) = v0 c
          ∧ r.2.mem ((c.tc : Thread Cert.SumsRefIdeal.nD Cert.SumsRefIdeal.τ).loc Cert.SumsRefIdeal.main_v1) = v1 c
          ∧ r.2.mem ((c.tc : Thread Cert.SumsRefIdeal.nD Cert.SumsRefIdeal.τ).loc Cert.SumsRefIdeal.main_v2) = v2 c
          ∧ r.2.mem ((c.tc : Thread Cert.SumsRefIdeal.nD Cert.SumsRefIdeal.τ).loc Cert.SumsRefIdeal.main_v3) = v3 c
          ∧ r.2.mem ((c.tc : Thread Cert.SumsRefIdeal.nD Cert.SumsRefIdeal.τ).loc Cert.SumsRefIdeal.main_v4) = v4 c
          ∧ r.2.mem ((c.tc : Thread Cert.SumsRefIdeal.nD Cert.SumsRefIdeal.τ).loc Cert.SumsRefIdeal.main_v5) = v5 c
          ∧ r.2.mem ((c.tc : Thread Cert.SumsRefIdeal.nD Cert.SumsRefIdeal.τ).loc Cert.SumsRefIdeal.main_v6) = v6 c
          ∧ r.2.mem ((c.tc : Thread Cert.SumsRefIdeal.nD Cert.SumsRefIdeal.τ).loc Cert.SumsRefIdeal.main_v7) = v7 c
          ∧ r.2.mem ((c.tc : Thread Cert.SumsRefIdeal.nD Cert.SumsRefIdeal.τ).loc Cert.SumsRefIdeal.main_v8) = v8 c
          ∧ r.2.mem ((c.tc : Thread Cert.SumsRefIdeal.nD Cert.SumsRefIdeal.τ).loc Cert.SumsRefIdeal.main_v9) = v9 c
          ∧ r.2.mem ((c.tc : Thread Cert.SumsRefIdeal.nD Cert.SumsRefIdeal.τ).loc Cert.SumsRefIdeal.main_v10) = v10 c
          ∧ r.2.mem ((c.tc : Thread Cert.SumsRefIdeal.nD Cert.SumsRefIdeal.τ).loc Cert.SumsRefIdeal.main_v11) = v11 c
          ∧ r.2.mem ((c.tc : Thread Cert.SumsRefIdeal.nD Cert.SumsRefIdeal.τ).loc Cert.SumsRefIdeal.main_v12) = v12 c
          ∧ r.2.mem ((c.tc : Thread Cert.SumsRefIdeal.nD Cert.SumsRefIdeal.τ).loc Cert.SumsRefIdeal.main_v13) = v13 c
          ∧ r.2.mem ((c.tc : Thread Cert.SumsRefIdeal.nD Cert.SumsRefIdeal.τ).loc Cert.SumsRefIdeal.main_v14) = v14 c
          ∧ r.2.mem ((c.tc : Thread Cert.SumsRefIdeal.nD Cert.SumsRefIdeal.τ).loc Cert.SumsRefIdeal.main_v15) = v15 c
          ∧ r.2.mem ((c.tc : Thread Cert.SumsRefIdeal.nD Cert.SumsRefIdeal.τ).loc Cert.SumsRefIdeal.main_v16) = v16 c
          ∧ r.2.mem ((c.tc : Thread Cert.SumsRefIdeal.nD Cert.SumsRefIdeal.τ).loc Cert.SumsRefIdeal.main_v17) = v17 c
          ∧ r.2.mem ((c.tc : Thread Cert.SumsRefIdeal.nD Cert.SumsRefIdeal.τ).loc Cert.SumsRefIdeal.main_v20) = v18 c
          ∧ r.2.mem ((c.tc : Thread Cert.SumsRefIdeal.nD Cert.SumsRefIdeal.τ).loc Cert.SumsRefIdeal.main_arg0) = m' ((c.tc : Thread Cert.SumsRefIdeal.nD Cert.SumsRefIdeal.τ).loc Cert.SumsRefIdeal.main_arg0)
          ∧ r.2.mem ((c.tc : Thread Cert.SumsRefIdeal.nD Cert.SumsRefIdeal.τ).loc Cert.SumsRefIdeal.main_arg1) = m' ((c.tc : Thread Cert.SumsRefIdeal.nD Cert.SumsRefIdeal.τ).loc Cert.SumsRefIdeal.main_arg1)
          ∧ r.2.mem ((c.tc : Thread Cert.SumsRefIdeal.nD Cert.SumsRefIdeal.τ).loc Cert.SumsRefIdeal.main_arg2) = m' ((c.tc : Thread Cert.SumsRefIdeal.nD Cert.SumsRefIdeal.τ).loc Cert.SumsRefIdeal.main_arg2)
          ∧ r.2.mem ((c.tc : Thread Cert.SumsRefIdeal.nD Cert.SumsRefIdeal.τ).loc Cert.SumsRefIdeal.main_arg3) = m' ((c.tc : Thread Cert.SumsRefIdeal.nD Cert.SumsRefIdeal.τ).loc Cert.SumsRefIdeal.main_arg3)
          ∧ r.2.mem ((c.tc : Thread Cert.SumsRefIdeal.nD Cert.SumsRefIdeal.τ).loc Cert.SumsRefIdeal.main_arg4) = m' ((c.tc : Thread Cert.SumsRefIdeal.nD Cert.SumsRefIdeal.τ).loc Cert.SumsRefIdeal.main_arg4)
          ∧ r.2.mem ((c.tc : Thread Cert.SumsRefIdeal.nD Cert.SumsRefIdeal.τ).loc Cert.SumsRefIdeal.main_arg5) = m' ((c.tc : Thread Cert.SumsRefIdeal.nD Cert.SumsRefIdeal.τ).loc Cert.SumsRefIdeal.main_arg5)
          ∧ r.2.mem ((c.tc : Thread Cert.SumsRefIdeal.nD Cert.SumsRefIdeal.τ).loc Cert.SumsRefIdeal.main_arg6) = m' ((c.tc : Thread Cert.SumsRefIdeal.nD Cert.SumsRefIdeal.τ).loc Cert.SumsRefIdeal.main_arg6)
          ∧ r.2.mem ((c.tc : Thread Cert.SumsRefIdeal.nD Cert.SumsRefIdeal.τ).loc Cert.SumsRefIdeal.main_arg7) = m' ((c.tc : Thread Cert.SumsRefIdeal.nD Cert.SumsRefIdeal.τ).loc Cert.SumsRefIdeal.main_arg7)
          ∧ r.2.mem ((c.tc : Thread Cert.SumsRefIdeal.nD Cert.SumsRefIdeal.τ).loc Cert.SumsRefIdeal.main_arg8) = m' ((c.tc : Thread Cert.SumsRefIdeal.nD Cert.SumsRefIdeal.τ).loc Cert.SumsRefIdeal.main_arg8)
          ∧ r.2.mem ((c.tc : Thread Cert.SumsRefIdeal.nD Cert.SumsRefIdeal.τ).loc Cert.SumsRefIdeal.main_arg9) = m' ((c.tc : Thread Cert.SumsRefIdeal.nD Cert.SumsRefIdeal.τ).loc Cert.SumsRefIdeal.main_arg9)
          ∧ r.2.mem ((c.tc : Thread Cert.SumsRefIdeal.nD Cert.SumsRefIdeal.τ).loc Cert.SumsRefIdeal.main_arg10) = m' ((c.tc : Thread Cert.SumsRefIdeal.nD Cert.SumsRefIdeal.τ).loc Cert.SumsRefIdeal.main_arg10)
          ∧ r.2.mem ((c.tc : Thread Cert.SumsRefIdeal.nD Cert.SumsRefIdeal.τ).loc Cert.SumsRefIdeal.main_arg11) = m' ((c.tc : Thread Cert.SumsRefIdeal.nD Cert.SumsRefIdeal.τ).loc Cert.SumsRefIdeal.main_arg11)
          ∧ r.2.mem ((c.tc : Thread Cert.SumsRefIdeal.nD Cert.SumsRefIdeal.τ).loc Cert.SumsRefIdeal.main_arg12) = m' ((c.tc : Thread Cert.SumsRefIdeal.nD Cert.SumsRefIdeal.τ).loc Cert.SumsRefIdeal.main_arg12)
          ∧ r.2.mem ((c.tc : Thread Cert.SumsRefIdeal.nD Cert.SumsRefIdeal.τ).loc Cert.SumsRefIdeal.main_arg13) = m' ((c.tc : Thread Cert.SumsRefIdeal.nD Cert.SumsRefIdeal.τ).loc Cert.SumsRefIdeal.main_arg13)
          ∧ r.2.mem ((c.tc : Thread Cert.SumsRefIdeal.nD Cert.SumsRefIdeal.τ).loc Cert.SumsRefIdeal.main_arg14) = m' ((c.tc : Thread Cert.SumsRefIdeal.nD Cert.SumsRefIdeal.τ).loc Cert.SumsRefIdeal.main_arg14)
          ∧ r.2.mem ((c.tc : Thread Cert.SumsRefIdeal.nD Cert.SumsRefIdeal.τ).loc Cert.SumsRefIdeal.main_arg15) = m' ((c.tc : Thread Cert.SumsRefIdeal.nD Cert.SumsRefIdeal.τ).loc Cert.SumsRefIdeal.main_arg15)
          ∧ r.2.mem ((c.tc : Thread Cert.SumsRefIdeal.nD Cert.SumsRefIdeal.τ).loc Cert.SumsRefIdeal.main_arg16) = m' ((c.tc : Thread Cert.SumsRefIdeal.nD Cert.SumsRefIdeal.τ).loc Cert.SumsRefIdeal.main_arg16)
          ∧ r.2.mem ((c.tc : Thread Cert.SumsRefIdeal.nD Cert.SumsRefIdeal.τ).loc Cert.SumsRefIdeal.main_arg17) = m' ((c.tc : Thread Cert.SumsRefIdeal.nD Cert.SumsRefIdeal.τ).loc Cert.SumsRefIdeal.main_arg17)
          ∧ r.2.mem ((c.tc : Thread Cert.SumsRefIdeal.nD Cert.SumsRefIdeal.τ).loc Cert.SumsRefIdeal.main_arg18) = m' ((c.tc : Thread Cert.SumsRefIdeal.nD Cert.SumsRefIdeal.τ).loc Cert.SumsRefIdeal.main_arg18))

def Claim : Prop :=
  ∃ (hDiscB : Cert.DiscB.Facts) (hDiscBIdeal : Cert.DiscBIdeal.Facts) (hDiscBRefIdeal : Cert.DiscBRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hPool : Cert.Pool.Facts) (hPoolIdeal : Cert.PoolIdeal.Facts) (hPoolRefIdeal : Cert.PoolRefIdeal.Facts) (hFfn : Cert.Ffn.Facts) (hFfnIdeal : Cert.FfnIdeal.Facts) (hFfnRefIdeal : Cert.FfnRefIdeal.Facts) (hDiscA : Cert.DiscA.Facts) (hDiscAIdeal : Cert.DiscAIdeal.Facts) (hDiscARefIdeal : Cert.DiscARefIdeal.Facts) (hDiscAFwd : Cert.DiscAFwd.Facts) (hDiscAFwdIdeal : Cert.DiscAFwdIdeal.Facts) (hDiscAFwdRefIdeal : Cert.DiscAFwdRefIdeal.Facts) (hDiscBFwd : Cert.DiscBFwd.Facts) (hDiscBFwdIdeal : Cert.DiscBFwdIdeal.Facts) (hDiscBFwdRefIdeal : Cert.DiscBFwdRefIdeal.Facts) (hInProjFwd : Cert.InProjFwd.Facts) (hInProjFwdIdeal : Cert.InProjFwdIdeal.Facts) (hInProjFwdRefIdeal : Cert.InProjFwdRefIdeal.Facts) (hOutProjFwd : Cert.OutProjFwd.Facts) (hOutProjFwdIdeal : Cert.OutProjFwdIdeal.Facts) (hOutProjFwdRefIdeal : Cert.OutProjFwdRefIdeal.Facts) (hFfnFwd : Cert.FfnFwd.Facts) (hFfnFwdIdeal : Cert.FfnFwdIdeal.Facts) (hFfnFwdRefIdeal : Cert.FfnFwdRefIdeal.Facts) (hPoolFwd : Cert.PoolFwd.Facts) (hPoolFwdIdeal : Cert.PoolFwdIdeal.Facts) (hPoolFwdRefIdeal : Cert.PoolFwdRefIdeal.Facts) (hAdamRows : Cert.AdamRows.Facts) (hAdamRowsIdeal : Cert.AdamRowsIdeal.Facts) (hAdamRowsRefIdeal : Cert.AdamRowsRefIdeal.Facts) (hAdamMeta : Cert.AdamMeta.Facts) (hAdamMetaIdeal : Cert.AdamMetaIdeal.Facts) (hAdamMetaRefIdeal : Cert.AdamMetaRefIdeal.Facts) (hAdamGate : Cert.AdamGate.Facts) (hAdamGateIdeal : Cert.AdamGateIdeal.Facts) (hAdamGateRefIdeal : Cert.AdamGateRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hWgrad : Cert.Wgrad.Facts) (hWgradIdeal : Cert.WgradIdeal.Facts) (hWgradRefIdeal : Cert.WgradRefIdeal.Facts) (hSums : Cert.Sums.Facts) (hSumsIdeal : Cert.SumsIdeal.Facts) (hSumsRefIdeal : Cert.SumsRefIdeal.Facts) (hPre_out_proj_finite : Cert.Pre_out_proj_finite.Facts) (hPre_in_proj_finite : Cert.Pre_in_proj_finite.Facts) (hPre_pool_finite : Cert.Pre_pool_finite.Facts) (hPre_ffn_finite : Cert.Pre_ffn_finite.Facts) (hPre_pool_fwd_finite : Cert.Pre_pool_fwd_finite.Facts) (hOn_sequence_rows : Cert.On_sequence_rows.Facts),
    quiescent_DiscB (hDiscB := hDiscB)
    ∧ quiescent_DiscBIdeal (hDiscBIdeal := hDiscBIdeal)
    ∧ quiescent_DiscBRefIdeal (hDiscBRefIdeal := hDiscBRefIdeal)
    ∧ quiescent_OutProj (hOutProj := hOutProj)
    ∧ quiescent_OutProjIdeal (hOutProjIdeal := hOutProjIdeal)
    ∧ quiescent_OutProjIdeal_pre_out_proj_finite (hOutProjIdeal := hOutProjIdeal) (hPre_out_proj_finite := hPre_out_proj_finite)
    ∧ quiescent_OutProjRefIdeal (hOutProjRefIdeal := hOutProjRefIdeal)
    ∧ quiescent_OutProjRefIdeal_pre_out_proj_finite (hOutProjRefIdeal := hOutProjRefIdeal) (hPre_out_proj_finite := hPre_out_proj_finite)
    ∧ quiescent_InProj (hInProj := hInProj)
    ∧ quiescent_InProjIdeal (hInProjIdeal := hInProjIdeal)
    ∧ quiescent_InProjIdeal_pre_in_proj_finite (hInProjIdeal := hInProjIdeal) (hPre_in_proj_finite := hPre_in_proj_finite)
    ∧ quiescent_InProjRefIdeal (hInProjRefIdeal := hInProjRefIdeal)
    ∧ quiescent_InProjRefIdeal_pre_in_proj_finite (hInProjRefIdeal := hInProjRefIdeal) (hPre_in_proj_finite := hPre_in_proj_finite)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_DiscA (hDiscA := hDiscA)
    ∧ quiescent_DiscAIdeal (hDiscAIdeal := hDiscAIdeal)
    ∧ quiescent_DiscARefIdeal (hDiscARefIdeal := hDiscARefIdeal)
    ∧ quiescent_DiscAFwd (hDiscAFwd := hDiscAFwd)
    ∧ quiescent_DiscAFwdIdeal (hDiscAFwdIdeal := hDiscAFwdIdeal)
    ∧ quiescent_DiscAFwdRefIdeal (hDiscAFwdRefIdeal := hDiscAFwdRefIdeal)
    ∧ quiescent_DiscBFwd (hDiscBFwd := hDiscBFwd)
    ∧ quiescent_DiscBFwdIdeal (hDiscBFwdIdeal := hDiscBFwdIdeal)
    ∧ quiescent_DiscBFwdRefIdeal (hDiscBFwdRefIdeal := hDiscBFwdRefIdeal)
    ∧ quiescent_InProjFwd (hInProjFwd := hInProjFwd)
    ∧ quiescent_InProjFwdIdeal (hInProjFwdIdeal := hInProjFwdIdeal)
    ∧ quiescent_InProjFwdRefIdeal (hInProjFwdRefIdeal := hInProjFwdRefIdeal)
    ∧ quiescent_OutProjFwd (hOutProjFwd := hOutProjFwd)
    ∧ quiescent_OutProjFwdIdeal (hOutProjFwdIdeal := hOutProjFwdIdeal)
    ∧ quiescent_OutProjFwdRefIdeal (hOutProjFwdRefIdeal := hOutProjFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_PoolFwd (hPoolFwd := hPoolFwd)
    ∧ quiescent_PoolFwdIdeal (hPoolFwdIdeal := hPoolFwdIdeal)
    ∧ quiescent_PoolFwdIdeal_pre_pool_fwd_finite (hPoolFwdIdeal := hPoolFwdIdeal) (hPre_pool_fwd_finite := hPre_pool_fwd_finite)
    ∧ quiescent_PoolFwdRefIdeal (hPoolFwdRefIdeal := hPoolFwdRefIdeal)
    ∧ quiescent_PoolFwdRefIdeal_pre_pool_fwd_finite (hPoolFwdRefIdeal := hPoolFwdRefIdeal) (hPre_pool_fwd_finite := hPre_pool_fwd_finite)
    ∧ quiescent_AdamRows (hAdamRows := hAdamRows)
    ∧ quiescent_AdamRowsIdeal (hAdamRowsIdeal := hAdamRowsIdeal)
    ∧ quiescent_AdamRowsRefIdeal (hAdamRowsRefIdeal := hAdamRowsRefIdeal)
    ∧ quiescent_AdamMeta (hAdamMeta := hAdamMeta)
    ∧ quiescent_AdamMetaIdeal (hAdamMetaIdeal := hAdamMetaIdeal)
    ∧ quiescent_AdamMetaRefIdeal (hAdamMetaRefIdeal := hAdamMetaRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_Wgrad (hWgrad := hWgrad)
    ∧ quiescent_WgradIdeal (hWgradIdeal := hWgradIdeal)
    ∧ quiescent_WgradRefIdeal (hWgradRefIdeal := hWgradRefIdeal)
    ∧ quiescent_Sums (hSums := hSums)
    ∧ quiescent_SumsIdeal (hSumsIdeal := hSumsIdeal)
    ∧ quiescent_SumsRefIdeal (hSumsRefIdeal := hSumsRefIdeal)
    ∧ preserves_DiscB_DiscBIdeal
    ∧ algebraic_DiscBIdeal_DiscBRefIdeal (hDiscBIdeal := hDiscBIdeal) (hDiscBRefIdeal := hDiscBRefIdeal)
    ∧ preserves_OutProj_OutProjIdeal
    ∧ algebraic_OutProjIdeal_OutProjRefIdeal_pre_out_proj_finite (hOutProjIdeal := hOutProjIdeal) (hOutProjRefIdeal := hOutProjRefIdeal) (hPre_out_proj_finite := hPre_out_proj_finite)
    ∧ preserves_InProj_InProjIdeal
    ∧ algebraic_InProjIdeal_InProjRefIdeal_pre_in_proj_finite (hInProjIdeal := hInProjIdeal) (hInProjRefIdeal := hInProjRefIdeal) (hPre_in_proj_finite := hPre_in_proj_finite)
    ∧ preserves_Pool_PoolIdeal
    ∧ algebraic_PoolIdeal_PoolRefIdeal_on_sequence_rows_pre_pool_finite (hPoolIdeal := hPoolIdeal) (hPoolRefIdeal := hPoolRefIdeal) (hPre_pool_finite := hPre_pool_finite) (hOn_sequence_rows := hOn_sequence_rows)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_DiscA_DiscAIdeal
    ∧ algebraic_DiscAIdeal_DiscARefIdeal (hDiscAIdeal := hDiscAIdeal) (hDiscARefIdeal := hDiscARefIdeal)
    ∧ preserves_DiscAFwd_DiscAFwdIdeal
    ∧ algebraic_DiscAFwdIdeal_DiscAFwdRefIdeal (hDiscAFwdIdeal := hDiscAFwdIdeal) (hDiscAFwdRefIdeal := hDiscAFwdRefIdeal)
    ∧ preserves_DiscBFwd_DiscBFwdIdeal
    ∧ algebraic_DiscBFwdIdeal_DiscBFwdRefIdeal (hDiscBFwdIdeal := hDiscBFwdIdeal) (hDiscBFwdRefIdeal := hDiscBFwdRefIdeal)
    ∧ preserves_InProjFwd_InProjFwdIdeal
    ∧ algebraic_InProjFwdIdeal_InProjFwdRefIdeal (hInProjFwdIdeal := hInProjFwdIdeal) (hInProjFwdRefIdeal := hInProjFwdRefIdeal)
    ∧ preserves_OutProjFwd_OutProjFwdIdeal
    ∧ algebraic_OutProjFwdIdeal_OutProjFwdRefIdeal (hOutProjFwdIdeal := hOutProjFwdIdeal) (hOutProjFwdRefIdeal := hOutProjFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_PoolFwd_PoolFwdIdeal
    ∧ algebraic_PoolFwdIdeal_PoolFwdRefIdeal_pre_pool_fwd_finite (hPoolFwdIdeal := hPoolFwdIdeal) (hPoolFwdRefIdeal := hPoolFwdRefIdeal) (hPre_pool_fwd_finite := hPre_pool_fwd_finite)
    ∧ preserves_AdamRows_AdamRowsIdeal
    ∧ algebraic_AdamRowsIdeal_AdamRowsRefIdeal (hAdamRowsIdeal := hAdamRowsIdeal) (hAdamRowsRefIdeal := hAdamRowsRefIdeal)
    ∧ preserves_AdamMeta_AdamMetaIdeal
    ∧ algebraic_AdamMetaIdeal_AdamMetaRefIdeal (hAdamMetaIdeal := hAdamMetaIdeal) (hAdamMetaRefIdeal := hAdamMetaRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_Wgrad_WgradIdeal
    ∧ algebraic_WgradIdeal_WgradRefIdeal (hWgradIdeal := hWgradIdeal) (hWgradRefIdeal := hWgradRefIdeal)
    ∧ preserves_Sums_SumsIdeal
    ∧ algebraic_SumsIdeal_SumsRefIdeal (hSumsIdeal := hSumsIdeal) (hSumsRefIdeal := hSumsRefIdeal)
-- ==== On_sequence_rows.lean ====
abbrev S4112x512 : Shape := ⟨2, ![4112, 512]⟩
abbrev S1x4x128x128 : Shape := ⟨4, ![1, 4, 128, 128]⟩
abbrev S1x4x128 : Shape := ⟨3, ![1, 4, 128]⟩
abbrev S4352 : Shape := ⟨1, ![4352]⟩
abbrev S4352x1 : Shape := ⟨2, ![4352, 1]⟩
abbrev S_ : Shape := ⟨0, ![]⟩
abbrev S4352x512 : Shape := ⟨2, ![4352, 512]⟩
abbrev S4x128x128 : Shape := ⟨3, ![4, 128, 128]⟩
abbrev S4x1x128 : Shape := ⟨3, ![4, 1, 128]⟩

class Facts : Prop where
  bcast_S4352_S4352x1_0 : S4352.BroadcastsInDim S4352x1 (![0] : Fin 1 → Fin S4352x1.rank)
  bcast_S_S4352x1 : S_.BroadcastsInDim S4352x1 (![] : Fin 0 → Fin S4352x1.rank)
  bcast_S4352x1_S4352x512_0_1 : S4352x1.BroadcastsInDim S4352x512 (![0, 1] : Fin 2 → Fin S4352x512.rank)
  bcast_S_S4x128x128 : S_.BroadcastsInDim S4x128x128 (![] : Fin 0 → Fin S4x128x128.rank)
  bcast_S_S4x1x128 : S_.BroadcastsInDim S4x1x128 (![] : Fin 0 → Fin S4x1x128.rank)

variable [Facts]

def fn {F : FTy → Type} [FloatOps F] (main_arg0 : FVec F S4112x512 .f32) (main_arg1 : FVec F S4112x512 .f32) (main_arg2 : FVec F S1x4x128x128 .f32) (main_arg3 : FVec F S1x4x128 .f32) : IVec S4352x512 1 × IVec S4x128x128 1 × IVec S4x1x128 1 :=
  let main_v0 : IVec S4352 32 := iotaInDim S4352 32 0
  let main_v1 : IVec S4352x1 32 := broadcastInDim S4352x1 ![0] bcast_S4352_S4352x1_0 main_v0
  let main_c : IVec S_ 32 := constantI S_ 32 240#32
  let main_v2 : IVec S4352x1 32 := broadcastInDim S4352x1 ![] bcast_S_S4352x1 main_c
  let main_v3 : IVec S4352x1 1 := cmpi .sge main_v1 main_v2
  let main_v4 : IVec S4352x512 1 := broadcastInDim S4352x512 ![0, 1] bcast_S4352x1_S4352x512_0_1 main_v3
  let main_c_0 : IVec S_ 1 := constantI S_ 1 1#1
  let main_v5 : IVec S4x128x128 1 := broadcastInDim S4x128x128 ![] bcast_S_S4x128x128 main_c_0
  let main_c_1 : IVec S_ 1 := constantI S_ 1 1#1
  let main_v6 : IVec S4x1x128 1 := broadcastInDim S4x1x128 ![] bcast_S_S4x1x128 main_c_1
  (main_v4, main_v5, main_v6)
-- ==== Pre_ffn_finite.lean ====
abbrev S4112x1024 : Shape := ⟨2, ![4112, 1024]⟩
abbrev S4096x1024 : Shape := ⟨2, ![4096, 1024]⟩
abbrev S1024 : Shape := ⟨1, ![1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S4112x1024 : S_.BroadcastsInDim S4112x1024 (![] : Fin 0 → Fin S4112x1024.rank)
  reducesTo_S4112x1024_S_d0_1 : S4112x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part2 {F : FTy → Type} [FloatOps F] (main_v29 : IVec S_ 1) (main_v32 : IVec S1x2816x1024 1) (main_c_12 : IVec S_ 1) : IVec S_ 1 :=
  let main_v33 : IVec S_ 1 := (fun x v => Host.reduce IntOp.andi x v reducesTo_S1x2816x1024_S_d0_1_2 h_S_) main_v32 main_c_12
  let main_v34 : IVec S_ 1 := andi main_v29 main_v33
  main_v34

def fn_part1 {F : FTy → Type} [FloatOps F] (main_arg4 : FVec F S1x1024x2816 .f32) (main_arg5 : FVec F S1x1024x2816 .f32) (main_arg6 : FVec F S1x2816x1024 .f32) (main_v14 : IVec S_ 1) (main_v15 : FVec F S1x1024 .f32) (main_cst_5 : FVec F S_ .f32) : IVec S_ 1 :=
  let main_v16 : FVec F S1x1024 .f32 := broadcastInDim S1x1024 ![] bcast_S_S1x1024 main_cst_5
  let main_v17 : IVec S1x1024 1 := cmpf .olt main_v15 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v14 main_v18
  let main_v20 : FVec F S1x1024x2816 .f32 := Host.absf main_arg4
  let main_cst_7 : FVec F S_ .f32 := constant S_ .f32 0x7F800000#32
  let main_v21 : FVec F S1x1024x2816 .f32 := broadcastInDim S1x1024x2816 ![] bcast_S_S1x1024x2816 main_cst_7
  let main_v22 : IVec S1x1024x2816 1 := cmpf .olt main_v20 main_v21
  let main_c_8 : IVec S_ 1 := constantI S_ 1 1#1
  let main_v23 : IVec S_ 1 := (fun x v => Host.reduce IntOp.andi x v reducesTo_S1x1024x2816_S_d0_1_2 h_S_) main_v22 main_c_8
  let main_v24 : IVec S_ 1 := andi main_v19 main_v23
  let main_v25 : FVec F S1x1024x2816 .f32 := Host.absf main_arg5
  let main_cst_9 : FVec F S_ .f32 := constant S_ .f32 0x7F800000#32
  let main_v26 : FVec F S1x1024x2816 .f32 := broadcastInDim S1x1024x2816 ![] bcast_S_S1x1024x2816 main_cst_9
  let main_v27 : IVec S1x1024x2816 1 := cmpf .olt main_v25 main_v26
  let main_c_10 : IVec S_ 1 := constantI S_ 1 1#1
  let main_v28 : IVec S_ 1 := (fun x v => Host.reduce IntOp.andi x v reducesTo_S1x1024x2816_S_d0_1_2 h_S_) main_v27 main_c_10
  let main_v29 : IVec S_ 1 := andi main_v24 main_v28
  let main_v30 : FVec F S1x2816x1024 .f32 := Host.absf main_arg6
  let main_cst_11 : FVec F S_ .f32 := constant S_ .f32 0x7F800000#32
  let main_v31 : FVec F S1x2816x1024 .f32 := broadcastInDim S1x2816x1024 ![] bcast_S_S1x2816x1024 main_cst_11
  let main_v32 : IVec S1x2816x1024 1 := cmpf .olt main_v30 main_v31
  let main_c_12 : IVec S_ 1 := constantI S_ 1 1#1
  fn_part2 (F := F) main_v29 main_v32 main_c_12

def fn {F : FTy → Type} [FloatOps F] (main_arg0 : FVec F S4112x1024 .f32) (main_arg1 : FVec F S4096x1024 .f32) (main_arg2 : FVec F S1024 .f32) (main_arg3 : FVec F S1x1024 .f32) (main_arg4 : FVec F S1x1024x2816 .f32) (main_arg5 : FVec F S1x1024x2816 .f32) (main_arg6 : FVec F S1x2816x1024 .f32) : IVec S_ 1 :=
  let main_v0 : FVec F S4112x1024 .f32 := Host.absf main_arg0
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_c : IVec S_ 1 := constantI S_ 1 1#1
  let main_v3 : IVec S_ 1 := (fun x v => Host.reduce IntOp.andi x v reducesTo_S4112x1024_S_d0_1 h_S_) main_v2 main_c
  let main_c_0 : IVec S_ 1 := constantI S_ 1 1#1
  let main_v4 : IVec S_ 1 := andi main_c_0 main_v3
  let main_v5 : FVec F S4096x1024 .f32 := Host.absf main_arg1
  let main_cst_1 : FVec F S_ .f32 := constant S_ .f32 0x7F800000#32
  let main_v6 : FVec F S4096x1024 .f32 := broadcastInDim S4096x1024 ![] bcast_S_S4096x1024 main_cst_1
  let main_v7 : IVec S4096x1024 1 := cmpf .olt main_v5 main_v6
  let main_c_2 : IVec S_ 1 := constantI S_ 1 1#1
  let main_v8 : IVec S_ 1 := (fun x v => Host.reduce IntOp.andi x v reducesTo_S4096x1024_S_d0_1 h_S_) main_v7 main_c_2
  let main_v9 : IVec S_ 1 := andi main_v4 main_v8
  let main_v10 : FVec F S1024 .f32 := Host.absf main_arg2
  let main_cst_3 : FVec F S_ .f32 := constant S_ .f32 0x7F800000#32
  let main_v11 : FVec F S1024 .f32 := broadcastInDim S1024 ![] bcast_S_S1024 main_cst_3
  let main_v12 : IVec S1024 1 := cmpf .olt main_v10 main_v11
  let main_c_4 : IVec S_ 1 := constantI S_ 1 1#1
  let main_v13 : IVec S_ 1 := (fun x v => Host.reduce IntOp.andi x v reducesTo_S1024_S_d0 h_S_) main_v12 main_c_4
  let main_v14 : IVec S_ 1 := andi main_v9 main_v13
  let main_v15 : FVec F S1x1024 .f32 := Host.absf main_arg3
  let main_cst_5 : FVec F S_ .f32 := constant S_ .f32 0x7F800000#32
  fn_part1 (F := F) main_arg4 main_arg5 main_arg6 main_v14 main_v15 main_cst_5
-- ==== Pre_in_proj_finite.lean ====
abbrev S4112x1024 : Shape := ⟨2, ![4112, 1024]⟩
abbrev S4112x512 : Shape := ⟨2, ![4112, 512]⟩
abbrev S1x1024 : Shape := ⟨2, ![1, 1024]⟩
abbrev S1x1024x1024 : Shape := ⟨3, ![1, 1024, 1024]⟩
abbrev S_ : Shape := ⟨0, ![]⟩

class Facts : Prop where
  bcast_S_S4112x1024 : S_.BroadcastsInDim S4112x1024 (![] : Fin 0 → Fin S4112x1024.rank)
  reducesTo_S4112x1024_S_d0_1 : S4112x1024.ReducesTo [0, 1] S_
  h_S_ : 0 < S_.numel
  bcast_S_S4112x512 : S_.BroadcastsInDim S4112x512 (![] : Fin 0 → Fin S4112x512.rank)
  reducesTo_S4112x512_S_d0_1 : S4112x512.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part1 {F : FTy → Type} [FloatOps F] (main_arg5 : FVec F S1x1024x1024 .f32) (main_v14 : IVec S_ 1) (main_v15 : FVec F S1x1024 .f32) (main_cst_5 : FVec F S_ .f32) : IVec S_ 1 :=
  let main_v16 : FVec F S1x1024 .f32 := broadcastInDim S1x1024 ![] bcast_S_S1x1024 main_cst_5
  let main_v17 : IVec S1x1024 1 := cmpf .olt main_v15 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v14 main_v18
  let main_v20 : FVec F S1x1024x1024 .f32 := Host.absf main_arg5
  let main_cst_7 : FVec F S_ .f32 := constant S_ .f32 0x7F800000#32
  let main_v21 : FVec F S1x1024x1024 .f32 := broadcastInDim S1x1024x1024 ![] bcast_S_S1x1024x1024 main_cst_7
  let main_v22 : IVec S1x1024x1024 1 := cmpf .olt main_v20 main_v21
  let main_c_8 : IVec S_ 1 := constantI S_ 1 1#1
  let main_v23 : IVec S_ 1 := (fun x v => Host.reduce IntOp.andi x v reducesTo_S1x1024x1024_S_d0_1_2 h_S_) main_v22 main_c_8
  let main_v24 : IVec S_ 1 := andi main_v19 main_v23
  main_v24

def fn {F : FTy → Type} [FloatOps F] (main_arg0 : FVec F S4112x1024 .f32) (main_arg1 : FVec F S4112x512 .f32) (main_arg2 : FVec F S4112x512 .f32) (main_arg3 : FVec F S4112x1024 .f32) (main_arg4 : FVec F S1x1024 .f32) (main_arg5 : FVec F S1x1024x1024 .f32) : IVec S_ 1 :=
  let main_v0 : FVec F S4112x1024 .f32 := Host.absf main_arg0
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_c : IVec S_ 1 := constantI S_ 1 1#1
  let main_v3 : IVec S_ 1 := (fun x v => Host.reduce IntOp.andi x v reducesTo_S4112x1024_S_d0_1 h_S_) main_v2 main_c
  let main_c_0 : IVec S_ 1 := constantI S_ 1 1#1
  let main_v4 : IVec S_ 1 := andi main_c_0 main_v3
  let main_v5 : FVec F S4112x512 .f32 := Host.absf main_arg1
  let main_cst_1 : FVec F S_ .f32 := constant S_ .f32 0x7F800000#32
  let main_v6 : FVec F S4112x512 .f32 := broadcastInDim S4112x512 ![] bcast_S_S4112x512 main_cst_1
  let main_v7 : IVec S4112x512 1 := cmpf .olt main_v5 main_v6
  let main_c_2 : IVec S_ 1 := constantI S_ 1 1#1
  let main_v8 : IVec S_ 1 := (fun x v => Host.reduce IntOp.andi x v reducesTo_S4112x512_S_d0_1 h_S_) main_v7 main_c_2
  let main_v9 : IVec S_ 1 := andi main_v4 main_v8
  let main_v10 : FVec F S4112x512 .f32 := Host.absf main_arg2
  let main_cst_3 : FVec F S_ .f32 := constant S_ .f32 0x7F800000#32
  let main_v11 : FVec F S4112x512 .f32 := broadcastInDim S4112x512 ![] bcast_S_S4112x512 main_cst_3
  let main_v12 : IVec S4112x512 1 := cmpf .olt main_v10 main_v11
  let main_c_4 : IVec S_ 1 := constantI S_ 1 1#1
  let main_v13 : IVec S_ 1 := (fun x v => Host.reduce IntOp.andi x v reducesTo_S4112x512_S_d0_1 h_S_) main_v12 main_c_4
  let main_v14 : IVec S_ 1 := andi main_v9 main_v13
  let main_v15 : FVec F S1x1024 .f32 := Host.absf main_arg4
  let main_cst_5 : FVec F S_ .f32 := constant S_ .f32 0x7F800000#32
  fn_part1 (F := F) main_arg5 main_v14 main_v15 main_cst_5
-- ==== Pre_out_proj_finite.lean ====
abbrev S4112x1024 : Shape := ⟨2, ![4112, 1024]⟩
abbrev S4112x512 : Shape := ⟨2, ![4112, 512]⟩
abbrev S1x512 : Shape := ⟨2, ![1, 512]⟩
abbrev S1x1024x1024 : Shape := ⟨3, ![1, 1024, 1024]⟩
abbrev S_ : Shape := ⟨0, ![]⟩

class Facts : Prop where
  bcast_S_S4112x1024 : S_.BroadcastsInDim S4112x1024 (![] : Fin 0 → Fin S4112x1024.rank)
  reducesTo_S4112x1024_S_d0_1 : S4112x1024.ReducesTo [0, 1] S_
  h_S_ : 0 < S_.numel
  bcast_S_S4112x512 : S_.BroadcastsInDim S4112x512 (![] : Fin 0 → Fin S4112x512.rank)
  reducesTo_S4112x512_S_d0_1 : S4112x512.ReducesTo [0, 1] S_
  bcast_S_S1x512 : S_.BroadcastsInDim S1x512 (![] : Fin 0 → Fin S1x512.rank)
  reducesTo_S1x512_S_d0_1 : S1x512.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part1 {F : FTy → Type} [FloatOps F] (main_arg4 : FVec F S1x512 .f32) (main_arg5 : FVec F S1x1024x1024 .f32) (main_v14 : IVec S_ 1) (main_v15 : FVec F S1x512 .f32) (main_cst_5 : FVec F S_ .f32) : IVec S_ 1 :=
  let main_v16 : FVec F S1x512 .f32 := broadcastInDim S1x512 ![] bcast_S_S1x512 main_cst_5
  let main_v17 : IVec S1x512 1 := cmpf .olt main_v15 main_v16
  let main_c_6 : IVec S_ 1 := constantI S_ 1 1#1
  let main_v18 : IVec S_ 1 := (fun x v => Host.reduce IntOp.andi x v reducesTo_S1x512_S_d0_1 h_S_) main_v17 main_c_6
  let main_v19 : IVec S_ 1 := andi main_v14 main_v18
  let main_v20 : FVec F S1x512 .f32 := Host.absf main_arg4
  let main_cst_7 : FVec F S_ .f32 := constant S_ .f32 0x7F800000#32
  let main_v21 : FVec F S1x512 .f32 := broadcastInDim S1x512 ![] bcast_S_S1x512 main_cst_7
  let main_v22 : IVec S1x512 1 := cmpf .olt main_v20 main_v21
  let main_c_8 : IVec S_ 1 := constantI S_ 1 1#1
  let main_v23 : IVec S_ 1 := (fun x v => Host.reduce IntOp.andi x v reducesTo_S1x512_S_d0_1 h_S_) main_v22 main_c_8
  let main_v24 : IVec S_ 1 := andi main_v19 main_v23
  let main_v25 : FVec F S1x1024x1024 .f32 := Host.absf main_arg5
  let main_cst_9 : FVec F S_ .f32 := constant S_ .f32 0x7F800000#32
  let main_v26 : FVec F S1x1024x1024 .f32 := broadcastInDim S1x1024x1024 ![] bcast_S_S1x1024x1024 main_cst_9
  let main_v27 : IVec S1x1024x1024 1 := cmpf .olt main_v25 main_v26
  let main_c_10 : IVec S_ 1 := constantI S_ 1 1#1
  let main_v28 : IVec S_ 1 := (fun x v => Host.reduce IntOp.andi x v reducesTo_S1x1024x1024_S_d0_1_2 h_S_) main_v27 main_c_10
  let main_v29 : IVec S_ 1 := andi main_v24 main_v28
  main_v29

def fn {F : FTy → Type} [FloatOps F] (main_arg0 : FVec F S4112x1024 .f32) (main_arg1 : FVec F S4112x512 .f32) (main_arg2 : FVec F S4112x512 .f32) (main_arg3 : FVec F S1x512 .f32) (main_arg4 : FVec F S1x512 .f32) (main_arg5 : FVec F S1x1024x1024 .f32) : IVec S_ 1 :=
  let main_v0 : FVec F S4112x1024 .f32 := Host.absf main_arg0
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_c : IVec S_ 1 := constantI S_ 1 1#1
  let main_v3 : IVec S_ 1 := (fun x v => Host.reduce IntOp.andi x v reducesTo_S4112x1024_S_d0_1 h_S_) main_v2 main_c
  let main_c_0 : IVec S_ 1 := constantI S_ 1 1#1
  let main_v4 : IVec S_ 1 := andi main_c_0 main_v3
  let main_v5 : FVec F S4112x512 .f32 := Host.absf main_arg1
  let main_cst_1 : FVec F S_ .f32 := constant S_ .f32 0x7F800000#32
  let main_v6 : FVec F S4112x512 .f32 := broadcastInDim S4112x512 ![] bcast_S_S4112x512 main_cst_1
  let main_v7 : IVec S4112x512 1 := cmpf .olt main_v5 main_v6
  let main_c_2 : IVec S_ 1 := constantI S_ 1 1#1
  let main_v8 : IVec S_ 1 := (fun x v => Host.reduce IntOp.andi x v reducesTo_S4112x512_S_d0_1 h_S_) main_v7 main_c_2
  let main_v9 : IVec S_ 1 := andi main_v4 main_v8
  let main_v10 : FVec F S4112x512 .f32 := Host.absf main_arg2
  let main_cst_3 : FVec F S_ .f32 := constant S_ .f32 0x7F800000#32
  let main_v11 : FVec F S4112x512 .f32 := broadcastInDim S4112x512 ![] bcast_S_S4112x512 main_cst_3
  let main_v12 : IVec S4112x512 1 := cmpf .olt main_v10 main_v11
  let main_c_4 : IVec S_ 1 := constantI S_ 1 1#1
  let main_v13 : IVec S_ 1 := (fun x v => Host.reduce IntOp.andi x v reducesTo_S4112x512_S_d0_1 h_S_) main_v12 main_c_4
  let main_v14 : IVec S_ 1 := andi main_v9 main_v13
  let main_v15 : FVec F S1x512 .f32 := Host.absf main_arg3
  let main_cst_5 : FVec F S_ .f32 := constant S_ .f32 0x7F800000#32
  fn_part1 (F := F) main_arg4 main_arg5 main_v14 main_v15 main_cst_5
-- ==== Pre_pool_finite.lean ====
abbrev S4112x512 : Shape := ⟨2, ![4112, 512]⟩
abbrev S1x4x128x128 : Shape := ⟨4, ![1, 4, 128, 128]⟩
abbrev S1x4x128 : Shape := ⟨3, ![1, 4, 128]⟩
abbrev S_ : Shape := ⟨0, ![]⟩

class Facts : Prop where
  bcast_S_S4112x512 : S_.BroadcastsInDim S4112x512 (![] : Fin 0 → Fin S4112x512.rank)
  reducesTo_S4112x512_S_d0_1 : S4112x512.ReducesTo [0, 1] S_
  h_S_ : 0 < S_.numel
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x4x128 : S_.BroadcastsInDim S1x4x128 (![] : Fin 0 → Fin S1x4x128.rank)
  reducesTo_S1x4x128_S_d0_1_2 : S1x4x128.ReducesTo [0, 1, 2] S_

variable [Facts]

def fn_part1 {F : FTy → Type} [FloatOps F] (main_v14 : IVec S_ 1) (main_v15 : FVec F S1x4x128 .f32) (main_cst_5 : FVec F S_ .f32) : IVec S_ 1 :=
  let main_v16 : FVec F S1x4x128 .f32 := broadcastInDim S1x4x128 ![] bcast_S_S1x4x128 main_cst_5
  let main_v17 : IVec S1x4x128 1 := cmpf .olt main_v15 main_v16
  let main_c_6 : IVec S_ 1 := constantI S_ 1 1#1
  let main_v18 : IVec S_ 1 := (fun x v => Host.reduce IntOp.andi x v reducesTo_S1x4x128_S_d0_1_2 h_S_) main_v17 main_c_6
  let main_v19 : IVec S_ 1 := andi main_v14 main_v18
  main_v19

def fn {F : FTy → Type} [FloatOps F] (main_arg0 : FVec F S4112x512 .f32) (main_arg1 : FVec F S4112x512 .f32) (main_arg2 : FVec F S1x4x128x128 .f32) (main_arg3 : FVec F S1x4x128 .f32) : IVec S_ 1 :=
  let main_v0 : FVec F S4112x512 .f32 := Host.absf main_arg0
  let main_cst : FVec F S_ .f32 := constant S_ .f32 0x7F800000#32
  let main_v1 : FVec F S4112x512 .f32 := broadcastInDim S4112x512 ![] bcast_S_S4112x512 main_cst
  let main_v2 : IVec S4112x512 1 := cmpf .olt main_v0 main_v1
  let main_c : IVec S_ 1 := constantI S_ 1 1#1
  let main_v3 : IVec S_ 1 := (fun x v => Host.reduce IntOp.andi x v reducesTo_S4112x512_S_d0_1 h_S_) main_v2 main_c
  let main_c_0 : IVec S_ 1 := constantI S_ 1 1#1
  let main_v4 : IVec S_ 1 := andi main_c_0 main_v3
  let main_v5 : FVec F S4112x512 .f32 := Host.absf main_arg1
  let main_cst_1 : FVec F S_ .f32 := constant S_ .f32 0x7F800000#32
  let main_v6 : FVec F S4112x512 .f32 := broadcastInDim S4112x512 ![] bcast_S_S4112x512 main_cst_1
  let main_v7 : IVec S4112x512 1 := cmpf .olt main_v5 main_v6
  let main_c_2 : IVec S_ 1 := constantI S_ 1 1#1
  let main_v8 : IVec S_ 1 := (fun x v => Host.reduce IntOp.andi x v reducesTo_S4112x512_S_d0_1 h_S_) main_v7 main_c_2
  let main_v9 : IVec S_ 1 := andi main_v4 main_v8
  let main_v10 : FVec F S1x4x128x128 .f32 := Host.absf main_arg2
  let main_cst_3 : FVec F S_ .f32 := constant S_ .f32 0x7F800000#32
  let main_v11 : FVec F S1x4x128x128 .f32 := broadcastInDim S1x4x128x128 ![] bcast_S_S1x4x128x128 main_cst_3
  let main_v12 : IVec S1x4x128x128 1 := cmpf .olt main_v10 main_v11
  let main_c_4 : IVec S_ 1 := constantI S_ 1 1#1
  let main_v13 : IVec S_ 1 := (fun x v => Host.reduce IntOp.andi x v reducesTo_S1x4x128x128_S_d0_1_2_3 h_S_) main_v12 main_c_4
  let main_v14 : IVec S_ 1 := andi main_v9 main_v13
  let main_v15 : FVec F S1x4x128 .f32 := Host.absf main_arg3
  let main_cst_5 : FVec F S_ .f32 := constant S_ .f32 0x7F800000#32
  fn_part1 (F := F) main_v14 main_v15 main_cst_5
-- ==== Pre_pool_fwd_finite.lean ====
abbrev S4112x512 : Shape := ⟨2, ![4112, 512]⟩
abbrev S1x4x128x128 : Shape := ⟨4, ![1, 4, 128, 128]⟩
abbrev S1x4x128 : Shape := ⟨3, ![1, 4, 128]⟩
abbrev S_ : Shape := ⟨0, ![]⟩

class Facts : Prop where
  bcast_S_S4112x512 : S_.BroadcastsInDim S4112x512 (![] : Fin 0 → Fin S4112x512.rank)
  reducesTo_S4112x512_S_d0_1 : S4112x512.ReducesTo [0, 1] S_
  h_S_ : 0 < S_.numel

variable [Facts]

def fn {F : FTy → Type} [FloatOps F] (main_arg0 : FVec F S4112x512 .f32) (main_arg1 : FVec F S1x4x128x128 .f32) (main_arg2 : FVec F S1x4x128 .f32) : IVec S_ 1 :=
  let main_v0 : FVec F S4112x512 .f32 := Host.absf main_arg0
  let main_cst : FVec F S_ .f32 := constant S_ .f32 0x7F800000#32
  let main_v1 : FVec F S4112x512 .f32 := broadcastInDim S4112x512 ![] bcast_S_S4112x512 main_cst
  let main_v2 : IVec S4112x512 1 := cmpf .olt main_v0 main_v1
  let main_c : IVec S_ 1 := constantI S_ 1 1#1
  let main_v3 : IVec S_ 1 := (fun x v => Host.reduce IntOp.andi x v reducesTo_S4112x512_S_d0_1 h_S_) main_v2 main_c
  let main_c_0 : IVec S_ 1 := constantI S_ 1 1#1
  let main_v4 : IVec S_ 1 := andi main_c_0 main_v3
  main_v4
-- ==== DiscB.lean ====
abbrev S32x1x64 : Shape := ⟨3, ![32, 1, 64]⟩
abbrev S32x16x64 : Shape := ⟨3, ![32, 16, 64]⟩
abbrev S32x64 : Shape := ⟨2, ![32, 64]⟩

abbrev nBuf : Space → Nat
  | .hbm => 10
  | .vmem => 10
  | .smem => 0
  | _ => 0

abbrev bufTy : (tb : Table) → Fin (tcTables nBuf tb) → BufTy
  | .hbm, ⟨0, _⟩ => ⟨S32x1x64, .f32⟩
  | .hbm, ⟨1, _⟩ => ⟨S32x1x64, .f32⟩
  | .hbm, ⟨2, _⟩ => ⟨S32x16x64, .f32⟩
  | .hbm, ⟨3, _⟩ => ⟨S32x16x64, .f32⟩
  | .hbm, ⟨4, _⟩ => ⟨S32x16x64, .f32⟩
  | .hbm, ⟨5, _⟩ => ⟨S32x16x64, .f32⟩
  | .hbm, ⟨6, _⟩ => ⟨S32x1x64, .f32⟩
  | .hbm, ⟨7, _⟩ => ⟨S32x1x64, .f32⟩
  | .hbm, ⟨8, _⟩ => ⟨S32x16x64, .f32⟩
  | .hbm, ⟨9, _⟩ => ⟨S32x16x64, .f32⟩
  | .local _ .vmem, ⟨0, _⟩ => ⟨S32x1x64, .f32⟩
  | .local _ .vmem, ⟨1, _⟩ => ⟨S32x1x64, .f32⟩
  | .local _ .vmem, ⟨2, _⟩ => ⟨S32x16x64, .f32⟩
  | .local _ .vmem, ⟨3, _⟩ => ⟨S32x16x64, .f32⟩
  | .local _ .vmem, ⟨4, _⟩ => ⟨S32x16x64, .f32⟩
  | .local _ .vmem, ⟨5, _⟩ => ⟨S32x16x64, .f32⟩
  | .local _ .vmem, ⟨6, _⟩ => ⟨S32x1x64, .f32⟩
  | .local _ .vmem, ⟨7, _⟩ => ⟨S32x1x64, .f32⟩
  | .local _ .vmem, ⟨8, _⟩ => ⟨S32x16x64, .f32⟩
  | .local _ .vmem, ⟨9, _⟩ => ⟨S32x16x64, .f32⟩
  | _, _ => ⟨S32x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S32x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x16x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== DiscBRefIdeal.lean ====
abbrev S32x1x64 : Shape := ⟨3, ![32, 1, 64]⟩
abbrev S32x16x64 : Shape := ⟨3, ![32, 16, 64]⟩
abbrev S_ : Shape := ⟨0, ![]⟩
abbrev S32x64 : Shape := ⟨2, ![32, 64]⟩

abbrev nBuf : Space → Nat
  | .hbm => 48
  | .vmem => 0
  | .smem => 0
  | _ => 0

abbrev bufTy : (tb : Table) → Fin (tcTables nBuf tb) → BufTy
  | .hbm, ⟨0, _⟩ => ⟨S32x1x64, .f32⟩
  | .hbm, ⟨1, _⟩ => ⟨S32x1x64, .f32⟩
  | .hbm, ⟨2, _⟩ => ⟨S32x16x64, .f32⟩
  | .hbm, ⟨3, _⟩ => ⟨S32x16x64, .f32⟩
  | .hbm, ⟨4, _⟩ => ⟨S32x16x64, .f32⟩
  | .hbm, ⟨5, _⟩ => ⟨S32x16x64, .f32⟩
  | .hbm, ⟨6, _⟩ => ⟨S32x16x64, .f32⟩
  | .hbm, ⟨7, _⟩ => ⟨S32x16x64, .f32⟩
  | .hbm, ⟨8, _⟩ => ⟨S32x16x64, .f32⟩
  | .hbm, ⟨9, _⟩ => ⟨S32x16x64, .f32⟩
  | .hbm, ⟨10, _⟩ => ⟨S32x16x64, .f32⟩
  | .hbm, ⟨11, _⟩ => ⟨S32x16x64, .f32⟩
  | .hbm, ⟨12, _⟩ => ⟨S32x16x64, .f32⟩
  | .hbm, ⟨13, _⟩ => ⟨S32x16x64, .f32⟩
  | .hbm, ⟨14, _⟩ => ⟨S32x16x64, .f32⟩
  | .hbm, ⟨15, _⟩ => ⟨S32x16x64, .f32⟩
  | .hbm, ⟨16, _⟩ => ⟨S32x16x64, .f32⟩
  | .hbm, ⟨17, _⟩ => ⟨S32x16x64, .f32⟩
  | .hbm, ⟨18, _⟩ => ⟨S32x16x64, .f32⟩
  | .hbm, ⟨19, _⟩ => ⟨S32x16x64, .f32⟩
  | .hbm, ⟨20, _⟩ => ⟨S32x16x64, .f32⟩
  | .hbm, ⟨21, _⟩ => ⟨S_, .f32⟩
  | .hbm, ⟨22, _⟩ => ⟨S32x64, .f32⟩
  | .hbm, ⟨23, _⟩ => ⟨S32x1x64, .f32⟩
  | .hbm, ⟨24, _⟩ => ⟨S32x16x64, .f32⟩
  | .hbm, ⟨25, _⟩ => ⟨S32x16x64, .f32⟩
  | .hbm, ⟨26, _⟩ => ⟨S32x16x64, .f32⟩
  | .hbm, ⟨27, _⟩ => ⟨S_, .f32⟩
  | .hbm, ⟨28, _⟩ => ⟨S32x64, .f32⟩
  | .hbm, ⟨29, _⟩ => ⟨S32x1x64, .f32⟩
  | .hbm, ⟨30, _⟩ => ⟨S32x16x64, .f32⟩
  | .hbm, ⟨31, _⟩ => ⟨S32x16x64, .f32⟩
  | .hbm, ⟨32, _⟩ => ⟨S32x16x64, .f32⟩
  | .hbm, ⟨33, _⟩ => ⟨S32x16x64, .f32⟩
  | .hbm, ⟨34, _⟩ => ⟨S32x16x64, .f32⟩
  | .hbm, ⟨35, _⟩ => ⟨S32x16x64, .f32⟩
  | .hbm, ⟨36, _⟩ => ⟨S_, .f32⟩
  | .hbm, ⟨37, _⟩ => ⟨S32x64, .f32⟩
  | .hbm, ⟨38, _⟩ => ⟨S32x1x64, .f32⟩
  | .hbm, ⟨39, _⟩ => ⟨S32x1x64, .f32⟩
  | .hbm, ⟨40, _⟩ => ⟨S32x16x64, .f32⟩
  | .hbm, ⟨41, _⟩ => ⟨S32x16x64, .f32⟩
  | .hbm, ⟨42, _⟩ => ⟨S32x16x64, .f32⟩
  | .hbm, ⟨43, _⟩ => ⟨S32x16x64, .f32⟩
  | .hbm, ⟨44, _⟩ => ⟨S_, .f32⟩
  | .hbm, ⟨45, _⟩ => ⟨S32x64, .f32⟩
  | .hbm, ⟨46, _⟩ => ⟨S32x1x64, .f32⟩
  | .hbm, ⟨47, _⟩ => ⟨S32x1x64, .f32⟩
  | _, _ => ⟨S32x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== OutProj.lean ====
abbrev S4112x1024 : Shape := ⟨2, ![4112, 1024]⟩
abbrev S4112x512 : Shape := ⟨2, ![4112, 512]⟩
abbrev S1x512 : Shape := ⟨2, ![1, 512]⟩
abbrev S1x1024x1024 : Shape := ⟨3, ![1, 1024, 1024]⟩
abbrev S_ : Shape := ⟨0, ![]⟩
abbrev S4352x1024 : Shape := ⟨2, ![4352, 1024]⟩
abbrev S4352x512 : Shape := ⟨2, ![4352, 512]⟩
abbrev S1024x1024 : Shape := ⟨2, ![1024, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S512 : Shape := ⟨1, ![512]⟩
abbrev S512x1024 : Shape := ⟨2, ![512, 1024]⟩

abbrev nBuf : Space → Nat
  | .hbm => 22
  | .vmem => 17
  | .smem => 0
  | _ => 0

abbrev bufTy : (tb : Table) → Fin (tcTables nBuf tb) → BufTy
  | .hbm, ⟨0, _⟩ => ⟨S4112x1024, .f32⟩
  | .hbm, ⟨1, _⟩ => ⟨S4112x512, .f32⟩
  | .hbm, ⟨2, _⟩ => ⟨S4112x512, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S_, .i32⟩
  | .hbm, ⟨7, _⟩ => ⟨S_, .f32⟩
  | .hbm, ⟨8, _⟩ => ⟨S4352x1024, .f32⟩
  | .hbm, ⟨9, _⟩ => ⟨S_, .i32⟩
  | .hbm, ⟨10, _⟩ => ⟨S_, .f32⟩
  | .hbm, ⟨11, _⟩ => ⟨S4352x512, .f32⟩
  | .hbm, ⟨12, _⟩ => ⟨S_, .i32⟩
  | .hbm, ⟨13, _⟩ => ⟨S_, .f32⟩
  | .hbm, ⟨14, _⟩ => ⟨S4352x512, .f32⟩
  | .hbm, ⟨15, _⟩ => ⟨S1024x1024, .f32⟩
  | .hbm, ⟨16, _⟩ => ⟨S1024x1024, .bf16⟩
  | .hbm, ⟨17, _⟩ => ⟨S4352x512, .f32⟩
  | .hbm, ⟨18, _⟩ => ⟨S4352x512, .f32⟩
  | .hbm, ⟨19, _⟩ => ⟨S1x512, .f32⟩
  | .hbm, ⟨20, _⟩ => ⟨S1x512, .f32⟩
  | .hbm, ⟨21, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S1x512, .f32⟩
  | .local _ .vmem, ⟨14, _⟩ => ⟨S1x512, .f32⟩
  | .local _ .vmem, ⟨15, _⟩ => ⟨S1024x1024, .bf16⟩
  | .local _ .vmem, ⟨16, _⟩ => ⟨S1024x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_c_1 : Ref sig .tc := ⟨.hbm, 12, rfl⟩
abbrev main_call2_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v97 : BitVec 1 := Scalar.cmpi .eq arg0 c16_i32
  let v98 : BitVec 32 := Scalar.extui v97
  let c0_i32_49 : BitVec 32 := 0#32
  let v99 : BitVec 1 := Scalar.cmpi .ne v98 c0_i32_49
  v99

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== OutProjRefIdeal.lean ====
abbrev S4112x1024 : Shape := ⟨2, ![4112, 1024]⟩
abbrev S4112x512 : Shape := ⟨2, ![4112, 512]⟩
abbrev S1x512 : Shape := ⟨2, ![1, 512]⟩
abbrev S1x1024x1024 : Shape := ⟨3, ![1, 1024, 1024]⟩
abbrev S512 : Shape := ⟨1, ![512]⟩
abbrev S_ : Shape := ⟨0, ![]⟩
abbrev S4112 : Shape := ⟨1, ![4112]⟩
abbrev S4112x1 : Shape := ⟨2, ![4112, 1]⟩
abbrev S1024x1024 : Shape := ⟨2, ![1024, 1024]⟩
abbrev S4352x512 : Shape := ⟨2, ![4352, 512]⟩

abbrev nBuf : Space → Nat
  | .hbm => 117
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4112x512, .f32⟩
  | .hbm, ⟨2, _⟩ => ⟨S4112x512, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S512, .f32⟩
  | .hbm, ⟨7, _⟩ => ⟨S4112x512, .f32⟩
  | .hbm, ⟨8, _⟩ => ⟨S_, .f32⟩
  | .hbm, ⟨9, _⟩ => ⟨S4112, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S4112x1, .f32⟩
  | .hbm, ⟨18, _⟩ => ⟨S4112x1, .f32⟩
  | .hbm, ⟨19, _⟩ => ⟨S_, .f32⟩
  | .hbm, ⟨20, _⟩ => ⟨S4112x1, .f32⟩
  | .hbm, ⟨21, _⟩ => ⟨S4112x1, .f32⟩
  | .hbm, ⟨22, _⟩ => ⟨S4112x512, .f32⟩
  | .hbm, ⟨23, _⟩ => ⟨S4112x512, .f32⟩
  | .hbm, ⟨24, _⟩ => ⟨S1x512, .f32⟩
  | .hbm, ⟨25, _⟩ => ⟨S4112x512, .f32⟩
  | .hbm, ⟨26, _⟩ => ⟨S4112x512, .f32⟩
  | .hbm, ⟨27, _⟩ => ⟨S512, .f32⟩
  | .hbm, ⟨28, _⟩ => ⟨S4112x512, .f32⟩
  | .hbm, ⟨29, _⟩ => ⟨S_, .f32⟩
  | .hbm, ⟨30, _⟩ => ⟨S4112, .f32⟩
  | .hbm, ⟨31, _⟩ => ⟨S4112x1, .f32⟩
  | .hbm, ⟨32, _⟩ => ⟨S_, .f32⟩
  | .hbm, ⟨33, _⟩ => ⟨S4112x1, .f32⟩
  | .hbm, ⟨34, _⟩ => ⟨S4112x1, .f32⟩
  | .hbm, ⟨35, _⟩ => ⟨S_, .f32⟩
  | .hbm, ⟨36, _⟩ => ⟨S4112x1, .f32⟩
  | .hbm, ⟨37, _⟩ => ⟨S4112x1, .f32⟩
  | .hbm, ⟨38, _⟩ => ⟨S4112x1, .f32⟩
  | .hbm, ⟨39, _⟩ => ⟨S4112x1, .f32⟩
  | .hbm, ⟨40, _⟩ => ⟨S_, .f32⟩
  | .hbm, ⟨41, _⟩ => ⟨S4112x1, .f32⟩
  | .hbm, ⟨42, _⟩ => ⟨S4112x1, .f32⟩
  | .hbm, ⟨43, _⟩ => ⟨S4112x512, .f32⟩
  | .hbm, ⟨44, _⟩ => ⟨S4112x512, .f32⟩
  | .hbm, ⟨45, _⟩ => ⟨S1x512, .f32⟩
  | .hbm, ⟨46, _⟩ => ⟨S4112x512, .f32⟩
  | .hbm, ⟨47, _⟩ => ⟨S4112x512, .f32⟩
  | .hbm, ⟨48, _⟩ => ⟨S4112x1024, .f32⟩
  | .hbm, ⟨49, _⟩ => ⟨S1024x1024, .f32⟩
  | .hbm, ⟨50, _⟩ => ⟨S4112x1024, .f32⟩
  | .hbm, ⟨51, _⟩ => ⟨S1024x1024, .f32⟩
  | .hbm, ⟨52, _⟩ => ⟨S1024x1024, .f32⟩
  | .hbm, ⟨53, _⟩ => ⟨S4112x1024, .f32⟩
  | .hbm, ⟨54, _⟩ => ⟨S1x1024x1024, .f32⟩
  | .hbm, ⟨55, _⟩ => ⟨S4112x512, .f32⟩
  | .hbm, ⟨56, _⟩ => ⟨S4112x512, .f32⟩
  | .hbm, ⟨57, _⟩ => ⟨S4112x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S4112x512, .f32⟩
  | .hbm, ⟨62, _⟩ => ⟨S4112x512, .f32⟩
  | .hbm, ⟨63, _⟩ => ⟨S_, .f32⟩
  | .hbm, ⟨64, _⟩ => ⟨S512, .f32⟩
  | .hbm, ⟨65, _⟩ => ⟨S4112x512, .f32⟩
  | .hbm, ⟨66, _⟩ => ⟨S_, .f32⟩
  | .hbm, ⟨67, _⟩ => ⟨S4112, .f32⟩
  | .hbm, ⟨68, _⟩ => ⟨S4112x1, .f32⟩
  | .hbm, ⟨69, _⟩ => ⟨S4112x512, .f32⟩
  | .hbm, ⟨70, _⟩ => ⟨S4112x512, .f32⟩
  | .hbm, ⟨71, _⟩ => ⟨S4112x1, .f32⟩
  | .hbm, ⟨72, _⟩ => ⟨S_, .f32⟩
  | .hbm, ⟨73, _⟩ => ⟨S4112x1, .f32⟩
  | .hbm, ⟨74, _⟩ => ⟨S4112x1, .f32⟩
  | .hbm, ⟨75, _⟩ => ⟨S_, .f32⟩
  | .hbm, ⟨76, _⟩ => ⟨S4112, .f32⟩
  | .hbm, ⟨77, _⟩ => ⟨S4112x512, .f32⟩
  | .hbm, ⟨78, _⟩ => ⟨S4112x512, .f32⟩
  | .hbm, ⟨79, _⟩ => ⟨S4112x512, .f32⟩
  | .hbm, ⟨80, _⟩ => ⟨S4112x512, .f32⟩
  | .hbm, ⟨81, _⟩ => ⟨S4112x512, .f32⟩
  | .hbm, ⟨82, _⟩ => ⟨S1x512, .f32⟩
  | .hbm, ⟨83, _⟩ => ⟨S4112x512, .f32⟩
  | .hbm, ⟨84, _⟩ => ⟨S_, .f32⟩
  | .hbm, ⟨85, _⟩ => ⟨S512, .f32⟩
  | .hbm, ⟨86, _⟩ => ⟨S1x512, .f32⟩
  | .hbm, ⟨87, _⟩ => ⟨S4112x512, .f32⟩
  | .hbm, ⟨88, _⟩ => ⟨S4112x512, .f32⟩
  | .hbm, ⟨89, _⟩ => ⟨S_, .f32⟩
  | .hbm, ⟨90, _⟩ => ⟨S512, .f32⟩
  | .hbm, ⟨91, _⟩ => ⟨S4112x512, .f32⟩
  | .hbm, ⟨92, _⟩ => ⟨S_, .f32⟩
  | .hbm, ⟨93, _⟩ => ⟨S4112, .f32⟩
  | .hbm, ⟨94, _⟩ => ⟨S4112x1, .f32⟩
  | .hbm, ⟨95, _⟩ => ⟨S4112x512, .f32⟩
  | .hbm, ⟨96, _⟩ => ⟨S4112x512, .f32⟩
  | .hbm, ⟨97, _⟩ => ⟨S4112x1, .f32⟩
  | .hbm, ⟨98, _⟩ => ⟨S_, .f32⟩
  | .hbm, ⟨99, _⟩ => ⟨S4112x1, .f32⟩
  | .hbm, ⟨100, _⟩ => ⟨S4112x1, .f32⟩
  | .hbm, ⟨101, _⟩ => ⟨S_, .f32⟩
  | .hbm, ⟨102, _⟩ => ⟨S4112, .f32⟩
  | .hbm, ⟨103, _⟩ => ⟨S4112x512, .f32⟩
  | .hbm, ⟨104, _⟩ => ⟨S4112x512, .f32⟩
  | .hbm, ⟨105, _⟩ => ⟨S4112x512, .f32⟩
  | .hbm, ⟨106, _⟩ => ⟨S4112x512, .f32⟩
  | .hbm, ⟨107, _⟩ => ⟨S4112x512, .f32⟩
  | .hbm, ⟨108, _⟩ => ⟨S1x512, .f32⟩
  | .hbm, ⟨109, _⟩ => ⟨S_, .i32⟩
  | .hbm, ⟨110, _⟩ => ⟨S_, .f32⟩
  | .hbm, ⟨111, _⟩ => ⟨S4352x512, .f32⟩
  | .hbm, ⟨112, _⟩ => ⟨S_, .i32⟩
  | .hbm, ⟨113, _⟩ => ⟨S_, .f32⟩
  | .hbm, ⟨114, _⟩ => ⟨S4352x512, .f32⟩
  | .hbm, ⟨115, _⟩ => ⟨S1024x1024, .f32⟩
  | .hbm, ⟨116, _⟩ => ⟨S1024x1024, .bf16⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_12 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_v69 : Ref sig .tc := ⟨.hbm, 90, rfl⟩
abbrev main_v70 : Ref sig .tc := ⟨.hbm, 91, rfl⟩
abbrev main_cst_14 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_15 : Ref sig .tc := ⟨.hbm, 98, rfl⟩
abbrev main_v76 : Ref sig .tc := ⟨.hbm, 99, rfl⟩
abbrev main_v77 : Ref sig .tc := ⟨.hbm, 100, rfl⟩
abbrev main_cst_16 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_c : Ref sig .tc := ⟨.hbm, 109, rfl⟩
abbrev main_call0_v0 : Ref sig .tc := ⟨.hbm, 110, rfl⟩
abbrev main_v85 : Ref sig .tc := ⟨.hbm, 111, rfl⟩
abbrev main_c_17 : Ref sig .tc := ⟨.hbm, 112, rfl⟩
abbrev main_call1_v0 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩

abbrev nD : Nat := 1
abbrev τ : Topo := Topo.v7x

variable {F : FTy → Type} [FloatOps F]
-- ==== InProj.lean ====
abbrev S4112x1024 : Shape := ⟨2, ![4112, 1024]⟩
abbrev S4112x512 : Shape := ⟨2, ![4112, 512]⟩
abbrev S1x1024 : Shape := ⟨2, ![1, 1024]⟩
abbrev S1x1024x1024 : Shape := ⟨3, ![1, 1024, 1024]⟩
abbrev S16x1024 : Shape := ⟨2, ![16, 1024]⟩
abbrev S_ : Shape := ⟨0, ![]⟩
abbrev S256x1024 : Shape := ⟨2, ![256, 1024]⟩
abbrev S4096x1024 : Shape := ⟨2, ![4096, 1024]⟩
abbrev S4352x512 : Shape := ⟨2, ![4352, 512]⟩
abbrev S4352x1024 : Shape := ⟨2, ![4352, 1024]⟩
abbrev S1024x1024 : Shape := ⟨2, ![1024, 1024]⟩
abbrev S256x512 : Shape := ⟨2, ![256, 512]⟩
abbrev S256 : Shape := ⟨1, ![256]⟩
abbrev S256x1 : Shape := ⟨2, ![256, 1]⟩
abbrev S1024x512 : Shape := ⟨2, ![1024, 512]⟩
abbrev S1024 : Shape := ⟨1, ![1024]⟩

abbrev nBuf : Space → Nat
  | .hbm => 26
  | .vmem => 17
  | .smem => 0
  | _ => 0

abbrev bufTy : (tb : Table) → Fin (tcTables nBuf tb) → BufTy
  | .hbm, ⟨0, _⟩ => ⟨S4112x1024, .f32⟩
  | .hbm, ⟨1, _⟩ => ⟨S4112x512, .f32⟩
  | .hbm, ⟨2, _⟩ => ⟨S4112x512, .f32⟩
  | .hbm, ⟨3, _⟩ => ⟨S4112x1024, .f32⟩
  | .hbm, ⟨4, _⟩ => ⟨S1x1024, .f32⟩
  | .hbm, ⟨5, _⟩ => ⟨S1x1024x1024, .f32⟩
  | .hbm, ⟨6, _⟩ => ⟨S16x1024, .f32⟩
  | .hbm, ⟨7, _⟩ => ⟨S_, .i32⟩
  | .hbm, ⟨8, _⟩ => ⟨S_, .f32⟩
  | .hbm, ⟨9, _⟩ => ⟨S256x1024, .f32⟩
  | .hbm, ⟨10, _⟩ => ⟨S4096x1024, .f32⟩
  | .hbm, ⟨11, _⟩ => ⟨S_, .i32⟩
  | .hbm, ⟨12, _⟩ => ⟨S_, .f32⟩
  | .hbm, ⟨13, _⟩ => ⟨S4352x512, .f32⟩
  | .hbm, ⟨14, _⟩ => ⟨S_, .i32⟩
  | .hbm, ⟨15, _⟩ => ⟨S_, .f32⟩
  | .hbm, ⟨16, _⟩ => ⟨S4352x512, .f32⟩
  | .hbm, ⟨17, _⟩ => ⟨S_, .i32⟩
  | .hbm, ⟨18, _⟩ => ⟨S_, .f32⟩
  | .hbm, ⟨19, _⟩ => ⟨S4352x1024, .f32⟩
  | .hbm, ⟨20, _⟩ => ⟨S1024x1024, .f32⟩
  | .hbm, ⟨21, _⟩ => ⟨S1024x1024, .bf16⟩
  | .hbm, ⟨22, _⟩ => ⟨S4096x1024, .f32⟩
  | .hbm, ⟨23, _⟩ => ⟨S256x1024, .f32⟩
  | .hbm, ⟨24, _⟩ => ⟨S1x1024, .f32⟩
  | .hbm, ⟨25, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1024x1024, .bf16⟩
  | .local _ .vmem, ⟨16, _⟩ => ⟨S1024x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_c_1 : Ref sig .tc := ⟨.hbm, 14, rfl⟩
abbrev main_call2_v0 : Ref sig .tc := ⟨.hbm, 15, rfl⟩
abbrev main_v4 : Ref sig .tc := ⟨.hbm, 16, rfl⟩
abbrev main_c_2 : Ref sig .tc := ⟨.hbm, 17, rfl⟩
abbrev main_call3_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c0_i32_31 : BitVec 32 := 0#32
  let v60 : BitVec 1 := Scalar.cmpi .eq arg0 c0_i32_31
  let v61 : BitVec 32 := Scalar.extui v60
  let c0_i32_32 : BitVec 32 := 0#32
  let v62 : BitVec 1 := Scalar.cmpi .ne v61 c0_i32_32
  v62

def k0_cond3 (i : grid0.Coords) : BitVec 1 :=
  let arg0 : BitVec 32 := BitVec.ofNat 32 (i 0).val
  let c16_i32 : BitVec 32 := 16#32
  let v75 : BitVec 1 := Scalar.cmpi .eq arg0 c16_i32
  let v76 : BitVec 32 := Scalar.extui v75
  let c0_i32_43 : BitVec 32 := 0#32
  let v77 : BitVec 1 := Scalar.cmpi .ne v76 c0_i32_43
  v77

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InProjRefIdeal.lean ====
abbrev S4112x1024 : Shape := ⟨2, ![4112, 1024]⟩
abbrev S4112x512 : Shape := ⟨2, ![4112, 512]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S4112 : Shape := ⟨1, ![4112]⟩
abbrev S4112x1 : Shape := ⟨2, ![4112, 1]⟩
abbrev S1024x1024 : Shape := ⟨2, ![1024, 1024]⟩
abbrev S4096x1024 : Shape := ⟨2, ![4096, 1024]⟩
abbrev S16x1024 : Shape := ⟨2, ![16, 1024]⟩
abbrev S256x1024 : Shape := ⟨2, ![256, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4112x512, .f32⟩
  | .hbm, ⟨2, _⟩ => ⟨S4112x512, .f32⟩
  | .hbm, ⟨3, _⟩ => ⟨S4112x1024, .f32⟩
  | .hbm, ⟨4, _⟩ => ⟨S1x1024, .f32⟩
  | .hbm, ⟨5, _⟩ => ⟨S1x1024x1024, .f32⟩
  | .hbm, ⟨6, _⟩ => ⟨S1024, .f32⟩
  | .hbm, ⟨7, _⟩ => ⟨S4112x1024, .f32⟩
  | .hbm, ⟨8, _⟩ => ⟨S_, .f32⟩
  | .hbm, ⟨9, _⟩ => ⟨S4112, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S4112x1, .f32⟩
  | .hbm, ⟨18, _⟩ => ⟨S4112x1, .f32⟩
  | .hbm, ⟨19, _⟩ => ⟨S_, .f32⟩
  | .hbm, ⟨20, _⟩ => ⟨S4112x1, .f32⟩
  | .hbm, ⟨21, _⟩ => ⟨S4112x1, .f32⟩
  | .hbm, ⟨22, _⟩ => ⟨S4112x1024, .f32⟩
  | .hbm, ⟨23, _⟩ => ⟨S4112x1024, .f32⟩
  | .hbm, ⟨24, _⟩ => ⟨S1x1024, .f32⟩
  | .hbm, ⟨25, _⟩ => ⟨S4112x1024, .f32⟩
  | .hbm, ⟨26, _⟩ => ⟨S4112x1024, .f32⟩
  | .hbm, ⟨27, _⟩ => ⟨S1024x1024, .f32⟩
  | .hbm, ⟨28, _⟩ => ⟨S4112x1024, .f32⟩
  | .hbm, ⟨29, _⟩ => ⟨S4112x512, .f32⟩
  | .hbm, ⟨30, _⟩ => ⟨S4112x512, .f32⟩
  | .hbm, ⟨31, _⟩ => ⟨S_, .f32⟩
  | .hbm, ⟨32, _⟩ => ⟨S4112x1024, .f32⟩
  | .hbm, ⟨33, _⟩ => ⟨S_, .f32⟩
  | .hbm, ⟨34, _⟩ => ⟨S4112x1024, .f32⟩
  | .hbm, ⟨35, _⟩ => ⟨S4112x1024, .f32⟩
  | .hbm, ⟨36, _⟩ => ⟨S1024x1024, .f32⟩
  | .hbm, ⟨37, _⟩ => ⟨S1024x1024, .f32⟩
  | .hbm, ⟨38, _⟩ => ⟨S4112x1024, .f32⟩
  | .hbm, ⟨39, _⟩ => ⟨S1x1024x1024, .f32⟩
  | .hbm, ⟨40, _⟩ => ⟨S4112x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4112x1024, .f32⟩
  | .hbm, ⟨45, _⟩ => ⟨S4112x1024, .f32⟩
  | .hbm, ⟨46, _⟩ => ⟨S_, .f32⟩
  | .hbm, ⟨47, _⟩ => ⟨S1024, .f32⟩
  | .hbm, ⟨48, _⟩ => ⟨S4112x1024, .f32⟩
  | .hbm, ⟨49, _⟩ => ⟨S_, .f32⟩
  | .hbm, ⟨50, _⟩ => ⟨S4112, .f32⟩
  | .hbm, ⟨51, _⟩ => ⟨S4112x1, .f32⟩
  | .hbm, ⟨52, _⟩ => ⟨S4112x1024, .f32⟩
  | .hbm, ⟨53, _⟩ => ⟨S4112x1024, .f32⟩
  | .hbm, ⟨54, _⟩ => ⟨S4112x1024, .f32⟩
  | .hbm, ⟨55, _⟩ => ⟨S4112x1, .f32⟩
  | .hbm, ⟨56, _⟩ => ⟨S_, .f32⟩
  | .hbm, ⟨57, _⟩ => ⟨S4112x1, .f32⟩
  | .hbm, ⟨58, _⟩ => ⟨S4112x1, .f32⟩
  | .hbm, ⟨59, _⟩ => ⟨S_, .f32⟩
  | .hbm, ⟨60, _⟩ => ⟨S4112, .f32⟩
  | .hbm, ⟨61, _⟩ => ⟨S4112x1024, .f32⟩
  | .hbm, ⟨62, _⟩ => ⟨S4112x1024, .f32⟩
  | .hbm, ⟨63, _⟩ => ⟨S4112x1024, .f32⟩
  | .hbm, ⟨64, _⟩ => ⟨S4112x1024, .f32⟩
  | .hbm, ⟨65, _⟩ => ⟨S4112x1024, .f32⟩
  | .hbm, ⟨66, _⟩ => ⟨S1x1024, .f32⟩
  | .hbm, ⟨67, _⟩ => ⟨S4096x1024, .f32⟩
  | .hbm, ⟨68, _⟩ => ⟨S16x1024, .f32⟩
  | .hbm, ⟨69, _⟩ => ⟨S_, .i32⟩
  | .hbm, ⟨70, _⟩ => ⟨S_, .f32⟩
  | .hbm, ⟨71, _⟩ => ⟨S256x1024, .f32⟩
  | .hbm, ⟨72, _⟩ => ⟨S1024x1024, .f32⟩
  | .hbm, ⟨73, _⟩ => ⟨S1024x1024, .bf16⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c : Ref sig .tc := ⟨.hbm, 69, rfl⟩
abbrev main_call0_v0 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Pool.lean ====
abbrev S4112x512 : Shape := ⟨2, ![4112, 512]⟩
abbrev S1x4x128x128 : Shape := ⟨4, ![1, 4, 128, 128]⟩
abbrev S1x4x128 : Shape := ⟨3, ![1, 4, 128]⟩
abbrev S_ : Shape := ⟨0, ![]⟩
abbrev S4352x512 : Shape := ⟨2, ![4352, 512]⟩
abbrev S4x128x128 : Shape := ⟨3, ![4, 128, 128]⟩
abbrev S4x128 : Shape := ⟨2, ![4, 128]⟩
abbrev S4x1x128 : Shape := ⟨3, ![4, 1, 128]⟩
abbrev S4352x128 : Shape := ⟨2, ![4352, 128]⟩
abbrev S1x128x128 : Shape := ⟨3, ![1, 128, 128]⟩
abbrev S1x1x128 : Shape := ⟨3, ![1, 1, 128]⟩
abbrev S4368x128 : Shape := ⟨2, ![4368, 128]⟩
abbrev S16x128 : Shape := ⟨2, ![16, 128]⟩
abbrev S128x128 : Shape := ⟨2, ![128, 128]⟩
abbrev S1x128 : Shape := ⟨2, ![1, 128]⟩
abbrev S272x128 : Shape := ⟨2, ![272, 128]⟩
abbrev S256x1 : Shape := ⟨2, ![256, 1]⟩
abbrev S256x128 : Shape := ⟨2, ![256, 128]⟩
abbrev S128 : Shape := ⟨1, ![128]⟩

abbrev nBuf : Space → Nat
  | .hbm => 16
  | .vmem => 16
  | .smem => 0
  | _ => 0

abbrev bufTy : (tb : Table) → Fin (tcTables nBuf tb) → BufTy
  | .hbm, ⟨0, _⟩ => ⟨S4112x512, .f32⟩
  | .hbm, ⟨1, _⟩ => ⟨S4112x512, .f32⟩
  | .hbm, ⟨2, _⟩ => ⟨S1x4x128x128, .f32⟩
  | .hbm, ⟨3, _⟩ => ⟨S1x4x128, .f32⟩
  | .hbm, ⟨4, _⟩ => ⟨S_, .i32⟩
  | .hbm, ⟨5, _⟩ => ⟨S_, .f32⟩
  | .hbm, ⟨6, _⟩ => ⟨S4352x512, .f32⟩
  | .hbm, ⟨7, _⟩ => ⟨S_, .i32⟩
  | .hbm, ⟨8, _⟩ => ⟨S_, .f32⟩
  | .hbm, ⟨9, _⟩ => ⟨S4352x512, .f32⟩
  | .hbm, ⟨10, _⟩ => ⟨S4x128x128, .f32⟩
  | .hbm, ⟨11, _⟩ => ⟨S4x128, .f32⟩
  | .hbm, ⟨12, _⟩ => ⟨S4x1x128, .f32⟩
  | .hbm, ⟨13, _⟩ => ⟨S4352x512, .f32⟩
  | .hbm, ⟨14, _⟩ => ⟨S4x128x128, .f32⟩
  | .hbm, ⟨15, _⟩ => ⟨S4x1x128, .f32⟩
  | .local _ .vmem, ⟨0, _⟩ => ⟨S4352x128, .f32⟩
  | .local _ .vmem, ⟨1, _⟩ => ⟨S4352x128, .f32⟩
  | .local _ .vmem, ⟨2, _⟩ => ⟨S4352x128, .f32⟩
  | .local _ .vmem, ⟨3, _⟩ => ⟨S4352x128, .f32⟩
  | .local _ .vmem, ⟨4, _⟩ => ⟨S1x128x128, .f32⟩
  | .local _ .vmem, ⟨5, _⟩ => ⟨S1x128x128, .f32⟩
  | .local _ .vmem, ⟨6, _⟩ => ⟨S1x1x128, .f32⟩
  | .local _ .vmem, ⟨7, _⟩ => ⟨S1x1x128, .f32⟩
  | .local _ .vmem, ⟨8, _⟩ => ⟨S4352x128, .f32⟩
  | .local _ .vmem, ⟨9, _⟩ => ⟨S4352x128, .f32⟩
  | .local _ .vmem, ⟨10, _⟩ => ⟨S1x128x128, .f32⟩
  | .local _ .vmem, ⟨11, _⟩ => ⟨S1x128x128, .f32⟩
  | .local _ .vmem, ⟨12, _⟩ => ⟨S1x1x128, .f32⟩
  | .local _ .vmem, ⟨13, _⟩ => ⟨S1x1x128, .f32⟩
  | .local _ .vmem, ⟨14, _⟩ => ⟨S4368x128, .f32⟩
  | .local _ .vmem, ⟨15, _⟩ => ⟨S4368x128, .f32⟩
  | _, _ => ⟨S4112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c17_i32 : BitVec 32 := 17#32
  let v22 : BitVec 32 := Scalar.addi c0_i32 c17_i32
  let c1_i32 : BitVec 32 := 1#32
  ⟨c0_i32, v22, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v24 : BitVec 32 := Scalar.muli arg10 c256_i32
  v24
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v24 : BitVec 32 := Scalar.muli arg10 c256_i32
  let v25 : BitVec 32 := v24
  let v26 : Index := Scalar.indexCast v25
  let c0_19 : Index := 0#32
  ![v26.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v24 : BitVec 32 := Scalar.muli arg10 c256_i32
  let v25 : BitVec 32 := v24
  let v69 : Index := Scalar.indexCast v25
  let c0_33 : Index := 0#32
  ![v69.toNat, 0]
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v24 : BitVec 32 := Scalar.muli arg10 c256_i32
  let v25 : BitVec 32 := v24
  let v101 : Index := Scalar.indexCast v25
  let c0_55 : Index := 0#32
  ![v101.toNat, 0]
@[reducible] def k0_t2_loop : Scf.Loop 32 :=
  let c0_i32_15 : BitVec 32 := 0#32
  let c17_i32_16 : BitVec 32 := 17#32
  let v23 : BitVec 32 := Scalar.addi c0_i32_15 c17_i32_16
  let c1_i32_17 : BitVec 32 := 1#32
  ⟨c0_i32_15, v23, c1_i32_17⟩
def k0_mult2 (k0_t2 : Fin k0_t2_loop.trips) : BitVec 32 :=
  let c0_i32_15 : BitVec 32 := 0#32
  let c1_i32_17 : BitVec 32 := 1#32
  let arg10 : BitVec 32 := Scf.iv c0_i32_15 c1_i32_17 k0_t2
  let c256_i32 : BitVec 32 := 256#32
  let v24 : BitVec 32 := Scalar.muli arg10 c256_i32
  v24
def k0_off4 (k0_t2 : Fin k0_t2_loop.trips) : Fin 2 → Nat :=
  let c0_i32_15 : BitVec 32 := 0#32
  let c1_i32_17 : BitVec 32 := 1#32
  let arg10 : BitVec 32 := Scf.iv c0_i32_15 c1_i32_17 k0_t2
  let c256_i32 : BitVec 32 := 256#32
  let v24 : BitVec 32 := Scalar.muli arg10 c256_i32
  let v25 : BitVec 32 := v24
  let v26 : Index := Scalar.indexCast v25
  let c0_19 : Index := 0#32
  ![v26.toNat, 0]
def k0_off5 (k0_t2 : Fin k0_t2_loop.trips) : Fin 2 → Nat :=
  let c0_i32_15 : BitVec 32 := 0#32
  let c1_i32_17 : BitVec 32 := 1#32
  let arg10 : BitVec 32 := Scf.iv c0_i32_15 c1_i32_17 k0_t2
  let c256_i32 : BitVec 32 := 256#32
  let v24 : BitVec 32 := Scalar.muli arg10 c256_i32
  let v25 : BitVec 32 := v24
  let v28 : Index := Scalar.indexCast v25
  let c0_20 : Index := 0#32
  ![v28.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4352x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4352x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4352x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PoolRefIdeal.lean ====
abbrev S4112x512 : Shape := ⟨2, ![4112, 512]⟩
abbrev S1x4x128x128 : Shape := ⟨4, ![1, 4, 128, 128]⟩
abbrev S1x4x128 : Shape := ⟨3, ![1, 4, 128]⟩
abbrev S1x4112x4x128 : Shape := ⟨4, ![1, 4112, 4, 128]⟩
abbrev S4x128x128 : Shape := ⟨3, ![4, 128, 128]⟩
abbrev S4x128 : Shape := ⟨2, ![4, 128]⟩
abbrev S_ : Shape := ⟨0, ![]⟩
abbrev S4112 : Shape := ⟨1, ![4112]⟩
abbrev S1x4112x1x128 : Shape := ⟨4, ![1, 4112, 1, 128]⟩
abbrev S1x4112x128 : Shape := ⟨3, ![1, 4112, 128]⟩
abbrev S1x2x128 : Shape := ⟨3, ![1, 2, 128]⟩
abbrev S1x4114x128 : Shape := ⟨3, ![1, 4114, 128]⟩
abbrev S1x4112x1 : Shape := ⟨3, ![1, 4112, 1]⟩
abbrev S1x4116x128 : Shape := ⟨3, ![1, 4116, 128]⟩
abbrev S1x8x128 : Shape := ⟨3, ![1, 8, 128]⟩
abbrev S1x4120x128 : Shape := ⟨3, ![1, 4120, 128]⟩
abbrev S1x16x128 : Shape := ⟨3, ![1, 16, 128]⟩
abbrev S1x4128x128 : Shape := ⟨3, ![1, 4128, 128]⟩
abbrev S4x128x1x4112 : Shape := ⟨4, ![4, 128, 1, 4112]⟩
abbrev S1x1x4x128 : Shape := ⟨4, ![1, 1, 4, 128]⟩
abbrev S4x1x4112x128 : Shape := ⟨4, ![4, 1, 4112, 128]⟩
abbrev S4352x512 : Shape := ⟨2, ![4352, 512]⟩
abbrev S4x1x128 : Shape := ⟨3, ![4, 1, 128]⟩

abbrev nBuf : Space → Nat
  | .hbm => 197
  | .vmem => 0
  | .smem => 0
  | _ => 0

abbrev hbmTy0_0 (i : Nat) : BufTy := match i % 128 with
  | 0 => ⟨S4112x512, .f32⟩
  | 1 => ⟨S4112x512, .f32⟩
  | 2 => ⟨S1x4x128x128, .f32⟩
  | 3 => ⟨S1x4x128, .f32⟩
  | 4 => ⟨S1x4112x4x128, .f32⟩
  | 5 => ⟨S4x128x128, .f32⟩
  | 6 => ⟨S4x128, .f32⟩
  | 7 => ⟨S_, .f32⟩
  | 8 => ⟨S_, .f32⟩
  | 9 => ⟨S1x4112x4x128, .f32⟩
  | 10 => ⟨S4112, .f32⟩
  | 11 => ⟨S_, .f32⟩
  | 12 => ⟨S4112, .f32⟩
  | 13 => ⟨S4112, .f32⟩
  | 14 => ⟨S1x4112x1x128, .f32⟩
  | 15 => ⟨S1x4112x128, .f32⟩
  | 16 => ⟨S_, .f32⟩
  | 17 => ⟨S1x2x128, .f32⟩
  | 18 => ⟨S1x4114x128, .f32⟩
  | 19 => ⟨S_, .f32⟩
  | 20 => ⟨S1x2x128, .f32⟩
  | 21 => ⟨S1x4112x128, .f32⟩
  | 22 => ⟨S_, .f32⟩
  | 23 => ⟨S4112, .f32⟩
  | 24 => ⟨S4112, .f32⟩
  | 25 => ⟨S1x4112x1, .f32⟩
  | 26 => ⟨S1x4112x128, .f32⟩
  | 27 => ⟨S1x4112x128, .f32⟩
  | 28 => ⟨S1x4112x128, .f32⟩
  | 29 => ⟨S1x4112x1x128, .f32⟩
  | 30 => ⟨S1x4112x128, .f32⟩
  | 31 => ⟨S1x4112x128, .f32⟩
  | 32 => ⟨S1x4112x1x128, .f32⟩
  | 33 => ⟨S1x4112x128, .f32⟩
  | 34 => ⟨S_, .f32⟩
  | 35 => ⟨S1x4x128, .f32⟩
  | 36 => ⟨S1x4116x128, .f32⟩
  | 37 => ⟨S_, .f32⟩
  | 38 => ⟨S1x4x128, .f32⟩
  | 39 => ⟨S1x4112x128, .f32⟩
  | 40 => ⟨S_, .f32⟩
  | 41 => ⟨S4112, .f32⟩
  | 42 => ⟨S4112, .f32⟩
  | 43 => ⟨S1x4112x1, .f32⟩
  | 44 => ⟨S1x4112x128, .f32⟩
  | 45 => ⟨S1x4112x128, .f32⟩
  | 46 => ⟨S1x4112x128, .f32⟩
  | 47 => ⟨S1x4112x1x128, .f32⟩
  | 48 => ⟨S1x4112x128, .f32⟩
  | 49 => ⟨S1x4112x128, .f32⟩
  | 50 => ⟨S1x4112x1x128, .f32⟩
  | 51 => ⟨S1x4112x128, .f32⟩
  | 52 => ⟨S_, .f32⟩
  | 53 => ⟨S1x8x128, .f32⟩
  | 54 => ⟨S1x4120x128, .f32⟩
  | 55 => ⟨S_, .f32⟩
  | 56 => ⟨S1x8x128, .f32⟩
  | 57 => ⟨S1x4112x128, .f32⟩
  | 58 => ⟨S_, .f32⟩
  | 59 => ⟨S4112, .f32⟩
  | 60 => ⟨S4112, .f32⟩
  | 61 => ⟨S1x4112x1, .f32⟩
  | 62 => ⟨S1x4112x128, .f32⟩
  | 63 => ⟨S1x4112x128, .f32⟩
  | 64 => ⟨S1x4112x128, .f32⟩
  | 65 => ⟨S1x4112x1x128, .f32⟩
  | 66 => ⟨S1x4112x128, .f32⟩
  | 67 => ⟨S1x4112x128, .f32⟩
  | 68 => ⟨S1x4112x1x128, .f32⟩
  | 69 => ⟨S1x4112x128, .f32⟩
  | 70 => ⟨S_, .f32⟩
  | 71 => ⟨S1x16x128, .f32⟩
  | 72 => ⟨S1x4128x128, .f32⟩
  | 73 => ⟨S_, .f32⟩
  | 74 => ⟨S1x16x128, .f32⟩
  | 75 => ⟨S1x4112x128, .f32⟩
  | 76 => ⟨S_, .f32⟩
  | 77 => ⟨S4112, .f32⟩
  | 78 => ⟨S4112, .f32⟩
  | 79 => ⟨S1x4112x1, .f32⟩
  | 80 => ⟨S1x4112x128, .f32⟩
  | 81 => ⟨S1x4112x128, .f32⟩
  | 82 => ⟨S1x4112x128, .f32⟩
  | 83 => ⟨S1x4112x1x128, .f32⟩
  | 84 => ⟨S1x4112x128, .f32⟩
  | 85 => ⟨S1x4112x128, .f32⟩
  | 86 => ⟨S1x4112x1x128, .f32⟩
  | 87 => ⟨S1x4112x1x128, .f32⟩
  | 88 => ⟨S1x4112x1x128, .f32⟩
  | 89 => ⟨S1x4112x1x128, .f32⟩
  | 90 => ⟨S1x4112x4x128, .f32⟩
  | 91 => ⟨S4x128x1x4112, .f32⟩
  | 92 => ⟨S1x4112x4x128, .f32⟩
  | 93 => ⟨S1x1x4x128, .f32⟩
  | 94 => ⟨S1x4112x4x128, .f32⟩
  | 95 => ⟨S1x4112x4x128, .f32⟩
  | 96 => ⟨S4112x512, .f32⟩
  | 97 => ⟨S1x4112x4x128, .f32⟩
  | 98 => ⟨S1x4112x4x128, .f32⟩
  | 99 => ⟨S_, .f32⟩
  | 100 => ⟨S1x4x128, .f32⟩
  | 101 => ⟨S1x1x4x128, .f32⟩
  | 102 => ⟨S1x4112x4x128, .f32⟩
  | 103 => ⟨S1x4112x4x128, .f32⟩
  | 104 => ⟨S_, .f32⟩
  | 105 => ⟨S4x128, .f32⟩
  | 106 => ⟨S4x128x1x4112, .f32⟩
  | 107 => ⟨S4x1x4112x128, .f32⟩
  | 108 => ⟨S1x4112x4x128, .f32⟩
  | 109 => ⟨S4x128x128, .f32⟩
  | 110 => ⟨S4x128x128, .f32⟩
  | 111 => ⟨S1x4112x1x128, .f32⟩
  | 112 => ⟨S1x4112x128, .f32⟩
  | 113 => ⟨S1x4112x1x128, .f32⟩
  | 114 => ⟨S1x4112x128, .f32⟩
  | 115 => ⟨S1x4112x1x128, .f32⟩
  | 116 => ⟨S1x4112x128, .f32⟩
  | 117 => ⟨S1x4112x1x128, .f32⟩
  | 118 => ⟨S1x4112x128, .f32⟩
  | 119 => ⟨S1x4112x128, .f32⟩
  | 120 => ⟨S1x4112x1x128, .f32⟩
  | 121 => ⟨S_, .f32⟩
  | 122 => ⟨S1x4112x4x128, .f32⟩
  | 123 => ⟨S1x4112x128, .f32⟩
  | 124 => ⟨S1x4112x128, .f32⟩
  | 125 => ⟨S1x4112x128, .f32⟩
  | 126 => ⟨S_, .f32⟩
  | 127 => ⟨S1x4128x128, .f32⟩
  | _ => ⟨S4112x512, .f32⟩

abbrev hbmTy0_1 (i : Nat) : BufTy := match i % 128 with
  | 0 => ⟨S1x16x128, .f32⟩
  | 1 => ⟨S1x4112x128, .f32⟩
  | 2 => ⟨S1x4112x128, .f32⟩
  | 3 => ⟨S1x4112x1x128, .f32⟩
  | 4 => ⟨S_, .f32⟩
  | 5 => ⟨S1x4112x4x128, .f32⟩
  | 6 => ⟨S1x4112x128, .f32⟩
  | 7 => ⟨S1x4112x1x128, .f32⟩
  | 8 => ⟨S_, .f32⟩
  | 9 => ⟨S1x4112x4x128, .f32⟩
  | 10 => ⟨S1x4112x4x128, .f32⟩
  | 11 => ⟨S1x4112x128, .f32⟩
  | 12 => ⟨S1x4112x128, .f32⟩
  | 13 => ⟨S1x4112x128, .f32⟩
  | 14 => ⟨S_, .f32⟩
  | 15 => ⟨S1x4120x128, .f32⟩
  | 16 => ⟨S1x8x128, .f32⟩
  | 17 => ⟨S1x4112x128, .f32⟩
  | 18 => ⟨S1x4112x128, .f32⟩
  | 19 => ⟨S1x4112x1x128, .f32⟩
  | 20 => ⟨S_, .f32⟩
  | 21 => ⟨S1x4112x4x128, .f32⟩
  | 22 => ⟨S1x4112x4x128, .f32⟩
  | 23 => ⟨S1x4112x128, .f32⟩
  | 24 => ⟨S1x4112x1x128, .f32⟩
  | 25 => ⟨S_, .f32⟩
  | 26 => ⟨S1x4112x4x128, .f32⟩
  | 27 => ⟨S1x4112x4x128, .f32⟩
  | 28 => ⟨S1x4112x128, .f32⟩
  | 29 => ⟨S1x4112x128, .f32⟩
  | 30 => ⟨S1x4112x128, .f32⟩
  | 31 => ⟨S_, .f32⟩
  | 32 => ⟨S1x4116x128, .f32⟩
  | 33 => ⟨S1x4x128, .f32⟩
  | 34 => ⟨S1x4112x128, .f32⟩
  | 35 => ⟨S1x4112x128, .f32⟩
  | 36 => ⟨S1x4112x1x128, .f32⟩
  | 37 => ⟨S_, .f32⟩
  | 38 => ⟨S1x4112x4x128, .f32⟩
  | 39 => ⟨S1x4112x4x128, .f32⟩
  | 40 => ⟨S1x4112x128, .f32⟩
  | 41 => ⟨S1x4112x1x128, .f32⟩
  | 42 => ⟨S_, .f32⟩
  | 43 => ⟨S1x4112x4x128, .f32⟩
  | 44 => ⟨S1x4112x4x128, .f32⟩
  | 45 => ⟨S1x4112x128, .f32⟩
  | 46 => ⟨S1x4112x128, .f32⟩
  | 47 => ⟨S1x4112x128, .f32⟩
  | 48 => ⟨S_, .f32⟩
  | 49 => ⟨S1x4114x128, .f32⟩
  | 50 => ⟨S1x2x128, .f32⟩
  | 51 => ⟨S1x4112x128, .f32⟩
  | 52 => ⟨S1x4112x128, .f32⟩
  | 53 => ⟨S1x4112x1x128, .f32⟩
  | 54 => ⟨S_, .f32⟩
  | 55 => ⟨S1x4112x4x128, .f32⟩
  | 56 => ⟨S1x4112x4x128, .f32⟩
  | 57 => ⟨S_, .f32⟩
  | 58 => ⟨S_, .f32⟩
  | 59 => ⟨S1x4112x4x128, .f32⟩
  | 60 => ⟨S1x4112x4x128, .f32⟩
  | 61 => ⟨S1x4x128, .f32⟩
  | 62 => ⟨S1x4x128x128, .f32⟩
  | 63 => ⟨S4112x512, .f32⟩
  | 64 => ⟨S_, .i32⟩
  | 65 => ⟨S_, .f32⟩
  | 66 => ⟨S4352x512, .f32⟩
  | 67 => ⟨S4x128x128, .f32⟩
  | 68 => ⟨S4x1x128, .f32⟩
  | _ => ⟨S4112x512, .f32⟩

abbrev hbmTy (i : Nat) : BufTy := match i / 128 with
  | 0 => hbmTy0_0 i
  | 1 => hbmTy0_1 i
  | _ => ⟨S4112x512, .f32⟩

abbrev bufTy : (tb : Table) → Fin (tcTables nBuf tb) → BufTy
  | .hbm, ⟨i, _⟩ => hbmTy i
  | _, _ => ⟨S4112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_cst : Ref sig .tc := ⟨.hbm, 7, rfl⟩
abbrev main_call0_call0_v0 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_12 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_13 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_cst_14 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_cst_15 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_cst_16 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_17 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_18 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_cst_19 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_cst_20 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_cst_21 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_cst_22 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_cst_23 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_cst_24 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_cst_25 : Ref sig .tc := ⟨.hbm, 182, rfl⟩
abbrev main_v150 : Ref sig .tc := ⟨.hbm, 183, rfl⟩
abbrev main_v151 : Ref sig .tc := ⟨.hbm, 184, rfl⟩
abbrev main_call1_call0_cst : Ref sig .tc := ⟨.hbm, 185, rfl⟩
abbrev main_call1_call0_v0 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_c : Ref sig .tc := ⟨.hbm, 192, rfl⟩
abbrev main_call2_v0 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩

abbrev nD : Nat := 1
abbrev τ : Topo := Topo.v7x

variable {F : FTy → Type} [FloatOps F]
-- ==== Ffn.lean ====
abbrev S4112x1024 : Shape := ⟨2, ![4112, 1024]⟩
abbrev S4096x1024 : Shape := ⟨2, ![4096, 1024]⟩
abbrev S1024 : Shape := ⟨1, ![1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩
abbrev S4112 : Shape := ⟨1, ![4112]⟩
abbrev S4112x1 : Shape := ⟨2, ![4112, 1]⟩
abbrev S1024x2816 : Shape := ⟨2, ![1024, 2816]⟩
abbrev S4112x2816 : Shape := ⟨2, ![4112, 2816]⟩
abbrev S2816x1024 : Shape := ⟨2, ![2816, 1024]⟩
abbrev S4112x5632 : Shape := ⟨2, ![4112, 5632]⟩
abbrev S4352x1024 : Shape := ⟨2, ![4352, 1024]⟩
abbrev S4352x5632 : Shape := ⟨2, ![4352, 5632]⟩
abbrev S8448x4352 : Shape := ⟨2, ![8448, 4352]⟩
abbrev S1x128 : Shape := ⟨2, ![1, 128]⟩
abbrev S256x1024 : Shape := ⟨2, ![256, 1024]⟩
abbrev S256x5632 : Shape := ⟨2, ![256, 5632]⟩
abbrev S8448x256 : Shape := ⟨2, ![8448, 256]⟩
abbrev S3 : Shape := ⟨1, ![3]⟩
abbrev S1 : Shape := ⟨1, ![1]⟩
abbrev S256 : Shape := ⟨1, ![256]⟩
abbrev S256x1 : Shape := ⟨2, ![256, 1]⟩
abbrev S1x256x1024 : Shape := ⟨3, ![1, 256, 1024]⟩
abbrev S1x1x1 : Shape := ⟨3, ![1, 1, 1]⟩
abbrev S1408x1024 : Shape := ⟨2, ![1408, 1024]⟩
abbrev S256x1408 : Shape := ⟨2, ![256, 1408]⟩
abbrev S1408x256 : Shape := ⟨2, ![1408, 256]⟩

abbrev nBuf : Space → Nat
  | .hbm => 67
  | .vmem => 22
  | .smem => 0
  | _ => 0

abbrev bufTy : (tb : Table) → Fin (tcTables nBuf tb) → BufTy
  | .hbm, ⟨0, _⟩ => ⟨S4112x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S1024, .f32⟩
  | .hbm, ⟨8, _⟩ => ⟨S4112x1024, .f32⟩
  | .hbm, ⟨9, _⟩ => ⟨S_, .f32⟩
  | .hbm, ⟨10, _⟩ => ⟨S4112, .f32⟩
  | .hbm, ⟨11, _⟩ => ⟨S4112x1, .f32⟩
  | .hbm, ⟨12, _⟩ => ⟨S_, .f32⟩
  | .hbm, ⟨13, _⟩ => ⟨S4112x1, .f32⟩
  | .hbm, ⟨14, _⟩ => ⟨S4112x1, .f32⟩
  | .hbm, ⟨15, _⟩ => ⟨S_, .f32⟩
  | .hbm, ⟨16, _⟩ => ⟨S4112x1, .f32⟩
  | .hbm, ⟨17, _⟩ => ⟨S4112x1, .f32⟩
  | .hbm, ⟨18, _⟩ => ⟨S4112x1, .f32⟩
  | .hbm, ⟨19, _⟩ => ⟨S4112x1024, .f32⟩
  | .hbm, ⟨20, _⟩ => ⟨S4112x1024, .f32⟩
  | .hbm, ⟨21, _⟩ => ⟨S1x1024, .f32⟩
  | .hbm, ⟨22, _⟩ => ⟨S4112x1024, .f32⟩
  | .hbm, ⟨23, _⟩ => ⟨S4112x1024, .f32⟩
  | .hbm, ⟨24, _⟩ => ⟨S1024x2816, .f32⟩
  | .hbm, ⟨25, _⟩ => ⟨S4112x2816, .f32⟩
  | .hbm, ⟨26, _⟩ => ⟨S1024x2816, .f32⟩
  | .hbm, ⟨27, _⟩ => ⟨S4112x2816, .f32⟩
  | .hbm, ⟨28, _⟩ => ⟨S4112x2816, .f32⟩
  | .hbm, ⟨29, _⟩ => ⟨S4112x2816, .f32⟩
  | .hbm, ⟨30, _⟩ => ⟨S_, .f32⟩
  | .hbm, ⟨31, _⟩ => ⟨S4112x2816, .f32⟩
  | .hbm, ⟨32, _⟩ => ⟨S4112x2816, .f32⟩
  | .hbm, ⟨33, _⟩ => ⟨S_, .f32⟩
  | .hbm, ⟨34, _⟩ => ⟨S4112x2816, .f32⟩
  | .hbm, ⟨35, _⟩ => ⟨S4112x2816, .f32⟩
  | .hbm, ⟨36, _⟩ => ⟨S4112x2816, .f32⟩
  | .hbm, ⟨37, _⟩ => ⟨S4112x2816, .f32⟩
  | .hbm, ⟨38, _⟩ => ⟨S2816x1024, .f32⟩
  | .hbm, ⟨39, _⟩ => ⟨S4112x1024, .f32⟩
  | .hbm, ⟨40, _⟩ => ⟨S4112x1024, .f32⟩
  | .hbm, ⟨41, _⟩ => ⟨S4112x5632, .f32⟩
  | .hbm, ⟨42, _⟩ => ⟨S4112x5632, .bf16⟩
  | .hbm, ⟨43, _⟩ => ⟨S_, .i32⟩
  | .hbm, ⟨44, _⟩ => ⟨S_, .f32⟩
  | .hbm, ⟨45, _⟩ => ⟨S4352x1024, .f32⟩
  | .hbm, ⟨46, _⟩ => ⟨S_, .i32⟩
  | .hbm, ⟨47, _⟩ => ⟨S_, .f32⟩
  | .hbm, ⟨48, _⟩ => ⟨S4352x1024, .f32⟩
  | .hbm, ⟨49, _⟩ => ⟨S_, .i32⟩
  | .hbm, ⟨50, _⟩ => ⟨S_, .bf16⟩
  | .hbm, ⟨51, _⟩ => ⟨S4352x5632, .bf16⟩
  | .hbm, ⟨52, _⟩ => ⟨S1x1024, .f32⟩
  | .hbm, ⟨53, _⟩ => ⟨S1024x2816, .f32⟩
  | .hbm, ⟨54, _⟩ => ⟨S2816x1024, .f32⟩
  | .hbm, ⟨55, _⟩ => ⟨S2816x1024, .bf16⟩
  | .hbm, ⟨56, _⟩ => ⟨S1024x2816, .f32⟩
  | .hbm, ⟨57, _⟩ => ⟨S2816x1024, .f32⟩
  | .hbm, ⟨58, _⟩ => ⟨S2816x1024, .bf16⟩
  | .hbm, ⟨59, _⟩ => ⟨S2816x1024, .f32⟩
  | .hbm, ⟨60, _⟩ => ⟨S2816x1024, .bf16⟩
  | .hbm, ⟨61, _⟩ => ⟨S4352x1024, .f32⟩
  | .hbm, ⟨62, _⟩ => ⟨S8448x4352, .bf16⟩
  | .hbm, ⟨63, _⟩ => ⟨S4352x1024, .bf16⟩
  | .hbm, ⟨64, _⟩ => ⟨S1x128, .f32⟩
  | .hbm, ⟨65, _⟩ => ⟨S1x1024, .f32⟩
  | .hbm, ⟨66, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x5632, .bf16⟩
  | .local _ .vmem, ⟨7, _⟩ => ⟨S256x5632, .bf16⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S8448x256, .bf16⟩
  | .local _ .vmem, ⟨13, _⟩ => ⟨S8448x256, .bf16⟩
  | .local _ .vmem, ⟨14, _⟩ => ⟨S256x1024, .bf16⟩
  | .local _ .vmem, ⟨15, _⟩ => ⟨S256x1024, .bf16⟩
  | .local _ .vmem, ⟨16, _⟩ => ⟨S1x128, .f32⟩
  | .local _ .vmem, ⟨17, _⟩ => ⟨S1x1024, .f32⟩
  | .local _ .vmem, ⟨18, _⟩ => ⟨S1x1024, .f32⟩
  | .local _ .vmem, ⟨19, _⟩ => ⟨S2816x1024, .bf16⟩
  | .local _ .vmem, ⟨20, _⟩ => ⟨S2816x1024, .bf16⟩
  | .local _ .vmem, ⟨21, _⟩ => ⟨S2816x1024, .bf16⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c : Ref sig .tc := ⟨.hbm, 43, rfl⟩
abbrev main_call1_v0 : Ref sig .tc := ⟨.hbm, 44, rfl⟩
abbrev main_v25 : Ref sig .tc := ⟨.hbm, 45, rfl⟩
abbrev main_c_2 : Ref sig .tc := ⟨.hbm, 46, rfl⟩
abbrev main_call2_v0 : Ref sig .tc := ⟨.hbm, 47, rfl⟩
abbrev main_v26 : Ref sig .tc := ⟨.hbm, 48, rfl⟩
abbrev main_c_3 : Ref sig .tc := ⟨.hbm, 49, rfl⟩
abbrev main_call3_v0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37_0 : Ref sig .tc := ⟨.hbm, 61, rfl⟩
abbrev main_v37_1 : Ref sig .tc := ⟨.hbm, 62, rfl⟩
abbrev main_v37_2 : Ref sig .tc := ⟨.hbm, 63, rfl⟩
abbrev main_v37_3 : Ref sig .tc := ⟨.hbm, 64, rfl⟩
abbrev main_v37_4 : Ref sig .tc := ⟨.hbm, 65, rfl⟩
abbrev main_v37_5 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8448x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnRefIdeal.lean ====
abbrev S4112x1024 : Shape := ⟨2, ![4112, 1024]⟩
abbrev S4096x1024 : Shape := ⟨2, ![4096, 1024]⟩
abbrev S1024 : Shape := ⟨1, ![1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩
abbrev S4112 : Shape := ⟨1, ![4112]⟩
abbrev S4112x1 : Shape := ⟨2, ![4112, 1]⟩
abbrev S1024x2816 : Shape := ⟨2, ![1024, 2816]⟩
abbrev S4112x2816 : Shape := ⟨2, ![4112, 2816]⟩
abbrev S2816x1024 : Shape := ⟨2, ![2816, 1024]⟩
abbrev S4096 : Shape := ⟨1, ![4096]⟩
abbrev S4112x8448 : Shape := ⟨2, ![4112, 8448]⟩
abbrev S8448x4112 : Shape := ⟨2, ![8448, 4112]⟩
abbrev S4352x1024 : Shape := ⟨2, ![4352, 1024]⟩
abbrev S8448x4352 : Shape := ⟨2, ![8448, 4352]⟩
abbrev S1x128 : Shape := ⟨2, ![1, 128]⟩

abbrev nBuf : Space → Nat
  | .hbm => 172
  | .vmem => 0
  | .smem => 0
  | _ => 0

abbrev hbmTy0_0 (i : Nat) : BufTy := match i % 128 with
  | 0 => ⟨S4112x1024, .f32⟩
  | 1 => ⟨S4096x1024, .f32⟩
  | 2 => ⟨S1024, .f32⟩
  | 3 => ⟨S1x1024, .f32⟩
  | 4 => ⟨S1x1024x2816, .f32⟩
  | 5 => ⟨S1x1024x2816, .f32⟩
  | 6 => ⟨S1x2816x1024, .f32⟩
  | 7 => ⟨S1024, .f32⟩
  | 8 => ⟨S4112x1024, .f32⟩
  | 9 => ⟨S_, .f32⟩
  | 10 => ⟨S4112, .f32⟩
  | 11 => ⟨S4112x1, .f32⟩
  | 12 => ⟨S_, .f32⟩
  | 13 => ⟨S4112x1, .f32⟩
  | 14 => ⟨S4112x1, .f32⟩
  | 15 => ⟨S_, .f32⟩
  | 16 => ⟨S4112x1, .f32⟩
  | 17 => ⟨S4112x1, .f32⟩
  | 18 => ⟨S4112x1, .f32⟩
  | 19 => ⟨S4112x1, .f32⟩
  | 20 => ⟨S_, .f32⟩
  | 21 => ⟨S4112x1, .f32⟩
  | 22 => ⟨S4112x1, .f32⟩
  | 23 => ⟨S4112x1024, .f32⟩
  | 24 => ⟨S4112x1024, .f32⟩
  | 25 => ⟨S1x1024, .f32⟩
  | 26 => ⟨S4112x1024, .f32⟩
  | 27 => ⟨S4112x1024, .f32⟩
  | 28 => ⟨S1024x2816, .f32⟩
  | 29 => ⟨S4112x2816, .f32⟩
  | 30 => ⟨S1024x2816, .f32⟩
  | 31 => ⟨S4112x2816, .f32⟩
  | 32 => ⟨S4112x2816, .f32⟩
  | 33 => ⟨S4112x2816, .f32⟩
  | 34 => ⟨S_, .f32⟩
  | 35 => ⟨S4112x2816, .f32⟩
  | 36 => ⟨S4112x2816, .f32⟩
  | 37 => ⟨S_, .f32⟩
  | 38 => ⟨S4112x2816, .f32⟩
  | 39 => ⟨S4112x2816, .f32⟩
  | 40 => ⟨S_, .f32⟩
  | 41 => ⟨S4112x2816, .f32⟩
  | 42 => ⟨S4112x2816, .f32⟩
  | 43 => ⟨S4112x2816, .f32⟩
  | 44 => ⟨S4112x2816, .f32⟩
  | 45 => ⟨S4112x2816, .f32⟩
  | 46 => ⟨S2816x1024, .f32⟩
  | 47 => ⟨S4112x1024, .f32⟩
  | 48 => ⟨S4112x1024, .f32⟩
  | 49 => ⟨S4112x1024, .f32⟩
  | 50 => ⟨S_, .f32⟩
  | 51 => ⟨S4112, .f32⟩
  | 52 => ⟨S4112x1, .f32⟩
  | 53 => ⟨S_, .f32⟩
  | 54 => ⟨S4112x1, .f32⟩
  | 55 => ⟨S4112x1, .f32⟩
  | 56 => ⟨S_, .f32⟩
  | 57 => ⟨S4112x1, .f32⟩
  | 58 => ⟨S4112x1, .f32⟩
  | 59 => ⟨S4112x1, .f32⟩
  | 60 => ⟨S4112x1, .f32⟩
  | 61 => ⟨S_, .f32⟩
  | 62 => ⟨S4112x1, .f32⟩
  | 63 => ⟨S4112x1, .f32⟩
  | 64 => ⟨S4112x1024, .f32⟩
  | 65 => ⟨S4112x1024, .f32⟩
  | 66 => ⟨S1x1024, .f32⟩
  | 67 => ⟨S4112x1024, .f32⟩
  | 68 => ⟨S4112x1024, .f32⟩
  | 69 => ⟨S4096x1024, .f32⟩
  | 70 => ⟨S4096x1024, .f32⟩
  | 71 => ⟨S4096x1024, .f32⟩
  | 72 => ⟨S_, .f32⟩
  | 73 => ⟨S4096x1024, .f32⟩
  | 74 => ⟨S4096x1024, .f32⟩
  | 75 => ⟨S_, .f32⟩
  | 76 => ⟨S4096, .f32⟩
  | 77 => ⟨S_, .f32⟩
  | 78 => ⟨S4096, .f32⟩
  | 79 => ⟨S4096, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S4096, .f32⟩
  | 88 => ⟨S_, .f32⟩
  | 89 => ⟨S4096, .f32⟩
  | 90 => ⟨S4096, .f32⟩
  | 91 => ⟨S4096x1024, .f32⟩
  | 92 => ⟨S4096x1024, .f32⟩
  | 93 => ⟨S_, .f32⟩
  | 94 => ⟨S4112x1024, .f32⟩
  | 95 => ⟨S4112x1024, .f32⟩
  | 96 => ⟨S_, .f32⟩
  | 97 => ⟨S1024, .f32⟩
  | 98 => ⟨S1x1024, .f32⟩
  | 99 => ⟨S4112x1024, .f32⟩
  | 100 => ⟨S4112x1024, .f32⟩
  | 101 => ⟨S_, .f32⟩
  | 102 => ⟨S1024, .f32⟩
  | 103 => ⟨S4112x1024, .f32⟩
  | 104 => ⟨S_, .f32⟩
  | 105 => ⟨S4112, .f32⟩
  | 106 => ⟨S4112x1, .f32⟩
  | 107 => ⟨S4112x1024, .f32⟩
  | 108 => ⟨S4112x1024, .f32⟩
  | 109 => ⟨S4112x1, .f32⟩
  | 110 => ⟨S_, .f32⟩
  | 111 => ⟨S4112x1, .f32⟩
  | 112 => ⟨S4112x1, .f32⟩
  | 113 => ⟨S_, .f32⟩
  | 114 => ⟨S4112, .f32⟩
  | 115 => ⟨S4112x1024, .f32⟩
  | 116 => ⟨S4112x1024, .f32⟩
  | 117 => ⟨S4112x1024, .f32⟩
  | 118 => ⟨S4112x1024, .f32⟩
  | 119 => ⟨S4112x1024, .f32⟩
  | 120 => ⟨S4112x2816, .f32⟩
  | 121 => ⟨S4112x2816, .f32⟩
  | 122 => ⟨S4112x2816, .f32⟩
  | 123 => ⟨S4112x2816, .f32⟩
  | 124 => ⟨S4112x2816, .f32⟩
  | 125 => ⟨S4112x2816, .f32⟩
  | 126 => ⟨S4112x2816, .f32⟩
  | 127 => ⟨S4112x1024, .f32⟩
  | _ => ⟨S4112x1024, .f32⟩

abbrev hbmTy0_1 (i : Nat) : BufTy := match i % 128 with
  | 0 => ⟨S4112x1024, .f32⟩
  | 1 => ⟨S4112x1024, .f32⟩
  | 2 => ⟨S4112x1024, .f32⟩
  | 3 => ⟨S_, .f32⟩
  | 4 => ⟨S1024, .f32⟩
  | 5 => ⟨S1x1024, .f32⟩
  | 6 => ⟨S4112x1024, .f32⟩
  | 7 => ⟨S4112x1024, .f32⟩
  | 8 => ⟨S_, .f32⟩
  | 9 => ⟨S1024, .f32⟩
  | 10 => ⟨S4112x1024, .f32⟩
  | 11 => ⟨S_, .f32⟩
  | 12 => ⟨S4112, .f32⟩
  | 13 => ⟨S4112x1, .f32⟩
  | 14 => ⟨S4112x1024, .f32⟩
  | 15 => ⟨S4112x1024, .f32⟩
  | 16 => ⟨S4112x1, .f32⟩
  | 17 => ⟨S_, .f32⟩
  | 18 => ⟨S4112x1, .f32⟩
  | 19 => ⟨S4112x1, .f32⟩
  | 20 => ⟨S_, .f32⟩
  | 21 => ⟨S4112, .f32⟩
  | 22 => ⟨S4112x1024, .f32⟩
  | 23 => ⟨S4112x1024, .f32⟩
  | 24 => ⟨S4112x1024, .f32⟩
  | 25 => ⟨S4112x1024, .f32⟩
  | 26 => ⟨S4112x1024, .f32⟩
  | 27 => ⟨S1x1024, .f32⟩
  | 28 => ⟨S4112x8448, .f32⟩
  | 29 => ⟨S8448x4112, .f32⟩
  | 30 => ⟨S4112x1024, .f32⟩
  | 31 => ⟨S_, .i32⟩
  | 32 => ⟨S_, .f32⟩
  | 33 => ⟨S4352x1024, .f32⟩
  | 34 => ⟨S_, .i32⟩
  | 35 => ⟨S_, .f32⟩
  | 36 => ⟨S8448x4352, .f32⟩
  | 37 => ⟨S8448x4352, .bf16⟩
  | 38 => ⟨S_, .i32⟩
  | 39 => ⟨S_, .f32⟩
  | 40 => ⟨S4352x1024, .f32⟩
  | 41 => ⟨S4352x1024, .bf16⟩
  | 42 => ⟨S1x128, .f32⟩
  | 43 => ⟨S1x1024, .f32⟩
  | _ => ⟨S4112x1024, .f32⟩

abbrev hbmTy (i : Nat) : BufTy := match i / 128 with
  | 0 => hbmTy0_0 i
  | 1 => hbmTy0_1 i
  | _ => ⟨S4112x1024, .f32⟩

abbrev bufTy : (tb : Table) → Fin (tcTables nBuf tb) → BufTy
  | .hbm, ⟨i, _⟩ => hbmTy i
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v21_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v21_1 : Ref sig .tc := ⟨.hbm, 43, rfl⟩
abbrev main_v21_0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_cst_9 : Ref sig .tc := ⟨.hbm, 77, rfl⟩
abbrev main_v48 : Ref sig .tc := ⟨.hbm, 78, rfl⟩
abbrev main_v49 : Ref sig .tc := ⟨.hbm, 79, rfl⟩
abbrev main_cst_10 : Ref sig .tc := ⟨.hbm, 80, rfl⟩
abbrev main_v50 : Ref sig .tc := ⟨.hbm, 81, rfl⟩
abbrev main_cst_11 : Ref sig .tc := ⟨.hbm, 82, rfl⟩
abbrev main_v51 : Ref sig .tc := ⟨.hbm, 83, rfl⟩
abbrev main_cst_12 : Ref sig .tc := ⟨.hbm, 84, rfl⟩
abbrev main_cst_13 : Ref sig .tc := ⟨.hbm, 85, rfl⟩
abbrev main_v52 : Ref sig .tc := ⟨.hbm, 86, rfl⟩
abbrev main_v53 : Ref sig .tc := ⟨.hbm, 87, rfl⟩
abbrev main_cst_14 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_15 : Ref sig .tc := ⟨.hbm, 93, rfl⟩
abbrev main_v58 : Ref sig .tc := ⟨.hbm, 94, rfl⟩
abbrev main_v59 : Ref sig .tc := ⟨.hbm, 95, rfl⟩
abbrev main_cst_16 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_17 : Ref sig .tc := ⟨.hbm, 101, rfl⟩
abbrev main_v64 : Ref sig .tc := ⟨.hbm, 102, rfl⟩
abbrev main_v65 : Ref sig .tc := ⟨.hbm, 103, rfl⟩
abbrev main_cst_18 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_19 : Ref sig .tc := ⟨.hbm, 110, rfl⟩
abbrev main_v71 : Ref sig .tc := ⟨.hbm, 111, rfl⟩
abbrev main_v72 : Ref sig .tc := ⟨.hbm, 112, rfl⟩
abbrev main_cst_20 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_21 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_22 : Ref sig .tc := ⟨.hbm, 136, rfl⟩
abbrev main_v91 : Ref sig .tc := ⟨.hbm, 137, rfl⟩
abbrev main_v92 : Ref sig .tc := ⟨.hbm, 138, rfl⟩
abbrev main_cst_23 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_24 : Ref sig .tc := ⟨.hbm, 145, rfl⟩
abbrev main_v98 : Ref sig .tc := ⟨.hbm, 146, rfl⟩
abbrev main_v99 : Ref sig .tc := ⟨.hbm, 147, rfl⟩
abbrev main_cst_25 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_c : Ref sig .tc := ⟨.hbm, 159, rfl⟩
abbrev main_call2_v0 : Ref sig .tc := ⟨.hbm, 160, rfl⟩
abbrev main_v110 : Ref sig .tc := ⟨.hbm, 161, rfl⟩
abbrev main_c_26 : Ref sig .tc := ⟨.hbm, 162, rfl⟩
abbrev main_call3_v0 : Ref sig .tc := ⟨.hbm, 163, rfl⟩
abbrev main_v111 : Ref sig .tc := ⟨.hbm, 164, rfl⟩
abbrev main_v112 : Ref sig .tc := ⟨.hbm, 165, rfl⟩
abbrev main_c_27 : Ref sig .tc := ⟨.hbm, 166, rfl⟩
abbrev main_call4_v0 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩

abbrev nD : Nat := 1
abbrev τ : Topo := Topo.v7x

variable {F : FTy → Type} [FloatOps F]
-- ==== DiscA.lean ====
abbrev S1x32x64 : Shape := ⟨3, ![1, 32, 64]⟩
abbrev S1x32 : Shape := ⟨2, ![1, 32]⟩
abbrev S32x64 : Shape := ⟨2, ![32, 64]⟩
abbrev S32 : Shape := ⟨1, ![32]⟩
abbrev S32x1 : Shape := ⟨2, ![32, 1]⟩

abbrev nBuf : Space → Nat
  | .hbm => 14
  | .vmem => 10
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S32x64, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S32x64, .f32⟩
  | .hbm, ⟨8, _⟩ => ⟨S32x64, .f32⟩
  | .hbm, ⟨9, _⟩ => ⟨S32, .f32⟩
  | .hbm, ⟨10, _⟩ => ⟨S32x1, .f32⟩
  | .hbm, ⟨11, _⟩ => ⟨S32x64, .f32⟩
  | .hbm, ⟨12, _⟩ => ⟨S32x64, .f32⟩
  | .hbm, ⟨13, _⟩ => ⟨S32x1, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | .local _ .vmem, ⟨7, _⟩ => ⟨S32x64, .f32⟩
  | .local _ .vmem, ⟨8, _⟩ => ⟨S32x64, .f32⟩
  | .local _ .vmem, ⟨9, _⟩ => ⟨S32x1, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== DiscARefIdeal.lean ====
abbrev S1x32x64 : Shape := ⟨3, ![1, 32, 64]⟩
abbrev S1x32 : Shape := ⟨2, ![1, 32]⟩
abbrev S32x64 : Shape := ⟨2, ![32, 64]⟩
abbrev S_ : Shape := ⟨0, ![]⟩
abbrev S32 : Shape := ⟨1, ![32]⟩
abbrev S32x1 : Shape := ⟨2, ![32, 1]⟩

abbrev nBuf : Space → Nat
  | .hbm => 130
  | .vmem => 0
  | .smem => 0
  | _ => 0

abbrev hbmTy0_0 (i : Nat) : BufTy := match i % 128 with
  | 0 => ⟨S1x32x64, .f32⟩
  | 1 => ⟨S1x32x64, .f32⟩
  | 2 => ⟨S1x32, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S_, .f32⟩
  | 9 => ⟨S32x64, .f32⟩
  | 10 => ⟨S32x64, .f32⟩
  | 11 => ⟨S_, .f32⟩
  | 12 => ⟨S32x64, .f32⟩
  | 13 => ⟨S32x64, .i1⟩
  | 14 => ⟨S_, .f32⟩
  | 15 => ⟨S32x64, .f32⟩
  | 16 => ⟨S32x64, .i1⟩
  | 17 => ⟨S_, .f32⟩
  | 18 => ⟨S32x64, .f32⟩
  | 19 => ⟨S_, .f32⟩
  | 20 => ⟨S32x64, .f32⟩
  | 21 => ⟨S_, .f32⟩
  | 22 => ⟨S32x64, .f32⟩
  | 23 => ⟨S32x64, .f32⟩
  | 24 => ⟨S32x64, .f32⟩
  | 25 => ⟨S32x64, .f32⟩
  | 26 => ⟨S32, .f32⟩
  | 27 => ⟨S32, .f32⟩
  | 28 => ⟨S32x1, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S_, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S32x64, .f32⟩
  | 47 => ⟨S32x64, .f32⟩
  | 48 => ⟨S32x64, .f32⟩
  | 49 => ⟨S32x64, .f32⟩
  | 50 => ⟨S32x64, .f32⟩
  | 51 => ⟨S_, .f32⟩
  | 52 => ⟨S32x64, .f32⟩
  | 53 => ⟨S32x64, .f32⟩
  | 54 => ⟨S32x64, .f32⟩
  | 55 => ⟨S32x64, .f32⟩
  | 56 => ⟨S32x64, .f32⟩
  | 57 => ⟨S32x64, .f32⟩
  | 58 => ⟨S32x64, .f32⟩
  | 59 => ⟨S_, .f32⟩
  | 60 => ⟨S32x64, .f32⟩
  | 61 => ⟨S32x64, .f32⟩
  | 62 => ⟨S32x64, .f32⟩
  | 63 => ⟨S32x64, .f32⟩
  | 64 => ⟨S32x64, .f32⟩
  | 65 => ⟨S32x64, .f32⟩
  | 66 => ⟨S32x64, .f32⟩
  | 67 => ⟨S32x64, .f32⟩
  | 68 => ⟨S32x64, .f32⟩
  | 69 => ⟨S32x64, .f32⟩
  | 70 => ⟨S32x64, .f32⟩
  | 71 => ⟨S32x64, .f32⟩
  | 72 => ⟨S32x64, .f32⟩
  | 73 => ⟨S32x64, .f32⟩
  | 74 => ⟨S32x64, .f32⟩
  | 75 => ⟨S32x64, .f32⟩
  | 76 => ⟨S32x64, .f32⟩
  | 77 => ⟨S32x64, .f32⟩
  | 78 => ⟨S32x64, .f32⟩
  | 79 => ⟨S32x64, .f32⟩
  | 80 => ⟨S32x64, .f32⟩
  | 81 => ⟨S32x64, .f32⟩
  | 82 => ⟨S32x64, .f32⟩
  | 83 => ⟨S32x64, .f32⟩
  | 84 => ⟨S32x64, .f32⟩
  | 85 => ⟨S32x64, .f32⟩
  | 86 => ⟨S32x64, .f32⟩
  | 87 => ⟨S32x64, .f32⟩
  | 88 => ⟨S32x64, .f32⟩
  | 89 => ⟨S32x64, .f32⟩
  | 90 => ⟨S32x64, .f32⟩
  | 91 => ⟨S32x64, .f32⟩
  | 92 => ⟨S32x64, .f32⟩
  | 93 => ⟨S32x64, .f32⟩
  | 94 => ⟨S32x64, .f32⟩
  | 95 => ⟨S32x64, .f32⟩
  | 96 => ⟨S32x64, .f32⟩
  | 97 => ⟨S32x64, .f32⟩
  | 98 => ⟨S32x64, .f32⟩
  | 99 => ⟨S32x64, .f32⟩
  | 100 => ⟨S32x64, .f32⟩
  | 101 => ⟨S32x64, .f32⟩
  | 102 => ⟨S32x64, .f32⟩
  | 103 => ⟨S32x64, .f32⟩
  | 104 => ⟨S_, .f32⟩
  | 105 => ⟨S32, .f32⟩
  | 106 => ⟨S32x1, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S_, .f32⟩
  | 113 => ⟨S32, .f32⟩
  | 114 => ⟨S32x1, .f32⟩
  | 115 => ⟨S32x1, .f32⟩
  | 116 => ⟨S32x64, .f32⟩
  | 117 => ⟨S32x64, .f32⟩
  | 118 => ⟨S32x64, .f32⟩
  | 119 => ⟨S_, .f32⟩
  | 120 => ⟨S32, .f32⟩
  | 121 => ⟨S32, .f32⟩
  | 122 => ⟨S1x32, .f32⟩
  | 123 => ⟨S1x32x64, .f32⟩
  | 124 => ⟨S32x64, .f32⟩
  | 125 => ⟨S1x32x64, .f32⟩
  | 126 => ⟨S32x64, .f32⟩
  | 127 => ⟨S32x64, .f32⟩
  | _ => ⟨S1x32x64, .f32⟩

abbrev hbmTy0_1 (i : Nat) : BufTy := match i % 128 with
  | 0 => ⟨S32, .f32⟩
  | 1 => ⟨S32x1, .f32⟩
  | _ => ⟨S1x32x64, .f32⟩

abbrev hbmTy (i : Nat) : BufTy := match i / 128 with
  | 0 => hbmTy0_0 i
  | 1 => hbmTy0_1 i
  | _ => ⟨S1x32x64, .f32⟩

abbrev bufTy : (tb : Table) → Fin (tcTables nBuf tb) → BufTy
  | .hbm, ⟨i, _⟩ => hbmTy i
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_cst_4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_8 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_cst_9 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_cst_10 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩

abbrev nD : Nat := 1
abbrev τ : Topo := Topo.v7x

variable {F : FTy → Type} [FloatOps F]
-- ==== DiscAFwd.lean ====
abbrev S1x32x64 : Shape := ⟨3, ![1, 32, 64]⟩
abbrev S1x32 : Shape := ⟨2, ![1, 32]⟩
abbrev S32x64 : Shape := ⟨2, ![32, 64]⟩
abbrev S32 : Shape := ⟨1, ![32]⟩
abbrev S32x1 : Shape := ⟨2, ![32, 1]⟩

abbrev nBuf : Space → Nat
  | .hbm => 11
  | .vmem => 7
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S32x64, .f32⟩
  | .hbm, ⟨4, _⟩ => ⟨S32x64, .f32⟩
  | .hbm, ⟨5, _⟩ => ⟨S32, .f32⟩
  | .hbm, ⟨6, _⟩ => ⟨S32x1, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== DiscAFwdRefIdeal.lean ====
abbrev S1x32x64 : Shape := ⟨3, ![1, 32, 64]⟩
abbrev S1x32 : Shape := ⟨2, ![1, 32]⟩
abbrev S32x64 : Shape := ⟨2, ![32, 64]⟩
abbrev S_ : Shape := ⟨0, ![]⟩
abbrev S32 : Shape := ⟨1, ![32]⟩
abbrev S32x1 : Shape := ⟨2, ![32, 1]⟩

abbrev nBuf : Space → Nat
  | .hbm => 34
  | .vmem => 0
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S32x64, .f32⟩
  | .hbm, ⟨4, _⟩ => ⟨S_, .f32⟩
  | .hbm, ⟨5, _⟩ => ⟨S32x64, .f32⟩
  | .hbm, ⟨6, _⟩ => ⟨S32x64, .f32⟩
  | .hbm, ⟨7, _⟩ => ⟨S32x64, .f32⟩
  | .hbm, ⟨8, _⟩ => ⟨S32, .f32⟩
  | .hbm, ⟨9, _⟩ => ⟨S32, .f32⟩
  | .hbm, ⟨10, _⟩ => ⟨S32x1, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S_, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== DiscBFwd.lean ====
abbrev S32x64 : Shape := ⟨2, ![32, 64]⟩
abbrev S1x32x64x16 : Shape := ⟨4, ![1, 32, 64, 16]⟩
abbrev S32x1x64 : Shape := ⟨3, ![32, 1, 64]⟩
abbrev S32x64x16 : Shape := ⟨3, ![32, 64, 16]⟩
abbrev S32x16x64 : Shape := ⟨3, ![32, 16, 64]⟩

abbrev nBuf : Space → Nat
  | .hbm => 12
  | .vmem => 6
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S1x32x64x16, .f32⟩
  | .hbm, ⟨3, _⟩ => ⟨S1x32x64x16, .f32⟩
  | .hbm, ⟨4, _⟩ => ⟨S32x1x64, .f32⟩
  | .hbm, ⟨5, _⟩ => ⟨S32x1x64, .f32⟩
  | .hbm, ⟨6, _⟩ => ⟨S32x64x16, .f32⟩
  | .hbm, ⟨7, _⟩ => ⟨S32x16x64, .f32⟩
  | .hbm, ⟨8, _⟩ => ⟨S32x64x16, .f32⟩
  | .hbm, ⟨9, _⟩ => ⟨S32x16x64, .f32⟩
  | .hbm, ⟨10, _⟩ => ⟨S32x16x64, .f32⟩
  | .hbm, ⟨11, _⟩ => ⟨S32x16x64, .f32⟩
  | .local _ .vmem, ⟨0, _⟩ => ⟨S32x1x64, .f32⟩
  | .local _ .vmem, ⟨1, _⟩ => ⟨S32x1x64, .f32⟩
  | .local _ .vmem, ⟨2, _⟩ => ⟨S32x16x64, .f32⟩
  | .local _ .vmem, ⟨3, _⟩ => ⟨S32x16x64, .f32⟩
  | .local _ .vmem, ⟨4, _⟩ => ⟨S32x16x64, .f32⟩
  | .local _ .vmem, ⟨5, _⟩ => ⟨S32x16x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S32x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== DiscBFwdRefIdeal.lean ====
abbrev S32x64 : Shape := ⟨2, ![32, 64]⟩
abbrev S1x32x64x16 : Shape := ⟨4, ![1, 32, 64, 16]⟩
abbrev S32x64x1 : Shape := ⟨3, ![32, 64, 1]⟩
abbrev S32x64x16 : Shape := ⟨3, ![32, 64, 16]⟩
abbrev S32x16x64 : Shape := ⟨3, ![32, 16, 64]⟩

abbrev nBuf : Space → Nat
  | .hbm => 20
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S1x32x64x16, .f32⟩
  | .hbm, ⟨3, _⟩ => ⟨S1x32x64x16, .f32⟩
  | .hbm, ⟨4, _⟩ => ⟨S32x64x1, .f32⟩
  | .hbm, ⟨5, _⟩ => ⟨S32x64x1, .f32⟩
  | .hbm, ⟨6, _⟩ => ⟨S32x64x16, .f32⟩
  | .hbm, ⟨7, _⟩ => ⟨S32x64x16, .f32⟩
  | .hbm, ⟨8, _⟩ => ⟨S32x64x16, .f32⟩
  | .hbm, ⟨9, _⟩ => ⟨S32x64x16, .f32⟩
  | .hbm, ⟨10, _⟩ => ⟨S32x64x16, .f32⟩
  | .hbm, ⟨11, _⟩ => ⟨S32x64x16, .f32⟩
  | .hbm, ⟨12, _⟩ => ⟨S32x64x16, .f32⟩
  | .hbm, ⟨13, _⟩ => ⟨S32x64x16, .f32⟩
  | .hbm, ⟨14, _⟩ => ⟨S32x64x16, .f32⟩
  | .hbm, ⟨15, _⟩ => ⟨S32x64x16, .f32⟩
  | .hbm, ⟨16, _⟩ => ⟨S32x64x16, .f32⟩
  | .hbm, ⟨17, _⟩ => ⟨S32x64x16, .f32⟩
  | .hbm, ⟨18, _⟩ => ⟨S32x16x64, .f32⟩
  | .hbm, ⟨19, _⟩ => ⟨S32x16x64, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== InProjFwd.lean ====
abbrev S4112x1024 : Shape := ⟨2, ![4112, 1024]⟩
abbrev S1x1024 : Shape := ⟨2, ![1, 1024]⟩
abbrev S1x1024x1024 : Shape := ⟨3, ![1, 1024, 1024]⟩
abbrev S16x1024 : Shape := ⟨2, ![16, 1024]⟩
abbrev S_ : Shape := ⟨0, ![]⟩
abbrev S256x1024 : Shape := ⟨2, ![256, 1024]⟩
abbrev S4096x1024 : Shape := ⟨2, ![4096, 1024]⟩
abbrev S1024x1024 : Shape := ⟨2, ![1024, 1024]⟩
abbrev S4352x512 : Shape := ⟨2, ![4352, 512]⟩
abbrev S256x512 : Shape := ⟨2, ![256, 512]⟩
abbrev S256 : Shape := ⟨1, ![256]⟩
abbrev S256x1 : Shape := ⟨2, ![256, 1]⟩

abbrev nBuf : Space → Nat
  | .hbm => 12
  | .vmem => 9
  | .smem => 0
  | _ => 0

abbrev bufTy : (tb : Table) → Fin (tcTables nBuf tb) → BufTy
  | .hbm, ⟨0, _⟩ => ⟨S4112x1024, .f32⟩
  | .hbm, ⟨1, _⟩ => ⟨S1x1024, .f32⟩
  | .hbm, ⟨2, _⟩ => ⟨S1x1024x1024, .f32⟩
  | .hbm, ⟨3, _⟩ => ⟨S16x1024, .f32⟩
  | .hbm, ⟨4, _⟩ => ⟨S_, .i32⟩
  | .hbm, ⟨5, _⟩ => ⟨S_, .f32⟩
  | .hbm, ⟨6, _⟩ => ⟨S256x1024, .f32⟩
  | .hbm, ⟨7, _⟩ => ⟨S4096x1024, .f32⟩
  | .hbm, ⟨8, _⟩ => ⟨S1024x1024, .f32⟩
  | .hbm, ⟨9, _⟩ => ⟨S1024x1024, .bf16⟩
  | .hbm, ⟨10, _⟩ => ⟨S4352x512, .f32⟩
  | .hbm, ⟨11, _⟩ => ⟨S4352x512, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x1024, .f32⟩
  | .local _ .vmem, ⟨4, _⟩ => ⟨S1024x1024, .bf16⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InProjFwdRefIdeal.lean ====
abbrev S4112x1024 : Shape := ⟨2, ![4112, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S4112 : Shape := ⟨1, ![4112]⟩
abbrev S4112x1 : Shape := ⟨2, ![4112, 1]⟩
abbrev S1024x1024 : Shape := ⟨2, ![1024, 1024]⟩
abbrev S4112x512 : Shape := ⟨2, ![4112, 512]⟩
abbrev S4352x512 : Shape := ⟨2, ![4352, 512]⟩

abbrev nBuf : Space → Nat
  | .hbm => 30
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1x1024, .f32⟩
  | .hbm, ⟨2, _⟩ => ⟨S1x1024x1024, .f32⟩
  | .hbm, ⟨3, _⟩ => ⟨S1024, .f32⟩
  | .hbm, ⟨4, _⟩ => ⟨S4112x1024, .f32⟩
  | .hbm, ⟨5, _⟩ => ⟨S_, .f32⟩
  | .hbm, ⟨6, _⟩ => ⟨S4112, .f32⟩
  | .hbm, ⟨7, _⟩ => ⟨S4112x1, .f32⟩
  | .hbm, ⟨8, _⟩ => ⟨S_, .f32⟩
  | .hbm, ⟨9, _⟩ => ⟨S4112x1, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S4112x1, .f32⟩
  | .hbm, ⟨15, _⟩ => ⟨S4112x1024, .f32⟩
  | .hbm, ⟨16, _⟩ => ⟨S4112x1024, .f32⟩
  | .hbm, ⟨17, _⟩ => ⟨S1x1024, .f32⟩
  | .hbm, ⟨18, _⟩ => ⟨S4112x1024, .f32⟩
  | .hbm, ⟨19, _⟩ => ⟨S4112x1024, .f32⟩
  | .hbm, ⟨20, _⟩ => ⟨S1024x1024, .f32⟩
  | .hbm, ⟨21, _⟩ => ⟨S4112x1024, .f32⟩
  | .hbm, ⟨22, _⟩ => ⟨S4112x512, .f32⟩
  | .hbm, ⟨23, _⟩ => ⟨S_, .i32⟩
  | .hbm, ⟨24, _⟩ => ⟨S_, .f32⟩
  | .hbm, ⟨25, _⟩ => ⟨S4352x512, .f32⟩
  | .hbm, ⟨26, _⟩ => ⟨S4112x512, .f32⟩
  | .hbm, ⟨27, _⟩ => ⟨S_, .i32⟩
  | .hbm, ⟨28, _⟩ => ⟨S_, .f32⟩
  | .hbm, ⟨29, _⟩ => ⟨S4352x512, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_call1_v0 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== OutProjFwd.lean ====
abbrev S4112x1024 : Shape := ⟨2, ![4112, 1024]⟩
abbrev S4112x512 : Shape := ⟨2, ![4112, 512]⟩
abbrev S1x512 : Shape := ⟨2, ![1, 512]⟩
abbrev S1x1024x1024 : Shape := ⟨3, ![1, 1024, 1024]⟩
abbrev S16x1024 : Shape := ⟨2, ![16, 1024]⟩
abbrev S_ : Shape := ⟨0, ![]⟩
abbrev S256x1024 : Shape := ⟨2, ![256, 1024]⟩
abbrev S4096x1024 : Shape := ⟨2, ![4096, 1024]⟩
abbrev S4352x512 : Shape := ⟨2, ![4352, 512]⟩
abbrev S1024x1024 : Shape := ⟨2, ![1024, 1024]⟩
abbrev S4352x1024 : Shape := ⟨2, ![4352, 1024]⟩
abbrev S256x512 : Shape := ⟨2, ![256, 512]⟩
abbrev S256 : Shape := ⟨1, ![256]⟩
abbrev S256x1 : Shape := ⟨2, ![256, 1]⟩
abbrev S512x1024 : Shape := ⟨2, ![512, 1024]⟩

abbrev nBuf : Space → Nat
  | .hbm => 20
  | .vmem => 12
  | .smem => 0
  | _ => 0

abbrev bufTy : (tb : Table) → Fin (tcTables nBuf tb) → BufTy
  | .hbm, ⟨0, _⟩ => ⟨S4112x1024, .f32⟩
  | .hbm, ⟨1, _⟩ => ⟨S4112x512, .f32⟩
  | .hbm, ⟨2, _⟩ => ⟨S4112x512, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S16x1024, .f32⟩
  | .hbm, ⟨7, _⟩ => ⟨S_, .i32⟩
  | .hbm, ⟨8, _⟩ => ⟨S_, .f32⟩
  | .hbm, ⟨9, _⟩ => ⟨S256x1024, .f32⟩
  | .hbm, ⟨10, _⟩ => ⟨S4096x1024, .f32⟩
  | .hbm, ⟨11, _⟩ => ⟨S_, .i32⟩
  | .hbm, ⟨12, _⟩ => ⟨S_, .f32⟩
  | .hbm, ⟨13, _⟩ => ⟨S4352x512, .f32⟩
  | .hbm, ⟨14, _⟩ => ⟨S_, .i32⟩
  | .hbm, ⟨15, _⟩ => ⟨S_, .f32⟩
  | .hbm, ⟨16, _⟩ => ⟨S4352x512, .f32⟩
  | .hbm, ⟨17, _⟩ => ⟨S1024x1024, .f32⟩
  | .hbm, ⟨18, _⟩ => ⟨S1024x1024, .bf16⟩
  | .hbm, ⟨19, _⟩ => ⟨S4352x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S1x512, .f32⟩
  | .local _ .vmem, ⟨8, _⟩ => ⟨S1x512, .f32⟩
  | .local _ .vmem, ⟨9, _⟩ => ⟨S1024x1024, .bf16⟩
  | .local _ .vmem, ⟨10, _⟩ => ⟨S256x1024, .f32⟩
  | .local _ .vmem, ⟨11, _⟩ => ⟨S256x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_c_1 : Ref sig .tc := ⟨.hbm, 14, rfl⟩
abbrev main_call2_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjFwdRefIdeal.lean ====
abbrev S4112x1024 : Shape := ⟨2, ![4112, 1024]⟩
abbrev S4112x512 : Shape := ⟨2, ![4112, 512]⟩
abbrev S1x512 : Shape := ⟨2, ![1, 512]⟩
abbrev S1x1024x1024 : Shape := ⟨3, ![1, 1024, 1024]⟩
abbrev S512 : Shape := ⟨1, ![512]⟩
abbrev S_ : Shape := ⟨0, ![]⟩
abbrev S4112 : Shape := ⟨1, ![4112]⟩
abbrev S4112x1 : Shape := ⟨2, ![4112, 1]⟩
abbrev S1024x1024 : Shape := ⟨2, ![1024, 1024]⟩
abbrev S4352x1024 : Shape := ⟨2, ![4352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4112x512, .f32⟩
  | .hbm, ⟨2, _⟩ => ⟨S4112x512, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S512, .f32⟩
  | .hbm, ⟨7, _⟩ => ⟨S4112x512, .f32⟩
  | .hbm, ⟨8, _⟩ => ⟨S_, .f32⟩
  | .hbm, ⟨9, _⟩ => ⟨S4112, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S4112x1, .f32⟩
  | .hbm, ⟨18, _⟩ => ⟨S4112x512, .f32⟩
  | .hbm, ⟨19, _⟩ => ⟨S4112x512, .f32⟩
  | .hbm, ⟨20, _⟩ => ⟨S1x512, .f32⟩
  | .hbm, ⟨21, _⟩ => ⟨S4112x512, .f32⟩
  | .hbm, ⟨22, _⟩ => ⟨S4112x512, .f32⟩
  | .hbm, ⟨23, _⟩ => ⟨S512, .f32⟩
  | .hbm, ⟨24, _⟩ => ⟨S4112x512, .f32⟩
  | .hbm, ⟨25, _⟩ => ⟨S_, .f32⟩
  | .hbm, ⟨26, _⟩ => ⟨S4112, .f32⟩
  | .hbm, ⟨27, _⟩ => ⟨S4112x1, .f32⟩
  | .hbm, ⟨28, _⟩ => ⟨S_, .f32⟩
  | .hbm, ⟨29, _⟩ => ⟨S4112x1, .f32⟩
  | .hbm, ⟨30, _⟩ => ⟨S4112x1, .f32⟩
  | .hbm, ⟨31, _⟩ => ⟨S_, .f32⟩
  | .hbm, ⟨32, _⟩ => ⟨S4112x1, .f32⟩
  | .hbm, ⟨33, _⟩ => ⟨S4112x1, .f32⟩
  | .hbm, ⟨34, _⟩ => ⟨S4112x1, .f32⟩
  | .hbm, ⟨35, _⟩ => ⟨S4112x512, .f32⟩
  | .hbm, ⟨36, _⟩ => ⟨S4112x512, .f32⟩
  | .hbm, ⟨37, _⟩ => ⟨S1x512, .f32⟩
  | .hbm, ⟨38, _⟩ => ⟨S4112x512, .f32⟩
  | .hbm, ⟨39, _⟩ => ⟨S4112x512, .f32⟩
  | .hbm, ⟨40, _⟩ => ⟨S4112x1024, .f32⟩
  | .hbm, ⟨41, _⟩ => ⟨S1024x1024, .f32⟩
  | .hbm, ⟨42, _⟩ => ⟨S4112x1024, .f32⟩
  | .hbm, ⟨43, _⟩ => ⟨S4112x1024, .f32⟩
  | .hbm, ⟨44, _⟩ => ⟨S_, .i32⟩
  | .hbm, ⟨45, _⟩ => ⟨S_, .f32⟩
  | .hbm, ⟨46, _⟩ => ⟨S4352x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_call0_v0 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== FfnFwd.lean ====
abbrev S4112x1024 : Shape := ⟨2, ![4112, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩
abbrev S4352x1024 : Shape := ⟨2, ![4352, 1024]⟩
abbrev S1024x2816 : Shape := ⟨2, ![1024, 2816]⟩
abbrev S2816x1024 : Shape := ⟨2, ![2816, 1024]⟩
abbrev S4352x5632 : Shape := ⟨2, ![4352, 5632]⟩
abbrev S256x1024 : Shape := ⟨2, ![256, 1024]⟩
abbrev S256x5632 : Shape := ⟨2, ![256, 5632]⟩
abbrev S3 : Shape := ⟨1, ![3]⟩
abbrev S1 : Shape := ⟨1, ![1]⟩
abbrev S256 : Shape := ⟨1, ![256]⟩
abbrev S256x1 : Shape := ⟨2, ![256, 1]⟩
abbrev S1408x1024 : Shape := ⟨2, ![1408, 1024]⟩
abbrev S256x1408 : Shape := ⟨2, ![256, 1408]⟩

abbrev nBuf : Space → Nat
  | .hbm => 19
  | .vmem => 12
  | .smem => 0
  | _ => 0

abbrev bufTy : (tb : Table) → Fin (tcTables nBuf tb) → BufTy
  | .hbm, ⟨0, _⟩ => ⟨S4112x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S_, .i32⟩
  | .hbm, ⟨6, _⟩ => ⟨S_, .f32⟩
  | .hbm, ⟨7, _⟩ => ⟨S4352x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | .hbm, ⟨11, _⟩ => ⟨S1024x2816, .f32⟩
  | .hbm, ⟨12, _⟩ => ⟨S2816x1024, .f32⟩
  | .hbm, ⟨13, _⟩ => ⟨S2816x1024, .bf16⟩
  | .hbm, ⟨14, _⟩ => ⟨S2816x1024, .f32⟩
  | .hbm, ⟨15, _⟩ => ⟨S2816x1024, .bf16⟩
  | .hbm, ⟨16, _⟩ => ⟨S4352x5632, .bf16⟩
  | .hbm, ⟨17, _⟩ => ⟨S4352x1024, .bf16⟩
  | .hbm, ⟨18, _⟩ => ⟨S4352x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x5632, .bf16⟩
  | .local _ .vmem, ⟨4, _⟩ => ⟨S256x5632, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .f32⟩
  | .local _ .vmem, ⟨8, _⟩ => ⟨S256x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnFwdRefIdeal.lean ====
abbrev S4112x1024 : Shape := ⟨2, ![4112, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4112 : Shape := ⟨1, ![4112]⟩
abbrev S4112x1 : Shape := ⟨2, ![4112, 1]⟩
abbrev S1024x2816 : Shape := ⟨2, ![1024, 2816]⟩
abbrev S4112x2816 : Shape := ⟨2, ![4112, 2816]⟩
abbrev S2816x1024 : Shape := ⟨2, ![2816, 1024]⟩
abbrev S4112x5632 : Shape := ⟨2, ![4112, 5632]⟩
abbrev S4352x5632 : Shape := ⟨2, ![4352, 5632]⟩
abbrev S4352x1024 : Shape := ⟨2, ![4352, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S4112x1024, .f32⟩
  | .hbm, ⟨7, _⟩ => ⟨S_, .f32⟩
  | .hbm, ⟨8, _⟩ => ⟨S4112, .f32⟩
  | .hbm, ⟨9, _⟩ => ⟨S4112x1, .f32⟩
  | .hbm, ⟨10, _⟩ => ⟨S_, .f32⟩
  | .hbm, ⟨11, _⟩ => ⟨S4112x1, .f32⟩
  | .hbm, ⟨12, _⟩ => ⟨S4112x1, .f32⟩
  | .hbm, ⟨13, _⟩ => ⟨S_, .f32⟩
  | .hbm, ⟨14, _⟩ => ⟨S4112x1, .f32⟩
  | .hbm, ⟨15, _⟩ => ⟨S4112x1, .f32⟩
  | .hbm, ⟨16, _⟩ => ⟨S4112x1, .f32⟩
  | .hbm, ⟨17, _⟩ => ⟨S4112x1024, .f32⟩
  | .hbm, ⟨18, _⟩ => ⟨S4112x1024, .f32⟩
  | .hbm, ⟨19, _⟩ => ⟨S1x1024, .f32⟩
  | .hbm, ⟨20, _⟩ => ⟨S4112x1024, .f32⟩
  | .hbm, ⟨21, _⟩ => ⟨S4112x1024, .f32⟩
  | .hbm, ⟨22, _⟩ => ⟨S1024x2816, .f32⟩
  | .hbm, ⟨23, _⟩ => ⟨S4112x2816, .f32⟩
  | .hbm, ⟨24, _⟩ => ⟨S1024x2816, .f32⟩
  | .hbm, ⟨25, _⟩ => ⟨S4112x2816, .f32⟩
  | .hbm, ⟨26, _⟩ => ⟨S4112x2816, .f32⟩
  | .hbm, ⟨27, _⟩ => ⟨S4112x2816, .f32⟩
  | .hbm, ⟨28, _⟩ => ⟨S_, .f32⟩
  | .hbm, ⟨29, _⟩ => ⟨S4112x2816, .f32⟩
  | .hbm, ⟨30, _⟩ => ⟨S4112x2816, .f32⟩
  | .hbm, ⟨31, _⟩ => ⟨S_, .f32⟩
  | .hbm, ⟨32, _⟩ => ⟨S4112x2816, .f32⟩
  | .hbm, ⟨33, _⟩ => ⟨S4112x2816, .f32⟩
  | .hbm, ⟨34, _⟩ => ⟨S4112x2816, .f32⟩
  | .hbm, ⟨35, _⟩ => ⟨S4112x2816, .f32⟩
  | .hbm, ⟨36, _⟩ => ⟨S2816x1024, .f32⟩
  | .hbm, ⟨37, _⟩ => ⟨S4112x1024, .f32⟩
  | .hbm, ⟨38, _⟩ => ⟨S4112x1024, .f32⟩
  | .hbm, ⟨39, _⟩ => ⟨S4112x5632, .f32⟩
  | .hbm, ⟨40, _⟩ => ⟨S_, .i32⟩
  | .hbm, ⟨41, _⟩ => ⟨S_, .f32⟩
  | .hbm, ⟨42, _⟩ => ⟨S4352x5632, .f32⟩
  | .hbm, ⟨43, _⟩ => ⟨S4352x5632, .bf16⟩
  | .hbm, ⟨44, _⟩ => ⟨S_, .i32⟩
  | .hbm, ⟨45, _⟩ => ⟨S_, .f32⟩
  | .hbm, ⟨46, _⟩ => ⟨S4352x1024, .f32⟩
  | .hbm, ⟨47, _⟩ => ⟨S4352x1024, .bf16⟩
  | .hbm, ⟨48, _⟩ => ⟨S_, .i32⟩
  | .hbm, ⟨49, _⟩ => ⟨S_, .f32⟩
  | .hbm, ⟨50, _⟩ => ⟨S4352x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c : Ref sig .tc := ⟨.hbm, 40, rfl⟩
abbrev main_call1_v0 : Ref sig .tc := ⟨.hbm, 41, rfl⟩
abbrev main_v24 : Ref sig .tc := ⟨.hbm, 42, rfl⟩
abbrev main_v25 : Ref sig .tc := ⟨.hbm, 43, rfl⟩
abbrev main_c_2 : Ref sig .tc := ⟨.hbm, 44, rfl⟩
abbrev main_call2_v0 : Ref sig .tc := ⟨.hbm, 45, rfl⟩
abbrev main_v26 : Ref sig .tc := ⟨.hbm, 46, rfl⟩
abbrev main_v27 : Ref sig .tc := ⟨.hbm, 47, rfl⟩
abbrev main_c_3 : Ref sig .tc := ⟨.hbm, 48, rfl⟩
abbrev main_call3_v0 : Ref sig .tc := ⟨.hbm, 49, rfl⟩
abbrev main_v28 : Ref sig .tc := ⟨.hbm, 50, rfl⟩

abbrev nD : Nat := 1
abbrev τ : Topo := Topo.v7x

variable {F : FTy → Type} [FloatOps F]
-- ==== PoolFwd.lean ====
abbrev S4112x512 : Shape := ⟨2, ![4112, 512]⟩
abbrev S1x4x128x128 : Shape := ⟨4, ![1, 4, 128, 128]⟩
abbrev S1x4x128 : Shape := ⟨3, ![1, 4, 128]⟩
abbrev S_ : Shape := ⟨0, ![]⟩
abbrev S4352x512 : Shape := ⟨2, ![4352, 512]⟩
abbrev S4x128x128 : Shape := ⟨3, ![4, 128, 128]⟩
abbrev S4x128 : Shape := ⟨2, ![4, 128]⟩
abbrev S4x1x128 : Shape := ⟨3, ![4, 1, 128]⟩
abbrev S4352x128 : Shape := ⟨2, ![4352, 128]⟩
abbrev S1x128x128 : Shape := ⟨3, ![1, 128, 128]⟩
abbrev S1x1x128 : Shape := ⟨3, ![1, 1, 128]⟩
abbrev S4368x128 : Shape := ⟨2, ![4368, 128]⟩
abbrev S16x128 : Shape := ⟨2, ![16, 128]⟩
abbrev S272x128 : Shape := ⟨2, ![272, 128]⟩
abbrev S256x128 : Shape := ⟨2, ![256, 128]⟩
abbrev S256x1 : Shape := ⟨2, ![256, 1]⟩
abbrev S128x128 : Shape := ⟨2, ![128, 128]⟩
abbrev S1x128 : Shape := ⟨2, ![1, 128]⟩

abbrev nBuf : Space → Nat
  | .hbm => 10
  | .vmem => 9
  | .smem => 0
  | _ => 0

abbrev bufTy : (tb : Table) → Fin (tcTables nBuf tb) → BufTy
  | .hbm, ⟨0, _⟩ => ⟨S4112x512, .f32⟩
  | .hbm, ⟨1, _⟩ => ⟨S1x4x128x128, .f32⟩
  | .hbm, ⟨2, _⟩ => ⟨S1x4x128, .f32⟩
  | .hbm, ⟨3, _⟩ => ⟨S_, .i32⟩
  | .hbm, ⟨4, _⟩ => ⟨S_, .f32⟩
  | .hbm, ⟨5, _⟩ => ⟨S4352x512, .f32⟩
  | .hbm, ⟨6, _⟩ => ⟨S4x128x128, .f32⟩
  | .hbm, ⟨7, _⟩ => ⟨S4x128, .f32⟩
  | .hbm, ⟨8, _⟩ => ⟨S4x1x128, .f32⟩
  | .hbm, ⟨9, _⟩ => ⟨S4352x512, .f32⟩
  | .local _ .vmem, ⟨0, _⟩ => ⟨S4352x128, .f32⟩
  | .local _ .vmem, ⟨1, _⟩ => ⟨S4352x128, .f32⟩
  | .local _ .vmem, ⟨2, _⟩ => ⟨S1x128x128, .f32⟩
  | .local _ .vmem, ⟨3, _⟩ => ⟨S1x128x128, .f32⟩
  | .local _ .vmem, ⟨4, _⟩ => ⟨S1x1x128, .f32⟩
  | .local _ .vmem, ⟨5, _⟩ => ⟨S1x1x128, .f32⟩
  | .local _ .vmem, ⟨6, _⟩ => ⟨S4352x128, .f32⟩
  | .local _ .vmem, ⟨7, _⟩ => ⟨S4352x128, .f32⟩
  | .local _ .vmem, ⟨8, _⟩ => ⟨S4368x128, .f32⟩
  | _, _ => ⟨S4112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c17_i32 : BitVec 32 := 17#32
  let v10 : BitVec 32 := Scalar.addi c0_i32 c17_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v11 : BitVec 32 := Scalar.muli arg6 c256_i32
  v11
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v11 : BitVec 32 := Scalar.muli arg6 c256_i32
  let v12 : BitVec 32 := v11
  let v13 : Index := Scalar.indexCast v12
  let c0_5 : Index := 0#32
  ![v13.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v11 : BitVec 32 := Scalar.muli arg6 c256_i32
  let v12 : BitVec 32 := v11
  let v60 : Index := Scalar.indexCast v12
  let c0_22 : Index := 0#32
  ![v60.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4352x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4352x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolFwdRefIdeal.lean ====
abbrev S4112x512 : Shape := ⟨2, ![4112, 512]⟩
abbrev S1x4x128x128 : Shape := ⟨4, ![1, 4, 128, 128]⟩
abbrev S1x4x128 : Shape := ⟨3, ![1, 4, 128]⟩
abbrev S1x4112x4x128 : Shape := ⟨4, ![1, 4112, 4, 128]⟩
abbrev S_ : Shape := ⟨0, ![]⟩
abbrev S4112 : Shape := ⟨1, ![4112]⟩
abbrev S1x4112x1x128 : Shape := ⟨4, ![1, 4112, 1, 128]⟩
abbrev S1x4112x128 : Shape := ⟨3, ![1, 4112, 128]⟩
abbrev S1x2x128 : Shape := ⟨3, ![1, 2, 128]⟩
abbrev S1x4114x128 : Shape := ⟨3, ![1, 4114, 128]⟩
abbrev S1x4112x1 : Shape := ⟨3, ![1, 4112, 1]⟩
abbrev S1x4116x128 : Shape := ⟨3, ![1, 4116, 128]⟩
abbrev S1x8x128 : Shape := ⟨3, ![1, 8, 128]⟩
abbrev S1x4120x128 : Shape := ⟨3, ![1, 4120, 128]⟩
abbrev S1x16x128 : Shape := ⟨3, ![1, 16, 128]⟩
abbrev S1x4128x128 : Shape := ⟨3, ![1, 4128, 128]⟩
abbrev S4x128x128 : Shape := ⟨3, ![4, 128, 128]⟩
abbrev S4x128x1x4112 : Shape := ⟨4, ![4, 128, 1, 4112]⟩
abbrev S4x128 : Shape := ⟨2, ![4, 128]⟩
abbrev S1x1x4x128 : Shape := ⟨4, ![1, 1, 4, 128]⟩
abbrev S4352x512 : Shape := ⟨2, ![4352, 512]⟩

abbrev nBuf : Space → Nat
  | .hbm => 91
  | .vmem => 0
  | .smem => 0
  | _ => 0

abbrev bufTy : (tb : Table) → Fin (tcTables nBuf tb) → BufTy
  | .hbm, ⟨0, _⟩ => ⟨S4112x512, .f32⟩
  | .hbm, ⟨1, _⟩ => ⟨S1x4x128x128, .f32⟩
  | .hbm, ⟨2, _⟩ => ⟨S1x4x128, .f32⟩
  | .hbm, ⟨3, _⟩ => ⟨S1x4112x4x128, .f32⟩
  | .hbm, ⟨4, _⟩ => ⟨S_, .f32⟩
  | .hbm, ⟨5, _⟩ => ⟨S_, .f32⟩
  | .hbm, ⟨6, _⟩ => ⟨S1x4112x4x128, .f32⟩
  | .hbm, ⟨7, _⟩ => ⟨S4112, .f32⟩
  | .hbm, ⟨8, _⟩ => ⟨S_, .f32⟩
  | .hbm, ⟨9, _⟩ => ⟨S4112, .f32⟩
  | .hbm, ⟨10, _⟩ => ⟨S4112, .f32⟩
  | .hbm, ⟨11, _⟩ => ⟨S1x4112x1x128, .f32⟩
  | .hbm, ⟨12, _⟩ => ⟨S1x4112x128, .f32⟩
  | .hbm, ⟨13, _⟩ => ⟨S_, .f32⟩
  | .hbm, ⟨14, _⟩ => ⟨S1x2x128, .f32⟩
  | .hbm, ⟨15, _⟩ => ⟨S1x4114x128, .f32⟩
  | .hbm, ⟨16, _⟩ => ⟨S1x4112x128, .f32⟩
  | .hbm, ⟨17, _⟩ => ⟨S_, .f32⟩
  | .hbm, ⟨18, _⟩ => ⟨S4112, .f32⟩
  | .hbm, ⟨19, _⟩ => ⟨S4112, .f32⟩
  | .hbm, ⟨20, _⟩ => ⟨S1x4112x1, .f32⟩
  | .hbm, ⟨21, _⟩ => ⟨S1x4112x128, .f32⟩
  | .hbm, ⟨22, _⟩ => ⟨S1x4112x128, .f32⟩
  | .hbm, ⟨23, _⟩ => ⟨S1x4112x128, .f32⟩
  | .hbm, ⟨24, _⟩ => ⟨S1x4112x1x128, .f32⟩
  | .hbm, ⟨25, _⟩ => ⟨S1x4112x128, .f32⟩
  | .hbm, ⟨26, _⟩ => ⟨S1x4112x128, .f32⟩
  | .hbm, ⟨27, _⟩ => ⟨S1x4112x1x128, .f32⟩
  | .hbm, ⟨28, _⟩ => ⟨S1x4112x128, .f32⟩
  | .hbm, ⟨29, _⟩ => ⟨S_, .f32⟩
  | .hbm, ⟨30, _⟩ => ⟨S1x4x128, .f32⟩
  | .hbm, ⟨31, _⟩ => ⟨S1x4116x128, .f32⟩
  | .hbm, ⟨32, _⟩ => ⟨S1x4112x128, .f32⟩
  | .hbm, ⟨33, _⟩ => ⟨S_, .f32⟩
  | .hbm, ⟨34, _⟩ => ⟨S4112, .f32⟩
  | .hbm, ⟨35, _⟩ => ⟨S4112, .f32⟩
  | .hbm, ⟨36, _⟩ => ⟨S1x4112x1, .f32⟩
  | .hbm, ⟨37, _⟩ => ⟨S1x4112x128, .f32⟩
  | .hbm, ⟨38, _⟩ => ⟨S1x4112x128, .f32⟩
  | .hbm, ⟨39, _⟩ => ⟨S1x4112x128, .f32⟩
  | .hbm, ⟨40, _⟩ => ⟨S1x4112x1x128, .f32⟩
  | .hbm, ⟨41, _⟩ => ⟨S1x4112x128, .f32⟩
  | .hbm, ⟨42, _⟩ => ⟨S1x4112x128, .f32⟩
  | .hbm, ⟨43, _⟩ => ⟨S1x4112x1x128, .f32⟩
  | .hbm, ⟨44, _⟩ => ⟨S1x4112x128, .f32⟩
  | .hbm, ⟨45, _⟩ => ⟨S_, .f32⟩
  | .hbm, ⟨46, _⟩ => ⟨S1x8x128, .f32⟩
  | .hbm, ⟨47, _⟩ => ⟨S1x4120x128, .f32⟩
  | .hbm, ⟨48, _⟩ => ⟨S1x4112x128, .f32⟩
  | .hbm, ⟨49, _⟩ => ⟨S_, .f32⟩
  | .hbm, ⟨50, _⟩ => ⟨S4112, .f32⟩
  | .hbm, ⟨51, _⟩ => ⟨S4112, .f32⟩
  | .hbm, ⟨52, _⟩ => ⟨S1x4112x1, .f32⟩
  | .hbm, ⟨53, _⟩ => ⟨S1x4112x128, .f32⟩
  | .hbm, ⟨54, _⟩ => ⟨S1x4112x128, .f32⟩
  | .hbm, ⟨55, _⟩ => ⟨S1x4112x128, .f32⟩
  | .hbm, ⟨56, _⟩ => ⟨S1x4112x1x128, .f32⟩
  | .hbm, ⟨57, _⟩ => ⟨S1x4112x128, .f32⟩
  | .hbm, ⟨58, _⟩ => ⟨S1x4112x128, .f32⟩
  | .hbm, ⟨59, _⟩ => ⟨S1x4112x1x128, .f32⟩
  | .hbm, ⟨60, _⟩ => ⟨S1x4112x128, .f32⟩
  | .hbm, ⟨61, _⟩ => ⟨S_, .f32⟩
  | .hbm, ⟨62, _⟩ => ⟨S1x16x128, .f32⟩
  | .hbm, ⟨63, _⟩ => ⟨S1x4128x128, .f32⟩
  | .hbm, ⟨64, _⟩ => ⟨S1x4112x128, .f32⟩
  | .hbm, ⟨65, _⟩ => ⟨S_, .f32⟩
  | .hbm, ⟨66, _⟩ => ⟨S4112, .f32⟩
  | .hbm, ⟨67, _⟩ => ⟨S4112, .f32⟩
  | .hbm, ⟨68, _⟩ => ⟨S1x4112x1, .f32⟩
  | .hbm, ⟨69, _⟩ => ⟨S1x4112x128, .f32⟩
  | .hbm, ⟨70, _⟩ => ⟨S1x4112x128, .f32⟩
  | .hbm, ⟨71, _⟩ => ⟨S1x4112x128, .f32⟩
  | .hbm, ⟨72, _⟩ => ⟨S1x4112x1x128, .f32⟩
  | .hbm, ⟨73, _⟩ => ⟨S1x4112x128, .f32⟩
  | .hbm, ⟨74, _⟩ => ⟨S1x4112x128, .f32⟩
  | .hbm, ⟨75, _⟩ => ⟨S1x4112x1x128, .f32⟩
  | .hbm, ⟨76, _⟩ => ⟨S1x4112x1x128, .f32⟩
  | .hbm, ⟨77, _⟩ => ⟨S1x4112x1x128, .f32⟩
  | .hbm, ⟨78, _⟩ => ⟨S1x4112x1x128, .f32⟩
  | .hbm, ⟨79, _⟩ => ⟨S1x4112x4x128, .f32⟩
  | .hbm, ⟨80, _⟩ => ⟨S4x128x128, .f32⟩
  | .hbm, ⟨81, _⟩ => ⟨S4x128x1x4112, .f32⟩
  | .hbm, ⟨82, _⟩ => ⟨S1x4112x4x128, .f32⟩
  | .hbm, ⟨83, _⟩ => ⟨S4x128, .f32⟩
  | .hbm, ⟨84, _⟩ => ⟨S1x1x4x128, .f32⟩
  | .hbm, ⟨85, _⟩ => ⟨S1x4112x4x128, .f32⟩
  | .hbm, ⟨86, _⟩ => ⟨S1x4112x4x128, .f32⟩
  | .hbm, ⟨87, _⟩ => ⟨S4112x512, .f32⟩
  | .hbm, ⟨88, _⟩ => ⟨S_, .i32⟩
  | .hbm, ⟨89, _⟩ => ⟨S_, .f32⟩
  | .hbm, ⟨90, _⟩ => ⟨S4352x512, .f32⟩
  | _, _ => ⟨S4112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_7 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_c : Ref sig .tc := ⟨.hbm, 88, rfl⟩
abbrev main_call1_v0 : Ref sig .tc := ⟨.hbm, 89, rfl⟩
abbrev main_v74 : Ref sig .tc := ⟨.hbm, 90, rfl⟩

abbrev nD : Nat := 1
abbrev τ : Topo := Topo.v7x

variable {F : FTy → Type} [FloatOps F]
-- ==== AdamRows.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamRowsRefIdeal.lean ====
abbrev S8x128x1024 : Shape := ⟨3, ![8, 128, 1024]⟩
abbrev S1x128x1024 : Shape := ⟨3, ![1, 128, 1024]⟩
abbrev S128x1024 : Shape := ⟨2, ![128, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128x1024, .f32⟩
  | .hbm, ⟨42, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdamMeta.lean ====
abbrev S16x128 : Shape := ⟨2, ![16, 128]⟩
abbrev S1x16x128 : Shape := ⟨3, ![1, 16, 128]⟩

abbrev nBuf : Space → Nat
  | .hbm => 9
  | .vmem => 8
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S1x16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .local _ .vmem, ⟨0, _⟩ => ⟨S1x16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamMetaRefIdeal.lean ====
abbrev S16x128 : Shape := ⟨2, ![16, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S16x128, .f32⟩
  | .hbm, ⟨7, _⟩ => ⟨S_, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S_, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGate.lean ====
abbrev S8x3x352x1024 : Shape := ⟨4, ![8, 3, 352, 1024]⟩
abbrev S1x1024x352 : Shape := ⟨3, ![1, 1024, 352]⟩
abbrev S1024x352 : Shape := ⟨2, ![1024, 352]⟩
abbrev S352x1024 : Shape := ⟨2, ![352, 1024]⟩
abbrev S8x1x352x256 : Shape := ⟨4, ![8, 1, 352, 256]⟩
abbrev S352x256 : Shape := ⟨2, ![352, 256]⟩
abbrev S1x1x352x256 : Shape := ⟨4, ![1, 1, 352, 256]⟩

abbrev nBuf : Space → Nat
  | .hbm => 14
  | .vmem => 16
  | .smem => 0
  | _ => 0

abbrev bufTy : (tb : Table) → Fin (tcTables nBuf tb) → BufTy
  | .hbm, ⟨0, _⟩ => ⟨S8x3x352x1024, .bf16⟩
  | .hbm, ⟨1, _⟩ => ⟨S1x1024x352, .f32⟩
  | .hbm, ⟨2, _⟩ => ⟨S1x1024x352, .f32⟩
  | .hbm, ⟨3, _⟩ => ⟨S1x1024x352, .f32⟩
  | .hbm, ⟨4, _⟩ => ⟨S1024x352, .f32⟩
  | .hbm, ⟨5, _⟩ => ⟨S352x1024, .f32⟩
  | .hbm, ⟨6, _⟩ => ⟨S1024x352, .f32⟩
  | .hbm, ⟨7, _⟩ => ⟨S352x1024, .f32⟩
  | .hbm, ⟨8, _⟩ => ⟨S1024x352, .f32⟩
  | .hbm, ⟨9, _⟩ => ⟨S352x1024, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S352x1024, .f32⟩
  | .local _ .vmem, ⟨0, _⟩ => ⟨S8x1x352x256, .bf16⟩
  | .local _ .vmem, ⟨1, _⟩ => ⟨S8x1x352x256, .bf16⟩
  | .local _ .vmem, ⟨2, _⟩ => ⟨S352x256, .f32⟩
  | .local _ .vmem, ⟨3, _⟩ => ⟨S352x256, .f32⟩
  | .local _ .vmem, ⟨4, _⟩ => ⟨S352x256, .f32⟩
  | .local _ .vmem, ⟨5, _⟩ => ⟨S352x256, .f32⟩
  | .local _ .vmem, ⟨6, _⟩ => ⟨S352x256, .f32⟩
  | .local _ .vmem, ⟨7, _⟩ => ⟨S352x256, .f32⟩
  | .local _ .vmem, ⟨8, _⟩ => ⟨S352x256, .f32⟩
  | .local _ .vmem, ⟨9, _⟩ => ⟨S352x256, .f32⟩
  | .local _ .vmem, ⟨10, _⟩ => ⟨S352x256, .f32⟩
  | .local _ .vmem, ⟨11, _⟩ => ⟨S352x256, .f32⟩
  | .local _ .vmem, ⟨12, _⟩ => ⟨S352x256, .f32⟩
  | .local _ .vmem, ⟨13, _⟩ => ⟨S352x256, .f32⟩
  | .local _ .vmem, ⟨14, _⟩ => ⟨S352x256, .f32⟩
  | .local _ .vmem, ⟨15, _⟩ => ⟨S352x256, .f32⟩
  | _, _ => ⟨S8x3x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x1x352x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGateRefIdeal.lean ====
abbrev S8x3x352x1024 : Shape := ⟨4, ![8, 3, 352, 1024]⟩
abbrev S1x1024x352 : Shape := ⟨3, ![1, 1024, 352]⟩
abbrev S1024x352 : Shape := ⟨2, ![1024, 352]⟩
abbrev S8x1x352x1024 : Shape := ⟨4, ![8, 1, 352, 1024]⟩
abbrev S8x352x1024 : Shape := ⟨3, ![8, 352, 1024]⟩
abbrev S_ : Shape := ⟨0, ![]⟩
abbrev S352x1024 : Shape := ⟨2, ![352, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x3x352x1024, .bf16⟩
  | .hbm, ⟨1, _⟩ => ⟨S1x1024x352, .f32⟩
  | .hbm, ⟨2, _⟩ => ⟨S1x1024x352, .f32⟩
  | .hbm, ⟨3, _⟩ => ⟨S1x1024x352, .f32⟩
  | .hbm, ⟨4, _⟩ => ⟨S1024x352, .f32⟩
  | .hbm, ⟨5, _⟩ => ⟨S8x1x352x1024, .bf16⟩
  | .hbm, ⟨6, _⟩ => ⟨S8x352x1024, .bf16⟩
  | .hbm, ⟨7, _⟩ => ⟨S8x352x1024, .f32⟩
  | .hbm, ⟨8, _⟩ => ⟨S_, .f32⟩
  | .hbm, ⟨9, _⟩ => ⟨S352x1024, .f32⟩
  | .hbm, ⟨10, _⟩ => ⟨S1024x352, .f32⟩
  | .hbm, ⟨11, _⟩ => ⟨S1024x352, .f32⟩
  | .hbm, ⟨12, _⟩ => ⟨S1024x352, .f32⟩
  | .hbm, ⟨13, _⟩ => ⟨S_, .f32⟩
  | .hbm, ⟨14, _⟩ => ⟨S1024x352, .f32⟩
  | .hbm, ⟨15, _⟩ => ⟨S1024x352, .f32⟩
  | .hbm, ⟨16, _⟩ => ⟨S_, .f32⟩
  | .hbm, ⟨17, _⟩ => ⟨S1024x352, .f32⟩
  | .hbm, ⟨18, _⟩ => ⟨S1024x352, .f32⟩
  | .hbm, ⟨19, _⟩ => ⟨S1024x352, .f32⟩
  | .hbm, ⟨20, _⟩ => ⟨S_, .f32⟩
  | .hbm, ⟨21, _⟩ => ⟨S1024x352, .f32⟩
  | .hbm, ⟨22, _⟩ => ⟨S1024x352, .f32⟩
  | .hbm, ⟨23, _⟩ => ⟨S1024x352, .f32⟩
  | .hbm, ⟨24, _⟩ => ⟨S_, .f32⟩
  | .hbm, ⟨25, _⟩ => ⟨S1024x352, .f32⟩
  | .hbm, ⟨26, _⟩ => ⟨S1024x352, .f32⟩
  | .hbm, ⟨27, _⟩ => ⟨S1024x352, .f32⟩
  | .hbm, ⟨28, _⟩ => ⟨S_, .f32⟩
  | .hbm, ⟨29, _⟩ => ⟨S1024x352, .f32⟩
  | .hbm, ⟨30, _⟩ => ⟨S1024x352, .f32⟩
  | .hbm, ⟨31, _⟩ => ⟨S_, .f32⟩
  | .hbm, ⟨32, _⟩ => ⟨S1024x352, .f32⟩
  | .hbm, ⟨33, _⟩ => ⟨S1024x352, .f32⟩
  | .hbm, ⟨34, _⟩ => ⟨S1024x352, .f32⟩
  | .hbm, ⟨35, _⟩ => ⟨S_, .f32⟩
  | .hbm, ⟨36, _⟩ => ⟨S1024x352, .f32⟩
  | .hbm, ⟨37, _⟩ => ⟨S1024x352, .f32⟩
  | .hbm, ⟨38, _⟩ => ⟨S1024x352, .f32⟩
  | .hbm, ⟨39, _⟩ => ⟨S_, .f32⟩
  | .hbm, ⟨40, _⟩ => ⟨S1024x352, .f32⟩
  | .hbm, ⟨41, _⟩ => ⟨S1024x352, .f32⟩
  | .hbm, ⟨42, _⟩ => ⟨S1024x352, .f32⟩
  | .hbm, ⟨43, _⟩ => ⟨S_, .f32⟩
  | .hbm, ⟨44, _⟩ => ⟨S1024x352, .f32⟩
  | .hbm, ⟨45, _⟩ => ⟨S1024x352, .f32⟩
  | .hbm, ⟨46, _⟩ => ⟨S352x1024, .f32⟩
  | .hbm, ⟨47, _⟩ => ⟨S352x1024, .f32⟩
  | .hbm, ⟨48, _⟩ => ⟨S352x1024, .f32⟩
  | .hbm, ⟨49, _⟩ => ⟨S352x1024, .f32⟩
  | _, _ => ⟨S8x3x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== AdamUp.lean ====
abbrev S8x3x352x1024 : Shape := ⟨4, ![8, 3, 352, 1024]⟩
abbrev S1x1024x352 : Shape := ⟨3, ![1, 1024, 352]⟩
abbrev S1024x352 : Shape := ⟨2, ![1024, 352]⟩
abbrev S352x1024 : Shape := ⟨2, ![352, 1024]⟩
abbrev S8x1x352x256 : Shape := ⟨4, ![8, 1, 352, 256]⟩
abbrev S352x256 : Shape := ⟨2, ![352, 256]⟩
abbrev S1x1x352x256 : Shape := ⟨4, ![1, 1, 352, 256]⟩

abbrev nBuf : Space → Nat
  | .hbm => 14
  | .vmem => 16
  | .smem => 0
  | _ => 0

abbrev bufTy : (tb : Table) → Fin (tcTables nBuf tb) → BufTy
  | .hbm, ⟨0, _⟩ => ⟨S8x3x352x1024, .bf16⟩
  | .hbm, ⟨1, _⟩ => ⟨S1x1024x352, .f32⟩
  | .hbm, ⟨2, _⟩ => ⟨S1x1024x352, .f32⟩
  | .hbm, ⟨3, _⟩ => ⟨S1x1024x352, .f32⟩
  | .hbm, ⟨4, _⟩ => ⟨S1024x352, .f32⟩
  | .hbm, ⟨5, _⟩ => ⟨S352x1024, .f32⟩
  | .hbm, ⟨6, _⟩ => ⟨S1024x352, .f32⟩
  | .hbm, ⟨7, _⟩ => ⟨S352x1024, .f32⟩
  | .hbm, ⟨8, _⟩ => ⟨S1024x352, .f32⟩
  | .hbm, ⟨9, _⟩ => ⟨S352x1024, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S352x1024, .f32⟩
  | .local _ .vmem, ⟨0, _⟩ => ⟨S8x1x352x256, .bf16⟩
  | .local _ .vmem, ⟨1, _⟩ => ⟨S8x1x352x256, .bf16⟩
  | .local _ .vmem, ⟨2, _⟩ => ⟨S352x256, .f32⟩
  | .local _ .vmem, ⟨3, _⟩ => ⟨S352x256, .f32⟩
  | .local _ .vmem, ⟨4, _⟩ => ⟨S352x256, .f32⟩
  | .local _ .vmem, ⟨5, _⟩ => ⟨S352x256, .f32⟩
  | .local _ .vmem, ⟨6, _⟩ => ⟨S352x256, .f32⟩
  | .local _ .vmem, ⟨7, _⟩ => ⟨S352x256, .f32⟩
  | .local _ .vmem, ⟨8, _⟩ => ⟨S352x256, .f32⟩
  | .local _ .vmem, ⟨9, _⟩ => ⟨S352x256, .f32⟩
  | .local _ .vmem, ⟨10, _⟩ => ⟨S352x256, .f32⟩
  | .local _ .vmem, ⟨11, _⟩ => ⟨S352x256, .f32⟩
  | .local _ .vmem, ⟨12, _⟩ => ⟨S352x256, .f32⟩
  | .local _ .vmem, ⟨13, _⟩ => ⟨S352x256, .f32⟩
  | .local _ .vmem, ⟨14, _⟩ => ⟨S352x256, .f32⟩
  | .local _ .vmem, ⟨15, _⟩ => ⟨S352x256, .f32⟩
  | _, _ => ⟨S8x3x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x1x352x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S8x3x352x1024 : Shape := ⟨4, ![8, 3, 352, 1024]⟩
abbrev S1x1024x352 : Shape := ⟨3, ![1, 1024, 352]⟩
abbrev S1024x352 : Shape := ⟨2, ![1024, 352]⟩
abbrev S8x1x352x1024 : Shape := ⟨4, ![8, 1, 352, 1024]⟩
abbrev S8x352x1024 : Shape := ⟨3, ![8, 352, 1024]⟩
abbrev S_ : Shape := ⟨0, ![]⟩
abbrev S352x1024 : Shape := ⟨2, ![352, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x3x352x1024, .bf16⟩
  | .hbm, ⟨1, _⟩ => ⟨S1x1024x352, .f32⟩
  | .hbm, ⟨2, _⟩ => ⟨S1x1024x352, .f32⟩
  | .hbm, ⟨3, _⟩ => ⟨S1x1024x352, .f32⟩
  | .hbm, ⟨4, _⟩ => ⟨S1024x352, .f32⟩
  | .hbm, ⟨5, _⟩ => ⟨S8x1x352x1024, .bf16⟩
  | .hbm, ⟨6, _⟩ => ⟨S8x352x1024, .bf16⟩
  | .hbm, ⟨7, _⟩ => ⟨S8x352x1024, .f32⟩
  | .hbm, ⟨8, _⟩ => ⟨S_, .f32⟩
  | .hbm, ⟨9, _⟩ => ⟨S352x1024, .f32⟩
  | .hbm, ⟨10, _⟩ => ⟨S1024x352, .f32⟩
  | .hbm, ⟨11, _⟩ => ⟨S1024x352, .f32⟩
  | .hbm, ⟨12, _⟩ => ⟨S1024x352, .f32⟩
  | .hbm, ⟨13, _⟩ => ⟨S_, .f32⟩
  | .hbm, ⟨14, _⟩ => ⟨S1024x352, .f32⟩
  | .hbm, ⟨15, _⟩ => ⟨S1024x352, .f32⟩
  | .hbm, ⟨16, _⟩ => ⟨S_, .f32⟩
  | .hbm, ⟨17, _⟩ => ⟨S1024x352, .f32⟩
  | .hbm, ⟨18, _⟩ => ⟨S1024x352, .f32⟩
  | .hbm, ⟨19, _⟩ => ⟨S1024x352, .f32⟩
  | .hbm, ⟨20, _⟩ => ⟨S_, .f32⟩
  | .hbm, ⟨21, _⟩ => ⟨S1024x352, .f32⟩
  | .hbm, ⟨22, _⟩ => ⟨S1024x352, .f32⟩
  | .hbm, ⟨23, _⟩ => ⟨S1024x352, .f32⟩
  | .hbm, ⟨24, _⟩ => ⟨S_, .f32⟩
  | .hbm, ⟨25, _⟩ => ⟨S1024x352, .f32⟩
  | .hbm, ⟨26, _⟩ => ⟨S1024x352, .f32⟩
  | .hbm, ⟨27, _⟩ => ⟨S1024x352, .f32⟩
  | .hbm, ⟨28, _⟩ => ⟨S_, .f32⟩
  | .hbm, ⟨29, _⟩ => ⟨S1024x352, .f32⟩
  | .hbm, ⟨30, _⟩ => ⟨S1024x352, .f32⟩
  | .hbm, ⟨31, _⟩ => ⟨S_, .f32⟩
  | .hbm, ⟨32, _⟩ => ⟨S1024x352, .f32⟩
  | .hbm, ⟨33, _⟩ => ⟨S1024x352, .f32⟩
  | .hbm, ⟨34, _⟩ => ⟨S1024x352, .f32⟩
  | .hbm, ⟨35, _⟩ => ⟨S_, .f32⟩
  | .hbm, ⟨36, _⟩ => ⟨S1024x352, .f32⟩
  | .hbm, ⟨37, _⟩ => ⟨S1024x352, .f32⟩
  | .hbm, ⟨38, _⟩ => ⟨S1024x352, .f32⟩
  | .hbm, ⟨39, _⟩ => ⟨S_, .f32⟩
  | .hbm, ⟨40, _⟩ => ⟨S1024x352, .f32⟩
  | .hbm, ⟨41, _⟩ => ⟨S1024x352, .f32⟩
  | .hbm, ⟨42, _⟩ => ⟨S1024x352, .f32⟩
  | .hbm, ⟨43, _⟩ => ⟨S_, .f32⟩
  | .hbm, ⟨44, _⟩ => ⟨S1024x352, .f32⟩
  | .hbm, ⟨45, _⟩ => ⟨S1024x352, .f32⟩
  | .hbm, ⟨46, _⟩ => ⟨S352x1024, .f32⟩
  | .hbm, ⟨47, _⟩ => ⟨S352x1024, .f32⟩
  | .hbm, ⟨48, _⟩ => ⟨S352x1024, .f32⟩
  | .hbm, ⟨49, _⟩ => ⟨S352x1024, .f32⟩
  | _, _ => ⟨S8x3x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== AdamDown.lean ====
abbrev S8x3x352x1024 : Shape := ⟨4, ![8, 3, 352, 1024]⟩
abbrev S1x352x1024 : Shape := ⟨3, ![1, 352, 1024]⟩
abbrev S352x1024 : Shape := ⟨2, ![352, 1024]⟩
abbrev S8x1x352x256 : Shape := ⟨4, ![8, 1, 352, 256]⟩
abbrev S352x256 : Shape := ⟨2, ![352, 256]⟩
abbrev S1x1x352x256 : Shape := ⟨4, ![1, 1, 352, 256]⟩

abbrev nBuf : Space → Nat
  | .hbm => 11
  | .vmem => 16
  | .smem => 0
  | _ => 0

abbrev bufTy : (tb : Table) → Fin (tcTables nBuf tb) → BufTy
  | .hbm, ⟨0, _⟩ => ⟨S8x3x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S352x1024, .f32⟩
  | .local _ .vmem, ⟨0, _⟩ => ⟨S8x1x352x256, .bf16⟩
  | .local _ .vmem, ⟨1, _⟩ => ⟨S8x1x352x256, .bf16⟩
  | .local _ .vmem, ⟨2, _⟩ => ⟨S352x256, .f32⟩
  | .local _ .vmem, ⟨3, _⟩ => ⟨S352x256, .f32⟩
  | .local _ .vmem, ⟨4, _⟩ => ⟨S352x256, .f32⟩
  | .local _ .vmem, ⟨5, _⟩ => ⟨S352x256, .f32⟩
  | .local _ .vmem, ⟨6, _⟩ => ⟨S352x256, .f32⟩
  | .local _ .vmem, ⟨7, _⟩ => ⟨S352x256, .f32⟩
  | .local _ .vmem, ⟨8, _⟩ => ⟨S352x256, .f32⟩
  | .local _ .vmem, ⟨9, _⟩ => ⟨S352x256, .f32⟩
  | .local _ .vmem, ⟨10, _⟩ => ⟨S352x256, .f32⟩
  | .local _ .vmem, ⟨11, _⟩ => ⟨S352x256, .f32⟩
  | .local _ .vmem, ⟨12, _⟩ => ⟨S352x256, .f32⟩
  | .local _ .vmem, ⟨13, _⟩ => ⟨S352x256, .f32⟩
  | .local _ .vmem, ⟨14, _⟩ => ⟨S352x256, .f32⟩
  | .local _ .vmem, ⟨15, _⟩ => ⟨S352x256, .f32⟩
  | _, _ => ⟨S8x3x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x1x352x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S8x3x352x1024 : Shape := ⟨4, ![8, 3, 352, 1024]⟩
abbrev S1x352x1024 : Shape := ⟨3, ![1, 352, 1024]⟩
abbrev S352x1024 : Shape := ⟨2, ![352, 1024]⟩
abbrev S8x1x352x1024 : Shape := ⟨4, ![8, 1, 352, 1024]⟩
abbrev S8x352x1024 : Shape := ⟨3, ![8, 352, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8x3x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S352x1024, .f32⟩
  | .hbm, ⟨5, _⟩ => ⟨S8x1x352x1024, .bf16⟩
  | .hbm, ⟨6, _⟩ => ⟨S8x352x1024, .bf16⟩
  | .hbm, ⟨7, _⟩ => ⟨S8x352x1024, .f32⟩
  | .hbm, ⟨8, _⟩ => ⟨S_, .f32⟩
  | .hbm, ⟨9, _⟩ => ⟨S352x1024, .f32⟩
  | .hbm, ⟨10, _⟩ => ⟨S352x1024, .f32⟩
  | .hbm, ⟨11, _⟩ => ⟨S352x1024, .f32⟩
  | .hbm, ⟨12, _⟩ => ⟨S_, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S352x1024, .f32⟩
  | .hbm, ⟨23, _⟩ => ⟨S_, .f32⟩
  | .hbm, ⟨24, _⟩ => ⟨S352x1024, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | .hbm, ⟨37, _⟩ => ⟨S352x1024, .f32⟩
  | .hbm, ⟨38, _⟩ => ⟨S_, .f32⟩
  | .hbm, ⟨39, _⟩ => ⟨S352x1024, .f32⟩
  | .hbm, ⟨40, _⟩ => ⟨S352x1024, .f32⟩
  | .hbm, ⟨41, _⟩ => ⟨S352x1024, .f32⟩
  | .hbm, ⟨42, _⟩ => ⟨S_, .f32⟩
  | .hbm, ⟨43, _⟩ => ⟨S352x1024, .f32⟩
  | .hbm, ⟨44, _⟩ => ⟨S352x1024, .f32⟩
  | _, _ => ⟨S8x3x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Wgrad.lean ====
abbrev S4112x2816 : Shape := ⟨2, ![4112, 2816]⟩
abbrev S4112x1024 : Shape := ⟨2, ![4112, 1024]⟩
abbrev S_ : Shape := ⟨0, ![]⟩
abbrev S4352x2816 : Shape := ⟨2, ![4352, 2816]⟩
abbrev S2816x4352 : Shape := ⟨2, ![2816, 4352]⟩
abbrev S8448x4352 : Shape := ⟨2, ![8448, 4352]⟩
abbrev S4352x1024 : Shape := ⟨2, ![4352, 1024]⟩
abbrev S8x3x352x1024 : Shape := ⟨4, ![8, 3, 352, 1024]⟩
abbrev S1408x2176 : Shape := ⟨2, ![1408, 2176]⟩
abbrev S2176x1024 : Shape := ⟨2, ![2176, 1024]⟩
abbrev S4x1x352x1024 : Shape := ⟨4, ![4, 1, 352, 1024]⟩
abbrev S1408x1024 : Shape := ⟨2, ![1408, 1024]⟩
abbrev S352x1024 : Shape := ⟨2, ![352, 1024]⟩
abbrev S1x1x352x1024 : Shape := ⟨4, ![1, 1, 352, 1024]⟩

abbrev nBuf : Space → Nat
  | .hbm => 28
  | .vmem => 9
  | .smem => 0
  | _ => 0

abbrev bufTy : (tb : Table) → Fin (tcTables nBuf tb) → BufTy
  | .hbm, ⟨0, _⟩ => ⟨S4112x2816, .f32⟩
  | .hbm, ⟨1, _⟩ => ⟨S4112x2816, .f32⟩
  | .hbm, ⟨2, _⟩ => ⟨S4112x2816, .f32⟩
  | .hbm, ⟨3, _⟩ => ⟨S4112x1024, .f32⟩
  | .hbm, ⟨4, _⟩ => ⟨S4112x1024, .f32⟩
  | .hbm, ⟨5, _⟩ => ⟨S_, .i32⟩
  | .hbm, ⟨6, _⟩ => ⟨S_, .f32⟩
  | .hbm, ⟨7, _⟩ => ⟨S4352x2816, .f32⟩
  | .hbm, ⟨8, _⟩ => ⟨S2816x4352, .f32⟩
  | .hbm, ⟨9, _⟩ => ⟨S_, .i32⟩
  | .hbm, ⟨10, _⟩ => ⟨S_, .f32⟩
  | .hbm, ⟨11, _⟩ => ⟨S4352x2816, .f32⟩
  | .hbm, ⟨12, _⟩ => ⟨S2816x4352, .f32⟩
  | .hbm, ⟨13, _⟩ => ⟨S_, .i32⟩
  | .hbm, ⟨14, _⟩ => ⟨S_, .f32⟩
  | .hbm, ⟨15, _⟩ => ⟨S4352x2816, .f32⟩
  | .hbm, ⟨16, _⟩ => ⟨S2816x4352, .f32⟩
  | .hbm, ⟨17, _⟩ => ⟨S8448x4352, .f32⟩
  | .hbm, ⟨18, _⟩ => ⟨S8448x4352, .bf16⟩
  | .hbm, ⟨19, _⟩ => ⟨S_, .i32⟩
  | .hbm, ⟨20, _⟩ => ⟨S_, .f32⟩
  | .hbm, ⟨21, _⟩ => ⟨S4352x1024, .f32⟩
  | .hbm, ⟨22, _⟩ => ⟨S4352x1024, .bf16⟩
  | .hbm, ⟨23, _⟩ => ⟨S_, .i32⟩
  | .hbm, ⟨24, _⟩ => ⟨S_, .f32⟩
  | .hbm, ⟨25, _⟩ => ⟨S4352x1024, .f32⟩
  | .hbm, ⟨26, _⟩ => ⟨S4352x1024, .bf16⟩
  | .hbm, ⟨27, _⟩ => ⟨S8x3x352x1024, .bf16⟩
  | .local _ .vmem, ⟨0, _⟩ => ⟨S1408x2176, .bf16⟩
  | .local _ .vmem, ⟨1, _⟩ => ⟨S1408x2176, .bf16⟩
  | .local _ .vmem, ⟨2, _⟩ => ⟨S2176x1024, .bf16⟩
  | .local _ .vmem, ⟨3, _⟩ => ⟨S2176x1024, .bf16⟩
  | .local _ .vmem, ⟨4, _⟩ => ⟨S2176x1024, .bf16⟩
  | .local _ .vmem, ⟨5, _⟩ => ⟨S2176x1024, .bf16⟩
  | .local _ .vmem, ⟨6, _⟩ => ⟨S4x1x352x1024, .bf16⟩
  | .local _ .vmem, ⟨7, _⟩ => ⟨S4x1x352x1024, .bf16⟩
  | .local _ .vmem, ⟨8, _⟩ => ⟨S1408x1024, .f32⟩
  | _, _ => ⟨S4112x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_call3_v0 : Ref sig .tc := ⟨.hbm, 20, rfl⟩
abbrev main_v8 : Ref sig .tc := ⟨.hbm, 21, rfl⟩
abbrev main_v9 : Ref sig .tc := ⟨.hbm, 22, rfl⟩
abbrev main_c_3 : Ref sig .tc := ⟨.hbm, 23, rfl⟩
abbrev main_call4_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 2], ![false, false]⟩

def k0_cond4 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c0_i32 : BitVec 32 := 0#32
  let v1 : BitVec 32 := Scalar.select v0 c0_i32 arg1
  let c0_i32_0 : BitVec 32 := 0#32
  let c0_i32_1 : BitVec 32 := 0#32
  ![v1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

abbrev stage0_0 : Fin 2 → Memref sig .tc .vmem S1408x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== WgradRefIdeal.lean ====
abbrev S4112x2816 : Shape := ⟨2, ![4112, 2816]⟩
abbrev S4112x1024 : Shape := ⟨2, ![4112, 1024]⟩
abbrev S2816x1024 : Shape := ⟨2, ![2816, 1024]⟩
abbrev S8x352x1024 : Shape := ⟨3, ![8, 352, 1024]⟩
abbrev S8x1x352x1024 : Shape := ⟨4, ![8, 1, 352, 1024]⟩
abbrev S8x3x352x1024 : Shape := ⟨4, ![8, 3, 352, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4112x2816, .f32⟩
  | .hbm, ⟨1, _⟩ => ⟨S4112x2816, .f32⟩
  | .hbm, ⟨2, _⟩ => ⟨S4112x2816, .f32⟩
  | .hbm, ⟨3, _⟩ => ⟨S4112x1024, .f32⟩
  | .hbm, ⟨4, _⟩ => ⟨S4112x1024, .f32⟩
  | .hbm, ⟨5, _⟩ => ⟨S4112x2816, .bf16⟩
  | .hbm, ⟨6, _⟩ => ⟨S4112x1024, .bf16⟩
  | .hbm, ⟨7, _⟩ => ⟨S2816x1024, .f32⟩
  | .hbm, ⟨8, _⟩ => ⟨S4112x2816, .bf16⟩
  | .hbm, ⟨9, _⟩ => ⟨S4112x1024, .bf16⟩
  | .hbm, ⟨10, _⟩ => ⟨S2816x1024, .f32⟩
  | .hbm, ⟨11, _⟩ => ⟨S4112x2816, .bf16⟩
  | .hbm, ⟨12, _⟩ => ⟨S4112x1024, .bf16⟩
  | .hbm, ⟨13, _⟩ => ⟨S2816x1024, .f32⟩
  | .hbm, ⟨14, _⟩ => ⟨S8x352x1024, .f32⟩
  | .hbm, ⟨15, _⟩ => ⟨S8x352x1024, .f32⟩
  | .hbm, ⟨16, _⟩ => ⟨S8x352x1024, .f32⟩
  | .hbm, ⟨17, _⟩ => ⟨S8x1x352x1024, .f32⟩
  | .hbm, ⟨18, _⟩ => ⟨S8x1x352x1024, .f32⟩
  | .hbm, ⟨19, _⟩ => ⟨S8x1x352x1024, .f32⟩
  | .hbm, ⟨20, _⟩ => ⟨S8x3x352x1024, .f32⟩
  | .hbm, ⟨21, _⟩ => ⟨S8x3x352x1024, .bf16⟩
  | _, _ => ⟨S4112x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Sums.lean ====
abbrev S8x1x32x64 : Shape := ⟨4, ![8, 1, 32, 64]⟩
abbrev S8x1x32 : Shape := ⟨3, ![8, 1, 32]⟩
abbrev S8x1x32x64x16 : Shape := ⟨5, ![8, 1, 32, 64, 16]⟩
abbrev S8x1x32x16x64 : Shape := ⟨5, ![8, 1, 32, 16, 64]⟩
abbrev S8x1x32x16 : Shape := ⟨4, ![8, 1, 32, 16]⟩
abbrev S8x1x32x16x16 : Shape := ⟨5, ![8, 1, 32, 16, 16]⟩
abbrev S8x1x512 : Shape := ⟨3, ![8, 1, 512]⟩
abbrev S8x1x4x128x128 : Shape := ⟨5, ![8, 1, 4, 128, 128]⟩
abbrev S8x1x4x128 : Shape := ⟨4, ![8, 1, 4, 128]⟩
abbrev S8x1x1024 : Shape := ⟨3, ![8, 1, 1024]⟩
abbrev S8x1024 : Shape := ⟨2, ![8, 1024]⟩
abbrev S8x16x1024 : Shape := ⟨3, ![8, 16, 1024]⟩
abbrev S8x1x128 : Shape := ⟨3, ![8, 1, 128]⟩
abbrev S8x32x64 : Shape := ⟨3, ![8, 32, 64]⟩
abbrev S8x32x64x16 : Shape := ⟨4, ![8, 32, 64, 16]⟩
abbrev S8x32x16x64 : Shape := ⟨4, ![8, 32, 16, 64]⟩
abbrev S8x512x64 : Shape := ⟨3, ![8, 512, 64]⟩
abbrev S8x32x16 : Shape := ⟨3, ![8, 32, 16]⟩
abbrev S8x16x32 : Shape := ⟨3, ![8, 16, 32]⟩
abbrev S8x32x16x16 : Shape := ⟨4, ![8, 32, 16, 16]⟩
abbrev S8x16x16x32 : Shape := ⟨4, ![8, 16, 16, 32]⟩
abbrev S8x256x32 : Shape := ⟨3, ![8, 256, 32]⟩
abbrev S8x512x128 : Shape := ⟨3, ![8, 512, 128]⟩
abbrev S8x4x128 : Shape := ⟨3, ![8, 4, 128]⟩
abbrev S8x2048 : Shape := ⟨2, ![8, 2048]⟩
abbrev S_ : Shape := ⟨0, ![]⟩
abbrev S8x16x128 : Shape := ⟨3, ![8, 16, 128]⟩
abbrev S8x32 : Shape := ⟨2, ![8, 32]⟩
abbrev S8x8x128 : Shape := ⟨3, ![8, 8, 128]⟩
abbrev S8x32768 : Shape := ⟨2, ![8, 32768]⟩
abbrev S8x256x128 : Shape := ⟨3, ![8, 256, 128]⟩
abbrev S8x512 : Shape := ⟨2, ![8, 512]⟩
abbrev S8x8192 : Shape := ⟨2, ![8, 8192]⟩
abbrev S8x64x128 : Shape := ⟨3, ![8, 64, 128]⟩
abbrev S8x65536 : Shape := ⟨2, ![8, 65536]⟩
abbrev S8x128 : Shape := ⟨2, ![8, 128]⟩
abbrev S8x1696x128 : Shape := ⟨3, ![8, 1696, 128]⟩
abbrev S8x16384 : Shape := ⟨2, ![8, 16384]⟩
abbrev S8x128x128 : Shape := ⟨3, ![8, 128, 128]⟩
abbrev S8x160x128 : Shape := ⟨3, ![8, 160, 128]⟩
abbrev S1696x128 : Shape := ⟨2, ![1696, 128]⟩
abbrev S160x128 : Shape := ⟨2, ![160, 128]⟩
abbrev S1x1696x128 : Shape := ⟨3, ![1, 1696, 128]⟩
abbrev S1x160x128 : Shape := ⟨3, ![1, 160, 128]⟩
abbrev S16x128 : Shape := ⟨2, ![16, 128]⟩
abbrev S2048 : Shape := ⟨1, ![2048]⟩
abbrev S32x64 : Shape := ⟨2, ![32, 64]⟩
abbrev S1024 : Shape := ⟨1, ![1024]⟩
abbrev S32 : Shape := ⟨1, ![32]⟩
abbrev S1x32 : Shape := ⟨2, ![1, 32]⟩
abbrev S256x128 : Shape := ⟨2, ![256, 128]⟩
abbrev S32768 : Shape := ⟨1, ![32768]⟩
abbrev S512x64 : Shape := ⟨2, ![512, 64]⟩
abbrev S512 : Shape := ⟨1, ![512]⟩
abbrev S16x32 : Shape := ⟨2, ![16, 32]⟩
abbrev S64x128 : Shape := ⟨2, ![64, 128]⟩
abbrev S8192 : Shape := ⟨1, ![8192]⟩
abbrev S256x32 : Shape := ⟨2, ![256, 32]⟩
abbrev S1x512 : Shape := ⟨2, ![1, 512]⟩
abbrev S512x128 : Shape := ⟨2, ![512, 128]⟩
abbrev S65536 : Shape := ⟨1, ![65536]⟩
abbrev S4x128 : Shape := ⟨2, ![4, 128]⟩
abbrev S1x1024 : Shape := ⟨2, ![1, 1024]⟩
abbrev S128x128 : Shape := ⟨2, ![128, 128]⟩
abbrev S16384 : Shape := ⟨1, ![16384]⟩
abbrev S16x1024 : Shape := ⟨2, ![16, 1024]⟩
abbrev S128 : Shape := ⟨1, ![128]⟩
abbrev S1x128 : Shape := ⟨2, ![1, 128]⟩
abbrev S1x32x64 : Shape := ⟨3, ![1, 32, 64]⟩
abbrev S32x16x64 : Shape := ⟨3, ![32, 16, 64]⟩
abbrev S32x64x16 : Shape := ⟨3, ![32, 64, 16]⟩
abbrev S1x32x64x16 : Shape := ⟨4, ![1, 32, 64, 16]⟩
abbrev S1x32x16x64 : Shape := ⟨4, ![1, 32, 16, 64]⟩
abbrev S32x16 : Shape := ⟨2, ![32, 16]⟩
abbrev S1x32x16 : Shape := ⟨3, ![1, 32, 16]⟩
abbrev S16x16x32 : Shape := ⟨3, ![16, 16, 32]⟩
abbrev S32x16x16 : Shape := ⟨3, ![32, 16, 16]⟩
abbrev S1x32x16x16 : Shape := ⟨4, ![1, 32, 16, 16]⟩
abbrev S1x4x128x128 : Shape := ⟨4, ![1, 4, 128, 128]⟩
abbrev S1x4x128 : Shape := ⟨3, ![1, 4, 128]⟩
abbrev S1x1 : Shape := ⟨2, ![1, 1]⟩

abbrev nBuf : Space → Nat
  | .hbm => 245
  | .vmem => 4
  | .smem => 0
  | _ => 0

abbrev hbmTy0_0 (i : Nat) : BufTy := match i % 128 with
  | 0 => ⟨S8x1x32x64, .f32⟩
  | 1 => ⟨S8x1x32x64, .f32⟩
  | 2 => ⟨S8x1x32, .f32⟩
  | 3 => ⟨S8x1x32x64x16, .f32⟩
  | 4 => ⟨S8x1x32x64x16, .f32⟩
  | 5 => ⟨S8x1x32x16x64, .f32⟩
  | 6 => ⟨S8x1x32x16x64, .f32⟩
  | 7 => ⟨S8x1x32x16, .f32⟩
  | 8 => ⟨S8x1x32x16x16, .f32⟩
  | 9 => ⟨S8x1x32x16, .f32⟩
  | 10 => ⟨S8x1x512, .f32⟩
  | 11 => ⟨S8x1x4x128x128, .f32⟩
  | 12 => ⟨S8x1x4x128, .f32⟩
  | 13 => ⟨S8x1x512, .f32⟩
  | 14 => ⟨S8x1x1024, .f32⟩
  | 15 => ⟨S8x1x1024, .f32⟩
  | 16 => ⟨S8x1024, .f32⟩
  | 17 => ⟨S8x16x1024, .f32⟩
  | 18 => ⟨S8x1x128, .f32⟩
  | 19 => ⟨S8x32x64, .f32⟩
  | 20 => ⟨S8x32x64, .f32⟩
  | 21 => ⟨S8x32x64x16, .f32⟩
  | 22 => ⟨S8x32x16x64, .f32⟩
  | 23 => ⟨S8x512x64, .f32⟩
  | 24 => ⟨S8x32x64x16, .f32⟩
  | 25 => ⟨S8x32x16x64, .f32⟩
  | 26 => ⟨S8x512x64, .f32⟩
  | 27 => ⟨S8x512x64, .f32⟩
  | 28 => ⟨S8x512x64, .f32⟩
  | 29 => ⟨S8x32x16, .f32⟩
  | 30 => ⟨S8x16x32, .f32⟩
  | 31 => ⟨S8x32x16x16, .f32⟩
  | 32 => ⟨S8x16x16x32, .f32⟩
  | 33 => ⟨S8x256x32, .f32⟩
  | 34 => ⟨S8x32x16, .f32⟩
  | 35 => ⟨S8x16x32, .f32⟩
  | 36 => ⟨S8x512x128, .f32⟩
  | 37 => ⟨S8x4x128, .f32⟩
  | 38 => ⟨S8x1x1024, .f32⟩
  | 39 => ⟨S8x2048, .f32⟩
  | 40 => ⟨S8x2048, .bf16⟩
  | 41 => ⟨S_, .i32⟩
  | 42 => ⟨S_, .bf16⟩
  | 43 => ⟨S8x2048, .bf16⟩
  | 44 => ⟨S8x16x128, .bf16⟩
  | 45 => ⟨S8x2048, .f32⟩
  | 46 => ⟨S8x2048, .bf16⟩
  | 47 => ⟨S_, .i32⟩
  | 48 => ⟨S_, .bf16⟩
  | 49 => ⟨S8x2048, .bf16⟩
  | 50 => ⟨S8x16x128, .bf16⟩
  | 51 => ⟨S8x32, .f32⟩
  | 52 => ⟨S8x32, .bf16⟩
  | 53 => ⟨S_, .i32⟩
  | 54 => ⟨S_, .bf16⟩
  | 55 => ⟨S8x1024, .bf16⟩
  | 56 => ⟨S8x8x128, .bf16⟩
  | 57 => ⟨S8x32768, .f32⟩
  | 58 => ⟨S8x32768, .bf16⟩
  | 59 => ⟨S_, .i32⟩
  | 60 => ⟨S_, .bf16⟩
  | 61 => ⟨S8x32768, .bf16⟩
  | 62 => ⟨S8x256x128, .bf16⟩
  | 63 => ⟨S8x32768, .f32⟩
  | 64 => ⟨S8x32768, .bf16⟩
  | 65 => ⟨S_, .i32⟩
  | 66 => ⟨S_, .bf16⟩
  | 67 => ⟨S8x32768, .bf16⟩
  | 68 => ⟨S8x256x128, .bf16⟩
  | 69 => ⟨S8x32768, .f32⟩
  | 70 => ⟨S8x32768, .bf16⟩
  | 71 => ⟨S_, .i32⟩
  | 72 => ⟨S_, .bf16⟩
  | 73 => ⟨S8x32768, .bf16⟩
  | 74 => ⟨S8x256x128, .bf16⟩
  | 75 => ⟨S8x32768, .f32⟩
  | 76 => ⟨S8x32768, .bf16⟩
  | 77 => ⟨S_, .i32⟩
  | 78 => ⟨S_, .bf16⟩
  | 79 => ⟨S8x32768, .bf16⟩
  | 80 => ⟨S8x256x128, .bf16⟩
  | 81 => ⟨S8x512, .f32⟩
  | 82 => ⟨S8x512, .bf16⟩
  | 83 => ⟨S_, .i32⟩
  | 84 => ⟨S_, .bf16⟩
  | 85 => ⟨S8x1024, .bf16⟩
  | 86 => ⟨S8x8x128, .bf16⟩
  | 87 => ⟨S8x8192, .f32⟩
  | 88 => ⟨S8x8192, .bf16⟩
  | 89 => ⟨S_, .i32⟩
  | 90 => ⟨S_, .bf16⟩
  | 91 => ⟨S8x8192, .bf16⟩
  | 92 => ⟨S8x64x128, .bf16⟩
  | 93 => ⟨S8x512, .f32⟩
  | 94 => ⟨S8x512, .bf16⟩
  | 95 => ⟨S_, .i32⟩
  | 96 => ⟨S_, .bf16⟩
  | 97 => ⟨S8x1024, .bf16⟩
  | 98 => ⟨S8x8x128, .bf16⟩
  | 99 => ⟨S8x512, .f32⟩
  | 100 => ⟨S8x512, .bf16⟩
  | 101 => ⟨S_, .i32⟩
  | 102 => ⟨S_, .bf16⟩
  | 103 => ⟨S8x1024, .bf16⟩
  | 104 => ⟨S8x8x128, .bf16⟩
  | 105 => ⟨S8x65536, .f32⟩
  | 106 => ⟨S8x65536, .bf16⟩
  | 107 => ⟨S_, .i32⟩
  | 108 => ⟨S_, .bf16⟩
  | 109 => ⟨S8x65536, .bf16⟩
  | 110 => ⟨S8x512x128, .bf16⟩
  | 111 => ⟨S8x512, .f32⟩
  | 112 => ⟨S8x512, .bf16⟩
  | 113 => ⟨S_, .i32⟩
  | 114 => ⟨S_, .bf16⟩
  | 115 => ⟨S8x1024, .bf16⟩
  | 116 => ⟨S8x8x128, .bf16⟩
  | 117 => ⟨S8x512, .f32⟩
  | 118 => ⟨S8x512, .bf16⟩
  | 119 => ⟨S_, .i32⟩
  | 120 => ⟨S_, .bf16⟩
  | 121 => ⟨S8x1024, .bf16⟩
  | 122 => ⟨S8x8x128, .bf16⟩
  | 123 => ⟨S8x1024, .f32⟩
  | 124 => ⟨S8x1024, .bf16⟩
  | 125 => ⟨S_, .i32⟩
  | 126 => ⟨S_, .bf16⟩
  | 127 => ⟨S8x1024, .bf16⟩
  | _ => ⟨S8x1x32x64, .f32⟩

abbrev hbmTy0_1 (i : Nat) : BufTy := match i % 128 with
  | 0 => ⟨S8x8x128, .bf16⟩
  | 1 => ⟨S_, .bf16⟩
  | 2 => ⟨S8x128, .bf16⟩
  | 3 => ⟨S8x8x128, .bf16⟩
  | 4 => ⟨S8x1696x128, .bf16⟩
  | 5 => ⟨S8x1024, .f32⟩
  | 6 => ⟨S_, .i32⟩
  | 7 => ⟨S_, .f32⟩
  | 8 => ⟨S8x1024, .f32⟩
  | 9 => ⟨S8x8x128, .f32⟩
  | 10 => ⟨S8x1024, .f32⟩
  | 11 => ⟨S_, .i32⟩
  | 12 => ⟨S_, .f32⟩
  | 13 => ⟨S8x1024, .f32⟩
  | 14 => ⟨S8x8x128, .f32⟩
  | 15 => ⟨S8x16384, .f32⟩
  | 16 => ⟨S_, .i32⟩
  | 17 => ⟨S_, .f32⟩
  | 18 => ⟨S8x16384, .f32⟩
  | 19 => ⟨S8x128x128, .f32⟩
  | 20 => ⟨S8x128, .f32⟩
  | 21 => ⟨S_, .i32⟩
  | 22 => ⟨S_, .f32⟩
  | 23 => ⟨S8x1024, .f32⟩
  | 24 => ⟨S8x8x128, .f32⟩
  | 25 => ⟨S_, .f32⟩
  | 26 => ⟨S8x128, .f32⟩
  | 27 => ⟨S8x8x128, .f32⟩
  | 28 => ⟨S8x160x128, .f32⟩
  | 29 => ⟨S1696x128, .f32⟩
  | 30 => ⟨S160x128, .f32⟩
  | 31 => ⟨S16x128, .f32⟩
  | 32 => ⟨S2048, .f32⟩
  | 33 => ⟨S32x64, .f32⟩
  | 34 => ⟨S16x128, .f32⟩
  | 35 => ⟨S2048, .f32⟩
  | 36 => ⟨S32x64, .f32⟩
  | 37 => ⟨S8x128, .f32⟩
  | 38 => ⟨S1024, .f32⟩
  | 39 => ⟨S32, .f32⟩
  | 40 => ⟨S1x32, .f32⟩
  | 41 => ⟨S256x128, .f32⟩
  | 42 => ⟨S32768, .f32⟩
  | 43 => ⟨S512x64, .f32⟩
  | 44 => ⟨S256x128, .f32⟩
  | 45 => ⟨S32768, .f32⟩
  | 46 => ⟨S512x64, .f32⟩
  | 47 => ⟨S256x128, .f32⟩
  | 48 => ⟨S32768, .f32⟩
  | 49 => ⟨S512x64, .f32⟩
  | 50 => ⟨S256x128, .f32⟩
  | 51 => ⟨S32768, .f32⟩
  | 52 => ⟨S512x64, .f32⟩
  | 53 => ⟨S8x128, .f32⟩
  | 54 => ⟨S1024, .f32⟩
  | 55 => ⟨S512, .f32⟩
  | 56 => ⟨S16x32, .f32⟩
  | 57 => ⟨S64x128, .f32⟩
  | 58 => ⟨S8192, .f32⟩
  | 59 => ⟨S256x32, .f32⟩
  | 60 => ⟨S8x128, .f32⟩
  | 61 => ⟨S1024, .f32⟩
  | 62 => ⟨S512, .f32⟩
  | 63 => ⟨S16x32, .f32⟩
  | 64 => ⟨S8x128, .f32⟩
  | 65 => ⟨S1024, .f32⟩
  | 66 => ⟨S512, .f32⟩
  | 67 => ⟨S1x512, .f32⟩
  | 68 => ⟨S512x128, .f32⟩
  | 69 => ⟨S65536, .f32⟩
  | 70 => ⟨S512x128, .f32⟩
  | 71 => ⟨S8x128, .f32⟩
  | 72 => ⟨S1024, .f32⟩
  | 73 => ⟨S512, .f32⟩
  | 74 => ⟨S4x128, .f32⟩
  | 75 => ⟨S8x128, .f32⟩
  | 76 => ⟨S1024, .f32⟩
  | 77 => ⟨S512, .f32⟩
  | 78 => ⟨S1x512, .f32⟩
  | 79 => ⟨S8x128, .f32⟩
  | 80 => ⟨S1024, .f32⟩
  | 81 => ⟨S1x1024, .f32⟩
  | 82 => ⟨S8x128, .f32⟩
  | 83 => ⟨S1024, .f32⟩
  | 84 => ⟨S1x1024, .f32⟩
  | 85 => ⟨S8x128, .f32⟩
  | 86 => ⟨S1024, .f32⟩
  | 87 => ⟨S1x1024, .f32⟩
  | 88 => ⟨S128x128, .f32⟩
  | 89 => ⟨S16384, .f32⟩
  | 90 => ⟨S16x1024, .f32⟩
  | 91 => ⟨S8x128, .f32⟩
  | 92 => ⟨S1024, .f32⟩
  | 93 => ⟨S128, .f32⟩
  | 94 => ⟨S1x128, .f32⟩
  | 95 => ⟨S1x32x64, .f32⟩
  | 96 => ⟨S1x32x64, .f32⟩
  | 97 => ⟨S32x16x64, .f32⟩
  | 98 => ⟨S32x64x16, .f32⟩
  | 99 => ⟨S1x32x64x16, .f32⟩
  | 100 => ⟨S32x16x64, .f32⟩
  | 101 => ⟨S32x64x16, .f32⟩
  | 102 => ⟨S1x32x64x16, .f32⟩
  | 103 => ⟨S1x32x16x64, .f32⟩
  | 104 => ⟨S1x32x16x64, .f32⟩
  | 105 => ⟨S32x16, .f32⟩
  | 106 => ⟨S1x32x16, .f32⟩
  | 107 => ⟨S16x16x32, .f32⟩
  | 108 => ⟨S32x16x16, .f32⟩
  | 109 => ⟨S1x32x16x16, .f32⟩
  | 110 => ⟨S32x16, .f32⟩
  | 111 => ⟨S1x32x16, .f32⟩
  | 112 => ⟨S1x4x128x128, .f32⟩
  | 113 => ⟨S1x4x128, .f32⟩
  | 114 => ⟨S1024, .f32⟩
  | 115 => ⟨S1x1, .f32⟩
  | 116 => ⟨S_, .f32⟩
  | _ => ⟨S8x1x32x64, .f32⟩

abbrev hbmTy (i : Nat) : BufTy := match i / 128 with
  | 0 => hbmTy0_0 i
  | 1 => hbmTy0_1 i
  | _ => ⟨S8x1x32x64, .f32⟩

abbrev bufTy : (tb : Table) → Fin (tcTables nBuf tb) → BufTy
  | .hbm, ⟨i, _⟩ => hbmTy i
  | .local _ .vmem, ⟨0, _⟩ => ⟨S8x1696x128, .bf16⟩
  | .local _ .vmem, ⟨1, _⟩ => ⟨S8x160x128, .f32⟩
  | .local _ .vmem, ⟨2, _⟩ => ⟨S1696x128, .f32⟩
  | .local _ .vmem, ⟨3, _⟩ => ⟨S160x128, .f32⟩
  | _, _ => ⟨S8x1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c : Ref sig .tc := ⟨.hbm, 41, rfl⟩
abbrev main_call0_v0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_0 : Ref sig .tc := ⟨.hbm, 47, rfl⟩
abbrev main_call1_v0 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_1 : Ref sig .tc := ⟨.hbm, 53, rfl⟩
abbrev main_call2_v0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_2 : Ref sig .tc := ⟨.hbm, 59, rfl⟩
abbrev main_call3_v0 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_3 : Ref sig .tc := ⟨.hbm, 65, rfl⟩
abbrev main_call4_v0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_4 : Ref sig .tc := ⟨.hbm, 71, rfl⟩
abbrev main_call5_v0 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_c_5 : Ref sig .tc := ⟨.hbm, 77, rfl⟩
abbrev main_call6_v0 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_6 : Ref sig .tc := ⟨.hbm, 83, rfl⟩
abbrev main_call7_v0 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_c_7 : Ref sig .tc := ⟨.hbm, 89, rfl⟩
abbrev main_call8_v0 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_c_8 : Ref sig .tc := ⟨.hbm, 95, rfl⟩
abbrev main_call9_v0 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_c_9 : Ref sig .tc := ⟨.hbm, 101, rfl⟩
abbrev main_call10_v0 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_c_10 : Ref sig .tc := ⟨.hbm, 107, rfl⟩
abbrev main_call11_v0 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_c_11 : Ref sig .tc := ⟨.hbm, 113, rfl⟩
abbrev main_call12_v0 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_c_12 : Ref sig .tc := ⟨.hbm, 119, rfl⟩
abbrev main_call13_v0 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_c_13 : Ref sig .tc := ⟨.hbm, 125, rfl⟩
abbrev main_call14_v0 : Ref sig .tc := ⟨.hbm, 126, rfl⟩
abbrev main_v78 : Ref sig .tc := ⟨.hbm, 127, rfl⟩
abbrev main_v79 : Ref sig .tc := ⟨.hbm, 128, rfl⟩
abbrev main_cst : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_c_14 : Ref sig .tc := ⟨.hbm, 134, rfl⟩
abbrev main_call15_v0 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_c_15 : Ref sig .tc := ⟨.hbm, 139, rfl⟩
abbrev main_call16_v0 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_c_16 : Ref sig .tc := ⟨.hbm, 144, rfl⟩
abbrev main_call17_v0 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_c_17 : Ref sig .tc := ⟨.hbm, 149, rfl⟩
abbrev main_call18_v0 : Ref sig .tc := ⟨.hbm, 150, rfl⟩
abbrev main_v93 : Ref sig .tc := ⟨.hbm, 151, rfl⟩
abbrev main_v94 : Ref sig .tc := ⟨.hbm, 152, rfl⟩
abbrev main_cst_18 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98_0 : Ref sig .tc := ⟨.hbm, 157, rfl⟩
abbrev main_v98_1 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1696x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1696x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== SumsRefIdeal.lean ====
abbrev S8x1x32x64 : Shape := ⟨4, ![8, 1, 32, 64]⟩
abbrev S8x1x32 : Shape := ⟨3, ![8, 1, 32]⟩
abbrev S8x1x32x64x16 : Shape := ⟨5, ![8, 1, 32, 64, 16]⟩
abbrev S8x1x32x16x64 : Shape := ⟨5, ![8, 1, 32, 16, 64]⟩
abbrev S8x1x32x16 : Shape := ⟨4, ![8, 1, 32, 16]⟩
abbrev S8x1x32x16x16 : Shape := ⟨5, ![8, 1, 32, 16, 16]⟩
abbrev S8x1x512 : Shape := ⟨3, ![8, 1, 512]⟩
abbrev S8x1x4x128x128 : Shape := ⟨5, ![8, 1, 4, 128, 128]⟩
abbrev S8x1x4x128 : Shape := ⟨4, ![8, 1, 4, 128]⟩
abbrev S8x1x1024 : Shape := ⟨3, ![8, 1, 1024]⟩
abbrev S8x1024 : Shape := ⟨2, ![8, 1024]⟩
abbrev S8x16x1024 : Shape := ⟨3, ![8, 16, 1024]⟩
abbrev S8x1x128 : Shape := ⟨3, ![8, 1, 128]⟩
abbrev S_ : Shape := ⟨0, ![]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x32x16 : Shape := ⟨3, ![1, 32, 16]⟩
abbrev S1x32x16x16 : Shape := ⟨4, ![1, 32, 16, 16]⟩
abbrev S1x512 : Shape := ⟨2, ![1, 512]⟩
abbrev S1x4x128x128 : Shape := ⟨4, ![1, 4, 128, 128]⟩
abbrev S1x4x128 : Shape := ⟨3, ![1, 4, 128]⟩
abbrev S1x1024 : Shape := ⟨2, ![1, 1024]⟩
abbrev S1024 : Shape := ⟨1, ![1024]⟩
abbrev S16x1024 : Shape := ⟨2, ![16, 1024]⟩
abbrev S1x128 : Shape := ⟨2, ![1, 128]⟩
abbrev S1x1 : Shape := ⟨2, ![1, 1]⟩

abbrev nBuf : Space → Nat
  | .hbm => 59
  | .vmem => 0
  | .smem => 0
  | _ => 0

abbrev bufTy : (tb : Table) → Fin (tcTables nBuf tb) → BufTy
  | .hbm, ⟨0, _⟩ => ⟨S8x1x32x64, .f32⟩
  | .hbm, ⟨1, _⟩ => ⟨S8x1x32x64, .f32⟩
  | .hbm, ⟨2, _⟩ => ⟨S8x1x32, .f32⟩
  | .hbm, ⟨3, _⟩ => ⟨S8x1x32x64x16, .f32⟩
  | .hbm, ⟨4, _⟩ => ⟨S8x1x32x64x16, .f32⟩
  | .hbm, ⟨5, _⟩ => ⟨S8x1x32x16x64, .f32⟩
  | .hbm, ⟨6, _⟩ => ⟨S8x1x32x16x64, .f32⟩
  | .hbm, ⟨7, _⟩ => ⟨S8x1x32x16, .f32⟩
  | .hbm, ⟨8, _⟩ => ⟨S8x1x32x16x16, .f32⟩
  | .hbm, ⟨9, _⟩ => ⟨S8x1x32x16, .f32⟩
  | .hbm, ⟨10, _⟩ => ⟨S8x1x512, .f32⟩
  | .hbm, ⟨11, _⟩ => ⟨S8x1x4x128x128, .f32⟩
  | .hbm, ⟨12, _⟩ => ⟨S8x1x4x128, .f32⟩
  | .hbm, ⟨13, _⟩ => ⟨S8x1x512, .f32⟩
  | .hbm, ⟨14, _⟩ => ⟨S8x1x1024, .f32⟩
  | .hbm, ⟨15, _⟩ => ⟨S8x1x1024, .f32⟩
  | .hbm, ⟨16, _⟩ => ⟨S8x1024, .f32⟩
  | .hbm, ⟨17, _⟩ => ⟨S8x16x1024, .f32⟩
  | .hbm, ⟨18, _⟩ => ⟨S8x1x128, .f32⟩
  | .hbm, ⟨19, _⟩ => ⟨S_, .f32⟩
  | .hbm, ⟨20, _⟩ => ⟨S1x32x64, .f32⟩
  | .hbm, ⟨21, _⟩ => ⟨S_, .f32⟩
  | .hbm, ⟨22, _⟩ => ⟨S1x32x64, .f32⟩
  | .hbm, ⟨23, _⟩ => ⟨S_, .f32⟩
  | .hbm, ⟨24, _⟩ => ⟨S1x32, .f32⟩
  | .hbm, ⟨25, _⟩ => ⟨S_, .f32⟩
  | .hbm, ⟨26, _⟩ => ⟨S1x32x64x16, .f32⟩
  | .hbm, ⟨27, _⟩ => ⟨S_, .f32⟩
  | .hbm, ⟨28, _⟩ => ⟨S1x32x64x16, .f32⟩
  | .hbm, ⟨29, _⟩ => ⟨S_, .f32⟩
  | .hbm, ⟨30, _⟩ => ⟨S1x32x16x64, .f32⟩
  | .hbm, ⟨31, _⟩ => ⟨S_, .f32⟩
  | .hbm, ⟨32, _⟩ => ⟨S1x32x16x64, .f32⟩
  | .hbm, ⟨33, _⟩ => ⟨S_, .f32⟩
  | .hbm, ⟨34, _⟩ => ⟨S1x32x16, .f32⟩
  | .hbm, ⟨35, _⟩ => ⟨S_, .f32⟩
  | .hbm, ⟨36, _⟩ => ⟨S1x32x16x16, .f32⟩
  | .hbm, ⟨37, _⟩ => ⟨S_, .f32⟩
  | .hbm, ⟨38, _⟩ => ⟨S1x32x16, .f32⟩
  | .hbm, ⟨39, _⟩ => ⟨S_, .f32⟩
  | .hbm, ⟨40, _⟩ => ⟨S1x512, .f32⟩
  | .hbm, ⟨41, _⟩ => ⟨S_, .f32⟩
  | .hbm, ⟨42, _⟩ => ⟨S1x4x128x128, .f32⟩
  | .hbm, ⟨43, _⟩ => ⟨S_, .f32⟩
  | .hbm, ⟨44, _⟩ => ⟨S1x4x128, .f32⟩
  | .hbm, ⟨45, _⟩ => ⟨S_, .f32⟩
  | .hbm, ⟨46, _⟩ => ⟨S1x512, .f32⟩
  | .hbm, ⟨47, _⟩ => ⟨S_, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S_, .f32⟩
  | .hbm, ⟨52, _⟩ => ⟨S1024, .f32⟩
  | .hbm, ⟨53, _⟩ => ⟨S_, .f32⟩
  | .hbm, ⟨54, _⟩ => ⟨S16x1024, .f32⟩
  | .hbm, ⟨55, _⟩ => ⟨S_, .f32⟩
  | .hbm, ⟨56, _⟩ => ⟨S1x128, .f32⟩
  | .hbm, ⟨57, _⟩ => ⟨S1x1, .f32⟩
  | .hbm, ⟨58, _⟩ => ⟨S_, .f32⟩
  | _, _ => ⟨S8x1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_cst_0 : Ref sig .tc := ⟨.hbm, 21, rfl⟩
abbrev main_v1 : Ref sig .tc := ⟨.hbm, 22, rfl⟩
abbrev main_cst_1 : Ref sig .tc := ⟨.hbm, 23, rfl⟩
abbrev main_v2 : Ref sig .tc := ⟨.hbm, 24, rfl⟩
abbrev main_cst_2 : Ref sig .tc := ⟨.hbm, 25, rfl⟩
abbrev main_v3 : Ref sig .tc := ⟨.hbm, 26, rfl⟩
abbrev main_cst_3 : Ref sig .tc := ⟨.hbm, 27, rfl⟩
abbrev main_v4 : Ref sig .tc := ⟨.hbm, 28, rfl⟩
abbrev main_cst_4 : Ref sig .tc := ⟨.hbm, 29, rfl⟩
abbrev main_v5 : Ref sig .tc := ⟨.hbm, 30, rfl⟩
abbrev main_cst_5 : Ref sig .tc := ⟨.hbm, 31, rfl⟩
abbrev main_v6 : Ref sig .tc := ⟨.hbm, 32, rfl⟩
abbrev main_cst_6 : Ref sig .tc := ⟨.hbm, 33, rfl⟩
abbrev main_v7 : Ref sig .tc := ⟨.hbm, 34, rfl⟩
abbrev main_cst_7 : Ref sig .tc := ⟨.hbm, 35, rfl⟩
abbrev main_v8 : Ref sig .tc := ⟨.hbm, 36, rfl⟩
abbrev main_cst_8 : Ref sig .tc := ⟨.hbm, 37, rfl⟩
abbrev main_v9 : Ref sig .tc := ⟨.hbm, 38, rfl⟩
abbrev main_cst_9 : Ref sig .tc := ⟨.hbm, 39, rfl⟩
abbrev main_v10 : Ref sig .tc := ⟨.hbm, 40, rfl⟩
abbrev main_cst_10 : Ref sig .tc := ⟨.hbm, 41, rfl⟩
abbrev main_v11 : Ref sig .tc := ⟨.hbm, 42, rfl⟩
abbrev main_cst_11 : Ref sig .tc := ⟨.hbm, 43, rfl⟩
abbrev main_v12 : Ref sig .tc := ⟨.hbm, 44, rfl⟩
abbrev main_cst_12 : Ref sig .tc := ⟨.hbm, 45, rfl⟩
abbrev main_v13 : Ref sig .tc := ⟨.hbm, 46, rfl⟩
abbrev main_cst_13 : Ref sig .tc := ⟨.hbm, 47, rfl⟩
abbrev main_v14 : Ref sig .tc := ⟨.hbm, 48, rfl⟩
abbrev main_cst_14 : Ref sig .tc := ⟨.hbm, 49, rfl⟩
abbrev main_v15 : Ref sig .tc := ⟨.hbm, 50, rfl⟩
abbrev main_cst_15 : Ref sig .tc := ⟨.hbm, 51, rfl⟩
abbrev main_v16 : Ref sig .tc := ⟨.hbm, 52, rfl⟩
abbrev main_cst_16 : Ref sig .tc := ⟨.hbm, 53, rfl⟩
abbrev main_v17 : Ref sig .tc := ⟨.hbm, 54, rfl⟩
abbrev main_cst_17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩

abbrev nD : Nat := 1
abbrev τ : Topo := Topo.v7x

variable {F : FTy → Type} [FloatOps F]
-- ==== Proof.DiscB.Value.lean ====
/- The four results of the gradient of the input projection's discretisation: what the kernel stores, read at an
   index, is what the reference computes there.  The arithmetic is the same on both sides once the kernel's
   `0 - x` is read as `-x`; the two sums run over the middle axis. -/
module

public import proofs.«01_k».proof.Proof.Gen.DiscBIdeal.Value
public import proofs.«01_k».proof.Proof.Gen.DiscBRefIdeal.Read
public import Idealize.ShloMosaic.Lib.Pointwise
public import Idealize.ShloMosaic.Lib.Claim
public import proofs.«01_k».proof.Defs

@[expose] public section

set_option maxRecDepth 16384

noncomputable section

namespace Cert.DiscBIdeal.Tie

open Cert.DiscBRefIdeal.Read
open Cert.DiscBIdeal Cert.DiscBIdeal.Gen Idealize.ShloMosaic Idealize.ShloMosaic.TcCoe Idealize.SL.Sem

variable (a0 a1 : FVec Ideal S32x1x64 .f32) (a2 a3 a4 a5 : FVec Ideal S32x16x64 .f32)

theorem g6 : k0_pay8 (F := Ideal) a2 a3 a4 a5 = val_main_v37 (F := Ideal) a2 a3 a4 a5 := by
  rw [← val_main_v37_eq]
  funext j
  idx_vars j
  pointwise! [k0_pay8, k0_pay1, k0_pay3]

theorem g7 : k0_pay6 (F := Ideal) a2 a3 a4 a5 = val_main_v30 (F := Ideal) a2 a3 a4 a5 := by
  rw [← val_main_v30_eq]
  funext j
  idx_vars j
  pointwise! [k0_pay6, k0_pay2, k0_pay4]
  simp only [zero_sub]

theorem g8 : k0_pay7 (F := Ideal) a0 a1 a4 a5 = val_main_v33 (F := Ideal) a0 a1 a4 a5 := by
  rw [← val_main_v33_eq]
  funext j
  idx_vars j
  pointwise! [k0_pay7, k0_pay2, k0_pay3]

theorem g9 : k0_pay5 (F := Ideal) a0 a1 a4 a5 = val_main_v26 (F := Ideal) a0 a1 a4 a5 := by
  rw [← val_main_v26_eq]
  funext j
  idx_vars j
  pointwise! [k0_pay5, k0_pay1, k0_pay4]
  simp only [zero_sub]

/-- The kernel's four arrays and the reference's four agree on the same arguments. -/
theorem algebraic : Cert.algebraic_DiscBIdeal_DiscBRefIdeal := by
  pair_intro
  · run_from Cert.DiscBIdeal.Value.run m g
  · run_from Cert.DiscBRefIdeal.Value.run m' g'
    · exact (g6 _ _ _ _).symm
    · exact (g7 _ _ _ _).symm
    · exact (g8 _ _ _ _).symm
    · exact (g9 _ _ _ _).symm

end Cert.DiscBIdeal.Tie

end
-- ==== Proof.Common.Real.lean ====
/- Finite extended reals: which operations keep a value finite, how a family of finite values is lifted to reals,
   and the bookkeeping of sums over padded rows that every pair below shares. -/
module

public import Idealize.ShloMosaic.Lib.Pointwise
public import Idealize.ShloMosaic.Lib.ReduceAll

@[expose] public section

noncomputable section

namespace Cert.Common

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.neg {x : EReal} (hx : IsReal x) : IsReal (-x) := by
  obtain ⟨a, rfl⟩ := hx; exact ⟨-a, (EReal.coe_neg a).symm⟩

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩

/-- A family of finite values is a family of reals. -/
theorem lift {ι : Type} {f : ι → EReal} (h : ∀ i, IsReal (f i)) : ∃ g : ι → ℝ, f = fun i => (g i : EReal) := by
  choose g hg using h
  exact ⟨g, funext hg⟩

/-- Division by a real that is not zero. -/
theorem div_coe_coe (a b : ℝ) (hb : b ≠ 0) : Ideal.div (a : EReal) (b : EReal) = ((a / b : ℝ) : EReal) := by
  rw [Ideal.div_coe hb, ← EReal.coe_mul, mul_one_div]

/-- The reciprocal root of a positive real. -/
theorem rsqrt_coe_pos (a : ℝ) (ha : 0 < a) : Ideal.rsqrt (a : EReal) = (((Real.sqrt a)⁻¹ : ℝ) : EReal) := by
  rw [Ideal.rsqrt_coe, if_neg (not_lt.mpr ha.le), if_neg ha.ne']

/-- An element whose absolute value lies below infinity is finite. -/
theorem isReal_of_abs_lt {x : EReal} (h : max x (-x) < ⊤) : IsReal x := by
  induction x using EReal.rec with
  | bot => simp at h
  | top => simp at h
  | coe r => exact ⟨r, rfl⟩

/-- Infinity's float word. -/
theorem ofBits_inf : Ideal.ofBits .f32 0x7F800000#32 = ⊤ := by
  simp [Ideal.ofBits, Ideal.ieee]

/-- A `jnp.all(jnp.abs(a) < jnp.inf)` that is one: every element of `a` is finite. -/
theorem finite_of_all {s t u : Shape} {axes : List (Fin s.rank)} [Subsingleton t.Idx] (a top : FVec Ideal s .f32) (htop : ∀ i, top i = ⊤)
    (init : u.Idx → BitVec 1) (h : s.ReducesTo axes t) (hu : 0 < u.numel) (j : t.Idx)
    (e : Host.reduce IntOp.andi (cmpf .olt (Host.absf a) top) init h hu j = 1#1) (i : s.Idx) : IsReal (a i) := by
  have w := Host.reduce_andi_all _ init h hu j e i
  have w' : Ideal.cmp .olt (max (a i) (-(a i))) (top i) = 1#1 := w
  rw [htop i] at w'
  refine isReal_of_abs_lt ?_
  by_contra hc
  simp [Ideal.cmp, hc] at w'

/-- A sum over 17 tiles of 256 rows whose first 240 terms vanish is the sum over the 4112 others. -/
theorem sum_rows (f : Fin 4352 → EReal) (h : ∀ R : Fin 4352, R.val < 240 → f R = 0) :
    ∑ R : Fin 4352, f R = ∑ x : Fin 4112, f ⟨x.val + 240, by omega⟩ := by
  have e := Fin.sum_univ_add (M := EReal) (a := 240) (b := 4112) (fun i => f (Fin.cast rfl i))
  have z : ∑ i : Fin 240, f (Fin.cast rfl (Fin.castAdd 4112 i)) = 0 :=
    Finset.sum_eq_zero fun i _ => h _ (by simp)
  rw [z, zero_add] at e
  refine Eq.trans ?_ (e.trans ?_)
  · rfl
  · exact Finset.sum_congr rfl fun x _ => congrArg f (Fin.ext (by simp [Nat.add_comm]))

/-- Row `R` of an array of 4112 rows below 240 rows of zeros. -/
def padRow {n : ℕ} (a : (⟨2, ![4112, n]⟩ : Shape).Idx → EReal) (R : ℕ) (x : Fin n) : EReal :=
  if h : 240 ≤ R ∧ R - 240 < 4112 then a (ix2 ⟨R - 240, h.2⟩ x) else 0

theorem padRow_low {n : ℕ} (a : (⟨2, ![4112, n]⟩ : Shape).Idx → EReal) {R : ℕ} (h : ¬ (240 ≤ R ∧ R - 240 < 4112)) (x : Fin n) : padRow a R x = 0 :=
  dif_neg h

theorem padRow_high {n : ℕ} (a : (⟨2, ![4112, n]⟩ : Shape).Idx → EReal) {R : ℕ} (h : 240 ≤ R ∧ R - 240 < 4112) (x : Fin n) :
    padRow a R x = a (ix2 ⟨R - 240, h.2⟩ x) := dif_pos h

theorem padRow_add {n : ℕ} (a : (⟨2, ![4112, n]⟩ : Shape).Idx → EReal) (R : Fin 4112) (x : Fin n) : padRow a (R.val + 240) x = a (ix2 R x) := by
  rw [padRow_high a ⟨by omega, by have := R.isLt; omega⟩]
  exact congrArg a (by congr 1)

theorem isReal_padRow {n : ℕ} (a : (⟨2, ![4112, n]⟩ : Shape).Idx → EReal) (ha : ∀ i, IsReal (a i)) (R : ℕ) (x : Fin n) : IsReal (padRow a R x) := by
  unfold padRow; split
  · exact ha _
  · exact isReal_zero

/-- The padding value: an integer zero converted. -/
theorem sitofp_zero : (FloatOps.sitofp (F := Ideal) FTy.f32 (0#32 : BitVec 32) : EReal) = 0 := by
  show (((0#32 : BitVec 32).toInt : ℝ) : EReal) = 0
  simp

end Cert.Common

end
-- ==== Proof.Common.Rms.lean ====
/- The gradient of a root-mean-square normalisation, over the reals: the form the kernels write by hand and the form the
   chain rule gives are the same number, at any width, any positive divisor and any positive offset. -/
module

public import proofs.«01_k».proof.Proof.Common.Real

@[expose] public section

noncomputable section

namespace Cert.Common

open Idealize.ShloMosaic

theorem ofBits_512 : Ideal.ofBits .f32 1140850688#32 = ((512 : ℝ) : EReal) := by
  simp [Ideal.ofBits, Ideal.ieee]; norm_num; rw [← EReal.coe_mul]; norm_num
theorem ofBits_1024 : Ideal.ofBits .f32 1149239296#32 = ((1024 : ℝ) : EReal) := by
  simp [Ideal.ofBits, Ideal.ieee]; norm_num; rw [← EReal.coe_mul]; norm_num
theorem ofBits_neg_half : Ideal.ofBits .f32 3204448256#32 = ((-(1 / 2) : ℝ) : EReal) := by
  simp [Ideal.ofBits, Ideal.ieee]; norm_num; rw [← EReal.coe_mul]; norm_num

/-- The offset the normalisation adds to the mean square: the float nearest a millionth. -/
def eps : ℝ := 8796093 / 8796093022208

theorem eps_pos : 0 < eps := by unfold eps; norm_num

theorem ofBits_eps : Ideal.ofBits .f32 897988541#32 = ((eps : ℝ) : EReal) := by
  simp [Ideal.ofBits, Ideal.ieee, eps]; norm_num; rw [← EReal.coe_mul]; norm_num

/-- The mean square plus the offset. -/
def meanSq {n : ℕ} (N : ℝ) (y : Fin n → ℝ) : ℝ := (∑ x, y x * y x) / N + eps

theorem meanSq_pos {n : ℕ} {N : ℝ} (hN : 0 < N) (y : Fin n → ℝ) : 0 < meanSq N y :=
  add_pos_of_nonneg_of_pos (div_nonneg (Finset.sum_nonneg fun x _ => mul_self_nonneg (y x)) hN.le) eps_pos

theorem meanSq_coe {n : ℕ} {N : ℝ} (hN : 0 < N) (y : Fin n → ℝ) :
    Ideal.div (∑ x, (y x : EReal) * (y x : EReal)) (N : EReal) + (eps : EReal) = ((meanSq N y : ℝ) : EReal) := by
  simp only [← EReal.coe_mul, ← coe_sum]
  rw [div_coe_coe _ _ hN.ne', ← EReal.coe_add, meanSq]

/-- The reciprocal root mean square. -/
theorem rstd_coe {n : ℕ} {N : ℝ} (hN : 0 < N) (y : Fin n → ℝ) :
    Ideal.rsqrt (Ideal.div (∑ x, (y x : EReal) * (y x : EReal)) (N : EReal) + (eps : EReal)) = (((Real.sqrt (meanSq N y))⁻¹ : ℝ) : EReal) := by
  rw [meanSq_coe hN, rsqrt_coe_pos _ (meanSq_pos hN y)]

/-- A mean of finite values is finite: so is the reciprocal root mean square. -/
theorem isReal_rstd {n : ℕ} {N : ℝ} (hN : 0 < N) (y : Fin n → EReal) (hy : ∀ x, IsReal (y x)) :
    IsReal (Ideal.rsqrt (Ideal.div (∑ x, y x * y x) (N : EReal) + (eps : EReal))) := by
  obtain ⟨y, rfl⟩ := lift hy
  exact ⟨_, rstd_coe hN y⟩

/-- The gradient of `y ↦ y · rsqrt(mean y² + ε) · g` at one coordinate: by hand on the left, by the chain rule on the right. -/
theorem rms_bwd {n : ℕ} {N : ℝ} (hN : 0 < N) (y d g : Fin n → EReal) (hy : ∀ x, IsReal (y x)) (hd : ∀ x, IsReal (d x))
    (hg : ∀ x, IsReal (g x)) (j : Fin n) :
    Ideal.rsqrt (Ideal.div (∑ x, y x * y x) (N : EReal) + (eps : EReal))
        * (d j * g j - y j * Ideal.rsqrt (Ideal.div (∑ x, y x * y x) (N : EReal) + (eps : EReal))
            * Ideal.div (∑ x, d x * g x * (y x * Ideal.rsqrt (Ideal.div (∑ x, y x * y x) (N : EReal) + (eps : EReal)))) (N : EReal))
      = d j * g j * Ideal.rsqrt (Ideal.div (∑ x, y x * y x) (N : EReal) + (eps : EReal))
        + y j * Ideal.div ((∑ x, y x * (d x * g x))
            * (((-(1 / 2) : ℝ) : EReal) * Ideal.div (Ideal.rsqrt (Ideal.div (∑ x, y x * y x) (N : EReal) + (eps : EReal)))
                (Ideal.div (∑ x, y x * y x) (N : EReal) + (eps : EReal)))) (N : EReal)
        + Ideal.div ((∑ x, y x * (d x * g x))
            * (((-(1 / 2) : ℝ) : EReal) * Ideal.div (Ideal.rsqrt (Ideal.div (∑ x, y x * y x) (N : EReal) + (eps : EReal)))
                (Ideal.div (∑ x, y x * y x) (N : EReal) + (eps : EReal)))) (N : EReal) * y j := by
  obtain ⟨y, rfl⟩ := lift hy
  obtain ⟨d, rfl⟩ := lift hd
  obtain ⟨g, rfl⟩ := lift hg
  have hv := meanSq_pos hN y
  dsimp only
  rw [rstd_coe hN, meanSq_coe hN]
  generalize meanSq N y = v at hv
  simp only [← EReal.coe_mul, ← coe_sum, div_coe_coe _ _ hN.ne', div_coe_coe _ _ hv.ne', ← EReal.coe_add, ← EReal.coe_sub]
  refine congrArg _ ?_
  have hs : Real.sqrt v ≠ 0 := (Real.sqrt_pos.mpr hv).ne'
  have hsq : v = Real.sqrt v * Real.sqrt v := (Real.mul_self_sqrt hv.le).symm
  have e1 : ∑ x, d x * g x * (y x * (Real.sqrt v)⁻¹) = (∑ x, y x * (d x * g x)) * (Real.sqrt v)⁻¹ := by
    rw [Finset.sum_mul]; exact Finset.sum_congr rfl fun x _ => by ring
  rw [e1]
  generalize (∑ x, y x * (d x * g x)) = S
  have e2 : (Real.sqrt v)⁻¹ / v = (Real.sqrt v)⁻¹ * (Real.sqrt v)⁻¹ * (Real.sqrt v)⁻¹ := by
    conv_lhs => rw [hsq]
    rw [Real.sqrt_mul_self (Real.sqrt_nonneg v)]
    field_simp
  rw [e2]
  ring

/-- The same at row `R` of padded arrays: `w` sends the row of `a0` to the gradient reaching the normalised row. -/
theorem rms_row {n k : ℕ} {N : ℝ} (hN : 0 < N) (a0 : (⟨2, ![4112, k]⟩ : Shape).Idx → EReal) (a1 : (⟨2, ![4112, n]⟩ : Shape).Idx → EReal)
    (w : Fin n → Fin k → EReal) (g : Fin n → EReal) (h0 : ∀ i, IsReal (a0 i)) (h1 : ∀ i, IsReal (a1 i)) (hw : ∀ x i, IsReal (w x i))
    (hg : ∀ x, IsReal (g x)) (R : ℕ) (j : Fin n) :
    Ideal.rsqrt (Ideal.div (∑ x, padRow a1 R x * padRow a1 R x) (N : EReal) + (eps : EReal))
        * ((∑ i, padRow a0 R i * w j i) * g j
          - padRow a1 R j * Ideal.rsqrt (Ideal.div (∑ x, padRow a1 R x * padRow a1 R x) (N : EReal) + (eps : EReal))
            * Ideal.div (∑ x, (∑ i, padRow a0 R i * w x i) * g x
                * (padRow a1 R x * Ideal.rsqrt (Ideal.div (∑ x, padRow a1 R x * padRow a1 R x) (N : EReal) + (eps : EReal)))) (N : EReal))
      = if h : 240 ≤ R ∧ R - 240 < 4112 then
          (fun r : Fin 4112 => (∑ i, a0 (ix2 r i) * w j i) * g j * Ideal.rsqrt (Ideal.div (∑ x, a1 (ix2 r x) * a1 (ix2 r x)) (N : EReal) + (eps : EReal))
            + a1 (ix2 r j) * Ideal.div ((∑ x, a1 (ix2 r x) * ((∑ i, a0 (ix2 r i) * w x i) * g x))
                * (((-(1 / 2) : ℝ) : EReal) * Ideal.div (Ideal.rsqrt (Ideal.div (∑ x, a1 (ix2 r x) * a1 (ix2 r x)) (N : EReal) + (eps : EReal)))
                    (Ideal.div (∑ x, a1 (ix2 r x) * a1 (ix2 r x)) (N : EReal) + (eps : EReal)))) (N : EReal)
            + Ideal.div ((∑ x, a1 (ix2 r x) * ((∑ i, a0 (ix2 r i) * w x i) * g x))
                * (((-(1 / 2) : ℝ) : EReal) * Ideal.div (Ideal.rsqrt (Ideal.div (∑ x, a1 (ix2 r x) * a1 (ix2 r x)) (N : EReal) + (eps : EReal)))
                    (Ideal.div (∑ x, a1 (ix2 r x) * a1 (ix2 r x)) (N : EReal) + (eps : EReal)))) (N : EReal) * a1 (ix2 r j)) ⟨R - 240, h.2⟩
        else 0 := by
  split
  · rename_i h
    simp only [padRow_high _ h]
    exact rms_bwd hN (fun x => a1 (ix2 ⟨R - 240, h.2⟩ x)) (fun x => ∑ i, a0 (ix2 ⟨R - 240, h.2⟩ i) * w x i) g (fun _ => h1 _)
      (fun _ => .sum fun _ => (h0 _).mul (hw _ _)) hg j
  · rename_i h
    simp [padRow_low _ h]

end Cert.Common

end
-- ==== Proof.Common.Store.lean ====
/- Reading a buffer back from its stores: earlier stores that later ones cover drop out. -/
module

public import Idealize.ShloMosaic.Lib.Pipeline.ValueKit
public import Idealize.ShloMosaic.Lib.Pipeline.ReadBack

@[expose] public section

noncomputable section

namespace Cert.Common

open Idealize.ShloMosaic

/-- Stores that cover the index hide whatever was stored before them. -/
theorem canon_drop {Val : EltTy → Type} {S : Shape} {e : EltTy} [∀ e, Nonempty (Val e)] (L' : List (View.Piece Val S e)) :
    ∀ (L : List (View.Piece Val S e)) (y : S.Idx) (_ : ∃ p ∈ L, y ∈ p.1.set), View.canon (L ++ L') y = View.canon L y
  | [], _, h => by obtain ⟨p, hp, _⟩ := h; simp at hp
  | p :: L, y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_drop L' L y ?_
      obtain ⟨q, hq, hyq⟩ := h
      rcases List.mem_cons.mp hq with rfl | hq'
      · exact absurd hyq hm
      · exact ⟨q, hq', hyq⟩

/-- A buffer filled whole by one copy holds what was copied, -/
theorem canon_copy {S : Shape} {e : EltTy} (w : S.Idx → Elt Ideal e) (L : List (View.Piece (Elt Ideal) S e)) :
    View.canon (⟨Rect.whole S, w⟩ :: L) = w := by
  funext y
  have h := View.canon_cons_emb (Rect.whole S) w L y
  rwa [Rect.emb_whole_apply] at h

/-- and a load from it reads that. -/
theorem readCov_copy {sig : RefSig} {κ : Kind} {sp : Space} {S : Shape} {e : EltTy} (v : View sig κ sp S e) (w : S.Idx → Elt Ideal e)
    (L : List (View.Piece (Elt Ideal) S e)) (r : Rect S) : v.readCov (⟨Rect.whole S, w⟩ :: L) r.toLoadRect = View.ld w r := by
  rw [View.readCov_eq_canon', canon_copy]

end Cert.Common

end
-- ==== Proof.OutProj.Blocks.lean ====
/- The output projection's gradient, kernel side: what the host line hands the region, what each window's block holds at a
   grid point, and what the body leaves in its outputs and in the carried weight gradient, at an index. -/
module

public import proofs.«01_k».proof.Proof.Gen.OutProjIdeal.Frame
public import proofs.«01_k».proof.Proof.Common.Rms
public import proofs.«01_k».proof.Proof.Common.Store
public import Idealize.ShloMosaic.Lib.Pipeline.ValueKit
public import Idealize.ShloMosaic.Lib.Pointwise
public import Idealize.ShloMosaic.Lib.Claim

@[expose] public section

set_option maxRecDepth 16384

noncomputable section

namespace Cert.OutProjIdeal.Tie

open Cert.OutProjIdeal Cert.OutProjIdeal.Gen Cert.Common Idealize.ShloMosaic Idealize.ShloMosaic.TcCoe Idealize.SL.Sem
open Idealize.ShloMosaic.Pipeline (Dat)

variable (m : (ℓ : Loc nD τ sig) → Buf (Elt Ideal) ℓ)

/-- Each window's block index at every grid point. -/
theorem idx : ∀ t : Fin cfg0.N, win0_0.index t = ![t.val, 0]
    ∧ win0_1.index t = ![t.val, 0] ∧ win0_2.index t = ![t.val, 0] ∧ win0_3.index t = ![0, 0] ∧ win0_4.index t = ![0, 0]
    ∧ win0_5.index t = ![0, 0] ∧ win0_6.index t = ![t.val, 0] ∧ win0_7.index t = ![t.val, 0] ∧ win0_8.index t = ![0, 0]
    ∧ win0_9.index t = ![0, 0] ∧ win0_10.index t = ![0, 0] :=
  (by decide +kernel : ∀ t : Fin grid0.N, _)

/-! ## What the host line leaves -/

theorem pad0 (a : FVec Ideal S4112x1024 .f32) (R : Fin 4352) (k : Fin 1024) :
    pad S4352x1024 ![240, 0] ![0, 0] ![0, 0] a (sitofp (F := Ideal) .f32 (constantI S_ 32 0#32)) pads_S4112x1024_S4352x1024_24000_000 h_S_ (ix2 R k)
      = padRow a R.val k := by
  pointwise; simp only [padRow, sitofp_zero]

theorem pad1 (a : FVec Ideal S4112x512 .f32) (R : Fin 4352) (k : Fin 512) :
    pad S4352x512 ![240, 0] ![0, 0] ![0, 0] a (sitofp (F := Ideal) .f32 (constantI S_ 32 0#32)) pads_S4112x512_S4352x512_24000_000 h_S_ (ix2 R k)
      = padRow a R.val k := by
  pointwise; simp only [padRow, sitofp_zero]

theorem V0 (c : Dev nD) : V m c main_v0 = pad S4352x1024 ![240, 0] ![0, 0] ![0, 0] (m (c.tc.loc main_arg0))
    (sitofp (F := Ideal) .f32 (constantI S_ 32 0#32)) pads_S4112x1024_S4352x1024_24000_000 h_S_ := by
  unfold_abbrev_sides
  simp only [List.flatten_cons, List.flatten_nil, List.append_nil, List.cons_append, List.nil_append]
  after_results
  rfl

theorem V1 (c : Dev nD) : V m c main_v1 = pad S4352x512 ![240, 0] ![0, 0] ![0, 0] (m (c.tc.loc main_arg1))
    (sitofp (F := Ideal) .f32 (constantI S_ 32 0#32)) pads_S4112x512_S4352x512_24000_000 h_S_ := by
  unfold_abbrev_sides
  simp only [List.flatten_cons, List.flatten_nil, List.append_nil, List.cons_append, List.nil_append]
  after_results
  rfl

theorem V2 (c : Dev nD) : V m c main_v2 = pad S4352x512 ![240, 0] ![0, 0] ![0, 0] (m (c.tc.loc main_arg2))
    (sitofp (F := Ideal) .f32 (constantI S_ 32 0#32)) pads_S4112x512_S4352x512_24000_000 h_S_ := by
  unfold_abbrev_sides
  simp only [List.flatten_cons, List.flatten_nil, List.append_nil, List.cons_append, List.nil_append]
  after_results
  rfl

theorem V4 (c : Dev nD) (r k : Fin 1024) : V m c main_v4 (ix2 r k) = m (c.tc.loc main_arg5) (ix3 0 r k) := by
  unfold_abbrev_sides
  simp only [List.flatten_cons, List.flatten_nil, List.append_nil, List.cons_append, List.nil_append]
  after_results
  pointwise

/-! ## The blocks -/

/-- Row `r` of tile `t` is row `256 t + r` of the array. -/
abbrev row (t : Fin cfg0.N) (r : Fin 256) : Fin 4352 := ⟨t.val * 256 + r.val, by have := lt_of_lt_of_eq t.isLt N_0; omega⟩

theorem b0 (c : Dev nD) (t : Fin cfg0.N) (r : Fin 256) (k : Fin 1024) :
    iblk m c 0 t (ix2 r k) = padRow (m (c.tc.loc main_arg0)) (row t r).val k := by
  obtain ⟨e0, -⟩ := idx t
  rw [← pad0, ← V0]
  show V m c main_v0 _ = _
  blk_ext [e0]

theorem b1 (c : Dev nD) (t : Fin cfg0.N) (r : Fin 256) (k : Fin 512) :
    iblk m c 1 t (ix2 r k) = padRow (m (c.tc.loc main_arg1)) (row t r).val k := by
  obtain ⟨-, e1, -⟩ := idx t
  rw [← pad1, ← V1]
  show V m c main_v1 _ = _
  blk_ext [e1]

theorem b2 (c : Dev nD) (t : Fin cfg0.N) (r : Fin 256) (k : Fin 512) :
    iblk m c 2 t (ix2 r k) = padRow (m (c.tc.loc main_arg2)) (row t r).val k := by
  obtain ⟨-, -, e2, -⟩ := idx t
  rw [← pad1, ← V2]
  show V m c main_v2 _ = _
  blk_ext [e2]

theorem b3 (c : Dev nD) (t : Fin cfg0.N) : iblk m c 3 t = m (c.tc.loc main_arg3) := by
  obtain ⟨-, -, -, e3, -⟩ := idx t
  rw [← V_main_arg3 m c]
  funext j
  show V m c main_arg3 _ = _
  blk_ext [e3]

theorem b4 (c : Dev nD) (t : Fin cfg0.N) : iblk m c 4 t = m (c.tc.loc main_arg4) := by
  obtain ⟨-, -, -, -, e4, -⟩ := idx t
  rw [← V_main_arg4 m c]
  funext j
  show V m c main_arg4 _ = _
  blk_ext [e4]

theorem b5 (c : Dev nD) (t : Fin cfg0.N) (r k : Fin 1024) : iblk m c 5 t (ix2 r k) = m (c.tc.loc main_arg5) (ix3 0 r k) := by
  obtain ⟨-, -, -, -, -, e5, -⟩ := idx t
  rw [← V4 m c]
  show V m c main_v4 _ = _
  blk_ext [e5]

/-! ## What the body leaves -/

theorem out6 (c : Dev nD) (t : Fin cfg0.N) :
    (outsAt0 m c t.val t.isLt).1 = k0_pay14 (iblk m c 0 t) (iblk m c 5 t) (iblk m c 1 t) (iblk m c 3 t) := by
  by_cases h0 : t.val % 17 = 0
  · rw [outsAt0_A m c t h0 (by omega)]; frame_out
  · by_cases h1 : t.val % 17 = 16
    · rw [outsAt0_C m c t h0 h1]; frame_out
    · rw [outsAt0_B m c t h0 h1]; frame_out

theorem out7 (c : Dev nD) (t : Fin cfg0.N) :
    (outsAt0 m c t.val t.isLt).2.1 = k0_pay1 (k0_pay19 (iblk m c 2 t)) (k0_pay22 (k0_pay9 (iblk m c 0 t) (iblk m c 5 t)) (iblk m c 4 t))
      (k0_pay23 (k0_pay9 (iblk m c 0 t) (iblk m c 5 t)) (iblk m c 2 t) (iblk m c 4 t)) := by
  by_cases h0 : t.val % 17 = 0
  · rw [outsAt0_A m c t h0 (by omega)]; frame_out
  · by_cases h1 : t.val % 17 = 16
    · rw [outsAt0_C m c t h0 h1]; frame_out
    · rw [outsAt0_B m c t h0 h1]; frame_out

/-- The scale gradient a tile adds: the rows' gradients against the normalised rows. -/
def gterm (v3 : Vec Ideal S256x1024 .f32) (w : Fin 512 → Fin 1024 → EReal) (v9 : Vec Ideal S256x512 .f32) (j : Fin 512) : EReal :=
  ∑ x : Fin 256, (∑ k, v3 (ix2 x k) * w j k) * (v9 (ix2 x j)
    * Ideal.rsqrt (Ideal.div (∑ k, v9 (ix2 x k) * v9 (ix2 x k)) (Ideal.ofBits .f32 1140850688#32) + Ideal.ofBits .f32 897988541#32))

/-- The weight gradient a tile adds: the scaled normalised rows against the incoming rows. -/
def wterm (v3 : Vec Ideal S256x1024 .f32) (v9 : Vec Ideal S256x512 .f32) (g : Vec Ideal S1x512 .f32) (i : Fin 512) (j : Fin 1024) : EReal :=
  ∑ x : Fin 256, v9 (ix2 x i)
    * Ideal.rsqrt (Ideal.div (∑ k, v9 (ix2 x k) * v9 (ix2 x k)) (Ideal.ofBits .f32 1140850688#32) + Ideal.ofBits .f32 897988541#32)
    * g (ix2 0 i) * v3 (ix2 x j)

theorem pay16_at (v3 v6 v9 acc) (z : Fin 1) (j : Fin 512) :
    k0_pay16 (F := Ideal) (k0_pay15 v3 v6 v9) acc (ix2 z j) = acc (ix2 z j) + gterm v3 (fun j k => v6 (ix2 ⟨j.val, by omega⟩ k)) v9 j := by
  unfold gterm
  pointwise [k0_pay16, k0_pay15, k0_pay13, k0_pay12, k0_pay11, k0_pay10, k0_pay9, k0_pay8]

theorem pay2_at (v3 v6 v9 acc) (z : Fin 1) (j : Fin 512) :
    k0_pay2 (F := Ideal) (k0_pay20 v9) (k0_pay21 (k0_pay9 v3 v6)) acc (ix2 z j)
      = acc (ix2 z j) + gterm v3 (fun j k => v6 (ix2 ⟨512 + j.val, by omega⟩ k)) v9 j := by
  unfold gterm
  pointwise [k0_pay2, k0_pay20, k0_pay19, k0_pay18, k0_pay21, k0_pay9, k0_pay8]

theorem pay17_at (v3 v9 acc g) (i : Fin 512) (j : Fin 1024) :
    k0_pay17 (F := Ideal) (k0_pay8 v3) (k0_pay12 v9) acc g (ix2 i j) = acc (ix2 i j) + wterm v3 v9 g i j := by
  unfold wterm
  pointwise [k0_pay17, k0_pay12, k0_pay11, k0_pay10, k0_pay8]

theorem pay3_at (v3 v9 acc g) (i : Fin 512) (j : Fin 1024) :
    k0_pay3 (F := Ideal) (k0_pay8 v3) (k0_pay20 v9) acc g (ix2 i j) = acc (ix2 i j) + wterm v3 v9 g i j := by
  unfold wterm
  pointwise [k0_pay3, k0_pay20, k0_pay19, k0_pay18, k0_pay8]

theorem out8_reset (c : Dev nD) (t : Fin cfg0.N) (h0 : t.val % 17 = 0) (y : S1x512.Idx) :
    (outsAt0 m c t.val t.isLt).2.2.1 y
      = (0 : EReal) + gterm (iblk m c 0 t) (fun j k => iblk m c 5 t (ix2 ⟨j.val, by omega⟩ k)) (iblk m c 1 t) (y 1) := by
  rw [outsAt0_A m c t h0 (by omega)]; frame_out
  idx_vars y
  rw [pay16_at]
  pointwise [k0_pay5]

theorem out8_step (c : Dev nD) (t : Fin cfg0.N) (h0 : ¬ t.val % 17 = 0) (y : S1x512.Idx) :
    (outsAt0 m c t.val t.isLt).2.2.1 y
      = (outsAt0 m c (t.val - 1) (Nat.lt_of_le_of_lt (Nat.sub_le _ _) t.isLt)).2.2.1 y
        + gterm (iblk m c 0 t) (fun j k => iblk m c 5 t (ix2 ⟨j.val, by omega⟩ k)) (iblk m c 1 t) (y 1) := by
  by_cases h1 : t.val % 17 = 16
  · rw [outsAt0_C m c t h0 h1]; frame_out; idx_vars y; rw [pay16_at]
  · rw [outsAt0_B m c t h0 h1]; frame_out; idx_vars y; rw [pay16_at]

theorem out9_reset (c : Dev nD) (t : Fin cfg0.N) (h0 : t.val % 17 = 0) (y : S1x512.Idx) :
    (outsAt0 m c t.val t.isLt).2.2.2.1 y
      = (0 : EReal) + gterm (iblk m c 0 t) (fun j k => iblk m c 5 t (ix2 ⟨512 + j.val, by omega⟩ k)) (iblk m c 2 t) (y 1) := by
  rw [outsAt0_A m c t h0 (by omega)]; frame_out
  idx_vars y
  rw [pay2_at]
  pointwise [k0_pay6]

theorem out9_step (c : Dev nD) (t : Fin cfg0.N) (h0 : ¬ t.val % 17 = 0) (y : S1x512.Idx) :
    (outsAt0 m c t.val t.isLt).2.2.2.1 y
      = (outsAt0 m c (t.val - 1) (Nat.lt_of_le_of_lt (Nat.sub_le _ _) t.isLt)).2.2.2.1 y
        + gterm (iblk m c 0 t) (fun j k => iblk m c 5 t (ix2 ⟨512 + j.val, by omega⟩ k)) (iblk m c 2 t) (y 1) := by
  by_cases h1 : t.val % 17 = 16
  · rw [outsAt0_C m c t h0 h1]; frame_out; idx_vars y; rw [pay2_at]
  · rw [outsAt0_B m c t h0 h1]; frame_out; idx_vars y; rw [pay2_at]

/-- What a tile adds to the weight gradient at `(i, j)`: the first 512 rows belong to one half, the others to the other. -/
def dwterm (c : Dev nD) (t : Fin cfg0.N) (i j : Fin 1024) : EReal :=
  if h : i.val < 512 then wterm (iblk m c 0 t) (iblk m c 1 t) (iblk m c 3 t) ⟨i.val, h⟩ j
  else wterm (iblk m c 0 t) (iblk m c 2 t) (iblk m c 4 t) ⟨i.val - 512, by omega⟩ j

theorem dwterm_low (c : Dev nD) (t : Fin cfg0.N) (i j : Fin 1024) (x : Fin 512) (h : i.val = x.val) :
    dwterm m c t i j = wterm (iblk m c 0 t) (iblk m c 1 t) (iblk m c 3 t) x j := by
  have hx := x.isLt
  rw [dwterm, dif_pos (by omega)]
  congr 1
  exact Fin.ext h

theorem dwterm_high (c : Dev nD) (t : Fin cfg0.N) (i j : Fin 1024) (x : Fin 512) (h : i.val = 512 + x.val) :
    dwterm m c t i j = wterm (iblk m c 0 t) (iblk m c 2 t) (iblk m c 4 t) x j := by
  rw [dwterm, dif_neg (by omega)]
  congr 1
  exact Fin.ext (by show i.val - 512 = x.val; omega)

theorem scratch_reset (c : Dev nD) (t : Fin cfg0.N) (h0 : t.val % 17 = 0) (y : S1024x1024.Idx) :
    (outsAt0 m c t.val t.isLt).2.2.2.2.2 y = (0 : EReal) + dwterm m c t (y 0) (y 1) := by
  rw [outsAt0_A m c t h0 (by omega)]
  frame_open
  simp (disch := decide) only [↓ View.readCov_skip, ↓ View.readCov_cons_toLoadRect, ↓ View.readCov_fill]
  frame_out
  refine (canon_drop [_] [_, _] y (View.cover_of_tiledL _ ![512, 1024] (by sl_kernel_rfl) y)).trans ?_
  canon_tiles x h
  · idx_vars x
    idx_vars y
    obtain rfl : y1 = x1 := Fin.ext h1
    rw [pay3_at, dwterm_high m c t _ _ _ h0, View.ld_unit_apply_of _ _ _ _ _ (ix2 y0 y1) (fun a => by fin_cases a <;> simp [h0])]
    pointwise [k0_pay7]
  · idx_vars x
    idx_vars y
    obtain rfl : y1 = x1 := Fin.ext h1
    rw [pay17_at, dwterm_low m c t _ _ _ h0, View.ld_unit_apply_of _ _ _ _ _ (ix2 y0 y1) (fun a => by fin_cases a <;> simp [h0])]
    pointwise [k0_pay7]

theorem scratch_step (c : Dev nD) (t : Fin cfg0.N) (h0 : ¬ t.val % 17 = 0) (y : S1024x1024.Idx) :
    (outsAt0 m c t.val t.isLt).2.2.2.2.2 y
      = (outsAt0 m c (t.val - 1) (Nat.lt_of_le_of_lt (Nat.sub_le _ _) t.isLt)).2.2.2.2.2 y + dwterm m c t (y 0) (y 1) := by
  generalize hp : (outsAt0 m c (t.val - 1) (Nat.lt_of_le_of_lt (Nat.sub_le _ _) t.isLt)).2.2.2.2.2 = prev
  by_cases h1 : t.val % 17 = 16
  · rw [outsAt0_C m c t h0 h1]; frame_out
    rw [hp]
    canon_tiles x h
    · idx_vars x
      idx_vars y
      obtain rfl : y1 = x1 := Fin.ext h1
      rw [pay3_at, dwterm_high m c t _ _ _ h0, read_unread_whole,
        View.ld_unit_apply_of _ _ _ _ _ (ix2 y0 y1) (fun a => by fin_cases a <;> simp [h0])]
    · idx_vars x
      idx_vars y
      obtain rfl : y1 = x1 := Fin.ext h1
      rw [pay17_at, dwterm_low m c t _ _ _ h0, read_unread_whole,
        View.ld_unit_apply_of _ _ _ _ _ (ix2 y0 y1) (fun a => by fin_cases a <;> simp [h0])]
  · rw [outsAt0_B m c t h0 h1]; frame_out
    rw [hp]
    canon_tiles x h
    · idx_vars x
      idx_vars y
      obtain rfl : y1 = x1 := Fin.ext h1
      rw [pay3_at, dwterm_high m c t _ _ _ h0, read_unread_whole,
        View.ld_unit_apply_of _ _ _ _ _ (ix2 y0 y1) (fun a => by fin_cases a <;> simp [h0])]
    · idx_vars x
      idx_vars y
      obtain rfl : y1 = x1 := Fin.ext h1
      rw [pay17_at, dwterm_low m c t _ _ _ h0, read_unread_whole,
        View.ld_unit_apply_of _ _ _ _ _ (ix2 y0 y1) (fun a => by fin_cases a <;> simp [h0])]

/-- The weight gradient written back at the last point is what the scratch holds there. -/
theorem out10 (c : Dev nD) (t : Fin cfg0.N) (h : t.val % 17 = 16) (y : S1024x1024.Idx) :
    (outsAt0 m c t.val t.isLt).2.2.2.2.1 y = (outsAt0 m c t.val t.isLt).2.2.2.2.2 y := by
  rw [outsAt0_C m c t (by omega) h]; frame_out
  idx_vars y
  pointwise [k0_pay4]
  rw [View.readCov_eq_canon']
  exact congrArg _ (funext fun a => Fin.ext (by fin_cases a <;> simp))

end Cert.OutProjIdeal.Tie

end
-- ==== Proof.OutProj.Ref.lean ====
/- The output projection's gradient, reference side: each result of the reference at an index. -/
module

public import proofs.«01_k».proof.Proof.Gen.OutProjRefIdeal.Read
public import proofs.«01_k».proof.Proof.Common.Rms
public import Idealize.ShloMosaic.Lib.Pointwise
public import Idealize.ShloMosaic.Lib.Claim

@[expose] public section

set_option maxRecDepth 16384

noncomputable section

namespace Cert.OutProjRefIdeal.Tie

open Cert.OutProjRefIdeal.Read
open Cert.OutProjRefIdeal Cert.Common Idealize.ShloMosaic Idealize.ShloMosaic.TcCoe Idealize.SL.Sem

variable (a0 : FVec Ideal S4112x1024 .f32) (a1 a2 : FVec Ideal S4112x512 .f32) (a3 a4 : FVec Ideal S1x512 .f32) (a5 : FVec Ideal S1x1024x1024 .f32)

/-- The gradient of the scan half of the rows. -/
theorem v85_at (h0 : ∀ i, IsReal (a0 i)) (h1 : ∀ i, IsReal (a1 i)) (h3 : ∀ i, IsReal (a3 i)) (h5 : ∀ i, IsReal (a5 i)) (R : Fin 4352) (j : Fin 512) :
    Ideal.rsqrt (Ideal.div (∑ x, padRow a1 R.val x * padRow a1 R.val x) (((512 : ℝ)) : EReal) + (eps : EReal))
        * ((∑ i, padRow a0 R.val i * a5 (ix3 0 ⟨j.val, by omega⟩ i)) * a3 (ix2 0 j)
          - padRow a1 R.val j * Ideal.rsqrt (Ideal.div (∑ x, padRow a1 R.val x * padRow a1 R.val x) (((512 : ℝ)) : EReal) + (eps : EReal))
            * Ideal.div (∑ x : Fin 512, (∑ i, padRow a0 R.val i * a5 (ix3 0 ⟨x.val, by omega⟩ i)) * a3 (ix2 0 x)
                * (padRow a1 R.val x * Ideal.rsqrt (Ideal.div (∑ x, padRow a1 R.val x * padRow a1 R.val x) (((512 : ℝ)) : EReal) + (eps : EReal))))
              (((512 : ℝ)) : EReal))
      = val_main_v85 (F := Ideal) a0 a1 a3 a5 (ix2 R j) := by
  pointwise [val_main_c, val_main_c_17, val_main_call0_v0, val_main_call1_v0, val_main_cst, val_main_cst_0, val_main_cst_1,
    val_main_cst_10, val_main_cst_11, val_main_cst_12, val_main_cst_13, val_main_cst_14, val_main_cst_15,
    val_main_cst_16, val_main_cst_2, val_main_cst_3, val_main_cst_4, val_main_cst_5, val_main_cst_6,
    val_main_cst_7, val_main_cst_8, val_main_cst_9, val_main_v0, val_main_v1, val_main_v10, val_main_v11,
    val_main_v12, val_main_v13, val_main_v14, val_main_v15, val_main_v16, val_main_v17, val_main_v18,
    val_main_v19, val_main_v2, val_main_v20, val_main_v21, val_main_v22, val_main_v23, val_main_v24,
    val_main_v25, val_main_v26, val_main_v27, val_main_v28, val_main_v29, val_main_v3, val_main_v30,
    val_main_v31, val_main_v32, val_main_v33, val_main_v34, val_main_v35, val_main_v36, val_main_v37,
    val_main_v38, val_main_v39, val_main_v4, val_main_v40, val_main_v41, val_main_v42, val_main_v43,
    val_main_v44, val_main_v45, val_main_v46, val_main_v47, val_main_v48, val_main_v49, val_main_v5,
    val_main_v50, val_main_v51, val_main_v52, val_main_v53, val_main_v54, val_main_v55, val_main_v56,
    val_main_v57, val_main_v58, val_main_v59, val_main_v6, val_main_v60, val_main_v61, val_main_v62,
    val_main_v63, val_main_v64, val_main_v65, val_main_v66, val_main_v67, val_main_v68, val_main_v69,
    val_main_v7, val_main_v70, val_main_v71, val_main_v72, val_main_v73, val_main_v74, val_main_v75,
    val_main_v76, val_main_v77, val_main_v78, val_main_v79, val_main_v8, val_main_v80, val_main_v81,
    val_main_v82, val_main_v83, val_main_v84, val_main_v85, val_main_v86, val_main_v87, val_main_v88,
    val_main_v9]
  simp only [Finset.univ_unique, Finset.sum_singleton, sitofp_zero, ofBits_512, ofBits_eps, ofBits_neg_half]
  exact rms_row (by norm_num) a0 a1 (fun j i => a5 (ix3 0 ⟨j.val, by omega⟩ i)) (fun j => a3 (ix2 0 j)) h0 h1 (fun _ _ => h5 _) (fun _ => h3 _) R.val j

/-- The gradient of the pooled half of the rows. -/
theorem v86_at (h0 : ∀ i, IsReal (a0 i)) (h1 : ∀ i, IsReal (a2 i)) (h3 : ∀ i, IsReal (a4 i)) (h5 : ∀ i, IsReal (a5 i)) (R : Fin 4352) (j : Fin 512) :
    Ideal.rsqrt (Ideal.div (∑ x, padRow a2 R.val x * padRow a2 R.val x) (((512 : ℝ)) : EReal) + (eps : EReal))
        * ((∑ i, padRow a0 R.val i * a5 (ix3 0 ⟨512 + j.val, by omega⟩ i)) * a4 (ix2 0 j)
          - padRow a2 R.val j * Ideal.rsqrt (Ideal.div (∑ x, padRow a2 R.val x * padRow a2 R.val x) (((512 : ℝ)) : EReal) + (eps : EReal))
            * Ideal.div (∑ x : Fin 512, (∑ i, padRow a0 R.val i * a5 (ix3 0 ⟨512 + x.val, by omega⟩ i)) * a4 (ix2 0 x)
                * (padRow a2 R.val x * Ideal.rsqrt (Ideal.div (∑ x, padRow a2 R.val x * padRow a2 R.val x) (((512 : ℝ)) : EReal) + (eps : EReal))))
              (((512 : ℝ)) : EReal))
      = val_main_v86 (F := Ideal) a0 a2 a4 a5 (ix2 R j) := by
  pointwise [val_main_c, val_main_c_17, val_main_call0_v0, val_main_call1_v0, val_main_cst, val_main_cst_0, val_main_cst_1,
    val_main_cst_10, val_main_cst_11, val_main_cst_12, val_main_cst_13, val_main_cst_14, val_main_cst_15,
    val_main_cst_16, val_main_cst_2, val_main_cst_3, val_main_cst_4, val_main_cst_5, val_main_cst_6,
    val_main_cst_7, val_main_cst_8, val_main_cst_9, val_main_v0, val_main_v1, val_main_v10, val_main_v11,
    val_main_v12, val_main_v13, val_main_v14, val_main_v15, val_main_v16, val_main_v17, val_main_v18,
    val_main_v19, val_main_v2, val_main_v20, val_main_v21, val_main_v22, val_main_v23, val_main_v24,
    val_main_v25, val_main_v26, val_main_v27, val_main_v28, val_main_v29, val_main_v3, val_main_v30,
    val_main_v31, val_main_v32, val_main_v33, val_main_v34, val_main_v35, val_main_v36, val_main_v37,
    val_main_v38, val_main_v39, val_main_v4, val_main_v40, val_main_v41, val_main_v42, val_main_v43,
    val_main_v44, val_main_v45, val_main_v46, val_main_v47, val_main_v48, val_main_v49, val_main_v5,
    val_main_v50, val_main_v51, val_main_v52, val_main_v53, val_main_v54, val_main_v55, val_main_v56,
    val_main_v57, val_main_v58, val_main_v59, val_main_v6, val_main_v60, val_main_v61, val_main_v62,
    val_main_v63, val_main_v64, val_main_v65, val_main_v66, val_main_v67, val_main_v68, val_main_v69,
    val_main_v7, val_main_v70, val_main_v71, val_main_v72, val_main_v73, val_main_v74, val_main_v75,
    val_main_v76, val_main_v77, val_main_v78, val_main_v79, val_main_v8, val_main_v80, val_main_v81,
    val_main_v82, val_main_v83, val_main_v84, val_main_v85, val_main_v86, val_main_v87, val_main_v88,
    val_main_v9]
  simp only [Finset.univ_unique, Finset.sum_singleton, sitofp_zero, ofBits_512, ofBits_eps, ofBits_neg_half]
  exact rms_row (by norm_num) a0 a2 (fun j i => a5 (ix3 0 ⟨512 + j.val, by omega⟩ i)) (fun j => a4 (ix2 0 j)) h0 h1 (fun _ _ => h5 _) (fun _ => h3 _) R.val j

/-- The gradient of the scan half of the scale. -/
theorem v84_at (z : Fin 1) (j : Fin 512) :
    ∑ r : Fin 4112, (∑ k, a0 (ix2 r k) * a5 (ix3 0 ⟨j.val, by omega⟩ k)) * (a1 (ix2 r j)
        * Ideal.rsqrt (Ideal.div (∑ k, a1 (ix2 r k) * a1 (ix2 r k)) (Ideal.ofBits .f32 1140850688#32) + Ideal.ofBits .f32 897988541#32))
      = val_main_v84 (F := Ideal) a0 a1 a5 (ix2 z j) := by
  pointwise [val_main_c, val_main_c_17, val_main_call0_v0, val_main_call1_v0, val_main_cst, val_main_cst_0, val_main_cst_1,
    val_main_cst_10, val_main_cst_11, val_main_cst_12, val_main_cst_13, val_main_cst_14, val_main_cst_15,
    val_main_cst_16, val_main_cst_2, val_main_cst_3, val_main_cst_4, val_main_cst_5, val_main_cst_6,
    val_main_cst_7, val_main_cst_8, val_main_cst_9, val_main_v0, val_main_v1, val_main_v10, val_main_v11,
    val_main_v12, val_main_v13, val_main_v14, val_main_v15, val_main_v16, val_main_v17, val_main_v18,
    val_main_v19, val_main_v2, val_main_v20, val_main_v21, val_main_v22, val_main_v23, val_main_v24,
    val_main_v25, val_main_v26, val_main_v27, val_main_v28, val_main_v29, val_main_v3, val_main_v30,
    val_main_v31, val_main_v32, val_main_v33, val_main_v34, val_main_v35, val_main_v36, val_main_v37,
    val_main_v38, val_main_v39, val_main_v4, val_main_v40, val_main_v41, val_main_v42, val_main_v43,
    val_main_v44, val_main_v45, val_main_v46, val_main_v47, val_main_v48, val_main_v49, val_main_v5,
    val_main_v50, val_main_v51, val_main_v52, val_main_v53, val_main_v54, val_main_v55, val_main_v56,
    val_main_v57, val_main_v58, val_main_v59, val_main_v6, val_main_v60, val_main_v61, val_main_v62,
    val_main_v63, val_main_v64, val_main_v65, val_main_v66, val_main_v67, val_main_v68, val_main_v69,
    val_main_v7, val_main_v70, val_main_v71, val_main_v72, val_main_v73, val_main_v74, val_main_v75,
    val_main_v76, val_main_v77, val_main_v78, val_main_v79, val_main_v8, val_main_v80, val_main_v81,
    val_main_v82, val_main_v83, val_main_v84, val_main_v85, val_main_v86, val_main_v87, val_main_v88,
    val_main_v9]
  simp only [Finset.univ_unique, Finset.sum_singleton]
  exact Finset.sum_congr rfl fun r _ => mul_comm _ _

/-- The gradient of the pooled half of the scale. -/
theorem v63_at (z : Fin 1) (j : Fin 512) :
    ∑ r : Fin 4112, (∑ k, a0 (ix2 r k) * a5 (ix3 0 ⟨512 + j.val, by omega⟩ k)) * (a2 (ix2 r j)
        * Ideal.rsqrt (Ideal.div (∑ k, a2 (ix2 r k) * a2 (ix2 r k)) (Ideal.ofBits .f32 1140850688#32) + Ideal.ofBits .f32 897988541#32))
      = val_main_v63 (F := Ideal) a0 a2 a5 (ix2 z j) := by
  pointwise [val_main_c, val_main_c_17, val_main_call0_v0, val_main_call1_v0, val_main_cst, val_main_cst_0, val_main_cst_1,
    val_main_cst_10, val_main_cst_11, val_main_cst_12, val_main_cst_13, val_main_cst_14, val_main_cst_15,
    val_main_cst_16, val_main_cst_2, val_main_cst_3, val_main_cst_4, val_main_cst_5, val_main_cst_6,
    val_main_cst_7, val_main_cst_8, val_main_cst_9, val_main_v0, val_main_v1, val_main_v10, val_main_v11,
    val_main_v12, val_main_v13, val_main_v14, val_main_v15, val_main_v16, val_main_v17, val_main_v18,
    val_main_v19, val_main_v2, val_main_v20, val_main_v21, val_main_v22, val_main_v23, val_main_v24,
    val_main_v25, val_main_v26, val_main_v27, val_main_v28, val_main_v29, val_main_v3, val_main_v30,
    val_main_v31, val_main_v32, val_main_v33, val_main_v34, val_main_v35, val_main_v36, val_main_v37,
    val_main_v38, val_main_v39, val_main_v4, val_main_v40, val_main_v41, val_main_v42, val_main_v43,
    val_main_v44, val_main_v45, val_main_v46, val_main_v47, val_main_v48, val_main_v49, val_main_v5,
    val_main_v50, val_main_v51, val_main_v52, val_main_v53, val_main_v54, val_main_v55, val_main_v56,
    val_main_v57, val_main_v58, val_main_v59, val_main_v6, val_main_v60, val_main_v61, val_main_v62,
    val_main_v63, val_main_v64, val_main_v65, val_main_v66, val_main_v67, val_main_v68, val_main_v69,
    val_main_v7, val_main_v70, val_main_v71, val_main_v72, val_main_v73, val_main_v74, val_main_v75,
    val_main_v76, val_main_v77, val_main_v78, val_main_v79, val_main_v8, val_main_v80, val_main_v81,
    val_main_v82, val_main_v83, val_main_v84, val_main_v85, val_main_v86, val_main_v87, val_main_v88,
    val_main_v9]
  simp only [Finset.univ_unique, Finset.sum_singleton]
  exact Finset.sum_congr rfl fun r _ => mul_comm _ _

/-- The gradient of the weight. -/
theorem v88_at (i j : Fin 1024) :
    ∑ r : Fin 4112, (if h : i.val < 512 then a1 (ix2 r ⟨i.val, h⟩)
          * Ideal.rsqrt (Ideal.div (∑ k, a1 (ix2 r k) * a1 (ix2 r k)) (Ideal.ofBits .f32 1140850688#32) + Ideal.ofBits .f32 897988541#32) * a3 (ix2 0 ⟨i.val, h⟩)
        else a2 (ix2 r ⟨i.val - 512, by omega⟩)
          * Ideal.rsqrt (Ideal.div (∑ k, a2 (ix2 r k) * a2 (ix2 r k)) (Ideal.ofBits .f32 1140850688#32) + Ideal.ofBits .f32 897988541#32) * a4 (ix2 0 ⟨i.val - 512, by omega⟩))
        * a0 (ix2 r j)
      = val_main_v88 (F := Ideal) a0 a1 a2 a3 a4 (ix2 i j) := by
  pointwise [val_main_c, val_main_c_17, val_main_call0_v0, val_main_call1_v0, val_main_cst, val_main_cst_0, val_main_cst_1,
    val_main_cst_10, val_main_cst_11, val_main_cst_12, val_main_cst_13, val_main_cst_14, val_main_cst_15,
    val_main_cst_16, val_main_cst_2, val_main_cst_3, val_main_cst_4, val_main_cst_5, val_main_cst_6,
    val_main_cst_7, val_main_cst_8, val_main_cst_9, val_main_v0, val_main_v1, val_main_v10, val_main_v11,
    val_main_v12, val_main_v13, val_main_v14, val_main_v15, val_main_v16, val_main_v17, val_main_v18,
    val_main_v19, val_main_v2, val_main_v20, val_main_v21, val_main_v22, val_main_v23, val_main_v24,
    val_main_v25, val_main_v26, val_main_v27, val_main_v28, val_main_v29, val_main_v3, val_main_v30,
    val_main_v31, val_main_v32, val_main_v33, val_main_v34, val_main_v35, val_main_v36, val_main_v37,
    val_main_v38, val_main_v39, val_main_v4, val_main_v40, val_main_v41, val_main_v42, val_main_v43,
    val_main_v44, val_main_v45, val_main_v46, val_main_v47, val_main_v48, val_main_v49, val_main_v5,
    val_main_v50, val_main_v51, val_main_v52, val_main_v53, val_main_v54, val_main_v55, val_main_v56,
    val_main_v57, val_main_v58, val_main_v59, val_main_v6, val_main_v60, val_main_v61, val_main_v62,
    val_main_v63, val_main_v64, val_main_v65, val_main_v66, val_main_v67, val_main_v68, val_main_v69,
    val_main_v7, val_main_v70, val_main_v71, val_main_v72, val_main_v73, val_main_v74, val_main_v75,
    val_main_v76, val_main_v77, val_main_v78, val_main_v79, val_main_v8, val_main_v80, val_main_v81,
    val_main_v82, val_main_v83, val_main_v84, val_main_v85, val_main_v86, val_main_v87, val_main_v88,
    val_main_v9]
  exact Finset.sum_congr rfl fun r _ => mul_comm _ _

/-- The reference's run, its results named by their stages. -/
theorem run_read (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v85) = val_main_v85 (F := Ideal) (m (c.tc.loc main_arg0))
          (m (c.tc.loc main_arg1)) (m (c.tc.loc main_arg3)) (m (c.tc.loc main_arg5))
      ∧ r.2.mem (c.tc.loc main_v86) = val_main_v86 (F := Ideal) (m (c.tc.loc main_arg0))
          (m (c.tc.loc main_arg2)) (m (c.tc.loc main_arg4)) (m (c.tc.loc main_arg5))
      ∧ r.2.mem (c.tc.loc main_v84) = val_main_v84 (F := Ideal) (m (c.tc.loc main_arg0))
          (m (c.tc.loc main_arg1)) (m (c.tc.loc main_arg5))
      ∧ r.2.mem (c.tc.loc main_v63) = val_main_v63 (F := Ideal) (m (c.tc.loc main_arg0))
          (m (c.tc.loc main_arg2)) (m (c.tc.loc main_arg5))
      ∧ r.2.mem (c.tc.loc main_v88) = val_main_v88 (F := Ideal) (m (c.tc.loc main_arg0))
          (m (c.tc.loc main_arg1)) (m (c.tc.loc main_arg2)) (m (c.tc.loc main_arg3))
          (m (c.tc.loc main_arg4))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) :=
  (θ_run _ _ _).mono (fun r h c => ⟨(h c).1.trans (val_main_v85_eq m c), (h c).2.1.trans (val_main_v86_eq m c),
    (h c).2.2.1.trans (val_main_v84_eq _ _ _), (h c).2.2.2.1.trans (val_main_v63_eq _ _ _),
    (h c).2.2.2.2.1.trans (val_main_v88_eq _ _ _ _ _), (h c).2.2.2.2.2⟩) (Value.run m ρ)

end Cert.OutProjRefIdeal.Tie

end
-- ==== Proof.Common.Rows.lean ====
/- A sum over tiles of padded rows, the first 240 of which add nothing. -/
module

public import proofs.«01_k».proof.Proof.Common.Real

@[expose] public section

noncomputable section

namespace Cert.Common

open Idealize.ShloMosaic

theorem sum_tiles (f : ℕ → EReal) (h : ∀ R, R < 240 → f R = 0) :
    ∑ s : Fin 17, ∑ x : Fin 256, f (s.val * 256 + x.val) = ∑ x : Fin 4112, f (x.val + 240) := by
  rw [← sum_rows (fun R => f R.val) (fun R hR => h _ hR)]
  exact (Fin.sum_univ_tiles 17 256 rfl (fun R : Fin 4352 => f R.val)).symm

/-- The same, for the run of 17 tiles the grid makes. -/
theorem sum_run (f : ℕ → EReal) (h : ∀ R, R < 240 → f R = 0) (q : ℕ) (hq : q = 0) :
    ∑ s : Fin 17, ∑ x : Fin 256, f ((17 * q + s.val) * 256 + x.val) = ∑ x : Fin 4112, f (x.val + 240) := by
  subst hq
  simpa using sum_tiles f h

/-- The same sum as two tiles of 2176 rows. -/
theorem sum_two (f : ℕ → EReal) (h : ∀ R, R < 240 → f R = 0) :
    ∑ s : Fin 2, ∑ x : Fin 2176, f (s.val * 2176 + x.val) = ∑ x : Fin 4112, f (x.val + 240) := by
  rw [← sum_rows (fun R => f R.val) (fun R hR => h _ hR)]
  exact (Fin.sum_univ_tiles 2 2176 rfl (fun R : Fin 4352 => f R.val)).symm

/-- A sum over 1024 is the sums over its two halves. -/
theorem sum_halves (f : Fin 1024 → EReal) : ∑ i, f i = ∑ k : Fin 512, f ⟨k.val, by omega⟩ + ∑ k : Fin 512, f ⟨512 + k.val, by omega⟩ :=
  Fin.sum_univ_add (a := 512) (b := 512) f

end Cert.Common

end
-- ==== Proof.Common.Congr.lean ====
/- Equal arguments, equal values: functions of several arrays. -/
module

public import Idealize.ShloMosaic.Lib.Claim

@[expose] public section

namespace Cert.Common

universe u

variable {α β γ δ ε ζ η θ : Type u}

theorem congr3 (f : α → β → γ → ζ) {a a' b b' c c'} (ha : a = a') (hb : b = b') (hc : c = c') : f a b c = f a' b' c' := by
  subst ha hb hc; rfl

theorem congr4 (f : α → β → γ → δ → ζ) {a a' b b' c c' d d'} (ha : a = a') (hb : b = b') (hc : c = c') (hd : d = d') :
    f a b c d = f a' b' c' d' := by
  subst ha hb hc hd; rfl

theorem congr5 (f : α → β → γ → δ → ε → ζ) {a a' b b' c c' d d' e e'} (ha : a = a') (hb : b = b') (hc : c = c') (hd : d = d') (he : e = e') :
    f a b c d e = f a' b' c' d' e' := by
  subst ha hb hc hd he; rfl

theorem congr6 (f : α → β → γ → δ → ε → η → ζ) {a a' b b' c c' d d' e e' g g'} (ha : a = a') (hb : b = b') (hc : c = c') (hd : d = d')
    (he : e = e') (hg : g = g') : f a b c d e g = f a' b' c' d' e' g' := by
  subst ha hb hc hd he hg; rfl

theorem congr7 (f : α → β → γ → δ → ε → η → θ → ζ) {a a' b b' c c' d d' e e' g g' i i'} (ha : a = a') (hb : b = b') (hc : c = c') (hd : d = d')
    (he : e = e') (hg : g = g') (hi : i = i') : f a b c d e g i = f a' b' c' d' e' g' i' := by
  subst ha hb hc hd he hg hi; rfl

end Cert.Common
-- ==== Proof.OutProj.Value.lean ====
/- The output projection's gradient: the kernel's five arrays are the reference's. -/
module

public import proofs.«01_k».proof.Defs
public import proofs.«01_k».proof.Proof.OutProj.Blocks
public import proofs.«01_k».proof.Proof.OutProj.Ref
public import proofs.«01_k».proof.Proof.Common.Rows
public import proofs.«01_k».proof.Proof.Common.Congr
public import proofs.«01_k».proof.Proof.Gen.Pre_out_proj_finite
public import Idealize.ShloMosaic.Lib.Pipeline.ValueKit
public import Idealize.ShloMosaic.Lib.Pointwise
public import Idealize.ShloMosaic.Lib.Claim

@[expose] public section

set_option maxRecDepth 16384

noncomputable section

namespace Cert.OutProjIdeal.Tie

open Cert.OutProjRefIdeal.Read
open Cert.OutProjIdeal Cert.OutProjIdeal.Gen Cert.Common Idealize.ShloMosaic Idealize.ShloMosaic.TcCoe Idealize.SL.Sem
open Idealize.ShloMosaic.Pipeline (Dat)

/-- The precondition, read off: all six arguments are finite. -/
theorem finite_args (a0 : FVec Ideal S4112x1024 .f32) (a1 a2 : FVec Ideal S4112x512 .f32) (a3 a4 : FVec Ideal S1x512 .f32) (a5 : FVec Ideal S1x1024x1024 .f32)
    (h : Cert.Pre_out_proj_finite.fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) := by
  haveI : Subsingleton Cert.Pre_out_proj_finite.S_.Idx := ⟨fun i j => funext fun a => a.elim0⟩
  dsimp only [Cert.Pre_out_proj_finite.fn, Cert.Pre_out_proj_finite.fn_part1] at h
  have e := congrFun h (fun a => a.elim0)
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨e, h1⟩ := IntOp.andi_eq_one.1 e
  obtain ⟨-, h0⟩ := IntOp.andi_eq_one.1 e
  exact ⟨finite_of_all _ _ (fun _ => ofBits_inf) _ _ _ _ h0, finite_of_all _ _ (fun _ => ofBits_inf) _ _ _ _ h1,
    finite_of_all _ _ (fun _ => ofBits_inf) _ _ _ _ h2, finite_of_all _ _ (fun _ => ofBits_inf) _ _ _ _ h3,
    finite_of_all _ _ (fun _ => ofBits_inf) _ _ _ _ h4, finite_of_all _ _ (fun _ => ofBits_inf) _ _ _ _ h5⟩

variable (m : (ℓ : Loc nD τ sig) → Buf (Elt Ideal) ℓ)

theorem final_6 (c : Dev nD) (hp : Cert.Pre_OutProjIdeal_out_proj_finite m) :
    (dats m 0 c).arrAt 6 (cfgs 0).N = val_main_v85 (F := Ideal) (m ((c : Thread nD τ).loc main_arg0)) (m ((c : Thread nD τ).loc main_arg1)) (m ((c : Thread nD τ).loc main_arg3)) (m ((c : Thread nD τ).loc main_arg5)) := by
  obtain ⟨h0, h1, h2, h3, h4, h5⟩ := finite_args _ _ _ _ _ _ (hp c)
  refine (dats m 0 c).arrAt_eq_of_covers 6 _ (by decide +kernel) fun t hf y => ?_
  obtain ⟨-, -, -, -, -, -, e, -⟩ := idx t
  blk_simp; rw [after0_6, out6]
  idx_vars y
  have hg := b3 m c t
  pointwise [k0_pay14, k0_pay13, k0_pay12, k0_pay11, k0_pay10, k0_pay9, k0_pay8]
  simp only [b0, b1, b5, hg, ofBits_512, ofBits_eps]
  refine (Cert.OutProjRefIdeal.Tie.v85_at (m ((c : Thread nD τ).loc main_arg0)) (m ((c : Thread nD τ).loc main_arg1)) (m ((c : Thread nD τ).loc main_arg3)) (m ((c : Thread nD τ).loc main_arg5)) h0 h1 h3 h5 (row t y0) y1).trans (congrArg _ ?_)
  funext a; apply Fin.ext; fin_cases a <;> simp [win0_6, e]

theorem final_7 (c : Dev nD) (hp : Cert.Pre_OutProjIdeal_out_proj_finite m) :
    (dats m 0 c).arrAt 7 (cfgs 0).N = val_main_v86 (F := Ideal) (m ((c : Thread nD τ).loc main_arg0)) (m ((c : Thread nD τ).loc main_arg2)) (m ((c : Thread nD τ).loc main_arg4)) (m ((c : Thread nD τ).loc main_arg5)) := by
  obtain ⟨h0, h1, h2, h3, h4, h5⟩ := finite_args _ _ _ _ _ _ (hp c)
  refine (dats m 0 c).arrAt_eq_of_covers 7 _ (by decide +kernel) fun t hf y => ?_
  obtain ⟨-, -, -, -, -, -, -, e, -⟩ := idx t
  blk_simp; rw [after0_7, out7]
  idx_vars y
  have hg := b4 m c t
  pointwise [k0_pay1, k0_pay23, k0_pay22, k0_pay21, k0_pay20, k0_pay19, k0_pay18, k0_pay9, k0_pay8]
  simp only [b0, b2, b5, hg, ofBits_512, ofBits_eps]
  refine (Cert.OutProjRefIdeal.Tie.v86_at (m ((c : Thread nD τ).loc main_arg0)) (m ((c : Thread nD τ).loc main_arg2)) (m ((c : Thread nD τ).loc main_arg4)) (m ((c : Thread nD τ).loc main_arg5)) h0 h2 h4 h5 (row t y0) y1).trans (congrArg _ ?_)
  funext a; apply Fin.ext; fin_cases a <;> simp [win0_7, e]

/-- What row `R` of the padded arrays adds to a scale gradient at `j`. -/
def gRow (a0 : FVec Ideal S4112x1024 .f32) (a1 : FVec Ideal S4112x512 .f32) (w : Fin 512 → Fin 1024 → EReal) (j : Fin 512) (R : ℕ) : EReal :=
  (∑ k, padRow a0 R k * w j k) * (padRow a1 R j * Ideal.rsqrt (Ideal.div (∑ k, padRow a1 R k * padRow a1 R k)
          (Ideal.ofBits .f32 1140850688#32) + Ideal.ofBits .f32 897988541#32))

theorem gterm_rows_8 (c : Dev nD) (t : Fin cfg0.N) (j : Fin 512) :
    gterm (iblk m c 0 t) (fun j k => iblk m c 5 t (ix2 ⟨j.val, by omega⟩ k)) (iblk m c 1 t) j
      = ∑ x : Fin 256, gRow (m ((c : Thread nD τ).loc main_arg0)) (m ((c : Thread nD τ).loc main_arg1)) (fun j k => (m ((c : Thread nD τ).loc main_arg5)) (ix3 0 ⟨j.val, by omega⟩ k)) j (t.val * 256 + x.val) := by
  simp only [gterm, gRow, b0, b1, b5]

theorem final_8 (c : Dev nD) :
    (dats m 0 c).arrAt 8 (cfgs 0).N = val_main_v84 (F := Ideal) (m ((c : Thread nD τ).loc main_arg0)) (m ((c : Thread nD τ).loc main_arg1)) (m ((c : Thread nD τ).loc main_arg5)) := by
  refine (dats m 0 c).arrAt_eq_of_covers 8 _ (by decide +kernel) fun t hf y => ?_
  obtain ⟨-, -, -, -, -, -, -, -, e, -⟩ := idx t
  have hr := (flush0_8 t).mp hf
  have hq : t.val / 17 = 0 := by have := lt_of_lt_of_eq t.isLt N_0; omega
  blk_simp; rw [after0_8]
  idx_vars y
  refine (Pipeline.eq_sum_fin_of_reset_step_apply_of_flush (fun n h => (outsAt0 m c n h).2.2.1) 17 (fun _ => 0)
    (fun t y => gterm (iblk m c 0 t) (fun j k => iblk m c 5 t (ix2 ⟨j.val, by omega⟩ k)) (iblk m c 1 t) (y 1))
    (out8_reset m c) (out8_step m c) t hr (ix2 y0 y1)).trans ?_
  rw [zero_add]
  refine (Finset.sum_congr rfl fun s _ => gterm_rows_8 m c _ y1).trans ?_
  refine (sum_run (gRow (m ((c : Thread nD τ).loc main_arg0)) (m ((c : Thread nD τ).loc main_arg1)) (fun j k => (m ((c : Thread nD τ).loc main_arg5)) (ix3 0 ⟨j.val, by omega⟩ k)) y1) (fun R hR => ?_) _ hq).trans ?_
  · simp [gRow, padRow_low _ (show ¬ (240 ≤ R ∧ R - 240 < 4112) by omega)]
  simp only [gRow, padRow_add]
  refine (Cert.OutProjRefIdeal.Tie.v84_at (m ((c : Thread nD τ).loc main_arg0)) (m ((c : Thread nD τ).loc main_arg1)) (m ((c : Thread nD τ).loc main_arg5)) y0 y1).trans (congrArg _ ?_)
  funext a; apply Fin.ext; fin_cases a <;> simp [win0_8, e]

theorem gterm_rows_9 (c : Dev nD) (t : Fin cfg0.N) (j : Fin 512) :
    gterm (iblk m c 0 t) (fun j k => iblk m c 5 t (ix2 ⟨512 + j.val, by omega⟩ k)) (iblk m c 2 t) j
      = ∑ x : Fin 256, gRow (m ((c : Thread nD τ).loc main_arg0)) (m ((c : Thread nD τ).loc main_arg2)) (fun j k => (m ((c : Thread nD τ).loc main_arg5)) (ix3 0 ⟨512 + j.val, by omega⟩ k)) j (t.val * 256 + x.val) := by
  simp only [gterm, gRow, b0, b2, b5]

theorem final_9 (c : Dev nD) :
    (dats m 0 c).arrAt 9 (cfgs 0).N = val_main_v63 (F := Ideal) (m ((c : Thread nD τ).loc main_arg0)) (m ((c : Thread nD τ).loc main_arg2)) (m ((c : Thread nD τ).loc main_arg5)) := by
  refine (dats m 0 c).arrAt_eq_of_covers 9 _ (by decide +kernel) fun t hf y => ?_
  obtain ⟨-, -, -, -, -, -, -, -, -, e, -⟩ := idx t
  have hr := (flush0_9 t).mp hf
  have hq : t.val / 17 = 0 := by have := lt_of_lt_of_eq t.isLt N_0; omega
  blk_simp; rw [after0_9]
  idx_vars y
  refine (Pipeline.eq_sum_fin_of_reset_step_apply_of_flush (fun n h => (outsAt0 m c n h).2.2.2.1) 17 (fun _ => 0)
    (fun t y => gterm (iblk m c 0 t) (fun j k => iblk m c 5 t (ix2 ⟨512 + j.val, by omega⟩ k)) (iblk m c 2 t) (y 1))
    (out9_reset m c) (out9_step m c) t hr (ix2 y0 y1)).trans ?_
  rw [zero_add]
  refine (Finset.sum_congr rfl fun s _ => gterm_rows_9 m c _ y1).trans ?_
  refine (sum_run (gRow (m ((c : Thread nD τ).loc main_arg0)) (m ((c : Thread nD τ).loc main_arg2)) (fun j k => (m ((c : Thread nD τ).loc main_arg5)) (ix3 0 ⟨512 + j.val, by omega⟩ k)) y1) (fun R hR => ?_) _ hq).trans ?_
  · simp [gRow, padRow_low _ (show ¬ (240 ≤ R ∧ R - 240 < 4112) by omega)]
  simp only [gRow, padRow_add]
  refine (Cert.OutProjRefIdeal.Tie.v63_at (m ((c : Thread nD τ).loc main_arg0)) (m ((c : Thread nD τ).loc main_arg2)) (m ((c : Thread nD τ).loc main_arg5)) y0 y1).trans (congrArg _ ?_)
  funext a; apply Fin.ext; fin_cases a <;> simp [win0_9, e]

/-- What row `R` of the padded arrays adds to the weight gradient at `(i, j)`. -/
def dwRow (a0 : FVec Ideal S4112x1024 .f32) (a1 a2 : FVec Ideal S4112x512 .f32) (a3 a4 : FVec Ideal S1x512 .f32) (i j : Fin 1024) (R : ℕ) : EReal :=
  (if h : i.val < 512 then
      padRow a1 R ⟨i.val, h⟩ * Ideal.rsqrt (Ideal.div (∑ k, padRow a1 R k * padRow a1 R k)
          (Ideal.ofBits .f32 1140850688#32) + Ideal.ofBits .f32 897988541#32) * a3 (ix2 0 ⟨i.val, h⟩)
    else padRow a2 R ⟨i.val - 512, by omega⟩ * Ideal.rsqrt (Ideal.div (∑ k, padRow a2 R k * padRow a2 R k)
          (Ideal.ofBits .f32 1140850688#32) + Ideal.ofBits .f32 897988541#32) * a4 (ix2 0 ⟨i.val - 512, by omega⟩))
    * padRow a0 R j

theorem dwterm_rows (c : Dev nD) (t : Fin cfg0.N) (i j : Fin 1024) :
    dwterm m c t i j = ∑ x : Fin 256, dwRow (m ((c : Thread nD τ).loc main_arg0)) (m ((c : Thread nD τ).loc main_arg1)) (m ((c : Thread nD τ).loc main_arg2)) (m ((c : Thread nD τ).loc main_arg3)) (m ((c : Thread nD τ).loc main_arg4)) i j (t.val * 256 + x.val) := by
  unfold dwterm dwRow
  split
  · simp only [wterm, b0, b1, b3]
  · simp only [wterm, b0, b2, b4]

theorem final_10 (c : Dev nD) :
    (dats m 0 c).arrAt 10 (cfgs 0).N = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  obtain ⟨-, -, -, -, -, -, -, -, -, -, e⟩ := idx t
  have hr := (flush0_10 t).mp hf
  have hq : t.val / 17 = 0 := by have := lt_of_lt_of_eq t.isLt N_0; omega
  blk_simp; rw [after0_10]
  idx_vars y
  refine (out10 m c t hr _).trans ?_
  refine (Pipeline.eq_sum_fin_of_reset_step_apply_of_flush (fun n h => (outsAt0 m c n h).2.2.2.2.2) 17 (fun _ => 0)
    (fun t y => dwterm m c t (y 0) (y 1)) (scratch_reset m c) (scratch_step m c) t hr (ix2 y0 y1)).trans ?_
  rw [zero_add]
  refine (Finset.sum_congr rfl fun s _ => dwterm_rows m c _ y0 y1).trans ?_
  refine (sum_run (dwRow (m ((c : Thread nD τ).loc main_arg0)) (m ((c : Thread nD τ).loc main_arg1)) (m ((c : Thread nD τ).loc main_arg2)) (m ((c : Thread nD τ).loc main_arg3)) (m ((c : Thread nD τ).loc main_arg4)) y0 y1) (fun R hR => ?_) _ hq).trans ?_
  · simp [dwRow, padRow_low _ (show ¬ (240 ≤ R ∧ R - 240 < 4112) by omega)]
  simp only [dwRow, padRow_add]
  refine (Cert.OutProjRefIdeal.Tie.v88_at (m ((c : Thread nD τ).loc main_arg0)) (m ((c : Thread nD τ).loc main_arg1)) (m ((c : Thread nD τ).loc main_arg2)) (m ((c : Thread nD τ).loc main_arg3)) (m ((c : Thread nD τ).loc main_arg4)) y0 y1).trans (congrArg _ ?_)
  funext a; apply Fin.ext; fin_cases a <;> simp [win0_10, e]

set_option maxHeartbeats 2000000 in
/-- The kernel's five arrays and the reference's five agree on the same finite arguments. -/
theorem algebraic : Cert.algebraic_OutProjIdeal_OutProjRefIdeal_pre_out_proj_finite := by
  pair_intro
  · run_from Cert.OutProjIdeal.Gen.run_main m g
    · exact V_main_arg0 m c
    · exact V_main_arg1 m c
    · exact V_main_arg2 m c
    · exact V_main_arg5 m c
  · refine (θ_run _ _ _).mono (fun r h c => ?_) (Cert.OutProjRefIdeal.Tie.run_read m' g')
    obtain ⟨a0, a1, a2, a3, a4, a5⟩ := hagree c
    obtain ⟨e0, e1, e2, e3, e4, e⟩ := h c
    have q0 := congr4 (val_main_v85 (F := Ideal)) a0 a1 a3 a5
    have q1 := congr4 (val_main_v86 (F := Ideal)) a0 a2 a4 a5
    have q2 := congr3 (val_main_v84 (F := Ideal)) a0 a1 a5
    have q3 := congr3 (val_main_v63 (F := Ideal)) a0 a2 a5
    have q4 := congr5 (val_main_v88 (F := Ideal)) a0 a1 a2 a3 a4
    have w0 := (e0.trans q0).trans (final_6 m c hpre).symm
    have w1 := (e1.trans q1).trans (final_7 m c hpre).symm
    have w2 := (e2.trans q2).trans (final_8 m c).symm
    have w3 := (e3.trans q3).trans (final_9 m c).symm
    have w4 := (e4.trans q4).trans (final_10 m c).symm
    exact ⟨w0, w1, w2, w3, w4, e⟩

end Cert.OutProjIdeal.Tie

end
-- ==== Proof.InProj.RunIdeal.lean ====
/- The input projection's gradient: the kernel body run at the three kinds of grid point. -/
module

public import proofs.«01_k».proof.Proof.Gen.InProjIdeal.Frame
public import proofs.«01_k».proof.Proof.Gen.InProjIdeal.Skeleton

@[expose] public section

set_option maxRecDepth 16384

noncomputable section

namespace Cert.InProjIdeal.Hand

open Cert.InProjIdeal Cert.InProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The conditions the body branches on: the first point (twice, as the body asks twice) and the last. -/
abbrev first (i : grid0.Coords) : Prop := (Scalar.cmpi .ne (Scalar.extui (Scalar.cmpi .eq (BitVec.ofNat 32 (i 0).val) 0#32)) 0#32) = 1#1
abbrev firstRow (i : grid0.Coords) : Prop := k0_cond2 i = 1#1
abbrev last (i : grid0.Coords) : Prop := k0_cond3 i = 1#1

set_option maxHeartbeats 2000000 in
/-- The body at the first point, which resets the scale gradient and the weight gradient: the pieces it stores into each buffer, and the run that stores them. -/
def runA (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x1024 .f32) (harg12 : arg12.IsWhole)
    (hc1 : first i) (hc2 : firstRow i) (hc3 : ¬last i)
    (x0 : Vec F S256x1024 .f32) (x1 : Vec F S256x1024 .f32) (x2 : Vec F S256x512 .f32) (x3 : Vec F S256x512 .f32) (x4 : Vec F S256x1024 .f32) (x5 : Vec F S1x1024 .f32) (x6 : Vec F S1024x1024 .bf16)  :
    Σ' (L7 : List (View.Piece (Elt F) S256x1024 .f32)), Σ' (L8 : List (View.Piece (Elt F) S256x1024 .f32)), Σ' (L9 : List (View.Piece (Elt F) S1x1024 .f32)), { L11 : List (View.Piece (Elt F) S1024x1024 .f32) //
      ∀ (z10 : Vec F S1024x1024 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare z10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare z10 ∗ (∃ f, arg12.view.loc (c : Thread nD τ) ↦[arg12.view.set]{fullShare} arg12.view.writes (Elt F) f L11)) -∗ K ⟨⟩))
          ⊢ wp frame (wpE (defs₀ (F := F)) Variants.none c none) E (cc0_in_proj_backward i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun z10 E K => ?run⟩
  case run =>
    simp only [cc0_in_proj_backward_eq_skeleton]
    unfold cc0_in_proj_backward_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%d11, %f11, -, H11⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg11.eq_unread hf10
    sl_exec (disch := first | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [H8]
    · iexists _; iexact H8
    isplitl [H9]
    · iexists _; iexact H9
    isplitl [H10]
    · iexists _; isplitr; · ipureintro; exact harg11.read_unread _
      iexact H10
    iexists _; iexact H11

set_option maxHeartbeats 2000000 in
/-- The body at the points between: the pieces it stores into each buffer, and the run that stores them. -/
def runB (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x1024 .f32) (harg12 : arg12.IsWhole)
    (hc1 : ¬first i) (hc2 : ¬firstRow i) (hc3 : ¬last i)
    (x0 : Vec F S256x1024 .f32) (x1 : Vec F S256x1024 .f32) (x2 : Vec F S256x512 .f32) (x3 : Vec F S256x512 .f32) (x4 : Vec F S256x1024 .f32) (x5 : Vec F S1x1024 .f32) (x6 : Vec F S1024x1024 .bf16) (y9 : Vec F S1x1024 .f32) (y11 : Vec F S1024x1024 .f32) :
    Σ' (L7 : List (View.Piece (Elt F) S256x1024 .f32)), Σ' (L9 : List (View.Piece (Elt F) S1x1024 .f32)), { L11 : List (View.Piece (Elt F) S1024x1024 .f32) //
      ∀ (z8 : Vec F S256x1024 .f32) (z10 : Vec F S1024x1024 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare z8 ∗ owns (c : Thread nD τ) arg10 fullShare y9 ∗ owns (c : Thread nD τ) arg11 fullShare z10 ∗ owns (c : Thread nD τ) arg12 fullShare y11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare z8 ∗ (∃ f, arg10.view.loc (c : Thread nD τ) ↦[arg10.view.set]{fullShare} arg10.view.writes (Elt F) f L9) ∗ owns (c : Thread nD τ) arg11 fullShare z10 ∗ (∃ f, arg12.view.loc (c : Thread nD τ) ↦[arg12.view.set]{fullShare} arg12.view.writes (Elt F) f L11)) -∗ K ⟨⟩))
          ⊢ wp frame (wpE (defs₀ (F := F)) Variants.none c none) E (cc0_in_proj_backward i arg1 harg1 arg2 harg2 arg3 harg3 arg4 harg4 arg5 harg5 arg6 harg6 arg7 harg7 arg8 harg8 arg9 harg9 arg10 harg10 arg11 harg11 arg12 harg12) K } := by
  refine ⟨?_, ?_, ?_, fun z8 z10 E K => ?run⟩
  case run =>
    simp only [cc0_in_proj_backward_eq_skeleton]
    unfold cc0_in_proj_backward_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg9.eq_unread hf8
    obtain rfl := harg10.eq_unread hf9
    obtain rfl := harg11.eq_unread hf10
    obtain rfl := harg12.eq_unread hf11
    sl_exec (disch := first | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [H8]
    · iexists _; isplitr; · ipureintro; exact harg9.read_unread _
      iexact H8
    isplitl [H9]
    · iexists _; iexact H9
    isplitl [H10]
    · iexists _; isplitr; · ipureintro; exact harg11.read_unread _
      iexact H10
    iexists _; iexact H11

set_option maxHeartbeats 2000000 in
/-- The body at the last point, which writes the weight gradient back: the pieces it stores into each buffer, and the run that stores them. -/
def runC (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x1024 .f32) (harg12 : arg12.IsWhole)
    (hc1 : ¬first i) (hc2 : ¬firstRow i) (hc3 : last i)
    (x0 : Vec F S256x1024 .f32) (x1 : Vec F S256x1024 .f32) (x2 : Vec F S256x512 .f32) (x3 : Vec F S256x512 .f32) (x4 : Vec F S256x1024 .f32) (x5 : Vec F S1x1024 .f32) (x6 : Vec F S1024x1024 .bf16) (y9 : Vec F S1x1024 .f32) (y11 : Vec F S1024x1024 .f32) :
    Σ' (L7 : List (View.Piece (Elt F) S256x1024 .f32)), Σ' (L9 : List (View.Piece (Elt F) S1x1024 .f32)), Σ' (L10 : List (View.Piece (Elt F) S1024x1024 .bf16)), { L11 : List (View.Piece (Elt F) S1024x1024 .f32) //
      ∀ (z8 : Vec F S256x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare z8 ∗ owns (c : Thread nD τ) arg10 fullShare y9 ∗ (∃ d, owns (c : Thread nD τ) arg11 fullShare d) ∗ owns (c : Thread nD τ) arg12 fullShare y11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare z8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11)) -∗ K ⟨⟩))
          ⊢ wp frame (wpE (defs₀ (F := F)) Variants.none c none) E (cc0_in_proj_backward i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun z8 E K => ?run⟩
  case run =>
    simp only [cc0_in_proj_backward_eq_skeleton]
    unfold cc0_in_proj_backward_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, ⟨%f11, %hf11, H11⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg9.eq_unread hf8
    obtain rfl := harg10.eq_unread hf9
    obtain rfl := harg12.eq_unread hf11
    sl_exec (disch := first | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [H8]
    · iexists _; isplitr; · ipureintro; exact harg9.read_unread _
      iexact H8
    isplitl [H9]
    · iexists _; iexact H9
    isplitl [H10]
    · iexists _; iexact H10
    iexists _; iexact H11

end Cert.InProjIdeal.Hand

end
-- ==== Proof.InProj.FrameIdeal.lean ====
/- The input projection's gradient: what the region leaves point by point, and the frame. The rows of the head are stored at the
   first point and written back at the last, so their buffer is carried through the points between. -/
module

public import proofs.«01_k».proof.Proof.InProj.RunIdeal
public import Idealize.ShloMosaic.Lib.Claim

@[expose] public section

set_option maxRecDepth 16384

noncomputable section

namespace Cert.InProjIdeal.Hand

open Cert.InProjIdeal Cert.InProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem first_iff : ∀ t : Fin cfg0.N, first (grid0.coords t) ↔ t.val = 0 := by decide +kernel
theorem firstRow_iff : ∀ t : Fin cfg0.N, firstRow (grid0.coords t) ↔ t.val = 0 := by decide +kernel
theorem last_iff : ∀ t : Fin cfg0.N, last (grid0.coords t) ↔ t.val = 16 := by decide +kernel

/-! ## The buffers the body is given at a point -/

theorem wh0 (t : Fin cfg0.N) : (st0_0 t).IsWhole := hstage0_0 ((cfg0.slots t 0).cast nbuf0_0)
theorem wh1 (t : Fin cfg0.N) : (st0_1 t).IsWhole := hstage0_1 ((cfg0.slots t 1).cast nbuf0_1)
theorem wh2 (t : Fin cfg0.N) : (st0_2 t).IsWhole := hstage0_2 ((cfg0.slots t 2).cast nbuf0_2)
theorem wh3 (t : Fin cfg0.N) : (st0_3 t).IsWhole := hstage0_3 ((cfg0.slots t 3).cast nbuf0_3)
theorem wh4 (t : Fin cfg0.N) : (st0_4 t).IsWhole := hstage0_4 ((cfg0.slots t 4).cast nbuf0_4)
theorem wh5 (t : Fin cfg0.N) : (st0_5 t).IsWhole := hstage0_5 ((cfg0.slots t 5).cast nbuf0_5)
theorem wh6 (t : Fin cfg0.N) : (st0_6 t).IsWhole := hstage0_6 ((cfg0.slots t 6).cast nbuf0_6)
theorem wh7 (t : Fin cfg0.N) : (st0_7 t).IsWhole := hstage0_7 ((cfg0.slots t 7).cast nbuf0_7)
theorem wh8 (t : Fin cfg0.N) : (st0_8 t).IsWhole := hstage0_8 ((cfg0.slots t 8).cast nbuf0_8)
theorem wh9 (t : Fin cfg0.N) : (st0_9 t).IsWhole := hstage0_9 ((cfg0.slots t 9).cast nbuf0_9)
theorem wh10 (t : Fin cfg0.N) : (st0_10 t).IsWhole := hstage0_10 ((cfg0.slots t 10).cast nbuf0_10)

/-- The scratch that carries the weight gradient. -/
abbrev scr : Memref sig .tc .vmem S1024x1024 .f32 := Memref.whole cc0_scratch0
theorem scr_whole : scr.IsWhole := Memref.isWhole_whole _

abbrev V7 : View sig .tc .vmem S256x1024 .f32 := (Memref.whole cc0_stg7_0 : Memref sig .tc .vmem S256x1024 .f32).view
abbrev V8 : View sig .tc .vmem S256x1024 .f32 := (Memref.whole cc0_stg8_0 : Memref sig .tc .vmem S256x1024 .f32).view
abbrev V9 : View sig .tc .vmem S1x1024 .f32 := (Memref.whole cc0_stg9_0 : Memref sig .tc .vmem S1x1024 .f32).view
abbrev V10 : View sig .tc .vmem S1024x1024 .bf16 := (Memref.whole cc0_stg10_0 : Memref sig .tc .vmem S1024x1024 .bf16).view
abbrev V11 : View sig .tc .vmem S1024x1024 .f32 := scr.view

/-! ## What the body leaves -/

/-- The run at the first point. -/
abbrev atA (c : Dev nD) (t : Fin cfg0.N) (h : t.val = 0) :=
  runA c (grid0.coords t) (st0_0 t) (wh0 t) (st0_1 t) (wh1 t) (st0_2 t) (wh2 t) (st0_3 t) (wh3 t) (st0_4 t) (wh4 t) (st0_5 t) (wh5 t) (st0_6 t) (wh6 t) (st0_7 t) (wh7 t) (st0_8 t) (wh8 t) (st0_9 t) (wh9 t) (st0_10 t) (wh10 t) scr scr_whole ((first_iff t).mpr h) ((firstRow_iff t).mpr h) (fun e => by have := (last_iff t).mp e; omega)
    (iblk m c 0 t) (iblk m c 1 t) (iblk m c 2 t) (iblk m c 3 t) (iblk m c 4 t) (iblk m c 5 t) (iblk m c 6 t)

/-- The run at a point between, over the scale gradient and the weight gradient so far. -/
abbrev atB (c : Dev nD) (t : Fin cfg0.N) (h : t.val ≠ 0) (h' : t.val ≠ 16) (y9 : Vec F S1x1024 .f32) (y11 : Vec F S1024x1024 .f32) :=
  runB c (grid0.coords t) (st0_0 t) (wh0 t) (st0_1 t) (wh1 t) (st0_2 t) (wh2 t) (st0_3 t) (wh3 t) (st0_4 t) (wh4 t) (st0_5 t) (wh5 t) (st0_6 t) (wh6 t) (st0_7 t) (wh7 t) (st0_8 t) (wh8 t) (st0_9 t) (wh9 t) (st0_10 t) (wh10 t) scr scr_whole (fun e => h ((first_iff t).mp e)) (fun e => h ((firstRow_iff t).mp e)) (fun e => h' ((last_iff t).mp e))
    (iblk m c 0 t) (iblk m c 1 t) (iblk m c 2 t) (iblk m c 3 t) (iblk m c 4 t) (iblk m c 5 t) (iblk m c 6 t) y9 y11

/-- The run at the last point. -/
abbrev atC (c : Dev nD) (t : Fin cfg0.N) (h : t.val ≠ 0) (h' : t.val = 16) (y9 : Vec F S1x1024 .f32) (y11 : Vec F S1024x1024 .f32) :=
  runC c (grid0.coords t) (st0_0 t) (wh0 t) (st0_1 t) (wh1 t) (st0_2 t) (wh2 t) (st0_3 t) (wh3 t) (st0_4 t) (wh4 t) (st0_5 t) (wh5 t) (st0_6 t) (wh6 t) (st0_7 t) (wh7 t) (st0_8 t) (wh8 t) (st0_9 t) (wh9 t) (st0_10 t) (wh10 t) scr scr_whole (fun e => h ((first_iff t).mp e)) (fun e => h ((firstRow_iff t).mp e)) ((last_iff t).mpr h')
    (iblk m c 0 t) (iblk m c 1 t) (iblk m c 2 t) (iblk m c 3 t) (iblk m c 4 t) (iblk m c 5 t) (iblk m c 6 t) y9 y11

/-- What a point leaves: the row block's gradient, the head rows', the scale gradient, the written weight gradient, and the weight
    gradient carried. -/
structure Left (F : FTy → Type) where
  rows : Vec F S256x1024 .f32
  head : Vec F S256x1024 .f32
  scale : Vec F S1x1024 .f32
  weight : Vec F S1024x1024 .bf16
  acc : Vec F S1024x1024 .f32

def leftA (c : Dev nD) (t : Fin cfg0.N) (h : t.val = 0) : Left F where
  rows := (V7.read (Elt F) (V7.writes (Elt F) V7.junk (atA m c t h).1))
  head := (V8.read (Elt F) (V8.writes (Elt F) V8.junk (atA m c t h).2.1))
  scale := (V9.read (Elt F) (V9.writes (Elt F) V9.junk (atA m c t h).2.2.1))
  weight := V10.read (Elt F) V10.junk
  acc := (V11.read (Elt F) (V11.writes (Elt F) V11.junk (atA m c t h).2.2.2.1))

def leftB (c : Dev nD) (t : Fin cfg0.N) (h : t.val ≠ 0) (h' : t.val ≠ 16) (p : Left F) : Left F where
  rows := (V7.read (Elt F) (V7.writes (Elt F) V7.junk (atB m c t h h' p.scale p.acc).1))
  head := p.head
  scale := (V9.read (Elt F) (V9.writes (Elt F) V9.junk (atB m c t h h' p.scale p.acc).2.1))
  weight := p.weight
  acc := (V11.read (Elt F) (V11.writes (Elt F) V11.junk (atB m c t h h' p.scale p.acc).2.2.1))

def leftC (c : Dev nD) (t : Fin cfg0.N) (h : t.val ≠ 0) (h' : t.val = 16) (p : Left F) : Left F where
  rows := (V7.read (Elt F) (V7.writes (Elt F) V7.junk (atC m c t h h' p.scale p.acc).1))
  head := p.head
  scale := (V9.read (Elt F) (V9.writes (Elt F) V9.junk (atC m c t h h' p.scale p.acc).2.1))
  weight := (V10.read (Elt F) (V10.writes (Elt F) V10.junk (atC m c t h h' p.scale p.acc).2.2.1))
  acc := (V11.read (Elt F) (V11.writes (Elt F) V11.junk (atC m c t h h' p.scale p.acc).2.2.2.1))

/-- What is left after point `n`. -/
def leftAt (c : Dev nD) : (n : ℕ) → n < cfg0.N → Left F
  | 0, hn => leftA m c ⟨0, hn⟩ rfl
  | n + 1, hn =>
    if h : n + 1 = 16 then leftC m c ⟨n + 1, hn⟩ (Nat.succ_ne_zero n) h (leftAt c n (by omega))
    else leftB m c ⟨n + 1, hn⟩ (Nat.succ_ne_zero n) h (leftAt c n (by omega))

/-- What was left before point `t`, for a point that is not the first. -/
abbrev prev (c : Dev nD) (t : Fin cfg0.N) : Left F := leftAt m c (t.val - 1) (Nat.lt_of_le_of_lt (Nat.sub_le _ _) t.isLt)

theorem leftAt_A (c : Dev nD) (t : Fin cfg0.N) (h : t.val = 0) : leftAt m c t.val t.isLt = leftA m c t h := by
  obtain ⟨n, hn⟩ := t
  obtain rfl : n = 0 := h
  rfl

theorem leftAt_B (c : Dev nD) (t : Fin cfg0.N) (h : t.val ≠ 0) (h' : t.val ≠ 16) : leftAt m c t.val t.isLt = leftB m c t h h' (prev m c t) := by
  obtain ⟨n, hn⟩ := t
  cases n with
  | zero => exact absurd rfl h
  | succ n => exact dif_neg h'

theorem leftAt_C (c : Dev nD) (t : Fin cfg0.N) (h : t.val ≠ 0) (h' : t.val = 16) : leftAt m c t.val t.isLt = leftC m c t h h' (prev m c t) := by
  obtain ⟨n, hn⟩ := t
  cases n with
  | zero => exact absurd rfl h
  | succ n => exact dif_pos h'

/-! ## The invariant between points and the region's data -/

/-- Before the first point the scratch holds anything; afterwards the weight gradient carried. -/
def Inv (c : Dev nD) : (n : ℕ) → n ≤ cfg0.N → sProp 𝕄
  | 0, _ => Pipeline.ΦA spec0 c
  | n + 1, hn => iprop(owns (c : Thread nD τ) scr fullShare (leftAt m c n hn).acc ∗ (∃ r, prngReg c r))

theorem anyScratch (c : Dev nD) : (Pipeline.ΦA spec0 c : sProp 𝕄)
    = iprop((∃ d, owns (c : Thread nD τ) scr fullShare d) ∗ (∃ r, prngReg c r)) := by
  unfold Pipeline.ΦA
  rw [scopedRest0_eq]
  simp only [scr, owns_whole]
  try rfl

theorem Inv_pos (c : Dev nD) (n : ℕ) (h : n ≤ cfg0.N) (hz : n ≠ 0) :
    Inv m c n h = iprop(owns (c : Thread nD τ) scr fullShare (leftAt m c (n - 1) (by omega)).acc ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (leftAt m c t.val t.isLt).rows
    | ⟨8, _⟩ => (leftAt m c t.val t.isLt).head
    | ⟨9, _⟩ => (leftAt m c t.val t.isLt).scale
    | ⟨10, _⟩ => (leftAt m c t.val t.isLt).weight
  Φ t := Inv m c t.val (Nat.le_of_lt_succ t.isLt)
  q _ := fullShare
  owed _ := 0

theorem A_eq (c : Dev nD) (w : Fin cfg0.W) : (dats m 0 c).A w = V m c (Pipeline.arrRef spec0 w) := by dsimp only [dats]

theorem Inv_start (c : Dev nD) (t : Fin cfg0.N) : (dats m 0 c).Φ t.castSucc = Inv m c t.val (Nat.le_of_lt t.isLt) := by
  dsimp only [dats]
  exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (leftAt m c t.val t.isLt).rows := by dsimp only [dats]
theorem after8 (c : Dev nD) (t : Fin cfg0.N) : (dats m 0 c).after 8 t = (leftAt m c t.val t.isLt).head := by dsimp only [dats]
theorem after9 (c : Dev nD) (t : Fin cfg0.N) : (dats m 0 c).after 9 t = (leftAt m c t.val t.isLt).scale := by dsimp only [dats]
theorem after10 (c : Dev nD) (t : Fin cfg0.N) : (dats m 0 c).after 10 t = (leftAt m c t.val t.isLt).weight := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

theorem noFlush8 : ∀ t : Fin cfg0.N, t.val ≠ 16 → (cfg0.win 8).flush t = false := by decide +kernel
theorem noFlush9 : ∀ t : Fin cfg0.N, t.val ≠ 16 → (cfg0.win 9).flush t = false := by decide +kernel
theorem noFlush10 : ∀ t : Fin cfg0.N, t.val ≠ 16 → (cfg0.win 10).flush t = false := by decide +kernel
theorem flush8 : ∀ t : Fin cfg0.N, t.val = 16 → (cfg0.win 8).flush t = true := by decide +kernel
theorem live8 : ∀ t : Fin cfg0.N, t.val = 0 → cfg0.idle 8 (grid0.coords t) = false := by decide +kernel
theorem idle8 : ∀ t : Fin cfg0.N, t.val ≠ 0 → cfg0.idle 8 (grid0.coords t) = true := by decide +kernel
theorem live10 : ∀ t : Fin cfg0.N, t.val = 16 → cfg0.idle 10 (grid0.coords t) = false := by decide +kernel
theorem idle10 : ∀ t : Fin cfg0.N, t.val ≠ 16 → cfg0.idle 10 (grid0.coords t) = true := by decide +kernel

/-- The scale gradient's buffer holds what the point before left. -/
theorem before9 (c : Dev nD) (t : Fin cfg0.N) (h : t.val ≠ 0) (d) : (dats m 0 c).before 9 t d = (prev m c t).scale := by
  have hN : t.val < 17 := lt_of_lt_of_eq t.isLt N_0
  rw [Dat.before_out_kept _ 9 rfl t h (noFlush9 _ (by dsimp only; omega)) (fun _ => rfl) (fun _ _ => rfl)]
  dsimp only [dats]

/-- The head rows are left alone after the first point. -/
theorem head_eq (c : Dev nD) (t : Fin cfg0.N) (h : t.val ≠ 0) : (leftAt m c t.val t.isLt).head = (prev m c t).head := by
  by_cases h' : t.val = 16
  · rw [leftAt_C m c t h h', leftC]
  · rw [leftAt_B m c t h h', leftB]

theorem left_idle (c : Dev nD) (w : Fin cfg0.W) (t : Fin cfg0.N) (d) (h : cfg0.idle w (grid0.coords t) = true) :
    (dats m 0 c).left w t d = (dats m 0 c).before w t d := by
  unfold Dat.left
  rw [h]

theorem left_live (c : Dev nD) (w : Fin cfg0.W) (t : Fin cfg0.N) (d) (h : cfg0.idle w (grid0.coords t) = false) :
    (dats m 0 c).left w t d = (dats m 0 c).kept w t d := by
  unfold Dat.left
  rw [h]

/-- So their buffer holds at every later point what the point before counts as left. -/
theorem before8 (c : Dev nD) : ∀ (n : ℕ) (hn : n < cfg0.N) (h : n ≠ 0) (d), (dats m 0 c).before 8 ⟨n, hn⟩ d = (prev m c ⟨n, hn⟩).head
  | 0, _, h, _ => absurd rfl h
  | n + 1, hn, h, d => by
    have hN : n + 1 < 17 := lt_of_lt_of_eq hn N_0
    have hf : (cfg0.win 8).fetch ⟨n + 1, hn⟩ = false := rfl
    rw [Dat.before_of_pos _ 8 ⟨n + 1, hn⟩ h hf, noFlush8 _ (by dsimp only; omega), if_neg Bool.false_ne_true]
    by_cases hz : n = 0
    · subst hz
      refine (left_live m c 8 ⟨0, by omega⟩ d (live8 ⟨0, by omega⟩ rfl)).trans ?_
      unfold Dat.kept
      dsimp only [dats]
      rfl
    · exact (left_idle m c 8 ⟨n, by omega⟩ d (idle8 ⟨n, by omega⟩ hz)).trans ((before8 c n (by omega) hz d).trans (head_eq m c ⟨n, by omega⟩ hz).symm)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t)

/-- A window that is not idle is left at what the data say. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact
  rw [h]
  try rfl

/-- So is one written back at an idle point. -/
theorem leaves_written (c : Dev nD) (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact
  rw [h, hf]
  try rfl

set_option maxHeartbeats 1000000 in
theorem bodyA (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    show (dats m 0 c).Φ t.succ = iprop(owns (c : Thread nD τ) scr fullShare (leftAt m c t.val t.isLt).acc ∗ (∃ r, prngReg c r)) from rfl]
  rw [leaves_live m c 0 t rfl, after0]
  rw [leaves_live m c 1 t rfl, after1]
  rw [leaves_live m c 2 t rfl, after2]
  rw [leaves_live m c 3 t rfl, after3]
  rw [leaves_live m c 4 t rfl, after4]
  rw [leaves_live m c 5 t rfl, after5]
  rw [leaves_live m c 6 t rfl, after6]
  rw [leaves_live m c 7 t rfl, after7]
  rw [leaves_live m c 9 t rfl, after9]
  rw [leaves_live m c 8 t (live8 t h), after8, Dat.leavesExact_idle (dats m 0 c) 10 t (idle10 t (by omega)) (noFlush10 t (by omega))]
  rw [Inv_start m c t, show Inv m c t.val (Nat.le_of_lt t.isLt) = Pipeline.ΦA spec0 c from by unfold Inv; split <;> [rfl; omega], anyScratch, leftAt_A m c t h]
  unfold leftA; dsimp only
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atA m c t h).2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexact H10
  isplitl [HS]; · iexact HS
  iintro ⟨H0, H1, H2, H3, H4, H5, H6, ⟨%e7, H7⟩, ⟨%e8, H8⟩, ⟨%e9, H9⟩, H10, ⟨%eS, HS⟩⟩
  isplitl [HS Hg]
  · isplitl [HS]
    · unfold owns; iexists _; isplitr; swap
      · iexact HS
      · ipureintro; exact View.read_writes_of_cover _ _ _ _ _ (View.cover_of_wholeMem (atA m c t h).2.2.2.1 (by sl_whole_mem))
    · iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · unfold owns; iexists _; isplitr; swap
    · iexact H7
    · ipureintro; exact View.read_writes_of_cover _ _ _ _ _ (View.cover_of_tiledL (atA m c t h).1 S256x1024.size (by sl_kernel_rfl))
  isplitl [H8]
  · unfold owns; iexists _; isplitr; swap
    · iexact H8
    · ipureintro; exact View.read_writes_of_cover _ _ _ _ _ (View.cover_of_tiledL (atA m c t h).2.1 S256x1024.size (by sl_kernel_rfl))
  isplitl [H9]
  · unfold owns; iexists _; isplitr; swap
    · iexact H9
    · ipureintro; exact View.read_writes_of_cover _ _ _ _ _ (View.cover_of_tiledL (atA m c t h).2.2.1 S1x1024.size (by sl_kernel_rfl))
  · iexists _; iexact H10

set_option maxHeartbeats 1000000 in
theorem bodyB (c : Dev nD) (t : Fin cfg0.N) (h : t.val ≠ 0) (h' : t.val ≠ 16) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    show (dats m 0 c).Φ t.succ = iprop(owns (c : Thread nD τ) scr fullShare (leftAt m c t.val t.isLt).acc ∗ (∃ r, prngReg c r)) from rfl]
  rw [leaves_live m c 0 t rfl, after0]
  rw [leaves_live m c 1 t rfl, after1]
  rw [leaves_live m c 2 t rfl, after2]
  rw [leaves_live m c 3 t rfl, after3]
  rw [leaves_live m c 4 t rfl, after4]
  rw [leaves_live m c 5 t rfl, after5]
  rw [leaves_live m c 6 t rfl, after6]
  rw [leaves_live m c 7 t rfl, after7]
  rw [leaves_live m c 9 t rfl, after9]
  have e8 := before8 m c t.val t.isLt h
  simp only [Fin.eta] at e8
  have q8 := head_eq m c t h
  rw [Dat.leavesExact_idle (dats m 0 c) 8 t (idle8 t h) (noFlush8 t h'), Dat.leavesExact_idle (dats m 0 c) 10 t (idle10 t h') (noFlush10 t h')]
  simp only [before9 m c t h]
  rw [Inv_start m c t, Inv_pos m c _ _ h, leftAt_B m c t h h']
  unfold leftB; dsimp only
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atB m c t h h' (prev m c t).scale (prev m c t).acc).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  isplitl [HS]; · iexact HS
  iintro ⟨H0, H1, H2, H3, H4, H5, H6, ⟨%e7, H7⟩, H8, ⟨%e9, H9⟩, H10, ⟨%eS, HS⟩⟩
  isplitl [HS Hg]
  · isplitl [HS]
    · unfold owns; iexists _; isplitr; swap
      · iexact HS
      · ipureintro; exact View.read_writes_of_cover _ _ _ _ _ (View.cover_of_tiledL (atB m c t h h' (prev m c t).scale (prev m c t).acc).2.2.1 ![1024, 512] (by sl_kernel_rfl))
    · iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · unfold owns; iexists _; isplitr; swap
    · iexact H7
    · ipureintro; exact View.read_writes_of_cover _ _ _ _ _ (View.cover_of_tiledL (atB m c t h h' (prev m c t).scale (prev m c t).acc).1 S256x1024.size (by sl_kernel_rfl))
  isplitl [H8]
  · iexists _; iexact H8
  isplitl [H9]
  · unfold owns; iexists _; isplitr; swap
    · iexact H9
    · ipureintro; exact View.read_writes_of_cover _ _ _ _ _ (View.cover_of_tiledL (atB m c t h h' (prev m c t).scale (prev m c t).acc).2.1 S1x1024.size (by sl_kernel_rfl))
  · iexists _; iexact H10

set_option maxHeartbeats 1000000 in
theorem bodyC (c : Dev nD) (t : Fin cfg0.N) (h : t.val ≠ 0) (h' : t.val = 16) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    show (dats m 0 c).Φ t.succ = iprop(owns (c : Thread nD τ) scr fullShare (leftAt m c t.val t.isLt).acc ∗ (∃ r, prngReg c r)) from rfl]
  rw [leaves_live m c 0 t rfl, after0]
  rw [leaves_live m c 1 t rfl, after1]
  rw [leaves_live m c 2 t rfl, after2]
  rw [leaves_live m c 3 t rfl, after3]
  rw [leaves_live m c 4 t rfl, after4]
  rw [leaves_live m c 5 t rfl, after5]
  rw [leaves_live m c 6 t rfl, after6]
  rw [leaves_live m c 7 t rfl, after7]
  rw [leaves_live m c 9 t rfl, after9]
  have e8 := before8 m c t.val t.isLt h
  simp only [Fin.eta] at e8
  have q8 := head_eq m c t h
  rw [leaves_written m c 8 t (idle8 t h) (flush8 t h'), after8, q8, leaves_live m c 10 t (live10 t h'), after10]
  simp only [before9 m c t h, e8]
  rw [Inv_start m c t, Inv_pos m c _ _ h, leftAt_C m c t h h']
  unfold leftC; dsimp only
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atC m c t h h' (prev m c t).scale (prev m c t).acc).2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexists _; iexact H10
  isplitl [HS]; · iexact HS
  iintro ⟨H0, H1, H2, H3, H4, H5, H6, ⟨%e7, H7⟩, H8, ⟨%e9, H9⟩, ⟨%e10, H10⟩, ⟨%eS, HS⟩⟩
  isplitl [HS Hg]
  · isplitl [HS]
    · unfold owns; iexists _; isplitr; swap
      · iexact HS
      · ipureintro; exact View.read_writes_of_cover _ _ _ _ _ (View.cover_of_tiledL (atC m c t h h' (prev m c t).scale (prev m c t).acc).2.2.2.1 ![1024, 512] (by sl_kernel_rfl))
    · iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · unfold owns; iexists _; isplitr; swap
    · iexact H7
    · ipureintro; exact View.read_writes_of_cover _ _ _ _ _ (View.cover_of_tiledL (atC m c t h h' (prev m c t).scale (prev m c t).acc).1 S256x1024.size (by sl_kernel_rfl))
  isplitl [H8]
  · iexact H8
  isplitl [H9]
  · unfold owns; iexists _; isplitr; swap
    · iexact H9
    · ipureintro; exact View.read_writes_of_cover _ _ _ _ _ (View.cover_of_tiledL (atC m c t h h' (prev m c t).scale (prev m c t).acc).2.1 S1x1024.size (by sl_kernel_rfl))
  · unfold owns; iexists _; isplitr; swap
    · iexact H10
    · ipureintro; exact View.read_writes_of_cover _ _ _ _ _ (View.cover_of_tiledL (atC m c t h h' (prev m c t).scale (prev m c t).acc).2.2.1 S1024x1024.size (by sl_kernel_rfl))

/-- The body table's entry at a point is the body. -/
theorem table_row (t : Fin cfg0.N) : defs₀ (F := F) .tc cfg0.body (cfg0.bodyArgs t (cfg0.slots t)) = bodyAt0 t := by
  unfold defs₀
  rw [Defs.onTc_tc]

theorem body_obligation (c : Dev nD) : BodyObligation (dats (F := F) m 0 c) (defs₀ (F := F)) Variants.none () Set.univ := fun t => by
  rw [bigSep_W0, bigSep_W0, table_row]
  by_cases h : t.val = 0
  · exact triple_restated (bodyA m c t h) rfl .rfl fun _ => .rfl
  · by_cases h' : t.val = 16
    · exact triple_restated (bodyC m c t h h') rfl .rfl fun _ => .rfl
    · exact triple_restated (bodyB m c t h h') rfl .rfl fun _ => .rfl

theorem hin (c : Dev nD) : Pipeline.ΦA spec0 c ⊢ (dats m 0 c).Φ 0 := Entails.refl _

theorem hout (c : Dev nD) : (dats m 0 c).Φ (Fin.last cfg0.N) ⊢ Pipeline.ΦA spec0 c := by
  have hN : cfg0.N = 17 := N_0
  rw [show (dats m 0 c).Φ (Fin.last cfg0.N) = Inv m c cfg0.N le_rfl from rfl, Inv_pos m c _ _ (by omega), anyScratch]
  iintro ⟨HS, Hg⟩
  isplitl [HS]
  · iexists _; iexact HS
  iexact Hg

/-! ## The run and the frame -/

set_option backward.isDefEq.respectTransparency.types false in
/-- Every run ends with the arrays at what the data say and every counter at zero. -/
theorem run_quiet : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The frame: the arguments end as they began, and every counter at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5))
      ∧ r.2.sem = fun _ => 0) :=
  θ_run_and (frame_of m ρ (dats m) (A_eq m) (run_main m ρ)) ((θ_run defs _ _).mono (fun _ h => h.2) (run_quiet m ρ))

end Cert.InProjIdeal.Hand

end
-- ==== Proof.InProj.Blocks.lean ====
/- The input projection's gradient, kernel side: what the host line hands the region, what each window's block holds at a
   grid point, and what the body leaves in its outputs and in the carried weight gradient, at an index. -/
module

public import proofs.«01_k».proof.Proof.InProj.FrameIdeal
public import proofs.«01_k».proof.Proof.Common.Rms
public import proofs.«01_k».proof.Proof.Common.Store
public import Idealize.ShloMosaic.Lib.Pipeline.ValueKit
public import Idealize.ShloMosaic.Lib.Pointwise
public import Idealize.ShloMosaic.Lib.Claim

@[expose] public section

set_option maxRecDepth 16384

noncomputable section

namespace Cert.InProjIdeal.Tie

open Cert.InProjIdeal Cert.InProjIdeal.Gen Cert.InProjIdeal.Hand Cert.Common Idealize.ShloMosaic Idealize.ShloMosaic.TcCoe Idealize.SL.Sem
open Idealize.ShloMosaic.Pipeline (Dat)

variable (m : (ℓ : Loc nD τ sig) → Buf (Elt Ideal) ℓ)

/-- Each window's block index at every grid point. -/
theorem idx : ∀ t : Fin cfg0.N, win0_0.index t = ![0, 0]
    ∧ win0_1.index t = ![t.val - 1, 0] ∧ win0_2.index t = ![t.val, 0] ∧ win0_3.index t = ![t.val, 0] ∧ win0_4.index t = ![t.val, 0]
    ∧ win0_5.index t = ![0, 0] ∧ win0_6.index t = ![0, 0] ∧ win0_7.index t = ![t.val - 1, 0] ∧ win0_8.index t = ![0, 0]
    ∧ win0_9.index t = ![0, 0] ∧ win0_10.index t = ![0, 0] :=
  (by decide +kernel : ∀ t : Fin grid0.N, _)

/-! ## What the host line leaves -/

theorem pad0 (a : FVec Ideal S4112x1024 .f32) (R : Fin 4352) (k : Fin 1024) :
    pad S4352x1024 ![240, 0] ![0, 0] ![0, 0] a (sitofp (F := Ideal) .f32 (constantI S_ 32 0#32)) pads_S4112x1024_S4352x1024_24000_000 h_S_ (ix2 R k)
      = padRow a R.val k := by
  pointwise; simp only [padRow, sitofp_zero]

theorem pad1 (a : FVec Ideal S4112x512 .f32) (R : Fin 4352) (k : Fin 512) :
    pad S4352x512 ![240, 0] ![0, 0] ![0, 0] a (sitofp (F := Ideal) .f32 (constantI S_ 32 0#32)) pads_S4112x512_S4352x512_24000_000 h_S_ (ix2 R k)
      = padRow a R.val k := by
  pointwise; simp only [padRow, sitofp_zero]

/-- The head block: the first 16 rows behind 240 zero rows. -/
theorem padHead (a : FVec Ideal S4112x1024 .f32) (R : Fin 256) (k : Fin 1024) :
    pad S256x1024 ![240, 0] ![0, 0] ![0, 0] (extractStridedSlice S16x1024 ![0, 0] a slices_S4112x1024_S16x1024_0_0)
      (sitofp (F := Ideal) .f32 (constantI S_ 32 0#32)) pads_S16x1024_S256x1024_24000_000 h_S_ (ix2 R k)
      = padRow a R.val k := by
  pointwise
  simp only [padRow, sitofp_zero]
  have := R.isLt
  by_cases h : 240 ≤ R.val
  · rw [dif_pos (by omega), dif_pos (by omega)]
  · rw [dif_neg (by omega), dif_neg (by omega)]

theorem V1 (c : Dev nD) : V m c main_v1 = pad S256x1024 ![240, 0] ![0, 0] ![0, 0] (extractStridedSlice S16x1024 ![0, 0] (m (c.tc.loc main_arg0)) slices_S4112x1024_S16x1024_0_0)
    (sitofp (F := Ideal) .f32 (constantI S_ 32 0#32)) pads_S16x1024_S256x1024_24000_000 h_S_ := by
  unfold_abbrev_sides
  simp only [List.flatten_cons, List.flatten_nil, List.append_nil, List.cons_append, List.nil_append]
  after_results
  rfl

theorem V3 (c : Dev nD) : V m c main_v3 = pad S4352x512 ![240, 0] ![0, 0] ![0, 0] (m (c.tc.loc main_arg1))
    (sitofp (F := Ideal) .f32 (constantI S_ 32 0#32)) pads_S4112x512_S4352x512_24000_000 h_S_ := by
  unfold_abbrev_sides
  simp only [List.flatten_cons, List.flatten_nil, List.append_nil, List.cons_append, List.nil_append]
  after_results
  rfl

theorem V4 (c : Dev nD) : V m c main_v4 = pad S4352x512 ![240, 0] ![0, 0] ![0, 0] (m (c.tc.loc main_arg2))
    (sitofp (F := Ideal) .f32 (constantI S_ 32 0#32)) pads_S4112x512_S4352x512_24000_000 h_S_ := by
  unfold_abbrev_sides
  simp only [List.flatten_cons, List.flatten_nil, List.append_nil, List.cons_append, List.nil_append]
  after_results
  rfl

theorem V5 (c : Dev nD) : V m c main_v5 = pad S4352x1024 ![240, 0] ![0, 0] ![0, 0] (m (c.tc.loc main_arg3))
    (sitofp (F := Ideal) .f32 (constantI S_ 32 0#32)) pads_S4112x1024_S4352x1024_24000_000 h_S_ := by
  unfold_abbrev_sides
  simp only [List.flatten_cons, List.flatten_nil, List.append_nil, List.cons_append, List.nil_append]
  after_results
  rfl

theorem V2 (c : Dev nD) (r : Fin 4096) (k : Fin 1024) :
    V m c main_v2 (ix2 r k) = m (c.tc.loc main_arg0) (ix2 ⟨16 + r.val, by omega⟩ k) := by
  unfold_abbrev_sides
  simp only [List.flatten_cons, List.flatten_nil, List.append_nil, List.cons_append, List.nil_append]
  after_results
  pointwise

theorem V7 (c : Dev nD) (r k : Fin 1024) : V m c main_v7 (ix2 r k) = m (c.tc.loc main_arg5) (ix3 0 r k) := by
  unfold_abbrev_sides
  simp only [List.flatten_cons, List.flatten_nil, List.append_nil, List.cons_append, List.nil_append]
  after_results
  pointwise

/-! ## The blocks -/

/-- Row `r` of tile `t` is row `256 t + r` of the array. -/
abbrev row (t : Fin cfg0.N) (r : Fin 256) : Fin 4352 := ⟨t.val * 256 + r.val, by have := lt_of_lt_of_eq t.isLt N_0; omega⟩

theorem b0 (c : Dev nD) (t : Fin cfg0.N) (r : Fin 256) (k : Fin 1024) :
    iblk m c 0 t (ix2 r k) = padRow (m (c.tc.loc main_arg0)) r.val k := by
  obtain ⟨e0, -⟩ := idx t
  rw [← padHead, ← V1]
  show V m c main_v1 _ = _
  blk_ext [e0]

theorem b1 (c : Dev nD) (t : Fin cfg0.N) (h : t.val ≠ 0) (r : Fin 256) (k : Fin 1024) :
    iblk m c 1 t (ix2 r k) = padRow (m (c.tc.loc main_arg0)) (row t r).val k := by
  obtain ⟨-, e1, -⟩ := idx t
  have ht := lt_of_lt_of_eq t.isLt N_0
  have hr := r.isLt
  have e : iblk m c 1 t (ix2 r k) = V m c main_v2 (ix2 ⟨(t.val - 1) * 256 + r.val, by omega⟩ k) := by
    show V m c main_v2 _ = _
    blk_ext [e1]
  rw [e, V2, padRow, dif_pos (by dsimp only; omega)]
  congr 2
  exact Fin.ext (by show 16 + ((t.val - 1) * 256 + r.val) = t.val * 256 + r.val - 240; omega)

theorem first_word : ∀ t : Fin cfg0.N, Scalar.cmpi .eq (BitVec.ofNat 32 ((grid0.coords t) 0).val) 0#32 = BitVec.ofBool (decide (t.val = 0)) :=
  (by decide +kernel : ∀ t : Fin grid0.N, _)

/-- The row block a point works on: the head block at the first point, the rows' block at the others. -/
theorem hb (c : Dev nD) (t : Fin cfg0.N) (r : Fin 256) (k : Fin 1024) :
    k0_pay5 (F := Ideal) (grid0.coords t) (iblk m c 0 t) (iblk m c 1 t) (ix2 r k) = padRow (m (c.tc.loc main_arg0)) (row t r).val k := by
  have e : k0_pay5 (F := Ideal) (grid0.coords t) (iblk m c 0 t) (iblk m c 1 t) (ix2 r k)
      = if t.val = 0 then iblk m c 0 t (ix2 r k) else iblk m c 1 t (ix2 r k) := by
    pointwise [k0_pay5]
    rw [first_word t]
    by_cases h : t.val = 0 <;> simp [h, Scalar.select]
  rw [e]
  split
  · rename_i h
    rw [b0]
    congr 1
    show r.val = t.val * 256 + r.val
    omega
  · rename_i h
    exact b1 m c t h r k

theorem b2 (c : Dev nD) (t : Fin cfg0.N) (r : Fin 256) (k : Fin 512) :
    iblk m c 2 t (ix2 r k) = padRow (m (c.tc.loc main_arg1)) (row t r).val k := by
  obtain ⟨-, -, e2, -⟩ := idx t
  rw [← pad1, ← V3]
  show V m c main_v3 _ = _
  blk_ext [e2]

theorem b3 (c : Dev nD) (t : Fin cfg0.N) (r : Fin 256) (k : Fin 512) :
    iblk m c 3 t (ix2 r k) = padRow (m (c.tc.loc main_arg2)) (row t r).val k := by
  obtain ⟨-, -, -, e3, -⟩ := idx t
  rw [← pad1, ← V4]
  show V m c main_v4 _ = _
  blk_ext [e3]

theorem b4 (c : Dev nD) (t : Fin cfg0.N) (r : Fin 256) (k : Fin 1024) :
    iblk m c 4 t (ix2 r k) = padRow (m (c.tc.loc main_arg3)) (row t r).val k := by
  obtain ⟨-, -, -, -, e4, -⟩ := idx t
  rw [← pad0, ← V5]
  show V m c main_v5 _ = _
  blk_ext [e4]

theorem b5 (c : Dev nD) (t : Fin cfg0.N) : iblk m c 5 t = m (c.tc.loc main_arg4) := by
  obtain ⟨-, -, -, -, -, e5, -⟩ := idx t
  rw [← V_main_arg4 m c]
  funext j
  show V m c main_arg4 _ = _
  blk_ext [e5]

theorem b6 (c : Dev nD) (t : Fin cfg0.N) (r k : Fin 1024) : iblk m c 6 t (ix2 r k) = m (c.tc.loc main_arg5) (ix3 0 r k) := by
  obtain ⟨-, -, -, -, -, -, e6, -⟩ := idx t
  rw [← V7 m c]
  show V m c main_v7 _ = _
  blk_ext [e6]

/-! ## What the body leaves -/

/-- The left and the right half of the projection's weights, as the body loads them. -/
abbrev wl (w : Vec Ideal S1024x1024 .bf16) : Vec Ideal S1024x512 .bf16 := View.ld w (Rect.unit ![0, 0] ![1024, 512] inb_S1024x1024_S1024x512_0_0)
abbrev wr (w : Vec Ideal S1024x1024 .bf16) : Vec Ideal S1024x512 .bf16 := View.ld w (Rect.unit ![0, 512] ![1024, 512] inb_S1024x1024_S1024x512_0_512)

theorem wl_at (w : Vec Ideal S1024x1024 .bf16) (j : Fin 1024) (k : Fin 512) : wl w (ix2 j k) = w (ix2 j ⟨k.val, by omega⟩) :=
  View.ld_unit_apply_of _ _ _ _ _ _ (fun a => by fin_cases a <;> simp)

theorem wr_at (w : Vec Ideal S1024x1024 .bf16) (j : Fin 1024) (k : Fin 512) : wr w (ix2 j k) = w (ix2 j ⟨512 + k.val, by omega⟩) :=
  View.ld_unit_apply_of _ _ _ _ _ _ (fun a => by fin_cases a <;> simp)

/-- The rows' gradient, as the body computes it from its blocks. -/
abbrev rowsOut (c : Dev nD) (t : Fin cfg0.N) : Vec Ideal S256x1024 .f32 :=
  k0_pay13 (F := Ideal) (k0_pay6 (grid0.coords t) (iblk m c 0 t) (iblk m c 1 t)) (k0_pay7 (grid0.coords t) (iblk m c 0 t) (iblk m c 1 t))
    (k0_pay11 (iblk m c 2 t) (iblk m c 3 t) (wl (iblk m c 6 t)) (wr (iblk m c 6 t))) (iblk m c 5 t) (iblk m c 4 t)

theorem out7 (c : Dev nD) (t : Fin cfg0.N) : (leftAt m c t.val t.isLt).rows = rowsOut m c t := by
  by_cases h0 : t.val = 0
  · rw [leftAt_A m c t h0, leftA]; dsimp only [atA]; frame_out
  · by_cases h1 : t.val = 16
    · rw [leftAt_C m c t h0 h1, leftC]; dsimp only [atC]; frame_out
    · rw [leftAt_B m c t h0 h1, leftB]; dsimp only [atB]; frame_out

theorem out8 (c : Dev nD) (t : Fin cfg0.N) (h0 : t.val = 0) : (leftAt m c t.val t.isLt).head = rowsOut m c t := by
  rw [leftAt_A m c t h0, leftA]; dsimp only [atA]; frame_out

/-- The scale gradient a tile adds. -/
def gterm (x : Fin 256 → Fin 1024 → EReal) (du dv : Vec Ideal S256x512 .f32) (wa wb : Vec Ideal S1024x512 .bf16) (j : Fin 1024) : EReal :=
  ∑ r : Fin 256, (∑ k, du (ix2 r k) * wa (ix2 j k) + ∑ k, dv (ix2 r k) * wb (ix2 j k)) * (x r j
    * Ideal.rsqrt (Ideal.div (∑ k, x r k * x r k) (Ideal.ofBits .f32 1149239296#32) + Ideal.ofBits .f32 897988541#32))

/-- The weight gradient a tile adds. -/
def wterm (x : Fin 256 → Fin 1024 → EReal) (g : Vec Ideal S1x1024 .f32) (v : Vec Ideal S256x512 .f32) (i : Fin 1024) (j : Fin 512) : EReal :=
  ∑ r : Fin 256, x r i
    * Ideal.rsqrt (Ideal.div (∑ k, x r k * x r k) (Ideal.ofBits .f32 1149239296#32) + Ideal.ofBits .f32 897988541#32)
    * g (ix2 0 i) * v (ix2 r j)

/-- The block a point works on. -/
abbrev hx (i : grid0.Coords) (v4 v6 : Vec Ideal S256x1024 .f32) : Fin 256 → Fin 1024 → EReal := fun r k => k0_pay5 (F := Ideal) i v4 v6 (ix2 r k)

theorem pay12_at (i : grid0.Coords) (v4 v6 v23 v26 v29 v32 acc) (z : Fin 1) (j : Fin 1024) :
    k0_pay12 (F := Ideal) (k0_pay7 i v4 v6) (k0_pay11 v23 v26 v29 v32) acc (ix2 z j) = acc (ix2 z j) + gterm (hx i v4 v6) v23 v26 v29 v32 j := by
  unfold gterm
  pointwise [k0_pay12, k0_pay11, k0_pay10, k0_pay9, k0_pay7, k0_pay6]

theorem pay14_at (i : grid0.Coords) (v4 v6 v19 v23 acc) (a : Fin 1024) (j : Fin 512) :
    k0_pay14 (F := Ideal) (k0_pay8 i v4 v6 v19) (k0_pay9 v23) acc (ix2 a j) = acc (ix2 a j) + wterm (hx i v4 v6) v19 v23 a j := by
  unfold wterm
  pointwise [k0_pay14, k0_pay9, k0_pay8, k0_pay7, k0_pay6]

theorem pay1_at (i : grid0.Coords) (v4 v6 v19 v26 acc) (a : Fin 1024) (j : Fin 512) :
    k0_pay1 (F := Ideal) (k0_pay8 i v4 v6 v19) (k0_pay10 v26) acc (ix2 a j) = acc (ix2 a j) + wterm (hx i v4 v6) v19 v26 a j := by
  unfold wterm
  pointwise [k0_pay1, k0_pay10, k0_pay8, k0_pay7, k0_pay6]

/-- What a tile adds to the scale gradient. -/
abbrev dgterm (c : Dev nD) (t : Fin cfg0.N) (j : Fin 1024) : EReal :=
  gterm (hx (grid0.coords t) (iblk m c 0 t) (iblk m c 1 t)) (iblk m c 2 t) (iblk m c 3 t) (wl (iblk m c 6 t)) (wr (iblk m c 6 t)) j

theorem out9_reset (c : Dev nD) (t : Fin cfg0.N) (h0 : t.val = 0) (y : S1x1024.Idx) :
    (leftAt m c t.val t.isLt).scale y = (0 : EReal) + dgterm m c t (y 1) := by
  rw [leftAt_A m c t h0, leftA]; dsimp only [atA]; frame_out
  idx_vars y
  rw [pay12_at]
  pointwise [k0_pay3]

theorem out9_step (c : Dev nD) (t : Fin cfg0.N) (h0 : ¬ t.val = 0) (y : S1x1024.Idx) :
    (leftAt m c t.val t.isLt).scale y = (prev m c t).scale y + dgterm m c t (y 1) := by
  by_cases h1 : t.val = 16
  · rw [leftAt_C m c t h0 h1, leftC]; dsimp only [atC]; frame_out; idx_vars y; rw [pay12_at]
  · rw [leftAt_B m c t h0 h1, leftB]; dsimp only [atB]; frame_out; idx_vars y; rw [pay12_at]

/-- What a tile adds to the weight gradient at `(i, j)`: the first 512 columns belong to one half, the others to the other. -/
def dwterm (c : Dev nD) (t : Fin cfg0.N) (i j : Fin 1024) : EReal :=
  if h : j.val < 512 then wterm (hx (grid0.coords t) (iblk m c 0 t) (iblk m c 1 t)) (iblk m c 5 t) (iblk m c 2 t) i ⟨j.val, h⟩
  else wterm (hx (grid0.coords t) (iblk m c 0 t) (iblk m c 1 t)) (iblk m c 5 t) (iblk m c 3 t) i ⟨j.val - 512, by omega⟩

theorem dwterm_low (c : Dev nD) (t : Fin cfg0.N) (i j : Fin 1024) (x : Fin 512) (h : j.val = x.val) :
    dwterm m c t i j = wterm (hx (grid0.coords t) (iblk m c 0 t) (iblk m c 1 t)) (iblk m c 5 t) (iblk m c 2 t) i x := by
  have hx := x.isLt
  rw [dwterm, dif_pos (by omega)]
  congr 1
  exact Fin.ext h

theorem dwterm_high (c : Dev nD) (t : Fin cfg0.N) (i j : Fin 1024) (x : Fin 512) (h : j.val = 512 + x.val) :
    dwterm m c t i j = wterm (hx (grid0.coords t) (iblk m c 0 t) (iblk m c 1 t)) (iblk m c 5 t) (iblk m c 3 t) i x := by
  rw [dwterm, dif_neg (by omega)]
  congr 1
  exact Fin.ext (by show j.val - 512 = x.val; omega)

theorem scratch_reset (c : Dev nD) (t : Fin cfg0.N) (hz : t.val = 0) (y : S1024x1024.Idx) :
    (leftAt m c t.val t.isLt).acc y = (0 : EReal) + dwterm m c t (y 0) (y 1) := by
  rw [leftAt_A m c t hz, leftA]; dsimp only [atA]
  frame_open
  simp (disch := decide) only [↓ View.readCov_skip, ↓ View.readCov_cons_toLoadRect, ↓ View.readCov_fill]
  frame_out
  refine (canon_drop [_] [_, _] y (View.cover_of_tiledL _ ![1024, 512] (by sl_kernel_rfl) y)).trans ?_
  canon_tiles x h
  · idx_vars x
    idx_vars y
    obtain rfl : y0 = x0 := Fin.ext h0
    rw [pay1_at, dwterm_high m c t _ _ _ h1, View.ld_unit_apply_of _ _ _ _ _ (ix2 y0 y1) (fun a => by fin_cases a <;> simp [h1])]
    pointwise [k0_pay4]
  · idx_vars x
    idx_vars y
    obtain rfl : y0 = x0 := Fin.ext h0
    rw [pay14_at, dwterm_low m c t _ _ _ h1, View.ld_unit_apply_of _ _ _ _ _ (ix2 y0 y1) (fun a => by fin_cases a <;> simp [h1])]
    pointwise [k0_pay4]

theorem scratch_step (c : Dev nD) (t : Fin cfg0.N) (hz : ¬ t.val = 0) (y : S1024x1024.Idx) :
    (leftAt m c t.val t.isLt).acc y = (prev m c t).acc y + dwterm m c t (y 0) (y 1) := by
  by_cases hl : t.val = 16
  · rw [leftAt_C m c t hz hl, leftC]; dsimp only [atC]
    generalize (prev m c t).acc = pa
    generalize (prev m c t).scale = ps
    frame_out
    canon_tiles x h
    · idx_vars x
      idx_vars y
      obtain rfl : y0 = x0 := Fin.ext h0
      rw [pay1_at, dwterm_high m c t _ _ _ h1, read_unread_whole,
        View.ld_unit_apply_of _ _ _ _ _ (ix2 y0 y1) (fun a => by fin_cases a <;> simp [h1])]
    · idx_vars x
      idx_vars y
      obtain rfl : y0 = x0 := Fin.ext h0
      rw [pay14_at, dwterm_low m c t _ _ _ h1, read_unread_whole,
        View.ld_unit_apply_of _ _ _ _ _ (ix2 y0 y1) (fun a => by fin_cases a <;> simp [h1])]
  · rw [leftAt_B m c t hz hl, leftB]; dsimp only [atB]
    generalize (prev m c t).acc = pa
    generalize (prev m c t).scale = ps
    frame_out
    canon_tiles x h
    · idx_vars x
      idx_vars y
      obtain rfl : y0 = x0 := Fin.ext h0
      rw [pay1_at, dwterm_high m c t _ _ _ h1, read_unread_whole,
        View.ld_unit_apply_of _ _ _ _ _ (ix2 y0 y1) (fun a => by fin_cases a <;> simp [h1])]
    · idx_vars x
      idx_vars y
      obtain rfl : y0 = x0 := Fin.ext h0
      rw [pay14_at, dwterm_low m c t _ _ _ h1, read_unread_whole,
        View.ld_unit_apply_of _ _ _ _ _ (ix2 y0 y1) (fun a => by fin_cases a <;> simp [h1])]

/-- The weight gradient written back at the last point is what the scratch holds there. -/
theorem out10 (c : Dev nD) (t : Fin cfg0.N) (hz : ¬ t.val = 0) (hl : t.val = 16) (y : S1024x1024.Idx) :
    (leftAt m c t.val t.isLt).weight y = (leftAt m c t.val t.isLt).acc y := by
  rw [leftAt_C m c t hz hl, leftC]; dsimp only [atC]; frame_out
  idx_vars y
  pointwise [k0_pay2]
  rw [View.readCov_eq_canon']
  exact congrArg _ (funext fun a => Fin.ext (by fin_cases a <;> simp))

end Cert.InProjIdeal.Tie

end
-- ==== Proof.InProj.Ref.lean ====
/- The input projection's gradient, reference side: each result of the reference at an index. -/
module

public import proofs.«01_k».proof.Proof.Gen.InProjRefIdeal.Read
public import proofs.«01_k».proof.Proof.Common.Rms
public import proofs.«01_k».proof.Proof.Common.Rows
public import Idealize.ShloMosaic.Lib.Pointwise
public import Idealize.ShloMosaic.Lib.Claim

@[expose] public section

set_option maxRecDepth 16384

noncomputable section

namespace Cert.InProjRefIdeal.Tie

open Cert.InProjRefIdeal.Read
open Cert.InProjRefIdeal Cert.Common Idealize.ShloMosaic Idealize.ShloMosaic.TcCoe Idealize.SL.Sem

variable (a0 : FVec Ideal S4112x1024 .f32) (a1 a2 : FVec Ideal S4112x512 .f32) (a3 : FVec Ideal S4112x1024 .f32) (a4 : FVec Ideal S1x1024 .f32) (a5 : FVec Ideal S1x1024x1024 .f32)

/-- The two cotangents side by side. -/
def cot : FVec Ideal S4112x1024 .f32 := fun i =>
  if h : (i 1).val < 512 then a1 (ix2 (i 0) ⟨(i 1).val, h⟩) else a2 (ix2 (i 0) ⟨(i 1).val - 512, by have := (i 1).isLt; change (i 1).val < 1024 at this; omega⟩)

theorem v23_at (r : Fin 4112) (k : Fin 1024) : val_main_v23 (F := Ideal) a1 a2 (ix2 r k) = cot a1 a2 (ix2 r k) := by
  pointwise [val_main_v23, val_main_v22, val_main_v21, val_main_cst_4, val_main_cst_5, val_main_cst_3, val_main_cst_2]
  simp only [cot]
  by_cases h : k.val < 512
  · rw [dif_neg (by omega), dif_pos h, dif_pos (by exact h), zero_add]
    rfl
  · have := k.isLt
    rw [dif_pos (by omega), dif_neg h, dif_neg (by exact h), add_zero]
    rfl

theorem isReal_cot (h1 : ∀ i, IsReal (a1 i)) (h2 : ∀ i, IsReal (a2 i)) (i) : IsReal (cot a1 a2 i) := by
  unfold cot
  split
  · exact h1 _
  · exact h2 _

theorem cot_left (r : Fin 4112) (k : Fin 512) : cot a1 a2 (ix2 r ⟨k.val, by omega⟩) = a1 (ix2 r k) := by
  rw [cot, dif_pos (by exact k.isLt)]
  rfl

theorem cot_right (r : Fin 4112) (k : Fin 512) : cot a1 a2 (ix2 r ⟨512 + k.val, by omega⟩) = a2 (ix2 r k) := by
  rw [cot, dif_neg (by show ¬ 512 + k.val < 512; omega)]
  exact congrArg (fun q => a2 (ix2 r q)) (Fin.ext (by show 512 + k.val - 512 = k.val; omega))

theorem pad_left (R : ℕ) (k : Fin 512) : padRow (cot a1 a2) R ⟨k.val, by omega⟩ = padRow a1 R k := by
  by_cases h : 240 ≤ R ∧ R - 240 < 4112
  · rw [padRow_high _ h, padRow_high _ h, cot_left]
  · rw [padRow_low _ h, padRow_low _ h]

theorem pad_right (R : ℕ) (k : Fin 512) : padRow (cot a1 a2) R ⟨512 + k.val, by omega⟩ = padRow a2 R k := by
  by_cases h : 240 ≤ R ∧ R - 240 < 4112
  · rw [padRow_high _ h, padRow_high _ h, cot_right]
  · rw [padRow_low _ h, padRow_low _ h]

/-- A product against the joint cotangent is the two halves' products added. -/
theorem cot_sum (R : ℕ) (w : Fin 1024 → EReal) :
    ∑ k : Fin 512, padRow a1 R k * w ⟨k.val, by omega⟩ + ∑ k : Fin 512, padRow a2 R k * w ⟨512 + k.val, by omega⟩
      = ∑ i : Fin 1024, padRow (cot a1 a2) R i * w i := by
  rw [sum_halves]
  simp only [pad_left, pad_right]

/-- The rows' gradient, at the row a padded row names. -/
theorem v48_at (h0 : ∀ i, IsReal (a0 i)) (h1 : ∀ i, IsReal (a1 i)) (h2 : ∀ i, IsReal (a2 i)) (h4 : ∀ i, IsReal (a4 i)) (h5 : ∀ i, IsReal (a5 i)) (R : ℕ) (j : Fin 1024) :
    padRow a3 R j + Ideal.rsqrt (Ideal.div (∑ x, padRow a0 R x * padRow a0 R x) (((1024 : ℝ)) : EReal) + (eps : EReal))
        * ((∑ i, padRow (cot a1 a2) R i * a5 (ix3 0 j i)) * a4 (ix2 0 j)
          - padRow a0 R j * Ideal.rsqrt (Ideal.div (∑ x, padRow a0 R x * padRow a0 R x) (((1024 : ℝ)) : EReal) + (eps : EReal))
            * Ideal.div (∑ x : Fin 1024, (∑ i, padRow (cot a1 a2) R i * a5 (ix3 0 x i)) * a4 (ix2 0 x)
                * (padRow a0 R x * Ideal.rsqrt (Ideal.div (∑ x, padRow a0 R x * padRow a0 R x) (((1024 : ℝ)) : EReal) + (eps : EReal))))
              (((1024 : ℝ)) : EReal))
      = padRow (val_main_v48 (F := Ideal) a0 a1 a2 a3 a4 a5) R j := by
  rw [rms_row (by norm_num) (cot a1 a2) a0 (fun j i => a5 (ix3 0 j i)) (fun j => a4 (ix2 0 j)) (isReal_cot a1 a2 h1 h2) h0 (fun _ _ => h5 _) (fun _ => h4 _) R j]
  by_cases h : 240 ≤ R ∧ R - 240 < 4112
  · rw [dif_pos h, padRow_high _ h, padRow_high _ h]
    generalize (⟨R - 240, h.2⟩ : Fin 4112) = r
    pointwise [val_main_v0, val_main_v1, val_main_cst, val_main_v2, val_main_v3, val_main_cst_0, val_main_v4,
    val_main_v5, val_main_cst_1, val_main_v6, val_main_v7, val_main_v8, val_main_v9, val_main_cst_2,
    val_main_v10, val_main_v11, val_main_v12, val_main_v13, val_main_v14, val_main_v15, val_main_v16,
    val_main_v17, val_main_v18, val_main_v19, val_main_v20, val_main_cst_3, val_main_v21, val_main_cst_4,
    val_main_v22, val_main_v24, val_main_v25, val_main_v26, val_main_v27, val_main_v28, val_main_cst_5,
    val_main_v29, val_main_v30, val_main_v31, val_main_v32, val_main_cst_6, val_main_v33, val_main_v34,
    val_main_cst_7, val_main_v35, val_main_v36, val_main_v37, val_main_v38, val_main_v39, val_main_v40,
    val_main_cst_8, val_main_v41, val_main_v42, val_main_cst_9, val_main_v43, val_main_v44, val_main_v45,
    val_main_v46, val_main_v47, val_main_v48, val_main_v49, val_main_v50, val_main_v51, val_main_c,
    val_main_call0_v0, val_main_v52, val_main_v53, val_main_v54]
    simp only [Finset.univ_unique, Finset.sum_singleton, ofBits_1024, ofBits_eps, ofBits_neg_half, v23_at]
    simp only [add_assoc]
  · rw [dif_neg h, padRow_low _ h, padRow_low _ h, add_zero]

/-- The rows' gradient is the array's from row 16. -/
theorem v50_at (r : Fin 4096) (j : Fin 1024) :
    val_main_v50 (F := Ideal) a0 a1 a2 a3 a4 a5 (ix2 r j) = padRow (val_main_v48 (F := Ideal) a0 a1 a2 a3 a4 a5) (256 + r.val) j := by
  rw [padRow_high _ (by omega)]
  pointwise [val_main_v50]
  refine congrArg (fun q => val_main_v48 (F := Ideal) a0 a1 a2 a3 a4 a5 (ix2 q j)) (Fin.ext ?_)
  show 16 + r.val = 256 + r.val - 240
  omega

/-- The head rows' gradient, behind 240 zero rows. -/
theorem v52_at (r : Fin 256) (j : Fin 1024) :
    val_main_v52 (F := Ideal) a0 a1 a2 a3 a4 a5 (ix2 r j) = padRow (val_main_v48 (F := Ideal) a0 a1 a2 a3 a4 a5) r.val j := by
  pointwise [val_main_v52, val_main_v51, val_main_call0_v0, val_main_c]
  simp only [padRow, sitofp_zero]
  have := r.isLt
  by_cases h : 240 ≤ r.val
  · rw [dif_pos (by omega), dif_pos (by omega)]
  · rw [dif_neg (by omega), dif_neg (by omega)]

/-- The scale's gradient. -/
theorem v49_at (z : Fin 1) (j : Fin 1024) :
    ∑ r : Fin 4112, (∑ k, cot a1 a2 (ix2 r k) * a5 (ix3 0 j k)) * (a0 (ix2 r j)
        * Ideal.rsqrt (Ideal.div (∑ k, a0 (ix2 r k) * a0 (ix2 r k)) (Ideal.ofBits .f32 1149239296#32) + Ideal.ofBits .f32 897988541#32))
      = val_main_v49 (F := Ideal) a0 a1 a2 a5 (ix2 z j) := by
  pointwise [val_main_v0, val_main_v1, val_main_cst, val_main_v2, val_main_v3, val_main_cst_0, val_main_v4,
    val_main_v5, val_main_cst_1, val_main_v6, val_main_v7, val_main_v8, val_main_v9, val_main_cst_2,
    val_main_v10, val_main_v11, val_main_v12, val_main_v13, val_main_v14, val_main_v15, val_main_v16,
    val_main_v17, val_main_v18, val_main_v19, val_main_v20, val_main_cst_3, val_main_v21, val_main_cst_4,
    val_main_v22, val_main_v24, val_main_v25, val_main_v26, val_main_v27, val_main_v28, val_main_cst_5,
    val_main_v29, val_main_v30, val_main_v31, val_main_v32, val_main_cst_6, val_main_v33, val_main_v34,
    val_main_cst_7, val_main_v35, val_main_v36, val_main_v37, val_main_v38, val_main_v39, val_main_v40,
    val_main_cst_8, val_main_v41, val_main_v42, val_main_cst_9, val_main_v43, val_main_v44, val_main_v45,
    val_main_v46, val_main_v47, val_main_v48, val_main_v49, val_main_v50, val_main_v51, val_main_c,
    val_main_call0_v0, val_main_v52, val_main_v53, val_main_v54]
  simp only [Finset.univ_unique, Finset.sum_singleton, v23_at]
  exact Finset.sum_congr rfl fun r _ => mul_comm _ _

/-- The weight's gradient. -/
theorem v54_at (i j : Fin 1024) :
    ∑ r : Fin 4112, a0 (ix2 r i)
          * Ideal.rsqrt (Ideal.div (∑ k, a0 (ix2 r k) * a0 (ix2 r k)) (Ideal.ofBits .f32 1149239296#32) + Ideal.ofBits .f32 897988541#32) * a4 (ix2 0 i)
        * cot a1 a2 (ix2 r j)
      = val_main_v54 (F := Ideal) a0 a1 a2 a4 (ix2 i j) := by
  pointwise [val_main_v0, val_main_v1, val_main_cst, val_main_v2, val_main_v3, val_main_cst_0, val_main_v4,
    val_main_v5, val_main_cst_1, val_main_v6, val_main_v7, val_main_v8, val_main_v9, val_main_cst_2,
    val_main_v10, val_main_v11, val_main_v12, val_main_v13, val_main_v14, val_main_v15, val_main_v16,
    val_main_v17, val_main_v18, val_main_v19, val_main_v20, val_main_cst_3, val_main_v21, val_main_cst_4,
    val_main_v22, val_main_v24, val_main_v25, val_main_v26, val_main_v27, val_main_v28, val_main_cst_5,
    val_main_v29, val_main_v30, val_main_v31, val_main_v32, val_main_cst_6, val_main_v33, val_main_v34,
    val_main_cst_7, val_main_v35, val_main_v36, val_main_v37, val_main_v38, val_main_v39, val_main_v40,
    val_main_cst_8, val_main_v41, val_main_v42, val_main_cst_9, val_main_v43, val_main_v44, val_main_v45,
    val_main_v46, val_main_v47, val_main_v48, val_main_v49, val_main_v50, val_main_v51, val_main_c,
    val_main_call0_v0, val_main_v52, val_main_v53, val_main_v54]
  simp only [v23_at]
  exact Finset.sum_congr rfl fun r _ => mul_comm _ _

/-- The reference's run, its results named by their stages. -/
theorem run_read (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v50) = val_main_v50 (F := Ideal) (m (c.tc.loc main_arg0))
          (m (c.tc.loc main_arg1)) (m (c.tc.loc main_arg2)) (m (c.tc.loc main_arg3))
          (m (c.tc.loc main_arg4)) (m (c.tc.loc main_arg5))
      ∧ r.2.mem (c.tc.loc main_v52) = val_main_v52 (F := Ideal) (m (c.tc.loc main_arg0))
          (m (c.tc.loc main_arg1)) (m (c.tc.loc main_arg2)) (m (c.tc.loc main_arg3))
          (m (c.tc.loc main_arg4)) (m (c.tc.loc main_arg5))
      ∧ r.2.mem (c.tc.loc main_v49) = val_main_v49 (F := Ideal) (m (c.tc.loc main_arg0))
          (m (c.tc.loc main_arg1)) (m (c.tc.loc main_arg2)) (m (c.tc.loc main_arg5))
      ∧ r.2.mem (c.tc.loc main_v54) = val_main_v54 (F := Ideal) (m (c.tc.loc main_arg0))
          (m (c.tc.loc main_arg1)) (m (c.tc.loc main_arg2)) (m (c.tc.loc main_arg4))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) :=
  (θ_run _ _ _).mono (fun r h c => ⟨(h c).1.trans (val_main_v50_eq m c), (h c).2.1.trans (val_main_v52_eq m c),
    (h c).2.2.1.trans (val_main_v49_eq _ _ _ _), (h c).2.2.2.1.trans (val_main_v54_eq _ _ _ _), (h c).2.2.2.2⟩) (Value.run m ρ)

end Cert.InProjRefIdeal.Tie

end
-- ==== Proof.InProj.Value.lean ====
/- The input projection's gradient: the kernel's four arrays are the reference's. -/
module

public import proofs.«01_k».proof.Defs
public import proofs.«01_k».proof.Proof.InProj.Blocks
public import proofs.«01_k».proof.Proof.InProj.Ref
public import proofs.«01_k».proof.Proof.Common.Rows
public import proofs.«01_k».proof.Proof.Common.Congr
public import proofs.«01_k».proof.Proof.Gen.Pre_in_proj_finite
public import Idealize.ShloMosaic.Lib.Pipeline.ValueKit
public import Idealize.ShloMosaic.Lib.Pointwise
public import Idealize.ShloMosaic.Lib.Claim

@[expose] public section

set_option maxRecDepth 16384

noncomputable section

namespace Cert.InProjIdeal.Tie

open Cert.InProjRefIdeal.Read
open Cert.InProjIdeal Cert.InProjIdeal.Gen Cert.InProjIdeal.Hand Cert.Common Idealize.ShloMosaic Idealize.ShloMosaic.TcCoe Idealize.SL.Sem
open Idealize.ShloMosaic.Pipeline (Dat)
open Cert.InProjRefIdeal.Tie (cot cot_sum pad_left pad_right)

/-- The precondition, read off: the arguments but the residual cotangent are finite. -/
theorem finite_args (a0 : FVec Ideal S4112x1024 .f32) (a1 a2 : FVec Ideal S4112x512 .f32) (a3 : FVec Ideal S4112x1024 .f32) (a4 : FVec Ideal S1x1024 .f32)
    (a5 : FVec Ideal S1x1024x1024 .f32) (h : Cert.Pre_in_proj_finite.fn (F := Ideal) a0 a1 a2 a3 a4 a5 = fun _ => 1#1) :
    (∀ i, IsReal (a0 i)) ∧ (∀ i, IsReal (a1 i)) ∧ (∀ i, IsReal (a2 i)) ∧ (∀ i, IsReal (a4 i)) ∧ (∀ i, IsReal (a5 i)) := by
  haveI : Subsingleton Cert.Pre_in_proj_finite.S_.Idx := ⟨fun i j => funext fun a => a.elim0⟩
  dsimp only [Cert.Pre_in_proj_finite.fn, Cert.Pre_in_proj_finite.fn_part1] at h
  have e := congrFun h (fun a => a.elim0)
  obtain ⟨e, h5⟩ := IntOp.andi_eq_one.1 e
  obtain ⟨e, h4⟩ := IntOp.andi_eq_one.1 e
  obtain ⟨e, h2⟩ := IntOp.andi_eq_one.1 e
  obtain ⟨e, h1⟩ := IntOp.andi_eq_one.1 e
  obtain ⟨-, h0⟩ := IntOp.andi_eq_one.1 e
  exact ⟨finite_of_all _ _ (fun _ => ofBits_inf) _ _ _ _ h0, finite_of_all _ _ (fun _ => ofBits_inf) _ _ _ _ h1,
    finite_of_all _ _ (fun _ => ofBits_inf) _ _ _ _ h2, finite_of_all _ _ (fun _ => ofBits_inf) _ _ _ _ h4,
    finite_of_all _ _ (fun _ => ofBits_inf) _ _ _ _ h5⟩

variable (m : (ℓ : Loc nD τ sig) → Buf (Elt Ideal) ℓ)

theorem wl6 (c : Dev nD) (t : Fin cfg0.N) (j : Fin 1024) (k : Fin 512) :
    wl (iblk m c 6 t) (ix2 j k) = m (c.tc.loc main_arg5) (ix3 0 j ⟨k.val, by omega⟩) := (wl_at _ j k).trans (b6 m c t j _)

theorem wr6 (c : Dev nD) (t : Fin cfg0.N) (j : Fin 1024) (k : Fin 512) :
    wr (iblk m c 6 t) (ix2 j k) = m (c.tc.loc main_arg5) (ix3 0 j ⟨512 + k.val, by omega⟩) := (wr_at _ j k).trans (b6 m c t j _)

/-- The rows' gradient a point computes is the reference's at its padded rows. -/
theorem rowsOut_at (c : Dev nD) (hp : Cert.Pre_InProjIdeal_in_proj_finite m) (t : Fin cfg0.N) (r : Fin 256) (j : Fin 1024) :
    rowsOut m c t (ix2 r j) = padRow (val_main_v48 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)))
      (row t r).val j := by
  obtain ⟨h0, h1, h2, h4, h5⟩ := finite_args _ _ _ _ _ _ (hp c)
  have hg := b5 m c t
  unfold rowsOut
  pointwise [k0_pay13, k0_pay11, k0_pay10, k0_pay9, k0_pay7, k0_pay6]
  simp only [hb, b2, b3, b4, wl6, wr6, hg, ofBits_1024, ofBits_eps]
  have hs := fun x : Fin 1024 => cot_sum (m ((c : Thread nD τ).loc main_arg1)) (m ((c : Thread nD τ).loc main_arg2)) (row t r).val
    (fun i => (m ((c : Thread nD τ).loc main_arg5)) (ix3 0 x i))
  beta_reduce at hs
  simp only [hs]
  exact Cert.InProjRefIdeal.Tie.v48_at (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) h0 h1 h2 h4 h5 (row t r).val j

/-- The first point's block of rows is not written back. -/
theorem noFlush7 : ∀ t : Fin cfg0.N, (cfg0.win 7).flush t = true → t.val ≠ 0 := by decide +kernel

theorem final_7 (c : Dev nD) (hp : Cert.Pre_InProjIdeal_in_proj_finite m) :
    (dats m 0 c).arrAt 7 (cfgs 0).N = val_main_v50 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  obtain ⟨-, -, -, -, -, -, -, e, -⟩ := idx t
  have hz := noFlush7 t hf
  have hN := lt_of_lt_of_eq t.isLt N_0
  blk_simp; rw [after7, out7]
  idx_vars y
  have hy := y0.isLt
  have hv := Cert.InProjRefIdeal.Tie.v50_at (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    ⟨(t.val - 1) * 256 + y0.val, by omega⟩ y1
  refine (rowsOut_at m c hp t y0 y1).trans (Eq.trans ?_ (hv.symm.trans (congrArg _ ?_)))
  · congr 1
    show t.val * 256 + y0.val = 256 + ((t.val - 1) * 256 + y0.val)
    omega
  · funext a; apply Fin.ext; fin_cases a <;> simp [win0_7, e]

/-- The head rows' gradient is the first point's at every later point. -/
theorem head_first (c : Dev nD) : ∀ (n : ℕ) (hn : n < cfg0.N), (leftAt m c n hn).head = (leftAt m c 0 (by omega)).head
  | 0, _ => rfl
  | n + 1, hn => (head_eq m c ⟨n + 1, hn⟩ (Nat.succ_ne_zero n)).trans (head_first c n (by omega))

theorem final_8 (c : Dev nD) (hp : Cert.Pre_InProjIdeal_in_proj_finite m) :
    (dats m 0 c).arrAt 8 (cfgs 0).N = val_main_v52 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  obtain ⟨-, -, -, -, -, -, -, -, e, -⟩ := idx t
  have hN : 0 < cfg0.N := Nat.lt_of_le_of_lt (Nat.zero_le _) t.isLt
  blk_simp; rw [after8, head_first, out8 m c ⟨0, hN⟩ rfl]
  idx_vars y
  have hv := Cert.InProjRefIdeal.Tie.v52_at (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) y0 y1
  refine (rowsOut_at m c hp ⟨0, hN⟩ y0 y1).trans (Eq.trans ?_ (hv.symm.trans (congrArg _ ?_)))
  · congr 1
    show 0 * 256 + y0.val = y0.val
    omega
  · funext a; apply Fin.ext; fin_cases a <;> simp [win0_8, e]

/-- What row `R` of the padded arrays adds to the scale gradient at `j`. -/
def gRow (a0 : FVec Ideal S4112x1024 .f32) (a1 a2 : FVec Ideal S4112x512 .f32) (w : Fin 1024 → EReal) (j : Fin 1024) (R : ℕ) : EReal :=
  (∑ k, padRow (cot a1 a2) R k * w k) * (padRow a0 R j * Ideal.rsqrt (Ideal.div (∑ k, padRow a0 R k * padRow a0 R k)
          (Ideal.ofBits .f32 1149239296#32) + Ideal.ofBits .f32 897988541#32))

theorem dgterm_rows (c : Dev nD) (t : Fin cfg0.N) (j : Fin 1024) :
    dgterm m c t j = ∑ x : Fin 256, gRow (m ((c : Thread nD τ).loc main_arg0)) (m ((c : Thread nD τ).loc main_arg1)) (m ((c : Thread nD τ).loc main_arg2))
      (fun k => (m ((c : Thread nD τ).loc main_arg5)) (ix3 0 j k)) j (t.val * 256 + x.val) := by
  unfold dgterm gterm gRow
  simp only [hx, hb, b2, b3, wl6, wr6]
  have hs := fun R : ℕ => cot_sum (m ((c : Thread nD τ).loc main_arg1)) (m ((c : Thread nD τ).loc main_arg2)) R
    (fun i => (m ((c : Thread nD τ).loc main_arg5)) (ix3 0 j i))
  beta_reduce at hs
  simp only [hs]

theorem final_9 (c : Dev nD) :
    (dats m 0 c).arrAt 9 (cfgs 0).N = val_main_v49 (F := Ideal) (m ((c : Thread nD τ).loc main_arg0)) (m ((c : Thread nD τ).loc main_arg1))
      (m ((c : Thread nD τ).loc main_arg2)) (m ((c : Thread nD τ).loc main_arg5)) := by
  refine (dats m 0 c).arrAt_eq_of_covers 9 _ (by decide +kernel) fun t hf y => ?_
  obtain ⟨-, -, -, -, -, -, -, -, -, e, -⟩ := idx t
  have hN := lt_of_lt_of_eq t.isLt N_0
  have hr := (flush0_9 t).mp hf
  have hq : t.val / 17 = 0 := by omega
  blk_simp; rw [after9]
  idx_vars y
  refine (Pipeline.eq_sum_fin_of_reset_step_apply_of_flush (fun n h => (leftAt m c n h).scale) 17 (fun _ => 0)
    (fun t y => dgterm m c t (y 1)) (fun t h y => out9_reset m c t (by have := lt_of_lt_of_eq t.isLt N_0; omega) y)
    (fun t h y => out9_step m c t (by omega) y) t hr (ix2 y0 y1)).trans ?_
  rw [zero_add]
  refine (Finset.sum_congr rfl fun s _ => dgterm_rows m c _ y1).trans ?_
  refine (sum_run (gRow (m ((c : Thread nD τ).loc main_arg0)) (m ((c : Thread nD τ).loc main_arg1)) (m ((c : Thread nD τ).loc main_arg2))
      (fun k => (m ((c : Thread nD τ).loc main_arg5)) (ix3 0 y1 k)) y1) (fun R hR => ?_) _ hq).trans ?_
  · simp [gRow, padRow_low _ (show ¬ (240 ≤ R ∧ R - 240 < 4112) by omega)]
  simp only [gRow, padRow_add]
  refine (Cert.InProjRefIdeal.Tie.v49_at (m ((c : Thread nD τ).loc main_arg0)) (m ((c : Thread nD τ).loc main_arg1)) (m ((c : Thread nD τ).loc main_arg2))
    (m ((c : Thread nD τ).loc main_arg5)) y0 y1).trans (congrArg _ ?_)
  funext a; apply Fin.ext; fin_cases a <;> simp [win0_9, e]

/-- What row `R` of the padded arrays adds to the weight gradient at `(i, j)`. -/
def dwRow (a0 : FVec Ideal S4112x1024 .f32) (a1 a2 : FVec Ideal S4112x512 .f32) (a4 : FVec Ideal S1x1024 .f32) (i j : Fin 1024) (R : ℕ) : EReal :=
  padRow a0 R i * Ideal.rsqrt (Ideal.div (∑ k, padRow a0 R k * padRow a0 R k)
          (Ideal.ofBits .f32 1149239296#32) + Ideal.ofBits .f32 897988541#32) * a4 (ix2 0 i) * padRow (cot a1 a2) R j

theorem dwterm_rows (c : Dev nD) (t : Fin cfg0.N) (i j : Fin 1024) :
    dwterm m c t i j = ∑ x : Fin 256, dwRow (m ((c : Thread nD τ).loc main_arg0)) (m ((c : Thread nD τ).loc main_arg1)) (m ((c : Thread nD τ).loc main_arg2))
      (m ((c : Thread nD τ).loc main_arg4)) i j (t.val * 256 + x.val) := by
  have hg := b5 m c t
  unfold dwRow
  by_cases h : j.val < 512
  · rw [dwterm_low m c t i j ⟨j.val, h⟩ rfl]
    unfold wterm
    refine Finset.sum_congr rfl fun x _ => ?_
    simp only [hx, hb, b2, hg]
    exact congrArg _ (pad_left (m ((c : Thread nD τ).loc main_arg1)) (m ((c : Thread nD τ).loc main_arg2)) (t.val * 256 + x.val) ⟨j.val, h⟩).symm
  · have hj : (⟨512 + (⟨j.val - 512, by omega⟩ : Fin 512).val, by dsimp only; omega⟩ : Fin 1024) = j := Fin.ext (by dsimp only; omega)
    rw [dwterm_high m c t i j ⟨j.val - 512, by omega⟩ (by dsimp only; omega)]
    unfold wterm
    refine Finset.sum_congr rfl fun x _ => ?_
    simp only [hx, hb, b3, hg]
    exact congrArg _ ((pad_right (m (c.tc.loc main_arg1)) (m (c.tc.loc main_arg2)) (t.val * 256 + x.val)
      ⟨j.val - 512, by omega⟩).symm.trans (congrArg _ hj))

theorem final_10 (c : Dev nD) :
    (dats m 0 c).arrAt 10 (cfgs 0).N = val_main_v54 (F := Ideal) (m ((c : Thread nD τ).loc main_arg0)) (m ((c : Thread nD τ).loc main_arg1))
      (m ((c : Thread nD τ).loc main_arg2)) (m ((c : Thread nD τ).loc main_arg4)) := by
  refine (dats m 0 c).arrAt_eq_of_covers 10 _ (by decide +kernel) fun t hf y => ?_
  obtain ⟨-, -, -, -, -, -, -, -, -, -, e⟩ := idx t
  have hN := lt_of_lt_of_eq t.isLt N_0
  have hr := (flush0_10 t).mp hf
  have hq : t.val / 17 = 0 := by omega
  blk_simp; rw [after10]
  idx_vars y
  refine (out10 m c t (by omega) (by omega) _).trans ?_
  refine (Pipeline.eq_sum_fin_of_reset_step_apply_of_flush (fun n h => (leftAt m c n h).acc) 17 (fun _ => 0)
    (fun t y => dwterm m c t (y 0) (y 1)) (fun t h y => scratch_reset m c t (by have := lt_of_lt_of_eq t.isLt N_0; omega) y)
    (fun t h y => scratch_step m c t (by omega) y) t hr (ix2 y0 y1)).trans ?_
  rw [zero_add]
  refine (Finset.sum_congr rfl fun s _ => dwterm_rows m c _ y0 y1).trans ?_
  refine (sum_run (dwRow (m ((c : Thread nD τ).loc main_arg0)) (m ((c : Thread nD τ).loc main_arg1)) (m ((c : Thread nD τ).loc main_arg2))
      (m ((c : Thread nD τ).loc main_arg4)) y0 y1) (fun R hR => ?_) _ hq).trans ?_
  · simp [dwRow, padRow_low _ (show ¬ (240 ≤ R ∧ R - 240 < 4112) by omega)]
  simp only [dwRow, padRow_add]
  refine (Cert.InProjRefIdeal.Tie.v54_at (m ((c : Thread nD τ).loc main_arg0)) (m ((c : Thread nD τ).loc main_arg1)) (m ((c : Thread nD τ).loc main_arg2))
    (m ((c : Thread nD τ).loc main_arg4)) y0 y1).trans (congrArg _ ?_)
  funext a; apply Fin.ext; fin_cases a <;> simp [win0_10, e]

set_option maxHeartbeats 2000000 in
/-- The kernel's four arrays and the reference's four agree on the same finite arguments. -/
theorem algebraic : Cert.algebraic_InProjIdeal_InProjRefIdeal_pre_in_proj_finite := by
  pair_intro
  · run_from Cert.InProjIdeal.Hand.run_main m g
    · exact V_main_arg0 m c
    · exact V_main_arg1 m c
    · exact V_main_arg2 m c
    · exact V_main_arg3 m c
    · exact V_main_arg5 m c
  · refine (θ_run _ _ _).mono (fun r h c => ?_) (Cert.InProjRefIdeal.Tie.run_read m' g')
    obtain ⟨a0, a1, a2, a3, a4, a5⟩ := hagree c
    obtain ⟨e0, e1, e2, e3, e⟩ := h c
    have q0 := congr6 (val_main_v50 (F := Ideal)) a0 a1 a2 a3 a4 a5
    have q1 := congr6 (val_main_v52 (F := Ideal)) a0 a1 a2 a3 a4 a5
    have q2 := congr4 (val_main_v49 (F := Ideal)) a0 a1 a2 a5
    have q3 := congr4 (val_main_v54 (F := Ideal)) a0 a1 a2 a4
    have w0 := (e0.trans q0).trans (final_7 m c hpre).symm
    have w1 := (e1.trans q1).trans (final_8 m c hpre).symm
    have w2 := (e2.trans q2).trans (final_9 m c).symm
    have w3 := (e3.trans q3).trans (final_10 m c).symm
    exact ⟨w0, w1, w2, w3, e⟩

end Cert.InProjIdeal.Tie

end
-- ==== Proof.Pool.RunIdeal.lean ====
/- The pooling's gradient: what one trip of each of the kernel's two loops computes, and the kernel body run once
   for every grid point. -/
module

public import proofs.«01_k».proof.Proof.Gen.PoolIdeal.Loops
public import Idealize.ShloMosaic.Lib.VecWindow

@[expose] public section

set_option maxRecDepth 16384

noncomputable section

namespace Cert.PoolIdeal.Hand

open Cert.PoolIdeal Cert.PoolIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## One trip's values -/

section Values

variable (g v0 : BitVec 32) (dy : Vec F S256x128 .f32) (w : Vec F S1x128x128 .f32) (sc : Vec F S1x1x128 .f32)
  (ext : Vec F S272x128 .f32) (k : Fin k0_t1_loop.trips)

/-- The pooled rows of the trip's tile, from the tile of the padded input with the sixteen rows before it. -/
def pooled : FVec F S256x128 .f32 := k0_pay10 g v0 0#32 1#32 k ext
/-- The gradient reaching the pooled rows, from the rows of the output's gradient in the tile. -/
def dpRows : FVec F S256x128 .f32 := k0_pay15 dy sc w
/-- That gradient divided by the window's count: what the second loop sums. -/
def gRows : FVec F S256x128 .f32 := k0_pay6 (dpRows dy w sc) (k0_pay16 (k0_pay9 (F := F) v0 0#32 1#32 k))

end Values

section Loops

variable (𝒱 : Variants) (c : Dev nD) (bd : Option 𝒱.V) (E : Set ℕ) (i : grid0.Coords) (arg1 : Memref sig .tc .vmem S4352x128 .f32) (harg1 : arg1.IsWhole) (arg2 : Memref sig .tc .vmem S4352x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4352x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S4368x128 .f32) (harg8 : arg8.IsWhole) (arg9 : Memref sig .tc .vmem S4368x128 .f32) (harg9 : arg9.IsWhole) (g v0 : BitVec 32)
  (X2 : BufTy.Contents (Elt F) arg2.view.ty) (X3 : BufTy.Contents (Elt F) arg3.view.ty) (X4 : BufTy.Contents (Elt F) arg4.view.ty) (X8 : BufTy.Contents (Elt F) arg8.view.ty) (X9 : BufTy.Contents (Elt F) arg9.view.ty)
  (G5 : BufTy.Contents (Elt F) arg5.view.ty) (G6 : BufTy.Contents (Elt F) arg6.view.ty) (G7 : BufTy.Contents (Elt F) arg7.view.ty) (G9 : BufTy.Contents (Elt F) arg9.view.ty)

/-- The buffers the first loop writes, before trip `k`: each trip's rows written over what was there. -/
def gAt : ℕ → BufTy.Contents (Elt F) arg9.view.ty
  | 0 => G9
  | k + 1 => if h : k < k0_t1_loop.trips then
      arg9.view.writes (Elt F) (gAt k) [⟨Rect.unit (s := S4368x128) (k0_off3 ⟨k, h⟩) S256x128.size (k0_off3_inb ⟨k, h⟩), gRows v0 (arg2.view.readAt (Elt F) (Rect.unit (s := S4352x128) (k0_off2 ⟨k, h⟩) S256x128.size (k0_off2_inb ⟨k, h⟩)).toLoadRect X2) (arg3.view.readAt (Elt F) (Rect.unit (s := S1x128x128) ![0, 0, 0] S1x128x128.size inb_S1x128x128_S1x128x128_0_0_0).toLoadRect X3) (arg4.view.readAt (Elt F) (Rect.unit (s := S1x1x128) ![0, 0, 0] S1x1x128.size inb_S1x1x128_S1x1x128_0_0_0).toLoadRect X4) ⟨k, h⟩⟩]
    else gAt k
def dvAt : ℕ → BufTy.Contents (Elt F) arg5.view.ty
  | 0 => G5
  | k + 1 => if h : k < k0_t1_loop.trips then
      arg5.view.writes (Elt F) (dvAt k) [⟨Rect.unit (s := S4352x128) (k0_off2 ⟨k, h⟩) S256x128.size (k0_off2_inb ⟨k, h⟩), k0_pay7 (dpRows (arg2.view.readAt (Elt F) (Rect.unit (s := S4352x128) (k0_off2 ⟨k, h⟩) S256x128.size (k0_off2_inb ⟨k, h⟩)).toLoadRect X2) (arg3.view.readAt (Elt F) (Rect.unit (s := S1x128x128) ![0, 0, 0] S1x128x128.size inb_S1x128x128_S1x128x128_0_0_0).toLoadRect X3) (arg4.view.readAt (Elt F) (Rect.unit (s := S1x1x128) ![0, 0, 0] S1x1x128.size inb_S1x1x128_S1x1x128_0_0_0).toLoadRect X4))⟩]
    else dvAt k
def dwAt : ℕ → BufTy.Contents (Elt F) arg6.view.ty
  | 0 => G6
  | k + 1 => if h : k < k0_t1_loop.trips then
      arg6.view.writes (Elt F) (dwAt k) [⟨Rect.unit (s := S1x128x128) ![0, 0, 0] S1x128x128.size inb_S1x128x128_S1x128x128_0_0_0, k0_pay14 (pooled g v0 (arg8.view.readAt (Elt F) (Rect.unit (s := S4368x128) (k0_off1 ⟨k, h⟩) S272x128.size (k0_off1_inb ⟨k, h⟩)).toLoadRect X8) ⟨k, h⟩) (arg2.view.readAt (Elt F) (Rect.unit (s := S4352x128) (k0_off2 ⟨k, h⟩) S256x128.size (k0_off2_inb ⟨k, h⟩)).toLoadRect X2) (arg4.view.readAt (Elt F) (Rect.unit (s := S1x1x128) ![0, 0, 0] S1x1x128.size inb_S1x1x128_S1x1x128_0_0_0).toLoadRect X4) (arg6.view.readAt (Elt F) (Rect.unit (s := S1x128x128) ![0, 0, 0] S1x128x128.size inb_S1x128x128_S1x128x128_0_0_0).toLoadRect (dwAt k))⟩]
    else dwAt k
def dsAt : ℕ → BufTy.Contents (Elt F) arg7.view.ty
  | 0 => G7
  | k + 1 => if h : k < k0_t1_loop.trips then
      arg7.view.writes (Elt F) (dsAt k) [⟨Rect.unit (s := S1x1x128) ![0, 0, 0] S1x1x128.size inb_S1x1x128_S1x1x128_0_0_0, k0_pay13 (pooled g v0 (arg8.view.readAt (Elt F) (Rect.unit (s := S4368x128) (k0_off1 ⟨k, h⟩) S272x128.size (k0_off1_inb ⟨k, h⟩)).toLoadRect X8) ⟨k, h⟩) (arg3.view.readAt (Elt F) (Rect.unit (s := S1x128x128) ![0, 0, 0] S1x128x128.size inb_S1x128x128_S1x128x128_0_0_0).toLoadRect X3) (arg2.view.readAt (Elt F) (Rect.unit (s := S4352x128) (k0_off2 ⟨k, h⟩) S256x128.size (k0_off2_inb ⟨k, h⟩)).toLoadRect X2) (arg7.view.readAt (Elt F) (Rect.unit (s := S1x1x128) ![0, 0, 0] S1x1x128.size inb_S1x1x128_S1x1x128_0_0_0).toLoadRect (dsAt k))⟩]
    else dsAt k
/-- The input's gradient before trip `k` of the second loop, which adds the window sums. -/
def dv2At : ℕ → BufTy.Contents (Elt F) arg5.view.ty
  | 0 => G5
  | k + 1 => if h : k < k0_t2_loop.trips then
      arg5.view.writes (Elt F) (dv2At k) [⟨Rect.unit (s := S4352x128) (k0_off5 ⟨k, h⟩) S256x128.size (k0_off5_inb ⟨k, h⟩), k0_pay8 i (VecWindow.window (arg9.view.read (Elt F) X9) (k0_off4 ⟨k, h⟩) S272x128.size (k0_off4_inb ⟨k, h⟩)) (VecWindow.window (arg5.view.read (Elt F) (dv2At k)) (k0_off5 ⟨k, h⟩) S256x128.size (k0_off5_inb ⟨k, h⟩))⟩]
    else dv2At k

set_option warn.classDefReducibility false in
set_option maxHeartbeats 1000000 in
/-- The first loop by its invariant. -/
@[sl_loop] def loop1 :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 g v0 where
  inv k _ := iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8) ∗ (∃ f, (arg5.view.loc (c : Thread nD τ) ↦[arg5.view.set]{fullShare} f) ∗ ⌜f = dvAt arg2 arg3 arg4 arg5 X2 X3 X4 G5 k⌝) ∗ (∃ f, (arg6.view.loc (c : Thread nD τ) ↦[arg6.view.set]{fullShare} f) ∗ ⌜f = dwAt arg2 arg4 arg6 arg8 g v0 X2 X4 X8 G6 k⌝) ∗ (∃ f, (arg7.view.loc (c : Thread nD τ) ↦[arg7.view.set]{fullShare} f) ∗ ⌜f = dsAt arg2 arg3 arg7 arg8 g v0 X2 X3 X8 G7 k⌝) ∗ (∃ f, (arg9.view.loc (c : Thread nD τ) ↦[arg9.view.set]{fullShare} f) ∗ ⌜f = gAt arg2 arg3 arg4 arg9 v0 X2 X3 X4 G9 k⌝))
  step k acc := by
    have hk : k.val < 17 := Nat.lt_of_lt_of_le k.isLt k0_t1_abs.2.1
    iintro ⟨H2, H3, H4, H8, ⟨%f5, H5, %h5⟩, ⟨%f6, H6, %h6⟩, ⟨%f7, H7, %h7⟩, ⟨%f9, H9, %h9⟩⟩
    unfold k0_t1_body
    sl_exec
    sl_step
    isplitl [H2]; · iexact H2
    isplitl [H3]; · iexact H3
    isplitl [H4]; · iexact H4
    isplitl [H8]; · iexact H8
    isplitl [H5]
    · iexists _; isplitl [H5]; · iexact H5
      ipureintro; rw [h5, dvAt, dif_pos k.isLt]
      rfl
    isplitl [H6]
    · iexists _; isplitl [H6]; · iexact H6
      ipureintro; rw [h6, dwAt, dif_pos k.isLt]
      rfl
    isplitl [H7]
    · iexists _; isplitl [H7]; · iexact H7
      ipureintro; rw [h7, dsAt, dif_pos k.isLt]
      rfl
    iexists _; isplitl [H9]; · iexact H9
    ipureintro; rw [h9, gAt, dif_pos k.isLt]
    rfl

set_option warn.classDefReducibility false in
/-- The second loop by its invariant. -/
@[sl_loop] def loop2 :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 where
  inv k _ := iprop((arg9.view.loc (c : Thread nD τ) ↦[arg9.view.set]{fullShare} X9) ∗ (∃ f, (arg5.view.loc (c : Thread nD τ) ↦[arg5.view.set]{fullShare} f) ∗ ⌜f = dv2At i arg5 arg9 X9 G5 k⌝))
  step k acc := by
    have hk : k.val < 17 := Nat.lt_of_lt_of_le k.isLt k0_t2_abs.2.1
    iintro ⟨H9, ⟨%f5, H5, %h5⟩⟩
    unfold k0_t2_body
    sl_exec
    sl_step
    isplitl [H9]; · iexact H9
    iexists _; isplitl [H5]; · iexact H5
    ipureintro; rw [h5, dv2At, dif_pos k.isLt]; rfl

end Loops

end Cert.PoolIdeal.Hand

end
-- ==== Proof.Pool.LeavesIdeal.lean ====
/- The pooling's gradient: what the kernel body leaves in each buffer, as functions of the blocks it reads. -/
module

public import proofs.«01_k».proof.Proof.Pool.RunIdeal
public import Idealize.ShloMosaic.Lib.Pipeline.ValueKit
public import Idealize.ShloMosaic.Lib.WritesUnit

@[expose] public section

set_option maxRecDepth 16384

noncomputable section

namespace Cert.PoolIdeal.Hand

open Cert.PoolIdeal Cert.PoolIdeal.Gen Idealize.ShloMosaic Idealize.ShloMosaic.TcCoe

variable {F : FTy → Type} [FloatOps F]

theorem trips1 : k0_t1_loop.trips = 17 := rfl
theorem trips2 : k0_t2_loop.trips = 17 := rfl
theorem off1_eq : ∀ k, k0_off1 k = ![256 * k.val, 0] := by decide +kernel
theorem off2_eq : ∀ k, k0_off2 k = ![256 * k.val, 0] := by decide +kernel
theorem off3_eq : ∀ k, k0_off3 k = ![256 * k.val, 0] := by decide +kernel
theorem off4_eq : ∀ k, k0_off4 k = ![256 * k.val, 0] := by decide +kernel
theorem off5_eq : ∀ k, k0_off5 k = ![256 * k.val, 0] := by decide +kernel

/-! ## The values -/

section Outs

/-- The group as the body's word, and its window's width. -/
abbrev word (i : grid0.Coords) : BitVec 32 := BitVec.ofNat 32 (i 0).val
abbrev width (i : grid0.Coords) : BitVec 32 := Scalar.shli 2#32 (word i)

/-- The trip that covers a row. -/
def trip1 (r : ℕ) (h : r < 4352) : Fin k0_t1_loop.trips := ⟨r / 256, Nat.lt_of_lt_of_eq (by omega) trips1.symm⟩
def trip2 (r : ℕ) (h : r < 4352) : Fin k0_t2_loop.trips := ⟨r / 256, Nat.lt_of_lt_of_eq (by omega) trips2.symm⟩

variable (i : grid0.Coords) (x1 x2 : Vec F S4352x128 .f32) (x3 : Vec F S1x128x128 .f32) (x4 : Vec F S1x1x128 .f32)

/-- The input under sixteen rows of zeros. -/
def padded : Vec F S4368x128 .f32 := fun j =>
  if h : 16 ≤ (j 0).val then k0_pay2 x1 (ix2 ⟨(j 0).val - 16, by have : (j 0).val < 4368 := (j 0).isLt; omega⟩ (j 1))
  else k0_pay1 (ix2 ⟨(j 0).val, by omega⟩ (j 1))

/-- A trip's tile of the output's gradient, and its tile of the padded input with the sixteen rows before it. -/
def tile (k : Fin k0_t1_loop.trips) : Vec F S256x128 .f32 := VecWindow.window x2 (k0_off2 k) S256x128.size (k0_off2_inb k)
def above (k : Fin k0_t1_loop.trips) : Vec F S272x128 .f32 := VecWindow.window (padded x1) (k0_off1 k) S272x128.size (k0_off1_inb k)

/-- What the second loop sums, over sixteen rows of zeros. -/
def summed : Vec F S4368x128 .f32 := fun j =>
  if h : (j 0).val < 4352 then gRows (width i) (tile x2 (trip1 (j 0).val h)) x3 x4 (trip1 (j 0).val h) (ix2 ⟨(j 0).val % 256, Nat.mod_lt _ (by norm_num)⟩ (j 1))
  else k0_pay3 (ix2 ⟨(j 0).val - 4352, by have : (j 0).val < 4368 := (j 0).isLt; omega⟩ (j 1))

/-- The input's gradient before the second loop, and after it. -/
def negated : Vec F S4352x128 .f32 := fun j =>
  k0_pay7 (dpRows (tile x2 (trip1 (j 0).val (j 0).isLt)) x3 x4) (ix2 ⟨(j 0).val % 256, Nat.mod_lt _ (by norm_num)⟩ (j 1))
def dvRows (k : Fin k0_t2_loop.trips) : Vec F S256x128 .f32 :=
  k0_pay8 i (VecWindow.window (summed i x2 x3 x4) (k0_off4 k) S272x128.size (k0_off4_inb k))
    (VecWindow.window (negated x2 x3 x4) (k0_off5 k) S256x128.size (k0_off5_inb k))
def dvOut : Vec F S4352x128 .f32 := fun j =>
  dvRows i x2 x3 x4 (trip2 (j 0).val (j 0).isLt) (ix2 ⟨(j 0).val % 256, Nat.mod_lt _ (by norm_num)⟩ (j 1))

/-- The weight's and the scale's gradients before trip `k`. -/
def dwOut : ℕ → Vec F S1x128x128 .f32
  | 0 => k0_pay4
  | k + 1 => if h : k < k0_t1_loop.trips then k0_pay14 (pooled (word i) (width i) (above x1 ⟨k, h⟩) ⟨k, h⟩) (tile x2 ⟨k, h⟩) x4 (dwOut k) else dwOut k
def dsOut : ℕ → Vec F S1x1x128 .f32
  | 0 => k0_pay5
  | k + 1 => if h : k < k0_t1_loop.trips then k0_pay13 (pooled (word i) (width i) (above x1 ⟨k, h⟩) ⟨k, h⟩) x3 (tile x2 ⟨k, h⟩) (dsOut k) else dsOut k

end Outs

/-! ## The buffers hold them -/

section Reads

variable (i : grid0.Coords) (arg2 : Memref sig .tc .vmem S4352x128 .f32) (arg3 : Memref sig .tc .vmem S1x128x128 .f32)
  (arg4 : Memref sig .tc .vmem S1x1x128 .f32) (arg5 : Memref sig .tc .vmem S4352x128 .f32) (arg6 : Memref sig .tc .vmem S1x128x128 .f32)
  (arg7 : Memref sig .tc .vmem S1x1x128 .f32) (arg8 : Memref sig .tc .vmem S4368x128 .f32) (arg9 : Memref sig .tc .vmem S4368x128 .f32)
  (X2 : BufTy.Contents (Elt F) arg2.view.ty) (X3 : BufTy.Contents (Elt F) arg3.view.ty) (X4 : BufTy.Contents (Elt F) arg4.view.ty)
  (X8 : BufTy.Contents (Elt F) arg8.view.ty) (x1 x2 : Vec F S4352x128 .f32) (x3 : Vec F S1x128x128 .f32) (x4 : Vec F S1x1x128 .f32)

/-- The padded input, by its two stores. -/
theorem read_padded (f : BufTy.Contents (Elt F) arg8.view.ty) (p : Vec F S4352x128 .f32) (hp : p = k0_pay2 x1) :
    arg8.view.read (Elt F) (arg8.view.writes (Elt F) f [⟨Rect.unit (s := S4368x128) ![16, 0] S4352x128.size inb_S4368x128_S4352x128_16_0, p⟩,
      ⟨Rect.unit (s := S4368x128) ![0, 0] S16x128.size inb_S4368x128_S16x128_0_0, k0_pay1 (F := F)⟩]) = padded x1 := by
  subst hp
  funext j
  have hj : (j 0).val < 4368 := (j 0).isLt
  unfold padded
  split
  · rename_i h
    exact View.read_writes_cons_rows_of_mem arg8.view f _ _ _ j (ix2 ⟨(j 0).val - 16, by omega⟩ (j 1)) rfl (by simp only [ix2]; show (j 0).val = 16 + ((j 0).val - 16); omega) rfl
  · rename_i h
    rw [View.read_writes_cons_rows_of_not_mem (o := 16) (W := 4352) arg8.view f _ _ _ j rfl rfl (Or.inl (by omega))]
    exact View.read_writes_cons_rows_of_mem arg8.view f _ _ _ j (ix2 ⟨(j 0).val, by omega⟩ (j 1)) rfl (by show (j 0).val = 0 + (j 0).val; omega) rfl

/-- A block of rows written over a buffer: inside the block the rows written, outside what was there. -/
theorem rows_step {m : ℕ} (b : Memref sig .tc .vmem ⟨2, ![m, 128]⟩ .f32) (f : BufTy.Contents (Elt F) b.view.ty) (off : Fin 2 → ℕ) (inb) (w : Vec F S256x128 .f32)
    (k : ℕ) (hoff : off = ![256 * k, 0]) (g : Vec F ⟨2, ![m, 128]⟩ .f32) (P : Vec F ⟨2, ![m, 128]⟩ .f32)
    (hf : ∀ j, b.view.read (Elt F) f j = if (j 0).val < 256 * k then g j else P j)
    (hw : ∀ (j : (⟨2, ![m, 128]⟩ : Shape).Idx) (x : S256x128.Idx), (j 0).val = 256 * k + (x 0).val → (j 1).val = (x 1).val → w x = g j) (j) :
    b.view.read (Elt F) (b.view.writes (Elt F) f [⟨Rect.unit (s := ⟨2, ![m, 128]⟩) off S256x128.size inb, w⟩]) j
      = if (j 0).val < 256 * (k + 1) then g j else P j := by
  by_cases h : 256 * k ≤ (j 0).val ∧ (j 0).val < 256 * (k + 1)
  · rw [if_pos h.2]
    have hx : (j 0).val = 256 * k + ((j 0).val - 256 * k) := by omega
    refine (View.read_writes_cons_rows_of_mem b.view f inb w _ j (ix2 ⟨(j 0).val - 256 * k, by omega⟩ (j 1)) hoff hx rfl).trans (hw j _ hx rfl)
  · rw [View.read_writes_cons_rows_of_not_mem (o := 256 * k) (W := 256) b.view f inb w _ j hoff rfl (by omega), View.writes_nil, hf]
    by_cases h' : (j 0).val < 256 * k
    · rw [if_pos h', if_pos (by omega)]
    · rw [if_neg h', if_neg (by omega)]

variable (h2 : arg2.view.read (Elt F) X2 = x2) (h3 : arg3.view.read (Elt F) X3 = x3) (h4 : arg4.view.read (Elt F) X4 = x4)
  (h8 : arg8.view.read (Elt F) X8 = padded x1)
include h2 h3 h4

theorem read_gAt (G9 : BufTy.Contents (Elt F) arg9.view.ty) : ∀ n ≤ 17, ∀ j,
    arg9.view.read (Elt F) (gAt arg2 arg3 arg4 arg9 (width i) X2 X3 X4 G9 n) j
      = if (j 0).val < 256 * n then summed i x2 x3 x4 j else arg9.view.read (Elt F) G9 j
  | 0, _, j => by rw [if_neg (by omega)]; rfl
  | n + 1, hn, j => by
    have hk : n < k0_t1_loop.trips := Nat.lt_of_lt_of_eq (by omega) trips1.symm
    rw [gAt, dif_pos hk]
    refine rows_step arg9 _ _ _ _ n (off3_eq ⟨n, hk⟩) (summed i x2 x3 x4) _ (read_gAt G9 n (by omega)) (fun j x e0 e1 => ?_) j
    have hx : (x 0).val < 256 := (x 0).isLt
    have hlt : (j 0).val < 4352 := by omega
    rw [View.readAt_full, View.readAt_full, h3, h4]
    unfold summed
    rw [dif_pos hlt]
    have ht : trip1 (j 0).val hlt = ⟨n, hk⟩ := Fin.ext (show (j 0).val / 256 = n by omega)
    have hxx : (ix2 (⟨(j 0).val % 256, Nat.mod_lt _ (by norm_num)⟩ : Fin 256) (j 1) : S256x128.Idx) = x := by
      funext a
      refine Fin.cases ?_ (fun a => Fin.cases ?_ (fun a => a.elim0) a) a
      · exact Fin.ext (show (j 0).val % 256 = (x 0).val by omega)
      · exact Fin.ext e1
    rw [ht, ← hxx, ← h2]
    rfl

theorem read_dvAt (G5 : BufTy.Contents (Elt F) arg5.view.ty) : ∀ n ≤ 17, ∀ j,
    arg5.view.read (Elt F) (dvAt arg2 arg3 arg4 arg5 X2 X3 X4 G5 n) j
      = if (j 0).val < 256 * n then negated x2 x3 x4 j else arg5.view.read (Elt F) G5 j
  | 0, _, j => by rw [if_neg (by omega)]; rfl
  | n + 1, hn, j => by
    have hk : n < k0_t1_loop.trips := Nat.lt_of_lt_of_eq (by omega) trips1.symm
    rw [dvAt, dif_pos hk]
    refine rows_step arg5 _ _ _ _ n (off2_eq ⟨n, hk⟩) (negated x2 x3 x4) _ (read_dvAt G5 n (by omega)) (fun j x e0 e1 => ?_) j
    have hx : (x 0).val < 256 := (x 0).isLt
    have hlt : (j 0).val < 4352 := by omega
    rw [View.readAt_full, View.readAt_full, h3, h4]
    unfold negated
    have ht : trip1 (j 0).val hlt = ⟨n, hk⟩ := Fin.ext (show (j 0).val / 256 = n by omega)
    have hxx : (ix2 (⟨(j 0).val % 256, Nat.mod_lt _ (by norm_num)⟩ : Fin 256) (j 1) : S256x128.Idx) = x := by
      funext a
      refine Fin.cases ?_ (fun a => Fin.cases ?_ (fun a => a.elim0) a) a
      · exact Fin.ext (show (j 0).val % 256 = (x 0).val by omega)
      · exact Fin.ext e1
    rw [ht, ← hxx, ← h2]
    rfl

omit h3
include h8

theorem read_dwAt (G6 : BufTy.Contents (Elt F) arg6.view.ty) (h6 : arg6.view.read (Elt F) G6 = k0_pay4) : ∀ n,
    arg6.view.read (Elt F) (dwAt arg2 arg4 arg6 arg8 (word i) (width i) X2 X4 X8 G6 n) = dwOut i x1 x2 x4 n
  | 0 => h6
  | n + 1 => by
    rw [dwAt, dwOut]
    split
    · rename_i hk
      refine (View.read_writes_full arg6.view _ _ _ []).trans ?_
      rw [View.readAt_full, View.readAt_full, h4, read_dwAt G6 h6 n, ← h2]
      unfold above
      rw [← h8]
      rfl
    · exact read_dwAt G6 h6 n

omit h4
include h3

theorem read_dsAt (G7 : BufTy.Contents (Elt F) arg7.view.ty) (h7 : arg7.view.read (Elt F) G7 = k0_pay5) : ∀ n,
    arg7.view.read (Elt F) (dsAt arg2 arg3 arg7 arg8 (word i) (width i) X2 X3 X8 G7 n) = dsOut i x1 x2 x3 n
  | 0 => h7
  | n + 1 => by
    rw [dsAt, dsOut]
    split
    · rename_i hk
      refine (View.read_writes_full arg7.view _ _ _ []).trans ?_
      rw [View.readAt_full, View.readAt_full, h3, read_dsAt G7 h7 n, ← h2]
      unfold above
      rw [← h8]
      rfl
    · exact read_dsAt G7 h7 n

omit h2 h3 h8

theorem read_dv2At (X9 : BufTy.Contents (Elt F) arg9.view.ty) (G5 : BufTy.Contents (Elt F) arg5.view.ty)
    (h9 : arg9.view.read (Elt F) X9 = summed i x2 x3 x4) (h5 : arg5.view.read (Elt F) G5 = negated x2 x3 x4) : ∀ n ≤ 17, ∀ j,
    arg5.view.read (Elt F) (dv2At i arg5 arg9 X9 G5 n) j = if (j 0).val < 256 * n then dvOut i x2 x3 x4 j else negated x2 x3 x4 j
  | 0, _, j => by rw [if_neg (by omega), ← h5]; rfl
  | n + 1, hn, j => by
    have hk : n < k0_t2_loop.trips := Nat.lt_of_lt_of_eq (by omega) trips2.symm
    have ih := read_dv2At X9 G5 h9 h5 n (by omega)
    rw [dv2At, dif_pos hk]
    refine rows_step arg5 _ _ _ _ n (off5_eq ⟨n, hk⟩) (dvOut i x2 x3 x4) _ ih (fun j x e0 e1 => ?_) j
    have hx : (x 0).val < 256 := (x 0).isLt
    have hlt : (j 0).val < 4352 := by omega
    have ht : trip2 (j 0).val hlt = ⟨n, hk⟩ := Fin.ext (show (j 0).val / 256 = n by omega)
    have hxx : (ix2 (⟨(j 0).val % 256, Nat.mod_lt _ (by norm_num)⟩ : Fin 256) (j 1) : S256x128.Idx) = x := by
      funext a
      refine Fin.cases ?_ (fun a => Fin.cases ?_ (fun a => a.elim0) a) a
      · exact Fin.ext (show (j 0).val % 256 = (x 0).val by omega)
      · exact Fin.ext e1
    have hwin : VecWindow.window (arg5.view.read (Elt F) (dv2At i arg5 arg9 X9 G5 n)) (k0_off5 ⟨n, hk⟩) S256x128.size (k0_off5_inb ⟨n, hk⟩)
        = VecWindow.window (negated x2 x3 x4) (k0_off5 ⟨n, hk⟩) S256x128.size (k0_off5_inb ⟨n, hk⟩) := by
      funext y
      refine (ih _).trans (if_neg ?_)
      have : (((Rect.unit (s := S4352x128) (k0_off5 ⟨n, hk⟩) S256x128.size (k0_off5_inb ⟨n, hk⟩)).emb y) 0).val = 256 * n + (y 0).val := by
        have e : k0_off5 ⟨n, hk⟩ 0 = 256 * n := congrFun (off5_eq ⟨n, hk⟩) 0
        show k0_off5 ⟨n, hk⟩ 0 + 1 * (y 0).val = _
        omega
      omega
    show _ = dvRows i x2 x3 x4 (trip2 (j 0).val hlt) (ix2 (⟨(j 0).val % 256, Nat.mod_lt _ (by norm_num)⟩ : Fin 256) (j 1) : S256x128.Idx)
    rw [ht, hxx, hwin, h9]
    rfl

end Reads

end Cert.PoolIdeal.Hand

end
-- ==== Proof.Pool.FrameIdeal.lean ====
/- The pooling's gradient: the kernel body run once for every grid point, and the frame. -/
module

public import proofs.«01_k».proof.Proof.Gen.PoolIdeal.Frame.Runs
public import proofs.«01_k».proof.Proof.Pool.LeavesIdeal
public import Idealize.ShloMosaic.Lib.Claim

@[expose] public section

set_option maxRecDepth 16384

noncomputable section

namespace Cert.PoolIdeal.Hand

open Cert.PoolIdeal Cert.PoolIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

set_option maxHeartbeats 2000000 in
/-- The body at any point: over the inputs' blocks it leaves the three gradients, whatever was in the buffers. -/
theorem body_run (c : Dev nD) (i : grid0.Coords) (arg1 : Memref sig .tc .vmem S4352x128 .f32) (harg1 : arg1.IsWhole) (arg2 : Memref sig .tc .vmem S4352x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4352x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S4368x128 .f32) (harg8 : arg8.IsWhole) (arg9 : Memref sig .tc .vmem S4368x128 .f32) (harg9 : arg9.IsWhole)
    (x1 x2 : Vec F S4352x128 .f32) (x3 : Vec F S1x128x128 .f32) (x4 : Vec F S1x1x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (dvOut i x2 x3 x4) ∗ owns (c : Thread nD τ) arg6 fullShare (dwOut i x1 x2 x4 17) ∗ owns (c : Thread nD τ) arg7 fullShare (dsOut i x1 x2 x3 17) ∗ (∃ d, owns (c : Thread nD τ) arg8 fullShare d) ∗ (∃ d, owns (c : Thread nD τ) arg9 fullShare d)) -∗ K ⟨⟩))
      ⊢ wp frame (wpE (defs₀ (F := F)) Variants.none c none) E (cc0_pool_backward i arg1 harg1 arg2 harg2 arg3 harg3 arg4 harg4 arg5 harg5 arg6 harg6 arg7 harg7 arg8 harg8 arg9 harg9) K := by
  simp only [cc0_pool_backward_eq_skeleton]
  unfold cc0_pool_backward_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  sl_exec
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  have e8 : arg8.view.read (Elt F) (arg8.view.writes (Elt F) arg8.view.junk (body_run.sl.H8_2 c arg1 f1)) = padded x1 := by
    sl_unfold_words
    exact read_padded arg8 x1 _ _ (by rw [View.readAt_full, hf1])
  isplitl [H5]
  · iexists _; isplitr; swap
    · iexact H5
    ipureintro
    show arg5.view.read (Elt F) (dv2At i arg5 arg9 (gAt arg2 arg3 arg4 arg9 (width i) f2 f3 f4
      (arg9.view.writes (Elt F) f9 [⟨Rect.unit (s := S4368x128) ![4352, 0] S16x128.size inb_S4368x128_S16x128_4352_0, k0_pay3 (F := F)⟩]) 17)
      (dvAt arg2 arg3 arg4 arg5 f2 f3 f4 f5 17) 17) = _
    funext j
    have hj : (j 0).val < 4352 := (j 0).isLt
    rw [read_dv2At i arg5 arg9 x2 x3 x4 _ _ ?e9 ?e5 17 le_rfl j, if_pos (by omega)]
    case e5 =>
      funext j
      have hj : (j 0).val < 4352 := (j 0).isLt
      rw [read_dvAt arg2 arg3 arg4 arg5 f2 f3 f4 x2 x3 x4 hf2 hf3 hf4 f5 17 le_rfl j, if_pos (by omega)]
    case e9 =>
      funext j
      have hj : (j 0).val < 4368 := (j 0).isLt
      rw [read_gAt i arg2 arg3 arg4 arg9 f2 f3 f4 x2 x3 x4 hf2 hf3 hf4 _ 17 le_rfl j]
      by_cases h : (j 0).val < 256 * 17
      · rw [if_pos h]
      · rw [if_neg h, summed, dif_neg (by omega)]
        exact View.read_writes_cons_rows_of_mem arg9.view f9 _ _ _ j (ix2 ⟨(j 0).val - 4352, by omega⟩ (j 1)) rfl
          (show (j 0).val = 4352 + ((j 0).val - 4352) by omega) rfl
  isplitl [H6]
  · iexists _; isplitr; swap
    · iexact H6
    ipureintro
    exact read_dwAt i arg2 arg4 arg6 arg8 f2 f4 _ x1 x2 x4 hf2 hf4 e8 _ (View.read_writes_full arg6.view _ _ _ []) 17
  isplitl [H7]
  · iexists _; isplitr; swap
    · iexact H7
    ipureintro
    exact read_dsAt i arg2 arg3 arg7 arg8 f2 f3 _ x1 x2 x3 hf2 hf3 e8 _ (View.read_writes_full arg7.view _ _ _ []) 17
  isplitl [H8]
  · iexists _, _; isplitr; swap; · iexact H8
    ipureintro; rfl
  iexists _, _; isplitr; swap; · iexact H9
  ipureintro; rfl

/-! ## The frame -/

variable (m : (ℓ : Loc nD τ sig) → Buf (Elt F) ℓ) (ρ : Dev nD → PrngReg)

/-- The group's gradients at a point, over the blocks the point reads. -/
def leftV (c : Dev nD) (t : Fin cfg0.N) : Vec F S4352x128 .f32 := dvOut (grid0.coords t) (iblk m c 1 t) (iblk m c 2 t) (iblk m c 3 t)
def leftW (c : Dev nD) (t : Fin cfg0.N) : Vec F S1x128x128 .f32 := dwOut (grid0.coords t) (iblk m c 0 t) (iblk m c 1 t) (iblk m c 3 t) 17
def leftS (c : Dev nD) (t : Fin cfg0.N) : Vec F S1x1x128 .f32 := dsOut (grid0.coords t) (iblk m c 0 t) (iblk m c 1 t) (iblk m c 2 t) 17

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => leftV m c t
    | ⟨5, _⟩ => leftW m c t
    | ⟨6, _⟩ => leftS m c t
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = leftV m c t := by dsimp only [dats]
theorem after5 (c : Dev nD) (t : Fin cfg0.N) : (dats m 0 c).after 5 t = leftW m c t := by dsimp only [dats]
theorem after6 (c : Dev nD) (t : Fin cfg0.N) : (dats m 0 c).after 6 t = leftS m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1000000 in
theorem body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5, after6]
  rw [show (dats m 0 c).Φ t.castSucc = Pipeline.ΦA spec0 c from rfl, PhiA0_eq]
  unfold leftV leftW leftS
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ (hs0_0 t) _ (hs0_1 t) _ (hs0_2 t) _ (hs0_3 t) _ (hs0_4 t) _ (hs0_5 t) _ (hs0_6 t) _ (Memref.isWhole_whole _) _ (Memref.isWhole_whole _) (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's entry at a point is the body. -/
theorem table_row (t : Fin cfg0.N) : defs₀ (F := F) .tc cfg0.body (cfg0.bodyArgs t (cfg0.slots t)) = bodyAt0 t := by
  unfold defs₀
  rw [Defs.onTc_tc]

theorem body_obligation (c : Dev nD) : BodyObligation (dats (F := F) m 0 c) (defs₀ (F := F)) Variants.none () Set.univ := fun t => by
  rw [bigSep_W0, bigSep_W0, table_row]
  exact triple_restated (body m c t) rfl .rfl fun _ => .rfl

set_option backward.isDefEq.respectTransparency.types false in
/-- Every run ends with the arrays at what the data say and every counter at zero. -/
theorem run_quiet : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The frame: the arguments end as they began, and every counter at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
      ∧ r.2.sem = fun _ => 0) :=
  θ_run_and (frame_of m ρ (dats m) (A_eq m) (run_main m ρ)) ((θ_run defs _ _).mono (fun _ h => h.2) (run_quiet m ρ))

end Cert.PoolIdeal.Hand

end
-- ==== Proof.Common.Window.lean ====
/- Sums over the last few rows of a sequence: a running sum written as a window, and what the difference of two running
   sums is. -/
module

public import proofs.«01_k».proof.Proof.Common.Real

@[expose] public section

set_option maxRecDepth 16384

noncomputable section

namespace Cert.Common

open Idealize.ShloMosaic

/-! ## Over the reals -/

/-- The difference of two running sums is the sum of the last `w` terms, those before the first being zero. -/
theorem runs_sub (a : ℕ → ℝ) (t w : ℕ) :
    (∑ s ∈ Finset.range (t + 1), a s) - ∑ s ∈ Finset.range (t + 1 - w), a s
      = ∑ j ∈ Finset.range w, if j ≤ t then a (t - j) else 0 := by
  induction w with
  | zero => simp
  | succ w ih =>
    rw [Finset.sum_range_succ (fun j => if j ≤ t then a (t - j) else 0), ← ih]
    by_cases h : w ≤ t
    · have e : t + 1 - w = (t + 1 - (w + 1)) + 1 := by omega
      have e' : t - w = t + 1 - (w + 1) := by omega
      rw [if_pos h, e, Finset.sum_range_succ _ (t + 1 - (w + 1)), e']
      ring
    · rw [if_neg h, show t + 1 - w = 0 by omega, show t + 1 - (w + 1) = 0 by omega]
      ring

/-- What is left of a sequence and minus the sequence `w` later, summed to the end: the `w` terms from the start. -/
theorem tails_sub (y : ℕ → ℝ) (N t w : ℕ) (hy : ∀ s, N ≤ s → y s = 0) :
    ∑ n ∈ Finset.range N, (y (t + n) - y (t + n + w)) = ∑ j ∈ Finset.range w, y (t + j) := by
  induction w with
  | zero => simp
  | succ w ih =>
    rw [Finset.sum_range_succ, ← ih]
    have e : ∀ M, ∑ n ∈ Finset.range M, (y (t + n) - y (t + n + (w + 1)))
        = ∑ n ∈ Finset.range M, (y (t + n) - y (t + n + w)) + y (t + w) - y (t + M + w) := by
      intro M
      induction M with
      | zero => simp
      | succ M ihM =>
        rw [Finset.sum_range_succ, Finset.sum_range_succ, ihM]
        have : t + M + (w + 1) = t + (M + 1) + w := by omega
        rw [this]
        ring
    rw [e N, hy (t + N + w) (by omega)]
    ring

/-! ## A running sum, as the host writes it -/

/-- A fold of additions is the start and the sum. -/
theorem foldl_add {α : Type} (f : α → EReal) : ∀ (l : List α) (v : EReal), l.foldl (fun r n => r + f n) v = v + (l.map f).sum
  | [], v => by simp
  | n :: l, v => by rw [List.foldl_cons, foldl_add f l, List.map_cons, List.sum_cons, add_assoc]

/-- A window that only slides down the rows. -/
theorem window_rows {N G D : ℕ} (lo hi : Fin 4 → ℕ) (hlo : lo 0 = 0 ∧ lo 2 = 0 ∧ lo 3 = 0) (x : FVec Ideal ⟨4, ![1, N, G, D]⟩ .f32)
    (z : FVec Ideal ⟨0, ![]⟩ .f32) (hz : ∀ i, z i = 0)
    (h : (⟨4, ![1, N, G, D]⟩ : Shape).ReduceWindows ![1, N, 1, 1] ![1, 1, 1, 1] lo hi ⟨4, ![1, N, G, D]⟩)
    (hu : 0 < (⟨0, ![]⟩ : Shape).numel) (t : Fin N) (g : Fin G) (d : Fin D) :
    Host.reduceWindowAdd ![1, N, 1, 1] ![1, 1, 1, 1] lo hi x z h hu (ix4 0 t g d)
      = ∑ n : Fin N, if hin : lo 1 ≤ t.val + n.val ∧ t.val + n.val - lo 1 < N then x (ix4 0 ⟨t.val + n.val - lo 1, hin.2⟩ g d) else 0 := by
  obtain ⟨h0, h2, h3⟩ := hlo
  show Host.reduceWindow (· + ·) ![1, N, 1, 1] ![1, 1, 1, 1] lo hi x (fun _ : (⟨0, ![]⟩ : Shape).Idx => z (Shape.Idx.first hu)) h hu (ix4 0 t g d) = _
  let K := (Shape.rowMajor (⟨4, ![1, N, 1, 1]⟩ : Shape)).symm
  unfold Host.reduceWindow
  rw [hz]
  dsimp only
  rw [foldl_add, zero_add, ← List.ofFn_eq_map, List.sum_ofFn]
  refine (Finset.sum_congr rfl fun i _ => ?_).trans ((Equiv.sum_comp (Shape.rowMajor (⟨4, ![1, N, 1, 1]⟩ : Shape)).symm (fun k =>
    if hin : lo 1 ≤ t.val + (k 1).val ∧ t.val + (k 1).val - lo 1 < N then x (ix4 0 ⟨t.val + (k 1).val - lo 1, hin.2⟩ g d) else 0)).trans ?_)
  · have hg := g.isLt
    have hd := d.isLt
    have k0 : (K i 0).val < 1 := (K i 0).isLt
    have k2 : (K i 2).val < 1 := (K i 2).isLt
    have k3 : (K i 3).val < 1 := (K i 3).isLt
    by_cases hin : lo 1 ≤ t.val + (K i 1).val ∧ t.val + (K i 1).val - lo 1 < N
    · rw [dif_pos hin, dif_pos (by
        intro a
        fin_cases a
        · show lo 0 ≤ 0 * 1 + (K i 0).val ∧ 0 * 1 + (K i 0).val - lo 0 < 1; omega
        · show lo 1 ≤ t.val * 1 + (K i 1).val ∧ t.val * 1 + (K i 1).val - lo 1 < N; omega
        · show lo 2 ≤ g.val * 1 + (K i 2).val ∧ g.val * 1 + (K i 2).val - lo 2 < G; omega
        · show lo 3 ≤ d.val * 1 + (K i 3).val ∧ d.val * 1 + (K i 3).val - lo 3 < D; omega)]
      refine congrArg x (funext fun a => Fin.ext ?_)
      fin_cases a
      · show 0 * 1 + (K i 0).val - lo 0 = 0; omega
      · show t.val * 1 + (K i 1).val - lo 1 = t.val + (K i 1).val - lo 1; omega
      · show g.val * 1 + (K i 2).val - lo 2 = g.val; omega
      · show d.val * 1 + (K i 3).val - lo 3 = d.val; omega
    · rw [dif_neg hin, dif_neg (fun hc => hin (by
        have := hc 1
        change lo 1 ≤ t.val * 1 + (K i 1).val ∧ t.val * 1 + (K i 1).val - lo 1 < N at this
        omega))]
  · rw [sum_idx4]
    simp only [Finset.univ_unique, Finset.sum_singleton]
    rfl

/-- A running sum: the window ends at the row. `f` is the column, continued by anything. -/
theorem window_run {N G D : ℕ} (hi : Fin 4 → ℕ) (T : ℕ) (hT : N = T + 1) (x : FVec Ideal ⟨4, ![1, N, G, D]⟩ .f32)
    (z : FVec Ideal ⟨0, ![]⟩ .f32) (hz : ∀ i, z i = 0)
    (h : (⟨4, ![1, N, G, D]⟩ : Shape).ReduceWindows ![1, N, 1, 1] ![1, 1, 1, 1] ![0, T, 0, 0] hi ⟨4, ![1, N, G, D]⟩)
    (hu : 0 < (⟨0, ![]⟩ : Shape).numel) (t : Fin N) (g : Fin G) (d : Fin D) (f : ℕ → EReal) (hf : ∀ s : Fin N, x (ix4 0 s g d) = f s.val) :
    Host.reduceWindowAdd ![1, N, 1, 1] ![1, 1, 1, 1] ![0, T, 0, 0] hi x z h hu (ix4 0 t g d) = ∑ s ∈ Finset.range (t.val + 1), f s := by
  subst hT
  rw [window_rows _ hi ⟨rfl, rfl, rfl⟩ x z hz]
  have ht := t.isLt
  have e : ∀ n : Fin (T + 1), (if hin : (![0, T, 0, 0] : Fin 4 → ℕ) 1 ≤ t.val + n.val ∧ t.val + n.val - (![0, T, 0, 0] : Fin 4 → ℕ) 1 < T + 1
      then x (ix4 0 ⟨t.val + n.val - (![0, T, 0, 0] : Fin 4 → ℕ) 1, hin.2⟩ g d) else 0) = (fun k : ℕ => if T ≤ t.val + k then f (t.val + k - T) else 0) n.val := by
    intro n
    have hn := n.isLt
    show (if hin : T ≤ t.val + n.val ∧ t.val + n.val - T < T + 1 then x (ix4 0 ⟨t.val + n.val - T, hin.2⟩ g d) else 0) = if T ≤ t.val + n.val then f (t.val + n.val - T) else 0
    by_cases h' : T ≤ t.val + n.val
    · rw [dif_pos ⟨h', by omega⟩, if_pos h', hf]
    · rw [dif_neg (fun hc => h' hc.1), if_neg h']
  have hs : ∀ q, q ≤ T → ∑ k ∈ Finset.range (T + 1), (if T ≤ q + k then f (q + k - T) else 0) = ∑ s ∈ Finset.range (q + 1), f s := by
    intro q hq
    rw [show T + 1 = (T - q) + (q + 1) by omega, Finset.sum_range_add,
      Finset.sum_eq_zero (fun k hk => if_neg (by have := Finset.mem_range.mp hk; omega)), zero_add]
    refine Finset.sum_congr rfl fun k _ => ?_
    rw [if_pos (by omega)]
    congr 1
    omega
  rw [Finset.sum_congr rfl fun n _ => e n, Fin.sum_univ_eq_sum_range (fun k : ℕ => if T ≤ t.val + k then f (t.val + k - T) else 0), hs _ (by omega)]

/-- A running sum from the end: the window starts at the row. `f` is the column, zero behind its end. -/
theorem window_tail {N G D : ℕ} (hi : Fin 4 → ℕ) (x : FVec Ideal ⟨4, ![1, N, G, D]⟩ .f32)
    (z : FVec Ideal ⟨0, ![]⟩ .f32) (hz : ∀ i, z i = 0)
    (h : (⟨4, ![1, N, G, D]⟩ : Shape).ReduceWindows ![1, N, 1, 1] ![1, 1, 1, 1] ![0, 0, 0, 0] hi ⟨4, ![1, N, G, D]⟩)
    (hu : 0 < (⟨0, ![]⟩ : Shape).numel) (t : Fin N) (g : Fin G) (d : Fin D) (f : ℕ → EReal) (hf : ∀ s : Fin N, x (ix4 0 s g d) = f s.val)
    (hf0 : ∀ s, N ≤ s → f s = 0) :
    Host.reduceWindowAdd ![1, N, 1, 1] ![1, 1, 1, 1] ![0, 0, 0, 0] hi x z h hu (ix4 0 t g d) = ∑ n ∈ Finset.range N, f (t.val + n) := by
  rw [window_rows _ hi ⟨rfl, rfl, rfl⟩ x z hz, ← Fin.sum_univ_eq_sum_range (fun n : ℕ => f (t.val + n))]
  refine Finset.sum_congr rfl fun n _ => ?_
  show (if hin : 0 ≤ t.val + n.val ∧ t.val + n.val - 0 < N then x (ix4 0 ⟨t.val + n.val - 0, hin.2⟩ g d) else 0) = f (t.val + n.val)
  by_cases h' : t.val + n.val < N
  · rw [dif_pos ⟨Nat.zero_le _, h'⟩, hf]
    rfl
  · rw [dif_neg (fun hc => h' hc.2), hf0 _ (by omega)]

end Cert.Common

end
-- ==== Proof.Pool.Spec.lean ====
/- The pooling's gradient, row by row over the rows behind 240 rows of zeros: the mean of the last rows of a group's
   columns less the row itself, its gradient, and the three results. -/
module

public import proofs.«01_k».proof.Proof.Common.Window

@[expose] public section

set_option maxRecDepth 16384

noncomputable section

namespace Cert.PoolSpec

open Cert.Common Idealize.ShloMosaic

/-- Column `c` of group `g`. -/
abbrev lane (g : Fin 4) (c : Fin 128) : Fin 512 := ⟨g.val * 128 + c.val, by omega⟩

/-- How many rows a group's mean spans, and how many of them a row has before it. -/
def wide (g : Fin 4) : ℕ := 2 ^ (g.val + 1)
def rows (g : Fin 4) (R : ℕ) : ℕ := min (wide g) (max 1 (R - 239))
def recip (g : Fin 4) (R : ℕ) : EReal := ((1 / (rows g R : ℝ) : ℝ) : EReal)

variable (x0 x1 : (⟨2, ![4112, 512]⟩ : Shape).Idx → EReal) (x2 : (⟨4, ![1, 4, 128, 128]⟩ : Shape).Idx → EReal)
  (x3 : (⟨3, ![1, 4, 128]⟩ : Shape).Idx → EReal)

/-- The mean less the row, the product's gradient, and a row's share in the rows it came from. -/
def mean (g : Fin 4) (R : ℕ) (c : Fin 128) : EReal :=
  (∑ j ∈ Finset.range (wide g), padRow x0 (R - j) (lane g c)) * recip g R - padRow x0 R (lane g c)
def dp (g : Fin 4) (R : ℕ) (c : Fin 128) : EReal := ∑ d : Fin 128, padRow x1 R (lane g d) * x3 (ix3 0 g d) * x2 (ix4 0 g c d)
def share (g : Fin 4) (R : ℕ) (c : Fin 128) : EReal := dp x1 x2 x3 g R c * recip g R

/-- The three results. -/
def dv (g : Fin 4) (R : ℕ) (c : Fin 128) : EReal := -dp x1 x2 x3 g R c + ∑ j ∈ Finset.range (wide g), share x1 x2 x3 g (R + j) c
def dw (g : Fin 4) (c d : Fin 128) : EReal := ∑ x : Fin 4112, mean x0 g (x.val + 240) c * (padRow x1 (x.val + 240) (lane g d) * x3 (ix3 0 g d))
def ds (g : Fin 4) (d : Fin 128) : EReal :=
  ∑ x : Fin 4112, padRow x1 (x.val + 240) (lane g d) * ∑ c : Fin 128, mean x0 g (x.val + 240) c * x2 (ix4 0 g c d)

theorem rows_pos (g : Fin 4) (R : ℕ) : (0 : ℝ) < (rows g R : ℝ) := by
  have : 0 < rows g R := lt_min (Nat.pos_of_ne_zero (by unfold wide; positivity)) (lt_max_of_lt_left (by norm_num))
  exact_mod_cast this

variable {x0 x1 x2 x3}

theorem isReal_recip (g : Fin 4) (R : ℕ) : IsReal (recip g R) := isReal_coe _

theorem div_rows {y : EReal} (hy : IsReal y) (g : Fin 4) (R : ℕ) : Ideal.div y ((rows g R : ℝ) : EReal) = y * recip g R := by
  obtain ⟨r, rfl⟩ := hy
  rw [div_coe_coe _ _ (rows_pos g R).ne', recip, ← EReal.coe_mul, mul_one_div]

theorem isReal_dp (h1 : ∀ i, IsReal (x1 i)) (h2 : ∀ i, IsReal (x2 i)) (h3 : ∀ i, IsReal (x3 i)) (g : Fin 4) (R : ℕ) (c : Fin 128) :
    IsReal (dp x1 x2 x3 g R c) :=
  IsReal.sum fun d => ((isReal_padRow x1 h1 R _).mul (h3 _)).mul (h2 _)

theorem isReal_share (h1 : ∀ i, IsReal (x1 i)) (h2 : ∀ i, IsReal (x2 i)) (h3 : ∀ i, IsReal (x3 i)) (g : Fin 4) (R : ℕ) (c : Fin 128) :
    IsReal (share x1 x2 x3 g R c) := (isReal_dp h1 h2 h3 g R c).mul (isReal_recip g R)

theorem share_high (g : Fin 4) (R : ℕ) (hR : 4352 ≤ R) (c : Fin 128) : share x1 x2 x3 g R c = 0 := by
  have e : dp x1 x2 x3 g R c = 0 := Finset.sum_eq_zero fun d _ => by rw [padRow_low x1 (by omega), zero_mul, zero_mul]
  rw [share, e, zero_mul]

/-- The mean from the difference of two running sums. -/
theorem mean_of_runs (h0 : ∀ i, IsReal (x0 i)) (g : Fin 4) (t : ℕ) (c : Fin 128) (n : EReal) (hn : n = ((rows g (t + 240) : ℝ) : EReal)) :
    Ideal.div ((∑ s ∈ Finset.range (t + 1), padRow x0 (s + 240) (lane g c)) - ∑ s ∈ Finset.range (t + 1 - wide g), padRow x0 (s + 240) (lane g c)) n
      - padRow x0 (t + 240) (lane g c) = mean x0 g (t + 240) c := by
  subst hn
  obtain ⟨f, hf⟩ := lift (fun R => isReal_padRow x0 h0 R (lane g c))
  have hf' : ∀ R, padRow x0 R (lane g c) = (f R : EReal) := fun R => congrFun hf R
  rw [div_rows (IsReal.sub (IsReal.sum fun s => isReal_padRow x0 h0 _ _) (IsReal.sum fun s => isReal_padRow x0 h0 _ _)), mean]
  congr 2
  simp only [hf']
  rw [← coe_sum, ← coe_sum, ← coe_sum, ← EReal.coe_sub, runs_sub (fun s => f (s + 240)) t (wide g)]
  congr 1
  refine Finset.sum_congr rfl fun j _ => ?_
  by_cases h : j ≤ t
  · rw [if_pos h, show t - j + 240 = t + 240 - j by omega]
  · rw [if_neg h]
    have z := hf' (t + 240 - j)
    rw [padRow_low x0 (by omega)] at z
    exact_mod_cast z

/-- The input's gradient from the sum of the differences that are left. -/
theorem dv_of_tails (h1 : ∀ i, IsReal (x1 i)) (h2 : ∀ i, IsReal (x2 i)) (h3 : ∀ i, IsReal (x3 i)) (g : Fin 4) (t : ℕ) (c : Fin 128) :
    -dp x1 x2 x3 g (t + 240) c + ∑ n ∈ Finset.range 4112, (share x1 x2 x3 g (t + n + 240) c + -share x1 x2 x3 g (t + n + wide g + 240) c)
      = dv x1 x2 x3 g (t + 240) c := by
  obtain ⟨f, hf⟩ := lift (fun R => isReal_share h1 h2 h3 g R c)
  have hf' : ∀ R, share x1 x2 x3 g R c = (f R : EReal) := fun R => congrFun hf R
  have z : ∀ s, 4112 ≤ s → f (s + 240) = 0 := fun s hs => by
    have z := hf' (s + 240)
    rw [share_high g (s + 240) (by omega)] at z
    exact_mod_cast z.symm
  rw [dv]
  congr 1
  simp only [hf', ← sub_eq_add_neg, ← EReal.coe_sub, ← coe_sum]
  rw [tails_sub (fun s => f (s + 240)) 4112 t (wide g) z]
  congr 1
  exact Finset.sum_congr rfl fun j _ => by rw [show t + j + 240 = t + 240 + j by omega]

end Cert.PoolSpec

end
-- ==== Proof.Pool.Blocks.lean ====
/- The pooling's gradient, kernel side: what the body leaves in its outputs, at an index, in terms of the rows it reads. -/
module

public import proofs.«01_k».proof.Proof.Pool.FrameIdeal
public import proofs.«01_k».proof.Proof.Pool.Spec
public import proofs.«01_k».proof.Proof.Common.Rows
public import Idealize.ShloMosaic.Lib.Pipeline.ValueKit
public import Idealize.ShloMosaic.Lib.Pointwise
public import Idealize.ShloMosaic.Lib.KernelVsHost

@[expose] public section

set_option maxRecDepth 16384

noncomputable section

namespace Cert.PoolIdeal.Tie

open Cert.PoolIdeal Cert.PoolIdeal.Gen Cert.PoolIdeal.Hand Cert.PoolSpec Cert.Common Idealize.ShloMosaic Idealize.ShloMosaic.TcCoe

/-! ## Sums by doubling -/

/-- A block plus itself rotated. -/
abbrev plus (n : BitVec 32) (y : FVec Ideal S272x128 .f32) : FVec Ideal S272x128 .f32 := addf y (dynamicRotate 0 n none y rotates_S272x128_d0)

/-- The doublings a group takes, down the rows and up. -/
def down : Fin 4 → FVec Ideal S272x128 .f32 → FVec Ideal S272x128 .f32
  | ⟨0, _⟩, y => plus 1#32 y
  | ⟨1, _⟩, y => plus 2#32 (plus 1#32 y)
  | ⟨2, _⟩, y => plus 4#32 (plus 2#32 (plus 1#32 y))
  | ⟨_ + 3, _⟩, y => plus 8#32 (plus 4#32 (plus 2#32 (plus 1#32 y)))
def up : Fin 4 → FVec Ideal S272x128 .f32 → FVec Ideal S272x128 .f32
  | ⟨0, _⟩, y => plus 271#32 y
  | ⟨1, _⟩, y => plus 270#32 (plus 271#32 y)
  | ⟨2, _⟩, y => plus 268#32 (plus 270#32 (plus 271#32 y))
  | ⟨_ + 3, _⟩, y => plus 264#32 (plus 268#32 (plus 270#32 (plus 271#32 y)))

section Doubling

variable (c : Fin 128) (e : ℕ → EReal)

theorem down_step (y : FVec Ideal S272x128 .f32) (n : ℕ) (hn : n < 272) (hy : ∀ r : Fin 272, n ≤ r.val + 1 → y (ix2 r c) = ∑ j ∈ Finset.range n, e (r.val - j))
    (w : BitVec 32) (hw : w.toNat = n) (r : Fin 272) (hr : n + n ≤ r.val + 1) : plus w y (ix2 r c) = ∑ j ∈ Finset.range (n + n), e (r.val - j) := by
  have hr' := r.isLt
  show y (ix2 r c) + dynamicRotate 0 w none y rotates_S272x128_d0 (ix2 r c) = _
  rw [dynamicRotate_apply 0 w y rotates_S272x128_d0 (ix2 r c) (ix2 ⟨r.val - n, by omega⟩ c) (fun b => by
    fin_cases b
    · show r.val - n = (r.val + 272 - w.toNat % 272) % 272
      rw [hw, Nat.mod_eq_of_lt hn]
      omega
    · rfl), hy r (by omega), hy _ (by show n ≤ r.val - n + 1; omega), Finset.sum_range_add]
  congr 1
  exact Finset.sum_congr rfl fun j _ => congrArg e (by show r.val - n - j = r.val - (n + j); omega)

theorem up_step (y : FVec Ideal S272x128 .f32) (n : ℕ) (hn : n < 272) (hn0 : 0 < n) (hy : ∀ r : Fin 272, r.val + n ≤ 272 → y (ix2 r c) = ∑ j ∈ Finset.range n, e (r.val + j))
    (w : BitVec 32) (hw : w.toNat = 272 - n) (r : Fin 272) (hr : r.val + (n + n) ≤ 272) : plus w y (ix2 r c) = ∑ j ∈ Finset.range (n + n), e (r.val + j) := by
  have hr' := r.isLt
  show y (ix2 r c) + dynamicRotate 0 w none y rotates_S272x128_d0 (ix2 r c) = _
  rw [dynamicRotate_apply 0 w y rotates_S272x128_d0 (ix2 r c) (ix2 ⟨r.val + n, by omega⟩ c) (fun b => by
    fin_cases b
    · show r.val + n = (r.val + 272 - w.toNat % 272) % 272
      rw [hw, Nat.mod_eq_of_lt (by omega)]
      omega
    · rfl), hy r (by omega), hy _ (by show r.val + n + n ≤ 272; omega), Finset.sum_range_add]
  congr 1
  exact Finset.sum_congr rfl fun j _ => congrArg e (by show r.val + n + j = r.val + (n + j); omega)

variable (y : FVec Ideal S272x128 .f32) (hy : ∀ r : Fin 272, y (ix2 r c) = e r.val)
include hy

theorem down_at (g : Fin 4) (r : Fin 272) (hr : 16 ≤ r.val) : down g y (ix2 r c) = ∑ j ∈ Finset.range (wide g), e (r.val - j) := by
  have s1 := down_step c e y 1 (by norm_num) (fun r _ => by simpa using hy r) 1#32 rfl
  have s2 := down_step c e _ 2 (by norm_num) s1 2#32 rfl
  have s3 := down_step c e _ 4 (by norm_num) s2 4#32 rfl
  have s4 := down_step c e _ 8 (by norm_num) s3 8#32 rfl
  fin_cases g
  · exact s1 r (by omega)
  · exact s2 r (by omega)
  · exact s3 r (by omega)
  · exact s4 r (by omega)

theorem up_at (g : Fin 4) (r : Fin 272) (hr : r.val < 256) : up g y (ix2 r c) = ∑ j ∈ Finset.range (wide g), e (r.val + j) := by
  have s1 := up_step c e y 1 (by norm_num) (by norm_num) (fun r _ => by simpa using hy r) 271#32 rfl
  have s2 := up_step c e _ 2 (by norm_num) (by norm_num) s1 270#32 rfl
  have s3 := up_step c e _ 4 (by norm_num) (by norm_num) s2 268#32 rfl
  have s4 := up_step c e _ 8 (by norm_num) (by norm_num) s3 264#32 rfl
  fin_cases g
  · exact s1 r (by omega)
  · exact s2 r (by omega)
  · exact s3 r (by omega)
  · exact s4 r (by omega)

end Doubling

/-! ## The payloads -/

theorem pay10_eq (g : Fin 4) (v0 : BitVec 32) (k : Fin k0_t1_loop.trips) (y : FVec Ideal S272x128 .f32) :
    k0_pay10 (F := Ideal) (BitVec.ofNat 32 g.val) v0 0#32 1#32 k y
      = subf (mulf (extractStridedSlice S256x128 ![16, 0] (down g y) slices_S272x128_o16_0_S256x128)
          (broadcastTo S256x128 (k0_pay9 (F := Ideal) v0 0#32 1#32 k) broadcasts_S256x1_S256x128))
        (extractStridedSlice S256x128 ![16, 0] y slices_S272x128_o16_0_S256x128) := by
  fin_cases g <;> rfl

theorem pay8_eq (g : Fin 4) (i : grid0.Coords) (hi : (i 0).val = g.val) (y : FVec Ideal S272x128 .f32) (z : FVec Ideal S256x128 .f32) :
    k0_pay8 (F := Ideal) i y z = addf (shapeCast S256x128 z shapeCasts_S256x128_S256x128)
      (extractStridedSlice S256x128 ![0, 0] (up g y) slices_S272x128_o0_0_S256x128) := by
  unfold k0_pay8
  dsimp only
  rw [hi]
  fin_cases g <;> rfl

/-- How many rows a tile's row averages, as the body computes it. -/
theorem rows_word : ∀ (g : Fin 4) (k : Fin 17) (r : Fin 256),
    IntOp.minsi (Scalar.shli 2#32 (BitVec.ofNat 32 g.val)) (IntOp.maxsi 1#32 (IntOp.addi (IntOp.subi (IntOp.addi (Scalar.muli (Scf.iv 0#32 1#32 k) 256#32) (BitVec.ofNat 32 r.val)) 240#32) 1#32))
      = BitVec.ofNat 32 (rows g (256 * k.val + r.val)) := by
  decide +kernel

theorem pay9_at (g : Fin 4) (k : Fin k0_t1_loop.trips) (r : Fin 256) :
    k0_pay9 (F := Ideal) (Scalar.shli 2#32 (BitVec.ofNat 32 g.val)) 0#32 1#32 k (ix2 r 0) = recip g (256 * k.val + r.val) := by
  pointwise [k0_pay9]
  rw [rows_word g k r]
  have hr : rows g (256 * k.val + r.val) ≤ 16 := (min_le_left _ _).trans (by fin_cases g <;> simp [wide])
  have e : (FloatOps.sitofp (F := Ideal) FTy.f32 (BitVec.ofNat 32 (rows g (256 * k.val + r.val))) : EReal) = ((rows g (256 * k.val + r.val) : ℝ) : EReal) := by
    show (((BitVec.ofNat 32 (rows g (256 * k.val + r.val))).toInt : ℝ) : EReal) = _
    have e : (BitVec.ofNat 32 (rows g (256 * k.val + r.val))).toInt = (rows g (256 * k.val + r.val) : ℤ) := by
      rw [BitVec.toInt_eq_toNat_of_lt (by simp only [BitVec.toNat_ofNat]; omega), BitVec.toNat_ofNat, Nat.mod_eq_of_lt (by omega)]
    rw [e]
    norm_cast
  rw [e, ← EReal.coe_one, div_coe_coe _ _ (rows_pos g _).ne']
  rfl

/-! ## A group's blocks -/

section Group

variable {a0 a1 : FVec Ideal S4112x512 .f32} {a2 : FVec Ideal S1x4x128x128 .f32} {a3 : FVec Ideal S1x4x128 .f32}
  (g : Fin 4) (i : grid0.Coords)
  (x1 x2 : Vec Ideal S4352x128 .f32) (x3 : Vec Ideal S1x128x128 .f32) (x4 : Vec Ideal S1x1x128 .f32)

theorem width_eq (hi : (i 0).val = g.val) : width i = Scalar.shli 2#32 (BitVec.ofNat 32 g.val) := by rw [← hi]

theorem tile_at (k : Fin k0_t1_loop.trips) (r : Fin 256) (c : Fin 128) :
    tile x2 k (ix2 r c) = x2 (ix2 ⟨256 * k.val + r.val, by have : k.val < 17 := k.isLt; omega⟩ c) := by
  refine congrArg x2 (funext fun a => Fin.ext ?_)
  have e := off2_eq k
  fin_cases a
  · show k0_off2 k 0 + 1 * r.val = 256 * k.val + r.val
    rw [e]; show 256 * k.val + 1 * r.val = _; omega
  · show k0_off2 k 1 + 1 * c.val = c.val
    rw [e]; show 0 + 1 * c.val = _; omega

theorem above_at (h0 : ∀ r c, x1 (ix2 r c) = padRow a0 r.val (lane g c)) (k : Fin k0_t1_loop.trips) (r : Fin 272) (c : Fin 128) :
    above x1 k (ix2 r c) = if 16 ≤ 256 * k.val + r.val then padRow a0 (256 * k.val + r.val - 16) (lane g c) else 0 := by
  have hk : k.val < 17 := k.isLt
  have e : above x1 k (ix2 r c) = padded x1 (ix2 ⟨256 * k.val + r.val, by omega⟩ c) := by
    refine congrArg (padded x1) (funext fun a => Fin.ext ?_)
    have e := off1_eq k
    fin_cases a
    · show k0_off1 k 0 + 1 * r.val = 256 * k.val + r.val
      rw [e]; show 256 * k.val + 1 * r.val = _; omega
    · show k0_off1 k 1 + 1 * c.val = c.val
      rw [e]; show 0 + 1 * c.val = _; omega
  rw [e, padded]
  by_cases h : 16 ≤ 256 * k.val + r.val
  · rw [if_pos h]
    refine (dif_pos h).trans ?_
    refine Eq.trans ?_ (h0 ⟨256 * k.val + r.val - 16, by omega⟩ c)
    pointwise [k0_pay2]
  · rw [if_neg h]
    refine (dif_neg h).trans ?_
    pointwise [k0_pay1]

theorem pooled_at (h0 : ∀ r c, x1 (ix2 r c) = padRow a0 r.val (lane g c)) (hi : (i 0).val = g.val) (k : Fin k0_t1_loop.trips) (r : Fin 256) (c : Fin 128) :
    pooled (word i) (width i) (above x1 k) k (ix2 r c) = mean a0 g (256 * k.val + r.val) c := by
  have hw : wide g ≤ 16 := by fin_cases g <;> simp [wide]
  rw [width_eq g i hi, pooled, show word i = BitVec.ofNat 32 g.val by rw [← hi], pay10_eq]
  have e : subf (mulf (extractStridedSlice S256x128 ![16, 0] (down g (above x1 k)) slices_S272x128_o16_0_S256x128)
          (broadcastTo S256x128 (k0_pay9 (F := Ideal) (Scalar.shli 2#32 (BitVec.ofNat 32 g.val)) 0#32 1#32 k) broadcasts_S256x1_S256x128))
        (extractStridedSlice S256x128 ![16, 0] (above x1 k) slices_S272x128_o16_0_S256x128) (ix2 r c)
      = down g (above x1 k) (ix2 ⟨16 + r.val, by omega⟩ c) * k0_pay9 (F := Ideal) (Scalar.shli 2#32 (BitVec.ofNat 32 g.val)) 0#32 1#32 k (ix2 r 0)
        - above x1 k (ix2 ⟨16 + r.val, by omega⟩ c) := by
    pointwise
  rw [e, down_at c (fun q => if 16 ≤ 256 * k.val + q then padRow a0 (256 * k.val + q - 16) (lane g c) else 0) _ (above_at g x1 h0 k · c) g _ (by show 16 ≤ 16 + r.val; omega), pay9_at, above_at g x1 h0, mean]
  have e1 : (if 16 ≤ 256 * k.val + (16 + r.val) then padRow a0 (256 * k.val + (16 + r.val) - 16) (lane g c) else 0) = padRow a0 (256 * k.val + r.val) (lane g c) := by
    rw [if_pos (by omega), show 256 * k.val + (16 + r.val) - 16 = 256 * k.val + r.val by omega]
  refine congrArg₂ (· - ·) (congrArg (· * _) (Finset.sum_congr rfl fun j hj => ?_)) e1
  have hj' := Finset.mem_range.mp hj
  show (if 16 ≤ 256 * k.val + (16 + r.val - j) then padRow a0 (256 * k.val + (16 + r.val - j) - 16) (lane g c) else 0) = _
  by_cases h : 16 ≤ 256 * k.val + (16 + r.val - j)
  · rw [if_pos h]
    congr 1
    omega
  · rw [if_neg h, padRow_low a0 (by omega)]

/-- The product's gradient in a tile. -/
theorem dpRows_at (h1 : ∀ r c, x2 (ix2 r c) = padRow a1 r.val (lane g c)) (h2 : ∀ c d, x3 (ix3 0 c d) = a2 (ix4 0 g c d)) (h3 : ∀ d, x4 (ix3 0 0 d) = a3 (ix3 0 g d))
    (k : Fin k0_t1_loop.trips) (r : Fin 256) (c : Fin 128) : dpRows (tile x2 k) x3 x4 (ix2 r c) = dp a1 a2 a3 g (256 * k.val + r.val) c := by
  rw [dpRows, dp]
  have e : k0_pay15 (F := Ideal) (tile x2 k) x4 x3 (ix2 r c) = ∑ d : Fin 128, tile x2 k (ix2 r d) * x4 (ix3 0 0 d) * x3 (ix3 0 c d) := by
    pointwise [k0_pay15, k0_pay12, k0_pay11]
  rw [e]
  exact Finset.sum_congr rfl fun d _ => by rw [tile_at, h1, h2, h3]

theorem summed_at (h1 : ∀ r c, x2 (ix2 r c) = padRow a1 r.val (lane g c)) (h2 : ∀ c d, x3 (ix3 0 c d) = a2 (ix4 0 g c d)) (h3 : ∀ d, x4 (ix3 0 0 d) = a3 (ix3 0 g d))
    (hi : (i 0).val = g.val) (r : Fin 4368) (c : Fin 128) : summed i x2 x3 x4 (ix2 r c) = share a1 a2 a3 g r.val c := by
  unfold summed
  by_cases h : r.val < 4352
  · refine (dif_pos h).trans ?_
    have e : 256 * (trip1 r.val h).val + r.val % 256 = r.val := by show 256 * (r.val / 256) + r.val % 256 = r.val; omega
    rw [width_eq g i hi, gRows]
    have e' : ∀ (k : Fin k0_t1_loop.trips) (p : Fin 256), k0_pay6 (F := Ideal) (dpRows (tile x2 k) x3 x4) (k0_pay16 (k0_pay9 (F := Ideal) (Scalar.shli 2#32 (BitVec.ofNat 32 g.val)) 0#32 1#32 k)) (ix2 p c)
        = share a1 a2 a3 g (256 * k.val + p.val) c := by
      intro k p
      rw [share, ← dpRows_at g x2 x3 x4 h1 h2 h3, ← pay9_at]
      pointwise [k0_pay6, k0_pay16]
    refine (e' _ _).trans ?_
    exact congrArg (share a1 a2 a3 g · c) e
  · refine (dif_neg h).trans ?_
    rw [share_high g r.val (by omega)]
    pointwise [k0_pay3]

theorem negated_at (h1 : ∀ r c, x2 (ix2 r c) = padRow a1 r.val (lane g c)) (h2 : ∀ c d, x3 (ix3 0 c d) = a2 (ix4 0 g c d)) (h3 : ∀ d, x4 (ix3 0 0 d) = a3 (ix3 0 g d))
    (r : Fin 4352) (c : Fin 128) : negated x2 x3 x4 (ix2 r c) = -dp a1 a2 a3 g r.val c := by
  have e : 256 * (trip1 r.val r.isLt).val + r.val % 256 = r.val := by show 256 * (r.val / 256) + r.val % 256 = r.val; omega
  have e' : ∀ (k : Fin k0_t1_loop.trips) (p : Fin 256), k0_pay7 (F := Ideal) (dpRows (tile x2 k) x3 x4) (ix2 p c) = -dp a1 a2 a3 g (256 * k.val + p.val) c := by
    intro k p
    rw [← dpRows_at g x2 x3 x4 h1 h2 h3]
    pointwise [k0_pay7]
    exact zero_sub _
  exact (e' _ _).trans (congrArg (fun R => -dp a1 a2 a3 g R c) e)

/-- The input's gradient, all rows. -/
theorem dvOut_at (h1 : ∀ r c, x2 (ix2 r c) = padRow a1 r.val (lane g c)) (h2 : ∀ c d, x3 (ix3 0 c d) = a2 (ix4 0 g c d)) (h3 : ∀ d, x4 (ix3 0 0 d) = a3 (ix3 0 g d))
    (hi : (i 0).val = g.val) (R : Fin 4352) (c : Fin 128) : dvOut i x2 x3 x4 (ix2 R c) = dv a1 a2 a3 g R.val c := by
  have e : 256 * (trip2 R.val R.isLt).val + R.val % 256 = R.val := by show 256 * (R.val / 256) + R.val % 256 = R.val; omega
  have e' : ∀ (k : Fin k0_t2_loop.trips) (p : Fin 256), dvRows i x2 x3 x4 k (ix2 p c) = dv a1 a2 a3 g (256 * k.val + p.val) c := by
    intro k p
    have hk : k.val < 17 := k.isLt
    have s : ∀ q : Fin 272, VecWindow.window (summed i x2 x3 x4) (k0_off4 k) S272x128.size (k0_off4_inb k) (ix2 q c) = share a1 a2 a3 g (256 * k.val + q.val) c := by
      intro q
      rw [← summed_at g i x2 x3 x4 h1 h2 h3 hi ⟨256 * k.val + q.val, by omega⟩]
      refine congrArg (summed i x2 x3 x4) (funext fun a => Fin.ext ?_)
      have e := off4_eq k
      fin_cases a
      · show k0_off4 k 0 + 1 * q.val = 256 * k.val + q.val
        rw [e]; show 256 * k.val + 1 * q.val = _; omega
      · show k0_off4 k 1 + 1 * c.val = c.val
        rw [e]; show 0 + 1 * c.val = _; omega
    have n : VecWindow.window (negated x2 x3 x4) (k0_off5 k) S256x128.size (k0_off5_inb k) (ix2 p c) = -dp a1 a2 a3 g (256 * k.val + p.val) c := by
      rw [← negated_at g x2 x3 x4 h1 h2 h3 ⟨256 * k.val + p.val, by omega⟩]
      refine congrArg (negated x2 x3 x4) (funext fun a => Fin.ext ?_)
      have e := off5_eq k
      fin_cases a
      · show k0_off5 k 0 + 1 * p.val = 256 * k.val + p.val
        rw [e]; show 256 * k.val + 1 * p.val = _; omega
      · show k0_off5 k 1 + 1 * c.val = c.val
        rw [e]; show 0 + 1 * c.val = _; omega
    rw [dvRows, pay8_eq g i hi, dv, ← n]
    have u := up_at c (fun q => share a1 a2 a3 g (256 * k.val + q) c) _ s g ⟨p.val, by omega⟩ p.isLt
    simp only [← add_assoc] at u
    rw [← u]
    pointwise
  exact (e' _ _).trans (congrArg (fun R => dv a1 a2 a3 g R c) e)

/-- The weight's gradient. -/
theorem dwOut_at (h0 : ∀ r c, x1 (ix2 r c) = padRow a0 r.val (lane g c)) (h1 : ∀ r c, x2 (ix2 r c) = padRow a1 r.val (lane g c)) (h3 : ∀ d, x4 (ix3 0 0 d) = a3 (ix3 0 g d))
    (hi : (i 0).val = g.val) (c d : Fin 128) : dwOut i x1 x2 x4 17 (ix3 0 c d) = dw a0 a1 a3 g c d := by
  have step : ∀ n ≤ 17, dwOut i x1 x2 x4 n (ix3 0 c d) = ∑ k ∈ Finset.range n, ∑ r : Fin 256, mean a0 g (k * 256 + r.val) c * (padRow a1 (k * 256 + r.val) (lane g d) * a3 (ix3 0 g d)) := by
    intro n
    induction n with
    | zero => intro _; rw [Finset.sum_range_zero, dwOut]; pointwise [k0_pay4]
    | succ n ih =>
      intro hn
      have hk : n < k0_t1_loop.trips := Nat.lt_of_lt_of_eq (by omega) trips1.symm
      rw [Finset.sum_range_succ, ← ih (by omega), dwOut, dif_pos hk]
      have e : ∀ (p q : Vec Ideal S256x128 .f32) (w : Vec Ideal S1x128x128 .f32), k0_pay14 (F := Ideal) p q x4 w (ix3 0 c d)
          = w (ix3 0 c d) + ∑ r : Fin 256, p (ix2 r c) * (q (ix2 r d) * x4 (ix3 0 0 d)) := by
        intro p q w
        pointwise [k0_pay14, k0_pay12, k0_pay11]
      rw [e]
      congr 1
      refine Finset.sum_congr rfl fun r _ => ?_
      rw [pooled_at g i x1 h0 hi, tile_at, h1, h3]
      show mean a0 g (256 * n + r.val) c * (padRow a1 (256 * n + r.val) (lane g d) * _) = _
      rw [Nat.mul_comm 256 n]
  rw [step 17 le_rfl, dw, ← sum_tiles (fun R => mean a0 g R c * (padRow a1 R (lane g d) * a3 (ix3 0 g d))) (fun R hR => by rw [padRow_low a1 (by omega), zero_mul, mul_zero]),
    ← Fin.sum_univ_eq_sum_range (fun k => ∑ r : Fin 256, mean a0 g (k * 256 + r.val) c * (padRow a1 (k * 256 + r.val) (lane g d) * a3 (ix3 0 g d)))]

/-- The scale's gradient. -/
theorem dsOut_at (h0 : ∀ r c, x1 (ix2 r c) = padRow a0 r.val (lane g c)) (h1 : ∀ r c, x2 (ix2 r c) = padRow a1 r.val (lane g c)) (h2 : ∀ c d, x3 (ix3 0 c d) = a2 (ix4 0 g c d))
    (hi : (i 0).val = g.val) (d : Fin 128) : dsOut i x1 x2 x3 17 (ix3 0 0 d) = ds a0 a1 a2 g d := by
  have step : ∀ n ≤ 17, dsOut i x1 x2 x3 n (ix3 0 0 d) = ∑ k ∈ Finset.range n, ∑ r : Fin 256, padRow a1 (k * 256 + r.val) (lane g d) * ∑ c : Fin 128, mean a0 g (k * 256 + r.val) c * a2 (ix4 0 g c d) := by
    intro n
    induction n with
    | zero => intro _; rw [Finset.sum_range_zero, dsOut]; pointwise [k0_pay5]
    | succ n ih =>
      intro hn
      have hk : n < k0_t1_loop.trips := Nat.lt_of_lt_of_eq (by omega) trips1.symm
      rw [Finset.sum_range_succ, ← ih (by omega), dsOut, dif_pos hk]
      have e : ∀ (p q : Vec Ideal S256x128 .f32) (w : Vec Ideal S1x1x128 .f32), k0_pay13 (F := Ideal) p x3 q w (ix3 0 0 d)
          = w (ix3 0 0 d) + ∑ r : Fin 256, q (ix2 r d) * ∑ c : Fin 128, p (ix2 r c) * x3 (ix3 0 c d) := by
        intro p q w
        pointwise [k0_pay13, k0_pay11]
      rw [e]
      congr 1
      refine Finset.sum_congr rfl fun r _ => ?_
      rw [tile_at, h1]
      show padRow a1 (256 * n + r.val) (lane g d) * _ = _
      rw [Nat.mul_comm n 256]
      congr 1
      exact Finset.sum_congr rfl fun c _ => by rw [pooled_at g i x1 h0 hi, h2]
  rw [step 17 le_rfl, ds, ← sum_tiles (fun R => padRow a1 R (lane g d) * ∑ c : Fin 128, mean a0 g R c * a2 (ix4 0 g c d)) (fun R hR => by rw [padRow_low a1 (by omega), zero_mul]),
    ← Fin.sum_univ_eq_sum_range (fun k => ∑ r : Fin 256, padRow a1 (k * 256 + r.val) (lane g d) * ∑ c : Fin 128, mean a0 g (k * 256 + r.val) c * a2 (ix4 0 g c d))]

end Group

end Cert.PoolIdeal.Tie

end
-- ==== Proof.Pool.Ref.lean ====
/- The pooling's gradient, reference side: each result of the reference at an index. -/
module

public import proofs.«01_k».proof.Proof.Gen.PoolRefIdeal.Read
public import proofs.«01_k».proof.Proof.Pool.Spec
public import Idealize.ShloMosaic.Lib.Pointwise
public import Idealize.ShloMosaic.Lib.Claim

@[expose] public section

set_option maxRecDepth 16384

noncomputable section

namespace Cert.PoolRefIdeal.Tie

open Cert.PoolRefIdeal.Read
open Cert.PoolRefIdeal Cert.PoolSpec Cert.Common Idealize.ShloMosaic Idealize.ShloMosaic.TcCoe Idealize.SL.Sem

/-- A row number as a float, and the four widths' float words. -/
theorem row_float (t : Fin 4112) : (FloatOps.sitofp (F := Ideal) FTy.f32 (BitVec.ofNat 32 t.val) : EReal) = ((t.val : ℝ) : EReal) := by
  show (((BitVec.ofNat 32 t.val).toInt : ℝ) : EReal) = _
  have e : (BitVec.ofNat 32 t.val).toInt = (t.val : ℤ) := by
    have := t.isLt
    rw [BitVec.toInt_eq_toNat_of_lt (by simp only [BitVec.toNat_ofNat]; omega), BitVec.toNat_ofNat, Nat.mod_eq_of_lt (by omega)]
  rw [e]
  norm_cast

theorem word2 : Ideal.ofBits FTy.f32 0x40000000#32 = ((2 : ℝ) : EReal) := by
  simp [Ideal.ofBits, Ideal.ieee]; norm_num; rw [← EReal.coe_mul]; norm_num
theorem word4 : Ideal.ofBits FTy.f32 0x40800000#32 = ((4 : ℝ) : EReal) := by
  simp [Ideal.ofBits, Ideal.ieee]; norm_num; rw [← EReal.coe_mul]; norm_num
theorem word8 : Ideal.ofBits FTy.f32 0x41000000#32 = ((8 : ℝ) : EReal) := by
  simp [Ideal.ofBits, Ideal.ieee]; norm_num; rw [← EReal.coe_mul]; norm_num
theorem word16 : Ideal.ofBits FTy.f32 0x41800000#32 = ((16 : ℝ) : EReal) := by
  simp [Ideal.ofBits, Ideal.ieee]; norm_num; rw [← EReal.coe_mul]; norm_num

theorem count_eq (g : Fin 4) (t : Fin 4112) (b : ℝ) (hb : b = (wide g : ℝ)) :
    min (1 + (FloatOps.sitofp (F := Ideal) FTy.f32 (BitVec.ofNat 32 t.val) : EReal)) (b : EReal) = ((rows g (t.val + 240) : ℝ) : EReal) := by
  subst hb
  rw [row_float, ← EReal.coe_one, ← EReal.coe_add, ← EReal.coe_strictMono.monotone.map_min, rows]
  congr 1
  have e : max 1 (t.val + 240 - 239) = 1 + t.val := by omega
  rw [e, min_comm, Nat.cast_min]
  norm_cast

section Forward

variable (a0 : FVec Ideal S4112x512 .f32)

/-- The running sum. -/
theorem v3_at (t : Fin 4112) (g : Fin 4) (c : Fin 128) :
    val_main_v3 (F := Ideal) a0 (ix4 0 t g c) = ∑ s ∈ Finset.range (t.val + 1), padRow a0 (s + 240) (lane g c) := by
  unfold val_main_v3
  refine window_run _ 4111 rfl _ _ (fun i => by pointwise [val_main_call0_call0_v0, val_main_call0_call0_cst]) _ _ t g c (fun s => padRow a0 (s + 240) (lane g c)) fun s => ?_
  show _ = padRow a0 (s.val + 240) (lane g c)
  rw [padRow_add]
  pointwise [val_main_v0]

/-- A running sum held back by `w` rows. -/
theorem held (t : Fin 4112) (w : ℕ) (c : Fin 512) :
    (if h : t.val < w then 0 else ∑ s ∈ Finset.range (t.val - w + 1), padRow a0 (s + 240) c)
      = ∑ s ∈ Finset.range (t.val + 1 - w), padRow a0 (s + 240) c := by
  by_cases h : t.val < w
  · rw [dif_pos h, show t.val + 1 - w = 0 by omega, Finset.sum_range_zero]
  · rw [dif_neg h, show t.val - w + 1 = t.val + 1 - w by omega]

theorem v15_at (t : Fin 4112) : val_main_v15 (F := Ideal) (ix3 0 t 0) = ((rows 0 (t.val + 240) : ℝ) : EReal) := by
  rw [← count_eq 0 t 2 (by norm_num [wide]), ← word2]
  pointwise [val_main_v4, val_main_cst, val_main_v5, val_main_v6, val_main_v7, val_main_v8, val_main_cst_0,
    val_main_v9, val_main_v10, val_main_cst_1, val_main_v11, val_main_v12, val_main_cst_2, val_main_v13,
    val_main_v14, val_main_v15]

theorem v21_at (h0 : ∀ i, IsReal (a0 i)) (t : Fin 4112) (c : Fin 128) : val_main_v21 (F := Ideal) a0 (ix3 0 t c) = mean a0 0 (t.val + 240) c := by
  rw [← mean_of_runs h0 0 t.val c _ (v15_at t), ← held, padRow_add]
  pointwise [val_main_v7, val_main_v8, val_main_cst_0, val_main_v9, val_main_v10, val_main_cst_1, val_main_v11,
    val_main_v12, val_main_cst_2, val_main_v16, val_main_v17, val_main_v18, val_main_v19, val_main_v20,
    val_main_v21, val_main_v0]
  simp only [v3_at]
  refine congrArg₂ (fun x y => Ideal.div x _ - a0 (ix2 t y)) rfl (Fin.ext ?_)
  show _ = 0 * 128 + c.val
  dsimp only
  omega

theorem v30_at (t : Fin 4112) : val_main_v30 (F := Ideal) (ix3 0 t 0) = ((rows 1 (t.val + 240) : ℝ) : EReal) := by
  rw [← count_eq 1 t 4 (by norm_num [wide]), ← word4]
  pointwise [val_main_v4, val_main_cst, val_main_v5, val_main_v6, val_main_v22, val_main_v23, val_main_cst_3,
    val_main_v24, val_main_v25, val_main_cst_4, val_main_v26, val_main_v27, val_main_cst_5, val_main_v28,
    val_main_v29, val_main_v30]

theorem v36_at (h0 : ∀ i, IsReal (a0 i)) (t : Fin 4112) (c : Fin 128) : val_main_v36 (F := Ideal) a0 (ix3 0 t c) = mean a0 1 (t.val + 240) c := by
  rw [← mean_of_runs h0 1 t.val c _ (v30_at t), ← held, padRow_add]
  pointwise [val_main_v22, val_main_v23, val_main_cst_3, val_main_v24, val_main_v25, val_main_cst_4, val_main_v26,
    val_main_v27, val_main_cst_5, val_main_v31, val_main_v32, val_main_v33, val_main_v34, val_main_v35,
    val_main_v36, val_main_v0]
  simp only [v3_at]
  refine congrArg₂ (fun x y => Ideal.div x _ - a0 (ix2 t y)) rfl (Fin.ext ?_)
  show _ = 1 * 128 + c.val
  dsimp only

theorem v45_at (t : Fin 4112) : val_main_v45 (F := Ideal) (ix3 0 t 0) = ((rows 2 (t.val + 240) : ℝ) : EReal) := by
  rw [← count_eq 2 t 8 (by norm_num [wide]), ← word8]
  pointwise [val_main_v4, val_main_cst, val_main_v5, val_main_v6, val_main_v37, val_main_v38, val_main_cst_6,
    val_main_v39, val_main_v40, val_main_cst_7, val_main_v41, val_main_v42, val_main_cst_8, val_main_v43,
    val_main_v44, val_main_v45]

theorem v51_at (h0 : ∀ i, IsReal (a0 i)) (t : Fin 4112) (c : Fin 128) : val_main_v51 (F := Ideal) a0 (ix3 0 t c) = mean a0 2 (t.val + 240) c := by
  rw [← mean_of_runs h0 2 t.val c _ (v45_at t), ← held, padRow_add]
  pointwise [val_main_v37, val_main_v38, val_main_cst_6, val_main_v39, val_main_v40, val_main_cst_7, val_main_v41,
    val_main_v42, val_main_cst_8, val_main_v46, val_main_v47, val_main_v48, val_main_v49, val_main_v50,
    val_main_v51, val_main_v0]
  simp only [v3_at]
  refine congrArg₂ (fun x y => Ideal.div x _ - a0 (ix2 t y)) rfl (Fin.ext ?_)
  show _ = 2 * 128 + c.val
  dsimp only

theorem v60_at (t : Fin 4112) : val_main_v60 (F := Ideal) (ix3 0 t 0) = ((rows 3 (t.val + 240) : ℝ) : EReal) := by
  rw [← count_eq 3 t 16 (by norm_num [wide]), ← word16]
  pointwise [val_main_v4, val_main_cst, val_main_v5, val_main_v6, val_main_v52, val_main_v53, val_main_cst_9,
    val_main_v54, val_main_v55, val_main_cst_10, val_main_v56, val_main_v57, val_main_cst_11, val_main_v58,
    val_main_v59, val_main_v60]

theorem v66_at (h0 : ∀ i, IsReal (a0 i)) (t : Fin 4112) (c : Fin 128) : val_main_v66 (F := Ideal) a0 (ix3 0 t c) = mean a0 3 (t.val + 240) c := by
  rw [← mean_of_runs h0 3 t.val c _ (v60_at t), ← held, padRow_add]
  pointwise [val_main_v52, val_main_v53, val_main_cst_9, val_main_v54, val_main_v55, val_main_cst_10, val_main_v56,
    val_main_v57, val_main_cst_11, val_main_v61, val_main_v62, val_main_v63, val_main_v64, val_main_v65,
    val_main_v66, val_main_v0]
  simp only [v3_at]
  refine congrArg₂ (fun x y => Ideal.div x _ - a0 (ix2 t y)) rfl (Fin.ext ?_)
  show _ = 3 * 128 + c.val
  dsimp only

/-- The four groups' means, side by side. -/
theorem v71_at (h0 : ∀ i, IsReal (a0 i)) (t : Fin 4112) (g : Fin 4) (c : Fin 128) :
    val_main_v71 (F := Ideal) a0 (ix4 0 t g c) = mean a0 g (t.val + 240) c := by
  fin_cases g
  · refine Eq.trans ?_ (v21_at a0 h0 t c)
    pointwise [val_main_v71, val_main_v67, val_main_v68, val_main_v69, val_main_v70]
  · refine Eq.trans ?_ (v36_at a0 h0 t c)
    pointwise [val_main_v71, val_main_v67, val_main_v68, val_main_v69, val_main_v70]
  · refine Eq.trans ?_ (v51_at a0 h0 t c)
    pointwise [val_main_v71, val_main_v67, val_main_v68, val_main_v69, val_main_v70]
  · refine Eq.trans ?_ (v66_at a0 h0 t c)
    pointwise [val_main_v71, val_main_v67, val_main_v68, val_main_v69, val_main_v70]

end Forward

section Backward

variable (a1 : FVec Ideal S4112x512 .f32) (a2 : FVec Ideal S1x4x128x128 .f32) (a3 : FVec Ideal S1x4x128 .f32)

/-- The product's gradient. -/
theorem v87_at (t : Fin 4112) (g : Fin 4) (c : Fin 128) : val_main_v87 (F := Ideal) a1 a2 a3 (ix4 0 t g c) = dp a1 a2 a3 g (t.val + 240) c := by
  unfold dp
  simp only [padRow_add]
  pointwise [val_main_v87, val_main_v86, val_main_v85, val_main_v83, val_main_v82, val_main_v78, val_main_v74, val_main_v75, val_main_v76, val_main_v77, val_main_v2, val_main_v1]

theorem dp_high (g : Fin 4) (R : ℕ) (hR : 4352 ≤ R) (c : Fin 128) : share a1 a2 a3 g R c = 0 := share_high g R hR c

/-- What is subtracted `w` rows on, where there is such a row. -/
theorem ahead (h1 : ∀ i, IsReal (a1 i)) (h2 : ∀ i, IsReal (a2 i)) (h3 : ∀ i, IsReal (a3 i)) (t : Fin 4112) (w : ℕ) (g : Fin 4) (c : Fin 128) :
    (if h : w + t.val < 4112 then -Ideal.div (dp a1 a2 a3 g ((⟨w + t.val, h⟩ : Fin 4112).val + 240) c) ((rows g ((⟨w + t.val, h⟩ : Fin 4112).val + 240) : ℝ) : EReal) else 0)
      = -share a1 a2 a3 g (t.val + w + 240) c := by
  by_cases h : w + t.val < 4112
  · have e : w + t.val = t.val + w := Nat.add_comm _ _
    rw [dif_pos h, div_rows (isReal_dp h1 h2 h3 _ _ _), share]
    show -(dp a1 a2 a3 g (w + t.val + 240) c * recip g (w + t.val + 240)) = _
    rw [e]
  · rw [dif_neg h, share_high g _ (by omega)]; simp

theorem v148_at (h1 : ∀ i, IsReal (a1 i)) (h2 : ∀ i, IsReal (a2 i)) (h3 : ∀ i, IsReal (a3 i)) (t : Fin 4112) (c : Fin 128) :
    val_main_v148 (F := Ideal) a1 a2 a3 (ix3 0 t c) = share a1 a2 a3 0 (t.val + 240) c + -share a1 a2 a3 0 (t.val + wide 0 + 240) c := by
  rw [← ahead a1 a2 a3 h1 h2 h3 t (wide 0) 0 c]
  pointwise [val_main_v142, val_main_v143, val_main_v144, val_main_cst_24, val_main_v145, val_main_v146, val_main_v147,
    val_main_v148, val_main_v90, val_main_v91]
  simp only [v87_at, v15_at]
  rw [div_rows (isReal_dp h1 h2 h3 _ _ _)]
  rfl

theorem v134_at (h1 : ∀ i, IsReal (a1 i)) (h2 : ∀ i, IsReal (a2 i)) (h3 : ∀ i, IsReal (a3 i)) (t : Fin 4112) (c : Fin 128) :
    val_main_v134 (F := Ideal) a1 a2 a3 (ix3 0 t c) = share a1 a2 a3 1 (t.val + 240) c + -share a1 a2 a3 1 (t.val + wide 1 + 240) c := by
  rw [← ahead a1 a2 a3 h1 h2 h3 t (wide 1) 1 c]
  pointwise [val_main_v128, val_main_v129, val_main_v130, val_main_cst_21, val_main_v131, val_main_v132, val_main_v133,
    val_main_v134, val_main_v92, val_main_v93]
  simp only [v87_at, v30_at]
  rw [div_rows (isReal_dp h1 h2 h3 _ _ _)]
  rfl

theorem v120_at (h1 : ∀ i, IsReal (a1 i)) (h2 : ∀ i, IsReal (a2 i)) (h3 : ∀ i, IsReal (a3 i)) (t : Fin 4112) (c : Fin 128) :
    val_main_v120 (F := Ideal) a1 a2 a3 (ix3 0 t c) = share a1 a2 a3 2 (t.val + 240) c + -share a1 a2 a3 2 (t.val + wide 2 + 240) c := by
  rw [← ahead a1 a2 a3 h1 h2 h3 t (wide 2) 2 c]
  pointwise [val_main_v114, val_main_v115, val_main_v116, val_main_cst_18, val_main_v117, val_main_v118, val_main_v119,
    val_main_v120, val_main_v94, val_main_v95]
  simp only [v87_at, v45_at]
  rw [div_rows (isReal_dp h1 h2 h3 _ _ _)]
  rfl

theorem v107_at (h1 : ∀ i, IsReal (a1 i)) (h2 : ∀ i, IsReal (a2 i)) (h3 : ∀ i, IsReal (a3 i)) (t : Fin 4112) (c : Fin 128) :
    val_main_v107 (F := Ideal) a1 a2 a3 (ix3 0 t c) = share a1 a2 a3 3 (t.val + 240) c + -share a1 a2 a3 3 (t.val + wide 3 + 240) c := by
  rw [← ahead a1 a2 a3 h1 h2 h3 t (wide 3) 3 c]
  pointwise [val_main_v101, val_main_v102, val_main_v103, val_main_cst_15, val_main_v104, val_main_v105, val_main_v106,
    val_main_v107, val_main_v96, val_main_v97]
  simp only [v87_at, v60_at]
  rw [div_rows (isReal_dp h1 h2 h3 _ _ _)]
  rfl

/-- The four groups' differences, and their gradients' negatives, side by side. -/
theorem v151_at (h1 : ∀ i, IsReal (a1 i)) (h2 : ∀ i, IsReal (a2 i)) (h3 : ∀ i, IsReal (a3 i)) (t : Fin 4112) (g : Fin 4) (c : Fin 128) :
    val_main_v151 (F := Ideal) a1 a2 a3 (ix4 0 t g c) = share a1 a2 a3 g (t.val + 240) c + -share a1 a2 a3 g (t.val + wide g + 240) c := by
  fin_cases g
  · refine Eq.trans ?_ (v148_at a1 a2 a3 h1 h2 h3 t c)
    pointwise [val_main_v151, val_main_v150, val_main_v149, val_main_v137, val_main_v136, val_main_v135, val_main_v123,
    val_main_v122, val_main_v121, val_main_v109, val_main_v108, val_main_cst_16, val_main_cst_19, val_main_cst_22,
    val_main_cst_25]
  · refine Eq.trans ?_ (v134_at a1 a2 a3 h1 h2 h3 t c)
    pointwise [val_main_v151, val_main_v150, val_main_v149, val_main_v137, val_main_v136, val_main_v135, val_main_v123,
    val_main_v122, val_main_v121, val_main_v109, val_main_v108, val_main_cst_16, val_main_cst_19, val_main_cst_22,
    val_main_cst_25]
  · refine Eq.trans ?_ (v120_at a1 a2 a3 h1 h2 h3 t c)
    pointwise [val_main_v151, val_main_v150, val_main_v149, val_main_v137, val_main_v136, val_main_v135, val_main_v123,
    val_main_v122, val_main_v121, val_main_v109, val_main_v108, val_main_cst_16, val_main_cst_19, val_main_cst_22,
    val_main_cst_25]
  · refine Eq.trans ?_ (v107_at a1 a2 a3 h1 h2 h3 t c)
    pointwise [val_main_v151, val_main_v150, val_main_v149, val_main_v137, val_main_v136, val_main_v135, val_main_v123,
    val_main_v122, val_main_v121, val_main_v109, val_main_v108, val_main_cst_16, val_main_cst_19, val_main_cst_22,
    val_main_cst_25]

theorem v141_at (t : Fin 4112) (g : Fin 4) (c : Fin 128) :
    val_main_v141 (F := Ideal) a1 a2 a3 (ix4 0 t g c) = -dp a1 a2 a3 g (t.val + 240) c := by
  rw [← v87_at]
  fin_cases g <;> pointwise [val_main_v141, val_main_v140, val_main_v139, val_main_v138, val_main_v127, val_main_v126, val_main_v125,
    val_main_v124, val_main_v113, val_main_v112, val_main_v111, val_main_v110, val_main_v100, val_main_v99,
    val_main_v98, val_main_v90, val_main_v91, val_main_v92, val_main_v93, val_main_v94, val_main_v95,
    val_main_v96, val_main_v97, val_main_cst_14, val_main_cst_17, val_main_cst_20, val_main_cst_23] <;> simp

/-- The three results. -/
theorem v153_at (h1 : ∀ i, IsReal (a1 i)) (h2 : ∀ i, IsReal (a2 i)) (h3 : ∀ i, IsReal (a3 i)) (t : Fin 4112) (g : Fin 4) (c : Fin 128) :
    val_main_v153 (F := Ideal) a1 a2 a3 (ix4 0 t g c) = dv a1 a2 a3 g (t.val + 240) c := by
  rw [← dv_of_tails h1 h2 h3, ← v141_at]
  have e : val_main_v152 (F := Ideal) a1 a2 a3 (ix4 0 t g c)
      = ∑ n ∈ Finset.range 4112, (share a1 a2 a3 g (t.val + n + 240) c + -share a1 a2 a3 g (t.val + n + wide g + 240) c) := by
    unfold val_main_v152
    exact window_tail _ _ _ (fun i => by pointwise [val_main_call1_call0_v0, val_main_call1_call0_cst]) _ _ t g c
      (fun s => share a1 a2 a3 g (s + 240) c + -share a1 a2 a3 g (s + wide g + 240) c) (fun s => v151_at a1 a2 a3 h1 h2 h3 s g c)
      fun s hs => by rw [share_high g _ (by omega), share_high g _ (by omega)]; simp
  rw [← e]
  rfl

theorem v157_at (h1 : ∀ i, IsReal (a1 i)) (h2 : ∀ i, IsReal (a2 i)) (h3 : ∀ i, IsReal (a3 i)) (R : Fin 4352) (hR : 240 ≤ R.val) (g : Fin 4) (c : Fin 128) :
    dv a1 a2 a3 g R.val c = val_main_v157 (F := Ideal) a1 a2 a3 (ix2 R (lane g c)) := by
  have e := v153_at a1 a2 a3 h1 h2 h3 ⟨R.val - 240, by omega⟩ g c
  rw [show (⟨R.val - 240, by omega⟩ : Fin 4112).val + 240 = R.val from Nat.sub_add_cancel hR] at e
  rw [← e]
  pointwise [val_main_v157, val_main_v156, val_main_call2_v0, val_main_c]
  have hc : (240 ≤ R.val ∧ R.val - 240 < 4112) ∧ g.val * 128 + c.val < 512 := by omega
  split
  · rfl
  · rename_i hn
    exact absurd hc hn

end Backward

variable (a0 a1 : FVec Ideal S4112x512 .f32) (a2 : FVec Ideal S1x4x128x128 .f32) (a3 : FVec Ideal S1x4x128 .f32)

theorem v158_at (h0 : ∀ i, IsReal (a0 i)) (g : Fin 4) (c d : Fin 128) : dw a0 a1 a3 g c d = val_main_v158 (F := Ideal) a0 a1 a3 (ix3 g c d) := by
  unfold dw
  simp only [padRow_add, ← v71_at a0 h0]
  pointwise [val_main_v85, val_main_v158, val_main_v155, val_main_v89, val_main_v88, val_main_v83, val_main_v82, val_main_v78, val_main_v74, val_main_v75, val_main_v76, val_main_v77, val_main_v2]
  simp only [Finset.univ_unique, Finset.sum_singleton]
  exact Finset.sum_congr rfl fun x _ => mul_comm (_ : EReal) _

/-- A sum over two axes of extent one. -/
theorem sum_units (h : (⟨4, ![1, 1, 4, 128]⟩ : Shape).ReducesTo [0, 1] ⟨2, ![4, 128]⟩) (v : (⟨4, ![1, 1, 4, 128]⟩ : Shape).Idx → EReal) (g : Fin 4) (d : Fin 128) :
    Ideal.hostReduceAdd h v 0 (ix2 g d) = v (ix4 0 0 g d) := by
  have e : ∀ i, h.drop i = ix2 g d ↔ i = ix4 0 0 g d := fun i => by
    constructor
    · intro e
      have i0 : (i 0).val < 1 := (i 0).isLt
      have i1 : (i 1).val < 1 := (i 1).isLt
      funext a
      apply Fin.ext
      match a with
      | ⟨0, _⟩ => show (i 0).val = 0; omega
      | ⟨1, _⟩ => show (i 1).val = 0; omega
      | ⟨2, _⟩ => exact congrArg Fin.val (congrFun e 0)
      | ⟨3, _⟩ => exact congrArg Fin.val (congrFun e 1)
    · rintro rfl
      funext b
      apply Fin.ext
      match b with
      | ⟨0, _⟩ => rfl
      | ⟨1, _⟩ => rfl
  rw [Ideal.hostReduceAdd, zero_add, Finset.filter_congr fun i _ => e i, Finset.filter_eq' Finset.univ, if_pos (Finset.mem_univ _), Finset.sum_singleton]

theorem v79_at (t : Fin 4112) (g : Fin 4) (d : Fin 128) :
    val_main_v79 (F := Ideal) a0 a1 a2 (ix4 0 t g d)
      = (∑ c : Fin 128, a2 (ix4 0 g c d) * val_main_v71 (F := Ideal) a0 (ix4 0 t g c)) * a1 (ix2 t (lane g d)) := by
  pointwise [val_main_v79, val_main_v73, val_main_v72, val_main_v78, val_main_v1]

theorem v81_at (g : Fin 4) (d : Fin 128) :
    val_main_v81 (F := Ideal) a0 a1 a2 (ix4 0 0 g d) = ∑ t : Fin 4112, val_main_v79 (F := Ideal) a0 a1 a2 (ix4 0 t g d) := by
  pointwise [val_main_v81, val_main_v80, val_main_cst_12]

theorem v159_at (h0 : ∀ i, IsReal (a0 i)) (g : Fin 4) (d : Fin 128) : ds a0 a1 a2 g d = val_main_v159 (F := Ideal) a0 a1 a2 (ix3 g 0 d) := by
  unfold ds
  simp only [padRow_add, ← v71_at a0 h0]
  have e : val_main_v159 (F := Ideal) a0 a1 a2 (ix3 g 0 d) = val_main_v81 (F := Ideal) a0 a1 a2 (ix4 0 0 g d) := by
    pointwise [val_main_v159, val_main_v154, val_main_v84, val_main_cst_13]
    exact sum_units _ _ g d
  rw [e, v81_at]
  refine Finset.sum_congr rfl fun t _ => ?_
  rw [v79_at, mul_comm]
  congr 1
  exact Finset.sum_congr rfl fun c _ => mul_comm _ _

/-- The reference's run, its results named by their stages. -/
theorem run_read (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v157) = val_main_v157 (F := Ideal) (m (c.tc.loc main_arg1)) (m (c.tc.loc main_arg2)) (m (c.tc.loc main_arg3))
      ∧ r.2.mem (c.tc.loc main_v158) = val_main_v158 (F := Ideal) (m (c.tc.loc main_arg0)) (m (c.tc.loc main_arg1)) (m (c.tc.loc main_arg3))
      ∧ r.2.mem (c.tc.loc main_v159) = val_main_v159 (F := Ideal) (m (c.tc.loc main_arg0)) (m (c.tc.loc main_arg1)) (m (c.tc.loc main_arg2))
      ∧ r.2.mem (c.tc.loc main_arg0) = (m (c.tc.loc main_arg0))
      ∧ r.2.mem (c.tc.loc main_arg1) = (m (c.tc.loc main_arg1))
      ∧ r.2.mem (c.tc.loc main_arg2) = (m (c.tc.loc main_arg2))
      ∧ r.2.mem (c.tc.loc main_arg3) = (m (c.tc.loc main_arg3)) :=
  (θ_run _ _ _).mono (fun r h c => ⟨(h c).1.trans (val_main_v157_eq _), (h c).2.1.trans (val_main_v158_eq _),
    (h c).2.2.1.trans (val_main_v159_eq _), (h c).2.2.2⟩) (Value.run m ρ)

end Cert.PoolRefIdeal.Tie

end
-- ==== Proof.Pool.Value.lean ====
/- The pooling layer's gradient: the kernel's three arrays are the reference's, the first at its sequence rows. -/
module

public import proofs.«01_k».proof.Defs
public import proofs.«01_k».proof.Proof.Pool.Blocks
public import proofs.«01_k».proof.Proof.Pool.Ref
public import proofs.«01_k».proof.Proof.Common.Congr
public import proofs.«01_k».proof.Proof.Gen.Pre_pool_finite
public import proofs.«01_k».proof.Proof.Gen.On_sequence_rows
public import Idealize.ShloMosaic.Lib.Pipeline.ValueKit
public import Idealize.ShloMosaic.Lib.Pointwise
public import Idealize.ShloMosaic.Lib.Claim

@[expose] public section

set_option maxRecDepth 16384

noncomputable section

namespace Cert.PoolIdeal.Tie

open Cert.PoolRefIdeal.Read
open Cert.PoolIdeal Cert.PoolIdeal.Gen Cert.PoolIdeal.Hand Cert.PoolSpec Cert.Common Idealize.ShloMosaic Idealize.ShloMosaic.TcCoe Idealize.SL.Sem
open Idealize.ShloMosaic.Pipeline (Dat)

/-- The precondition, read off: every argument is finite. -/
theorem finite_args (a0 a1 : FVec Ideal S4112x512 .f32) (a2 : FVec Ideal S1x4x128x128 .f32) (a3 : FVec Ideal S1x4x128 .f32)
    (h : Cert.Pre_pool_finite.fn (F := Ideal) a0 a1 a2 a3 = fun _ => 1#1) :
    (∀ i, IsReal (a0 i)) ∧ (∀ i, IsReal (a1 i)) ∧ (∀ i, IsReal (a2 i)) ∧ (∀ i, IsReal (a3 i)) := by
  haveI : Subsingleton Cert.Pre_pool_finite.S_.Idx := ⟨fun i j => funext fun a => a.elim0⟩
  dsimp only [Cert.Pre_pool_finite.fn] at h
  have e := congrFun h (fun a => a.elim0)
  obtain ⟨e, h3⟩ := IntOp.andi_eq_one.1 e
  obtain ⟨e, h2⟩ := IntOp.andi_eq_one.1 e
  obtain ⟨e, h1⟩ := IntOp.andi_eq_one.1 e
  obtain ⟨-, h0⟩ := IntOp.andi_eq_one.1 e
  exact ⟨finite_of_all _ _ (fun _ => ofBits_inf) _ _ _ _ h0, finite_of_all _ _ (fun _ => ofBits_inf) _ _ _ _ h1,
    finite_of_all _ _ (fun _ => ofBits_inf) _ _ _ _ h2, finite_of_all _ _ (fun _ => ofBits_inf) _ _ _ _ h3⟩

variable (m : (ℓ : Loc nD τ sig) → Buf (Elt Ideal) ℓ)

/-- Each window's block index at every grid point: the group. -/
theorem idx : ∀ t : Fin cfg0.N, win0_0.index t = ![0, t.val] ∧ win0_1.index t = ![0, t.val] ∧ win0_2.index t = ![t.val, 0, 0]
    ∧ win0_3.index t = ![t.val, 0, 0] ∧ win0_4.index t = ![0, t.val] ∧ win0_5.index t = ![t.val, 0, 0] ∧ win0_6.index t = ![t.val, 0, 0] :=
  (by decide +kernel : ∀ t : Fin grid0.N, _)

/-- The group of a grid point. -/
abbrev grp (t : Fin cfg0.N) : Fin 4 := ⟨t.val, lt_of_lt_of_eq t.isLt N_0⟩

theorem coord : ∀ t : Fin cfg0.N, ((grid0.coords t) 0).val = t.val := (by decide +kernel : ∀ t : Fin grid0.N, _)

/-! ## What the host lines leave, and the blocks -/

theorem padAt (a : FVec Ideal S4112x512 .f32) (R : Fin 4352) (k : Fin 512) :
    pad S4352x512 ![240, 0] ![0, 0] ![0, 0] a (sitofp (F := Ideal) .f32 (constantI S_ 32 0#32)) pads_S4112x512_S4352x512_24000_000 h_S_ (ix2 R k)
      = padRow a R.val k := by
  pointwise; simp only [padRow, Common.sitofp_zero]

theorem V0 (c : Dev nD) : V m c main_v0 = pad S4352x512 ![240, 0] ![0, 0] ![0, 0] (m (c.tc.loc main_arg0))
    (sitofp (F := Ideal) .f32 (constantI S_ 32 0#32)) pads_S4112x512_S4352x512_24000_000 h_S_ := by
  unfold_abbrev_sides
  simp only [List.flatten_cons, List.flatten_nil, List.append_nil, List.cons_append, List.nil_append]
  after_results
  rfl

theorem V1 (c : Dev nD) : V m c main_v1 = pad S4352x512 ![240, 0] ![0, 0] ![0, 0] (m (c.tc.loc main_arg1))
    (sitofp (F := Ideal) .f32 (constantI S_ 32 0#32)) pads_S4112x512_S4352x512_24000_000 h_S_ := by
  unfold_abbrev_sides
  simp only [List.flatten_cons, List.flatten_nil, List.append_nil, List.cons_append, List.nil_append]
  after_results
  rfl

theorem V2 (c : Dev nD) (g : Fin 4) (r d : Fin 128) : V m c main_v2 (ix3 g r d) = (m (c.tc.loc main_arg2)) (ix4 0 g r d) := by
  unfold_abbrev_sides
  simp only [List.flatten_cons, List.flatten_nil, List.append_nil, List.cons_append, List.nil_append]
  after_results
  pointwise

theorem V4 (c : Dev nD) (g : Fin 4) (d : Fin 128) : V m c main_v4 (ix3 g 0 d) = (m (c.tc.loc main_arg3)) (ix3 0 g d) := by
  unfold_abbrev_sides
  simp only [List.flatten_cons, List.flatten_nil, List.append_nil, List.cons_append, List.nil_append]
  after_results
  pointwise

theorem b0 (c : Dev nD) (t : Fin cfg0.N) (r : Fin 4352) (k : Fin 128) :
    iblk m c 0 t (ix2 r k) = padRow (m (c.tc.loc main_arg0)) r.val (lane (grp t) k) := by
  obtain ⟨e0, -⟩ := idx t
  rw [← padAt, ← V0]
  show V m c main_v0 _ = _
  blk_ext [e0, lane]

theorem b1 (c : Dev nD) (t : Fin cfg0.N) (r : Fin 4352) (k : Fin 128) :
    iblk m c 1 t (ix2 r k) = padRow (m (c.tc.loc main_arg1)) r.val (lane (grp t) k) := by
  obtain ⟨-, e0, -⟩ := idx t
  rw [← padAt, ← V1]
  show V m c main_v1 _ = _
  blk_ext [e0, lane]

theorem b2 (c : Dev nD) (t : Fin cfg0.N) (r d : Fin 128) :
    iblk m c 2 t (ix3 0 r d) = (m (c.tc.loc main_arg2)) (ix4 0 (grp t) r d) := by
  obtain ⟨-, -, e0, -⟩ := idx t
  rw [← V2 m c]
  show V m c main_v2 _ = _
  blk_ext [e0]

theorem b3 (c : Dev nD) (t : Fin cfg0.N) (d : Fin 128) :
    iblk m c 3 t (ix3 0 0 d) = (m (c.tc.loc main_arg3)) (ix3 0 (grp t) d) := by
  obtain ⟨-, -, -, e0, -⟩ := idx t
  rw [← V4 m c]
  show V m c main_v4 _ = _
  blk_ext [e0]

/-! ## The arrays the run leaves -/

/-- The gradient of the values over the padded rows. -/
def dvFull (c : Dev nD) : FVec Ideal S4352x512 .f32 := fun i =>
  dv (m (c.tc.loc main_arg1)) (m (c.tc.loc main_arg2)) (m (c.tc.loc main_arg3)) ⟨(i 1).val / 128, by have h : (i 1).val < 512 := (i 1).isLt; omega⟩ (i 0).val ⟨(i 1).val % 128, Nat.mod_lt _ (by norm_num)⟩

theorem dvFull_at (c : Dev nD) (R : Fin 4352) (g : Fin 4) (k : Fin 128) :
    dvFull m c (ix2 R (lane g k)) = dv (m (c.tc.loc main_arg1)) (m (c.tc.loc main_arg2)) (m (c.tc.loc main_arg3)) g R.val k := by
  have hk := k.isLt
  exact congrArg₂ (fun p q => dv (m (c.tc.loc main_arg1)) (m (c.tc.loc main_arg2)) (m (c.tc.loc main_arg3)) p R.val q)
    (Fin.ext (show (g.val * 128 + k.val) / 128 = g.val by omega)) (Fin.ext (show (g.val * 128 + k.val) % 128 = k.val by omega))

theorem final_4 (c : Dev nD) : (dats m 0 c).arrAt 4 (cfgs 0).N = dvFull m c := by
  refine (dats m 0 c).arrAt_eq_of_covers 4 _ (by decide +kernel) fun t hf y => ?_
  obtain ⟨-, -, -, -, e, -⟩ := idx t
  blk_simp; rw [after4]
  idx_vars y
  refine (dvOut_at (g := grp t) (x2 := iblk m c 1 t) (x3 := iblk m c 2 t) (x4 := iblk m c 3 t) (i := grid0.coords t) (b1 m c t) (b2 m c t) (b3 m c t) (coord t) y0 y1).trans
    ((dvFull_at m c y0 (grp t) y1).symm.trans (congrArg _ ?_))
  funext a; apply Fin.ext; fin_cases a <;> simp [win0_4, e, lane]

theorem final_5 (c : Dev nD) (hp : Cert.Pre_PoolIdeal_pool_finite m) :
    (dats m 0 c).arrAt 5 (cfgs 0).N = val_main_v158 (F := Ideal) (m (c.tc.loc main_arg0)) (m (c.tc.loc main_arg1)) (m (c.tc.loc main_arg3)) := by
  obtain ⟨h0, h1, h2, h3⟩ := finite_args _ _ _ _ (hp c)
  refine (dats m 0 c).arrAt_eq_of_covers 5 _ (by decide +kernel) fun t hf y => ?_
  obtain ⟨-, -, -, -, -, e, -⟩ := idx t
  blk_simp; rw [after5]
  idx_vars y
  obtain rfl : y0 = 0 := Fin.ext (by have h : y0.val < 1 := y0.isLt; show y0.val = 0; omega)
  refine (dwOut_at (g := grp t) (x1 := iblk m c 0 t) (x2 := iblk m c 1 t) (x4 := iblk m c 3 t) (i := grid0.coords t) (b0 m c t) (b1 m c t) (b3 m c t) (coord t) y1 y2).trans
    ((Cert.PoolRefIdeal.Tie.v158_at (m (c.tc.loc main_arg0)) (m (c.tc.loc main_arg1)) (m (c.tc.loc main_arg3)) h0 (grp t) y1 y2).trans (congrArg _ ?_))
  funext a; apply Fin.ext; fin_cases a <;> simp [win0_5, e]

theorem final_6 (c : Dev nD) (hp : Cert.Pre_PoolIdeal_pool_finite m) :
    (dats m 0 c).arrAt 6 (cfgs 0).N = val_main_v159 (F := Ideal) (m (c.tc.loc main_arg0)) (m (c.tc.loc main_arg1)) (m (c.tc.loc main_arg2)) := by
  obtain ⟨h0, h1, h2, h3⟩ := finite_args _ _ _ _ (hp c)
  refine (dats m 0 c).arrAt_eq_of_covers 6 _ (by decide +kernel) fun t hf y => ?_
  obtain ⟨-, -, -, -, -, -, e⟩ := idx t
  blk_simp; rw [after6]
  idx_vars y
  obtain rfl : y0 = 0 := Fin.ext (by have h : y0.val < 1 := y0.isLt; show y0.val = 0; omega)
  obtain rfl : y1 = 0 := Fin.ext (by have h : y1.val < 1 := y1.isLt; show y1.val = 0; omega)
  refine (dsOut_at (g := grp t) (x1 := iblk m c 0 t) (x2 := iblk m c 1 t) (x3 := iblk m c 2 t) (i := grid0.coords t) (b0 m c t) (b1 m c t) (b2 m c t) (coord t) y2).trans
    ((Cert.PoolRefIdeal.Tie.v159_at (m (c.tc.loc main_arg0)) (m (c.tc.loc main_arg1)) (m (c.tc.loc main_arg2)) h0 (grp t) y2).trans (congrArg _ ?_))
  funext a; apply Fin.ext; fin_cases a <;> simp [win0_6, e]

theorem mask_word : ∀ R : Fin 4352, IntOp.cmpi .sge (BitVec.ofNat 32 R.val) 240#32 = 1#1 → 240 ≤ R.val := by decide +kernel

/-- The mask holds at sequence rows only. -/
theorem mask_row (a0 a1 : FVec Ideal S4112x512 .f32) (a2 : FVec Ideal S1x4x128x128 .f32) (a3 : FVec Ideal S1x4x128 .f32) (R : Fin 4352) (k : Fin 512)
    (h : (Cert.On_sequence_rows.fn (F := Ideal) a0 a1 a2 a3).1 (ix2 R k) = 1#1) : 240 ≤ R.val := by
  have e : (Cert.On_sequence_rows.fn (F := Ideal) a0 a1 a2 a3).1 (ix2 R k) = IntOp.cmpi .sge (BitVec.ofNat 32 R.val) 240#32 := by
    pointwise [Cert.On_sequence_rows.fn]
  rw [e] at h
  exact mask_word R h

set_option maxHeartbeats 2000000 in
/-- The kernel's three arrays and the reference's three agree on the same finite arguments, the first at its sequence rows. -/
theorem algebraic : Cert.algebraic_PoolIdeal_PoolRefIdeal_on_sequence_rows_pre_pool_finite := by
  intro m g m' g' hpre hagree
  refine ⟨fun c => (dats m 0 c).arrAt 4 (cfgs 0).N, fun c => (dats m 0 c).arrAt 5 (cfgs 0).N, fun c => (dats m 0 c).arrAt 6 (cfgs 0).N, ?_, ?_⟩
  · exact (θ_run _ _ _).mono (fun r h c => ⟨fun i _ => congrFun ((h.1 c).1 4) i, fun i _ => congrFun ((h.1 c).1 5) i, fun i _ => congrFun ((h.1 c).1 6) i, h.2.1 c⟩)
      (θ_run_and (run_main m g) (Cert.PoolIdeal.Hand.frame m g))
  · refine (θ_run _ _ _).mono (fun r h c => ?_) (Cert.PoolRefIdeal.Tie.run_read m' g')
    obtain ⟨a0, a1, a2, a3⟩ := hagree c
    obtain ⟨h0, h1, h2, h3⟩ := finite_args _ _ _ _ (hpre c)
    obtain ⟨e0, e1, e2, e⟩ := h c
    have q0 := e0.trans (congr3 (val_main_v157 (F := Ideal)) a1 a2 a3)
    have q1 := e1.trans (congr3 (val_main_v158 (F := Ideal)) a0 a1 a3)
    have q2 := e2.trans (congr3 (val_main_v159 (F := Ideal)) a0 a1 a2)
    refine ⟨fun i hi => ?_, fun i _ => congrFun (q1.trans (final_5 m c hpre).symm) i, fun i _ => congrFun (q2.trans (final_6 m c hpre).symm) i, e⟩
    idx_vars i
    have hR := mask_row _ _ _ _ i0 i1 hi
    have hl : lane ⟨i1.val / 128, by omega⟩ ⟨i1.val % 128, Nat.mod_lt _ (by norm_num)⟩ = i1 :=
      Fin.ext (show i1.val / 128 * 128 + i1.val % 128 = i1.val by omega)
    have hv := Cert.PoolRefIdeal.Tie.v157_at (m (c.tc.loc main_arg1)) (m (c.tc.loc main_arg2)) (m (c.tc.loc main_arg3)) h1 h2 h3 i0 hR ⟨i1.val / 128, by omega⟩ ⟨i1.val % 128, Nat.mod_lt _ (by norm_num)⟩
    rw [hl] at hv
    exact (congrFun q0 _).trans (hv.symm.trans (congrFun (final_4 m c) (ix2 i0 i1)).symm)

end Cert.PoolIdeal.Tie

end
-- ==== Proof.Ffn.FrameIdeal.lean ====
/- The feed-forward block's gradient: what the region leaves point by point, and the frame. The three weights are copied into scratch
   buffers at the first point and stay there; the loss and the two scales' gradients are added up over the points. -/
module

public import proofs.«01_k».proof.Proof.Gen.FfnIdeal.Frame.RunB
public import Idealize.ShloMosaic.Lib.Claim

@[expose] public section

set_option maxRecDepth 16384

noncomputable section

namespace Cert.FfnIdeal.Hand

open Cert.FfnIdeal Cert.FfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem opens_iff : ∀ t : Fin cfg0.N, cond0_0 (grid0.coords t) ↔ t.val = 0 := by decide +kernel
theorem copies_iff : ∀ t : Fin cfg0.N, cond0_1 (grid0.coords t) ↔ t.val = 0 := by decide +kernel

/-! ## What the body leaves -/

/-- The run at the first point. -/
abbrev atA (c : Dev nD) (t : Fin cfg0.N) (h : t.val = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((opens_iff t).mpr h) ((copies_iff t).mpr h) (iblk m c 0 t) (iblk m c 1 t) (iblk m c 2 t) (iblk m c 3 t) (iblk m c 4 t) (iblk m c 5 t) (V m c main_v31) (V m c main_v34) (V m c main_v36)

/-- The run at a later point, over the sums and the weights so far. -/
abbrev atB (c : Dev nD) (t : Fin cfg0.N) (h : t.val ≠ 0) (y9 : Vec F S1x128 .f32) (y10 y11 : Vec F S1x1024 .f32) (s0 s1 s2 : Vec F S2816x1024 .bf16) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun e => h ((opens_iff t).mp e)) (fun e => h ((copies_iff t).mp e)) (iblk m c 0 t) (iblk m c 1 t) (iblk m c 2 t) (iblk m c 3 t) (iblk m c 4 t) (iblk m c 5 t) y9 y10 y11 s0 s1 s2 (V m c main_v31) (V m c main_v34) (V m c main_v36)

/-- What a point leaves: its rows of the input's gradient, of the transposed factors and of the output's gradient, the sums so far, and the
    weights in their scratch buffers. -/
structure Left (F : FTy → Type) where
  rows : Vec F S256x1024 .f32
  cols : Vec F S8448x256 .bf16
  outer : Vec F S256x1024 .bf16
  loss : Vec F S1x128 .f32
  last : Vec F S1x1024 .f32
  scale : Vec F S1x1024 .f32
  gate : Vec F S2816x1024 .bf16
  up : Vec F S2816x1024 .bf16
  down : Vec F S2816x1024 .bf16

def leftA (c : Dev nD) (t : Fin cfg0.N) (h : t.val = 0) : Left F where
  rows := VO0_6.read (Elt F) (VO0_6.writes (Elt F) VO0_6.junk (atA m c t h).1)
  cols := VO0_7.read (Elt F) (VO0_7.writes (Elt F) VO0_7.junk (atA m c t h).2.1)
  outer := VO0_8.read (Elt F) (VO0_8.writes (Elt F) VO0_8.junk (atA m c t h).2.2.1)
  loss := VO0_9.read (Elt F) (VO0_9.writes (Elt F) VO0_9.junk (atA m c t h).2.2.2.1)
  last := VO0_10.read (Elt F) (VO0_10.writes (Elt F) VO0_10.junk (atA m c t h).2.2.2.2.1)
  scale := VO0_11.read (Elt F) (VO0_11.writes (Elt F) VO0_11.junk (atA m c t h).2.2.2.2.2.1)
  gate := VS0_0.read (Elt F) (VS0_0.writes (Elt F) VS0_0.junk (atA m c t h).2.2.2.2.2.2.1)
  up := VS0_1.read (Elt F) (VS0_1.writes (Elt F) VS0_1.junk (atA m c t h).2.2.2.2.2.2.2.1)
  down := VS0_2.read (Elt F) (VS0_2.writes (Elt F) VS0_2.junk (atA m c t h).2.2.2.2.2.2.2.2.1)

def leftB (c : Dev nD) (t : Fin cfg0.N) (h : t.val ≠ 0) (p : Left F) : Left F where
  rows := VO0_6.read (Elt F) (VO0_6.writes (Elt F) VO0_6.junk (atB m c t h p.loss p.last p.scale p.gate p.up p.down).1)
  cols := VO0_7.read (Elt F) (VO0_7.writes (Elt F) VO0_7.junk (atB m c t h p.loss p.last p.scale p.gate p.up p.down).2.1)
  outer := VO0_8.read (Elt F) (VO0_8.writes (Elt F) VO0_8.junk (atB m c t h p.loss p.last p.scale p.gate p.up p.down).2.2.1)
  loss := VO0_9.read (Elt F) (VO0_9.writes (Elt F) VO0_9.junk (atB m c t h p.loss p.last p.scale p.gate p.up p.down).2.2.2.1)
  last := VO0_10.read (Elt F) (VO0_10.writes (Elt F) VO0_10.junk (atB m c t h p.loss p.last p.scale p.gate p.up p.down).2.2.2.2.1)
  scale := VO0_11.read (Elt F) (VO0_11.writes (Elt F) VO0_11.junk (atB m c t h p.loss p.last p.scale p.gate p.up p.down).2.2.2.2.2.1)
  gate := p.gate
  up := p.up
  down := p.down

/-- What is left after point `n`. -/
def leftAt (c : Dev nD) : (n : ℕ) → n < cfg0.N → Left F
  | 0, hn => leftA m c ⟨0, hn⟩ rfl
  | n + 1, hn => leftB m c ⟨n + 1, hn⟩ (Nat.succ_ne_zero n) (leftAt c n (by omega))

/-- What was left before point `t`, for a point that is not the first. -/
abbrev prev (c : Dev nD) (t : Fin cfg0.N) : Left F := leftAt m c (t.val - 1) (Nat.lt_of_le_of_lt (Nat.sub_le _ _) t.isLt)

theorem leftAt_A (c : Dev nD) (t : Fin cfg0.N) (h : t.val = 0) : leftAt m c t.val t.isLt = leftA m c t h := by
  obtain ⟨n, hn⟩ := t
  obtain rfl : n = 0 := h
  rfl

theorem leftAt_B (c : Dev nD) (t : Fin cfg0.N) (h : t.val ≠ 0) : leftAt m c t.val t.isLt = leftB m c t h (prev m c t) := by
  obtain ⟨n, hn⟩ := t
  cases n with
  | zero => exact absurd rfl h
  | succ n => rfl

/-! ## The invariant between points and the region's data -/

/-- Before the first point the scratch buffers hold anything; afterwards the weights. -/
def Inv (c : Dev nD) : (n : ℕ) → n ≤ cfg0.N → sProp 𝕄
  | 0, _ => Pipeline.ΦD osem0 spec0 H0 (V m) c
  | n + 1, hn => iprop(iprop(owns (c : Thread nD τ) scM0_0 fullShare (leftAt m c n hn).gate ∗ owns (c : Thread nD τ) scM0_1 fullShare (leftAt m c n hn).up ∗ owns (c : Thread nD τ) scM0_2 fullShare (leftAt m c n hn).down) ∗ (∃ r, prngReg c r) ∗ iprop(semVal ((c : Thread nD τ), SemLoc.dma 19) 0 ∗ semVal ((c : Thread nD τ), SemLoc.dma 20) 0 ∗ semVal ((c : Thread nD τ), SemLoc.dma 21) 0) ∗ iprop(hbPt0 c hbM0_0 (V m c main_v31) ∗ hbPt0 c hbM0_1 (V m c main_v34) ∗ hbPt0 c hbM0_2 (V m c main_v36)))

theorem Inv_zero (c : Dev nD) (n : ℕ) (h : n ≤ cfg0.N) (hz : n = 0) : Inv m c n h = Pipeline.ΦD osem0 spec0 H0 (V m) c := by
  subst hz; rfl

theorem Inv_succ (c : Dev nD) (n : ℕ) (hn : n < cfg0.N) :
    Inv m c (n + 1) hn = iprop(iprop(owns (c : Thread nD τ) scM0_0 fullShare (leftAt m c n hn).gate ∗ owns (c : Thread nD τ) scM0_1 fullShare (leftAt m c n hn).up ∗ owns (c : Thread nD τ) scM0_2 fullShare (leftAt m c n hn).down) ∗ (∃ r, prngReg c r) ∗ iprop(semVal ((c : Thread nD τ), SemLoc.dma 19) 0 ∗ semVal ((c : Thread nD τ), SemLoc.dma 20) 0 ∗ semVal ((c : Thread nD τ), SemLoc.dma 21) 0) ∗ iprop(hbPt0 c hbM0_0 (V m c main_v31) ∗ hbPt0 c hbM0_1 (V m c main_v34) ∗ hbPt0 c hbM0_2 (V m c main_v36))) := rfl

theorem Inv_pos (c : Dev nD) (n : ℕ) (h : n ≤ cfg0.N) (hz : n ≠ 0) :
    Inv m c n h = iprop(iprop(owns (c : Thread nD τ) scM0_0 fullShare (leftAt m c (n - 1) (by omega)).gate ∗ owns (c : Thread nD τ) scM0_1 fullShare (leftAt m c (n - 1) (by omega)).up ∗ owns (c : Thread nD τ) scM0_2 fullShare (leftAt m c (n - 1) (by omega)).down) ∗ (∃ r, prngReg c r) ∗ iprop(semVal ((c : Thread nD τ), SemLoc.dma 19) 0 ∗ semVal ((c : Thread nD τ), SemLoc.dma 20) 0 ∗ semVal ((c : Thread nD τ), SemLoc.dma 21) 0) ∗ iprop(hbPt0 c hbM0_0 (V m c main_v31) ∗ hbPt0 c hbM0_1 (V m c main_v34) ∗ hbPt0 c hbM0_2 (V m c main_v36))) := by
  cases n with
  | zero => exact absurd rfl hz
  | succ n => rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (leftAt m c t.val t.isLt).rows
    | ⟨7, _⟩ => (leftAt m c t.val t.isLt).cols
    | ⟨8, _⟩ => (leftAt m c t.val t.isLt).outer
    | ⟨9, _⟩ => (leftAt m c t.val t.isLt).loss
    | ⟨10, _⟩ => (leftAt m c t.val t.isLt).last
    | ⟨11, _⟩ => (leftAt m c t.val t.isLt).scale
  Φ t := Inv m c t.val (Nat.le_of_lt_succ t.isLt)
  q _ := fullShare
  owed _ := 0

theorem A_eq (c : Dev nD) (w : Fin cfg0.W) : (dats m 0 c).A w = V m c (Pipeline.arrRef spec0 w) := by dsimp only [dats]

theorem Inv_start (c : Dev nD) (t : Fin cfg0.N) : (dats m 0 c).Φ t.castSucc = Inv m c t.val (Nat.le_of_lt t.isLt) := by
  dsimp only [dats]
  exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (leftAt m c t.val t.isLt).rows := by dsimp only [dats]
theorem after7 (c : Dev nD) (t : Fin cfg0.N) : (dats m 0 c).after 7 t = (leftAt m c t.val t.isLt).cols := by dsimp only [dats]
theorem after8 (c : Dev nD) (t : Fin cfg0.N) : (dats m 0 c).after 8 t = (leftAt m c t.val t.isLt).outer := by dsimp only [dats]
theorem after9 (c : Dev nD) (t : Fin cfg0.N) : (dats m 0 c).after 9 t = (leftAt m c t.val t.isLt).loss := by dsimp only [dats]
theorem after10 (c : Dev nD) (t : Fin cfg0.N) : (dats m 0 c).after 10 t = (leftAt m c t.val t.isLt).last := by dsimp only [dats]
theorem after11 (c : Dev nD) (t : Fin cfg0.N) : (dats m 0 c).after 11 t = (leftAt m c t.val t.isLt).scale := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

theorem noFlush9 : ∀ t : Fin cfg0.N, t.val ≠ 16 → (cfg0.win 9).flush t = false := by decide +kernel
theorem noFlush10 : ∀ t : Fin cfg0.N, t.val ≠ 16 → (cfg0.win 10).flush t = false := by decide +kernel
theorem noFlush11 : ∀ t : Fin cfg0.N, t.val ≠ 16 → (cfg0.win 11).flush t = false := by decide +kernel

theorem before9 (c : Dev nD) (t : Fin cfg0.N) (h : t.val ≠ 0) (d) : (dats m 0 c).before 9 t d = (prev m c t).loss := by
  have hN : t.val < 17 := lt_of_lt_of_eq t.isLt N_0
  rw [Dat.before_out_kept _ 9 rfl t h (noFlush9 _ (by dsimp only; omega)) (fun _ => rfl) (fun _ _ => rfl)]
  dsimp only [dats]

theorem before10 (c : Dev nD) (t : Fin cfg0.N) (h : t.val ≠ 0) (d) : (dats m 0 c).before 10 t d = (prev m c t).last := by
  have hN : t.val < 17 := lt_of_lt_of_eq t.isLt N_0
  rw [Dat.before_out_kept _ 10 rfl t h (noFlush10 _ (by dsimp only; omega)) (fun _ => rfl) (fun _ _ => rfl)]
  dsimp only [dats]

theorem before11 (c : Dev nD) (t : Fin cfg0.N) (h : t.val ≠ 0) (d) : (dats m 0 c).before 11 t d = (prev m c t).scale := by
  have hN : t.val < 17 := lt_of_lt_of_eq t.isLt N_0
  rw [Dat.before_out_kept _ 11 rfl t h (noFlush11 _ (by dsimp only; omega)) (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

/-- A buffer whose pieces cover it is owned at what they write. -/
theorem owned (c : Dev nD) {S : Shape} {e : EltTy} (a b : Memref sig .tc .vmem S e) (L : List (View.Piece (Elt F) S e))
    (h : ∀ y, ∃ p ∈ L, y ∈ p.1.set) :
    iprop(∃ f, a.view.loc (c : Thread nD τ) ↦[a.view.set]{fullShare} a.view.writes (Elt F) f L)
      ⊢ (owns (c : Thread nD τ) a fullShare (b.view.read (Elt F) (b.view.writes (Elt F) b.view.junk L)) : sProp 𝕄) := by
  iintro ⟨%f, H⟩
  unfold owns; iexists _; isplitr
  swap; · iexact H
  ipureintro; exact View.read_writes_of_cover _ _ _ _ _ h

theorem fillsA0 (c : Dev nD) (t : Fin cfg0.N) (h : t.val = 0) (y : S256x1024.Idx) : ∃ p ∈ (atA m c t h).1, y ∈ p.1.set :=
  View.cover_of_tiledL (atA m c t h).1 S256x1024.size (by sl_kernel_rfl) y
theorem fillsA1 (c : Dev nD) (t : Fin cfg0.N) (h : t.val = 0) (y : S8448x256.Idx) : ∃ p ∈ (atA m c t h).2.1, y ∈ p.1.set :=
  View.cover_of_tiledL (atA m c t h).2.1 S1408x256.size (by sl_kernel_rfl) y
theorem fillsA2 (c : Dev nD) (t : Fin cfg0.N) (h : t.val = 0) (y : S256x1024.Idx) : ∃ p ∈ (atA m c t h).2.2.1, y ∈ p.1.set :=
  View.cover_of_tiledL (atA m c t h).2.2.1 S256x1024.size (by sl_kernel_rfl) y
theorem fillsA3 (c : Dev nD) (t : Fin cfg0.N) (h : t.val = 0) (y : S1x128.Idx) : ∃ p ∈ (atA m c t h).2.2.2.1, y ∈ p.1.set :=
  View.cover_of_tiledL (atA m c t h).2.2.2.1 S1x128.size (by sl_kernel_rfl) y
theorem fillsA4 (c : Dev nD) (t : Fin cfg0.N) (h : t.val = 0) (y : S1x1024.Idx) : ∃ p ∈ (atA m c t h).2.2.2.2.1, y ∈ p.1.set :=
  View.cover_of_tiledL (atA m c t h).2.2.2.2.1 S1x1024.size (by sl_kernel_rfl) y
theorem fillsA5 (c : Dev nD) (t : Fin cfg0.N) (h : t.val = 0) (y : S1x1024.Idx) : ∃ p ∈ (atA m c t h).2.2.2.2.2.1, y ∈ p.1.set :=
  View.cover_of_tiledL (atA m c t h).2.2.2.2.2.1 S1x1024.size (by sl_kernel_rfl) y
theorem fillsA6 (c : Dev nD) (t : Fin cfg0.N) (h : t.val = 0) (y : S2816x1024.Idx) : ∃ p ∈ (atA m c t h).2.2.2.2.2.2.1, y ∈ p.1.set :=
  View.cover_of_tiledL (atA m c t h).2.2.2.2.2.2.1 S2816x1024.size (by sl_kernel_rfl) y
theorem fillsA7 (c : Dev nD) (t : Fin cfg0.N) (h : t.val = 0) (y : S2816x1024.Idx) : ∃ p ∈ (atA m c t h).2.2.2.2.2.2.2.1, y ∈ p.1.set :=
  View.cover_of_tiledL (atA m c t h).2.2.2.2.2.2.2.1 S2816x1024.size (by sl_kernel_rfl) y
theorem fillsA8 (c : Dev nD) (t : Fin cfg0.N) (h : t.val = 0) (y : S2816x1024.Idx) : ∃ p ∈ (atA m c t h).2.2.2.2.2.2.2.2.1, y ∈ p.1.set :=
  View.cover_of_tiledL (atA m c t h).2.2.2.2.2.2.2.2.1 S2816x1024.size (by sl_kernel_rfl) y
theorem fillsB0 (c : Dev nD) (t : Fin cfg0.N) (h : t.val ≠ 0) (y9 : Vec F S1x128 .f32) (y10 y11 : Vec F S1x1024 .f32) (s0 s1 s2 : Vec F S2816x1024 .bf16) (y : S256x1024.Idx) :
    ∃ p ∈ (atB m c t h y9 y10 y11 s0 s1 s2).1, y ∈ p.1.set :=
  View.cover_of_tiledL (atB m c t h y9 y10 y11 s0 s1 s2).1 S256x1024.size (by sl_kernel_rfl) y
theorem fillsB1 (c : Dev nD) (t : Fin cfg0.N) (h : t.val ≠ 0) (y9 : Vec F S1x128 .f32) (y10 y11 : Vec F S1x1024 .f32) (s0 s1 s2 : Vec F S2816x1024 .bf16) (y : S8448x256.Idx) :
    ∃ p ∈ (atB m c t h y9 y10 y11 s0 s1 s2).2.1, y ∈ p.1.set :=
  View.cover_of_tiledL (atB m c t h y9 y10 y11 s0 s1 s2).2.1 S1408x256.size (by sl_kernel_rfl) y
theorem fillsB2 (c : Dev nD) (t : Fin cfg0.N) (h : t.val ≠ 0) (y9 : Vec F S1x128 .f32) (y10 y11 : Vec F S1x1024 .f32) (s0 s1 s2 : Vec F S2816x1024 .bf16) (y : S256x1024.Idx) :
    ∃ p ∈ (atB m c t h y9 y10 y11 s0 s1 s2).2.2.1, y ∈ p.1.set :=
  View.cover_of_tiledL (atB m c t h y9 y10 y11 s0 s1 s2).2.2.1 S256x1024.size (by sl_kernel_rfl) y
theorem fillsB3 (c : Dev nD) (t : Fin cfg0.N) (h : t.val ≠ 0) (y9 : Vec F S1x128 .f32) (y10 y11 : Vec F S1x1024 .f32) (s0 s1 s2 : Vec F S2816x1024 .bf16) (y : S1x128.Idx) :
    ∃ p ∈ (atB m c t h y9 y10 y11 s0 s1 s2).2.2.2.1, y ∈ p.1.set :=
  View.cover_of_tiledL (atB m c t h y9 y10 y11 s0 s1 s2).2.2.2.1 S1x128.size (by sl_kernel_rfl) y
theorem fillsB4 (c : Dev nD) (t : Fin cfg0.N) (h : t.val ≠ 0) (y9 : Vec F S1x128 .f32) (y10 y11 : Vec F S1x1024 .f32) (s0 s1 s2 : Vec F S2816x1024 .bf16) (y : S1x1024.Idx) :
    ∃ p ∈ (atB m c t h y9 y10 y11 s0 s1 s2).2.2.2.2.1, y ∈ p.1.set :=
  View.cover_of_tiledL (atB m c t h y9 y10 y11 s0 s1 s2).2.2.2.2.1 S1x1024.size (by sl_kernel_rfl) y
theorem fillsB5 (c : Dev nD) (t : Fin cfg0.N) (h : t.val ≠ 0) (y9 : Vec F S1x128 .f32) (y10 y11 : Vec F S1x1024 .f32) (s0 s1 s2 : Vec F S2816x1024 .bf16) (y : S1x1024.Idx) :
    ∃ p ∈ (atB m c t h y9 y10 y11 s0 s1 s2).2.2.2.2.2.1, y ∈ p.1.set :=
  View.cover_of_tiledL (atB m c t h y9 y10 y11 s0 s1 s2).2.2.2.2.2.1 S1x1024.size (by sl_kernel_rfl) y

set_option maxHeartbeats 1000000 in
theorem bodyA (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = Inv m c (t.val + 1) t.isLt from rfl, Inv_succ m c t.val t.isLt,
    after0, after1, after2, after3, after4, after5, after6, after7, after8, after9, after10, after11]
  unfold Dat.owesAt Pipeline.owesWithin
  rw [show (dats m 0 c).owed t.castSucc = 0 from rfl, show (dats m 0 c).owed t.succ = 0 from rfl]
  rw [Inv_start m c t, Inv_zero m c _ _ h, PhiD0_eq, leftAt_A m c t h]
  unfold leftA; dsimp only
  iintro ⟨⟨⟨HS0, HS1, HS2⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((atA m c t h).2.2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [HW]; · iexact HW
  iintro ⟨H0, H1, H2, H3, H4, H5, H6, H7, H8, H9, H10, H11, HS0, HS1, HS2, Hq0, Hq1, Hq2, Hh0, Hh1, Hh2, ⟨%W', HW'⟩⟩
  isplitl [HS0 HS1 HS2 Hg Hq0 Hq1 Hq2 Hh0 Hh1 Hh2]
  · isplitl [HS0 HS1 HS2]
    · isplitl [HS0]; · iapply (owned c scM0_0 scM0_0 _ (fillsA6 m c t h)); iexact HS0
      isplitl [HS1]; · iapply (owned c scM0_1 scM0_1 _ (fillsA7 m c t h)); iexact HS1
      iapply (owned c scM0_2 scM0_2 _ (fillsA8 m c t h)); iexact HS2
    isplitl [Hg]; · iexact Hg
    isplitl [Hq0 Hq1 Hq2]
    · isplitl [Hq0]; · iexact Hq0
      isplitl [Hq1]; · iexact Hq1
      iexact Hq2
    isplitl [Hh0]; · iexact Hh0
    isplitl [Hh1]; · iexact Hh1
    iexact Hh2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iapply (owned c (ms0_6 t) (Memref.whole cc0_stg6_0) _ (fillsA0 m c t h)); iexact H6
  isplitl [H7]; · iapply (owned c (ms0_7 t) (Memref.whole cc0_stg7_0) _ (fillsA1 m c t h)); iexact H7
  isplitl [H8]; · iapply (owned c (ms0_8 t) (Memref.whole cc0_stg8_0) _ (fillsA2 m c t h)); iexact H8
  isplitl [H9]; · iapply (owned c (ms0_9 t) (Memref.whole cc0_stg9_0) _ (fillsA3 m c t h)); iexact H9
  isplitl [H10]; · iapply (owned c (ms0_10 t) (Memref.whole cc0_stg10_0) _ (fillsA4 m c t h)); iexact H10
  iapply (owned c (ms0_11 t) (Memref.whole cc0_stg11_0) _ (fillsA5 m c t h)); iexact H11

set_option maxHeartbeats 1000000 in
theorem bodyB (c : Dev nD) (t : Fin cfg0.N) (h : t.val ≠ 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = Inv m c (t.val + 1) t.isLt from rfl, Inv_succ m c t.val t.isLt,
    after0, after1, after2, after3, after4, after5, after6, after7, after8, after9, after10, after11]
  unfold Dat.owesAt Pipeline.owesWithin
  rw [show (dats m 0 c).owed t.castSucc = 0 from rfl, show (dats m 0 c).owed t.succ = 0 from rfl]
  rw [Inv_start m c t, Inv_pos m c _ _ h, leftAt_B m c t h]
  simp only [before9 m c t h, before10 m c t h, before11 m c t h]
  unfold leftB; dsimp only
  iintro ⟨⟨⟨HS0, HS1, HS2⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((atB m c t h (prev m c t).loss (prev m c t).last (prev m c t).scale (prev m c t).gate (prev m c t).up (prev m c t).down).2.2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexact H9
  isplitl [H10]; · iexact H10
  isplitl [H11]; · iexact H11
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [HW]; · iexact HW
  iintro ⟨H0, H1, H2, H3, H4, H5, H6, H7, H8, H9, H10, H11, HS0, HS1, HS2, Hq0, Hq1, Hq2, Hh0, Hh1, Hh2, ⟨%W', HW'⟩⟩
  isplitl [HS0 HS1 HS2 Hg Hq0 Hq1 Hq2 Hh0 Hh1 Hh2]
  · isplitl [HS0 HS1 HS2]
    · isplitl [HS0]; · iexact HS0
      isplitl [HS1]; · iexact HS1
      iexact HS2
    isplitl [Hg]; · iexact Hg
    isplitl [Hq0 Hq1 Hq2]
    · isplitl [Hq0]; · iexact Hq0
      isplitl [Hq1]; · iexact Hq1
      iexact Hq2
    isplitl [Hh0]; · iexact Hh0
    isplitl [Hh1]; · iexact Hh1
    iexact Hh2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iapply (owned c (ms0_6 t) (Memref.whole cc0_stg6_0) _ (fillsB0 m c t h _ _ _ _ _ _)); iexact H6
  isplitl [H7]; · iapply (owned c (ms0_7 t) (Memref.whole cc0_stg7_0) _ (fillsB1 m c t h _ _ _ _ _ _)); iexact H7
  isplitl [H8]; · iapply (owned c (ms0_8 t) (Memref.whole cc0_stg8_0) _ (fillsB2 m c t h _ _ _ _ _ _)); iexact H8
  isplitl [H9]; · iapply (owned c (ms0_9 t) (Memref.whole cc0_stg9_0) _ (fillsB3 m c t h _ _ _ _ _ _)); iexact H9
  isplitl [H10]; · iapply (owned c (ms0_10 t) (Memref.whole cc0_stg10_0) _ (fillsB4 m c t h _ _ _ _ _ _)); iexact H10
  iapply (owned c (ms0_11 t) (Memref.whole cc0_stg11_0) _ (fillsB5 m c t h _ _ _ _ _ _)); iexact H11

theorem body (c : Dev nD) (t : Fin cfg0.N) :
    bodyPre m c t ⊢ wp frame (wpE (defs₀ (F := F)) Variants.none c none) Set.univ (bodyAt0 t) (fun _ => bodyPost m c t) := by
  by_cases h : t.val = 0
  · exact bodyA m c t h
  · exact bodyB m c t h

theorem table_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, table_row]
  exact triple_restated (body m c t) rfl .rfl fun _ => .rfl

theorem enters (c : Dev nD) : Pipeline.ΦD osem0 spec0 H0 (V m) c ⊢ (dats m 0 c).Φ 0 := by
  rw [show (dats m 0 c).Φ 0 = Inv m c 0 (Nat.zero_le _) from rfl, Inv_zero m c 0 _ rfl]
  try exact Idealize.SL.BI.Entails.refl _

theorem leaves (c : Dev nD) : (dats m 0 c).Φ (Fin.last cfg0.N) ⊢ Pipeline.ΦD osem0 spec0 H0 (V m) c := by
  have hN : cfg0.N = 17 := N_0
  rw [show (dats m 0 c).Φ (Fin.last cfg0.N) = Inv m c cfg0.N (le_refl _) from rfl, Inv_pos m c _ _ (by omega), PhiD0_eq]
  iintro ⟨⟨HS0, HS1, HS2⟩, Hg, ⟨Hq0, Hq1, Hq2⟩, ⟨Hh0, Hh1, Hh2⟩⟩
  isplitl [HS0 HS1 HS2]
  · isplitl [HS0]; · iexists _; iexact HS0
    isplitl [HS1]; · iexists _; iexact HS1
    iexists _; iexact HS2
  isplitl [Hg]; · iexact Hg
  isplitl [Hq0 Hq1 Hq2]
  · isplitl [Hq0]; · iexact Hq0
    isplitl [Hq1]; · iexact Hq1
    iexact Hq2
  isplitl [Hh0]; · iexact Hh0
  isplitl [Hh1]; · iexact Hh1
  iexact Hh2

/-! ## The run and the frame -/

set_option backward.isDefEq.respectTransparency.types false in
/-- The run ends with every array at what the data say and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := enters m) (hout := leaves m)

theorem run_main : θ_run defs (onTc (τ := τ) (main (F := F))) (s₀ m ρ) (Pipeline.FramePost cfgs (dats m) 0 (V m)) :=
  (θ_run defs _ _).mono (fun _ h => h.1) (run_quiet m ρ)

/-- Every argument ends as it began and every counter at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6))
      ∧ r.2.sem = fun _ => 0) :=
  θ_run_and (frame_of m ρ (dats m) (A_eq m) (run_main m ρ)) ((θ_run defs _ _).mono (fun _ h => h.2) (run_quiet m ρ))

end Cert.FfnIdeal.Hand

end
-- ==== Proof.Ffn.Blocks.lean ====
/- The feed-forward block's gradient, kernel side: what the host lines hand the region, what each window's block holds at a grid point,
   what the weights' scratch buffers hold, and what the body leaves in its outputs. -/
module

public import proofs.«01_k».proof.Proof.Ffn.FrameIdeal
public import proofs.«01_k».proof.Proof.Gen.FfnRefIdeal.Read
public import proofs.«01_k».proof.Proof.Common.Rms
public import proofs.«01_k».proof.Proof.Common.Rows
public import proofs.«01_k».proof.Proof.Common.Store
public import Idealize.ShloMosaic.Lib.Pipeline.ValueKit
public import Idealize.ShloMosaic.Lib.Pointwise
public import Idealize.ShloMosaic.Lib.Claim

@[expose] public section

set_option maxRecDepth 16384

noncomputable section

namespace Cert.FfnIdeal.Tie

open Cert.FfnRefIdeal.Read
open Cert.FfnIdeal Cert.FfnIdeal.Gen Cert.FfnIdeal.Hand Cert.Common Idealize.ShloMosaic Idealize.ShloMosaic.TcCoe Idealize.SL.Sem
open Idealize.ShloMosaic.Pipeline (Dat)

variable (m : (ℓ : Loc nD τ sig) → Buf (Elt Ideal) ℓ)

/-- Each window's block index at every grid point. -/
theorem idx : ∀ t : Fin cfg0.N, win0_0.index t = ![t.val, 0]
    ∧ win0_1.index t = ![t.val - 1, 0] ∧ win0_2.index t = ![t.val, 0] ∧ win0_3.index t = ![t.val, 0] ∧ win0_4.index t = ![0, 0]
    ∧ win0_5.index t = ![0, 0] ∧ win0_6.index t = ![t.val, 0] ∧ win0_7.index t = ![0, t.val] ∧ win0_8.index t = ![t.val, 0]
    ∧ win0_9.index t = ![0, 0] ∧ win0_10.index t = ![0, 0] ∧ win0_11.index t = ![0, 0] :=
  (by decide +kernel : ∀ t : Fin grid0.N, _)

/-! ## What the host lines leave -/

theorem pad0 (a : FVec Ideal S4112x1024 .f32) (R : Fin 4352) (k : Fin 1024) :
    pad S4352x1024 ![240, 0] ![0, 0] ![0, 0] a (sitofp (F := Ideal) .f32 (constantI S_ 32 0#32)) pads_S4112x1024_S4352x1024_24000_000 h_S_ (ix2 R k)
      = padRow a R.val k := by
  pointwise; simp only [padRow, sitofp_zero]

theorem V25 (c : Dev nD) : V m c main_v25 = pad S4352x1024 ![240, 0] ![0, 0] ![0, 0] (val_main_v25 (F := Ideal) (m (c.tc.loc main_arg0)) (m (c.tc.loc main_arg3)) (m (c.tc.loc main_arg4)) (m (c.tc.loc main_arg5)) (m (c.tc.loc main_arg6)))
    (sitofp (F := Ideal) .f32 (constantI S_ 32 0#32)) pads_S4112x1024_S4352x1024_24000_000 h_S_ := by
  unfold_abbrev_sides
  simp only [List.flatten_cons, List.flatten_nil, List.append_nil, List.cons_append, List.nil_append]
  after_results
  rfl

theorem V26 (c : Dev nD) : V m c main_v26 = pad S4352x1024 ![240, 0] ![0, 0] ![0, 0] (m (c.tc.loc main_arg0))
    (sitofp (F := Ideal) .f32 (constantI S_ 32 0#32)) pads_S4112x1024_S4352x1024_24000_000 h_S_ := by
  unfold_abbrev_sides
  simp only [List.flatten_cons, List.flatten_nil, List.append_nil, List.cons_append, List.nil_append]
  after_results
  rfl

theorem sitofp_bf16_zero (i : S_.Idx) : sitofp (F := Ideal) .bf16 (constantI S_ 32 0#32) i = (0 : EReal) := by
  show (((0#32 : BitVec 32).toInt : ℝ) : EReal) = 0
  simp

/-- The two projections side by side, in the narrow format, behind 240 zero rows. -/
theorem V27 (c : Dev nD) : V m c main_v27 = pad S4352x5632 ![240, 0] ![0, 0] ![0, 0]
      (truncf (F := Ideal) .bf16 (concatenate S4112x5632 1 [⟨S4112x2816, (val_main_v18 (F := Ideal) (m (c.tc.loc main_arg0)) (m (c.tc.loc main_arg3)) (m (c.tc.loc main_arg4)))⟩,
        ⟨S4112x2816, (val_main_v20 (F := Ideal) (m (c.tc.loc main_arg0)) (m (c.tc.loc main_arg3)) (m (c.tc.loc main_arg5)))⟩] concatenates_S4112x2816_S4112x2816_S4112x5632_d1) bitsLt_bf16_f32)
      (sitofp (F := Ideal) .bf16 (constantI S_ 32 0#32)) pads_S4112x5632_S4352x5632_24000_000 h_S_ := by
  unfold_abbrev_sides
  simp only [List.flatten_cons, List.flatten_nil, List.append_nil, List.cons_append, List.nil_append]
  after_results
  rfl

theorem V28 (c : Dev nD) (k : Fin 1024) : V m c main_v28 (ix2 0 k) = m (c.tc.loc main_arg2) (ix1 k) := by
  unfold_abbrev_sides
  simp only [List.flatten_cons, List.flatten_nil, List.append_nil, List.cons_append, List.nil_append]
  after_results
  pointwise

theorem V31 (c : Dev nD) (k : Fin 2816) (i : Fin 1024) : V m c main_v31 (ix2 k i) = m (c.tc.loc main_arg4) (ix3 0 i k) := by
  unfold_abbrev_sides
  simp only [List.flatten_cons, List.flatten_nil, List.append_nil, List.cons_append, List.nil_append]
  after_results
  pointwise

theorem V34 (c : Dev nD) (k : Fin 2816) (i : Fin 1024) : V m c main_v34 (ix2 k i) = m (c.tc.loc main_arg5) (ix3 0 i k) := by
  unfold_abbrev_sides
  simp only [List.flatten_cons, List.flatten_nil, List.append_nil, List.cons_append, List.nil_append]
  after_results
  pointwise

theorem V36 (c : Dev nD) (k : Fin 2816) (i : Fin 1024) : V m c main_v36 (ix2 k i) = m (c.tc.loc main_arg6) (ix3 0 k i) := by
  unfold_abbrev_sides
  simp only [List.flatten_cons, List.flatten_nil, List.append_nil, List.cons_append, List.nil_append]
  after_results
  pointwise

/-! ## The blocks -/

/-- Row `r` of tile `t` is row `256 t + r` of the array. -/
abbrev row (t : Fin cfg0.N) (r : Fin 256) : Fin 4352 := ⟨t.val * 256 + r.val, by have := lt_of_lt_of_eq t.isLt N_0; omega⟩

theorem b0 (c : Dev nD) (t : Fin cfg0.N) (r : Fin 256) (k : Fin 1024) : iblk m c 0 t (ix2 r k) = padRow (val_main_v25 (F := Ideal) (m (c.tc.loc main_arg0)) (m (c.tc.loc main_arg3)) (m (c.tc.loc main_arg4)) (m (c.tc.loc main_arg5)) (m (c.tc.loc main_arg6))) (row t r).val k := by
  obtain ⟨e0, -⟩ := idx t
  rw [← pad0, ← V25 m c]
  show V m c main_v25 _ = _
  blk_ext [e0]

theorem b1 (c : Dev nD) (t : Fin cfg0.N) (r : Fin 256) (k : Fin 1024) :
    iblk m c 1 t (ix2 r k) = m (c.tc.loc main_arg1) (ix2 ⟨(t.val - 1) * 256 + r.val, by have := lt_of_lt_of_eq t.isLt N_0; omega⟩ k) := by
  obtain ⟨-, e1, -⟩ := idx t
  rw [← V_main_arg1 m c]
  show V m c main_arg1 _ = _
  blk_ext [e1]

theorem b2 (c : Dev nD) (t : Fin cfg0.N) (r : Fin 256) (k : Fin 1024) :
    iblk m c 2 t (ix2 r k) = padRow (m (c.tc.loc main_arg0)) (row t r).val k := by
  obtain ⟨-, -, e2, -⟩ := idx t
  rw [← pad0, ← V26 m c]
  show V m c main_v26 _ = _
  blk_ext [e2]

theorem b4 (c : Dev nD) (t : Fin cfg0.N) (k : Fin 1024) : iblk m c 4 t (ix2 0 k) = m (c.tc.loc main_arg2) (ix1 k) := by
  obtain ⟨-, -, -, -, e4, -⟩ := idx t
  rw [← V28 m c]
  show V m c main_v28 _ = _
  blk_ext [e4]

theorem b5 (c : Dev nD) (t : Fin cfg0.N) : iblk m c 5 t = m (c.tc.loc main_arg3) := by
  obtain ⟨-, -, -, -, -, e5, -⟩ := idx t
  rw [← V_main_arg3 m c]
  funext j
  show V m c main_arg3 _ = _
  blk_ext [e5]

/-- The block of the two projections at a column of the first, -/
theorem b3l (c : Dev nD) (t : Fin cfg0.N) (r : Fin 256) (k : Fin 2816) : iblk m c 3 t (ix2 r ⟨k.val, by omega⟩) = padRow (val_main_v18 (F := Ideal) (m (c.tc.loc main_arg0)) (m (c.tc.loc main_arg3)) (m (c.tc.loc main_arg4))) (row t r).val k := by
  obtain ⟨-, -, -, e3, -⟩ := idx t
  have e : iblk m c 3 t (ix2 r ⟨k.val, by omega⟩) = V m c main_v27 (ix2 (row t r) ⟨k.val, by omega⟩) := by
    show V m c main_v27 _ = _
    blk_ext [e3]
  rw [e, V27 m c]
  generalize (val_main_v18 (F := Ideal) (m (c.tc.loc main_arg0)) (m (c.tc.loc main_arg3)) (m (c.tc.loc main_arg4))) = a
  generalize (val_main_v20 (F := Ideal) (m (c.tc.loc main_arg0)) (m (c.tc.loc main_arg3)) (m (c.tc.loc main_arg5))) = b
  pointwise
  simp only [padRow]
  by_cases h : 240 ≤ t.val * 256 + r.val ∧ t.val * 256 + r.val - 240 < 4112
  · rw [dif_pos ⟨h, by omega⟩, dif_pos h]
  · rw [dif_neg (fun q => h q.1), dif_neg h]; exact sitofp_bf16_zero (fun a => a.elim0)

/-- and at a column of the second. -/
theorem b3r (c : Dev nD) (t : Fin cfg0.N) (r : Fin 256) (k : Fin 2816) :
    iblk m c 3 t (ix2 r ⟨2816 + k.val, by omega⟩) = padRow (val_main_v20 (F := Ideal) (m (c.tc.loc main_arg0)) (m (c.tc.loc main_arg3)) (m (c.tc.loc main_arg5))) (row t r).val k := by
  obtain ⟨-, -, -, e3, -⟩ := idx t
  have e : iblk m c 3 t (ix2 r ⟨2816 + k.val, by omega⟩) = V m c main_v27 (ix2 (row t r) ⟨2816 + k.val, by omega⟩) := by
    show V m c main_v27 _ = _
    blk_ext [e3]
  rw [e, V27 m c]
  generalize (val_main_v20 (F := Ideal) (m (c.tc.loc main_arg0)) (m (c.tc.loc main_arg3)) (m (c.tc.loc main_arg5))) = a
  generalize (val_main_v18 (F := Ideal) (m (c.tc.loc main_arg0)) (m (c.tc.loc main_arg3)) (m (c.tc.loc main_arg4))) = b
  pointwise
  simp only [padRow]
  by_cases h : 240 ≤ t.val * 256 + r.val ∧ t.val * 256 + r.val - 240 < 4112
  · rw [dif_pos ⟨h, by omega⟩, dif_pos h]
  · rw [dif_neg (fun q => h q.1), dif_neg h]; exact sitofp_bf16_zero (fun a => a.elim0)

/-! ## The weights' scratch buffers -/

/-- At every point they hold the three weights. -/
theorem weights (c : Dev nD) : ∀ (n : ℕ) (hn : n < cfg0.N), (leftAt m c n hn).gate = V m c main_v31
    ∧ (leftAt m c n hn).up = V m c main_v34 ∧ (leftAt m c n hn).down = V m c main_v36
  | 0, hn => by
    refine ⟨?_, ?_, ?_⟩
    · rw [leftAt, leftA]; dsimp only [atA]; frame_out; exact canon_copy _ _
    · rw [leftAt, leftA]; dsimp only [atA]; frame_out; exact canon_copy _ _
    · rw [leftAt, leftA]; dsimp only [atA]; frame_out; exact canon_copy _ _
  | n + 1, hn => by
    dsimp only [leftAt, leftB]
    exact weights c n _

/-! ## What the body leaves -/

/-- The upper and the lower half of a weight, -/
abbrev wt (w : Vec Ideal S2816x1024 .bf16) : Vec Ideal S1408x1024 .bf16 := View.ld w (Rect.unit ![0, 0] ![1408, 1024] inb_S2816x1024_S1408x1024_0_0)
abbrev wb (w : Vec Ideal S2816x1024 .bf16) : Vec Ideal S1408x1024 .bf16 := View.ld w (Rect.unit ![1408, 0] ![1408, 1024] inb_S2816x1024_S1408x1024_1408_0)

theorem wt_at (w : Vec Ideal S2816x1024 .bf16) (k : Fin 1408) (j : Fin 1024) : wt w (ix2 k j) = w (ix2 ⟨k.val, by omega⟩ j) :=
  View.ld_unit_apply_of _ _ _ _ _ _ (fun a => by fin_cases a <;> simp)

theorem wb_at (w : Vec Ideal S2816x1024 .bf16) (k : Fin 1408) (j : Fin 1024) : wb w (ix2 k j) = w (ix2 ⟨1408 + k.val, by omega⟩ j) :=
  View.ld_unit_apply_of _ _ _ _ _ _ (fun a => by fin_cases a <;> simp)

/-- and the four quarters of the projections' block. -/
abbrev q0 (w : Vec Ideal S256x5632 .bf16) : Vec Ideal S256x1408 .bf16 := View.ld w (Rect.unit ![0, 0] ![256, 1408] inb_S256x5632_S256x1408_0_0)
abbrev q1 (w : Vec Ideal S256x5632 .bf16) : Vec Ideal S256x1408 .bf16 := View.ld w (Rect.unit ![0, 1408] ![256, 1408] inb_S256x5632_S256x1408_0_1408)
abbrev q2 (w : Vec Ideal S256x5632 .bf16) : Vec Ideal S256x1408 .bf16 := View.ld w (Rect.unit ![0, 2816] ![256, 1408] inb_S256x5632_S256x1408_0_2816)
abbrev q3 (w : Vec Ideal S256x5632 .bf16) : Vec Ideal S256x1408 .bf16 := View.ld w (Rect.unit ![0, 4224] ![256, 1408] inb_S256x5632_S256x1408_0_4224)

theorem q0_at (c : Dev nD) (t : Fin cfg0.N) (r : Fin 256) (k : Fin 1408) : q0 (iblk m c 3 t) (ix2 r k) = padRow (val_main_v18 (F := Ideal) (m (c.tc.loc main_arg0)) (m (c.tc.loc main_arg3)) (m (c.tc.loc main_arg4))) (row t r).val ⟨k.val, by omega⟩ :=
  (View.ld_unit_apply_of _ _ _ _ _ (ix2 r ⟨k.val, by omega⟩) (fun a => by fin_cases a <;> simp)).trans (b3l m c t r ⟨k.val, by omega⟩)
theorem q1_at (c : Dev nD) (t : Fin cfg0.N) (r : Fin 256) (k : Fin 1408) : q1 (iblk m c 3 t) (ix2 r k) = padRow (val_main_v18 (F := Ideal) (m (c.tc.loc main_arg0)) (m (c.tc.loc main_arg3)) (m (c.tc.loc main_arg4))) (row t r).val ⟨1408 + k.val, by omega⟩ :=
  (View.ld_unit_apply_of _ _ _ _ _ (ix2 r ⟨1408 + k.val, by omega⟩) (fun a => by fin_cases a <;> simp)).trans (b3l m c t r ⟨1408 + k.val, by omega⟩)
theorem q2_at (c : Dev nD) (t : Fin cfg0.N) (r : Fin 256) (k : Fin 1408) : q2 (iblk m c 3 t) (ix2 r k) = padRow (val_main_v20 (F := Ideal) (m (c.tc.loc main_arg0)) (m (c.tc.loc main_arg3)) (m (c.tc.loc main_arg5))) (row t r).val ⟨k.val, by omega⟩ :=
  (View.ld_unit_apply_of _ _ _ _ _ (ix2 r ⟨2816 + k.val, by omega⟩) (fun a => by fin_cases a <;> simp)).trans (b3r m c t r ⟨k.val, by omega⟩)
theorem q3_at (c : Dev nD) (t : Fin cfg0.N) (r : Fin 256) (k : Fin 1408) : q3 (iblk m c 3 t) (ix2 r k) = padRow (val_main_v20 (F := Ideal) (m (c.tc.loc main_arg0)) (m (c.tc.loc main_arg3)) (m (c.tc.loc main_arg5))) (row t r).val ⟨1408 + k.val, by omega⟩ :=
  (View.ld_unit_apply_of _ _ _ _ _ (ix2 r ⟨2816 + (1408 + k.val), by omega⟩) (fun a => by fin_cases a <;> simp; omega)).trans (b3r m c t r ⟨1408 + k.val, by omega⟩)

/-- The error of the rows a point works on, -/
abbrev errT (c : Dev nD) (t : Fin cfg0.N) : Vec Ideal S256x1024 .f32 := k0_pay7 (F := Ideal) (grid0.coords t) (iblk m c 0 t) (iblk m c 4 t) (iblk m c 1 t)

/-- their gradient of the last norm, in the wide and in the narrow format, -/
abbrev wideT (c : Dev nD) (t : Fin cfg0.N) : Vec Ideal S256x1024 .f32 :=
  k0_pay12 (F := Ideal) (k0_pay5 (iblk m c 0 t)) (k0_pay6 (iblk m c 0 t)) (errT m c t) (iblk m c 4 t)
abbrev outerT (c : Dev nD) (t : Fin cfg0.N) : Vec Ideal S256x1024 .bf16 :=
  k0_pay14 (F := Ideal) (k0_pay5 (iblk m c 0 t)) (k0_pay6 (iblk m c 0 t)) (errT m c t) (iblk m c 4 t)

/-- the gradient of the gated product, its first columns, -/
abbrev gateT (c : Dev nD) (t : Fin cfg0.N) : Vec Ideal S256x1408 .f32 :=
  k0_pay16 (F := Ideal) (k0_pay5 (iblk m c 0 t)) (k0_pay6 (iblk m c 0 t)) (errT m c t) (iblk m c 4 t) (wt (V m c main_v36))

/-- the gradient of the input norm's output: what the first columns and the gate's last columns add, -/
abbrev innerT (c : Dev nD) (t : Fin cfg0.N) : Vec Ideal S256x1024 .f32 :=
  k0_pay38 (F := Ideal) (outerT m c t)
    (k0_pay27 k0_pay15 (gateT m c t) (k0_pay17 (q0 (iblk m c 3 t))) (k0_pay18 (q2 (iblk m c 3 t))) (wt (V m c main_v31)) (wt (V m c main_v34)))
    (wb (V m c main_v36)) (constant S256x1408 FTy.f32 0#32) (q1 (iblk m c 3 t)) (q3 (iblk m c 3 t)) (wb (V m c main_v31))

/-- and the second projection's gradient at the last columns. -/
abbrev upT (c : Dev nD) (t : Fin cfg0.N) : Vec Ideal S256x1408 .f32 :=
  k0_pay34 (F := Ideal) (outerT m c t) (wb (V m c main_v36)) (constant S256x1408 FTy.f32 0#32) (q1 (iblk m c 3 t))

set_option maxHeartbeats 1000000 in
theorem out6 (c : Dev nD) (t : Fin cfg0.N) : (leftAt m c t.val t.isLt).rows
    = k0_pay44 (F := Ideal) (wideT m c t) (upT m c t) (innerT m c t) (wb (V m c main_v34)) (iblk m c 2 t) (iblk m c 5 t) := by
  by_cases h : t.val = 0
  · rw [leftAt_A m c t h, leftA]; dsimp only [atA]; frame_out
    simp only [readCov_copy]
    rfl
  · obtain ⟨eg, eu, ed⟩ := weights m c (t.val - 1) (Nat.lt_of_le_of_lt (Nat.sub_le _ _) t.isLt)
    rw [leftAt_B m c t h, leftB]; dsimp only [atB]; frame_out
    simp only [read_unread_whole, eg, eu, ed]

theorem out8 (c : Dev nD) (t : Fin cfg0.N) : (leftAt m c t.val t.isLt).outer = outerT m c t := by
  by_cases h : t.val = 0
  · rw [leftAt_A m c t h, leftA]; dsimp only [atA]; frame_out
  · rw [leftAt_B m c t h, leftB]; dsimp only [atB]; frame_out

set_option maxHeartbeats 1000000 in
/-- The transposed factors: the gate's gradient, the second projection's and the gated product, each in two halves of 1408 rows. -/
theorem out7 (c : Dev nD) (t : Fin cfg0.N) : (leftAt m c t.val t.isLt).cols = View.canon (Val := Elt Ideal)
    [⟨Rect.unit ![7040, 0] ![1408, 256] inb_S8448x256_S1408x256_7040_0, k0_pay37 (q1 (iblk m c 3 t)) (q3 (iblk m c 3 t))⟩,
      ⟨Rect.unit ![4224, 0] ![1408, 256] inb_S8448x256_S1408x256_4224_0,
        k0_pay36 (outerT m c t) (wb (V m c main_v36)) (constant S256x1408 FTy.f32 0#32) (q1 (iblk m c 3 t))⟩,
      ⟨Rect.unit ![1408, 0] ![1408, 256] inb_S8448x256_S1408x256_1408_0,
        k0_pay35 (outerT m c t) (wb (V m c main_v36)) (constant S256x1408 FTy.f32 0#32) (q1 (iblk m c 3 t)) (q3 (iblk m c 3 t))⟩,
      ⟨Rect.unit ![5632, 0] ![1408, 256] inb_S8448x256_S1408x256_5632_0, k0_pay26 (k0_pay17 (q0 (iblk m c 3 t))) (k0_pay18 (q2 (iblk m c 3 t)))⟩,
      ⟨Rect.unit ![2816, 0] ![1408, 256] inb_S8448x256_S1408x256_2816_0, k0_pay25 (gateT m c t) (k0_pay17 (q0 (iblk m c 3 t)))⟩,
      ⟨Rect.unit ![0, 0] ![1408, 256] inb_S8448x256_S1408x256_0_0,
        k0_pay24 (gateT m c t) (k0_pay17 (q0 (iblk m c 3 t))) (k0_pay18 (q2 (iblk m c 3 t)))⟩] := by
  by_cases h : t.val = 0
  · rw [leftAt_A m c t h, leftA]; dsimp only [atA]; frame_out
    simp only [readCov_copy]
    rfl
  · obtain ⟨eg, eu, ed⟩ := weights m c (t.val - 1) (Nat.lt_of_le_of_lt (Nat.sub_le _ _) t.isLt)
    rw [leftAt_B m c t h, leftB]; dsimp only [atB]; frame_out
    simp only [read_unread_whole, eg, eu, ed]

/-- The half mean square a tile adds to the loss, -/
def lossT (c : Dev nD) (t : Fin cfg0.N) : EReal :=
  Ideal.div (Ideal.ofBits .f32 1056964608#32 * ∑ r : Fin 256, ∑ k : Fin 1024, errT m c t (ix2 r k) * errT m c t (ix2 r k)) (Ideal.ofBits .f32 1149239296#32)

/-- what it adds to the last norm's scale gradient, -/
def lastT (c : Dev nD) (t : Fin cfg0.N) (j : Fin 1024) : EReal :=
  ∑ r : Fin 256, Ideal.div (errT m c t (ix2 r j)) (Ideal.ofBits .f32 1149239296#32) * k0_pay6 (F := Ideal) (iblk m c 0 t) (ix2 r j)

/-- and to the input norm's. -/
def scaleT (c : Dev nD) (t : Fin cfg0.N) (j : Fin 1024) : EReal :=
  ∑ r : Fin 256, k0_pay39 (F := Ideal) (upT m c t) (innerT m c t) (wb (V m c main_v34)) (ix2 r j) * k0_pay42 (F := Ideal) (iblk m c 2 t) (ix2 r j)

theorem pay43_at (v132 v146 v147 v151 acc) (z : Fin 1) (j : Fin 1024) : k0_pay43 (F := Ideal) v132 v146 v147 v151 acc (ix2 z j)
    = acc (ix2 z j) + ∑ r : Fin 256, k0_pay39 (F := Ideal) v132 v146 v147 (ix2 r j) * k0_pay42 (F := Ideal) v151 (ix2 r j) := by
  pointwise [k0_pay43]

theorem pay13_at (v17 v26 acc) (z : Fin 1) (j : Fin 1024) : k0_pay13 (F := Ideal) v17 v26 acc (ix2 z j)
    = acc (ix2 z j) + ∑ r : Fin 256, Ideal.div (v26 (ix2 r j)) (Ideal.ofBits .f32 1149239296#32) * v17 (ix2 r j) := by
  pointwise [k0_pay13, k0_pay11]

theorem pay10_at (c : Dev nD) (t : Fin cfg0.N) (acc) (z : Fin 1) (j : Fin 128) :
    k0_pay10 (F := Ideal) (k0_pay8 acc) (k0_pay9 (grid0.coords t) (iblk m c 0 t) (iblk m c 4 t) (iblk m c 1 t)) (ix2 z j) = acc (ix2 z j) + lossT m c t := by
  unfold lossT errT
  pointwise [k0_pay10, k0_pay8, k0_pay9]

theorem out9_reset (c : Dev nD) (t : Fin cfg0.N) (h : t.val = 0) (y : S1x128.Idx) :
    (leftAt m c t.val t.isLt).loss y = (0 : EReal) + lossT m c t := by
  rw [leftAt_A m c t h, leftA]; dsimp only [atA]; frame_out
  idx_vars y
  rw [pay10_at]
  pointwise [k0_pay1]

set_option maxHeartbeats 1000000 in
theorem out9_step (c : Dev nD) (t : Fin cfg0.N) (h : ¬ t.val = 0) (y : S1x128.Idx) :
    (leftAt m c t.val t.isLt).loss y = (prev m c t).loss y + lossT m c t := by
  rw [leftAt_B m c t h, leftB]; dsimp only [atB]
  frame_out
  idx_vars y
  rw [pay10_at]

theorem out10_reset (c : Dev nD) (t : Fin cfg0.N) (h : t.val = 0) (y : S1x1024.Idx) :
    (leftAt m c t.val t.isLt).last y = (0 : EReal) + lastT m c t (y 1) := by
  rw [leftAt_A m c t h, leftA]; dsimp only [atA]; frame_out
  idx_vars y
  rw [pay13_at]
  pointwise [k0_pay2]
  rfl

set_option maxHeartbeats 1000000 in
theorem out10_step (c : Dev nD) (t : Fin cfg0.N) (h : ¬ t.val = 0) (y : S1x1024.Idx) :
    (leftAt m c t.val t.isLt).last y = (prev m c t).last y + lastT m c t (y 1) := by
  rw [leftAt_B m c t h, leftB]; dsimp only [atB]
  frame_out
  idx_vars y
  rw [pay13_at]
  rfl

set_option maxHeartbeats 1000000 in
theorem out11_reset (c : Dev nD) (t : Fin cfg0.N) (h : t.val = 0) (y : S1x1024.Idx) :
    (leftAt m c t.val t.isLt).scale y = (0 : EReal) + scaleT m c t (y 1) := by
  rw [leftAt_A m c t h, leftA]; dsimp only [atA]; frame_out
  simp only [readCov_copy]
  idx_vars y
  rw [pay43_at]
  pointwise [k0_pay3]
  rfl

set_option maxHeartbeats 1000000 in
theorem out11_step (c : Dev nD) (t : Fin cfg0.N) (h : ¬ t.val = 0) (y : S1x1024.Idx) :
    (leftAt m c t.val t.isLt).scale y = (prev m c t).scale y + scaleT m c t (y 1) := by
  obtain ⟨eg, eu, ed⟩ := weights m c (t.val - 1) (Nat.lt_of_le_of_lt (Nat.sub_le _ _) t.isLt)
  rw [leftAt_B m c t h, leftB]
  dsimp only [atB]
  frame_out
  simp only [read_unread_whole, eg, eu, ed]
  idx_vars y
  rw [pay43_at]
  rfl

end Cert.FfnIdeal.Tie

end
-- ==== Proof.Common.Gate.lean ====
/- The logistic gate over finite values. -/
module

public import proofs.«01_k».proof.Proof.Common.Real

@[expose] public section

noncomputable section

namespace Cert.Common

open Idealize.ShloMosaic

/-- The logistic function, as the program spells it. -/
def sigm (x : EReal) : EReal := Ideal.div 1 (1 + Ideal.exp (0 - x))

theorem sigm_coe (x : ℝ) : sigm (x : EReal) = ((1 / (1 + Real.exp (-x)) : ℝ) : EReal) := by
  unfold sigm
  rw [zero_sub, ← EReal.coe_neg, Ideal.exp_coe, ← EReal.coe_one, ← EReal.coe_add, div_coe_coe _ _ (by have := Real.exp_pos (-x); positivity)]

theorem isReal_sigm {x : EReal} (h : IsReal x) : IsReal (sigm x) := by
  obtain ⟨x, rfl⟩ := h
  exact ⟨_, sigm_coe x⟩

/-- The derivative of `a · sigm a`: by hand on the left, by the product rule on the right. -/
theorem silu_bwd {d a b s : EReal} (hd : IsReal d) (ha : IsReal a) (hb : IsReal b) (hs : IsReal s) :
    d * b * s * (1 + a * (1 - s)) = d * b * s + a * (d * b) * (s * (1 - s)) := by
  obtain ⟨d, rfl⟩ := hd; obtain ⟨a, rfl⟩ := ha; obtain ⟨b, rfl⟩ := hb; obtain ⟨s, rfl⟩ := hs
  simp only [← EReal.coe_one, ← EReal.coe_mul, ← EReal.coe_add, ← EReal.coe_sub]
  congr 1
  ring

theorem ofBits_half : Ideal.ofBits .f32 1056964608#32 = ((1 / 2 : ℝ) : EReal) := by
  simp [Ideal.ofBits, Ideal.ieee]; norm_num; rw [← EReal.coe_mul]; norm_num
theorem ofBits_one : Ideal.ofBits .f32 1065353216#32 = ((1 : ℝ) : EReal) := by
  simp [Ideal.ofBits, Ideal.ieee]; norm_num; rw [← EReal.coe_mul]; norm_num
theorem ofBits_two : Ideal.ofBits .f32 1073741824#32 = ((2 : ℝ) : EReal) := by
  simp [Ideal.ofBits, Ideal.ieee]; norm_num; rw [← EReal.coe_mul]; norm_num

theorem isReal_mean {n : ℕ} (f : Fin n → EReal) (hf : ∀ k, IsReal (f k)) : IsReal (Ideal.div (∑ k, f k * f k) (((1024 : ℝ)) : EReal)) := by
  obtain ⟨f, rfl⟩ := lift hf
  simp only [← EReal.coe_mul, ← coe_sum]
  rw [div_coe_coe _ _ (by norm_num)]
  exact isReal_coe _

theorem isReal_div_1024 {x : EReal} (hx : IsReal x) : IsReal (Ideal.div x (((1024 : ℝ)) : EReal)) := by
  obtain ⟨x, rfl⟩ := hx
  rw [div_coe_coe _ _ (by norm_num)]
  exact isReal_coe _

/-- Half a sum is the halves' sum, over finite values. -/
theorem half_sum {n : ℕ} (f : Fin n → EReal) (hf : ∀ r, IsReal (f r)) : (((1 / 2 : ℝ)) : EReal) * ∑ r, f r = ∑ r, (((1 / 2 : ℝ)) : EReal) * f r := by
  obtain ⟨f, rfl⟩ := lift hf
  simp only [← EReal.coe_mul, ← coe_sum]
  rw [Finset.mul_sum]

/-- The half mean square of a block is its rows' half mean squares added up. -/
theorem half_mean {n k : ℕ} (f : Fin n → Fin k → EReal) (hf : ∀ r x, IsReal (f r x)) :
    Ideal.div ((((1 / 2 : ℝ)) : EReal) * ∑ r, ∑ x, f r x * f r x) (((1024 : ℝ)) : EReal)
      = ∑ r, (((1 / 2 : ℝ)) : EReal) * Ideal.div (∑ x, f r x * f r x) (((1024 : ℝ)) : EReal) := by
  choose g hg using hf
  simp only [hg, ← EReal.coe_mul, ← coe_sum, div_coe_coe _ _ (show (1024 : ℝ) ≠ 0 by norm_num)]
  congr 1
  rw [Finset.mul_sum, Finset.sum_div]
  exact Finset.sum_congr rfl fun r _ => by ring

end Cert.Common

end
-- ==== Proof.Ffn.Ref.lean ====
/- The feed-forward block's gradient, reference side: each stage of the reference at an index, in the form the kernel computes it. -/
module

public import proofs.«01_k».proof.Proof.Gen.FfnRefIdeal.Read
public import proofs.«01_k».proof.Proof.Common.Rms
public import proofs.«01_k».proof.Proof.Common.Rows
public import proofs.«01_k».proof.Proof.Common.Gate
public import Idealize.ShloMosaic.Lib.Pointwise
public import Idealize.ShloMosaic.Lib.Claim

@[expose] public section

set_option maxRecDepth 16384

noncomputable section

namespace Cert.FfnRefIdeal.Tie

open Cert.FfnRefIdeal.Read
open Cert.FfnRefIdeal Cert.Common Idealize.ShloMosaic Idealize.ShloMosaic.TcCoe Idealize.SL.Sem

variable (a0 : FVec Ideal S4112x1024 .f32) (a1 : FVec Ideal S4096x1024 .f32) (a2 : FVec Ideal S1024 .f32) (a3 : FVec Ideal S1x1024 .f32)
  (a4 a5 : FVec Ideal S1x1024x2816 .f32) (a6 : FVec Ideal S1x2816x1024 .f32)

/-- The two projections, the block's output, -/
abbrev gateA : FVec Ideal S4112x2816 .f32 := val_main_v18 (F := Ideal) a0 a3 a4
abbrev gateB : FVec Ideal S4112x2816 .f32 := val_main_v20 (F := Ideal) a0 a3 a5
abbrev outH : FVec Ideal S4112x1024 .f32 := val_main_v25 (F := Ideal) a0 a3 a4 a5 a6
/-- the error, its gradient, the block's output's gradient, -/
abbrev err : FVec Ideal S4096x1024 .f32 := val_main_v43 (F := Ideal) a0 a1 a2 a3 a4 a5 a6
abbrev errD : FVec Ideal S4112x1024 .f32 := val_main_v58 (F := Ideal) a0 a1 a2 a3 a4 a5 a6
abbrev outD : FVec Ideal S4112x1024 .f32 := val_main_v78 (F := Ideal) a0 a1 a2 a3 a4 a5 a6
/-- the gated product's, the two projections', and the input norm's output's. -/
abbrev prodD : FVec Ideal S4112x2816 .f32 := val_main_v79 (F := Ideal) a0 a1 a2 a3 a4 a5 a6
abbrev gateAD : FVec Ideal S4112x2816 .f32 := val_main_v82 (F := Ideal) a0 a1 a2 a3 a4 a5 a6
abbrev gateBD : FVec Ideal S4112x2816 .f32 := val_main_v80 (F := Ideal) a0 a1 a2 a3 a4 a5 a6
abbrev normD : FVec Ideal S4112x1024 .f32 := val_main_v85 (F := Ideal) a0 a1 a2 a3 a4 a5 a6

/-! ## Finite stages -/

theorem isReal_gateA (h0 : ∀ i, IsReal (a0 i)) (h3 : ∀ i, IsReal (a3 i)) (h4 : ∀ i, IsReal (a4 i)) : ∀ i, IsReal (gateA a0 a3 a4 i) := by
  intro i
  idx_vars i
  pointwise [val_main_v0, val_main_v1, val_main_v2, val_main_v3, val_main_v4, val_main_v5, val_main_v6, val_main_v7,
    val_main_v8, val_main_v9, val_main_v10, val_main_v11, val_main_v12, val_main_v13, val_main_v14,
    val_main_v15, val_main_v16, val_main_v17, val_main_v18, val_main_c, val_main_cst, val_main_c_26,
    val_main_c_27, val_main_cst_0, val_main_cst_1, val_main_cst_2, val_main_cst_3, val_main_cst_4, val_main_cst_5,
    val_main_cst_6, val_main_cst_7, val_main_cst_8, val_main_cst_9, val_main_cst_10, val_main_cst_11,
    val_main_cst_12, val_main_cst_13, val_main_cst_14, val_main_cst_15, val_main_cst_16, val_main_cst_17,
    val_main_cst_18, val_main_cst_19, val_main_cst_20, val_main_cst_21, val_main_cst_22, val_main_cst_23,
    val_main_cst_24, val_main_cst_25]
  simp only [ofBits_1024, ofBits_eps]
  exact IsReal.sum fun k => (((h0 _).mul (isReal_rstd (by norm_num) (fun x => a0 (ix2 i0 x)) fun x => h0 _)).mul (h3 _)).mul (h4 _)

theorem isReal_gateB (h0 : ∀ i, IsReal (a0 i)) (h3 : ∀ i, IsReal (a3 i)) (h5 : ∀ i, IsReal (a5 i)) : ∀ i, IsReal (gateB a0 a3 a5 i) := by
  intro i
  idx_vars i
  pointwise [val_main_v0, val_main_v1, val_main_v2, val_main_v3, val_main_v4, val_main_v5, val_main_v6, val_main_v7,
    val_main_v8, val_main_v9, val_main_v10, val_main_v11, val_main_v12, val_main_v13, val_main_v14,
    val_main_v15, val_main_v16, val_main_v19, val_main_v20, val_main_c, val_main_cst, val_main_c_26,
    val_main_c_27, val_main_cst_0, val_main_cst_1, val_main_cst_2, val_main_cst_3, val_main_cst_4, val_main_cst_5,
    val_main_cst_6, val_main_cst_7, val_main_cst_8, val_main_cst_9, val_main_cst_10, val_main_cst_11,
    val_main_cst_12, val_main_cst_13, val_main_cst_14, val_main_cst_15, val_main_cst_16, val_main_cst_17,
    val_main_cst_18, val_main_cst_19, val_main_cst_20, val_main_cst_21, val_main_cst_22, val_main_cst_23,
    val_main_cst_24, val_main_cst_25]
  simp only [ofBits_1024, ofBits_eps]
  exact IsReal.sum fun k => (((h0 _).mul (isReal_rstd (by norm_num) (fun x => a0 (ix2 i0 x)) fun x => h0 _)).mul (h3 _)).mul (h5 _)

/-- The gated product at an index. -/
theorem prod_at (r : Fin 4112) (k : Fin 2816) : val_main_v22 (F := Ideal) a0 a3 a4 a5 (ix2 r k)
    = gateA a0 a3 a4 (ix2 r k) * sigm (gateA a0 a3 a4 (ix2 r k)) * gateB a0 a3 a5 (ix2 r k) := by
  pointwise [val_main_v22, val_main_v21_0, val_main_v21_2, val_main_call0_cst, val_main_call0_cst_0, val_main_call0_cst_1, val_main_call0_v0, val_main_call0_v1, val_main_call0_v2,
    val_main_call0_v3, val_main_call0_v4, val_main_call0_v6, val_main_call0_v7, val_main_c, val_main_cst,
    val_main_c_26, val_main_c_27, val_main_cst_0, val_main_cst_1, val_main_cst_2, val_main_cst_3, val_main_cst_4,
    val_main_cst_5, val_main_cst_6, val_main_cst_7, val_main_cst_8, val_main_cst_9, val_main_cst_10,
    val_main_cst_11, val_main_cst_12, val_main_cst_13, val_main_cst_14, val_main_cst_15, val_main_cst_16,
    val_main_cst_17, val_main_cst_18, val_main_cst_19, val_main_cst_20, val_main_cst_21, val_main_cst_22,
    val_main_cst_23, val_main_cst_24, val_main_cst_25]
  simp only [sigm, zero_sub]

theorem isReal_outH (h0 : ∀ i, IsReal (a0 i)) (h3 : ∀ i, IsReal (a3 i)) (h4 : ∀ i, IsReal (a4 i)) (h5 : ∀ i, IsReal (a5 i)) (h6 : ∀ i, IsReal (a6 i)) :
    ∀ i, IsReal (outH a0 a3 a4 a5 a6 i) := by
  have hA := isReal_gateA a0 a3 a4 h0 h3 h4
  have hB := isReal_gateB a0 a3 a5 h0 h3 h5
  intro i
  idx_vars i
  pointwise [val_main_v25, val_main_v24, val_main_v23]
  simp only [prod_at]
  exact (h0 _).add (IsReal.sum fun k => (((hA _).mul (isReal_sigm (hA _))).mul (hB _)).mul (h6 _))

/-- The error at an index. -/
theorem err_at (r : Fin 4096) (j : Fin 1024) : err a0 a1 a2 a3 a4 a5 a6 (ix2 r j)
    = outH a0 a3 a4 a5 a6 (ix2 ⟨16 + r.val, by omega⟩ j)
        * Ideal.rsqrt (Ideal.div (∑ x, outH a0 a3 a4 a5 a6 (ix2 ⟨16 + r.val, by omega⟩ x) * outH a0 a3 a4 a5 a6 (ix2 ⟨16 + r.val, by omega⟩ x)) (((1024 : ℝ)) : EReal) + (eps : EReal))
        * a2 (ix1 j) - a1 (ix2 r j) := by
  pointwise [val_main_v26, val_main_v27, val_main_v28, val_main_v29, val_main_v30, val_main_v31, val_main_v32, val_main_v33,
    val_main_v34, val_main_v35, val_main_v36, val_main_v37, val_main_v38, val_main_v39, val_main_v40,
    val_main_v41, val_main_v42, val_main_v43, val_main_c, val_main_cst, val_main_c_26, val_main_c_27,
    val_main_cst_0, val_main_cst_1, val_main_cst_2, val_main_cst_3, val_main_cst_4, val_main_cst_5, val_main_cst_6,
    val_main_cst_7, val_main_cst_8, val_main_cst_9, val_main_cst_10, val_main_cst_11, val_main_cst_12,
    val_main_cst_13, val_main_cst_14, val_main_cst_15, val_main_cst_16, val_main_cst_17, val_main_cst_18,
    val_main_cst_19, val_main_cst_20, val_main_cst_21, val_main_cst_22, val_main_cst_23, val_main_cst_24,
    val_main_cst_25]
  simp only [ofBits_1024, ofBits_eps]

/-- A row of the error, at a row of the padded arrays: the first 256 rows carry none. -/
def errRow (R : ℕ) (j : Fin 1024) : EReal :=
  if h : 256 ≤ R ∧ R - 256 < 4096 then err a0 a1 a2 a3 a4 a5 a6 (ix2 ⟨R - 256, h.2⟩ j) else 0

/-- The error's gradient is the error over the width, -/
theorem errD_row (he : ∀ i, IsReal (err a0 a1 a2 a3 a4 a5 a6 i)) (R : ℕ) (j : Fin 1024) :
    Ideal.div (errRow a0 a1 a2 a3 a4 a5 a6 R j) (((1024 : ℝ)) : EReal) = padRow (errD a0 a1 a2 a3 a4 a5 a6) R j := by
  unfold errRow
  by_cases h : 256 ≤ R ∧ R - 256 < 4096
  · rw [dif_pos h, padRow_high _ (by omega)]
    pointwise [val_main_v44, val_main_v45, val_main_v46, val_main_v47, val_main_v48, val_main_v49, val_main_v50, val_main_v51,
    val_main_v52, val_main_v53, val_main_v54, val_main_v55, val_main_v56, val_main_v57, val_main_c,
    val_main_cst, val_main_c_26, val_main_c_27, val_main_cst_0, val_main_cst_1, val_main_cst_2, val_main_cst_3,
    val_main_cst_4, val_main_cst_5, val_main_cst_6, val_main_cst_7, val_main_cst_8, val_main_cst_9, val_main_cst_10,
    val_main_cst_11, val_main_cst_12, val_main_cst_13, val_main_cst_14, val_main_cst_15, val_main_cst_16,
    val_main_cst_17, val_main_cst_18, val_main_cst_19, val_main_cst_20, val_main_cst_21, val_main_cst_22,
    val_main_cst_23, val_main_cst_24, val_main_cst_25, val_main_v58]
    rw [dif_pos (by omega)]
    obtain ⟨e, hq⟩ := he (ix2 ⟨R - 256, h.2⟩ j)
    have hi : (ix2 (⟨R - 240 - 16, by omega⟩ : Fin 4096) j : S4096x1024.Idx) = ix2 ⟨R - 256, h.2⟩ j := by congr 1
    simp only [hi]
    replace hq : val_main_v43 (F := Ideal) a0 a1 a2 a3 a4 a5 a6 (ix2 ⟨R - 256, h.2⟩ j) = (e : EReal) := hq
    unfold err
    rw [hq]
    simp only [ofBits_1024, ofBits_half, ofBits_one, ofBits_two]
    simp only [div_coe_coe _ _ (show (1024 : ℝ) ≠ 0 by norm_num), ← EReal.coe_mul]
    congr 1
    ring
  · rw [dif_neg h]
    have z : Ideal.div 0 (((1024 : ℝ)) : EReal) = 0 := by
      rw [← EReal.coe_zero, div_coe_coe _ _ (by norm_num)]; simp
    rw [z]
    by_cases hR : 240 ≤ R ∧ R - 240 < 4112
    · rw [padRow_high _ hR]
      pointwise [val_main_v44, val_main_v45, val_main_v46, val_main_v47, val_main_v48, val_main_v49, val_main_v50, val_main_v51,
    val_main_v52, val_main_v53, val_main_v54, val_main_v55, val_main_v56, val_main_v57, val_main_c,
    val_main_cst, val_main_c_26, val_main_c_27, val_main_cst_0, val_main_cst_1, val_main_cst_2, val_main_cst_3,
    val_main_cst_4, val_main_cst_5, val_main_cst_6, val_main_cst_7, val_main_cst_8, val_main_cst_9, val_main_cst_10,
    val_main_cst_11, val_main_cst_12, val_main_cst_13, val_main_cst_14, val_main_cst_15, val_main_cst_16,
    val_main_cst_17, val_main_cst_18, val_main_cst_19, val_main_cst_20, val_main_cst_21, val_main_cst_22,
    val_main_cst_23, val_main_cst_24, val_main_cst_25, val_main_v58]
      rw [dif_neg (by omega)]
    · rw [padRow_low _ hR]

theorem isReal_err (h0 : ∀ i, IsReal (a0 i)) (h1 : ∀ i, IsReal (a1 i)) (h2 : ∀ i, IsReal (a2 i)) (h3 : ∀ i, IsReal (a3 i)) (h4 : ∀ i, IsReal (a4 i))
    (h5 : ∀ i, IsReal (a5 i)) (h6 : ∀ i, IsReal (a6 i)) : ∀ i, IsReal (err a0 a1 a2 a3 a4 a5 a6 i) := by
  have hH := isReal_outH a0 a3 a4 a5 a6 h0 h3 h4 h5 h6
  intro i
  idx_vars i
  rw [err_at]
  exact (((hH _).mul (isReal_rstd (by norm_num) _ fun x => hH _)).mul (h2 _)).sub (h1 _)

theorem isReal_errD (he : ∀ i, IsReal (err a0 a1 a2 a3 a4 a5 a6 i)) : ∀ i, IsReal (errD a0 a1 a2 a3 a4 a5 a6 i) := by
  intro i
  idx_vars i
  have h := errD_row a0 a1 a2 a3 a4 a5 a6 he (i0.val + 240) i1
  rw [padRow_add] at h
  rw [← h]
  unfold errRow
  split
  · obtain ⟨e, q⟩ := he (ix2 ⟨i0.val + 240 - 256, by omega⟩ i1)
    rw [q, div_coe_coe _ _ (by norm_num)]
    exact isReal_coe _
  · rw [← EReal.coe_zero, div_coe_coe _ _ (by norm_num)]
    exact isReal_coe _

/-- The block's output's gradient, at the row a padded row names. -/
theorem outD_row (hH : ∀ i, IsReal (outH a0 a3 a4 a5 a6 i)) (hD : ∀ i, IsReal (errD a0 a1 a2 a3 a4 a5 a6 i)) (h2 : ∀ i, IsReal (a2 i)) (R : ℕ) (j : Fin 1024) :
    Ideal.rsqrt (Ideal.div (∑ x, padRow (outH a0 a3 a4 a5 a6) R x * padRow (outH a0 a3 a4 a5 a6) R x) (((1024 : ℝ)) : EReal) + (eps : EReal))
        * (padRow (errD a0 a1 a2 a3 a4 a5 a6) R j * a2 (ix1 j)
          - padRow (outH a0 a3 a4 a5 a6) R j
            * Ideal.rsqrt (Ideal.div (∑ x, padRow (outH a0 a3 a4 a5 a6) R x * padRow (outH a0 a3 a4 a5 a6) R x) (((1024 : ℝ)) : EReal) + (eps : EReal))
            * Ideal.div (∑ x : Fin 1024, padRow (errD a0 a1 a2 a3 a4 a5 a6) R x * a2 (ix1 x) * (padRow (outH a0 a3 a4 a5 a6) R x
                * Ideal.rsqrt (Ideal.div (∑ x, padRow (outH a0 a3 a4 a5 a6) R x * padRow (outH a0 a3 a4 a5 a6) R x) (((1024 : ℝ)) : EReal) + (eps : EReal))))
              (((1024 : ℝ)) : EReal))
      = padRow (outD a0 a1 a2 a3 a4 a5 a6) R j := by
  rw [rms_bwd (by norm_num) (fun x => padRow (outH a0 a3 a4 a5 a6) R x) (fun x => padRow (errD a0 a1 a2 a3 a4 a5 a6) R x) (fun x => a2 (ix1 x))
    (fun x => isReal_padRow _ hH R x) (fun x => isReal_padRow _ hD R x) (fun x => h2 _) j]
  by_cases h : 240 ≤ R ∧ R - 240 < 4112
  · simp only [padRow_high _ h]
    generalize (⟨R - 240, h.2⟩ : Fin 4112) = r
    pointwise [val_main_v26, val_main_v27, val_main_v28, val_main_v29, val_main_v30, val_main_v31, val_main_v32, val_main_v33,
    val_main_v34, val_main_v35, val_main_v36, val_main_v37, val_main_v38, val_main_v39, val_main_v59,
    val_main_v60, val_main_v61, val_main_v62, val_main_v63, val_main_v64, val_main_v65, val_main_v66,
    val_main_v67, val_main_v68, val_main_v69, val_main_v70, val_main_v71, val_main_v72, val_main_v73,
    val_main_v74, val_main_v75, val_main_v76, val_main_v77, val_main_v78, val_main_c, val_main_cst,
    val_main_c_26, val_main_c_27, val_main_cst_0, val_main_cst_1, val_main_cst_2, val_main_cst_3, val_main_cst_4,
    val_main_cst_5, val_main_cst_6, val_main_cst_7, val_main_cst_8, val_main_cst_9, val_main_cst_10,
    val_main_cst_11, val_main_cst_12, val_main_cst_13, val_main_cst_14, val_main_cst_15, val_main_cst_16,
    val_main_cst_17, val_main_cst_18, val_main_cst_19, val_main_cst_20, val_main_cst_21, val_main_cst_22,
    val_main_cst_23, val_main_cst_24, val_main_cst_25]
    simp only [Finset.univ_unique, Finset.sum_singleton, ofBits_1024, ofBits_eps, ofBits_neg_half]
  · have z : Ideal.div 0 (((1024 : ℝ)) : EReal) = 0 := by
      rw [← EReal.coe_zero, div_coe_coe _ _ (by norm_num)]; simp
    simp only [padRow_low _ h, zero_mul, mul_zero, Finset.sum_const_zero, z, add_zero]

theorem isReal_outD (hH : ∀ i, IsReal (outH a0 a3 a4 a5 a6 i)) (hD : ∀ i, IsReal (errD a0 a1 a2 a3 a4 a5 a6 i)) (h2 : ∀ i, IsReal (a2 i)) :
    ∀ i, IsReal (outD a0 a1 a2 a3 a4 a5 a6 i) := by
  intro i
  idx_vars i
  have h := outD_row a0 a1 a2 a3 a4 a5 a6 hH hD h2 (i0.val + 240) i1
  simp only [padRow_add] at h
  rw [← h]
  have hr := isReal_rstd (N := 1024) (by norm_num) (fun x => outH a0 a3 a4 a5 a6 (ix2 i0 x)) fun x => hH _
  refine hr.mul (((hD _).mul (h2 _)).sub (((hH _).mul hr).mul ?_))
  exact isReal_div_1024 (IsReal.sum fun x => ((hD _).mul (h2 _)).mul ((hH _).mul hr))

/-- The gated product's gradient, -/
theorem prodD_row (R : ℕ) (k : Fin 2816) :
    ∑ j, padRow (outD a0 a1 a2 a3 a4 a5 a6) R j * a6 (ix3 0 k j) = padRow (prodD a0 a1 a2 a3 a4 a5 a6) R k := by
  by_cases h : 240 ≤ R ∧ R - 240 < 4112
  · simp only [padRow_high _ h]
    pointwise [val_main_v79, val_main_v23]
  · simp only [padRow_low _ h, zero_mul, Finset.sum_const_zero]

theorem isReal_prodD (hD : ∀ i, IsReal (outD a0 a1 a2 a3 a4 a5 a6 i)) (h6 : ∀ i, IsReal (a6 i)) : ∀ i, IsReal (prodD a0 a1 a2 a3 a4 a5 a6 i) := by
  intro i
  idx_vars i
  have h := prodD_row a0 a1 a2 a3 a4 a5 a6 (i0.val + 240) i1
  rw [padRow_add] at h
  rw [← h]
  exact IsReal.sum fun j => (isReal_padRow _ hD _ _).mul (h6 _)

/-- the first projection's, -/
theorem gateAD_row (hP : ∀ i, IsReal (prodD a0 a1 a2 a3 a4 a5 a6 i)) (hA : ∀ i, IsReal (gateA a0 a3 a4 i)) (hB : ∀ i, IsReal (gateB a0 a3 a5 i)) (R : ℕ) (k : Fin 2816) :
    padRow (prodD a0 a1 a2 a3 a4 a5 a6) R k * padRow (gateB a0 a3 a5) R k * sigm (padRow (gateA a0 a3 a4) R k)
        * (1 + padRow (gateA a0 a3 a4) R k * (1 - sigm (padRow (gateA a0 a3 a4) R k)))
      = padRow (gateAD a0 a1 a2 a3 a4 a5 a6) R k := by
  by_cases h : 240 ≤ R ∧ R - 240 < 4112
  · simp only [padRow_high _ h]
    rw [silu_bwd (hP _) (hA _) (hB _) (isReal_sigm (hA _))]
    pointwise [val_main_v82, val_main_v81, val_main_call1_v0, val_main_call1_v1, val_main_call1_v2, val_main_v21_0,
      val_main_v21_1, val_main_v21_2, val_main_call0_cst, val_main_call0_cst_0, val_main_call0_cst_1, val_main_call0_v0, val_main_call0_v1, val_main_call0_v2,
    val_main_call0_v3, val_main_call0_v4, val_main_call0_v6, val_main_call0_v7, val_main_c, val_main_cst,
    val_main_c_26, val_main_c_27, val_main_cst_0, val_main_cst_1, val_main_cst_2, val_main_cst_3, val_main_cst_4,
    val_main_cst_5, val_main_cst_6, val_main_cst_7, val_main_cst_8, val_main_cst_9, val_main_cst_10,
    val_main_cst_11, val_main_cst_12, val_main_cst_13, val_main_cst_14, val_main_cst_15, val_main_cst_16,
    val_main_cst_17, val_main_cst_18, val_main_cst_19, val_main_cst_20, val_main_cst_21, val_main_cst_22,
    val_main_cst_23, val_main_cst_24, val_main_cst_25]
    simp only [sigm, zero_sub]
  · simp only [padRow_low _ h, zero_mul]

theorem isReal_gateAD (hP : ∀ i, IsReal (prodD a0 a1 a2 a3 a4 a5 a6 i)) (hA : ∀ i, IsReal (gateA a0 a3 a4 i)) (hB : ∀ i, IsReal (gateB a0 a3 a5 i)) :
    ∀ i, IsReal (gateAD a0 a1 a2 a3 a4 a5 a6 i) := by
  intro i
  idx_vars i
  have h := gateAD_row a0 a1 a2 a3 a4 a5 a6 hP hA hB (i0.val + 240) i1
  simp only [padRow_add] at h
  rw [← h]
  have one : IsReal 1 := isReal_coe 1
  exact (((hP _).mul (hB _)).mul (isReal_sigm (hA _))).mul (one.add ((hA _).mul (one.sub (isReal_sigm (hA _)))))

/-- the second projection's, -/
theorem gateBD_row (R : ℕ) (k : Fin 2816) :
    padRow (prodD a0 a1 a2 a3 a4 a5 a6) R k * (padRow (gateA a0 a3 a4) R k * sigm (padRow (gateA a0 a3 a4) R k))
      = padRow (gateBD a0 a1 a2 a3 a4 a5 a6) R k := by
  by_cases h : 240 ≤ R ∧ R - 240 < 4112
  · simp only [padRow_high _ h]
    rw [mul_comm]
    pointwise [val_main_v80, val_main_v21_0, val_main_v21_2, val_main_call0_cst, val_main_call0_cst_0, val_main_call0_cst_1, val_main_call0_v0, val_main_call0_v1, val_main_call0_v2,
    val_main_call0_v3, val_main_call0_v4, val_main_call0_v6, val_main_call0_v7, val_main_c, val_main_cst,
    val_main_c_26, val_main_c_27, val_main_cst_0, val_main_cst_1, val_main_cst_2, val_main_cst_3, val_main_cst_4,
    val_main_cst_5, val_main_cst_6, val_main_cst_7, val_main_cst_8, val_main_cst_9, val_main_cst_10,
    val_main_cst_11, val_main_cst_12, val_main_cst_13, val_main_cst_14, val_main_cst_15, val_main_cst_16,
    val_main_cst_17, val_main_cst_18, val_main_cst_19, val_main_cst_20, val_main_cst_21, val_main_cst_22,
    val_main_cst_23, val_main_cst_24, val_main_cst_25]
    simp only [sigm, zero_sub]
  · simp only [padRow_low _ h, zero_mul]

theorem isReal_gateBD (hP : ∀ i, IsReal (prodD a0 a1 a2 a3 a4 a5 a6 i)) (hA : ∀ i, IsReal (gateA a0 a3 a4 i)) : ∀ i, IsReal (gateBD a0 a1 a2 a3 a4 a5 a6 i) := by
  intro i
  idx_vars i
  have h := gateBD_row a0 a1 a2 a3 a4 a5 a6 (i0.val + 240) i1
  simp only [padRow_add] at h
  rw [← h]
  exact (hP _).mul ((hA _).mul (isReal_sigm (hA _)))

/-- the gated product itself, -/
theorem prod_row (R : ℕ) (k : Fin 2816) :
    padRow (gateA a0 a3 a4) R k * sigm (padRow (gateA a0 a3 a4) R k) * padRow (gateB a0 a3 a5) R k
      = padRow (val_main_v22 (F := Ideal) a0 a3 a4 a5) R k := by
  by_cases h : 240 ≤ R ∧ R - 240 < 4112
  · simp only [padRow_high _ h]
    exact (prod_at a0 a3 a4 a5 _ k).symm
  · simp only [padRow_low _ h, mul_zero]

theorem sum_parts (f : Fin 2816 → EReal) : ∑ i, f i = ∑ k : Fin 1408, f ⟨k.val, by omega⟩ + ∑ k : Fin 1408, f ⟨1408 + k.val, by omega⟩ :=
  Fin.sum_univ_add (a := 1408) (b := 1408) f

/-- and the input norm's output's, added up in four parts. -/
theorem normD_row (R : ℕ) (j : Fin 1024) :
    ∑ k : Fin 1408, padRow (gateAD a0 a1 a2 a3 a4 a5 a6) R ⟨k.val, by omega⟩ * a4 (ix3 0 j ⟨k.val, by omega⟩)
        + ∑ k : Fin 1408, padRow (gateBD a0 a1 a2 a3 a4 a5 a6) R ⟨k.val, by omega⟩ * a5 (ix3 0 j ⟨k.val, by omega⟩)
        + ∑ k : Fin 1408, padRow (gateAD a0 a1 a2 a3 a4 a5 a6) R ⟨1408 + k.val, by omega⟩ * a4 (ix3 0 j ⟨1408 + k.val, by omega⟩)
        + ∑ k : Fin 1408, padRow (gateBD a0 a1 a2 a3 a4 a5 a6) R ⟨1408 + k.val, by omega⟩ * a5 (ix3 0 j ⟨1408 + k.val, by omega⟩)
      = padRow (normD a0 a1 a2 a3 a4 a5 a6) R j := by
  by_cases h : 240 ≤ R ∧ R - 240 < 4112
  · simp only [padRow_high _ h]
    generalize (⟨R - 240, h.2⟩ : Fin 4112) = r
    have e : normD a0 a1 a2 a3 a4 a5 a6 (ix2 r j) = ∑ k : Fin 2816, gateBD a0 a1 a2 a3 a4 a5 a6 (ix2 r k) * a5 (ix3 0 j k)
        + ∑ k : Fin 2816, gateAD a0 a1 a2 a3 a4 a5 a6 (ix2 r k) * a4 (ix3 0 j k) := by
      pointwise [val_main_v85, val_main_v84, val_main_v83, val_main_v17, val_main_v19]
    rw [e, sum_parts, sum_parts (fun k => gateAD a0 a1 a2 a3 a4 a5 a6 (ix2 r k) * a4 (ix3 0 j k))]
    ac_rfl
  · simp only [padRow_low _ h, zero_mul, Finset.sum_const_zero, add_zero]

theorem isReal_normD (hA : ∀ i, IsReal (gateAD a0 a1 a2 a3 a4 a5 a6 i)) (hB : ∀ i, IsReal (gateBD a0 a1 a2 a3 a4 a5 a6 i)) (h4 : ∀ i, IsReal (a4 i))
    (h5 : ∀ i, IsReal (a5 i)) : ∀ i, IsReal (normD a0 a1 a2 a3 a4 a5 a6 i) := by
  intro i
  idx_vars i
  pointwise [val_main_v85, val_main_v84, val_main_v83, val_main_v17, val_main_v19]
  exact (IsReal.sum fun k => (hB _).mul (h5 _)).add (IsReal.sum fun k => (hA _).mul (h4 _))

/-- The input's gradient. -/
theorem inD_row (h0 : ∀ i, IsReal (a0 i)) (hN : ∀ i, IsReal (normD a0 a1 a2 a3 a4 a5 a6 i)) (h3 : ∀ i, IsReal (a3 i)) (R : ℕ) (j : Fin 1024) :
    padRow (outD a0 a1 a2 a3 a4 a5 a6) R j
      + Ideal.rsqrt (Ideal.div (∑ x, padRow a0 R x * padRow a0 R x) (((1024 : ℝ)) : EReal) + (eps : EReal))
        * (padRow (normD a0 a1 a2 a3 a4 a5 a6) R j * a3 (ix2 0 j)
          - padRow a0 R j * Ideal.rsqrt (Ideal.div (∑ x, padRow a0 R x * padRow a0 R x) (((1024 : ℝ)) : EReal) + (eps : EReal))
            * Ideal.div (∑ x : Fin 1024, padRow (normD a0 a1 a2 a3 a4 a5 a6) R x * a3 (ix2 0 x)
                * (padRow a0 R x * Ideal.rsqrt (Ideal.div (∑ x, padRow a0 R x * padRow a0 R x) (((1024 : ℝ)) : EReal) + (eps : EReal))))
              (((1024 : ℝ)) : EReal))
      = padRow (val_main_v109 (F := Ideal) a0 a1 a2 a3 a4 a5 a6) R j := by
  rw [rms_bwd (by norm_num) (fun x => padRow a0 R x) (fun x => padRow (normD a0 a1 a2 a3 a4 a5 a6) R x) (fun x => a3 (ix2 0 x))
    (fun x => isReal_padRow _ h0 R x) (fun x => isReal_padRow _ hN R x) (fun x => h3 _) j]
  by_cases h : 240 ≤ R ∧ R - 240 < 4112
  · simp only [padRow_high _ h]
    generalize (⟨R - 240, h.2⟩ : Fin 4112) = r
    pointwise [val_main_v109, val_main_v1, val_main_v2, val_main_v3, val_main_v4, val_main_v5, val_main_v6, val_main_v7, val_main_v8,
    val_main_v9, val_main_v10, val_main_v11, val_main_v12, val_main_v13, val_main_v14, val_main_v15,
    val_main_v16, val_main_v0, val_main_v86, val_main_v87, val_main_v88, val_main_v89, val_main_v90,
    val_main_v91, val_main_v92, val_main_v93, val_main_v94, val_main_v95, val_main_v96, val_main_v97,
    val_main_v98, val_main_v99, val_main_v100, val_main_v101, val_main_v102, val_main_v103, val_main_v104,
    val_main_v105, val_main_c, val_main_cst, val_main_c_26, val_main_c_27, val_main_cst_0, val_main_cst_1,
    val_main_cst_2, val_main_cst_3, val_main_cst_4, val_main_cst_5, val_main_cst_6, val_main_cst_7, val_main_cst_8,
    val_main_cst_9, val_main_cst_10, val_main_cst_11, val_main_cst_12, val_main_cst_13, val_main_cst_14,
    val_main_cst_15, val_main_cst_16, val_main_cst_17, val_main_cst_18, val_main_cst_19, val_main_cst_20,
    val_main_cst_21, val_main_cst_22, val_main_cst_23, val_main_cst_24, val_main_cst_25]
    simp only [Finset.univ_unique, Finset.sum_singleton, ofBits_1024, ofBits_eps, ofBits_neg_half]
  · have z : Ideal.div 0 (((1024 : ℝ)) : EReal) = 0 := by
      rw [← EReal.coe_zero, div_coe_coe _ _ (by norm_num)]; simp
    simp only [padRow_low _ h, zero_mul, mul_zero, Finset.sum_const_zero, z, add_zero]

/-! ## The results -/

theorem v110_at (R : Fin 4352) (j : Fin 1024) :
    val_main_v110 (F := Ideal) a0 a1 a2 a3 a4 a5 a6 (ix2 R j) = padRow (val_main_v109 (F := Ideal) a0 a1 a2 a3 a4 a5 a6) R.val j := by
  pointwise [val_main_v110, val_main_c, val_main_call2_v0]
  simp only [padRow, sitofp_zero]

theorem v114_at (R : Fin 4352) (j : Fin 1024) :
    val_main_v114 (F := Ideal) a0 a1 a2 a3 a4 a5 a6 (ix2 R j) = padRow (outD a0 a1 a2 a3 a4 a5 a6) R.val j := by
  pointwise [val_main_v114, val_main_v113, val_main_c_27, val_main_call4_v0]
  simp only [padRow, sitofp_zero]

theorem v112_first (R : Fin 4352) (k : Fin 2816) :
    val_main_v112 (F := Ideal) a0 a1 a2 a3 a4 a5 a6 (ix2 ⟨k.val, by omega⟩ R) = padRow (gateAD a0 a1 a2 a3 a4 a5 a6) R.val k := by
  pointwise [val_main_v112, val_main_v111, val_main_v108, val_main_v107, val_main_c_26, val_main_call3_v0]
  simp only [sitofp_zero]
  by_cases h : 240 ≤ R.val ∧ R.val - 240 < 4112
  · rw [dif_pos ⟨by omega, h⟩, padRow_high _ h]
  · rw [dif_neg fun e => h e.2, padRow_low _ h]

theorem v112_second (R : Fin 4352) (k : Fin 2816) :
    val_main_v112 (F := Ideal) a0 a1 a2 a3 a4 a5 a6 (ix2 ⟨2816 + k.val, by omega⟩ R) = padRow (gateBD a0 a1 a2 a3 a4 a5 a6) R.val k := by
  pointwise [val_main_v112, val_main_v111, val_main_v108, val_main_v107, val_main_c_26, val_main_call3_v0]
  simp only [sitofp_zero]
  by_cases h : 240 ≤ R.val ∧ R.val - 240 < 4112
  · rw [dif_pos ⟨by omega, h⟩, padRow_high _ h]
  · rw [dif_neg fun e => h e.2, padRow_low _ h]

theorem v112_third (R : Fin 4352) (k : Fin 2816) :
    val_main_v112 (F := Ideal) a0 a1 a2 a3 a4 a5 a6 (ix2 ⟨5632 + k.val, by omega⟩ R) = padRow (val_main_v22 (F := Ideal) a0 a3 a4 a5) R.val k := by
  pointwise [val_main_v112, val_main_v111, val_main_v108, val_main_v107, val_main_c_26, val_main_call3_v0]
  simp only [sitofp_zero]
  by_cases h : 240 ≤ R.val ∧ R.val - 240 < 4112
  · rw [dif_pos ⟨by omega, h⟩, padRow_high _ h]
    rw [dif_neg (by omega), dif_neg (by omega)]
    exact congrArg (fun q => val_main_v22 (F := Ideal) a0 a3 a4 a5 (ix2 _ q)) (Fin.ext (by show 5632 + k.val - 2816 - 2816 = k.val; omega))
  · rw [dif_neg fun e => h e.2, padRow_low _ h]

/-- The last norm's scale gradient, -/
theorem v116_at (z : Fin 1) (j : Fin 1024) :
    ∑ r : Fin 4112, errD a0 a1 a2 a3 a4 a5 a6 (ix2 r j) * (outH a0 a3 a4 a5 a6 (ix2 r j)
        * Ideal.rsqrt (Ideal.div (∑ x, outH a0 a3 a4 a5 a6 (ix2 r x) * outH a0 a3 a4 a5 a6 (ix2 r x)) (((1024 : ℝ)) : EReal) + (eps : EReal)))
      = val_main_v116 (F := Ideal) a0 a1 a2 a3 a4 a5 a6 (ix2 z j) := by
  pointwise [val_main_v116, val_main_v26, val_main_v27, val_main_v28, val_main_v29, val_main_v30, val_main_v31, val_main_v32, val_main_v33,
    val_main_v34, val_main_v35, val_main_v36, val_main_v37, val_main_v38, val_main_v39, val_main_v59,
    val_main_v60, val_main_v61, val_main_v62, val_main_v63, val_main_v64, val_main_v65, val_main_v66,
    val_main_v67, val_main_v68, val_main_v69, val_main_v70, val_main_v71, val_main_v72, val_main_v73,
    val_main_v74, val_main_v75, val_main_v76, val_main_v77, val_main_v78, val_main_c, val_main_cst,
    val_main_c_26, val_main_c_27, val_main_cst_0, val_main_cst_1, val_main_cst_2, val_main_cst_3, val_main_cst_4,
    val_main_cst_5, val_main_cst_6, val_main_cst_7, val_main_cst_8, val_main_cst_9, val_main_cst_10,
    val_main_cst_11, val_main_cst_12, val_main_cst_13, val_main_cst_14, val_main_cst_15, val_main_cst_16,
    val_main_cst_17, val_main_cst_18, val_main_cst_19, val_main_cst_20, val_main_cst_21, val_main_cst_22,
    val_main_cst_23, val_main_cst_24, val_main_cst_25]
  simp only [Finset.univ_unique, Finset.sum_singleton, ofBits_1024, ofBits_eps]
  exact Finset.sum_congr rfl fun r _ => mul_comm _ _

/-- the input norm's, -/
theorem v106_at (z : Fin 1) (j : Fin 1024) :
    ∑ r : Fin 4112, normD a0 a1 a2 a3 a4 a5 a6 (ix2 r j) * (a0 (ix2 r j)
        * Ideal.rsqrt (Ideal.div (∑ x, a0 (ix2 r x) * a0 (ix2 r x)) (((1024 : ℝ)) : EReal) + (eps : EReal)))
      = val_main_v106 (F := Ideal) a0 a1 a2 a3 a4 a5 a6 (ix2 z j) := by
  pointwise [val_main_v106, val_main_v1, val_main_v2, val_main_v3, val_main_v4, val_main_v5, val_main_v6, val_main_v7, val_main_v8,
    val_main_v9, val_main_v10, val_main_v11, val_main_v12, val_main_v13, val_main_v14, val_main_v15,
    val_main_v16, val_main_v0, val_main_v86, val_main_v87, val_main_v88, val_main_v89, val_main_v90,
    val_main_v91, val_main_v92, val_main_v93, val_main_v94, val_main_v95, val_main_v96, val_main_v97,
    val_main_v98, val_main_v99, val_main_v100, val_main_v101, val_main_v102, val_main_v103, val_main_v104,
    val_main_v105, val_main_c, val_main_cst, val_main_c_26, val_main_c_27, val_main_cst_0, val_main_cst_1,
    val_main_cst_2, val_main_cst_3, val_main_cst_4, val_main_cst_5, val_main_cst_6, val_main_cst_7, val_main_cst_8,
    val_main_cst_9, val_main_cst_10, val_main_cst_11, val_main_cst_12, val_main_cst_13, val_main_cst_14,
    val_main_cst_15, val_main_cst_16, val_main_cst_17, val_main_cst_18, val_main_cst_19, val_main_cst_20,
    val_main_cst_21, val_main_cst_22, val_main_cst_23, val_main_cst_24, val_main_cst_25]
  simp only [Finset.univ_unique, Finset.sum_singleton, ofBits_1024, ofBits_eps]
  exact Finset.sum_congr rfl fun r _ => mul_comm _ _

/-- What row `R` adds to the loss. -/
def lossRow (R : ℕ) : EReal :=
  (((1 / 2 : ℝ)) : EReal) * Ideal.div (∑ k, errRow a0 a1 a2 a3 a4 a5 a6 R k * errRow a0 a1 a2 a3 a4 a5 a6 R k) (((1024 : ℝ)) : EReal)

theorem isReal_errRow (he : ∀ i, IsReal (err a0 a1 a2 a3 a4 a5 a6 i)) (R : ℕ) (k : Fin 1024) : IsReal (errRow a0 a1 a2 a3 a4 a5 a6 R k) := by
  unfold errRow; split
  · exact he _
  · exact isReal_zero

theorem lossRow_low (R : ℕ) (h : R < 256) : lossRow a0 a1 a2 a3 a4 a5 a6 R = 0 := by
  have hz : Ideal.div 0 (((1024 : ℝ)) : EReal) = 0 := by
    rw [← EReal.coe_zero, div_coe_coe _ _ (by norm_num)]; simp
  have hl : ∀ k, errRow a0 a1 a2 a3 a4 a5 a6 R k = 0 := fun k => by rw [errRow, dif_neg (by omega)]
  rw [lossRow]
  simp only [hl, mul_zero, Finset.sum_const_zero, hz]

/-- A tile's half mean square is its rows' contributions added up. -/
theorem loss_tile (he : ∀ i, IsReal (err a0 a1 a2 a3 a4 a5 a6 i)) (f : Fin 256 → ℕ) :
    Ideal.div ((((1 / 2 : ℝ)) : EReal) * ∑ r : Fin 256, ∑ k : Fin 1024, errRow a0 a1 a2 a3 a4 a5 a6 (f r) k * errRow a0 a1 a2 a3 a4 a5 a6 (f r) k) (((1024 : ℝ)) : EReal)
      = ∑ r : Fin 256, lossRow a0 a1 a2 a3 a4 a5 a6 (f r) := by
  unfold lossRow
  exact half_mean (fun r k => errRow a0 a1 a2 a3 a4 a5 a6 (f r) k) fun r k => isReal_errRow a0 a1 a2 a3 a4 a5 a6 he _ _

/-- The loss. -/
theorem v115_at (he : ∀ i, IsReal (err a0 a1 a2 a3 a4 a5 a6 i)) (z : Fin 1) (q : Fin 128) :
    ∑ x : Fin 4112, lossRow a0 a1 a2 a3 a4 a5 a6 (x.val + 240) = val_main_v115 (F := Ideal) a0 a1 a2 a3 a4 a5 a6 (ix2 z q) := by
  have e : val_main_v115 (F := Ideal) a0 a1 a2 a3 a4 a5 a6 (ix2 z q) = (((1 / 2 : ℝ)) : EReal) * ∑ r : Fin 4096,
      Ideal.div (∑ k, err a0 a1 a2 a3 a4 a5 a6 (ix2 r k) * err a0 a1 a2 a3 a4 a5 a6 (ix2 r k)) (((1024 : ℝ)) : EReal) := by
    pointwise [val_main_v115, val_main_v44, val_main_v45, val_main_v46, val_main_v47, val_main_v48, val_main_v49, val_main_v50, val_main_v51,
    val_main_c, val_main_cst, val_main_c_26, val_main_c_27, val_main_cst_0, val_main_cst_1, val_main_cst_2,
    val_main_cst_3, val_main_cst_4, val_main_cst_5, val_main_cst_6, val_main_cst_7, val_main_cst_8, val_main_cst_9,
    val_main_cst_10, val_main_cst_11, val_main_cst_12, val_main_cst_13, val_main_cst_14, val_main_cst_15,
    val_main_cst_16, val_main_cst_17, val_main_cst_18, val_main_cst_19, val_main_cst_20, val_main_cst_21,
    val_main_cst_22, val_main_cst_23, val_main_cst_24, val_main_cst_25]
    simp only [ofBits_1024, ofBits_half]
  rw [e, half_sum (fun r : Fin 4096 => _) fun r => isReal_mean _ fun k => he _]
  have s := Fin.sum_univ_add (M := EReal) (a := 16) (b := 4096) (fun x => lossRow a0 a1 a2 a3 a4 a5 a6 (x.val + 240))
  refine Eq.trans s ?_
  have z0 : ∑ i : Fin 16, lossRow a0 a1 a2 a3 a4 a5 a6 ((Fin.castAdd 4096 i).val + 240) = 0 := by
    refine Finset.sum_eq_zero fun i _ => lossRow_low a0 a1 a2 a3 a4 a5 a6 _ ?_
    have hi := i.isLt
    rw [Fin.val_castAdd]; omega
  rw [z0, zero_add]
  refine Finset.sum_congr rfl fun r _ => ?_
  have hr := r.isLt
  have hl : ∀ k, errRow a0 a1 a2 a3 a4 a5 a6 ((Fin.natAdd 16 r).val + 240) k = err a0 a1 a2 a3 a4 a5 a6 (ix2 r k) := fun k => by
    rw [errRow, dif_pos (by rw [Fin.val_natAdd]; omega)]
    refine congrArg (fun q => err a0 a1 a2 a3 a4 a5 a6 (ix2 q k)) (Fin.ext ?_)
    show 16 + r.val + 240 - 256 = r.val
    omega
  rw [lossRow]
  simp only [hl]

/-- The reference's run, its results named by their stages. -/
theorem run_read (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v110) = val_main_v110 (F := Ideal) (m (c.tc.loc main_arg0)) (m (c.tc.loc main_arg1)) (m (c.tc.loc main_arg2)) (m (c.tc.loc main_arg3))
          (m (c.tc.loc main_arg4)) (m (c.tc.loc main_arg5)) (m (c.tc.loc main_arg6))
      ∧ r.2.mem (c.tc.loc main_v112) = val_main_v112 (F := Ideal) (m (c.tc.loc main_arg0)) (m (c.tc.loc main_arg1)) (m (c.tc.loc main_arg2)) (m (c.tc.loc main_arg3))
          (m (c.tc.loc main_arg4)) (m (c.tc.loc main_arg5)) (m (c.tc.loc main_arg6))
      ∧ r.2.mem (c.tc.loc main_v114) = val_main_v114 (F := Ideal) (m (c.tc.loc main_arg0)) (m (c.tc.loc main_arg1)) (m (c.tc.loc main_arg2)) (m (c.tc.loc main_arg3))
          (m (c.tc.loc main_arg4)) (m (c.tc.loc main_arg5)) (m (c.tc.loc main_arg6))
      ∧ r.2.mem (c.tc.loc main_v115) = val_main_v115 (F := Ideal) (m (c.tc.loc main_arg0)) (m (c.tc.loc main_arg1)) (m (c.tc.loc main_arg2)) (m (c.tc.loc main_arg3))
          (m (c.tc.loc main_arg4)) (m (c.tc.loc main_arg5)) (m (c.tc.loc main_arg6))
      ∧ r.2.mem (c.tc.loc main_v116) = val_main_v116 (F := Ideal) (m (c.tc.loc main_arg0)) (m (c.tc.loc main_arg1)) (m (c.tc.loc main_arg2)) (m (c.tc.loc main_arg3))
          (m (c.tc.loc main_arg4)) (m (c.tc.loc main_arg5)) (m (c.tc.loc main_arg6))
      ∧ r.2.mem (c.tc.loc main_v106) = val_main_v106 (F := Ideal) (m (c.tc.loc main_arg0)) (m (c.tc.loc main_arg1)) (m (c.tc.loc main_arg2)) (m (c.tc.loc main_arg3))
          (m (c.tc.loc main_arg4)) (m (c.tc.loc main_arg5)) (m (c.tc.loc main_arg6))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6) :=
  (θ_run _ _ _).mono (fun r h c => ⟨(h c).1.trans (val_main_v110_eq _), (h c).2.1.trans (val_main_v112_eq _), (h c).2.2.1.trans (val_main_v114_eq _), (h c).2.2.2.1.trans (val_main_v115_eq _), (h c).2.2.2.2.1.trans (val_main_v116_eq _), (h c).2.2.2.2.2.1.trans (val_main_v106_eq _), (h c).2.2.2.2.2.2⟩) (Value.run m ρ)

end Cert.FfnRefIdeal.Tie

end
-- ==== Proof.Ffn.Value.lean ====
/- The feed-forward block's gradient: the kernel's six arrays are the reference's. -/
module

public import proofs.«01_k».proof.Defs
public import proofs.«01_k».proof.Proof.Ffn.Blocks
public import proofs.«01_k».proof.Proof.Ffn.Ref
public import proofs.«01_k».proof.Proof.Common.Congr
public import proofs.«01_k».proof.Proof.Gen.Pre_ffn_finite
public import proofs.«01_k».proof.Proof.Ffn.FrameIdeal
public import proofs.«01_k».proof.Proof.Gen.FfnRefIdeal.Read
public import proofs.«01_k».proof.Proof.Common.Rms
public import proofs.«01_k».proof.Proof.Common.Rows
public import proofs.«01_k».proof.Proof.Common.Store
public import Idealize.ShloMosaic.Lib.Pipeline.ValueKit
public import Idealize.ShloMosaic.Lib.Pointwise
public import Idealize.ShloMosaic.Lib.Claim

@[expose] public section

set_option maxRecDepth 16384

noncomputable section

namespace Cert.FfnIdeal.Tie

open Cert.FfnRefIdeal.Read
open Cert.FfnIdeal Cert.FfnIdeal.Gen Cert.FfnIdeal.Hand Cert.Common Idealize.ShloMosaic Idealize.ShloMosaic.TcCoe Idealize.SL.Sem
open Idealize.ShloMosaic.Pipeline (Dat)

variable (m : (ℓ : Loc nD τ sig) → Buf (Elt Ideal) ℓ)

/-- The precondition, read off: every argument is finite. -/
theorem finite_args (a0 : FVec Ideal S4112x1024 .f32) (a1 : FVec Ideal S4096x1024 .f32) (a2 : FVec Ideal S1024 .f32) (a3 : FVec Ideal S1x1024 .f32)
    (a4 a5 : FVec Ideal S1x1024x2816 .f32) (a6 : FVec Ideal S1x2816x1024 .f32) (h : Cert.Pre_ffn_finite.fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) := by
  haveI : Subsingleton Cert.Pre_ffn_finite.S_.Idx := ⟨fun i j => funext fun a => a.elim0⟩
  dsimp only [Cert.Pre_ffn_finite.fn, Cert.Pre_ffn_finite.fn_part1, Cert.Pre_ffn_finite.fn_part2] at h
  have e := congrFun h (fun a => a.elim0)
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨e, h1⟩ := IntOp.andi_eq_one.1 e
  obtain ⟨-, h0⟩ := IntOp.andi_eq_one.1 e
  exact ⟨finite_of_all _ _ (fun _ => ofBits_inf) _ _ _ _ h0, finite_of_all _ _ (fun _ => ofBits_inf) _ _ _ _ h1,
    finite_of_all _ _ (fun _ => ofBits_inf) _ _ _ _ h2, finite_of_all _ _ (fun _ => ofBits_inf) _ _ _ _ h3,
    finite_of_all _ _ (fun _ => ofBits_inf) _ _ _ _ h4, finite_of_all _ _ (fun _ => ofBits_inf) _ _ _ _ h5,
    finite_of_all _ _ (fun _ => ofBits_inf) _ _ _ _ h6⟩

/-- Which of the reference's arrays are finite. -/
structure Fin7 (c : Dev nD) : Prop where
  h0 : ∀ i, IsReal ((m (c.tc.loc main_arg0)) i)
  h2 : ∀ i, IsReal ((m (c.tc.loc main_arg2)) i)
  h3 : ∀ i, IsReal ((m (c.tc.loc main_arg3)) i)
  H : ∀ i, IsReal ((Cert.FfnRefIdeal.Tie.outH (m (c.tc.loc main_arg0)) (m (c.tc.loc main_arg3)) (m (c.tc.loc main_arg4)) (m (c.tc.loc main_arg5)) (m (c.tc.loc main_arg6))) i)
  A : ∀ i, IsReal ((Cert.FfnRefIdeal.Tie.gateA (m (c.tc.loc main_arg0)) (m (c.tc.loc main_arg3)) (m (c.tc.loc main_arg4))) i)
  B : ∀ i, IsReal ((Cert.FfnRefIdeal.Tie.gateB (m (c.tc.loc main_arg0)) (m (c.tc.loc main_arg3)) (m (c.tc.loc main_arg5))) i)
  err : ∀ i, IsReal ((Cert.FfnRefIdeal.Tie.err (m (c.tc.loc main_arg0)) (m (c.tc.loc main_arg1)) (m (c.tc.loc main_arg2)) (m (c.tc.loc main_arg3)) (m (c.tc.loc main_arg4)) (m (c.tc.loc main_arg5))
      (m (c.tc.loc main_arg6))) i)
  errD : ∀ i, IsReal ((Cert.FfnRefIdeal.Tie.errD (m (c.tc.loc main_arg0)) (m (c.tc.loc main_arg1)) (m (c.tc.loc main_arg2)) (m (c.tc.loc main_arg3)) (m (c.tc.loc main_arg4)) (m (c.tc.loc main_arg5))
      (m (c.tc.loc main_arg6))) i)

theorem fin7 (c : Dev nD) (hp : Cert.Pre_FfnIdeal_ffn_finite m) : Fin7 m c := by
  obtain ⟨h0, h1, h2, h3, h4, h5, h6⟩ := finite_args _ _ _ _ _ _ _ (hp c)
  have he := Cert.FfnRefIdeal.Tie.isReal_err (m (c.tc.loc main_arg0)) (m (c.tc.loc main_arg1)) (m (c.tc.loc main_arg2)) (m (c.tc.loc main_arg3)) (m (c.tc.loc main_arg4)) (m (c.tc.loc main_arg5))
      (m (c.tc.loc main_arg6)) h0 h1 h2 h3 h4 h5 h6
  exact ⟨h0, h2, h3, Cert.FfnRefIdeal.Tie.isReal_outH _ _ _ _ _ h0 h3 h4 h5 h6, Cert.FfnRefIdeal.Tie.isReal_gateA _ _ _ h0 h3 h4,
    Cert.FfnRefIdeal.Tie.isReal_gateB _ _ _ h0 h3 h5, he, Cert.FfnRefIdeal.Tie.isReal_errD _ _ _ _ _ _ _ he⟩

theorem first_word : ∀ t : Fin cfg0.N, Scalar.cmpi .eq (BitVec.ofNat 32 ((grid0.coords t) 0).val) 0#32 = BitVec.ofBool (decide (t.val = 0)) :=
  (by decide +kernel : ∀ t : Fin grid0.N, _)

/-- The error of a tile's rows. -/
theorem errT_at (c : Dev nD) (t : Fin cfg0.N) (r : Fin 256) (j : Fin 1024) :
    errT m c t (ix2 r j) = Cert.FfnRefIdeal.Tie.errRow (m (c.tc.loc main_arg0)) (m (c.tc.loc main_arg1)) (m (c.tc.loc main_arg2)) (m (c.tc.loc main_arg3)) (m (c.tc.loc main_arg4)) (m (c.tc.loc main_arg5))
      (m (c.tc.loc main_arg6)) (row t r).val j := by
  have hN := lt_of_lt_of_eq t.isLt N_0
  unfold errT
  pointwise [k0_pay7, k0_pay6, k0_pay5, k0_pay4]
  rw [first_word t]
  by_cases h : t.val = 0
  · rw [Cert.FfnRefIdeal.Tie.errRow, dif_neg (by show ¬ (256 ≤ t.val * 256 + r.val ∧ _); omega)]
    simp [h, Scalar.select]
  · have hR : 256 ≤ t.val * 256 + r.val ∧ t.val * 256 + r.val - 256 < 4096 := by omega
    have hR' : 240 ≤ t.val * 256 + r.val ∧ t.val * 256 + r.val - 240 < 4112 := by omega
    rw [Cert.FfnRefIdeal.Tie.errRow, dif_pos hR, Cert.FfnRefIdeal.Tie.err_at]
    simp only [h, decide_false, BitVec.ofBool_false, Scalar.select, if_false, b0, b1, b4, padRow_high _ hR', ofBits_1024, ofBits_eps]
    have e1 : (⟨t.val * 256 + r.val - 240, hR'.2⟩ : Fin 4112) = ⟨16 + (t.val * 256 + r.val - 256), by omega⟩ := Fin.ext (by show t.val * 256 + r.val - 240 = 16 + (t.val * 256 + r.val - 256); omega)
    have e2 : (⟨(t.val - 1) * 256 + r.val, by omega⟩ : Fin 4096) = ⟨t.val * 256 + r.val - 256, hR.2⟩ := Fin.ext (by show (t.val - 1) * 256 + r.val = t.val * 256 + r.val - 256; omega)
    simp only [e1, e2]
    rfl

/-- Their normalised output. -/
theorem pay6_at (c : Dev nD) (t : Fin cfg0.N) (r : Fin 256) (j : Fin 1024) : k0_pay6 (F := Ideal) (iblk m c 0 t) (ix2 r j)
    = padRow (Cert.FfnRefIdeal.Tie.outH (m (c.tc.loc main_arg0)) (m (c.tc.loc main_arg3)) (m (c.tc.loc main_arg4)) (m (c.tc.loc main_arg5)) (m (c.tc.loc main_arg6))) (row t r).val j * Ideal.rsqrt (Ideal.div (∑ x, padRow (Cert.FfnRefIdeal.Tie.outH (m (c.tc.loc main_arg0)) (m (c.tc.loc main_arg3)) (m (c.tc.loc main_arg4)) (m (c.tc.loc main_arg5)) (m (c.tc.loc main_arg6))) (row t r).val x
        * padRow (Cert.FfnRefIdeal.Tie.outH (m (c.tc.loc main_arg0)) (m (c.tc.loc main_arg3)) (m (c.tc.loc main_arg4)) (m (c.tc.loc main_arg5)) (m (c.tc.loc main_arg6))) (row t r).val x) (((1024 : ℝ)) : EReal) + (eps : EReal)) := by
  pointwise [k0_pay6, k0_pay5, k0_pay4]
  simp only [b0, ofBits_1024, ofBits_eps]

/-- The block's output's gradient on a tile's rows, -/
theorem wideT_at (c : Dev nD) (hf : Fin7 m c) (t : Fin cfg0.N) (r : Fin 256) (j : Fin 1024) :
    wideT m c t (ix2 r j) = padRow (Cert.FfnRefIdeal.Tie.outD (m (c.tc.loc main_arg0)) (m (c.tc.loc main_arg1)) (m (c.tc.loc main_arg2)) (m (c.tc.loc main_arg3)) (m (c.tc.loc main_arg4)) (m (c.tc.loc main_arg5))
      (m (c.tc.loc main_arg6))) (row t r).val j := by
  have he := fun x => errT_at m c t r x
  have hd := fun x => Cert.FfnRefIdeal.Tie.errD_row (m (c.tc.loc main_arg0)) (m (c.tc.loc main_arg1)) (m (c.tc.loc main_arg2)) (m (c.tc.loc main_arg3)) (m (c.tc.loc main_arg4)) (m (c.tc.loc main_arg5))
      (m (c.tc.loc main_arg6)) hf.err (row t r).val x
  unfold wideT
  generalize errT m c t = E at he ⊢
  pointwise [k0_pay12, k0_pay11, k0_pay6, k0_pay5, k0_pay4]
  simp only [b0, b4, he, ofBits_1024, ofBits_eps, hd]
  exact Cert.FfnRefIdeal.Tie.outD_row (m (c.tc.loc main_arg0)) (m (c.tc.loc main_arg1)) (m (c.tc.loc main_arg2)) (m (c.tc.loc main_arg3)) (m (c.tc.loc main_arg4)) (m (c.tc.loc main_arg5))
      (m (c.tc.loc main_arg6)) hf.H hf.errD hf.h2 _ j

theorem outerT_at (c : Dev nD) (hf : Fin7 m c) (t : Fin cfg0.N) (r : Fin 256) (j : Fin 1024) :
    outerT m c t (ix2 r j) = padRow (Cert.FfnRefIdeal.Tie.outD (m (c.tc.loc main_arg0)) (m (c.tc.loc main_arg1)) (m (c.tc.loc main_arg2)) (m (c.tc.loc main_arg3)) (m (c.tc.loc main_arg4)) (m (c.tc.loc main_arg5))
      (m (c.tc.loc main_arg6))) (row t r).val j := by
  refine Eq.trans ?_ (wideT_at m c hf t r j)
  unfold outerT wideT
  pointwise [k0_pay14]

/-- the gated product's gradient, its first columns and its last, -/
theorem gateT_at (c : Dev nD) (hf : Fin7 m c) (t : Fin cfg0.N) (r : Fin 256) (k : Fin 1408) :
    gateT m c t (ix2 r k) = padRow (Cert.FfnRefIdeal.Tie.prodD (m (c.tc.loc main_arg0)) (m (c.tc.loc main_arg1)) (m (c.tc.loc main_arg2)) (m (c.tc.loc main_arg3)) (m (c.tc.loc main_arg4)) (m (c.tc.loc main_arg5))
      (m (c.tc.loc main_arg6))) (row t r).val ⟨k.val, by omega⟩ := by
  refine Eq.trans ?_ (Cert.FfnRefIdeal.Tie.prodD_row (m (c.tc.loc main_arg0)) (m (c.tc.loc main_arg1)) (m (c.tc.loc main_arg2)) (m (c.tc.loc main_arg3)) (m (c.tc.loc main_arg4)) (m (c.tc.loc main_arg5))
      (m (c.tc.loc main_arg6)) (row t r).val ⟨k.val, by omega⟩)
  have e : gateT m c t (ix2 r k) = ∑ x, outerT m c t (ix2 r x) * wt (V m c main_v36) (ix2 k x) := by
    unfold gateT outerT
    generalize wt (V m c main_v36) = w
    pointwise [k0_pay16]
  rw [e]
  exact Finset.sum_congr rfl fun x _ => congrArg₂ (· * ·) (outerT_at m c hf t r x) ((wt_at _ k x).trans (V36 m c _ x))

theorem pay28_at (c : Dev nD) (hf : Fin7 m c) (t : Fin cfg0.N) (r : Fin 256) (k : Fin 1408) :
    k0_pay28 (F := Ideal) (outerT m c t) (wb (V m c main_v36)) (constant S256x1408 FTy.f32 0#32) (ix2 r k)
      = padRow (Cert.FfnRefIdeal.Tie.prodD (m (c.tc.loc main_arg0)) (m (c.tc.loc main_arg1)) (m (c.tc.loc main_arg2)) (m (c.tc.loc main_arg3)) (m (c.tc.loc main_arg4)) (m (c.tc.loc main_arg5))
      (m (c.tc.loc main_arg6))) (row t r).val ⟨1408 + k.val, by omega⟩ := by
  refine Eq.trans ?_ (Cert.FfnRefIdeal.Tie.prodD_row (m (c.tc.loc main_arg0)) (m (c.tc.loc main_arg1)) (m (c.tc.loc main_arg2)) (m (c.tc.loc main_arg3)) (m (c.tc.loc main_arg4)) (m (c.tc.loc main_arg5))
      (m (c.tc.loc main_arg6)) (row t r).val ⟨1408 + k.val, by omega⟩)
  have e : k0_pay28 (F := Ideal) (outerT m c t) (wb (V m c main_v36)) (constant S256x1408 FTy.f32 0#32) (ix2 r k)
      = ∑ x, outerT m c t (ix2 r x) * wb (V m c main_v36) (ix2 k x) := by
    generalize wb (V m c main_v36) = w
    generalize outerT m c t = o
    pointwise [k0_pay28]
  rw [e]
  exact Finset.sum_congr rfl fun x _ => congrArg₂ (· * ·) (outerT_at m c hf t r x) ((wb_at _ k x).trans (V36 m c _ x))

/-- and the two projections' and the gated product itself on each half of the columns. -/
theorem pay22_at (c : Dev nD) (hf : Fin7 m c) (hP : ∀ i, IsReal ((Cert.FfnRefIdeal.Tie.prodD (m (c.tc.loc main_arg0)) (m (c.tc.loc main_arg1)) (m (c.tc.loc main_arg2)) (m (c.tc.loc main_arg3)) (m (c.tc.loc main_arg4)) (m (c.tc.loc main_arg5))
      (m (c.tc.loc main_arg6))) i)) (t : Fin cfg0.N) (r : Fin 256) (k : Fin 1408) :
    k0_pay22 (F := Ideal) (gateT m c t) (k0_pay17 (q0 (iblk m c 3 t))) (k0_pay18 (q2 (iblk m c 3 t))) (ix2 r k)
      = padRow (Cert.FfnRefIdeal.Tie.gateAD (m (c.tc.loc main_arg0)) (m (c.tc.loc main_arg1)) (m (c.tc.loc main_arg2)) (m (c.tc.loc main_arg3)) (m (c.tc.loc main_arg4)) (m (c.tc.loc main_arg5))
      (m (c.tc.loc main_arg6))) (row t r).val ⟨k.val, by omega⟩ := by
  have h0 := q0_at m c t r k
  have h2 := q2_at m c t r k
  have hg := gateT_at m c hf t r k
  generalize q0 (iblk m c 3 t) = x0 at h0 ⊢
  generalize q2 (iblk m c 3 t) = x2 at h2 ⊢
  generalize gateT m c t = g at hg ⊢
  pointwise [k0_pay22, k0_pay20, k0_pay19, k0_pay17, k0_pay18]
  rw [h0, h2, hg]
  exact Cert.FfnRefIdeal.Tie.gateAD_row (m (c.tc.loc main_arg0)) (m (c.tc.loc main_arg1)) (m (c.tc.loc main_arg2)) (m (c.tc.loc main_arg3)) (m (c.tc.loc main_arg4)) (m (c.tc.loc main_arg5))
      (m (c.tc.loc main_arg6)) hP hf.A hf.B _ _

theorem pay23_at (c : Dev nD) (hf : Fin7 m c) (t : Fin cfg0.N) (r : Fin 256) (k : Fin 1408) :
    k0_pay23 (F := Ideal) (gateT m c t) (k0_pay17 (q0 (iblk m c 3 t))) (ix2 r k) = padRow (Cert.FfnRefIdeal.Tie.gateBD (m (c.tc.loc main_arg0)) (m (c.tc.loc main_arg1)) (m (c.tc.loc main_arg2)) (m (c.tc.loc main_arg3)) (m (c.tc.loc main_arg4)) (m (c.tc.loc main_arg5))
      (m (c.tc.loc main_arg6))) (row t r).val ⟨k.val, by omega⟩ := by
  have h0 := q0_at m c t r k
  have hg := gateT_at m c hf t r k
  generalize q0 (iblk m c 3 t) = x0 at h0 ⊢
  generalize gateT m c t = g at hg ⊢
  pointwise [k0_pay23, k0_pay21, k0_pay20, k0_pay17]
  rw [h0, hg]
  exact Cert.FfnRefIdeal.Tie.gateBD_row (m (c.tc.loc main_arg0)) (m (c.tc.loc main_arg1)) (m (c.tc.loc main_arg2)) (m (c.tc.loc main_arg3)) (m (c.tc.loc main_arg4)) (m (c.tc.loc main_arg5))
      (m (c.tc.loc main_arg6)) _ _

theorem pay26_at (c : Dev nD) (t : Fin cfg0.N) (r : Fin 256) (k : Fin 1408) :
    k0_pay26 (F := Ideal) (k0_pay17 (q0 (iblk m c 3 t))) (k0_pay18 (q2 (iblk m c 3 t))) (ix2 k r)
      = padRow (val_main_v22 (F := Ideal) (m (c.tc.loc main_arg0)) (m (c.tc.loc main_arg3)) (m (c.tc.loc main_arg4)) (m (c.tc.loc main_arg5))) (row t r).val ⟨k.val, by omega⟩ := by
  have h0 := q0_at m c t r k
  have h2 := q2_at m c t r k
  generalize q0 (iblk m c 3 t) = x0 at h0 ⊢
  generalize q2 (iblk m c 3 t) = x2 at h2 ⊢
  pointwise [k0_pay26, k0_pay21, k0_pay20, k0_pay19, k0_pay17, k0_pay18]
  rw [h0, h2]
  exact Cert.FfnRefIdeal.Tie.prod_row (m (c.tc.loc main_arg0)) (m (c.tc.loc main_arg3)) (m (c.tc.loc main_arg4)) (m (c.tc.loc main_arg5)) _ _

theorem pay33_at (c : Dev nD) (hf : Fin7 m c) (hP : ∀ i, IsReal ((Cert.FfnRefIdeal.Tie.prodD (m (c.tc.loc main_arg0)) (m (c.tc.loc main_arg1)) (m (c.tc.loc main_arg2)) (m (c.tc.loc main_arg3)) (m (c.tc.loc main_arg4)) (m (c.tc.loc main_arg5))
      (m (c.tc.loc main_arg6))) i)) (t : Fin cfg0.N) (r : Fin 256) (k : Fin 1408) :
    k0_pay33 (F := Ideal) (outerT m c t) (wb (V m c main_v36)) (constant S256x1408 FTy.f32 0#32) (q1 (iblk m c 3 t)) (q3 (iblk m c 3 t)) (ix2 r k)
      = padRow (Cert.FfnRefIdeal.Tie.gateAD (m (c.tc.loc main_arg0)) (m (c.tc.loc main_arg1)) (m (c.tc.loc main_arg2)) (m (c.tc.loc main_arg3)) (m (c.tc.loc main_arg4)) (m (c.tc.loc main_arg5))
      (m (c.tc.loc main_arg6))) (row t r).val ⟨1408 + k.val, by omega⟩ := by
  have h1 := q1_at m c t r k
  have h3 := q3_at m c t r k
  have hg := pay28_at m c hf t r k
  generalize q1 (iblk m c 3 t) = x1 at h1 ⊢
  generalize q3 (iblk m c 3 t) = x3 at h3 ⊢
  pointwise [k0_pay33, k0_pay31, k0_pay30, k0_pay29]
  rw [h1, h3, hg]
  exact Cert.FfnRefIdeal.Tie.gateAD_row (m (c.tc.loc main_arg0)) (m (c.tc.loc main_arg1)) (m (c.tc.loc main_arg2)) (m (c.tc.loc main_arg3)) (m (c.tc.loc main_arg4)) (m (c.tc.loc main_arg5))
      (m (c.tc.loc main_arg6)) hP hf.A hf.B _ _

theorem pay34_at (c : Dev nD) (hf : Fin7 m c) (t : Fin cfg0.N) (r : Fin 256) (k : Fin 1408) :
    upT m c t (ix2 r k) = padRow (Cert.FfnRefIdeal.Tie.gateBD (m (c.tc.loc main_arg0)) (m (c.tc.loc main_arg1)) (m (c.tc.loc main_arg2)) (m (c.tc.loc main_arg3)) (m (c.tc.loc main_arg4)) (m (c.tc.loc main_arg5))
      (m (c.tc.loc main_arg6))) (row t r).val ⟨1408 + k.val, by omega⟩ := by
  have h1 := q1_at m c t r k
  have hg := pay28_at m c hf t r k
  unfold upT
  generalize q1 (iblk m c 3 t) = x1 at h1 ⊢
  pointwise [k0_pay34, k0_pay32, k0_pay31, k0_pay29]
  rw [h1, hg]
  exact Cert.FfnRefIdeal.Tie.gateBD_row (m (c.tc.loc main_arg0)) (m (c.tc.loc main_arg1)) (m (c.tc.loc main_arg2)) (m (c.tc.loc main_arg3)) (m (c.tc.loc main_arg4)) (m (c.tc.loc main_arg5))
      (m (c.tc.loc main_arg6)) _ _

theorem pay37_at (c : Dev nD) (t : Fin cfg0.N) (r : Fin 256) (k : Fin 1408) :
    k0_pay37 (F := Ideal) (q1 (iblk m c 3 t)) (q3 (iblk m c 3 t)) (ix2 k r)
      = padRow (val_main_v22 (F := Ideal) (m (c.tc.loc main_arg0)) (m (c.tc.loc main_arg3)) (m (c.tc.loc main_arg4)) (m (c.tc.loc main_arg5))) (row t r).val ⟨1408 + k.val, by omega⟩ := by
  have h1 := q1_at m c t r k
  have h3 := q3_at m c t r k
  generalize q1 (iblk m c 3 t) = x1 at h1 ⊢
  generalize q3 (iblk m c 3 t) = x3 at h3 ⊢
  pointwise [k0_pay37, k0_pay32, k0_pay31, k0_pay30, k0_pay29]
  rw [h1, h3]
  exact Cert.FfnRefIdeal.Tie.prod_row (m (c.tc.loc main_arg0)) (m (c.tc.loc main_arg3)) (m (c.tc.loc main_arg4)) (m (c.tc.loc main_arg5)) _ _

/-- The gradient of the input norm's output on a tile's rows. -/
theorem normT_at (c : Dev nD) (hf : Fin7 m c) (hP : ∀ i, IsReal ((Cert.FfnRefIdeal.Tie.prodD (m (c.tc.loc main_arg0)) (m (c.tc.loc main_arg1)) (m (c.tc.loc main_arg2)) (m (c.tc.loc main_arg3)) (m (c.tc.loc main_arg4)) (m (c.tc.loc main_arg5))
      (m (c.tc.loc main_arg6))) i)) (t : Fin cfg0.N) (r : Fin 256) (j : Fin 1024) :
    k0_pay39 (F := Ideal) (upT m c t) (innerT m c t) (wb (V m c main_v34)) (ix2 r j) = padRow (Cert.FfnRefIdeal.Tie.normD (m (c.tc.loc main_arg0)) (m (c.tc.loc main_arg1)) (m (c.tc.loc main_arg2)) (m (c.tc.loc main_arg3)) (m (c.tc.loc main_arg4)) (m (c.tc.loc main_arg5))
      (m (c.tc.loc main_arg6))) (row t r).val j := by
  have e : k0_pay39 (F := Ideal) (upT m c t) (innerT m c t) (wb (V m c main_v34)) (ix2 r j)
      = ∑ x, k0_pay22 (F := Ideal) (gateT m c t) (k0_pay17 (q0 (iblk m c 3 t))) (k0_pay18 (q2 (iblk m c 3 t))) (ix2 r x) * wt (V m c main_v31) (ix2 x j)
        + ∑ x, k0_pay23 (F := Ideal) (gateT m c t) (k0_pay17 (q0 (iblk m c 3 t))) (ix2 r x) * wt (V m c main_v34) (ix2 x j)
        + ∑ x, k0_pay33 (F := Ideal) (outerT m c t) (wb (V m c main_v36)) (constant S256x1408 FTy.f32 0#32) (q1 (iblk m c 3 t)) (q3 (iblk m c 3 t)) (ix2 r x)
            * wb (V m c main_v31) (ix2 x j)
        + ∑ x, upT m c t (ix2 r x) * wb (V m c main_v34) (ix2 x j) := by
    unfold innerT
    generalize wt (V m c main_v31) = w0
    generalize wb (V m c main_v31) = w1
    generalize wt (V m c main_v34) = w2
    generalize wb (V m c main_v34) = w3
    generalize wb (V m c main_v36) = w5
    generalize upT m c t = u
    generalize gateT m c t = g
    generalize outerT m c t = o
    generalize q0 (iblk m c 3 t) = x0
    generalize q1 (iblk m c 3 t) = x1
    generalize q2 (iblk m c 3 t) = x2
    generalize q3 (iblk m c 3 t) = x3
    pointwise [k0_pay39, k0_pay38, k0_pay27, k0_pay15]
  rw [e]
  refine Eq.trans ?_ (Cert.FfnRefIdeal.Tie.normD_row (m (c.tc.loc main_arg0)) (m (c.tc.loc main_arg1)) (m (c.tc.loc main_arg2)) (m (c.tc.loc main_arg3)) (m (c.tc.loc main_arg4)) (m (c.tc.loc main_arg5))
      (m (c.tc.loc main_arg6)) (row t r).val j)
  refine congrArg₂ (· + ·) (congrArg₂ (· + ·) (congrArg₂ (· + ·) ?_ ?_) ?_) ?_
  · exact Finset.sum_congr rfl fun x _ => congrArg₂ (· * ·) (pay22_at m c hf hP t r x) ((wt_at _ x j).trans (V31 m c _ j))
  · exact Finset.sum_congr rfl fun x _ => congrArg₂ (· * ·) (pay23_at m c hf t r x) ((wt_at _ x j).trans (V34 m c _ j))
  · exact Finset.sum_congr rfl fun x _ => congrArg₂ (· * ·) (pay33_at m c hf hP t r x) ((wb_at _ x j).trans (V31 m c _ j))
  · exact Finset.sum_congr rfl fun x _ => congrArg₂ (· * ·) (pay34_at m c hf t r x) ((wb_at _ x j).trans (V34 m c _ j))

/-- The gradients the input norm's hang on are finite. -/
theorem fin_prodD (c : Dev nD) (hp : Cert.Pre_FfnIdeal_ffn_finite m) : ∀ i, IsReal ((Cert.FfnRefIdeal.Tie.prodD (m (c.tc.loc main_arg0)) (m (c.tc.loc main_arg1)) (m (c.tc.loc main_arg2)) (m (c.tc.loc main_arg3)) (m (c.tc.loc main_arg4)) (m (c.tc.loc main_arg5))
      (m (c.tc.loc main_arg6))) i) := by
  obtain ⟨h0, h1, h2, h3, h4, h5, h6⟩ := finite_args _ _ _ _ _ _ _ (hp c)
  have hf := fin7 m c hp
  exact Cert.FfnRefIdeal.Tie.isReal_prodD _ _ _ _ _ _ _ (Cert.FfnRefIdeal.Tie.isReal_outD _ _ _ _ _ _ _ hf.H hf.errD h2) h6

theorem fin_normD (c : Dev nD) (hp : Cert.Pre_FfnIdeal_ffn_finite m) : ∀ i, IsReal ((Cert.FfnRefIdeal.Tie.normD (m (c.tc.loc main_arg0)) (m (c.tc.loc main_arg1)) (m (c.tc.loc main_arg2)) (m (c.tc.loc main_arg3)) (m (c.tc.loc main_arg4)) (m (c.tc.loc main_arg5))
      (m (c.tc.loc main_arg6))) i) := by
  obtain ⟨h0, h1, h2, h3, h4, h5, h6⟩ := finite_args _ _ _ _ _ _ _ (hp c)
  have hf := fin7 m c hp
  have hP := fin_prodD m c hp
  exact Cert.FfnRefIdeal.Tie.isReal_normD _ _ _ _ _ _ _ (Cert.FfnRefIdeal.Tie.isReal_gateAD _ _ _ _ _ _ _ hP hf.A hf.B) (Cert.FfnRefIdeal.Tie.isReal_gateBD _ _ _ _ _ _ _ hP hf.A) h4 h5

/-! ## The six arrays -/

theorem rows_at (c : Dev nD) (hp : Cert.Pre_FfnIdeal_ffn_finite m) (t : Fin cfg0.N) (r : Fin 256) (j : Fin 1024) :
    (leftAt m c t.val t.isLt).rows (ix2 r j) = padRow (val_main_v109 (F := Ideal) (m (c.tc.loc main_arg0)) (m (c.tc.loc main_arg1)) (m (c.tc.loc main_arg2)) (m (c.tc.loc main_arg3)) (m (c.tc.loc main_arg4)) (m (c.tc.loc main_arg5))
      (m (c.tc.loc main_arg6))) (row t r).val j := by
  have hf := fin7 m c hp
  have hg := b5 m c t
  have hw := wideT_at m c hf t r j
  have hn := fun x => normT_at m c hf (fin_prodD m c hp) t r x
  rw [out6]
  generalize wideT m c t = w at hw ⊢
  generalize upT m c t = u at hn ⊢
  generalize innerT m c t = i at hn ⊢
  generalize wb (V m c main_v34) = v at hn ⊢
  pointwise [k0_pay44, k0_pay42, k0_pay41, k0_pay40]
  simp only [b2, hg, hn, hw, ofBits_1024, ofBits_eps]
  exact Cert.FfnRefIdeal.Tie.inD_row (m (c.tc.loc main_arg0)) (m (c.tc.loc main_arg1)) (m (c.tc.loc main_arg2)) (m (c.tc.loc main_arg3)) (m (c.tc.loc main_arg4)) (m (c.tc.loc main_arg5))
      (m (c.tc.loc main_arg6)) hf.h0 (fin_normD m c hp) hf.h3 _ j

theorem final_6 (c : Dev nD) (hp : Cert.Pre_FfnIdeal_ffn_finite m) : (dats m 0 c).arrAt 6 (cfgs 0).N = val_main_v110 (F := Ideal) (m (c.tc.loc main_arg0)) (m (c.tc.loc main_arg1)) (m (c.tc.loc main_arg2)) (m (c.tc.loc main_arg3)) (m (c.tc.loc main_arg4)) (m (c.tc.loc main_arg5))
      (m (c.tc.loc main_arg6)) := by
  refine (dats m 0 c).arrAt_eq_of_covers 6 _ (by decide +kernel) fun t _ y => ?_
  obtain ⟨-, -, -, -, -, -, e, -⟩ := idx t
  have hN := lt_of_lt_of_eq t.isLt N_0
  blk_simp; rw [after6]
  idx_vars y
  refine (rows_at m c hp t y0 y1).trans ((Cert.FfnRefIdeal.Tie.v110_at (m (c.tc.loc main_arg0)) (m (c.tc.loc main_arg1)) (m (c.tc.loc main_arg2)) (m (c.tc.loc main_arg3)) (m (c.tc.loc main_arg4)) (m (c.tc.loc main_arg5))
      (m (c.tc.loc main_arg6)) (row t y0) y1).symm.trans (congrArg _ ?_))
  funext a; apply Fin.ext; fin_cases a <;> simp [win0_6, e]

theorem final_8 (c : Dev nD) (hp : Cert.Pre_FfnIdeal_ffn_finite m) : (dats m 0 c).arrAt 8 (cfgs 0).N = val_main_v114 (F := Ideal) (m (c.tc.loc main_arg0)) (m (c.tc.loc main_arg1)) (m (c.tc.loc main_arg2)) (m (c.tc.loc main_arg3)) (m (c.tc.loc main_arg4)) (m (c.tc.loc main_arg5))
      (m (c.tc.loc main_arg6)) := by
  refine (dats m 0 c).arrAt_eq_of_covers 8 _ (by decide +kernel) fun t _ y => ?_
  obtain ⟨-, -, -, -, -, -, -, -, e, -⟩ := idx t
  have hN := lt_of_lt_of_eq t.isLt N_0
  blk_simp; rw [after8, out8]
  idx_vars y
  refine (outerT_at m c (fin7 m c hp) t y0 y1).trans ((Cert.FfnRefIdeal.Tie.v114_at (m (c.tc.loc main_arg0)) (m (c.tc.loc main_arg1)) (m (c.tc.loc main_arg2)) (m (c.tc.loc main_arg3)) (m (c.tc.loc main_arg4)) (m (c.tc.loc main_arg5))
      (m (c.tc.loc main_arg6)) (row t y0) y1).symm.trans (congrArg _ ?_))
  funext a; apply Fin.ext; fin_cases a <;> simp [win0_8, e]

/-! The transposed factors, piece by piece -/

theorem c5 (c : Dev nD) (hp : Cert.Pre_FfnIdeal_ffn_finite m) (t : Fin cfg0.N) (r : Fin 256) (k : Fin 1408) :
    k0_pay37 (F := Ideal) (q1 (iblk m c 3 t)) (q3 (iblk m c 3 t)) (ix2 k r)
      = val_main_v112 (F := Ideal) (m (c.tc.loc main_arg0)) (m (c.tc.loc main_arg1)) (m (c.tc.loc main_arg2)) (m (c.tc.loc main_arg3)) (m (c.tc.loc main_arg4)) (m (c.tc.loc main_arg5))
      (m (c.tc.loc main_arg6)) (ix2 ⟨5632 + (1408 + k.val), by omega⟩ (row t r)) := by
  have hf := fin7 m c hp
  have hP := fin_prodD m c hp
  exact (pay37_at m c t r k).trans (Cert.FfnRefIdeal.Tie.v112_third (m (c.tc.loc main_arg0)) (m (c.tc.loc main_arg1)) (m (c.tc.loc main_arg2)) (m (c.tc.loc main_arg3)) (m (c.tc.loc main_arg4)) (m (c.tc.loc main_arg5))
      (m (c.tc.loc main_arg6)) (row t r) ⟨1408 + k.val, by omega⟩).symm

theorem c4 (c : Dev nD) (hp : Cert.Pre_FfnIdeal_ffn_finite m) (t : Fin cfg0.N) (r : Fin 256) (k : Fin 1408) :
    k0_pay36 (F := Ideal) (outerT m c t) (wb (V m c main_v36)) (constant S256x1408 FTy.f32 0#32) (q1 (iblk m c 3 t)) (ix2 k r)
      = val_main_v112 (F := Ideal) (m (c.tc.loc main_arg0)) (m (c.tc.loc main_arg1)) (m (c.tc.loc main_arg2)) (m (c.tc.loc main_arg3)) (m (c.tc.loc main_arg4)) (m (c.tc.loc main_arg5))
      (m (c.tc.loc main_arg6)) (ix2 ⟨2816 + (1408 + k.val), by omega⟩ (row t r)) := by
  have hf := fin7 m c hp
  have hP := fin_prodD m c hp
  exact ((show _ = upT m c t (ix2 r k) by unfold upT; generalize outerT m c t = o; pointwise [k0_pay36]).trans (pay34_at m c hf t r k)).trans (Cert.FfnRefIdeal.Tie.v112_second (m (c.tc.loc main_arg0)) (m (c.tc.loc main_arg1)) (m (c.tc.loc main_arg2)) (m (c.tc.loc main_arg3)) (m (c.tc.loc main_arg4)) (m (c.tc.loc main_arg5))
      (m (c.tc.loc main_arg6)) (row t r) ⟨1408 + k.val, by omega⟩).symm

theorem c3 (c : Dev nD) (hp : Cert.Pre_FfnIdeal_ffn_finite m) (t : Fin cfg0.N) (r : Fin 256) (k : Fin 1408) :
    k0_pay35 (F := Ideal) (outerT m c t) (wb (V m c main_v36)) (constant S256x1408 FTy.f32 0#32) (q1 (iblk m c 3 t)) (q3 (iblk m c 3 t)) (ix2 k r)
      = val_main_v112 (F := Ideal) (m (c.tc.loc main_arg0)) (m (c.tc.loc main_arg1)) (m (c.tc.loc main_arg2)) (m (c.tc.loc main_arg3)) (m (c.tc.loc main_arg4)) (m (c.tc.loc main_arg5))
      (m (c.tc.loc main_arg6)) (ix2 ⟨(1408 + k.val), by omega⟩ (row t r)) := by
  have hf := fin7 m c hp
  have hP := fin_prodD m c hp
  exact ((show _ = k0_pay33 (F := Ideal) (outerT m c t) (wb (V m c main_v36)) (constant S256x1408 FTy.f32 0#32) (q1 (iblk m c 3 t)) (q3 (iblk m c 3 t)) (ix2 r k) by generalize outerT m c t = o; pointwise [k0_pay35]).trans (pay33_at m c hf hP t r k)).trans (Cert.FfnRefIdeal.Tie.v112_first (m (c.tc.loc main_arg0)) (m (c.tc.loc main_arg1)) (m (c.tc.loc main_arg2)) (m (c.tc.loc main_arg3)) (m (c.tc.loc main_arg4)) (m (c.tc.loc main_arg5))
      (m (c.tc.loc main_arg6)) (row t r) ⟨1408 + k.val, by omega⟩).symm

theorem c2 (c : Dev nD) (hp : Cert.Pre_FfnIdeal_ffn_finite m) (t : Fin cfg0.N) (r : Fin 256) (k : Fin 1408) :
    k0_pay26 (F := Ideal) (k0_pay17 (q0 (iblk m c 3 t))) (k0_pay18 (q2 (iblk m c 3 t))) (ix2 k r)
      = val_main_v112 (F := Ideal) (m (c.tc.loc main_arg0)) (m (c.tc.loc main_arg1)) (m (c.tc.loc main_arg2)) (m (c.tc.loc main_arg3)) (m (c.tc.loc main_arg4)) (m (c.tc.loc main_arg5))
      (m (c.tc.loc main_arg6)) (ix2 ⟨5632 + (k.val), by omega⟩ (row t r)) := by
  have hf := fin7 m c hp
  have hP := fin_prodD m c hp
  exact (pay26_at m c t r k).trans (Cert.FfnRefIdeal.Tie.v112_third (m (c.tc.loc main_arg0)) (m (c.tc.loc main_arg1)) (m (c.tc.loc main_arg2)) (m (c.tc.loc main_arg3)) (m (c.tc.loc main_arg4)) (m (c.tc.loc main_arg5))
      (m (c.tc.loc main_arg6)) (row t r) ⟨k.val, by omega⟩).symm

theorem c1 (c : Dev nD) (hp : Cert.Pre_FfnIdeal_ffn_finite m) (t : Fin cfg0.N) (r : Fin 256) (k : Fin 1408) :
    k0_pay25 (F := Ideal) (gateT m c t) (k0_pay17 (q0 (iblk m c 3 t))) (ix2 k r)
      = val_main_v112 (F := Ideal) (m (c.tc.loc main_arg0)) (m (c.tc.loc main_arg1)) (m (c.tc.loc main_arg2)) (m (c.tc.loc main_arg3)) (m (c.tc.loc main_arg4)) (m (c.tc.loc main_arg5))
      (m (c.tc.loc main_arg6)) (ix2 ⟨2816 + (k.val), by omega⟩ (row t r)) := by
  have hf := fin7 m c hp
  have hP := fin_prodD m c hp
  exact ((show _ = k0_pay23 (F := Ideal) (gateT m c t) (k0_pay17 (q0 (iblk m c 3 t))) (ix2 r k) by generalize gateT m c t = g; pointwise [k0_pay25]).trans (pay23_at m c hf t r k)).trans (Cert.FfnRefIdeal.Tie.v112_second (m (c.tc.loc main_arg0)) (m (c.tc.loc main_arg1)) (m (c.tc.loc main_arg2)) (m (c.tc.loc main_arg3)) (m (c.tc.loc main_arg4)) (m (c.tc.loc main_arg5))
      (m (c.tc.loc main_arg6)) (row t r) ⟨k.val, by omega⟩).symm

theorem c0 (c : Dev nD) (hp : Cert.Pre_FfnIdeal_ffn_finite m) (t : Fin cfg0.N) (r : Fin 256) (k : Fin 1408) :
    k0_pay24 (F := Ideal) (gateT m c t) (k0_pay17 (q0 (iblk m c 3 t))) (k0_pay18 (q2 (iblk m c 3 t))) (ix2 k r)
      = val_main_v112 (F := Ideal) (m (c.tc.loc main_arg0)) (m (c.tc.loc main_arg1)) (m (c.tc.loc main_arg2)) (m (c.tc.loc main_arg3)) (m (c.tc.loc main_arg4)) (m (c.tc.loc main_arg5))
      (m (c.tc.loc main_arg6)) (ix2 ⟨(k.val), by omega⟩ (row t r)) := by
  have hf := fin7 m c hp
  have hP := fin_prodD m c hp
  exact ((show _ = k0_pay22 (F := Ideal) (gateT m c t) (k0_pay17 (q0 (iblk m c 3 t))) (k0_pay18 (q2 (iblk m c 3 t))) (ix2 r k) by generalize gateT m c t = g; pointwise [k0_pay24]).trans (pay22_at m c hf hP t r k)).trans (Cert.FfnRefIdeal.Tie.v112_first (m (c.tc.loc main_arg0)) (m (c.tc.loc main_arg1)) (m (c.tc.loc main_arg2)) (m (c.tc.loc main_arg3)) (m (c.tc.loc main_arg4)) (m (c.tc.loc main_arg5))
      (m (c.tc.loc main_arg6)) (row t r) ⟨k.val, by omega⟩).symm

/-- The transposed factors of a tile, at a row and a column. -/
theorem cols_at (c : Dev nD) (hp : Cert.Pre_FfnIdeal_ffn_finite m) (t : Fin cfg0.N) (y0 : Fin 8448) (r : Fin 256) :
    (leftAt m c t.val t.isLt).cols (ix2 y0 r) = val_main_v112 (F := Ideal) (m (c.tc.loc main_arg0)) (m (c.tc.loc main_arg1)) (m (c.tc.loc main_arg2)) (m (c.tc.loc main_arg3)) (m (c.tc.loc main_arg4)) (m (c.tc.loc main_arg5))
      (m (c.tc.loc main_arg6)) (ix2 y0 (row t r)) := by
  have hf := fin7 m c hp
  have hP := fin_prodD m c hp
  rw [out7]
  canon_tiles x h
  · idx_vars x
    obtain rfl : r = x1 := Fin.ext (by simpa using h1)
    refine (c5 m c hp t r x0).trans (congrArg (fun q => val_main_v112 (F := Ideal) (m (c.tc.loc main_arg0)) (m (c.tc.loc main_arg1)) (m (c.tc.loc main_arg2)) (m (c.tc.loc main_arg3)) (m (c.tc.loc main_arg4)) (m (c.tc.loc main_arg5))
      (m (c.tc.loc main_arg6)) (ix2 q (row t r))) (Fin.ext ?_))
    simp at h0 ⊢
    omega
  · idx_vars x
    obtain rfl : r = x1 := Fin.ext (by simpa using h1)
    refine (c4 m c hp t r x0).trans (congrArg (fun q => val_main_v112 (F := Ideal) (m (c.tc.loc main_arg0)) (m (c.tc.loc main_arg1)) (m (c.tc.loc main_arg2)) (m (c.tc.loc main_arg3)) (m (c.tc.loc main_arg4)) (m (c.tc.loc main_arg5))
      (m (c.tc.loc main_arg6)) (ix2 q (row t r))) (Fin.ext ?_))
    simp at h0 ⊢
    omega
  · idx_vars x
    obtain rfl : r = x1 := Fin.ext (by simpa using h1)
    refine (c3 m c hp t r x0).trans (congrArg (fun q => val_main_v112 (F := Ideal) (m (c.tc.loc main_arg0)) (m (c.tc.loc main_arg1)) (m (c.tc.loc main_arg2)) (m (c.tc.loc main_arg3)) (m (c.tc.loc main_arg4)) (m (c.tc.loc main_arg5))
      (m (c.tc.loc main_arg6)) (ix2 q (row t r))) (Fin.ext ?_))
    simp at h0 ⊢
    omega
  · idx_vars x
    obtain rfl : r = x1 := Fin.ext (by simpa using h1)
    refine (c2 m c hp t r x0).trans (congrArg (fun q => val_main_v112 (F := Ideal) (m (c.tc.loc main_arg0)) (m (c.tc.loc main_arg1)) (m (c.tc.loc main_arg2)) (m (c.tc.loc main_arg3)) (m (c.tc.loc main_arg4)) (m (c.tc.loc main_arg5))
      (m (c.tc.loc main_arg6)) (ix2 q (row t r))) (Fin.ext ?_))
    simp at h0 ⊢
    omega
  · idx_vars x
    obtain rfl : r = x1 := Fin.ext (by simpa using h1)
    refine (c1 m c hp t r x0).trans (congrArg (fun q => val_main_v112 (F := Ideal) (m (c.tc.loc main_arg0)) (m (c.tc.loc main_arg1)) (m (c.tc.loc main_arg2)) (m (c.tc.loc main_arg3)) (m (c.tc.loc main_arg4)) (m (c.tc.loc main_arg5))
      (m (c.tc.loc main_arg6)) (ix2 q (row t r))) (Fin.ext ?_))
    simp at h0 ⊢
    omega
  · idx_vars x
    obtain rfl : r = x1 := Fin.ext (by simpa using h1)
    refine (c0 m c hp t r x0).trans (congrArg (fun q => val_main_v112 (F := Ideal) (m (c.tc.loc main_arg0)) (m (c.tc.loc main_arg1)) (m (c.tc.loc main_arg2)) (m (c.tc.loc main_arg3)) (m (c.tc.loc main_arg4)) (m (c.tc.loc main_arg5))
      (m (c.tc.loc main_arg6)) (ix2 q (row t r))) (Fin.ext ?_))
    simp at h0 ⊢
    omega

theorem final_7 (c : Dev nD) (hp : Cert.Pre_FfnIdeal_ffn_finite m) : (dats m 0 c).arrAt 7 (cfgs 0).N = val_main_v112 (F := Ideal) (m (c.tc.loc main_arg0)) (m (c.tc.loc main_arg1)) (m (c.tc.loc main_arg2)) (m (c.tc.loc main_arg3)) (m (c.tc.loc main_arg4)) (m (c.tc.loc main_arg5))
      (m (c.tc.loc main_arg6)) := by
  refine (dats m 0 c).arrAt_eq_of_covers 7 _ (by decide +kernel) fun t _ y => ?_
  obtain ⟨-, -, -, -, -, -, -, e, -⟩ := idx t
  have hN := lt_of_lt_of_eq t.isLt N_0
  blk_simp; rw [after7]
  idx_vars y
  refine (cols_at m c hp t y0 y1).trans (congrArg _ ?_)
  funext a; apply Fin.ext; fin_cases a <;> simp [win0_7, e]

/-- A tile's part of the loss is its rows' contributions added up. -/
theorem lossT_rows (c : Dev nD) (hp : Cert.Pre_FfnIdeal_ffn_finite m) (t : Fin cfg0.N) :
    lossT m c t = ∑ x : Fin 256, Cert.FfnRefIdeal.Tie.lossRow (m (c.tc.loc main_arg0)) (m (c.tc.loc main_arg1)) (m (c.tc.loc main_arg2)) (m (c.tc.loc main_arg3)) (m (c.tc.loc main_arg4)) (m (c.tc.loc main_arg5))
      (m (c.tc.loc main_arg6)) (t.val * 256 + x.val) := by
  have he := fun r x => errT_at m c t r x
  unfold lossT
  generalize errT m c t = E at he ⊢
  simp only [he, ofBits_1024, ofBits_half]
  exact Cert.FfnRefIdeal.Tie.loss_tile (m (c.tc.loc main_arg0)) (m (c.tc.loc main_arg1)) (m (c.tc.loc main_arg2)) (m (c.tc.loc main_arg3)) (m (c.tc.loc main_arg4)) (m (c.tc.loc main_arg5))
      (m (c.tc.loc main_arg6)) (fin7 m c hp).err fun r => t.val * 256 + r.val

theorem final_9 (c : Dev nD) (hp : Cert.Pre_FfnIdeal_ffn_finite m) : (dats m 0 c).arrAt 9 (cfgs 0).N = val_main_v115 (F := Ideal) (m (c.tc.loc main_arg0)) (m (c.tc.loc main_arg1)) (m (c.tc.loc main_arg2)) (m (c.tc.loc main_arg3)) (m (c.tc.loc main_arg4)) (m (c.tc.loc main_arg5))
      (m (c.tc.loc main_arg6)) := by
  refine (dats m 0 c).arrAt_eq_of_covers 9 _ (by decide +kernel) fun t hf y => ?_
  obtain ⟨-, -, -, -, -, -, -, -, -, e, -⟩ := idx t
  have hN := lt_of_lt_of_eq t.isLt N_0
  have hr := (flush0_9 t).mp hf
  have hq : t.val / 17 = 0 := by omega
  blk_simp; rw [after9]
  idx_vars y
  refine (Pipeline.eq_sum_fin_of_reset_step_apply_of_flush (fun n h => (leftAt m c n h).loss) 17 (fun _ => 0)
    (fun t _ => lossT m c t) (fun t h y => out9_reset m c t (by have := lt_of_lt_of_eq t.isLt N_0; omega) y)
    (fun t h y => out9_step m c t (by omega) y) t hr (ix2 y0 y1)).trans ?_
  rw [zero_add]
  refine (Finset.sum_congr rfl fun s _ => lossT_rows m c hp _).trans ?_
  refine (sum_run (Cert.FfnRefIdeal.Tie.lossRow (m (c.tc.loc main_arg0)) (m (c.tc.loc main_arg1)) (m (c.tc.loc main_arg2)) (m (c.tc.loc main_arg3)) (m (c.tc.loc main_arg4)) (m (c.tc.loc main_arg5))
      (m (c.tc.loc main_arg6))) (fun R hR => ?_) _ hq).trans ?_
  · exact Cert.FfnRefIdeal.Tie.lossRow_low (m (c.tc.loc main_arg0)) (m (c.tc.loc main_arg1)) (m (c.tc.loc main_arg2)) (m (c.tc.loc main_arg3)) (m (c.tc.loc main_arg4)) (m (c.tc.loc main_arg5))
      (m (c.tc.loc main_arg6)) R (by omega)
  refine (Cert.FfnRefIdeal.Tie.v115_at (m (c.tc.loc main_arg0)) (m (c.tc.loc main_arg1)) (m (c.tc.loc main_arg2)) (m (c.tc.loc main_arg3)) (m (c.tc.loc main_arg4)) (m (c.tc.loc main_arg5))
      (m (c.tc.loc main_arg6)) (fin7 m c hp).err y0 y1).trans (congrArg _ ?_)
  funext a; apply Fin.ext; fin_cases a <;> simp [win0_9, e]

/-- What row `R` of the padded arrays adds to a norm's scale gradient at `j`: `d` the gradient at the norm's output, `y` its input. -/
def normRow (d y : FVec Ideal S4112x1024 .f32) (j : Fin 1024) (R : ℕ) : EReal :=
  padRow d R j * (padRow y R j * Ideal.rsqrt (Ideal.div (∑ x, padRow y R x * padRow y R x) (((1024 : ℝ)) : EReal) + (eps : EReal)))

theorem lastT_rows (c : Dev nD) (hp : Cert.Pre_FfnIdeal_ffn_finite m) (t : Fin cfg0.N) (j : Fin 1024) :
    lastT m c t j = ∑ x : Fin 256, normRow (Cert.FfnRefIdeal.Tie.errD (m (c.tc.loc main_arg0)) (m (c.tc.loc main_arg1)) (m (c.tc.loc main_arg2)) (m (c.tc.loc main_arg3)) (m (c.tc.loc main_arg4)) (m (c.tc.loc main_arg5))
      (m (c.tc.loc main_arg6))) (Cert.FfnRefIdeal.Tie.outH (m (c.tc.loc main_arg0)) (m (c.tc.loc main_arg3)) (m (c.tc.loc main_arg4)) (m (c.tc.loc main_arg5)) (m (c.tc.loc main_arg6))) j (t.val * 256 + x.val) := by
  unfold lastT normRow
  refine Finset.sum_congr rfl fun r _ => ?_
  rw [errT_at, pay6_at, ofBits_1024, Cert.FfnRefIdeal.Tie.errD_row (m (c.tc.loc main_arg0)) (m (c.tc.loc main_arg1)) (m (c.tc.loc main_arg2)) (m (c.tc.loc main_arg3)) (m (c.tc.loc main_arg4)) (m (c.tc.loc main_arg5))
      (m (c.tc.loc main_arg6)) (fin7 m c hp).err]

theorem final_10 (c : Dev nD) (hp : Cert.Pre_FfnIdeal_ffn_finite m) : (dats m 0 c).arrAt 10 (cfgs 0).N = val_main_v116 (F := Ideal) (m (c.tc.loc main_arg0)) (m (c.tc.loc main_arg1)) (m (c.tc.loc main_arg2)) (m (c.tc.loc main_arg3)) (m (c.tc.loc main_arg4)) (m (c.tc.loc main_arg5))
      (m (c.tc.loc main_arg6)) := by
  refine (dats m 0 c).arrAt_eq_of_covers 10 _ (by decide +kernel) fun t hf y => ?_
  obtain ⟨-, -, -, -, -, -, -, -, -, -, e, -⟩ := idx t
  have hN := lt_of_lt_of_eq t.isLt N_0
  have hr := (flush0_10 t).mp hf
  have hq : t.val / 17 = 0 := by omega
  blk_simp; rw [after10]
  idx_vars y
  refine (Pipeline.eq_sum_fin_of_reset_step_apply_of_flush (fun n h => (leftAt m c n h).last) 17 (fun _ => 0)
    (fun t y => lastT m c t (y 1)) (fun t h y => out10_reset m c t (by have := lt_of_lt_of_eq t.isLt N_0; omega) y)
    (fun t h y => out10_step m c t (by omega) y) t hr (ix2 y0 y1)).trans ?_
  rw [zero_add]
  refine (Finset.sum_congr rfl fun s _ => lastT_rows m c hp _ y1).trans ?_
  refine (sum_run (normRow (Cert.FfnRefIdeal.Tie.errD (m (c.tc.loc main_arg0)) (m (c.tc.loc main_arg1)) (m (c.tc.loc main_arg2)) (m (c.tc.loc main_arg3)) (m (c.tc.loc main_arg4)) (m (c.tc.loc main_arg5))
      (m (c.tc.loc main_arg6))) (Cert.FfnRefIdeal.Tie.outH (m (c.tc.loc main_arg0)) (m (c.tc.loc main_arg3)) (m (c.tc.loc main_arg4)) (m (c.tc.loc main_arg5)) (m (c.tc.loc main_arg6))) y1) (fun R hR => ?_) _ hq).trans ?_
  · simp [normRow, padRow_low _ (show ¬ (240 ≤ R ∧ R - 240 < 4112) by omega)]
  simp only [normRow, padRow_add]
  refine (Cert.FfnRefIdeal.Tie.v116_at (m (c.tc.loc main_arg0)) (m (c.tc.loc main_arg1)) (m (c.tc.loc main_arg2)) (m (c.tc.loc main_arg3)) (m (c.tc.loc main_arg4)) (m (c.tc.loc main_arg5))
      (m (c.tc.loc main_arg6)) y0 y1).trans (congrArg _ ?_)
  funext a; apply Fin.ext; fin_cases a <;> simp [win0_10, e]

theorem scaleT_rows (c : Dev nD) (hp : Cert.Pre_FfnIdeal_ffn_finite m) (t : Fin cfg0.N) (j : Fin 1024) :
    scaleT m c t j = ∑ x : Fin 256, normRow (Cert.FfnRefIdeal.Tie.normD (m (c.tc.loc main_arg0)) (m (c.tc.loc main_arg1)) (m (c.tc.loc main_arg2)) (m (c.tc.loc main_arg3)) (m (c.tc.loc main_arg4)) (m (c.tc.loc main_arg5))
      (m (c.tc.loc main_arg6))) (m (c.tc.loc main_arg0)) j (t.val * 256 + x.val) := by
  unfold scaleT normRow
  refine Finset.sum_congr rfl fun r _ => congrArg₂ (· * ·) (normT_at m c (fin7 m c hp) (fin_prodD m c hp) t r j) ?_
  pointwise [k0_pay42, k0_pay41, k0_pay40]
  simp only [b2, ofBits_1024, ofBits_eps]

theorem final_11 (c : Dev nD) (hp : Cert.Pre_FfnIdeal_ffn_finite m) : (dats m 0 c).arrAt 11 (cfgs 0).N = val_main_v106 (F := Ideal) (m (c.tc.loc main_arg0)) (m (c.tc.loc main_arg1)) (m (c.tc.loc main_arg2)) (m (c.tc.loc main_arg3)) (m (c.tc.loc main_arg4)) (m (c.tc.loc main_arg5))
      (m (c.tc.loc main_arg6)) := by
  refine (dats m 0 c).arrAt_eq_of_covers 11 _ (by decide +kernel) fun t hf y => ?_
  obtain ⟨-, -, -, -, -, -, -, -, -, -, -, e⟩ := idx t
  have hN := lt_of_lt_of_eq t.isLt N_0
  have hr := (flush0_11 t).mp hf
  have hq : t.val / 17 = 0 := by omega
  blk_simp; rw [after11]
  idx_vars y
  refine (Pipeline.eq_sum_fin_of_reset_step_apply_of_flush (fun n h => (leftAt m c n h).scale) 17 (fun _ => 0)
    (fun t y => scaleT m c t (y 1)) (fun t h y => out11_reset m c t (by have := lt_of_lt_of_eq t.isLt N_0; omega) y)
    (fun t h y => out11_step m c t (by omega) y) t hr (ix2 y0 y1)).trans ?_
  rw [zero_add]
  refine (Finset.sum_congr rfl fun s _ => scaleT_rows m c hp _ y1).trans ?_
  refine (sum_run (normRow (Cert.FfnRefIdeal.Tie.normD (m (c.tc.loc main_arg0)) (m (c.tc.loc main_arg1)) (m (c.tc.loc main_arg2)) (m (c.tc.loc main_arg3)) (m (c.tc.loc main_arg4)) (m (c.tc.loc main_arg5))
      (m (c.tc.loc main_arg6))) (m (c.tc.loc main_arg0)) y1) (fun R hR => ?_) _ hq).trans ?_
  · simp [normRow, padRow_low _ (show ¬ (240 ≤ R ∧ R - 240 < 4112) by omega)]
  simp only [normRow, padRow_add]
  refine (Cert.FfnRefIdeal.Tie.v106_at (m (c.tc.loc main_arg0)) (m (c.tc.loc main_arg1)) (m (c.tc.loc main_arg2)) (m (c.tc.loc main_arg3)) (m (c.tc.loc main_arg4)) (m (c.tc.loc main_arg5))
      (m (c.tc.loc main_arg6)) y0 y1).trans (congrArg _ ?_)
  funext a; apply Fin.ext; fin_cases a <;> simp [win0_11, e]

set_option maxHeartbeats 2000000 in
/-- The kernel's six arrays and the reference's six agree on the same finite arguments. -/
theorem algebraic : Cert.algebraic_FfnIdeal_FfnRefIdeal_pre_ffn_finite := by
  pair_intro
  · run_from Cert.FfnIdeal.Hand.run_main m g
    all_goals first | exact V_main_arg0 m c | exact V_main_arg1 m c | exact V_main_arg2 m c | exact V_main_arg3 m c | exact V_main_arg4 m c | exact V_main_arg5 m c | exact V_main_arg6 m c
  · refine (θ_run _ _ _).mono (fun r h c => ?_) (Cert.FfnRefIdeal.Tie.run_read m' g')
    obtain ⟨a0, a1, a2, a3, a4, a5, a6⟩ := hagree c
    obtain ⟨e0, e1, e2, e3, e4, e5, e⟩ := h c
    have w0 := (e0.trans (congr7 (val_main_v110 (F := Ideal)) a0 a1 a2 a3 a4 a5 a6)).trans (final_6 m c hpre).symm
    have w1 := (e1.trans (congr7 (val_main_v112 (F := Ideal)) a0 a1 a2 a3 a4 a5 a6)).trans (final_7 m c hpre).symm
    have w2 := (e2.trans (congr7 (val_main_v114 (F := Ideal)) a0 a1 a2 a3 a4 a5 a6)).trans (final_8 m c hpre).symm
    have w3 := (e3.trans (congr7 (val_main_v115 (F := Ideal)) a0 a1 a2 a3 a4 a5 a6)).trans (final_9 m c hpre).symm
    have w4 := (e4.trans (congr7 (val_main_v116 (F := Ideal)) a0 a1 a2 a3 a4 a5 a6)).trans (final_10 m c hpre).symm
    have w5 := (e5.trans (congr7 (val_main_v106 (F := Ideal)) a0 a1 a2 a3 a4 a5 a6)).trans (final_11 m c hpre).symm
    exact ⟨w0, w1, w2, w3, w4, w5, e⟩

end Cert.FfnIdeal.Tie

end
-- ==== Proof.DiscA.Stages.lean ====
/- The gradient of the state's discretisation: each value the kernel computes is a stage of the reference. -/
module

public import proofs.«01_k».proof.Proof.Gen.DiscAIdeal.Frame
public import proofs.«01_k».proof.Proof.Gen.DiscARefIdeal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.DiscAIdeal.Tie

open Cert.DiscARefIdeal.Read
open Cert.DiscAIdeal Cert.DiscAIdeal.Gen Idealize.ShloMosaic Idealize.ShloMosaic.TcCoe Idealize.SL.Sem

section
variable (a0 a1 : FVec Ideal S1x32x64 .f32) (a2 : FVec Ideal S1x32 .f32) (c0 c1 c2 c3 : FVec Ideal S32x64 .f32)

/-- The three parameters as the host hands them to the kernel. -/
abbrev w0 : FVec Ideal S32x64 .f32 := shapeCast S32x64 a0 Cert.DiscAIdeal.Gen.shapeCasts_S1x32x64_S32x64
abbrev w2 : FVec Ideal S32x1 .f32 := shapeCast S32x1 (shapeCast S32 a2 Cert.DiscAIdeal.Gen.shapeCasts_S1x32_S32) Cert.DiscAIdeal.Gen.shapeCasts_S32_S32x1

theorem p6 : k0_pay6 (F := Ideal) (w0 a0) = (val_main_v0 (F := Ideal) a0) := by
  unfold k0_pay6
  funext j
  idx_vars j
  pointwise [val_main_v0, val_main_cst, val_main_cst_0, val_main_cst_1, val_main_cst_2, val_main_cst_3, val_main_cst_4, val_main_cst_5, val_main_cst_6, val_main_cst_7, val_main_cst_8, val_main_cst_9, val_main_cst_10]

theorem p7 : k0_pay7 (F := Ideal) (w0 a1) = (val_main_v12 (F := Ideal) a1) := by
  unfold k0_pay7
  funext j
  idx_vars j
  pointwise [val_main_v12, val_main_cst, val_main_cst_0, val_main_cst_1, val_main_cst_2, val_main_cst_3, val_main_cst_4, val_main_cst_5, val_main_cst_6, val_main_cst_7, val_main_cst_8, val_main_cst_9, val_main_cst_10]

theorem p8 : k0_pay8 (F := Ideal) (w0 a0) = (val_main_v2 (F := Ideal) a0) := by
  unfold k0_pay8
  simp only [p6]
  funext j
  idx_vars j
  pointwise [val_main_v2, val_main_v1, val_main_cst, val_main_cst_0, val_main_cst_1, val_main_cst_2, val_main_cst_3, val_main_cst_4, val_main_cst_5, val_main_cst_6, val_main_cst_7, val_main_cst_8, val_main_cst_9, val_main_cst_10]

theorem p9 : k0_pay9 (F := Ideal) (w0 a0) = (val_main_v11 (F := Ideal) a0) := by
  unfold k0_pay9
  simp only [p6]
  funext j
  idx_vars j
  pointwise [val_main_v11, val_main_v3, val_main_v4, val_main_v5, val_main_v6, val_main_v7, val_main_v8, val_main_v9, val_main_v10, val_main_cst, val_main_cst_0, val_main_cst_1, val_main_cst_2, val_main_cst_3, val_main_cst_4, val_main_cst_5, val_main_cst_6, val_main_cst_7, val_main_cst_8, val_main_cst_9, val_main_cst_10]

theorem p10 : k0_pay10 (F := Ideal) (w2 a2) = (val_main_v15 (F := Ideal) a2) := by
  unfold k0_pay10
  funext j
  idx_vars j
  pointwise [val_main_v15, val_main_v13, val_main_v14, val_main_cst, val_main_cst_0, val_main_cst_1, val_main_cst_2, val_main_cst_3, val_main_cst_4, val_main_cst_5, val_main_cst_6, val_main_cst_7, val_main_cst_8, val_main_cst_9, val_main_cst_10]

theorem p11 : k0_pay11 (F := Ideal) (w0 a0) (w2 a2) = (val_main_v18 (F := Ideal) a0 a2) := by
  unfold k0_pay11
  simp only [p8, p10]
  funext j
  idx_vars j
  pointwise [val_main_v18, val_main_v16, val_main_v17, val_main_cst, val_main_cst_0, val_main_cst_1, val_main_cst_2, val_main_cst_3, val_main_cst_4, val_main_cst_5, val_main_cst_6, val_main_cst_7, val_main_cst_8, val_main_cst_9, val_main_cst_10]

theorem p12 : k0_pay12 (F := Ideal) (w0 a1) (w2 a2) = (val_main_v20 (F := Ideal) a1 a2) := by
  unfold k0_pay12
  simp only [p7, p10]
  funext j
  idx_vars j
  pointwise [val_main_v20, val_main_v19, val_main_cst, val_main_cst_0, val_main_cst_1, val_main_cst_2, val_main_cst_3, val_main_cst_4, val_main_cst_5, val_main_cst_6, val_main_cst_7, val_main_cst_8, val_main_cst_9, val_main_cst_10]

theorem p13 : k0_pay13 (F := Ideal) (w0 a1) (w2 a2) = (val_main_v21 (F := Ideal) a1 a2) := by
  unfold k0_pay13
  simp only [p12]
  funext j
  idx_vars j
  pointwise [val_main_v21, val_main_cst, val_main_cst_0, val_main_cst_1, val_main_cst_2, val_main_cst_3, val_main_cst_4, val_main_cst_5, val_main_cst_6, val_main_cst_7, val_main_cst_8, val_main_cst_9, val_main_cst_10]

theorem p14 : k0_pay14 (F := Ideal) (w0 a1) (w2 a2) = (val_main_v22 (F := Ideal) a1 a2) := by
  unfold k0_pay14
  simp only [p12]
  funext j
  idx_vars j
  pointwise [val_main_v22, val_main_cst, val_main_cst_0, val_main_cst_1, val_main_cst_2, val_main_cst_3, val_main_cst_4, val_main_cst_5, val_main_cst_6, val_main_cst_7, val_main_cst_8, val_main_cst_9, val_main_cst_10]

theorem p15 : k0_pay15 (F := Ideal) (w0 a1) (w2 a2) = (val_main_v24 (F := Ideal) a1 a2) := by
  unfold k0_pay15
  simp only [p12]
  funext j
  idx_vars j
  pointwise [val_main_v24, val_main_cst, val_main_cst_0, val_main_cst_1, val_main_cst_2, val_main_cst_3, val_main_cst_4, val_main_cst_5, val_main_cst_6, val_main_cst_7, val_main_cst_8, val_main_cst_9, val_main_cst_10]

theorem p16 : k0_pay16 (F := Ideal) (w0 a1) (w2 a2) = (val_main_v25 (F := Ideal) a1 a2) := by
  unfold k0_pay16
  simp only [p12]
  funext j
  idx_vars j
  pointwise [val_main_v25, val_main_cst, val_main_cst_0, val_main_cst_1, val_main_cst_2, val_main_cst_3, val_main_cst_4, val_main_cst_5, val_main_cst_6, val_main_cst_7, val_main_cst_8, val_main_cst_9, val_main_cst_10]

theorem p17 : k0_pay17 (F := Ideal) (w0 a0) (w0 a1) (w2 a2) = (val_main_v26 (F := Ideal) a0 a1 a2) := by
  unfold k0_pay17
  simp only [p11, p15]
  funext j
  idx_vars j
  pointwise [val_main_v26, val_main_cst, val_main_cst_0, val_main_cst_1, val_main_cst_2, val_main_cst_3, val_main_cst_4, val_main_cst_5, val_main_cst_6, val_main_cst_7, val_main_cst_8, val_main_cst_9, val_main_cst_10]

theorem p18 : k0_pay18 (F := Ideal) (w0 a0) (w0 a1) (w2 a2) = (val_main_v28 (F := Ideal) a0 a1 a2) := by
  unfold k0_pay18
  simp only [p11, p13]
  funext j
  idx_vars j
  pointwise [val_main_v28, val_main_v23, val_main_v27, val_main_cst, val_main_cst_0, val_main_cst_1, val_main_cst_2, val_main_cst_3, val_main_cst_4, val_main_cst_5, val_main_cst_6, val_main_cst_7, val_main_cst_8, val_main_cst_9, val_main_cst_10]

theorem p19 : k0_pay19 (F := Ideal) (w0 a0) (w0 a1) = (val_main_v31 (F := Ideal) a0 a1) := by
  unfold k0_pay19
  simp only [p8, p7]
  funext j
  idx_vars j
  pointwise [val_main_v31, val_main_v29, val_main_v30, val_main_cst, val_main_cst_0, val_main_cst_1, val_main_cst_2, val_main_cst_3, val_main_cst_4, val_main_cst_5, val_main_cst_6, val_main_cst_7, val_main_cst_8, val_main_cst_9, val_main_cst_10]

theorem p20 : k0_pay20 (F := Ideal) (w0 a0) (w0 a1) (w2 a2) = (val_main_v34 (F := Ideal) a0 a1 a2) := by
  unfold k0_pay20
  simp only [p18, p8, p17, p7]
  funext j
  idx_vars j
  pointwise [val_main_v34, val_main_v32, val_main_v33, val_main_cst, val_main_cst_0, val_main_cst_1, val_main_cst_2, val_main_cst_3, val_main_cst_4, val_main_cst_5, val_main_cst_6, val_main_cst_7, val_main_cst_8, val_main_cst_9, val_main_cst_10]

theorem p21 : k0_pay21 (F := Ideal) (w0 a0) (w0 a1) = (val_main_v38 (F := Ideal) a0 a1) := by
  unfold k0_pay21
  simp only [p19]
  funext j
  idx_vars j
  pointwise [val_main_v38, val_main_v36, val_main_v37, val_main_cst, val_main_cst_0, val_main_cst_1, val_main_cst_2, val_main_cst_3, val_main_cst_4, val_main_cst_5, val_main_cst_6, val_main_cst_7, val_main_cst_8, val_main_cst_9, val_main_cst_10]

theorem p22 : k0_pay22 (F := Ideal) (w0 a0) (w0 a1) (w2 a2) = (val_main_v41 (F := Ideal) a0 a1 a2) := by
  unfold k0_pay22
  simp only [p17, p8, p18, p7]
  funext j
  idx_vars j
  pointwise [val_main_v41, val_main_v39, val_main_v40, val_main_cst, val_main_cst_0, val_main_cst_1, val_main_cst_2, val_main_cst_3, val_main_cst_4, val_main_cst_5, val_main_cst_6, val_main_cst_7, val_main_cst_8, val_main_cst_9, val_main_cst_10]

theorem p23 : k0_pay23 (F := Ideal) (w0 a0) (w0 a1) = (val_main_v43 (F := Ideal) a0 a1) := by
  unfold k0_pay23
  simp only [p19]
  funext j
  idx_vars j
  pointwise [val_main_v43, val_main_cst, val_main_cst_0, val_main_cst_1, val_main_cst_2, val_main_cst_3, val_main_cst_4, val_main_cst_5, val_main_cst_6, val_main_cst_7, val_main_cst_8, val_main_cst_9, val_main_cst_10]

theorem p24 : k0_pay24 (F := Ideal)  = (val_main_v44 (F := Ideal)) := by
  unfold k0_pay24
  funext j
  idx_vars j
  pointwise [val_main_v44, val_main_cst, val_main_cst_0, val_main_cst_1, val_main_cst_2, val_main_cst_3, val_main_cst_4, val_main_cst_5, val_main_cst_6, val_main_cst_7, val_main_cst_8, val_main_cst_9, val_main_cst_10]

theorem p25 : k0_pay25 (F := Ideal) (val_main_v31 (F := Ideal) a0 a1) c3 = (val_main_v49 (F := Ideal) a0 a1 c3) := by
  unfold k0_pay25
  funext j
  idx_vars j
  pointwise [val_main_v49, val_main_cst, val_main_cst_0, val_main_cst_1, val_main_cst_2, val_main_cst_3, val_main_cst_4, val_main_cst_5, val_main_cst_6, val_main_cst_7, val_main_cst_8, val_main_cst_9, val_main_cst_10]

theorem p26 : k0_pay26 (F := Ideal) (val_main_v31 (F := Ideal) a0 a1) c3 = (val_main_v50 (F := Ideal) a0 a1 c3) := by
  unfold k0_pay26
  simp only [p25]
  funext j
  idx_vars j
  pointwise [val_main_v50, val_main_cst, val_main_cst_0, val_main_cst_1, val_main_cst_2, val_main_cst_3, val_main_cst_4, val_main_cst_5, val_main_cst_6, val_main_cst_7, val_main_cst_8, val_main_cst_9, val_main_cst_10]
  simp only [zero_sub]

theorem p27 : k0_pay27 (F := Ideal) (val_main_v34 (F := Ideal) a0 a1 a2) (val_main_v38 (F := Ideal) a0 a1) (val_main_v41 (F := Ideal) a0 a1 a2) (val_main_v43 (F := Ideal) a0 a1) (val_main_v44 (F := Ideal)) c2 c3 = (val_main_v60 (F := Ideal) a0 a1 a2 c2 c3) := by
  unfold k0_pay27
  funext j
  idx_vars j
  pointwise [val_main_v60, val_main_v45, val_main_v46, val_main_v47, val_main_v48, val_main_v57, val_main_v58, val_main_v59, val_main_cst, val_main_cst_0, val_main_cst_1, val_main_cst_2, val_main_cst_3, val_main_cst_4, val_main_cst_5, val_main_cst_6, val_main_cst_7, val_main_cst_8, val_main_cst_9, val_main_cst_10]
  simp only [zero_sub]

theorem p28 : k0_pay28 (F := Ideal) (val_main_v31 (F := Ideal) a0 a1) c2 = (val_main_v61 (F := Ideal) a0 a1 c2) := by
  unfold k0_pay28
  funext j
  idx_vars j
  pointwise [val_main_v61, val_main_cst, val_main_cst_0, val_main_cst_1, val_main_cst_2, val_main_cst_3, val_main_cst_4, val_main_cst_5, val_main_cst_6, val_main_cst_7, val_main_cst_8, val_main_cst_9, val_main_cst_10]

theorem p29 : k0_pay29 (F := Ideal) (val_main_v12 (F := Ideal) a1) (val_main_v2 (F := Ideal) a0) (val_main_v31 (F := Ideal) a0 a1) c1 c2 c3 = (val_main_v65 (F := Ideal) a0 a1 c1 c2 c3) := by
  unfold k0_pay29
  simp only [p25, p28]
  funext j
  idx_vars j
  pointwise [val_main_v65, val_main_v55, val_main_v56, val_main_v64, val_main_cst, val_main_cst_0, val_main_cst_1, val_main_cst_2, val_main_cst_3, val_main_cst_4, val_main_cst_5, val_main_cst_6, val_main_cst_7, val_main_cst_8, val_main_cst_9, val_main_cst_10]

theorem p30 : k0_pay30 (F := Ideal) (val_main_v12 (F := Ideal) a1) (val_main_v2 (F := Ideal) a0) (val_main_v31 (F := Ideal) a0 a1) c0 c2 c3 = (val_main_v69 (F := Ideal) a0 a1 c0 c2 c3) := by
  unfold k0_pay30
  simp only [p26, p28]
  funext j
  idx_vars j
  pointwise [val_main_v69, val_main_v52, val_main_v53, val_main_v68, val_main_cst, val_main_cst_0, val_main_cst_1, val_main_cst_2, val_main_cst_3, val_main_cst_4, val_main_cst_5, val_main_cst_6, val_main_cst_7, val_main_cst_8, val_main_cst_9, val_main_cst_10]

theorem p31 : k0_pay31 (F := Ideal) (val_main_v12 (F := Ideal) a1) (val_main_v26 (F := Ideal) a0 a1 a2) (val_main_v28 (F := Ideal) a0 a1 a2) (val_main_v31 (F := Ideal) a0 a1) (val_main_v34 (F := Ideal) a0 a1 a2) (val_main_v38 (F := Ideal) a0 a1) (val_main_v41 (F := Ideal) a0 a1 a2) (val_main_v43 (F := Ideal) a0 a1) (val_main_v44 (F := Ideal)) c2 c3 = (val_main_v73 (F := Ideal) a0 a1 a2 c2 c3) := by
  unfold k0_pay31
  simp only [p26, p28, p27]
  funext j
  idx_vars j
  pointwise [val_main_v73, val_main_v51, val_main_v62, val_main_v63, val_main_v70, val_main_v71, val_main_v72, val_main_cst, val_main_cst_0, val_main_cst_1, val_main_cst_2, val_main_cst_3, val_main_cst_4, val_main_cst_5, val_main_cst_6, val_main_cst_7, val_main_cst_8, val_main_cst_9, val_main_cst_10]

theorem p32 : k0_pay32 (F := Ideal) (val_main_v2 (F := Ideal) a0) (val_main_v26 (F := Ideal) a0 a1 a2) (val_main_v28 (F := Ideal) a0 a1 a2) (val_main_v31 (F := Ideal) a0 a1) (val_main_v34 (F := Ideal) a0 a1 a2) (val_main_v38 (F := Ideal) a0 a1) (val_main_v41 (F := Ideal) a0 a1 a2) (val_main_v43 (F := Ideal) a0 a1) (val_main_v44 (F := Ideal)) c2 c3 = (val_main_v77 (F := Ideal) a0 a1 a2 c2 c3) := by
  unfold k0_pay32
  simp only [p25, p28, p27]
  funext j
  idx_vars j
  pointwise [val_main_v77, val_main_v54, val_main_v66, val_main_v67, val_main_v74, val_main_v75, val_main_v76, val_main_cst, val_main_cst_0, val_main_cst_1, val_main_cst_2, val_main_cst_3, val_main_cst_4, val_main_cst_5, val_main_cst_6, val_main_cst_7, val_main_cst_8, val_main_cst_9, val_main_cst_10]

theorem p33 : k0_pay33 (F := Ideal) (val_main_v12 (F := Ideal) a1) (val_main_v2 (F := Ideal) a0) (val_main_v18 (F := Ideal) a0 a2) (val_main_v25 (F := Ideal) a1 a2) (val_main_v31 (F := Ideal) a0 a1) c1 c2 c3 = (val_main_v80 (F := Ideal) a0 a1 a2 c1 c2 c3) := by
  unfold k0_pay33
  simp only [p29]
  funext j
  idx_vars j
  pointwise [val_main_v80, val_main_v78, val_main_cst, val_main_cst_0, val_main_cst_1, val_main_cst_2, val_main_cst_3, val_main_cst_4, val_main_cst_5, val_main_cst_6, val_main_cst_7, val_main_cst_8, val_main_cst_9, val_main_cst_10]

theorem p34 : k0_pay34 (F := Ideal) (val_main_v12 (F := Ideal) a1) (val_main_v2 (F := Ideal) a0) (val_main_v21 (F := Ideal) a1 a2) (val_main_v24 (F := Ideal) a1 a2) (val_main_v31 (F := Ideal) a0 a1) c0 c1 c2 c3 = (val_main_v83 (F := Ideal) a0 a1 a2 c0 c1 c2 c3) := by
  unfold k0_pay34
  simp only [p29, p30]
  funext j
  idx_vars j
  pointwise [val_main_v83, val_main_v79, val_main_v82, val_main_cst, val_main_cst_0, val_main_cst_1, val_main_cst_2, val_main_cst_3, val_main_cst_4, val_main_cst_5, val_main_cst_6, val_main_cst_7, val_main_cst_8, val_main_cst_9, val_main_cst_10]

theorem p35 : k0_pay35 (F := Ideal) (val_main_v12 (F := Ideal) a1) (val_main_v2 (F := Ideal) a0) (val_main_v18 (F := Ideal) a0 a2) (val_main_v31 (F := Ideal) a0 a1) c0 c2 c3 = (val_main_v84 (F := Ideal) a0 a1 a2 c0 c2 c3) := by
  unfold k0_pay35
  simp only [p30]
  funext j
  idx_vars j
  pointwise [val_main_v84, val_main_v81, val_main_cst, val_main_cst_0, val_main_cst_1, val_main_cst_2, val_main_cst_3, val_main_cst_4, val_main_cst_5, val_main_cst_6, val_main_cst_7, val_main_cst_8, val_main_cst_9, val_main_cst_10]
  simp only [zero_sub]

theorem p1 : k0_pay1 (F := Ideal) (val_main_v22 (F := Ideal) a1 a2) (val_main_v80 (F := Ideal) a0 a1 a2 c1 c2 c3) (val_main_v84 (F := Ideal) a0 a1 a2 c0 c2 c3) = (val_main_v86 (F := Ideal) a0 a1 a2 c0 c1 c2 c3) := by
  unfold k0_pay1
  funext j
  idx_vars j
  pointwise [val_main_v86, val_main_v85, val_main_cst, val_main_cst_0, val_main_cst_1, val_main_cst_2, val_main_cst_3, val_main_cst_4, val_main_cst_5, val_main_cst_6, val_main_cst_7, val_main_cst_8, val_main_cst_9, val_main_cst_10]

theorem p2 : k0_pay2 (F := Ideal) (val_main_v15 (F := Ideal) a2) (val_main_v22 (F := Ideal) a1 a2) (val_main_v73 (F := Ideal) a0 a1 a2 c2 c3) (val_main_v80 (F := Ideal) a0 a1 a2 c1 c2 c3) (val_main_v84 (F := Ideal) a0 a1 a2 c0 c2 c3) = (val_main_v92 (F := Ideal) a0 a1 a2 c0 c1 c2 c3) := by
  unfold k0_pay2
  simp only [p1]
  funext j
  idx_vars j
  pointwise [val_main_v92, val_main_v90, val_main_v91, val_main_cst, val_main_cst_0, val_main_cst_1, val_main_cst_2, val_main_cst_3, val_main_cst_4, val_main_cst_5, val_main_cst_6, val_main_cst_7, val_main_cst_8, val_main_cst_9, val_main_cst_10]

theorem p3 : k0_pay3 (F := Ideal) (val_main_v18 (F := Ideal) a0 a2) (val_main_v83 (F := Ideal) a0 a1 a2 c0 c1 c2 c3) = (val_main_v93 (F := Ideal) a0 a1 a2 c0 c1 c2 c3) := by
  unfold k0_pay3
  funext j
  idx_vars j
  pointwise [val_main_v93, val_main_cst, val_main_cst_0, val_main_cst_1, val_main_cst_2, val_main_cst_3, val_main_cst_4, val_main_cst_5, val_main_cst_6, val_main_cst_7, val_main_cst_8, val_main_cst_9, val_main_cst_10]

theorem p5 : k0_pay5 (F := Ideal) (val_main_v11 (F := Ideal) a0) (val_main_v15 (F := Ideal) a2) (val_main_v18 (F := Ideal) a0 a2) (val_main_v77 (F := Ideal) a0 a1 a2 c2 c3) (val_main_v83 (F := Ideal) a0 a1 a2 c0 c1 c2 c3) = (val_main_v105 (F := Ideal) a0 a1 a2 c0 c1 c2 c3) := by
  unfold k0_pay5
  simp only [p3]
  funext j
  idx_vars j
  pointwise [val_main_v105, val_main_v98, val_main_v99, val_main_v100, val_main_cst, val_main_cst_0, val_main_cst_1, val_main_cst_2, val_main_cst_3, val_main_cst_4, val_main_cst_5, val_main_cst_6, val_main_cst_7, val_main_cst_8, val_main_cst_9, val_main_cst_10]

theorem p4 : k0_pay4 (F := Ideal) (val_main_v12 (F := Ideal) a1) (val_main_v2 (F := Ideal) a0) (val_main_v15 (F := Ideal) a2) (val_main_v18 (F := Ideal) a0 a2) (val_main_v22 (F := Ideal) a1 a2) (val_main_v80 (F := Ideal) a0 a1 a2 c1 c2 c3) (val_main_v83 (F := Ideal) a0 a1 a2 c0 c1 c2 c3) (val_main_v84 (F := Ideal) a0 a1 a2 c0 c2 c3) = (val_main_v110 (F := Ideal) a0 a1 a2 c0 c1 c2 c3) := by
  unfold k0_pay4
  simp only [p1, p3]
  funext j
  idx_vars j
  pointwise [val_main_v110, val_main_v87, val_main_v88, val_main_v89, val_main_v94, val_main_v95, val_main_v96, val_main_v97, val_main_v101, val_main_v102, val_main_v103, val_main_v109, val_main_v15, val_main_cst, val_main_cst_0, val_main_cst_1, val_main_cst_2, val_main_cst_3, val_main_cst_4, val_main_cst_5, val_main_cst_6, val_main_cst_7, val_main_cst_8, val_main_cst_9, val_main_cst_10]
  rw [Fin.sum_univ_one]

end

end Cert.DiscAIdeal.Tie

end
-- ==== Proof.DiscA.Value.lean ====
/- The gradient of the state's discretisation, kernel against reference: what the host hands the kernel, what its three
   outputs hold when it ends, and the claim. -/
module

public import proofs.«01_k».proof.Proof.DiscA.Stages
public import proofs.«01_k».proof.Proof.Gen.DiscARefIdeal.Run
public import proofs.«01_k».proof.Proof.Common.Congr

@[expose] public section

set_option maxRecDepth 16384

noncomputable section

namespace Cert.DiscARefIdeal.Tie

open Cert.DiscARefIdeal.Read
open Cert.DiscARefIdeal Idealize.ShloMosaic Idealize.ShloMosaic.TcCoe Idealize.SL.Sem

/-- The reference's results, read in the stages of its own text. -/
theorem run_read (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v107) = val_main_v107 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6))
      ∧ r.2.mem (c.tc.loc main_v108) = val_main_v108 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6))
      ∧ r.2.mem (c.tc.loc main_v110) = val_main_v110 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6) :=
  (θ_run _ _ _).mono (fun r h c => ⟨(h c).1.trans (val_main_v107_eq m c), (h c).2.1.trans (val_main_v108_eq m c),
    (h c).2.2.1.trans (val_main_v110_eq m c), (h c).2.2.2⟩) (Value.run m ρ)

end Cert.DiscARefIdeal.Tie

namespace Cert.DiscAIdeal.Tie

open Cert.DiscARefIdeal.Read
open Cert.DiscAIdeal Cert.DiscAIdeal.Gen Idealize.ShloMosaic Idealize.ShloMosaic.TcCoe Idealize.SL.Sem Cert.Common

/-! ## The body's three results -/

theorem ldA (x : Vec Ideal S32x64 .f32) : View.ld x r0_0 = x := by
  funext j; idx_vars j; pointwise

theorem ldB (x : Vec Ideal S32x1 .f32) : View.ld x r0_1 = x := by
  funext j; idx_vars j; fin_cases j1; pointwise

theorem canonA (x : Vec Ideal S32x64 .f32) : View.canon [⟨r0_0, x⟩] = x := by
  funext j; idx_vars j; canon_tiles y h
  exact congrArg x (funext fun a => Fin.ext (by fin_cases a; exacts [h0.symm, h1.symm]))

theorem canonB (x : Vec Ideal S32x1 .f32) : View.canon [⟨r0_1, x⟩] = x := by
  funext j; idx_vars j; canon_tiles y h
  exact congrArg x (funext fun a => Fin.ext (by fin_cases a; exacts [h0.symm, h1.symm]))

section
variable (a0 a1 : FVec Ideal S1x32x64 .f32) (a2 : FVec Ideal S1x32 .f32) (c0 c1 c2 c3 : FVec Ideal S32x64 .f32)

theorem out7 : out0_7 (F := Ideal) (w0 a0) (w0 a1) (w2 a2) c0 c1 c2 c3 = val_main_v107 (F := Ideal) a0 a1 a2 c0 c1 c2 c3 := by
  unfold_out out0_7
  simp only [canonA, ldA, ldB, p1, p2, p3, p4, p5, p6, p7, p8, p9, p10, p11, p12, p13, p14, p15, p16, p17, p18, p19, p20, p21, p22, p23, p24, p25, p26, p27, p28, p29, p30, p31, p32, p33, p34, p35]
  funext j; idx_vars j
  pointwise [val_main_v107, val_main_v106]

theorem out8 : out0_8 (F := Ideal) (w0 a0) (w0 a1) (w2 a2) c0 c1 c2 c3 = val_main_v108 (F := Ideal) a0 a1 a2 c0 c1 c2 c3 := by
  unfold_out out0_8
  simp only [canonA, ldA, ldB, p1, p2, p3, p4, p5, p6, p7, p8, p9, p10, p11, p12, p13, p14, p15, p16, p17, p18, p19, p20, p21, p22, p23, p24, p25, p26, p27, p28, p29, p30, p31, p32, p33, p34, p35]
  funext j; idx_vars j
  pointwise [val_main_v108, val_main_v104]

theorem out9 : out0_9 (F := Ideal) (w0 a0) (w0 a1) (w2 a2) c0 c1 c2 c3 = val_main_v110 (F := Ideal) a0 a1 a2 c0 c1 c2 c3 := by
  unfold_out out0_9
  simp only [canonB, ldA, ldB, p1, p2, p3, p4, p5, p6, p7, p8, p9, p10, p11, p12, p13, p14, p15, p16, p17, p18, p19, p20, p21, p22, p23, p24, p25, p26, p27, p28, p29, p30, p31, p32, p33, p34, p35]

end

/-! ## What the windows hold -/

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

variable (m : (ℓ : Loc nD τ sig) → Buf (Elt Ideal) ℓ)

theorem Vv0 (c : Dev nD) : V m c main_v0 = (w0 (m (c.tc.loc main_arg0))) := by
  unfold_abbrev_sides
  after_results
  rfl

theorem Vv1 (c : Dev nD) : V m c main_v1 = (w0 (m (c.tc.loc main_arg1))) := by
  unfold_abbrev_sides
  after_results
  rfl

theorem Vv3 (c : Dev nD) : V m c main_v3 = (w2 (m (c.tc.loc main_arg2))) := by
  unfold_abbrev_sides
  after_results
  rfl

theorem b0 (c : Dev nD) (t : Fin cfg0.N) : iblk m c 0 t = w0 (m (c.tc.loc main_arg0)) := by
  obtain ⟨e, -⟩ := idx t
  rw [← Vv0 m c]
  funext j
  show V m c main_v0 _ = _
  blk_ext [e]

theorem b1 (c : Dev nD) (t : Fin cfg0.N) : iblk m c 1 t = w0 (m (c.tc.loc main_arg1)) := by
  obtain ⟨-, e, -⟩ := idx t
  rw [← Vv1 m c]
  funext j
  show V m c main_v1 _ = _
  blk_ext [e]

theorem b2 (c : Dev nD) (t : Fin cfg0.N) : iblk m c 2 t = w2 (m (c.tc.loc main_arg2)) := by
  obtain ⟨-, -, e, -⟩ := idx t
  rw [← Vv3 m c]
  funext j
  show V m c main_v3 _ = _
  blk_ext [e]

theorem b3 (c : Dev nD) (t : Fin cfg0.N) : iblk m c 3 t = m (c.tc.loc main_arg3) := by
  obtain ⟨-, -, -, e, -⟩ := idx t
  rw [← V_main_arg3 m c]
  funext j
  show V m c main_arg3 _ = _
  blk_ext [e]

theorem b4 (c : Dev nD) (t : Fin cfg0.N) : iblk m c 4 t = m (c.tc.loc main_arg4) := by
  obtain ⟨-, -, -, -, e, -⟩ := idx t
  rw [← V_main_arg4 m c]
  funext j
  show V m c main_arg4 _ = _
  blk_ext [e]

theorem b5 (c : Dev nD) (t : Fin cfg0.N) : iblk m c 5 t = m (c.tc.loc main_arg5) := by
  obtain ⟨-, -, -, -, -, e, -⟩ := idx t
  rw [← V_main_arg5 m c]
  funext j
  show V m c main_arg5 _ = _
  blk_ext [e]

theorem b6 (c : Dev nD) (t : Fin cfg0.N) : iblk m c 6 t = m (c.tc.loc main_arg6) := by
  obtain ⟨-, -, -, -, -, -, e, -⟩ := idx t
  rw [← V_main_arg6 m c]
  funext j
  show V m c main_arg6 _ = _
  blk_ext [e]

theorem final_7 (c : Dev nD) :
    (dats m 0 c).arrAt 7 (cfgs 0).N = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  obtain ⟨-, -, -, -, -, -, -, e, -⟩ := idx t
  blk_simp; rw [after0_7, b0, b1, b2, b3, b4, b5, b6, out7]
  refine congrArg _ ?_
  funext a; apply Fin.ext; fin_cases a <;> simp [win0_7, e]

theorem final_8 (c : Dev nD) :
    (dats m 0 c).arrAt 8 (cfgs 0).N = val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  obtain ⟨-, -, -, -, -, -, -, -, e, -⟩ := idx t
  blk_simp; rw [after0_8, b0, b1, b2, b3, b4, b5, b6, out8]
  refine congrArg _ ?_
  funext a; apply Fin.ext; fin_cases a <;> simp [win0_8, e]

theorem final_9 (c : Dev nD) :
    (dats m 0 c).arrAt 9 (cfgs 0).N = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  obtain ⟨-, -, -, -, -, -, -, -, -, e⟩ := idx t
  blk_simp; rw [after0_9, b0, b1, b2, b3, b4, b5, b6, out9]
  refine congrArg _ ?_
  funext a; apply Fin.ext; fin_cases a <;> simp [win0_9, e]

set_option maxHeartbeats 2000000 in
/-- The kernel's three gradients are the reference's, for every argument. -/
theorem algebraic : Cert.algebraic_DiscAIdeal_DiscARefIdeal := by
  pair_intro
  · run_from Cert.DiscAIdeal.Gen.run_main m g
  · refine (θ_run _ _ _).mono (fun r h c => ?_) (Cert.DiscARefIdeal.Tie.run_read m' g')
    obtain ⟨a0, a1, a2, a3, a4, a5, a6⟩ := hagree c
    obtain ⟨e0, e1, e2, e⟩ := h c
    have w0 := (e0.trans (congr7 (val_main_v107 (F := Ideal)) a0 a1 a2 a3 a4 a5 a6)).trans (final_7 m c).symm
    have w1 := (e1.trans (congr7 (val_main_v108 (F := Ideal)) a0 a1 a2 a3 a4 a5 a6)).trans (final_8 m c).symm
    have w2 := (e2.trans (congr7 (val_main_v110 (F := Ideal)) a0 a1 a2 a3 a4 a5 a6)).trans (final_9 m c).symm
    exact ⟨w0, w1, w2, e⟩

end Cert.DiscAIdeal.Tie

end
-- ==== Proof.DiscAFwd.Value.lean ====
/- The state's discretisation, kernel against reference: the arithmetic is the same, operation for operation. -/
module

public import proofs.«01_k».proof.Proof.Gen.DiscAFwdIdeal.Frame
public import proofs.«01_k».proof.Proof.Gen.DiscAFwdRefIdeal.Read
public import proofs.«01_k».proof.Proof.Gen.DiscAFwdRefIdeal.Run
public import proofs.«01_k».proof.Proof.Common.Congr
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.DiscAFwdRefIdeal.Tie

open Cert.DiscAFwdRefIdeal.Read
open Cert.DiscAFwdRefIdeal Idealize.ShloMosaic Idealize.ShloMosaic.TcCoe Idealize.SL.Sem

/-- The reference's results, read in the stages of its own text. -/
theorem run_read (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v13) = val_main_v13 (F := Ideal) (m (c.tc.loc main_arg0)) (m (c.tc.loc main_arg1)) (m (c.tc.loc main_arg2))
      ∧ r.2.mem (c.tc.loc main_v15) = val_main_v15 (F := Ideal) (m (c.tc.loc main_arg0)) (m (c.tc.loc main_arg1)) (m (c.tc.loc main_arg2))
      ∧ r.2.mem (c.tc.loc main_v24) = val_main_v24 (F := Ideal) (m (c.tc.loc main_arg0)) (m (c.tc.loc main_arg1)) (m (c.tc.loc main_arg2))
      ∧ r.2.mem (c.tc.loc main_v28) = val_main_v28 (F := Ideal) (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run _ _ _).mono (fun r h c => ⟨(h c).1.trans (val_main_v13_eq _ _ _), (h c).2.1.trans (val_main_v15_eq _ _ _), (h c).2.2.1.trans (val_main_v24_eq _ _ _), (h c).2.2.2.1.trans (val_main_v28_eq _ _ _), (h c).2.2.2.2⟩) (Value.run m ρ)

end Cert.DiscAFwdRefIdeal.Tie

namespace Cert.DiscAFwdIdeal.Tie

open Cert.DiscAFwdRefIdeal.Read
open Cert.DiscAFwdIdeal Cert.DiscAFwdIdeal.Gen Idealize.ShloMosaic Idealize.ShloMosaic.TcCoe Idealize.SL.Sem Cert.Common

theorem ld0 (x : Vec Ideal S32x64 .f32) : View.ld x r0_0 = x := by
  funext j; idx_vars j; pointwise

theorem canon0 (x : Vec Ideal S32x64 .f32) : View.canon [⟨r0_0, x⟩] = x := by
  funext j; idx_vars j; canon_tiles y h
  exact congrArg x (funext fun a => Fin.ext (by fin_cases a; exacts [h0.symm, h1.symm]))

theorem ld1 (x : Vec Ideal S32x1 .f32) : View.ld x r0_1 = x := by
  funext j; idx_vars j; fin_cases j1; pointwise

theorem canon1 (x : Vec Ideal S32x1 .f32) : View.canon [⟨r0_1, x⟩] = x := by
  funext j; idx_vars j; canon_tiles y h
  exact congrArg x (funext fun a => Fin.ext (by fin_cases a; exacts [h0.symm, h1.symm]))

section
variable (a0 a1 : FVec Ideal S1x32x64 .f32) (a2 : FVec Ideal S1x32 .f32)

/-- The three parameters as the host hands them to the kernel. -/
abbrev w0 : FVec Ideal S32x64 .f32 := shapeCast S32x64 a0 Cert.DiscAFwdIdeal.Gen.shapeCasts_S1x32x64_S32x64
abbrev w2 : FVec Ideal S32x1 .f32 := shapeCast S32x1 (shapeCast S32 a2 Cert.DiscAFwdIdeal.Gen.shapeCasts_S1x32_S32) Cert.DiscAFwdIdeal.Gen.shapeCasts_S32_S32x1

theorem out3 : out0_3 (F := Ideal) (w0 a0) (w0 a1) (w2 a2) = val_main_v13 (F := Ideal) a0 a1 a2 := by
  rw [← val_main_v13_eq]
  unfold out0_3
  simp only [canon0, ld0, ld1]
  funext j
  idx_vars j
  pointwise! [ k0_pay1, k0_pay2, k0_pay3, k0_pay4, k0_pay5, k0_pay6]

theorem out4 : out0_4 (F := Ideal) (w0 a0) (w0 a1) (w2 a2) = val_main_v15 (F := Ideal) a0 a1 a2 := by
  rw [← val_main_v15_eq]
  unfold out0_4
  simp only [canon0, ld0, ld1]
  funext j
  idx_vars j
  pointwise! [ k0_pay1, k0_pay2, k0_pay3, k0_pay4, k0_pay5, k0_pay7]

theorem out5 : out0_5 (F := Ideal) (w0 a0) (w0 a1) (w2 a2) = val_main_v24 (F := Ideal) a0 a1 a2 := by
  rw [← val_main_v24_eq]
  unfold out0_5
  simp only [canon0, ld0, ld1]
  funext j
  idx_vars j
  pointwise! [ k0_pay1, k0_pay2, k0_pay3, k0_pay4, k0_pay5, k0_pay6, k0_pay7, k0_pay8, k0_pay9, k0_pay10]

theorem out6 : out0_6 (F := Ideal) (w0 a0) (w0 a1) (w2 a2) = val_main_v28 (F := Ideal) a0 a1 a2 := by
  rw [← val_main_v28_eq]
  unfold out0_6
  simp only [canon0, ld0, ld1]
  funext j
  idx_vars j
  pointwise! [ k0_pay1, k0_pay2, k0_pay3, k0_pay4, k0_pay5, k0_pay6, k0_pay7, k0_pay8, k0_pay9, k0_pay11]

end

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

variable (m : (ℓ : Loc nD τ sig) → Buf (Elt Ideal) ℓ)

theorem Vv0 (c : Dev nD) : V m c main_v0 = (w0 (m (c.tc.loc main_arg0))) := by
  unfold_abbrev_sides
  after_results
  rfl

theorem Vv1 (c : Dev nD) : V m c main_v1 = (w0 (m (c.tc.loc main_arg1))) := by
  unfold_abbrev_sides
  after_results
  rfl

theorem Vv3 (c : Dev nD) : V m c main_v3 = (w2 (m (c.tc.loc main_arg2))) := by
  unfold_abbrev_sides
  after_results
  rfl

theorem b0 (c : Dev nD) (t : Fin cfg0.N) : iblk m c 0 t = w0 (m (c.tc.loc main_arg0)) := by
  obtain ⟨e, -⟩ := idx t
  rw [← Vv0 m c]
  funext j
  show V m c main_v0 _ = _
  blk_ext [e]

theorem b1 (c : Dev nD) (t : Fin cfg0.N) : iblk m c 1 t = w0 (m (c.tc.loc main_arg1)) := by
  obtain ⟨-, e, -⟩ := idx t
  rw [← Vv1 m c]
  funext j
  show V m c main_v1 _ = _
  blk_ext [e]

theorem b2 (c : Dev nD) (t : Fin cfg0.N) : iblk m c 2 t = w2 (m (c.tc.loc main_arg2)) := by
  obtain ⟨-, -, e, -⟩ := idx t
  rw [← Vv3 m c]
  funext j
  show V m c main_v3 _ = _
  blk_ext [e]

theorem final_3 (c : Dev nD) :
    (dats m 0 c).arrAt 3 (cfgs 0).N = val_main_v13 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨-, -, -, e, -⟩ := idx t
  blk_simp; rw [after0_3, b0, b1, b2, out3]
  refine congrArg _ ?_
  funext a; apply Fin.ext; fin_cases a <;> simp [win0_3, e]

theorem final_4 (c : Dev nD) :
    (dats m 0 c).arrAt 4 (cfgs 0).N = val_main_v15 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨-, -, -, -, e, -⟩ := idx t
  blk_simp; rw [after0_4, b0, b1, b2, out4]
  refine congrArg _ ?_
  funext a; apply Fin.ext; fin_cases a <;> simp [win0_4, e]

theorem final_5 (c : Dev nD) :
    (dats m 0 c).arrAt 5 (cfgs 0).N = val_main_v24 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨-, -, -, -, -, e, -⟩ := idx t
  blk_simp; rw [after0_5, b0, b1, b2, out5]
  refine congrArg _ ?_
  funext a; apply Fin.ext; fin_cases a <;> simp [win0_5, e]

theorem final_6 (c : Dev nD) :
    (dats m 0 c).arrAt 6 (cfgs 0).N = val_main_v28 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  obtain ⟨-, -, -, -, -, -, e⟩ := idx t
  blk_simp; rw [after0_6, b0, b1, b2, out6]
  refine congrArg _ ?_
  funext a; apply Fin.ext; fin_cases a <;> simp [win0_6, e]

set_option maxHeartbeats 2000000 in
/-- The kernel's four arrays are the reference's, for every argument. -/
theorem algebraic : Cert.algebraic_DiscAFwdIdeal_DiscAFwdRefIdeal := by
  pair_intro
  · run_from Cert.DiscAFwdIdeal.Gen.run_main m g
  · refine (θ_run _ _ _).mono (fun r h c => ?_) (Cert.DiscAFwdRefIdeal.Tie.run_read m' g')
    obtain ⟨a0, a1, a2⟩ := hagree c
    obtain ⟨e0, e1, e2, e3, e⟩ := h c
    have w0 := (e0.trans (congr3 (val_main_v13 (F := Ideal)) a0 a1 a2)).trans (final_3 m c).symm
    have w1 := (e1.trans (congr3 (val_main_v15 (F := Ideal)) a0 a1 a2)).trans (final_4 m c).symm
    have w2 := (e2.trans (congr3 (val_main_v24 (F := Ideal)) a0 a1 a2)).trans (final_5 m c).symm
    have w3 := (e3.trans (congr3 (val_main_v28 (F := Ideal)) a0 a1 a2)).trans (final_6 m c).symm
    exact ⟨w0, w1, w2, w3, e⟩

end Cert.DiscAFwdIdeal.Tie

end
-- ==== Proof.DiscBFwd.Value.lean ====
/- The input projection's discretisation, kernel against reference: the arithmetic is the same, in another layout. -/
module

public import proofs.«01_k».proof.Proof.Gen.DiscBFwdIdeal.Frame
public import proofs.«01_k».proof.Proof.Gen.DiscBFwdRefIdeal.Read
public import proofs.«01_k».proof.Proof.Gen.DiscBFwdRefIdeal.Run
public import proofs.«01_k».proof.Proof.Common.Congr
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.DiscBFwdRefIdeal.Tie

open Cert.DiscBFwdRefIdeal.Read
open Cert.DiscBFwdRefIdeal Idealize.ShloMosaic Idealize.ShloMosaic.TcCoe Idealize.SL.Sem

/-- The reference's results, read in the stages of its own text. -/
theorem run_read (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v14) = val_main_v14 (F := Ideal) (m (c.tc.loc main_arg0)) (m (c.tc.loc main_arg1)) (m (c.tc.loc main_arg2)) (m (c.tc.loc main_arg3))
      ∧ r.2.mem (c.tc.loc main_v15) = val_main_v15 (F := Ideal) (m (c.tc.loc main_arg0)) (m (c.tc.loc main_arg1)) (m (c.tc.loc main_arg2)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run _ _ _).mono (fun r h c => ⟨(h c).1.trans (val_main_v14_eq _ _ _ _), (h c).2.1.trans (val_main_v15_eq _ _ _ _), (h c).2.2⟩) (Value.run m ρ)

end Cert.DiscBFwdRefIdeal.Tie

namespace Cert.DiscBFwdIdeal.Tie

open Cert.DiscBFwdRefIdeal.Read
open Cert.DiscBFwdIdeal Cert.DiscBFwdIdeal.Gen Idealize.ShloMosaic Idealize.ShloMosaic.TcCoe Idealize.SL.Sem Cert.Common

theorem ld0 (x : Vec Ideal S32x1x64 .f32) : View.ld x r0_0 = x := by
  funext j; idx_vars j; fin_cases j1; pointwise

theorem canon0 (x : Vec Ideal S32x1x64 .f32) : View.canon [⟨r0_0, x⟩] = x := by
  funext j; idx_vars j; canon_tiles y h
  exact congrArg x (funext fun a => Fin.ext (by fin_cases a; exacts [h0.symm, h1.symm, h2.symm]))

theorem ld1 (x : Vec Ideal S32x16x64 .f32) : View.ld x r0_1 = x := by
  funext j; idx_vars j; pointwise

theorem canon1 (x : Vec Ideal S32x16x64 .f32) : View.canon [⟨r0_1, x⟩] = x := by
  funext j; idx_vars j; canon_tiles y h
  exact congrArg x (funext fun a => Fin.ext (by fin_cases a; exacts [h0.symm, h1.symm, h2.symm]))

section
variable (a0 a1 : FVec Ideal S32x64 .f32) (a2 a3 : FVec Ideal S1x32x64x16 .f32)

/-- The arguments as the host hands them to the kernel. -/
abbrev z : FVec Ideal S32x1x64 .f32 := shapeCast S32x1x64 a0 Cert.DiscBFwdIdeal.Gen.shapeCasts_S32x64_S32x1x64
abbrev q : FVec Ideal S32x16x64 .f32 :=
  transpose S32x16x64 [0, 2, 1] (shapeCast S32x64x16 a2 Cert.DiscBFwdIdeal.Gen.shapeCasts_S1x32x64x16_S32x64x16) Cert.DiscBFwdIdeal.Gen.transposes_S32x64x16_S32x16x64_0_2_1

theorem out4 : out0_4 (F := Ideal) (z a0) (z a1) (q a2) (q a3) = val_main_v14 (F := Ideal) a0 a1 a2 a3 := by
  rw [← val_main_v14_eq]
  unfold out0_4
  simp only [canon1, ld0, ld1]
  funext j
  idx_vars j
  pointwise! [ k0_pay1, k0_pay2, k0_pay3, k0_pay4, k0_pay5]

theorem out5 : out0_5 (F := Ideal) (z a0) (z a1) (q a2) (q a3) = val_main_v15 (F := Ideal) a0 a1 a2 a3 := by
  rw [← val_main_v15_eq]
  unfold out0_5
  simp only [canon1, ld0, ld1]
  funext j
  idx_vars j
  pointwise! [ k0_pay1, k0_pay2, k0_pay3, k0_pay4, k0_pay6]

end

theorem idx : ∀ t : Fin cfg0.N, win0_0.index t = ![0, 0, 0] ∧ win0_1.index t = ![0, 0, 0] ∧ win0_2.index t = ![0, 0, 0] ∧ win0_3.index t = ![0, 0, 0] ∧ win0_4.index t = ![0, 0, 0] ∧ win0_5.index t = ![0, 0, 0] :=
  (by decide +kernel : ∀ t : Fin grid0.N, _)

variable (m : (ℓ : Loc nD τ sig) → Buf (Elt Ideal) ℓ)

theorem Vv0 (c : Dev nD) : V m c main_v0 = (z (m (c.tc.loc main_arg0))) := by
  unfold_abbrev_sides
  after_results
  rfl

theorem Vv1 (c : Dev nD) : V m c main_v1 = (z (m (c.tc.loc main_arg1))) := by
  unfold_abbrev_sides
  after_results
  rfl

theorem Vv3 (c : Dev nD) : V m c main_v3 = (q (m (c.tc.loc main_arg2))) := by
  unfold_abbrev_sides
  after_results
  rfl

theorem Vv5 (c : Dev nD) : V m c main_v5 = (q (m (c.tc.loc main_arg3))) := by
  unfold_abbrev_sides
  after_results
  rfl

theorem b0 (c : Dev nD) (t : Fin cfg0.N) : iblk m c 0 t = z (m (c.tc.loc main_arg0)) := by
  obtain ⟨e, -⟩ := idx t
  rw [← Vv0 m c]
  funext j
  show V m c main_v0 _ = _
  blk_ext [e]

theorem b1 (c : Dev nD) (t : Fin cfg0.N) : iblk m c 1 t = z (m (c.tc.loc main_arg1)) := by
  obtain ⟨-, e, -⟩ := idx t
  rw [← Vv1 m c]
  funext j
  show V m c main_v1 _ = _
  blk_ext [e]

theorem b2 (c : Dev nD) (t : Fin cfg0.N) : iblk m c 2 t = q (m (c.tc.loc main_arg2)) := by
  obtain ⟨-, -, e, -⟩ := idx t
  rw [← Vv3 m c]
  funext j
  show V m c main_v3 _ = _
  blk_ext [e]

theorem b3 (c : Dev nD) (t : Fin cfg0.N) : iblk m c 3 t = q (m (c.tc.loc main_arg3)) := by
  obtain ⟨-, -, -, e, -⟩ := idx t
  rw [← Vv5 m c]
  funext j
  show V m c main_v5 _ = _
  blk_ext [e]

theorem final_4 (c : Dev nD) :
    (dats m 0 c).arrAt 4 (cfgs 0).N = val_main_v14 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨-, -, -, -, e, -⟩ := idx t
  blk_simp; rw [after0_4, b0, b1, b2, b3, out4]
  refine congrArg _ ?_
  funext a; apply Fin.ext; fin_cases a <;> simp [win0_4, e]

theorem final_5 (c : Dev nD) :
    (dats m 0 c).arrAt 5 (cfgs 0).N = val_main_v15 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨-, -, -, -, -, e⟩ := idx t
  blk_simp; rw [after0_5, b0, b1, b2, b3, out5]
  refine congrArg _ ?_
  funext a; apply Fin.ext; fin_cases a <;> simp [win0_5, e]

set_option maxHeartbeats 2000000 in
/-- The kernel's two arrays are the reference's, for every argument. -/
theorem algebraic : Cert.algebraic_DiscBFwdIdeal_DiscBFwdRefIdeal := by
  pair_intro
  · run_from Cert.DiscBFwdIdeal.Gen.run_main m g
  · refine (θ_run _ _ _).mono (fun r h c => ?_) (Cert.DiscBFwdRefIdeal.Tie.run_read m' g')
    obtain ⟨a0, a1, a2, a3⟩ := hagree c
    obtain ⟨e0, e1, e⟩ := h c
    have w0 := (e0.trans (congr4 (val_main_v14 (F := Ideal)) a0 a1 a2 a3)).trans (final_4 m c).symm
    have w1 := (e1.trans (congr4 (val_main_v15 (F := Ideal)) a0 a1 a2 a3)).trans (final_5 m c).symm
    exact ⟨w0, w1, e⟩

end Cert.DiscBFwdIdeal.Tie

end
-- ==== Proof.InProjFwd.Value.lean ====
/- The first normalisation and the input projection, kernel against reference: tile by tile, zero rows in front. -/
module

public import proofs.«01_k».proof.Proof.Gen.InProjFwdIdeal.Frame
public import proofs.«01_k».proof.Proof.Gen.InProjFwdRefIdeal.Read
public import proofs.«01_k».proof.Proof.Gen.InProjFwdRefIdeal.Run
public import proofs.«01_k».proof.Proof.Common.Congr
public import proofs.«01_k».proof.Proof.Common.Real
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.InProjFwdRefIdeal.Tie

open Cert.InProjFwdRefIdeal.Read
open Cert.InProjFwdRefIdeal Idealize.ShloMosaic Idealize.ShloMosaic.TcCoe Idealize.SL.Sem

/-- The reference's results, read in the stages of its own text. -/
theorem run_read (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v17) = val_main_v17 (F := Ideal) (m (c.tc.loc main_arg0)) (m (c.tc.loc main_arg1)) (m (c.tc.loc main_arg2))
      ∧ r.2.mem (c.tc.loc main_v19) = val_main_v19 (F := Ideal) (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run _ _ _).mono (fun r h c => ⟨(h c).1.trans (val_main_v17_eq _ _ _), (h c).2.1.trans (val_main_v19_eq _ _ _), (h c).2.2⟩) (Value.run m ρ)

end Cert.InProjFwdRefIdeal.Tie

namespace Cert.InProjFwdIdeal.Tie

open Cert.InProjFwdRefIdeal.Read
open Cert.InProjFwdIdeal Cert.InProjFwdIdeal.Gen Idealize.ShloMosaic Idealize.ShloMosaic.TcCoe Idealize.SL.Sem Cert.Common

/-- A row's normalised and projected value in column `j`. -/
def proj (h : Fin 1024 → EReal) (g w : Fin 1024 → EReal) : EReal :=
  ∑ x, h x * Ideal.rsqrt (Ideal.div (∑ k, h k * h k) (Ideal.ofBits .f32 1149239296#32) + Ideal.ofBits .f32 897988541#32) * g x * w x

theorem proj_zero (h : Fin 1024 → EReal) (g w : Fin 1024 → EReal) (hh : ∀ x, h x = 0) : proj h g w = 0 := by
  simp only [proj, hh, zero_mul, Finset.sum_const_zero]

theorem idx : ∀ t : Fin cfg0.N, win0_0.index t = ![0, 0]
    ∧ win0_1.index t = ![t.val - 1, 0] ∧ win0_2.index t = ![0, 0] ∧ win0_3.index t = ![0, 0] ∧ win0_4.index t = ![t.val, 0]
    ∧ win0_5.index t = ![t.val, 0] :=
  (by decide +kernel : ∀ t : Fin grid0.N, _)

/-- The head block: the first 16 rows behind 240 zero rows. -/
theorem padHead (a : FVec Ideal S4112x1024 .f32) (R : Fin 256) (k : Fin 1024) :
    pad S256x1024 ![240, 0] ![0, 0] ![0, 0] (extractStridedSlice S16x1024 ![0, 0] a slices_S4112x1024_S16x1024_0_0)
      (sitofp (F := Ideal) .f32 (constantI S_ 32 0#32)) pads_S16x1024_S256x1024_24000_000 h_S_ (ix2 R k) = padRow a R.val k := by
  pointwise
  simp only [padRow, sitofp_zero]
  have := R.isLt
  by_cases h : 240 ≤ R.val
  · rw [dif_pos (by omega), dif_pos (by omega)]
  · rw [dif_neg (by omega), dif_neg (by omega)]

variable (m : (ℓ : Loc nD τ sig) → Buf (Elt Ideal) ℓ)

theorem Vhead (c : Dev nD) (R : Fin 256) (k : Fin 1024) : V m c main_v1 (ix2 R k) = padRow (m (c.tc.loc main_arg0)) R.val k := by
  rw [← padHead]
  unfold_abbrev_sides
  simp only [List.flatten_cons, List.flatten_nil, List.append_nil, List.cons_append, List.nil_append]
  after_results
  rfl

theorem Vrows (c : Dev nD) (r : Fin 4096) (k : Fin 1024) : V m c main_v2 (ix2 r k) = m (c.tc.loc main_arg0) (ix2 ⟨16 + r.val, by omega⟩ k) := by
  unfold_abbrev_sides
  simp only [List.flatten_cons, List.flatten_nil, List.append_nil, List.cons_append, List.nil_append]
  after_results
  pointwise

/-- Row `r` of tile `t` is row `256 t + r` of the array. -/
abbrev row (t : Fin cfg0.N) (r : Fin 256) : Fin 4352 := ⟨t.val * 256 + r.val, by have := lt_of_lt_of_eq t.isLt N_0; omega⟩

theorem b0 (c : Dev nD) (t : Fin cfg0.N) (r : Fin 256) (k : Fin 1024) : iblk m c 0 t (ix2 r k) = padRow (m (c.tc.loc main_arg0)) r.val k := by
  obtain ⟨e, -⟩ := idx t
  rw [← Vhead]
  show V m c main_v1 _ = _
  blk_ext [e]

theorem b1 (c : Dev nD) (t : Fin cfg0.N) (h : t.val ≠ 0) (r : Fin 256) (k : Fin 1024) :
    iblk m c 1 t (ix2 r k) = padRow (m (c.tc.loc main_arg0)) (row t r).val k := by
  obtain ⟨-, e1, -⟩ := idx t
  have ht := lt_of_lt_of_eq t.isLt N_0
  have hr := r.isLt
  have e : iblk m c 1 t (ix2 r k) = V m c main_v2 (ix2 ⟨(t.val - 1) * 256 + r.val, by omega⟩ k) := by
    show V m c main_v2 _ = _
    blk_ext [e1]
  rw [e, Vrows, padRow, dif_pos (by dsimp only; omega)]
  congr 2
  exact Fin.ext (by show 16 + ((t.val - 1) * 256 + r.val) = t.val * 256 + r.val - 240; omega)

theorem first_word : ∀ t : Fin cfg0.N, Scalar.cmpi .eq (BitVec.ofNat 32 ((grid0.coords t) 0).val) 0#32 = BitVec.ofBool (decide (t.val = 0)) :=
  (by decide +kernel : ∀ t : Fin grid0.N, _)

/-- The row a point works on: of the head block at the first point, of the rows' block at the others. -/
theorem pick (c : Dev nD) (t : Fin cfg0.N) (r : Fin 256) (k : Fin 1024) :
    Scalar.select (Scalar.cmpi .eq (BitVec.ofNat 32 ((grid0.coords t) 0).val) 0#32) (iblk m c 0 t (ix2 r k)) (iblk m c 1 t (ix2 r k))
      = padRow (m (c.tc.loc main_arg0)) (row t r).val k := by
  rw [first_word t]
  by_cases h : t.val = 0
  · simp only [h, decide_true, Scalar.select]
    exact (b0 m c t r k).trans (congrArg (fun R => padRow _ R k) (by omega))
  · simp only [h, decide_false, Scalar.select]
    exact b1 m c t h r k

theorem b2 (c : Dev nD) (t : Fin cfg0.N) : iblk m c 2 t = (m (c.tc.loc main_arg1)) := by
  obtain ⟨-, -, e, -⟩ := idx t
  rw [← V_main_arg1 m c]
  funext j
  show V m c main_arg1 _ = _
  blk_ext [e]

theorem V4 (c : Dev nD) (r k : Fin 1024) : V m c main_v4 (ix2 r k) = m (c.tc.loc main_arg2) (ix3 0 r k) := by
  unfold_abbrev_sides
  simp only [List.flatten_cons, List.flatten_nil, List.append_nil, List.cons_append, List.nil_append]
  after_results
  pointwise

theorem b3 (c : Dev nD) (t : Fin cfg0.N) (r k : Fin 1024) : iblk m c 3 t (ix2 r k) = m (c.tc.loc main_arg2) (ix3 0 r k) := by
  obtain ⟨-, -, -, e, -⟩ := idx t
  rw [← V4 m c]
  show V m c main_v4 _ = _
  blk_ext [e]

theorem pay1 (c : Dev nD) (t : Fin cfg0.N) (r : Fin 256) (j : Fin 1024) :
    k0_pay1 (F := Ideal) (grid0.coords t) (iblk m c 0 t) (iblk m c 1 t) (iblk m c 2 t) (iblk m c 3 t) (ix2 r j)
      = proj (fun k => padRow (m (c.tc.loc main_arg0)) (row t r).val k) (fun x => m (c.tc.loc main_arg1) (ix2 0 x)) (fun x => m (c.tc.loc main_arg2) (ix3 0 x j)) := by
  simp only [← b2 m c t, ← b3 m c t, ← pick m c t, proj]
  pointwise [k0_pay1]

/-- The reference's row, at any row of the padded array. -/
theorem ref_at0 (a0 : FVec Ideal S4112x1024 .f32) (a1 : FVec Ideal S1x1024 .f32) (a2 : FVec Ideal S1x1024x1024 .f32) (R : Fin 4352) (j : Fin 512) :
    val_main_v17 (F := Ideal) a0 a1 a2 (ix2 R j)
      = proj (fun k => padRow a0 R.val k) (fun x => a1 (ix2 0 x)) (fun x => a2 (ix3 0 x ⟨j.val, by omega⟩)) := by
  rw [← val_main_v17_eq]
  by_cases h : 240 ≤ R.val ∧ R.val - 240 < 4112
  · simp only [proj, padRow_high a0 h]
    pointwise
    rw [dif_pos (by omega)]
  · rw [proj_zero _ _ _ fun k => padRow_low a0 h k]
    pointwise
    rw [dif_neg (by omega), sitofp_zero]

theorem ref_at1 (a0 : FVec Ideal S4112x1024 .f32) (a1 : FVec Ideal S1x1024 .f32) (a2 : FVec Ideal S1x1024x1024 .f32) (R : Fin 4352) (j : Fin 512) :
    val_main_v19 (F := Ideal) a0 a1 a2 (ix2 R j)
      = proj (fun k => padRow a0 R.val k) (fun x => a1 (ix2 0 x)) (fun x => a2 (ix3 0 x ⟨512 + j.val, by omega⟩)) := by
  rw [← val_main_v19_eq]
  by_cases h : 240 ≤ R.val ∧ R.val - 240 < 4112
  · simp only [proj, padRow_high a0 h]
    pointwise
    rw [dif_pos (by omega)]
  · rw [proj_zero _ _ _ fun k => padRow_low a0 h k]
    pointwise
    rw [dif_neg (by omega), sitofp_zero]

theorem final_4 (c : Dev nD) : (dats m 0 c).arrAt 4 (cfgs 0).N = val_main_v17 (F := Ideal) (m (c.tc.loc main_arg0)) (m (c.tc.loc main_arg1)) (m (c.tc.loc main_arg2)) := by
  refine (dats m 0 c).arrAt_eq_of_covers 4 _ (by decide +kernel) fun t hf y => ?_
  obtain ⟨-, -, -, -, e, -⟩ := idx t
  blk_simp; rw [after0_4]
  idx_vars y
  refine Eq.trans (b := k0_pay2 (F := Ideal) (grid0.coords t) (iblk m c 0 t) (iblk m c 1 t) (iblk m c 2 t) (iblk m c 3 t) (ix2 y0 y1)) ?_ ?_
  · unfold out0_4
    frame_out
  · refine Eq.trans ?_ ((ref_at0 _ _ _ (row t y0) y1).symm.trans (congrArg _ ?_))
    · rw [← pay1]
      pointwise! [k0_pay2]
    · funext a; apply Fin.ext; fin_cases a <;> simp [win0_4, e]

theorem final_5 (c : Dev nD) : (dats m 0 c).arrAt 5 (cfgs 0).N = val_main_v19 (F := Ideal) (m (c.tc.loc main_arg0)) (m (c.tc.loc main_arg1)) (m (c.tc.loc main_arg2)) := by
  refine (dats m 0 c).arrAt_eq_of_covers 5 _ (by decide +kernel) fun t hf y => ?_
  obtain ⟨-, -, -, -, -, e⟩ := idx t
  blk_simp; rw [after0_5]
  idx_vars y
  refine Eq.trans (b := k0_pay3 (F := Ideal) (grid0.coords t) (iblk m c 0 t) (iblk m c 1 t) (iblk m c 2 t) (iblk m c 3 t) (ix2 y0 y1)) ?_ ?_
  · unfold out0_5
    frame_out
  · refine Eq.trans ?_ ((ref_at1 _ _ _ (row t y0) y1).symm.trans (congrArg _ ?_))
    · rw [← pay1]
      pointwise! [k0_pay3]
    · funext a; apply Fin.ext; fin_cases a <;> simp [win0_5, e]

set_option maxHeartbeats 2000000 in
/-- The kernel's padded rows are the reference's, for every argument. -/
theorem algebraic : Cert.algebraic_InProjFwdIdeal_InProjFwdRefIdeal := by
  pair_intro
  · run_from Cert.InProjFwdIdeal.Gen.run_main m g
    · exact V_main_arg0 m c
    · exact V_main_arg2 m c
  · refine (θ_run _ _ _).mono (fun r h c => ?_) (Cert.InProjFwdRefIdeal.Tie.run_read m' g')
    obtain ⟨a0, a1, a2⟩ := hagree c
    obtain ⟨e0, e1, e⟩ := h c
    have w0 := (e0.trans (congr3 (val_main_v17 (F := Ideal)) a0 a1 a2)).trans (final_4 m c).symm
    have w1 := (e1.trans (congr3 (val_main_v19 (F := Ideal)) a0 a1 a2)).trans (final_5 m c).symm
    exact ⟨w0, w1, e⟩

end Cert.InProjFwdIdeal.Tie

end
-- ==== Proof.OutProjFwd.Value.lean ====
/- The output projection with its two normalisations, kernel against reference: the reference's one product over the two
   halves side by side is the kernel's sum of two. -/
module

public import proofs.«01_k».proof.Proof.Gen.OutProjFwdIdeal.Frame
public import proofs.«01_k».proof.Proof.Gen.OutProjFwdRefIdeal.Read
public import proofs.«01_k».proof.Proof.Gen.OutProjFwdRefIdeal.Run
public import proofs.«01_k».proof.Proof.Common.Congr
public import proofs.«01_k».proof.Proof.Common.Real
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.OutProjFwdRefIdeal.Tie

open Cert.OutProjFwdRefIdeal.Read
open Cert.OutProjFwdRefIdeal Idealize.ShloMosaic Idealize.ShloMosaic.TcCoe Idealize.SL.Sem

/-- The reference's results, read in the stages of its own text. -/
theorem run_read (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v32) = val_main_v32 (F := Ideal) (m (c.tc.loc main_arg0)) (m (c.tc.loc main_arg1)) (m (c.tc.loc main_arg2)) (m (c.tc.loc main_arg3)) (m (c.tc.loc main_arg4)) (m (c.tc.loc main_arg5))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) :=
  (θ_run _ _ _).mono (fun r h c => ⟨(h c).1.trans (val_main_v32_eq _ _ _ _ _ _), (h c).2⟩) (Value.run m ρ)

end Cert.OutProjFwdRefIdeal.Tie

namespace Cert.OutProjFwdIdeal.Tie

open Cert.OutProjFwdRefIdeal.Read
open Cert.OutProjFwdIdeal Cert.OutProjFwdIdeal.Gen Idealize.ShloMosaic Idealize.ShloMosaic.TcCoe Idealize.SL.Sem Cert.Common

/-- A row's normalised value in column `x`. -/
def norm (h g : Fin 512 → EReal) (x : Fin 512) : EReal :=
  h x * Ideal.rsqrt (Ideal.div (∑ k, h k * h k) (Ideal.ofBits .f32 1140850688#32) + Ideal.ofBits .f32 897988541#32) * g x

theorem norm_zero (h g : Fin 512 → EReal) (hh : ∀ x, h x = 0) (x : Fin 512) : norm h g x = 0 := by
  simp only [norm, hh, zero_mul]

theorem idx : ∀ t : Fin cfg0.N, win0_0.index t = ![0, 0]
    ∧ win0_1.index t = ![t.val - 1, 0] ∧ win0_2.index t = ![t.val, 0] ∧ win0_3.index t = ![t.val, 0] ∧ win0_4.index t = ![0, 0]
    ∧ win0_5.index t = ![0, 0] ∧ win0_6.index t = ![0, 0] ∧ win0_7.index t = ![t.val, 0] :=
  (by decide +kernel : ∀ t : Fin grid0.N, _)

theorem pad1 (a : FVec Ideal S4112x512 .f32) (R : Fin 4352) (k : Fin 512) :
    pad S4352x512 ![240, 0] ![0, 0] ![0, 0] a (sitofp (F := Ideal) .f32 (constantI S_ 32 0#32)) pads_S4112x512_S4352x512_24000_000 h_S_ (ix2 R k)
      = padRow a R.val k := by
  pointwise; simp only [padRow, sitofp_zero]

/-- The head block: the first 16 rows behind 240 zero rows. -/
theorem padHead (a : FVec Ideal S4112x1024 .f32) (R : Fin 256) (k : Fin 1024) :
    pad S256x1024 ![240, 0] ![0, 0] ![0, 0] (extractStridedSlice S16x1024 ![0, 0] a slices_S4112x1024_S16x1024_0_0)
      (sitofp (F := Ideal) .f32 (constantI S_ 32 0#32)) pads_S16x1024_S256x1024_24000_000 h_S_ (ix2 R k) = padRow a R.val k := by
  pointwise
  simp only [padRow, sitofp_zero]
  have := R.isLt
  by_cases h : 240 ≤ R.val
  · rw [dif_pos (by omega), dif_pos (by omega)]
  · rw [dif_neg (by omega), dif_neg (by omega)]

variable (m : (ℓ : Loc nD τ sig) → Buf (Elt Ideal) ℓ)

theorem Vhead (c : Dev nD) (R : Fin 256) (k : Fin 1024) : V m c main_v1 (ix2 R k) = padRow (m (c.tc.loc main_arg0)) R.val k := by
  rw [← padHead]
  unfold_abbrev_sides
  simp only [List.flatten_cons, List.flatten_nil, List.append_nil, List.cons_append, List.nil_append]
  after_results
  rfl

theorem Vrows (c : Dev nD) (r : Fin 4096) (k : Fin 1024) : V m c main_v2 (ix2 r k) = m (c.tc.loc main_arg0) (ix2 ⟨16 + r.val, by omega⟩ k) := by
  unfold_abbrev_sides
  simp only [List.flatten_cons, List.flatten_nil, List.append_nil, List.cons_append, List.nil_append]
  after_results
  pointwise

/-- Row `r` of tile `t` is row `256 t + r` of the array. -/
abbrev row (t : Fin cfg0.N) (r : Fin 256) : Fin 4352 := ⟨t.val * 256 + r.val, by have := lt_of_lt_of_eq t.isLt N_0; omega⟩

theorem b0 (c : Dev nD) (t : Fin cfg0.N) (r : Fin 256) (k : Fin 1024) : iblk m c 0 t (ix2 r k) = padRow (m (c.tc.loc main_arg0)) r.val k := by
  obtain ⟨e, -⟩ := idx t
  rw [← Vhead]
  show V m c main_v1 _ = _
  blk_ext [e]

theorem b1 (c : Dev nD) (t : Fin cfg0.N) (h : t.val ≠ 0) (r : Fin 256) (k : Fin 1024) :
    iblk m c 1 t (ix2 r k) = padRow (m (c.tc.loc main_arg0)) (row t r).val k := by
  obtain ⟨-, e1, -⟩ := idx t
  have ht := lt_of_lt_of_eq t.isLt N_0
  have hr := r.isLt
  have e : iblk m c 1 t (ix2 r k) = V m c main_v2 (ix2 ⟨(t.val - 1) * 256 + r.val, by omega⟩ k) := by
    show V m c main_v2 _ = _
    blk_ext [e1]
  rw [e, Vrows, padRow, dif_pos (by dsimp only; omega)]
  congr 2
  exact Fin.ext (by show 16 + ((t.val - 1) * 256 + r.val) = t.val * 256 + r.val - 240; omega)

theorem first_word : ∀ t : Fin cfg0.N, Scalar.cmpi .eq (BitVec.ofNat 32 ((grid0.coords t) 0).val) 0#32 = BitVec.ofBool (decide (t.val = 0)) :=
  (by decide +kernel : ∀ t : Fin grid0.N, _)

/-- The row a point works on: of the head block at the first point, of the rows' block at the others. -/
theorem pick (c : Dev nD) (t : Fin cfg0.N) (r : Fin 256) (k : Fin 1024) :
    Scalar.select (Scalar.cmpi .eq (BitVec.ofNat 32 ((grid0.coords t) 0).val) 0#32) (iblk m c 0 t (ix2 r k)) (iblk m c 1 t (ix2 r k))
      = padRow (m (c.tc.loc main_arg0)) (row t r).val k := by
  rw [first_word t]
  by_cases h : t.val = 0
  · simp only [h, decide_true, Scalar.select]
    exact (b0 m c t r k).trans (congrArg (fun R => padRow _ R k) (by omega))
  · simp only [h, decide_false, Scalar.select]
    exact b1 m c t h r k

theorem V3 (c : Dev nD) (R : Fin 4352) (k : Fin 512) : V m c main_v3 (ix2 R k) = padRow (m (c.tc.loc main_arg1)) R.val k := by
  rw [← pad1]
  unfold_abbrev_sides
  simp only [List.flatten_cons, List.flatten_nil, List.append_nil, List.cons_append, List.nil_append]
  after_results
  rfl

theorem b2 (c : Dev nD) (t : Fin cfg0.N) (r : Fin 256) (k : Fin 512) : iblk m c 2 t (ix2 r k) = padRow (m (c.tc.loc main_arg1)) (row t r).val k := by
  obtain ⟨-, -, e, -⟩ := idx t
  rw [← V3]
  show V m c main_v3 _ = _
  blk_ext [e]

theorem V4 (c : Dev nD) (R : Fin 4352) (k : Fin 512) : V m c main_v4 (ix2 R k) = padRow (m (c.tc.loc main_arg2)) R.val k := by
  rw [← pad1]
  unfold_abbrev_sides
  simp only [List.flatten_cons, List.flatten_nil, List.append_nil, List.cons_append, List.nil_append]
  after_results
  rfl

theorem b3 (c : Dev nD) (t : Fin cfg0.N) (r : Fin 256) (k : Fin 512) : iblk m c 3 t (ix2 r k) = padRow (m (c.tc.loc main_arg2)) (row t r).val k := by
  obtain ⟨-, -, -, e, -⟩ := idx t
  rw [← V4]
  show V m c main_v4 _ = _
  blk_ext [e]

theorem b4 (c : Dev nD) (t : Fin cfg0.N) : iblk m c 4 t = (m (c.tc.loc main_arg3)) := by
  obtain ⟨-, -, -, -, e, -⟩ := idx t
  rw [← V_main_arg3 m c]
  funext j
  show V m c main_arg3 _ = _
  blk_ext [e]

theorem b5 (c : Dev nD) (t : Fin cfg0.N) : iblk m c 5 t = (m (c.tc.loc main_arg4)) := by
  obtain ⟨-, -, -, -, -, e, -⟩ := idx t
  rw [← V_main_arg4 m c]
  funext j
  show V m c main_arg4 _ = _
  blk_ext [e]

theorem V6 (c : Dev nD) (r k : Fin 1024) : V m c main_v6 (ix2 r k) = m (c.tc.loc main_arg5) (ix3 0 r k) := by
  unfold_abbrev_sides
  simp only [List.flatten_cons, List.flatten_nil, List.append_nil, List.cons_append, List.nil_append]
  after_results
  pointwise

theorem b6 (c : Dev nD) (t : Fin cfg0.N) (r k : Fin 1024) : iblk m c 6 t (ix2 r k) = m (c.tc.loc main_arg5) (ix3 0 r k) := by
  obtain ⟨-, -, -, -, -, -, e, -⟩ := idx t
  rw [← V6 m c]
  show V m c main_v6 _ = _
  blk_ext [e]

/-- The upper and the lower half of the weights, as the body loads them. -/
theorem wu (c : Dev nD) (t : Fin cfg0.N) (x : Fin 512) (j : Fin 1024) : View.ld (iblk m c 6 t) r0_3 (ix2 x j) = m (c.tc.loc main_arg5) (ix3 0 ⟨x.val, by omega⟩ j) :=
  (View.ld_unit_apply_of _ _ _ _ _ (ix2 ⟨x.val, by omega⟩ j) (fun a => by fin_cases a <;> simp)).trans (b6 m c t _ _)

theorem wd (c : Dev nD) (t : Fin cfg0.N) (x : Fin 512) (j : Fin 1024) : View.ld (iblk m c 6 t) r0_4 (ix2 x j) = m (c.tc.loc main_arg5) (ix3 0 ⟨512 + x.val, by omega⟩ j) :=
  (View.ld_unit_apply_of _ _ _ _ _ (ix2 ⟨512 + x.val, by omega⟩ j) (fun a => by fin_cases a <;> simp)).trans (b6 m c t _ _)

/-- What a row of the padded array holds: the row of the first argument, plus the two halves' products. -/
def rowOut (h : Fin 1024 → EReal) (n n' : Fin 512 → EReal) (w : Fin 1024 → EReal) (j : Fin 1024) : EReal :=
  h j + ∑ x, n x * w ⟨x.val, by omega⟩ + ∑ x, n' x * w ⟨512 + x.val, by omega⟩

theorem pay1 (v5 v22 v35 v36 v41) (r : Fin 256) (j : Fin 1024) : k0_pay1 (F := Ideal) v5 v22 v35 (k0_pay5 v36) v41 (ix2 r j)
    = v5 (ix2 r j) + ∑ x, v22 (ix2 r x) * v36 (ix2 x j) + ∑ x, v35 (ix2 r x) * v41 (ix2 x j) := by
  pointwise [k0_pay1, k0_pay5]

theorem pay2 (c : Dev nD) (t : Fin cfg0.N) (r : Fin 256) (j : Fin 1024) :
    k0_pay2 (F := Ideal) (grid0.coords t) (iblk m c 0 t) (iblk m c 1 t) (ix2 r j) = padRow (m (c.tc.loc main_arg0)) (row t r).val j := by
  rw [← pick m c t]
  pointwise [k0_pay2]

theorem pay3 (v g) (r : Fin 256) (x : Fin 512) : k0_pay3 (F := Ideal) v g (ix2 r x) = norm (fun k => v (ix2 r k)) (fun k => g (ix2 0 k)) x := by
  unfold norm
  pointwise [k0_pay3]

theorem pay4 (v g) (r : Fin 256) (x : Fin 512) : k0_pay4 (F := Ideal) v g (ix2 r x) = norm (fun k => v (ix2 r k)) (fun k => g (ix2 0 k)) x := by
  unfold norm
  pointwise [k0_pay4]

/-- The reference's row, at any row of the padded array. -/
theorem ref_at (a0 : FVec Ideal S4112x1024 .f32) (a1 a2 : FVec Ideal S4112x512 .f32) (a3 a4 : FVec Ideal S1x512 .f32)
    (a5 : FVec Ideal S1x1024x1024 .f32) (R : Fin 4352) (j : Fin 1024) :
    val_main_v32 (F := Ideal) a0 a1 a2 a3 a4 a5 (ix2 R j)
      = rowOut (fun k => padRow a0 R.val k) (norm (fun k => padRow a1 R.val k) (fun x => a3 (ix2 0 x)))
          (norm (fun k => padRow a2 R.val k) (fun x => a4 (ix2 0 x))) (fun x => a5 (ix3 0 x j)) j := by
  rw [← val_main_v32_eq]
  by_cases h : 240 ≤ R.val ∧ R.val - 240 < 4112
  · simp only [rowOut, norm, padRow_high _ h]
    pointwise
    rw [dif_pos (by omega)]
    exact (add_assoc _ _ _).symm
  · simp only [rowOut, norm_zero _ _ fun k => padRow_low a1 h k, norm_zero _ _ fun k => padRow_low a2 h k, padRow_low a0 h,
      zero_mul, Finset.sum_const_zero, add_zero]
    pointwise
    rw [dif_neg (by omega), sitofp_zero]

theorem final_7 (c : Dev nD) : (dats m 0 c).arrAt 7 (cfgs 0).N = val_main_v32 (F := Ideal) (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 7 _ (by decide +kernel) fun t hf y => ?_
  obtain ⟨-, -, -, -, -, -, -, e⟩ := idx t
  blk_simp; rw [after0_7]
  idx_vars y
  refine Eq.trans (b := k0_pay1 (F := Ideal) (k0_pay2 (grid0.coords t) (iblk m c 0 t) (iblk m c 1 t)) (k0_pay3 (iblk m c 2 t) (iblk m c 4 t))
    (k0_pay4 (iblk m c 3 t) (iblk m c 5 t)) (k0_pay5 (View.ld (iblk m c 6 t) r0_3)) (View.ld (iblk m c 6 t) r0_4) (ix2 y0 y1)) ?_ ?_
  · unfold out0_7
    frame_out
    rfl
  · refine Eq.trans ?_ ((ref_at _ _ _ _ _ _ (row t y0) y1).symm.trans (congrArg _ ?_))
    · rw [pay1, pay2]
      simp only [pay3, pay4, b2 m c t, b3 m c t, b4 m c t, b5 m c t, rowOut]
      exact congrArg₂ _ (congrArg _ (Finset.sum_congr rfl fun x _ => congrArg _ (wu m c t x y1))) (Finset.sum_congr rfl fun x _ => congrArg _ (wd m c t x y1))
    · funext a; apply Fin.ext; fin_cases a <;> simp [win0_7, e]

set_option maxHeartbeats 2000000 in
/-- The kernel's padded rows are the reference's, for every argument. -/
theorem algebraic : Cert.algebraic_OutProjFwdIdeal_OutProjFwdRefIdeal := by
  pair_intro
  · run_from Cert.OutProjFwdIdeal.Gen.run_main m g
    · exact V_main_arg0 m c
    · exact V_main_arg1 m c
    · exact V_main_arg2 m c
    · exact V_main_arg5 m c
  · refine (θ_run _ _ _).mono (fun r h c => ?_) (Cert.OutProjFwdRefIdeal.Tie.run_read m' g')
    obtain ⟨a0, a1, a2, a3, a4, a5⟩ := hagree c
    obtain ⟨e0, e⟩ := h c
    have w0 := (e0.trans (congr6 (val_main_v32 (F := Ideal)) a0 a1 a2 a3 a4 a5)).trans (final_7 m c).symm
    exact ⟨w0, e⟩

end Cert.OutProjFwdIdeal.Tie

end
-- ==== Proof.FfnFwd.Value.lean ====
/- The second normalisation and the gated feed-forward layer, kernel against reference: tile by tile, the hidden columns in two
   halves, zero rows in front. -/
module

public import proofs.«01_k».proof.Proof.Gen.FfnFwdIdeal.Frame
public import proofs.«01_k».proof.Proof.Gen.FfnFwdRefIdeal.Read
public import proofs.«01_k».proof.Proof.Gen.FfnFwdRefIdeal.Run
public import proofs.«01_k».proof.Proof.Common.Congr
public import proofs.«01_k».proof.Proof.Common.Gate
public import proofs.«01_k».proof.Proof.Common.Store
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.FfnFwdRefIdeal.Tie

open Cert.FfnFwdRefIdeal.Read
open Cert.FfnFwdRefIdeal Idealize.ShloMosaic Idealize.ShloMosaic.TcCoe Idealize.SL.Sem

/-- The reference's results, read in the stages of its own text. -/
theorem run_read (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v25) = val_main_v25 (F := Ideal) (m (c.tc.loc main_arg0)) (m (c.tc.loc main_arg1)) (m (c.tc.loc main_arg2)) (m (c.tc.loc main_arg3))
      ∧ r.2.mem (c.tc.loc main_v27) = val_main_v27 (F := Ideal) (m (c.tc.loc main_arg0)) (m (c.tc.loc main_arg1))
      ∧ r.2.mem (c.tc.loc main_v28) = val_main_v28 (F := Ideal) (m (c.tc.loc main_arg0)) (m (c.tc.loc main_arg1)) (m (c.tc.loc main_arg2)) (m (c.tc.loc main_arg3)) (m (c.tc.loc main_arg4))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run _ _ _).mono (fun r h c => ⟨(h c).1.trans (val_main_v25_eq _ _ _ _), (h c).2.1.trans (val_main_v27_eq _ _), (h c).2.2.1.trans (val_main_v28_eq _ _ _ _ _), (h c).2.2.2⟩) (Value.run m ρ)

end Cert.FfnFwdRefIdeal.Tie

namespace Cert.FfnFwdIdeal.Tie

open Cert.FfnFwdRefIdeal.Read
open Cert.FfnFwdIdeal Cert.FfnFwdIdeal.Gen Idealize.ShloMosaic Idealize.ShloMosaic.TcCoe Idealize.SL.Sem Cert.Common

/-- A row's normalised value in column `x`, -/
def norm (h g : Fin 1024 → EReal) (x : Fin 1024) : EReal :=
  h x * Ideal.rsqrt (Ideal.div (∑ k, h k * h k) (Ideal.ofBits .f32 1149239296#32) + Ideal.ofBits .f32 897988541#32) * g x

/-- its product with a column of a weight, -/
def col (n w : Fin 1024 → EReal) : EReal := ∑ x, n x * w x

/-- the gated value of one hidden column, -/
def gated (a b : EReal) : EReal := a * Ideal.div (Ideal.ofBits .f32 1065353216#32) (Ideal.ofBits .f32 1065353216#32 + Ideal.exp (0 - a)) * b

/-- and the row the layer leaves. -/
def rowOut (h : EReal) (a b w : Fin 2816 → EReal) : EReal :=
  h + ∑ k : Fin 1408, gated (a ⟨k.val, by omega⟩) (b ⟨k.val, by omega⟩) * w ⟨k.val, by omega⟩
    + ∑ k : Fin 1408, gated (a ⟨1408 + k.val, by omega⟩) (b ⟨1408 + k.val, by omega⟩) * w ⟨1408 + k.val, by omega⟩

theorem norm_zero (h g : Fin 1024 → EReal) (hh : ∀ x, h x = 0) (x : Fin 1024) : norm h g x = 0 := by
  simp only [norm, hh, zero_mul]

theorem col_zero (n w : Fin 1024 → EReal) (hn : ∀ x, n x = 0) : col n w = 0 := by
  simp only [col, hn, zero_mul, Finset.sum_const_zero]

theorem gated_zero (b : EReal) : gated 0 b = 0 := by
  simp only [gated, zero_mul]

theorem sum_halves (f : Fin 2816 → EReal) : ∑ x, f x = ∑ x : Fin 1408, f ⟨x.val, by omega⟩ + ∑ x : Fin 1408, f ⟨1408 + x.val, by omega⟩ :=
  Fin.sum_univ_add (a := 1408) (b := 1408) f

theorem rowOut_eq (h : EReal) (a b w : Fin 2816 → EReal) : rowOut h a b w = h + ∑ k, gated (a k) (b k) * w k := by
  rw [rowOut, add_assoc]
  exact congrArg _ (sum_halves fun k => gated (a k) (b k) * w k).symm

theorem idx : ∀ t : Fin cfg0.N, win0_0.index t = ![t.val, 0]
    ∧ win0_1.index t = ![0, 0] ∧ win0_2.index t = ![t.val, 0] ∧ win0_3.index t = ![t.val, 0] ∧ win0_4.index t = ![t.val, 0] :=
  (by decide +kernel : ∀ t : Fin grid0.N, _)

theorem pad1 (a : FVec Ideal S4112x1024 .f32) (R : Fin 4352) (k : Fin 1024) :
    pad S4352x1024 ![240, 0] ![0, 0] ![0, 0] a (sitofp (F := Ideal) .f32 (constantI S_ 32 0#32)) pads_S4112x1024_S4352x1024_24000_000 h_S_ (ix2 R k)
      = padRow a R.val k := by
  pointwise; simp only [padRow, sitofp_zero]

variable (m : (ℓ : Loc nD τ sig) → Buf (Elt Ideal) ℓ)

theorem V0 (c : Dev nD) (R : Fin 4352) (k : Fin 1024) : V m c main_v0 (ix2 R k) = padRow (m (c.tc.loc main_arg0)) R.val k := by
  rw [← pad1]
  unfold_abbrev_sides
  simp only [List.flatten_cons, List.flatten_nil, List.append_nil, List.cons_append, List.nil_append]
  after_results
  rfl

theorem V3 (c : Dev nD) (k : Fin 2816) (i : Fin 1024) : V m c main_v3 (ix2 k i) = m (c.tc.loc main_arg2) (ix3 0 i k) := by
  unfold_abbrev_sides
  simp only [List.flatten_cons, List.flatten_nil, List.append_nil, List.cons_append, List.nil_append]
  after_results
  pointwise

theorem V6 (c : Dev nD) (k : Fin 2816) (i : Fin 1024) : V m c main_v6 (ix2 k i) = m (c.tc.loc main_arg3) (ix3 0 i k) := by
  unfold_abbrev_sides
  simp only [List.flatten_cons, List.flatten_nil, List.append_nil, List.cons_append, List.nil_append]
  after_results
  pointwise

theorem V8 (c : Dev nD) (k : Fin 2816) (i : Fin 1024) : V m c main_v8 (ix2 k i) = m (c.tc.loc main_arg4) (ix3 0 k i) := by
  unfold_abbrev_sides
  simp only [List.flatten_cons, List.flatten_nil, List.append_nil, List.cons_append, List.nil_append]
  after_results
  pointwise

/-- Row `r` of tile `t` is row `256 t + r` of the array. -/
abbrev row (t : Fin cfg0.N) (r : Fin 256) : Fin 4352 := ⟨t.val * 256 + r.val, by have := lt_of_lt_of_eq t.isLt N_0; omega⟩

theorem b0 (c : Dev nD) (t : Fin cfg0.N) (r : Fin 256) (k : Fin 1024) : iblk m c 0 t (ix2 r k) = padRow (m (c.tc.loc main_arg0)) (row t r).val k := by
  obtain ⟨e, -⟩ := idx t
  rw [← V0]
  show V m c main_v0 _ = _
  blk_ext [e]

theorem b1 (c : Dev nD) (t : Fin cfg0.N) : iblk m c 1 t = (m (c.tc.loc main_arg1)) := by
  obtain ⟨-, e, -⟩ := idx t
  rw [← V_main_arg1 m c]
  funext j
  show V m c main_arg1 _ = _
  blk_ext [e]

/-! ## The weights' scratch buffers: at every point they hold the three weights -/

theorem weights (c : Dev nD) : ∀ (n : ℕ) (hn : n < cfg0.N), (outsAt0 m c n hn).2.2.2 = (V m c main_v3, V m c main_v6, V m c main_v8)
  | 0, hn => by
    rw [outsAt0_A m c ⟨0, hn⟩ (Nat.zero_mod _)]
    refine Prod.ext ?_ (Prod.ext ?_ ?_)
    · dsimp only; frame_out; exact canon_copy _ _
    · dsimp only; frame_out; exact canon_copy _ _
    · dsimp only; frame_out; exact canon_copy _ _
  | n + 1, hn => by
    have h : ¬ (⟨n + 1, hn⟩ : Fin cfg0.N).val % 17 = 0 := by have := lt_of_lt_of_eq hn N_0; dsimp only; omega
    rw [outsAt0_B m c ⟨n + 1, hn⟩ h]
    dsimp only [sout0_B_0, sout0_B_1, sout0_B_2]
    exact weights c n _

/-! ## What the body leaves -/

theorem wt_at (w : Vec Ideal S2816x1024 .bf16) (k : Fin 1408) (j : Fin 1024) :
    View.ld w (Rect.unit ![0, 0] ![1408, 1024] inb_S2816x1024_S1408x1024_0_0) (ix2 k j) = w (ix2 ⟨k.val, by omega⟩ j) :=
  View.ld_unit_apply_of _ _ _ _ _ _ (fun a => by fin_cases a <;> simp)

theorem wb_at (w : Vec Ideal S2816x1024 .bf16) (k : Fin 1408) (j : Fin 1024) :
    View.ld w (Rect.unit ![1408, 0] ![1408, 1024] inb_S2816x1024_S1408x1024_1408_0) (ix2 k j) = w (ix2 ⟨1408 + k.val, by omega⟩ j) :=
  View.ld_unit_apply_of _ _ _ _ _ _ (fun a => by fin_cases a <;> simp)

section
variable (x0 : Vec Ideal S256x1024 .f32) (x1 : Vec Ideal S1x1024 .f32) (w w' v v' u u' : Vec Ideal S1408x1024 .bf16)

theorem pay7 (r : Fin 256) (x : Fin 1024) : k0_pay7 (F := Ideal) x0 x1 (ix2 r x) = norm (fun k => x0 (ix2 r k)) (fun k => x1 (ix2 0 k)) x := by
  unfold norm
  pointwise [k0_pay7, k0_pay6]

theorem pay1 (n) (r : Fin 256) (k : Fin 1408) : k0_pay1 (F := Ideal) n w (ix2 r k) = col (fun x => n (ix2 r x)) (fun x => w (ix2 k x)) := by
  unfold col
  pointwise [k0_pay1]

theorem pay8 (r : Fin 256) (k : Fin 1408) :
    k0_pay8 (F := Ideal) x0 x1 w (ix2 r k) = col (fun x => k0_pay7 (F := Ideal) x0 x1 (ix2 r x)) (fun x => w (ix2 k x)) := pay1 w _ r k

theorem pay5 (r : Fin 256) (j : Fin 1024) :
    k0_pay5 (F := Ideal) (k0_pay6 x0) (k0_pay7 x0 x1) (k0_pay8 x0 x1 w) (k0_pay9 x0 x1 v) (k0_pay12 x0 x1 w) k0_pay13 u w' v' u' (ix2 r j)
      = x0 (ix2 r j)
        + ∑ k, gated (k0_pay8 (F := Ideal) x0 x1 w (ix2 r k)) (k0_pay8 (F := Ideal) x0 x1 v (ix2 r k)) * u (ix2 k j)
        + ∑ k, gated (k0_pay8 (F := Ideal) x0 x1 w' (ix2 r k)) (k0_pay8 (F := Ideal) x0 x1 v' (ix2 r k)) * u' (ix2 k j) := by
  have e9 : k0_pay9 (F := Ideal) x0 x1 v = k0_pay8 x0 x1 v := rfl
  have e1 : k0_pay1 (F := Ideal) (k0_pay7 x0 x1) w' = k0_pay8 x0 x1 w' := rfl
  have e2 : k0_pay2 (F := Ideal) (k0_pay7 x0 x1) v' = k0_pay8 x0 x1 v' := rfl
  unfold k0_pay5 gated
  simp only [e1, e2, e9]
  generalize hw : k0_pay8 (F := Ideal) x0 x1 w = A
  generalize k0_pay8 (F := Ideal) x0 x1 v = B
  generalize k0_pay8 (F := Ideal) x0 x1 w' = C
  generalize k0_pay8 (F := Ideal) x0 x1 v' = D
  pointwise [k0_pay6, k0_pay12, k0_pay13]
  rw [hw]

end

/-- The normalised row `R`, its two projections, and the two side by side. -/
def nrm (c : Dev nD) (R : ℕ) (x : Fin 1024) : EReal := norm (fun k => padRow (m (c.tc.loc main_arg0)) R k) (fun k => (m (c.tc.loc main_arg1)) (ix2 0 k)) x
def prA (c : Dev nD) (R : ℕ) (k : Fin 2816) : EReal := col (nrm m c R) (fun x => (m (c.tc.loc main_arg2)) (ix3 0 x k))
def prB (c : Dev nD) (R : ℕ) (k : Fin 2816) : EReal := col (nrm m c R) (fun x => (m (c.tc.loc main_arg3)) (ix3 0 x k))
def wide (c : Dev nD) (R : ℕ) (K : Fin 5632) : EReal := if h : K.val < 2816 then prA m c R ⟨K.val, h⟩ else prB m c R ⟨K.val - 2816, by omega⟩

theorem wide_lo (c : Dev nD) (R : ℕ) (K : Fin 5632) (k : Fin 2816) (h : K.val = k.val) : wide m c R K = prA m c R k := by
  rw [wide, dif_pos (by omega)]
  exact congrArg _ (Fin.ext h)

theorem wide_hi (c : Dev nD) (R : ℕ) (K : Fin 5632) (k : Fin 2816) (h : K.val = 2816 + k.val) : wide m c R K = prB m c R k := by
  rw [wide, dif_neg (by omega)]
  exact congrArg _ (Fin.ext (by show K.val - 2816 = k.val; omega))

theorem n_at (c : Dev nD) (t : Fin cfg0.N) (r : Fin 256) (x : Fin 1024) :
    k0_pay7 (F := Ideal) (iblk m c 0 t) (iblk m c 1 t) (ix2 r x) = nrm m c (row t r).val x := by
  simp only [pay7, b0 m c t, b1 m c t, nrm]

theorem a0_at (c : Dev nD) (t : Fin cfg0.N) (r : Fin 256) (k : Fin 1408) :
    k0_pay8 (F := Ideal) (iblk m c 0 t) (iblk m c 1 t) (View.ld (V m c main_v3) (Rect.unit ![0, 0] ![1408, 1024] inb_S2816x1024_S1408x1024_0_0)) (ix2 r k)
      = prA m c (row t r).val ⟨k.val, by omega⟩ := by
  simp only [pay8, n_at, prA]
  exact congrArg (col _) (funext fun x => (wt_at (V m c main_v3) k x).trans (V3 m c _ _))

theorem a1_at (c : Dev nD) (t : Fin cfg0.N) (r : Fin 256) (k : Fin 1408) :
    k0_pay8 (F := Ideal) (iblk m c 0 t) (iblk m c 1 t) (View.ld (V m c main_v3) (Rect.unit ![1408, 0] ![1408, 1024] inb_S2816x1024_S1408x1024_1408_0)) (ix2 r k)
      = prA m c (row t r).val ⟨1408 + k.val, by omega⟩ := by
  simp only [pay8, n_at, prA]
  exact congrArg (col _) (funext fun x => (wb_at (V m c main_v3) k x).trans (V3 m c _ _))

theorem b0_at (c : Dev nD) (t : Fin cfg0.N) (r : Fin 256) (k : Fin 1408) :
    k0_pay8 (F := Ideal) (iblk m c 0 t) (iblk m c 1 t) (View.ld (V m c main_v6) (Rect.unit ![0, 0] ![1408, 1024] inb_S2816x1024_S1408x1024_0_0)) (ix2 r k)
      = prB m c (row t r).val ⟨k.val, by omega⟩ := by
  simp only [pay8, n_at, prB]
  exact congrArg (col _) (funext fun x => (wt_at (V m c main_v6) k x).trans (V6 m c _ _))

theorem b1_at (c : Dev nD) (t : Fin cfg0.N) (r : Fin 256) (k : Fin 1408) :
    k0_pay8 (F := Ideal) (iblk m c 0 t) (iblk m c 1 t) (View.ld (V m c main_v6) (Rect.unit ![1408, 0] ![1408, 1024] inb_S2816x1024_S1408x1024_1408_0)) (ix2 r k)
      = prB m c (row t r).val ⟨1408 + k.val, by omega⟩ := by
  simp only [pay8, n_at, prB]
  exact congrArg (col _) (funext fun x => (wb_at (V m c main_v6) k x).trans (V6 m c _ _))

/-- One quarter of the two projections' block. -/
theorem quarter {A : FVec Ideal S256x1408 .f32} {P : EReal} (c : Dev nD) (t : Fin cfg0.N) (y : S256x5632.Idx) (x : S256x1408.Idx)
    (h0 : (y 0).val = (x 0).val) (hA : A x = P) (hw : wide m c (row t (x 0)).val (y 1) = P) : A x = wide m c (row t (y 0)).val (y 1) := by
  rw [hA, ← hw]
  exact congrArg (fun R => wide m c R (y 1)) (by show t.val * 256 + (x 0).val = t.val * 256 + (y 0).val; omega)

theorem out2 (c : Dev nD) (t : Fin cfg0.N) (y : S256x5632.Idx) : (outsAt0 m c t.val t.isLt).1 y = wide m c (row t (y 0)).val (y 1) := by
  by_cases h0 : t.val % 17 = 0
  · rw [outsAt0_A m c t h0]; frame_out
    simp only [readCov_copy]
    canon_tiles x h
    · idx_vars x
      exact quarter m c t y _ h0 (b1_at m c t x0 x1) (wide_hi m c _ _ ⟨1408 + x1.val, by omega⟩ (by dsimp only; omega))
    · idx_vars x
      exact quarter m c t y _ h0 (a1_at m c t x0 x1) (wide_lo m c _ _ ⟨1408 + x1.val, by omega⟩ (by dsimp only; omega))
    · idx_vars x
      exact quarter m c t y _ h0 (b0_at m c t x0 x1) (wide_hi m c _ _ ⟨x1.val, by omega⟩ (by dsimp only; omega))
    · idx_vars x
      exact quarter m c t y _ h0 (a0_at m c t x0 x1) (wide_lo m c _ _ ⟨x1.val, by omega⟩ (by dsimp only; omega))
  · rw [outsAt0_B m c t h0]; frame_out
    simp only [weights, read_unread_whole]
    canon_tiles x h
    · idx_vars x
      exact quarter m c t y _ h0 (b1_at m c t x0 x1) (wide_hi m c _ _ ⟨1408 + x1.val, by omega⟩ (by dsimp only; omega))
    · idx_vars x
      exact quarter m c t y _ h0 (a1_at m c t x0 x1) (wide_lo m c _ _ ⟨1408 + x1.val, by omega⟩ (by dsimp only; omega))
    · idx_vars x
      exact quarter m c t y _ h0 (b0_at m c t x0 x1) (wide_hi m c _ _ ⟨x1.val, by omega⟩ (by dsimp only; omega))
    · idx_vars x
      exact quarter m c t y _ h0 (a0_at m c t x0 x1) (wide_lo m c _ _ ⟨x1.val, by omega⟩ (by dsimp only; omega))

theorem out3 (c : Dev nD) (t : Fin cfg0.N) : (outsAt0 m c t.val t.isLt).2.1 = k0_pay7 (iblk m c 0 t) (iblk m c 1 t) := by
  by_cases h0 : t.val % 17 = 0
  · rw [outsAt0_A m c t h0]; frame_out
  · rw [outsAt0_B m c t h0]; frame_out

theorem out4 (c : Dev nD) (t : Fin cfg0.N) (r : Fin 256) (j : Fin 1024) : (outsAt0 m c t.val t.isLt).2.2.1 (ix2 r j)
    = rowOut (padRow (m (c.tc.loc main_arg0)) (row t r).val j) (prA m c (row t r).val) (prB m c (row t r).val) (fun k => (m (c.tc.loc main_arg4)) (ix3 0 k j)) := by
  have e := pay5 (iblk m c 0 t) (iblk m c 1 t) (View.ld (V m c main_v3) (Rect.unit ![0, 0] ![1408, 1024] inb_S2816x1024_S1408x1024_0_0))
    (View.ld (V m c main_v3) (Rect.unit ![1408, 0] ![1408, 1024] inb_S2816x1024_S1408x1024_1408_0))
    (View.ld (V m c main_v6) (Rect.unit ![0, 0] ![1408, 1024] inb_S2816x1024_S1408x1024_0_0))
    (View.ld (V m c main_v6) (Rect.unit ![1408, 0] ![1408, 1024] inb_S2816x1024_S1408x1024_1408_0))
    (View.ld (V m c main_v8) (Rect.unit ![0, 0] ![1408, 1024] inb_S2816x1024_S1408x1024_0_0))
    (View.ld (V m c main_v8) (Rect.unit ![1408, 0] ![1408, 1024] inb_S2816x1024_S1408x1024_1408_0)) r j
  refine Eq.trans ?_ (e.trans (congrArg₂ (· + ·) (congrArg₂ (· + ·) (b0 m c t r j) (Finset.sum_congr rfl fun k _ => ?_)) (Finset.sum_congr rfl fun k _ => ?_)))
  rotate_left
  · exact congrArg₂ (· * ·) (congrArg₂ gated (a0_at m c t r k) (b0_at m c t r k)) ((wt_at (V m c main_v8) k j).trans (V8 m c _ _))
  · exact congrArg₂ (· * ·) (congrArg₂ gated (a1_at m c t r k) (b1_at m c t r k)) ((wb_at (V m c main_v8) k j).trans (V8 m c _ _))
  by_cases h0 : t.val % 17 = 0
  · rw [outsAt0_A m c t h0]; frame_out
    simp only [readCov_copy]
    rfl
  · rw [outsAt0_B m c t h0]; frame_out
    simp only [weights, read_unread_whole]
    rfl

/-! ## The reference's rows -/

theorem ref_n (c : Dev nD) (R : Fin 4352) (x : Fin 1024) : val_main_v27 (F := Ideal) (m (c.tc.loc main_arg0)) (m (c.tc.loc main_arg1)) (ix2 R x) = nrm m c R.val x := by
  rw [← val_main_v27_eq]
  unfold nrm
  by_cases h : 240 ≤ R.val ∧ R.val - 240 < 4112
  · simp only [norm, padRow_high _ h]
    pointwise
    rw [dif_pos (by omega)]
  · rw [norm_zero _ _ fun k => padRow_low (m (c.tc.loc main_arg0)) h k]
    pointwise
    rw [dif_neg (by omega), sitofp_zero]

theorem ref_a (c : Dev nD) (R : Fin 4352) (k : Fin 2816) :
    val_main_v25 (F := Ideal) (m (c.tc.loc main_arg0)) (m (c.tc.loc main_arg1)) (m (c.tc.loc main_arg2)) (m (c.tc.loc main_arg3)) (ix2 R ⟨k.val, by omega⟩) = prA m c R.val k := by
  rw [← val_main_v25_eq]
  unfold prA
  by_cases h : 240 ≤ R.val ∧ R.val - 240 < 4112
  · unfold col nrm norm
    simp only [padRow_high _ h]
    pointwise
    rw [dif_pos (by omega)]
  · rw [col_zero (nrm m c R.val) _ (norm_zero _ _ fun k => padRow_low _ h k)]
    pointwise
    rw [dif_neg (by omega), sitofp_zero]

theorem ref_b (c : Dev nD) (R : Fin 4352) (k : Fin 2816) :
    val_main_v25 (F := Ideal) (m (c.tc.loc main_arg0)) (m (c.tc.loc main_arg1)) (m (c.tc.loc main_arg2)) (m (c.tc.loc main_arg3)) (ix2 R ⟨2816 + k.val, by omega⟩) = prB m c R.val k := by
  rw [← val_main_v25_eq]
  unfold prB
  by_cases h : 240 ≤ R.val ∧ R.val - 240 < 4112
  · unfold col nrm norm
    simp only [padRow_high _ h]
    pointwise
    rw [dif_pos (by omega)]
  · rw [col_zero (nrm m c R.val) _ (norm_zero _ _ fun k => padRow_low _ h k)]
    pointwise
    rw [dif_neg (by omega), sitofp_zero]

theorem ref_ab (c : Dev nD) (R : Fin 4352) (K : Fin 5632) :
    val_main_v25 (F := Ideal) (m (c.tc.loc main_arg0)) (m (c.tc.loc main_arg1)) (m (c.tc.loc main_arg2)) (m (c.tc.loc main_arg3)) (ix2 R K) = wide m c R.val K := by
  by_cases hk : K.val < 2816
  · exact (ref_a m c R ⟨K.val, hk⟩).trans (wide_lo m c _ K ⟨K.val, hk⟩ rfl).symm
  · rw [wide_hi m c _ K ⟨K.val - 2816, by omega⟩ (by dsimp only; omega), ← ref_b m c R ⟨K.val - 2816, by omega⟩]
    exact congrArg _ (congrArg (ix2 R) (Fin.ext (by dsimp only; omega)))

theorem ref_h (c : Dev nD) (R : Fin 4352) (j : Fin 1024) : val_main_v28 (F := Ideal) (m (c.tc.loc main_arg0)) (m (c.tc.loc main_arg1)) (m (c.tc.loc main_arg2)) (m (c.tc.loc main_arg3)) (m (c.tc.loc main_arg4)) (ix2 R j)
    = rowOut (padRow (m (c.tc.loc main_arg0)) R.val j) (prA m c R.val) (prB m c R.val) (fun k => (m (c.tc.loc main_arg4)) (ix3 0 k j)) := by
  rw [← val_main_v28_eq]
  by_cases h : 240 ≤ R.val ∧ R.val - 240 < 4112
  · rw [rowOut_eq]
    unfold gated prA prB col nrm norm
    simp only [padRow_high _ h, zero_sub]
    pointwise
    rw [dif_pos (by omega)]
  · have z : ∀ k, prA m c R.val k = 0 := fun k => col_zero _ _ (norm_zero _ _ fun k => padRow_low _ h k)
    simp only [rowOut, z, gated_zero, padRow_low _ h, zero_mul, Finset.sum_const_zero, add_zero]
    pointwise
    rw [dif_neg (by omega), sitofp_zero]

theorem final_2 (c : Dev nD) : (dats m 0 c).arrAt 2 (cfgs 0).N = val_main_v25 (F := Ideal) (m (c.tc.loc main_arg0)) (m (c.tc.loc main_arg1)) (m (c.tc.loc main_arg2)) (m (c.tc.loc main_arg3)) := by
  refine (dats m 0 c).arrAt_eq_of_covers 2 _ (by decide +kernel) fun t hf y => ?_
  obtain ⟨-, -, e, -⟩ := idx t
  blk_simp; rw [after0_2]
  idx_vars y
  rw [out2]
  refine (ref_ab m c (row t y0) y1).symm.trans (congrArg _ ?_)
  funext a; apply Fin.ext; fin_cases a <;> simp [win0_2, e]

theorem final_3 (c : Dev nD) : (dats m 0 c).arrAt 3 (cfgs 0).N = val_main_v27 (F := Ideal) (m (c.tc.loc main_arg0)) (m (c.tc.loc main_arg1)) := by
  refine (dats m 0 c).arrAt_eq_of_covers 3 _ (by decide +kernel) fun t hf y => ?_
  obtain ⟨-, -, -, e, -⟩ := idx t
  blk_simp; rw [after0_3]
  idx_vars y
  rw [out3, n_at]
  refine (ref_n m c (row t y0) y1).symm.trans (congrArg _ ?_)
  funext a; apply Fin.ext; fin_cases a <;> simp [win0_3, e]

theorem final_4 (c : Dev nD) : (dats m 0 c).arrAt 4 (cfgs 0).N = val_main_v28 (F := Ideal) (m (c.tc.loc main_arg0)) (m (c.tc.loc main_arg1)) (m (c.tc.loc main_arg2)) (m (c.tc.loc main_arg3)) (m (c.tc.loc main_arg4)) := by
  refine (dats m 0 c).arrAt_eq_of_covers 4 _ (by decide +kernel) fun t hf y => ?_
  obtain ⟨-, -, -, -, e⟩ := idx t
  blk_simp; rw [after0_4]
  idx_vars y
  rw [out4]
  refine (ref_h m c (row t y0) y1).symm.trans (congrArg _ ?_)
  funext a; apply Fin.ext; fin_cases a <;> simp [win0_4, e]

set_option maxHeartbeats 2000000 in
/-- The kernel's three padded arrays are the reference's, for every argument. -/
theorem algebraic : Cert.algebraic_FfnFwdIdeal_FfnFwdRefIdeal := by
  pair_intro
  · run_from Cert.FfnFwdIdeal.Gen.run_main m g
    · exact V_main_arg0 m c
    · exact V_main_arg2 m c
    · exact V_main_arg3 m c
    · exact V_main_arg4 m c
  · refine (θ_run _ _ _).mono (fun r h c => ?_) (Cert.FfnFwdRefIdeal.Tie.run_read m' g')
    obtain ⟨a0, a1, a2, a3, a4⟩ := hagree c
    obtain ⟨e0, e1, e2, e⟩ := h c
    have w0 := (e0.trans (congr4 (val_main_v25 (F := Ideal)) a0 a1 a2 a3)).trans (final_2 m c).symm
    have w1 := (e1.trans (congrArg₂ (val_main_v27 (F := Ideal)) a0 a1)).trans (final_3 m c).symm
    have w2 := (e2.trans (congr5 (val_main_v28 (F := Ideal)) a0 a1 a2 a3 a4)).trans (final_4 m c).symm
    exact ⟨w0, w1, w2, e⟩
end Cert.FfnFwdIdeal.Tie

end
-- ==== Proof.PoolFwd.Value.lean ====
/- The pooling: what the kernel leaves is the reference's. The sums by doubling and the means are those of the gradient's own forward
   lines. -/
module

public import proofs.«01_k».proof.Proof.Pool.Ref
public import proofs.«01_k».proof.Proof.Pool.Blocks
public import proofs.«01_k».proof.Proof.Gen.PoolFwdRefIdeal.Read
public import proofs.«01_k».proof.Proof.Gen.PoolFwdIdeal.Frame
public import proofs.«01_k».proof.Proof.Gen.Pre_pool_fwd_finite
public import proofs.«01_k».proof.Defs
public import proofs.«01_k».proof.Proof.Pool.Value
public import proofs.«01_k».proof.Proof.Common.Congr
public import Idealize.ShloMosaic.Lib.Claim

@[expose] public section

set_option maxRecDepth 65536

noncomputable section

namespace Cert.PoolFwdIdeal.Tie

open Cert.PoolFwdIdeal Cert.PoolFwdIdeal.Gen Cert.PoolSpec Cert.Common Idealize.ShloMosaic Idealize.ShloMosaic.TcCoe Idealize.SL.Sem
open Cert.PoolIdeal.Hand (padded above word width pooled)
open Cert.PoolIdeal.Tie (above_at pooled_at)

/-- The precondition, read off: the values are finite. -/
theorem finite_v (a0 : FVec Ideal S4112x512 .f32) (a1 : FVec Ideal S1x4x128x128 .f32) (a2 : FVec Ideal S1x4x128 .f32)
    (h : Cert.Pre_pool_fwd_finite.fn (F := Ideal) a0 a1 a2 = fun _ => 1#1) : ∀ i, IsReal (a0 i) := by
  haveI : Subsingleton Cert.Pre_pool_fwd_finite.S_.Idx := ⟨fun i j => funext fun a => a.elim0⟩
  dsimp only [Cert.Pre_pool_fwd_finite.fn] at h
  have e := congrFun h (fun a => a.elim0)
  obtain ⟨-, h0⟩ := IntOp.andi_eq_one.1 e
  exact finite_of_all _ _ (fun _ => ofBits_inf) _ _ _ _ h0

variable (m : (ℓ : Loc nD τ sig) → Buf (Elt Ideal) ℓ)

theorem off2_eq : ∀ k, k0_off2 k = ![256 * k.val, 0] := by decide +kernel

/-- The padded input, by its two stores. -/
theorem read_padded (b : Memref sig .tc .vmem S4368x128 .f32) (f : BufTy.Contents (Elt Ideal) b.view.ty) (x p : Vec Ideal S4352x128 .f32) (hp : p = k0_pay2 x) :
    b.view.read (Elt Ideal) (b.view.writes (Elt Ideal) f [⟨Rect.unit (s := S4368x128) ![16, 0] S4352x128.size inb_S4368x128_S4352x128_16_0, p⟩,
      ⟨Rect.unit (s := S4368x128) ![0, 0] S16x128.size inb_S4368x128_S16x128_0_0, k0_pay1 (F := Ideal)⟩]) = padded x := by
  subst hp
  funext j
  have hj : (j 0).val < 4368 := (j 0).isLt
  unfold padded
  split
  · rename_i h
    exact View.read_writes_cons_rows_of_mem b.view f _ _ _ j (ix2 ⟨(j 0).val - 16, by omega⟩ (j 1)) rfl (by simp only [ix2]; show (j 0).val = 16 + ((j 0).val - 16); omega) rfl
  · rename_i h
    rw [View.read_writes_cons_rows_of_not_mem (o := 16) (W := 4352) b.view f _ _ _ j rfl rfl (Or.inl (by omega))]
    exact View.read_writes_cons_rows_of_mem b.view f _ _ _ j (ix2 ⟨(j 0).val, by omega⟩ (j 1)) rfl (by show (j 0).val = 0 + (j 0).val; omega) rfl

/-- A trip's rows. -/
def tileOut (i : grid0.Coords) (x0 : Vec Ideal S4352x128 .f32) (x1 : Vec Ideal S1x128x128 .f32) (x2 : Vec Ideal S1x1x128 .f32) (k : Fin k0_t1_loop.trips) : Vec Ideal S256x128 .f32 :=
  k0_pay3 (pooled (BitVec.ofNat 32 (i 0).val) (Scalar.shli 2#32 (BitVec.ofNat 32 (i 0).val)) (above x0 k) k) x1 x2

/-- After `n` trips the rows of the first `n` tiles are theirs. -/
theorem trips_at (c : Dev nD) (t : Fin cfg0.N) (i : grid0.Coords) (x0 : Vec Ideal S4352x128 .f32) (x1 : Vec Ideal S1x128x128 .f32) (x2 : Vec Ideal S1x1x128 .f32)
    (X5 : BufTy.Contents (Elt Ideal) scM0_0.view.ty) (h5 : scM0_0.view.read (Elt Ideal) X5 = padded x0) : ∀ n ≤ 17, ∀ j : S4352x128.Idx,
    (j 0).val < 256 * n →
    VO0_3.read (Elt Ideal) (VO0_3.writes (Elt Ideal) VO0_3.junk (pb_k0_t1 Variants.none c none i (ms0_0 t) (hs0_0 t) (ms0_1 t) (hs0_1 t) (ms0_2 t) (hs0_2 t) (ms0_3 t) (hs0_3 t)
      scM0_0 (Memref.isWhole_whole _) (BitVec.ofNat 32 (i 0).val) (Scalar.shli 2#32 (BitVec.ofNat 32 (i 0).val)) ((hs0_1 t).unread x1) ((hs0_2 t).unread x2) X5 n)) j
      = tileOut i x0 x1 x2 ⟨(j 0).val / 256, by have : (j 0).val < 4352 := (j 0).isLt; show _ < 17; omega⟩ (ix2 ⟨(j 0).val % 256, Nat.mod_lt _ (by norm_num)⟩ (j 1))
  | 0, _, j, h => absurd h (by omega)
  | n + 1, hn, j, h => by
    have hk : n < k0_t1_loop.trips := by show n < 17; omega
    rw [pb_k0_t1_succ Variants.none c none i _ _ _ _ _ _ _ _ _ _ _ _ _ _ _ ⟨n, hk⟩]
    unfold tripL_k0_t1 trip_k0_t1
    dsimp only
    rw [List.singleton_append]
    by_cases h' : (j 0).val < 256 * n
    · rw [View.read_writes_cons_rows_of_not_mem (o := 256 * n) (W := 256) VO0_3 _ _ _ _ j (off2_eq _) rfl (Or.inl h')]
      exact trips_at c t i x0 x1 x2 X5 h5 n (by omega) j h'
    · have hx : (j 0).val = 256 * n + ((j 0).val - 256 * n) := by omega
      refine (View.read_writes_cons_rows_of_mem VO0_3 _ (k0_off2_inb ⟨n, hk⟩) _ _ j (ix2 ⟨(j 0).val - 256 * n, by omega⟩ (j 1)) (off2_eq ⟨n, hk⟩) hx rfl).trans ?_
      have e1 : (⟨(j 0).val / 256, by have : (j 0).val < 4352 := (j 0).isLt; show _ < 17; omega⟩ : Fin k0_t1_loop.trips) = ⟨n, hk⟩ := Fin.ext (by show (j 0).val / 256 = n; omega)
      have e2 : (⟨(j 0).val % 256, Nat.mod_lt _ (by norm_num)⟩ : Fin 256) = ⟨(j 0).val - 256 * n, (by omega : (j 0).val - 256 * n < 256)⟩ := Fin.ext (by show (j 0).val % 256 = (j 0).val - 256 * n; omega)
      have w1 : trip_k0_t1.sl.r_1 (ms0_1 t) ((hs0_1 t).unread x1) = x1 := by
        unfold trip_k0_t1.sl.r_1
        exact (View.readAt_full _ _ _).trans ((hs0_1 t).read_unread x1)
      have w2 := (View.readAt_full (ms0_2 t).view ((hs0_2 t).unread x2) inb_S1x1x128_S1x1x128_0_0_0).trans ((hs0_2 t).read_unread x2)
      rw [e1, e2, tileOut, above, ← h5]
      rw [w1]
      refine congrFun (congrArg₂ (fun p q => k0_pay3 p x1 q) ?_ w2) _
      unfold trip_k0_t1.sl.r pooled
      rfl

/-- What a group's body leaves. -/
theorem outs_at (c : Dev nD) (t : Fin cfg0.N) (j : S4352x128.Idx) : outsAt0 m c t j
    = tileOut (grid0.coords t) (iblk m c 0 t) (iblk m c 1 t) (iblk m c 2 t) ⟨(j 0).val / 256, by have : (j 0).val < 4352 := (j 0).isLt; show _ < 17; omega⟩
      (ix2 ⟨(j 0).val % 256, Nat.mod_lt _ (by norm_num)⟩ (j 1)) := by
  have hj : (j 0).val < 4352 := (j 0).isLt
  unfold outsAt0 out0_A_3 kernelRun0_A
  dsimp only
  refine trips_at c t _ _ _ _ _ ?_ 17 le_rfl j (by omega)
  unfold kernelRun0_A.sl.HS0_2
  refine read_padded scM0_0 _ _ _ ?_
  exact congrArg k0_pay2 ((View.readAt_full _ _ _).trans ((hs0_0 t).read_unread _))

/-! ## What the host lines leave, and the blocks -/

theorem idx : ∀ t : Fin cfg0.N, win0_0.index t = ![0, t.val] ∧ win0_1.index t = ![t.val, 0, 0] ∧ win0_2.index t = ![t.val, 0, 0] ∧ win0_3.index t = ![0, t.val] :=
  (by decide +kernel : ∀ t : Fin grid0.N, _)

/-- The group of a grid point. -/
abbrev grp (t : Fin cfg0.N) : Fin 4 := ⟨t.val, lt_of_lt_of_eq t.isLt N_0⟩

theorem coord : ∀ t : Fin cfg0.N, ((grid0.coords t) 0).val = t.val := (by decide +kernel : ∀ t : Fin grid0.N, _)

theorem V0 (c : Dev nD) (R : Fin 4352) (k : Fin 512) : V m c main_v0 (ix2 R k) = padRow (m (c.tc.loc main_arg0)) R.val k := by
  unfold_abbrev_sides
  simp only [List.flatten_cons, List.flatten_nil, List.append_nil, List.cons_append, List.nil_append]
  after_results
  exact Cert.PoolIdeal.Tie.padAt _ R k

theorem V1 (c : Dev nD) (g : Fin 4) (r d : Fin 128) : V m c main_v1 (ix3 g r d) = (m (c.tc.loc main_arg1)) (ix4 0 g r d) := by
  unfold_abbrev_sides
  simp only [List.flatten_cons, List.flatten_nil, List.append_nil, List.cons_append, List.nil_append]
  after_results
  pointwise

theorem V3 (c : Dev nD) (g : Fin 4) (d : Fin 128) : V m c main_v3 (ix3 g 0 d) = (m (c.tc.loc main_arg2)) (ix3 0 g d) := by
  unfold_abbrev_sides
  simp only [List.flatten_cons, List.flatten_nil, List.append_nil, List.cons_append, List.nil_append]
  after_results
  pointwise

theorem b0 (c : Dev nD) (t : Fin cfg0.N) (r : Fin 4352) (k : Fin 128) :
    iblk m c 0 t (ix2 r k) = padRow (m (c.tc.loc main_arg0)) r.val (lane (grp t) k) := by
  obtain ⟨e0, -⟩ := idx t
  rw [← V0 m c]
  show V m c main_v0 _ = _
  blk_ext [e0, lane]

theorem b1 (c : Dev nD) (t : Fin cfg0.N) (r d : Fin 128) : iblk m c 1 t (ix3 0 r d) = (m (c.tc.loc main_arg1)) (ix4 0 (grp t) r d) := by
  obtain ⟨-, e0, -⟩ := idx t
  rw [← V1 m c]
  show V m c main_v1 _ = _
  blk_ext [e0]

theorem b2 (c : Dev nD) (t : Fin cfg0.N) (d : Fin 128) : iblk m c 2 t (ix3 0 0 d) = (m (c.tc.loc main_arg2)) (ix3 0 (grp t) d) := by
  obtain ⟨-, -, e0, -⟩ := idx t
  rw [← V3 m c]
  show V m c main_v3 _ = _
  blk_ext [e0]

/-- A group's row: its means through the group's matrix, times the scale. -/
def rowOut (a0 : FVec Ideal S4112x512 .f32) (a1 : FVec Ideal S1x4x128x128 .f32) (a2 : FVec Ideal S1x4x128 .f32) (g : Fin 4) (R : ℕ) (d : Fin 128) : EReal :=
  (∑ k : Fin 128, mean a0 g R k * a1 (ix4 0 g k d)) * a2 (ix3 0 g d)

theorem rowOut_low (a0 : FVec Ideal S4112x512 .f32) (a1 : FVec Ideal S1x4x128x128 .f32) (a2 : FVec Ideal S1x4x128 .f32) (g : Fin 4) (R : ℕ) (h : R < 240) (d : Fin 128) :
    rowOut a0 a1 a2 g R d = 0 := by
  have e : ∀ k, mean a0 g R k = 0 := fun k => by
    rw [mean, Finset.sum_eq_zero (fun j _ => padRow_low a0 (by omega) _), zero_mul, padRow_low a0 (by omega), sub_zero]
  rw [rowOut, Finset.sum_eq_zero (fun k _ => by rw [e, zero_mul]), zero_mul]

theorem out_at (c : Dev nD) (t : Fin cfg0.N) (R : Fin 4352) (d : Fin 128) : outsAt0 m c t (ix2 R d)
    = rowOut (m (c.tc.loc main_arg0)) (m (c.tc.loc main_arg1)) (m (c.tc.loc main_arg2)) (grp t) R.val d := by
  have hR := R.isLt
  have e : ∀ (p : Vec Ideal S256x128 .f32) (x1 : Vec Ideal S1x128x128 .f32) (x2 : Vec Ideal S1x1x128 .f32) (r : Fin 256),
      k0_pay3 p x1 x2 (ix2 r d) = (∑ k : Fin 128, p (ix2 r k) * x1 (ix3 0 k d)) * x2 (ix3 0 0 d) := fun p x1 x2 r => by
    pointwise [k0_pay3]
  refine (outs_at m c t _).trans ((e _ _ _ _).trans ?_)
  rw [b2]
  refine congrArg (· * _) (Finset.sum_congr rfl fun k _ => ?_)
  rw [b1]
  refine congrArg (· * _) ((pooled_at (g := grp t) (i := grid0.coords t) (x1 := iblk m c 0 t) (b0 m c t) (coord t) _ _ k).trans ?_)
  exact congrArg (mean _ _ · k) (by show 256 * (R.val / 256) + R.val % 256 = R.val; omega)

end Cert.PoolFwdIdeal.Tie

/-! ## The reference -/

namespace Cert.PoolFwdRefIdeal.Tie

open Cert.PoolFwdRefIdeal.Read
open Cert.PoolFwdRefIdeal Cert.PoolSpec Cert.Common Cert.PoolFwdIdeal.Tie Idealize.ShloMosaic Idealize.ShloMosaic.TcCoe Idealize.SL.Sem

theorem v65_eq (a0 : FVec Ideal S4112x512 .f32) : val_main_v65 (F := Ideal) a0 = Cert.PoolRefIdeal.Read.val_main_v71 (F := Ideal) a0 := rfl

theorem v74_at (a0 : FVec Ideal S4112x512 .f32) (a1 : FVec Ideal S1x4x128x128 .f32) (a2 : FVec Ideal S1x4x128 .f32) (h0 : ∀ i, IsReal (a0 i))
    (R : Fin 4352) (g : Fin 4) (d : Fin 128) : val_main_v74 (F := Ideal) a0 a1 a2 (ix2 R (lane g d)) = rowOut a0 a1 a2 g R.val d := by
  have hR := R.isLt
  have p : val_main_v74 (F := Ideal) a0 a1 a2 (ix2 R (lane g d)) = padRow (val_main_v73 (F := Ideal) a0 a1 a2) R.val (lane g d) :=
    Cert.PoolIdeal.Tie.padAt _ R (lane g d)
  by_cases h : 240 ≤ R.val
  · have e : ∀ t : Fin 4112, val_main_v72 (F := Ideal) a0 a1 a2 (ix4 0 t g d) = rowOut a0 a1 a2 g (t.val + 240) d := fun t => by
      have e : val_main_v72 (F := Ideal) a0 a1 a2 (ix4 0 t g d) = (∑ k : Fin 128, a1 (ix4 0 g k d) * val_main_v65 (F := Ideal) a0 (ix4 0 t g k)) * a2 (ix3 0 g d) := by
        pointwise [val_main_v72, val_main_v68, val_main_v67, val_main_v66, val_main_v71, val_main_v70, val_main_v69]
      rw [e, rowOut]
      refine congrArg (· * _) (Finset.sum_congr rfl fun k _ => ?_)
      rw [v65_eq, Cert.PoolRefIdeal.Tie.v71_at a0 h0, mul_comm]
    have e1 := e ⟨R.val - 240, by omega⟩
    rw [show (⟨R.val - 240, by omega⟩ : Fin 4112).val + 240 = R.val by show R.val - 240 + 240 = _; omega] at e1
    rw [← e1, p, padRow_high _ ⟨h, by omega⟩, val_main_v73_apply]
    refine congrArg _ (funext fun a => Fin.ext ?_)
    have := d.isLt
    fin_cases a <;> simp [lane] <;> omega
  · rw [rowOut_low _ _ _ _ _ (by omega), p]
    exact padRow_low _ (by omega) _

/-- The reference's run, its result named by its stage. -/
theorem run_read (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v74) = val_main_v74 (F := Ideal) (m (c.tc.loc main_arg0)) (m (c.tc.loc main_arg1)) (m (c.tc.loc main_arg2))
      ∧ r.2.mem (c.tc.loc main_arg0) = (m (c.tc.loc main_arg0))
      ∧ r.2.mem (c.tc.loc main_arg1) = (m (c.tc.loc main_arg1))
      ∧ r.2.mem (c.tc.loc main_arg2) = (m (c.tc.loc main_arg2)) :=
  (θ_run _ _ _).mono (fun r h c => ⟨(h c).1.trans (val_main_v74_eq m c), (h c).2⟩) (Value.run m ρ)

end Cert.PoolFwdRefIdeal.Tie

/-! ## The arrays agree -/

namespace Cert.PoolFwdIdeal.Tie

open Cert.PoolFwdRefIdeal.Read
open Cert.PoolFwdIdeal Cert.PoolFwdIdeal.Gen Cert.PoolSpec Cert.Common Idealize.ShloMosaic Idealize.ShloMosaic.TcCoe Idealize.SL.Sem

variable (m : (ℓ : Loc nD τ sig) → Buf (Elt Ideal) ℓ)

theorem final_3 (c : Dev nD) (hp : Cert.Pre_PoolFwdIdeal_pool_fwd_finite m) :
    (dats m 0 c).arrAt 3 (cfgs 0).N = val_main_v74 (F := Ideal) (m (c.tc.loc main_arg0)) (m (c.tc.loc main_arg1)) (m (c.tc.loc main_arg2)) := by
  have h0 := finite_v _ _ _ (hp c)
  refine (dats m 0 c).arrAt_eq_of_covers 3 _ (by decide +kernel) fun t hf y => ?_
  obtain ⟨-, -, -, e⟩ := idx t
  blk_simp; rw [after0_3]
  idx_vars y
  refine (out_at m c t y0 y1).trans ((Cert.PoolFwdRefIdeal.Tie.v74_at _ _ _ h0 y0 (grp t) y1).symm.trans (congrArg _ ?_))
  funext a; apply Fin.ext; fin_cases a <;> simp [win0_3, e, lane]

set_option maxHeartbeats 2000000 in
/-- The kernel's array is the reference's, for finite values and any weight and scale. -/
theorem algebraic : Cert.algebraic_PoolFwdIdeal_PoolFwdRefIdeal_pre_pool_fwd_finite := by
  pair_intro
  · run_from Cert.PoolFwdIdeal.Gen.run_main m g
    · exact V_main_arg0 m c
    · exact V_main_arg1 m c
    · exact V_main_arg2 m c
  · refine (θ_run _ _ _).mono (fun r h c => ?_) (Cert.PoolFwdRefIdeal.Tie.run_read m' g')
    obtain ⟨a0, a1, a2⟩ := hagree c
    obtain ⟨e0, e⟩ := h c
    exact ⟨(e0.trans (congr3 (val_main_v74 (F := Ideal)) a0 a1 a2)).trans (final_3 m c hpre).symm, e⟩
end Cert.PoolFwdIdeal.Tie

end
-- ==== Proof.AdamRows.Value.lean ====
/- The optimiser step on a shard of rows, its gradient the sum of eight slots: the same arithmetic, entry by entry. -/
module

public import proofs.«01_k».proof.Proof.Gen.AdamRowsIdeal.Frame
public import proofs.«01_k».proof.Proof.Gen.AdamRowsRefIdeal.Read
public import proofs.«01_k».proof.Proof.Gen.AdamRowsRefIdeal.Run
public import proofs.«01_k».proof.Proof.Common.Congr
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.AdamRowsRefIdeal.Tie

open Cert.AdamRowsRefIdeal.Read
open Cert.AdamRowsRefIdeal Idealize.ShloMosaic Idealize.ShloMosaic.TcCoe Idealize.SL.Sem

/-- The reference's results, read in the stages of its own text. -/
theorem run_read (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v2) = val_main_v2 (F := Ideal) (m (c.tc.loc main_arg0))
      ∧ r.2.mem (c.tc.loc main_v28) = val_main_v28 (F := Ideal) (m (c.tc.loc main_arg0)) (m (c.tc.loc main_arg1)) (m (c.tc.loc main_arg2)) (m (c.tc.loc main_arg3))
      ∧ r.2.mem (c.tc.loc main_v9) = val_main_v9 (F := Ideal) (m (c.tc.loc main_arg0)) (m (c.tc.loc main_arg2))
      ∧ r.2.mem (c.tc.loc main_v15) = val_main_v15 (F := Ideal) (m (c.tc.loc main_arg0)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run _ _ _).mono (fun r h c => ⟨(h c).1.trans (val_main_v2_eq _), (h c).2.1.trans (val_main_v28_eq _ _ _ _), (h c).2.2.1.trans (val_main_v9_eq _ _), (h c).2.2.2.1.trans (val_main_v15_eq _ _), (h c).2.2.2.2⟩) (Value.run m ρ)

end Cert.AdamRowsRefIdeal.Tie

namespace Cert.AdamRowsIdeal.Tie

open Cert.AdamRowsRefIdeal.Read
open Cert.AdamRowsIdeal Cert.AdamRowsIdeal.Gen Idealize.ShloMosaic Idealize.ShloMosaic.TcCoe Idealize.SL.Sem Cert.Common

theorem ld (x : Vec Ideal S128x1024 .f32) : View.ld x r0_8 = x := by
  funext j; idx_vars j; pointwise

theorem canon (x : Vec Ideal S128x1024 .f32) : View.canon [⟨r0_8, x⟩] = x := by
  funext j; idx_vars j; canon_tiles y h
  exact congrArg x (funext fun a => Fin.ext (by fin_cases a; exacts [h0.symm, h1.symm]))

section
variable (a0 : FVec Ideal S8x128x1024 .bf16) (a1 a2 a3 : FVec Ideal S1x128x1024 .f32)

/-- An argument without its leading axis, as the host hands it to the kernel. -/
abbrev flat (a : FVec Ideal S1x128x1024 .f32) : FVec Ideal S128x1024 .f32 := shapeCast S128x1024 a Cert.AdamRowsIdeal.Gen.shapeCasts_S1x128x1024_S128x1024

theorem out4 : out0_4 (F := Ideal) a0 (flat a1) (flat a2) (flat a3) = val_main_v2 (F := Ideal) a0 := by
  rw [← val_main_v2_eq]
  unfold out0_4
  simp only [canon, ld]
  funext j
  idx_vars j
  pointwise! [k0_pay1, k0_pay2, k0_pay3, k0_pay4, k0_pay5]
  simp only [Fin.sum_univ_eight]

theorem out5 : out0_5 (F := Ideal) a0 (flat a1) (flat a2) (flat a3) = val_main_v28 (F := Ideal) a0 a1 a2 a3 := by
  rw [← val_main_v28_eq]
  unfold out0_5
  simp only [canon, ld]
  funext j
  idx_vars j
  pointwise! [k0_pay1, k0_pay2, k0_pay3, k0_pay4, k0_pay5]
  simp only [Fin.sum_univ_eight]

theorem out6 : out0_6 (F := Ideal) a0 (flat a1) (flat a2) (flat a3) = val_main_v9 (F := Ideal) a0 a2 := by
  rw [← val_main_v9_eq]
  unfold out0_6
  simp only [canon, ld]
  funext j
  idx_vars j
  pointwise! [k0_pay1, k0_pay2, k0_pay3, k0_pay4, k0_pay5]
  simp only [Fin.sum_univ_eight]

theorem out7 : out0_7 (F := Ideal) a0 (flat a1) (flat a2) (flat a3) = val_main_v15 (F := Ideal) a0 a3 := by
  rw [← val_main_v15_eq]
  unfold out0_7
  simp only [canon, ld]
  funext j
  idx_vars j
  pointwise! [k0_pay1, k0_pay2, k0_pay3, k0_pay4, k0_pay5]
  simp only [Fin.sum_univ_eight]

end

theorem idx : ∀ t : Fin cfg0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

variable (m : (ℓ : Loc nD τ sig) → Buf (Elt Ideal) ℓ)

theorem v0 (c : Dev nD) : V m c main_arg0 = m (c.tc.loc main_arg0) := V_main_arg0 m c

theorem b0 (c : Dev nD) (t : Fin cfg0.N) : iblk m c 0 t = m (c.tc.loc main_arg0) := by
  obtain ⟨e, -⟩ := idx t
  rw [← v0 m c]
  funext j
  show V m c main_arg0 _ = _
  blk_ext [e]

theorem v1 (c : Dev nD) : V m c main_v0 = flat (m (c.tc.loc main_arg1)) := by
  unfold_abbrev_sides
  after_results
  rfl

theorem b1 (c : Dev nD) (t : Fin cfg0.N) : iblk m c 1 t = flat (m (c.tc.loc main_arg1)) := by
  obtain ⟨-, e, -⟩ := idx t
  rw [← v1 m c]
  funext j
  show V m c main_v0 _ = _
  blk_ext [e]

theorem v2 (c : Dev nD) : V m c main_v1 = flat (m (c.tc.loc main_arg2)) := by
  unfold_abbrev_sides
  after_results
  rfl

theorem b2 (c : Dev nD) (t : Fin cfg0.N) : iblk m c 2 t = flat (m (c.tc.loc main_arg2)) := by
  obtain ⟨-, -, e, -⟩ := idx t
  rw [← v2 m c]
  funext j
  show V m c main_v1 _ = _
  blk_ext [e]

theorem v3 (c : Dev nD) : V m c main_v2 = flat (m (c.tc.loc main_arg3)) := by
  unfold_abbrev_sides
  after_results
  rfl

theorem b3 (c : Dev nD) (t : Fin cfg0.N) : iblk m c 3 t = flat (m (c.tc.loc main_arg3)) := by
  obtain ⟨-, -, -, e, -⟩ := idx t
  rw [← v3 m c]
  funext j
  show V m c main_v2 _ = _
  blk_ext [e]

theorem final4 (c : Dev nD) :
    (dats m 0 c).arrAt 4 (cfgs 0).N = val_main_v2 (F := Ideal) (m (c.tc.loc main_arg0)) := by
  refine (dats m 0 c).arrAt_eq_of_covers 4 _ (by decide +kernel) fun t hf y => ?_
  obtain ⟨-, -, -, -, e, -⟩ := idx t
  blk_simp; rw [after0_4, b0, b1, b2, b3, out4]
  refine congrArg _ ?_
  funext a; apply Fin.ext; fin_cases a <;> simp [win0_4, e]

theorem final5 (c : Dev nD) :
    (dats m 0 c).arrAt 5 (cfgs 0).N = val_main_v28 (F := Ideal) (m (c.tc.loc main_arg0)) (m (c.tc.loc main_arg1)) (m (c.tc.loc main_arg2)) (m (c.tc.loc main_arg3)) := by
  refine (dats m 0 c).arrAt_eq_of_covers 5 _ (by decide +kernel) fun t hf y => ?_
  obtain ⟨-, -, -, -, -, e, -⟩ := idx t
  blk_simp; rw [after0_5, b0, b1, b2, b3, out5]
  refine congrArg _ ?_
  funext a; apply Fin.ext; fin_cases a <;> simp [win0_5, e]

theorem final6 (c : Dev nD) :
    (dats m 0 c).arrAt 6 (cfgs 0).N = val_main_v9 (F := Ideal) (m (c.tc.loc main_arg0)) (m (c.tc.loc main_arg2)) := by
  refine (dats m 0 c).arrAt_eq_of_covers 6 _ (by decide +kernel) fun t hf y => ?_
  obtain ⟨-, -, -, -, -, -, e, -⟩ := idx t
  blk_simp; rw [after0_6, b0, b1, b2, b3, out6]
  refine congrArg _ ?_
  funext a; apply Fin.ext; fin_cases a <;> simp [win0_6, e]

theorem final7 (c : Dev nD) :
    (dats m 0 c).arrAt 7 (cfgs 0).N = val_main_v15 (F := Ideal) (m (c.tc.loc main_arg0)) (m (c.tc.loc main_arg3)) := by
  refine (dats m 0 c).arrAt_eq_of_covers 7 _ (by decide +kernel) fun t hf y => ?_
  obtain ⟨-, -, -, -, -, -, -, e⟩ := idx t
  blk_simp; rw [after0_7, b0, b1, b2, b3, out7]
  refine congrArg _ ?_
  funext a; apply Fin.ext; fin_cases a <;> simp [win0_7, e]

set_option maxHeartbeats 2000000 in
/-- The kernel's four arrays are the reference's, for every argument. -/
theorem algebraic : Cert.algebraic_AdamRowsIdeal_AdamRowsRefIdeal := by
  pair_intro
  · run_from Cert.AdamRowsIdeal.Gen.run_main m g
  · refine (θ_run _ _ _).mono (fun r h c => ?_) (Cert.AdamRowsRefIdeal.Tie.run_read m' g')
    obtain ⟨a0, a1, a2, a3⟩ := hagree c
    obtain ⟨e0, e1, e2, e3, e⟩ := h c
    have w0 := (e0.trans (congrArg (val_main_v2 (F := Ideal)) a0)).trans (final4 m c).symm
    have w1 := (e1.trans (congr4 (val_main_v28 (F := Ideal)) a0 a1 a2 a3)).trans (final5 m c).symm
    have w2 := (e2.trans (congrArg₂ (val_main_v9 (F := Ideal)) a0 a2)).trans (final6 m c).symm
    have w3 := (e3.trans (congrArg₂ (val_main_v15 (F := Ideal)) a0 a3)).trans (final7 m c).symm
    exact ⟨w0, w1, w2, w3, e⟩

end Cert.AdamRowsIdeal.Tie

end
-- ==== Proof.AdamMeta.Value.lean ====
/- The optimiser step on the meta tokens: the same arithmetic, entry by entry. -/
module

public import proofs.«01_k».proof.Proof.Gen.AdamMetaIdeal.Frame
public import proofs.«01_k».proof.Proof.Gen.AdamMetaRefIdeal.Read
public import proofs.«01_k».proof.Proof.Gen.AdamMetaRefIdeal.Run
public import proofs.«01_k».proof.Proof.Common.Congr
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.AdamMetaRefIdeal.Tie

open Cert.AdamMetaRefIdeal.Read
open Cert.AdamMetaRefIdeal Idealize.ShloMosaic Idealize.ShloMosaic.TcCoe Idealize.SL.Sem

/-- The reference's results, read in the stages of its own text. -/
theorem run_read (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_arg0) =  (m (c.tc.loc main_arg0))
      ∧ r.2.mem (c.tc.loc main_v23) = val_main_v23 (F := Ideal) (m (c.tc.loc main_arg0)) (m (c.tc.loc main_arg1)) (m (c.tc.loc main_arg2)) (m (c.tc.loc main_arg3))
      ∧ r.2.mem (c.tc.loc main_v4) = val_main_v4 (F := Ideal) (m (c.tc.loc main_arg0)) (m (c.tc.loc main_arg2))
      ∧ r.2.mem (c.tc.loc main_v10) = val_main_v10 (F := Ideal) (m (c.tc.loc main_arg0)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run _ _ _).mono (fun r h c => ⟨(h c).1, (h c).2.1.trans (val_main_v23_eq _ _ _ _), (h c).2.2.1.trans (val_main_v4_eq _ _), (h c).2.2.2.1.trans (val_main_v10_eq _ _), (h c).2.2.2.2⟩) (Value.run m ρ)

end Cert.AdamMetaRefIdeal.Tie

namespace Cert.AdamMetaIdeal.Tie

open Cert.AdamMetaRefIdeal.Read
open Cert.AdamMetaIdeal Cert.AdamMetaIdeal.Gen Idealize.ShloMosaic Idealize.ShloMosaic.TcCoe Idealize.SL.Sem Cert.Common

theorem ld (x : Vec Ideal S16x128 .f32) : View.ld x r0_1 = x := by
  funext j; idx_vars j; pointwise

theorem canon (x : Vec Ideal S16x128 .f32) : View.canon [⟨r0_1, x⟩] = x := by
  funext j; idx_vars j; canon_tiles y h
  exact congrArg x (funext fun a => Fin.ext (by fin_cases a; exacts [h0.symm, h1.symm]))

section
variable (a0 a1 a2 a3 : FVec Ideal S16x128 .f32)

/-- The gradient with a leading axis. -/
abbrev lead : FVec Ideal S1x16x128 .f32 := broadcastInDim S1x16x128 ![1, 2] Cert.AdamMetaIdeal.Gen.bcast_S16x128_S1x16x128_1_2 a0

theorem out4 : out0_4 (F := Ideal) (lead a0) a1 a2 a3 =  a0 := by
  unfold out0_4
  simp only [canon, ld]
  funext j
  idx_vars j
  pointwise! [k0_pay1, k0_pay2, k0_pay3, k0_pay4]

theorem out5 : out0_5 (F := Ideal) (lead a0) a1 a2 a3 = val_main_v23 (F := Ideal) a0 a1 a2 a3 := by
  rw [← val_main_v23_eq]
  unfold out0_5
  simp only [canon, ld]
  funext j
  idx_vars j
  pointwise! [k0_pay1, k0_pay2, k0_pay3, k0_pay4]

theorem out6 : out0_6 (F := Ideal) (lead a0) a1 a2 a3 = val_main_v4 (F := Ideal) a0 a2 := by
  rw [← val_main_v4_eq]
  unfold out0_6
  simp only [canon, ld]
  funext j
  idx_vars j
  pointwise! [k0_pay1, k0_pay2, k0_pay3, k0_pay4]

theorem out7 : out0_7 (F := Ideal) (lead a0) a1 a2 a3 = val_main_v10 (F := Ideal) a0 a3 := by
  rw [← val_main_v10_eq]
  unfold out0_7
  simp only [canon, ld]
  funext j
  idx_vars j
  pointwise! [k0_pay1, k0_pay2, k0_pay3, k0_pay4]

end

theorem idx : ∀ t : Fin cfg0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

variable (m : (ℓ : Loc nD τ sig) → Buf (Elt Ideal) ℓ)

theorem v0 (c : Dev nD) : V m c main_v0 = lead (m (c.tc.loc main_arg0)) := by
  unfold_abbrev_sides
  after_results

theorem b0 (c : Dev nD) (t : Fin cfg0.N) : iblk m c 0 t = lead (m (c.tc.loc main_arg0)) := by
  obtain ⟨e, -⟩ := idx t
  rw [← v0 m c]
  funext j
  show V m c main_v0 _ = _
  blk_ext [e]

theorem v1 (c : Dev nD) : V m c main_arg1 = m (c.tc.loc main_arg1) := V_main_arg1 m c

theorem b1 (c : Dev nD) (t : Fin cfg0.N) : iblk m c 1 t = m (c.tc.loc main_arg1) := by
  obtain ⟨-, e, -⟩ := idx t
  rw [← v1 m c]
  funext j
  show V m c main_arg1 _ = _
  blk_ext [e]

theorem v2 (c : Dev nD) : V m c main_arg2 = m (c.tc.loc main_arg2) := V_main_arg2 m c

theorem b2 (c : Dev nD) (t : Fin cfg0.N) : iblk m c 2 t = m (c.tc.loc main_arg2) := by
  obtain ⟨-, -, e, -⟩ := idx t
  rw [← v2 m c]
  funext j
  show V m c main_arg2 _ = _
  blk_ext [e]

theorem v3 (c : Dev nD) : V m c main_arg3 = m (c.tc.loc main_arg3) := V_main_arg3 m c

theorem b3 (c : Dev nD) (t : Fin cfg0.N) : iblk m c 3 t = m (c.tc.loc main_arg3) := by
  obtain ⟨-, -, -, e, -⟩ := idx t
  rw [← v3 m c]
  funext j
  show V m c main_arg3 _ = _
  blk_ext [e]

theorem final4 (c : Dev nD) :
    (dats m 0 c).arrAt 4 (cfgs 0).N =  (m (c.tc.loc main_arg0)) := by
  refine (dats m 0 c).arrAt_eq_of_covers 4 _ (by decide +kernel) fun t hf y => ?_
  obtain ⟨-, -, -, -, e, -⟩ := idx t
  blk_simp; rw [after0_4, b0, b1, b2, b3, out4]
  refine congrArg _ ?_
  funext a; apply Fin.ext; fin_cases a <;> simp [win0_4, e]

theorem final5 (c : Dev nD) :
    (dats m 0 c).arrAt 5 (cfgs 0).N = val_main_v23 (F := Ideal) (m (c.tc.loc main_arg0)) (m (c.tc.loc main_arg1)) (m (c.tc.loc main_arg2)) (m (c.tc.loc main_arg3)) := by
  refine (dats m 0 c).arrAt_eq_of_covers 5 _ (by decide +kernel) fun t hf y => ?_
  obtain ⟨-, -, -, -, -, e, -⟩ := idx t
  blk_simp; rw [after0_5, b0, b1, b2, b3, out5]
  refine congrArg _ ?_
  funext a; apply Fin.ext; fin_cases a <;> simp [win0_5, e]

theorem final6 (c : Dev nD) :
    (dats m 0 c).arrAt 6 (cfgs 0).N = val_main_v4 (F := Ideal) (m (c.tc.loc main_arg0)) (m (c.tc.loc main_arg2)) := by
  refine (dats m 0 c).arrAt_eq_of_covers 6 _ (by decide +kernel) fun t hf y => ?_
  obtain ⟨-, -, -, -, -, -, e, -⟩ := idx t
  blk_simp; rw [after0_6, b0, b1, b2, b3, out6]
  refine congrArg _ ?_
  funext a; apply Fin.ext; fin_cases a <;> simp [win0_6, e]

theorem final7 (c : Dev nD) :
    (dats m 0 c).arrAt 7 (cfgs 0).N = val_main_v10 (F := Ideal) (m (c.tc.loc main_arg0)) (m (c.tc.loc main_arg3)) := by
  refine (dats m 0 c).arrAt_eq_of_covers 7 _ (by decide +kernel) fun t hf y => ?_
  obtain ⟨-, -, -, -, -, -, -, e⟩ := idx t
  blk_simp; rw [after0_7, b0, b1, b2, b3, out7]
  refine congrArg _ ?_
  funext a; apply Fin.ext; fin_cases a <;> simp [win0_7, e]

set_option maxHeartbeats 2000000 in
/-- The kernel's four arrays are the reference's, for every argument. -/
theorem algebraic : Cert.algebraic_AdamMetaIdeal_AdamMetaRefIdeal := by
  pair_intro
  · run_from Cert.AdamMetaIdeal.Gen.run_main m g
  · refine (θ_run _ _ _).mono (fun r h c => ?_) (Cert.AdamMetaRefIdeal.Tie.run_read m' g')
    obtain ⟨a0, a1, a2, a3⟩ := hagree c
    obtain ⟨e0, e1, e2, e3, e⟩ := h c
    have w0 := (e0.trans a0).trans (final4 m c).symm
    have w1 := (e1.trans (congr4 (val_main_v23 (F := Ideal)) a0 a1 a2 a3)).trans (final5 m c).symm
    have w2 := (e2.trans (congrArg₂ (val_main_v4 (F := Ideal)) a0 a2)).trans (final6 m c).symm
    have w3 := (e3.trans (congrArg₂ (val_main_v10 (F := Ideal)) a0 a3)).trans (final7 m c).symm
    exact ⟨w0, w1, w2, w3, e⟩

end Cert.AdamMetaIdeal.Tie

end
-- ==== Proof.AdamGate.Value.lean ====
/- The optimiser step on the shard of the feed-forward's first matrix, transposed, a tile of columns at a time. -/
module

public import proofs.«01_k».proof.Proof.Gen.AdamGateIdeal.Frame
public import proofs.«01_k».proof.Proof.Gen.AdamGateRefIdeal.Read
public import proofs.«01_k».proof.Proof.Gen.AdamGateRefIdeal.Run
public import proofs.«01_k».proof.Proof.Common.Congr
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.AdamGateRefIdeal.Tie

open Cert.AdamGateRefIdeal.Read
open Cert.AdamGateRefIdeal Idealize.ShloMosaic Idealize.ShloMosaic.TcCoe Idealize.SL.Sem

/-- The reference's results, read in the stages of its own text. -/
theorem run_read (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v32) = val_main_v32 (F := Ideal) (m (c.tc.loc main_arg0))
      ∧ r.2.mem (c.tc.loc main_v33) = val_main_v33 (F := Ideal) (m (c.tc.loc main_arg0)) (m (c.tc.loc main_arg1)) (m (c.tc.loc main_arg2)) (m (c.tc.loc main_arg3))
      ∧ r.2.mem (c.tc.loc main_v34) = val_main_v34 (F := Ideal) (m (c.tc.loc main_arg0)) (m (c.tc.loc main_arg2))
      ∧ r.2.mem (c.tc.loc main_v35) = val_main_v35 (F := Ideal) (m (c.tc.loc main_arg0)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run _ _ _).mono (fun r h c => ⟨(h c).1.trans (val_main_v32_eq _), (h c).2.1.trans (val_main_v33_eq _ _ _ _), (h c).2.2.1.trans (val_main_v34_eq _ _), (h c).2.2.2.1.trans (val_main_v35_eq _ _), (h c).2.2.2.2⟩) (Value.run m ρ)

end Cert.AdamGateRefIdeal.Tie

namespace Cert.AdamGateIdeal.Tie

open Cert.AdamGateRefIdeal.Read
open Cert.AdamGateIdeal Cert.AdamGateIdeal.Gen Idealize.ShloMosaic Idealize.ShloMosaic.TcCoe Idealize.SL.Sem Cert.Common

theorem ld (x : Vec Ideal S352x256 .f32) : View.ld x r0_8 = x := by
  funext j; idx_vars j; pointwise

theorem canon (x : Vec Ideal S352x256 .f32) : View.canon [⟨r0_8, x⟩] = x := by
  funext j; idx_vars j; canon_tiles y h
  exact congrArg x (funext fun a => Fin.ext (by fin_cases a; exacts [h0.symm, h1.symm]))

/-- Column `k` of tile `t`. -/
def col (t : Fin cfg0.N) (k : Fin 256) : Fin 1024 := ⟨t.val * 256 + k.val, by have := lt_of_lt_of_eq t.isLt N_0; omega⟩

section
variable (a0 : FVec Ideal S8x3x352x1024 .bf16) (a1 a2 a3 : FVec Ideal S1x1024x352 .f32) (t : Fin cfg0.N)

/-- An argument as the host hands it to the kernel. -/
abbrev flat (a : FVec Ideal S1x1024x352 .f32) : FVec Ideal S352x1024 .f32 :=
  transpose S352x1024 [1, 0] (shapeCast S1024x352 a Gen.shapeCasts_S1x1024x352_S1024x352) Gen.transposes_S1024x352_S352x1024_1_0

/-- A tile of the slots. -/
def slab (a : FVec Ideal S8x3x352x1024 .bf16) : FVec Ideal S8x1x352x256 .bf16 := fun y => a (ix4 (y 0) 0 (y 2) (col t (y 3)))

/-- A tile of columns. -/
def tile (a : FVec Ideal S352x1024 .f32) : FVec Ideal S352x256 .f32 := fun y => a (ix2 (y 0) (col t (y 1)))

theorem out4 : out0_4 (F := Ideal) (slab t a0) (tile t (flat a1)) (tile t (flat a2)) (tile t (flat a3))
    = tile t (val_main_v32 (F := Ideal) a0) := by
  rw [← val_main_v32_eq]
  unfold out0_4
  simp only [canon, ld]
  funext j
  idx_vars j
  pointwise! [k0_pay1, k0_pay2, k0_pay3, k0_pay4, k0_pay5, k0_pay6, slab, tile]
  simp only [Fin.sum_univ_eight]

theorem out5 : out0_5 (F := Ideal) (slab t a0) (tile t (flat a1)) (tile t (flat a2)) (tile t (flat a3))
    = tile t (val_main_v33 (F := Ideal) a0 a1 a2 a3) := by
  rw [← val_main_v33_eq]
  unfold out0_5
  simp only [canon, ld]
  funext j
  idx_vars j
  pointwise! [k0_pay1, k0_pay2, k0_pay3, k0_pay4, k0_pay5, k0_pay6, slab, tile]
  simp only [Fin.sum_univ_eight]

theorem out6 : out0_6 (F := Ideal) (slab t a0) (tile t (flat a1)) (tile t (flat a2)) (tile t (flat a3))
    = tile t (val_main_v34 (F := Ideal) a0 a2) := by
  rw [← val_main_v34_eq]
  unfold out0_6
  simp only [canon, ld]
  funext j
  idx_vars j
  pointwise! [k0_pay1, k0_pay2, k0_pay3, k0_pay4, k0_pay5, k0_pay6, slab, tile]
  simp only [Fin.sum_univ_eight]

theorem out7 : out0_7 (F := Ideal) (slab t a0) (tile t (flat a1)) (tile t (flat a2)) (tile t (flat a3))
    = tile t (val_main_v35 (F := Ideal) a0 a3) := by
  rw [← val_main_v35_eq]
  unfold out0_7
  simp only [canon, ld]
  funext j
  idx_vars j
  pointwise! [k0_pay1, k0_pay2, k0_pay3, k0_pay4, k0_pay5, k0_pay6, slab, tile]
  simp only [Fin.sum_univ_eight]

end

theorem idx : ∀ t : Fin cfg0.N, win0_0.index t = ![0, 0, 0, t.val] ∧ win0_1.index t = ![0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val] :=
  (by decide +kernel : ∀ t : Fin grid0.N, _)

variable (m : (ℓ : Loc nD τ sig) → Buf (Elt Ideal) ℓ)

theorem v0 (c : Dev nD) : V m c main_arg0 = m (c.tc.loc main_arg0) := V_main_arg0 m c

theorem b0 (c : Dev nD) (t : Fin cfg0.N) : iblk m c 0 t = slab t (m (c.tc.loc main_arg0)) := by
  obtain ⟨e, -⟩ := idx t
  rw [← v0 m c]
  funext j
  idx_vars j
  show V m c main_arg0 _ = V m c main_arg0 _
  blk_ext [e, col]

theorem v1 (c : Dev nD) : V m c main_v1 = flat (m (c.tc.loc main_arg1)) := by
  unfold_abbrev_sides
  after_results
  rfl

theorem b1 (c : Dev nD) (t : Fin cfg0.N) : iblk m c 1 t = tile t (flat (m (c.tc.loc main_arg1))) := by
  obtain ⟨-, e, -⟩ := idx t
  rw [← v1 m c]
  funext j
  idx_vars j
  show V m c main_v1 _ = V m c main_v1 _
  blk_ext [e, col]

theorem v2 (c : Dev nD) : V m c main_v3 = flat (m (c.tc.loc main_arg2)) := by
  unfold_abbrev_sides
  after_results
  rfl

theorem b2 (c : Dev nD) (t : Fin cfg0.N) : iblk m c 2 t = tile t (flat (m (c.tc.loc main_arg2))) := by
  obtain ⟨-, -, e, -⟩ := idx t
  rw [← v2 m c]
  funext j
  idx_vars j
  show V m c main_v3 _ = V m c main_v3 _
  blk_ext [e, col]

theorem v3 (c : Dev nD) : V m c main_v5 = flat (m (c.tc.loc main_arg3)) := by
  unfold_abbrev_sides
  after_results
  rfl

theorem b3 (c : Dev nD) (t : Fin cfg0.N) : iblk m c 3 t = tile t (flat (m (c.tc.loc main_arg3))) := by
  obtain ⟨-, -, -, e, -⟩ := idx t
  rw [← v3 m c]
  funext j
  idx_vars j
  show V m c main_v5 _ = V m c main_v5 _
  blk_ext [e, col]

theorem final4 (c : Dev nD) :
    (dats m 0 c).arrAt 4 (cfgs 0).N = val_main_v32 (F := Ideal) (m (c.tc.loc main_arg0)) := by
  refine (dats m 0 c).arrAt_eq_of_covers 4 _ (by decide +kernel) fun t hf y => ?_
  obtain ⟨-, -, -, -, e, -⟩ := idx t
  blk_simp; rw [after0_4, b0, b1, b2, b3, out4]
  refine congrArg (val_main_v32 (F := Ideal) (m (c.tc.loc main_arg0))) ?_
  funext a; apply Fin.ext; fin_cases a <;> simp [win0_4, e, col]

theorem final5 (c : Dev nD) :
    (dats m 0 c).arrAt 5 (cfgs 0).N = val_main_v33 (F := Ideal) (m (c.tc.loc main_arg0)) (m (c.tc.loc main_arg1)) (m (c.tc.loc main_arg2)) (m (c.tc.loc main_arg3)) := by
  refine (dats m 0 c).arrAt_eq_of_covers 5 _ (by decide +kernel) fun t hf y => ?_
  obtain ⟨-, -, -, -, -, e, -⟩ := idx t
  blk_simp; rw [after0_5, b0, b1, b2, b3, out5]
  refine congrArg (val_main_v33 (F := Ideal) (m (c.tc.loc main_arg0)) (m (c.tc.loc main_arg1)) (m (c.tc.loc main_arg2)) (m (c.tc.loc main_arg3))) ?_
  funext a; apply Fin.ext; fin_cases a <;> simp [win0_5, e, col]

theorem final6 (c : Dev nD) :
    (dats m 0 c).arrAt 6 (cfgs 0).N = val_main_v34 (F := Ideal) (m (c.tc.loc main_arg0)) (m (c.tc.loc main_arg2)) := by
  refine (dats m 0 c).arrAt_eq_of_covers 6 _ (by decide +kernel) fun t hf y => ?_
  obtain ⟨-, -, -, -, -, -, e, -⟩ := idx t
  blk_simp; rw [after0_6, b0, b1, b2, b3, out6]
  refine congrArg (val_main_v34 (F := Ideal) (m (c.tc.loc main_arg0)) (m (c.tc.loc main_arg2))) ?_
  funext a; apply Fin.ext; fin_cases a <;> simp [win0_6, e, col]

theorem final7 (c : Dev nD) :
    (dats m 0 c).arrAt 7 (cfgs 0).N = val_main_v35 (F := Ideal) (m (c.tc.loc main_arg0)) (m (c.tc.loc main_arg3)) := by
  refine (dats m 0 c).arrAt_eq_of_covers 7 _ (by decide +kernel) fun t hf y => ?_
  obtain ⟨-, -, -, -, -, -, -, e⟩ := idx t
  blk_simp; rw [after0_7, b0, b1, b2, b3, out7]
  refine congrArg (val_main_v35 (F := Ideal) (m (c.tc.loc main_arg0)) (m (c.tc.loc main_arg3))) ?_
  funext a; apply Fin.ext; fin_cases a <;> simp [win0_7, e, col]

set_option maxHeartbeats 2000000 in
/-- The kernel's four arrays are the reference's, for every argument. -/
theorem algebraic : Cert.algebraic_AdamGateIdeal_AdamGateRefIdeal := by
  pair_intro
  · run_from Cert.AdamGateIdeal.Gen.run_main m g
  · refine (θ_run _ _ _).mono (fun r h c => ?_) (Cert.AdamGateRefIdeal.Tie.run_read m' g')
    obtain ⟨a0, a1, a2, a3⟩ := hagree c
    obtain ⟨e0, e1, e2, e3, e⟩ := h c
    have w0 := (e0.trans (congrArg (val_main_v32 (F := Ideal)) a0)).trans (final4 m c).symm
    have w1 := (e1.trans (congr4 (val_main_v33 (F := Ideal)) a0 a1 a2 a3)).trans (final5 m c).symm
    have w2 := (e2.trans (congrArg₂ (val_main_v34 (F := Ideal)) a0 a2)).trans (final6 m c).symm
    have w3 := (e3.trans (congrArg₂ (val_main_v35 (F := Ideal)) a0 a3)).trans (final7 m c).symm
    exact ⟨w0, w1, w2, w3, e⟩

end Cert.AdamGateIdeal.Tie

end
-- ==== Proof.AdamUp.Value.lean ====
/- The optimiser step on the shard of the feed-forward's second matrix, transposed, a tile of columns at a time. -/
module

public import proofs.«01_k».proof.Proof.Gen.AdamUpIdeal.Frame
public import proofs.«01_k».proof.Proof.Gen.AdamUpRefIdeal.Read
public import proofs.«01_k».proof.Proof.Gen.AdamUpRefIdeal.Run
public import proofs.«01_k».proof.Proof.Common.Congr
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.AdamUpRefIdeal.Tie

open Cert.AdamUpRefIdeal.Read
open Cert.AdamUpRefIdeal Idealize.ShloMosaic Idealize.ShloMosaic.TcCoe Idealize.SL.Sem

/-- The reference's results, read in the stages of its own text. -/
theorem run_read (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v32) = val_main_v32 (F := Ideal) (m (c.tc.loc main_arg0))
      ∧ r.2.mem (c.tc.loc main_v33) = val_main_v33 (F := Ideal) (m (c.tc.loc main_arg0)) (m (c.tc.loc main_arg1)) (m (c.tc.loc main_arg2)) (m (c.tc.loc main_arg3))
      ∧ r.2.mem (c.tc.loc main_v34) = val_main_v34 (F := Ideal) (m (c.tc.loc main_arg0)) (m (c.tc.loc main_arg2))
      ∧ r.2.mem (c.tc.loc main_v35) = val_main_v35 (F := Ideal) (m (c.tc.loc main_arg0)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run _ _ _).mono (fun r h c => ⟨(h c).1.trans (val_main_v32_eq _), (h c).2.1.trans (val_main_v33_eq _ _ _ _), (h c).2.2.1.trans (val_main_v34_eq _ _), (h c).2.2.2.1.trans (val_main_v35_eq _ _), (h c).2.2.2.2⟩) (Value.run m ρ)

end Cert.AdamUpRefIdeal.Tie

namespace Cert.AdamUpIdeal.Tie

open Cert.AdamUpRefIdeal.Read
open Cert.AdamUpIdeal Cert.AdamUpIdeal.Gen Idealize.ShloMosaic Idealize.ShloMosaic.TcCoe Idealize.SL.Sem Cert.Common

theorem ld (x : Vec Ideal S352x256 .f32) : View.ld x r0_8 = x := by
  funext j; idx_vars j; pointwise

theorem canon (x : Vec Ideal S352x256 .f32) : View.canon [⟨r0_8, x⟩] = x := by
  funext j; idx_vars j; canon_tiles y h
  exact congrArg x (funext fun a => Fin.ext (by fin_cases a; exacts [h0.symm, h1.symm]))

/-- Column `k` of tile `t`. -/
def col (t : Fin cfg0.N) (k : Fin 256) : Fin 1024 := ⟨t.val * 256 + k.val, by have := lt_of_lt_of_eq t.isLt N_0; omega⟩

section
variable (a0 : FVec Ideal S8x3x352x1024 .bf16) (a1 a2 a3 : FVec Ideal S1x1024x352 .f32) (t : Fin cfg0.N)

/-- An argument as the host hands it to the kernel. -/
abbrev flat (a : FVec Ideal S1x1024x352 .f32) : FVec Ideal S352x1024 .f32 :=
  transpose S352x1024 [1, 0] (shapeCast S1024x352 a Gen.shapeCasts_S1x1024x352_S1024x352) Gen.transposes_S1024x352_S352x1024_1_0

/-- A tile of the slots. -/
def slab (a : FVec Ideal S8x3x352x1024 .bf16) : FVec Ideal S8x1x352x256 .bf16 := fun y => a (ix4 (y 0) 1 (y 2) (col t (y 3)))

/-- A tile of columns. -/
def tile (a : FVec Ideal S352x1024 .f32) : FVec Ideal S352x256 .f32 := fun y => a (ix2 (y 0) (col t (y 1)))

theorem out4 : out0_4 (F := Ideal) (slab t a0) (tile t (flat a1)) (tile t (flat a2)) (tile t (flat a3))
    = tile t (val_main_v32 (F := Ideal) a0) := by
  rw [← val_main_v32_eq]
  unfold out0_4
  simp only [canon, ld]
  funext j
  idx_vars j
  pointwise! [k0_pay1, k0_pay2, k0_pay3, k0_pay4, k0_pay5, k0_pay6, slab, tile]
  simp only [Fin.sum_univ_eight]

theorem out5 : out0_5 (F := Ideal) (slab t a0) (tile t (flat a1)) (tile t (flat a2)) (tile t (flat a3))
    = tile t (val_main_v33 (F := Ideal) a0 a1 a2 a3) := by
  rw [← val_main_v33_eq]
  unfold out0_5
  simp only [canon, ld]
  funext j
  idx_vars j
  pointwise! [k0_pay1, k0_pay2, k0_pay3, k0_pay4, k0_pay5, k0_pay6, slab, tile]
  simp only [Fin.sum_univ_eight]

theorem out6 : out0_6 (F := Ideal) (slab t a0) (tile t (flat a1)) (tile t (flat a2)) (tile t (flat a3))
    = tile t (val_main_v34 (F := Ideal) a0 a2) := by
  rw [← val_main_v34_eq]
  unfold out0_6
  simp only [canon, ld]
  funext j
  idx_vars j
  pointwise! [k0_pay1, k0_pay2, k0_pay3, k0_pay4, k0_pay5, k0_pay6, slab, tile]
  simp only [Fin.sum_univ_eight]

theorem out7 : out0_7 (F := Ideal) (slab t a0) (tile t (flat a1)) (tile t (flat a2)) (tile t (flat a3))
    = tile t (val_main_v35 (F := Ideal) a0 a3) := by
  rw [← val_main_v35_eq]
  unfold out0_7
  simp only [canon, ld]
  funext j
  idx_vars j
  pointwise! [k0_pay1, k0_pay2, k0_pay3, k0_pay4, k0_pay5, k0_pay6, slab, tile]
  simp only [Fin.sum_univ_eight]

end

theorem idx : ∀ t : Fin cfg0.N, win0_0.index t = ![0, 1, 0, t.val] ∧ win0_1.index t = ![0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val] :=
  (by decide +kernel : ∀ t : Fin grid0.N, _)

variable (m : (ℓ : Loc nD τ sig) → Buf (Elt Ideal) ℓ)

theorem v0 (c : Dev nD) : V m c main_arg0 = m (c.tc.loc main_arg0) := V_main_arg0 m c

theorem b0 (c : Dev nD) (t : Fin cfg0.N) : iblk m c 0 t = slab t (m (c.tc.loc main_arg0)) := by
  obtain ⟨e, -⟩ := idx t
  rw [← v0 m c]
  funext j
  idx_vars j
  show V m c main_arg0 _ = V m c main_arg0 _
  blk_ext [e, col]

theorem v1 (c : Dev nD) : V m c main_v1 = flat (m (c.tc.loc main_arg1)) := by
  unfold_abbrev_sides
  after_results
  rfl

theorem b1 (c : Dev nD) (t : Fin cfg0.N) : iblk m c 1 t = tile t (flat (m (c.tc.loc main_arg1))) := by
  obtain ⟨-, e, -⟩ := idx t
  rw [← v1 m c]
  funext j
  idx_vars j
  show V m c main_v1 _ = V m c main_v1 _
  blk_ext [e, col]

theorem v2 (c : Dev nD) : V m c main_v3 = flat (m (c.tc.loc main_arg2)) := by
  unfold_abbrev_sides
  after_results
  rfl

theorem b2 (c : Dev nD) (t : Fin cfg0.N) : iblk m c 2 t = tile t (flat (m (c.tc.loc main_arg2))) := by
  obtain ⟨-, -, e, -⟩ := idx t
  rw [← v2 m c]
  funext j
  idx_vars j
  show V m c main_v3 _ = V m c main_v3 _
  blk_ext [e, col]

theorem v3 (c : Dev nD) : V m c main_v5 = flat (m (c.tc.loc main_arg3)) := by
  unfold_abbrev_sides
  after_results
  rfl

theorem b3 (c : Dev nD) (t : Fin cfg0.N) : iblk m c 3 t = tile t (flat (m (c.tc.loc main_arg3))) := by
  obtain ⟨-, -, -, e, -⟩ := idx t
  rw [← v3 m c]
  funext j
  idx_vars j
  show V m c main_v5 _ = V m c main_v5 _
  blk_ext [e, col]

theorem final4 (c : Dev nD) :
    (dats m 0 c).arrAt 4 (cfgs 0).N = val_main_v32 (F := Ideal) (m (c.tc.loc main_arg0)) := by
  refine (dats m 0 c).arrAt_eq_of_covers 4 _ (by decide +kernel) fun t hf y => ?_
  obtain ⟨-, -, -, -, e, -⟩ := idx t
  blk_simp; rw [after0_4, b0, b1, b2, b3, out4]
  refine congrArg (val_main_v32 (F := Ideal) (m (c.tc.loc main_arg0))) ?_
  funext a; apply Fin.ext; fin_cases a <;> simp [win0_4, e, col]

theorem final5 (c : Dev nD) :
    (dats m 0 c).arrAt 5 (cfgs 0).N = val_main_v33 (F := Ideal) (m (c.tc.loc main_arg0)) (m (c.tc.loc main_arg1)) (m (c.tc.loc main_arg2)) (m (c.tc.loc main_arg3)) := by
  refine (dats m 0 c).arrAt_eq_of_covers 5 _ (by decide +kernel) fun t hf y => ?_
  obtain ⟨-, -, -, -, -, e, -⟩ := idx t
  blk_simp; rw [after0_5, b0, b1, b2, b3, out5]
  refine congrArg (val_main_v33 (F := Ideal) (m (c.tc.loc main_arg0)) (m (c.tc.loc main_arg1)) (m (c.tc.loc main_arg2)) (m (c.tc.loc main_arg3))) ?_
  funext a; apply Fin.ext; fin_cases a <;> simp [win0_5, e, col]

theorem final6 (c : Dev nD) :
    (dats m 0 c).arrAt 6 (cfgs 0).N = val_main_v34 (F := Ideal) (m (c.tc.loc main_arg0)) (m (c.tc.loc main_arg2)) := by
  refine (dats m 0 c).arrAt_eq_of_covers 6 _ (by decide +kernel) fun t hf y => ?_
  obtain ⟨-, -, -, -, -, -, e, -⟩ := idx t
  blk_simp; rw [after0_6, b0, b1, b2, b3, out6]
  refine congrArg (val_main_v34 (F := Ideal) (m (c.tc.loc main_arg0)) (m (c.tc.loc main_arg2))) ?_
  funext a; apply Fin.ext; fin_cases a <;> simp [win0_6, e, col]

theorem final7 (c : Dev nD) :
    (dats m 0 c).arrAt 7 (cfgs 0).N = val_main_v35 (F := Ideal) (m (c.tc.loc main_arg0)) (m (c.tc.loc main_arg3)) := by
  refine (dats m 0 c).arrAt_eq_of_covers 7 _ (by decide +kernel) fun t hf y => ?_
  obtain ⟨-, -, -, -, -, -, -, e⟩ := idx t
  blk_simp; rw [after0_7, b0, b1, b2, b3, out7]
  refine congrArg (val_main_v35 (F := Ideal) (m (c.tc.loc main_arg0)) (m (c.tc.loc main_arg3))) ?_
  funext a; apply Fin.ext; fin_cases a <;> simp [win0_7, e, col]

set_option maxHeartbeats 2000000 in
/-- The kernel's four arrays are the reference's, for every argument. -/
theorem algebraic : Cert.algebraic_AdamUpIdeal_AdamUpRefIdeal := by
  pair_intro
  · run_from Cert.AdamUpIdeal.Gen.run_main m g
  · refine (θ_run _ _ _).mono (fun r h c => ?_) (Cert.AdamUpRefIdeal.Tie.run_read m' g')
    obtain ⟨a0, a1, a2, a3⟩ := hagree c
    obtain ⟨e0, e1, e2, e3, e⟩ := h c
    have w0 := (e0.trans (congrArg (val_main_v32 (F := Ideal)) a0)).trans (final4 m c).symm
    have w1 := (e1.trans (congr4 (val_main_v33 (F := Ideal)) a0 a1 a2 a3)).trans (final5 m c).symm
    have w2 := (e2.trans (congrArg₂ (val_main_v34 (F := Ideal)) a0 a2)).trans (final6 m c).symm
    have w3 := (e3.trans (congrArg₂ (val_main_v35 (F := Ideal)) a0 a3)).trans (final7 m c).symm
    exact ⟨w0, w1, w2, w3, e⟩

end Cert.AdamUpIdeal.Tie

end
-- ==== Proof.AdamDown.Value.lean ====
/- The optimiser step on the shard of the feed-forward's third matrix, a tile of columns at a time. -/
module

public import proofs.«01_k».proof.Proof.Gen.AdamDownIdeal.Frame
public import proofs.«01_k».proof.Proof.Gen.AdamDownRefIdeal.Read
public import proofs.«01_k».proof.Proof.Gen.AdamDownRefIdeal.Run
public import proofs.«01_k».proof.Proof.Common.Congr
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.AdamDownRefIdeal.Tie

open Cert.AdamDownRefIdeal.Read
open Cert.AdamDownRefIdeal Idealize.ShloMosaic Idealize.ShloMosaic.TcCoe Idealize.SL.Sem

/-- The reference's results, read in the stages of its own text. -/
theorem run_read (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v4) = val_main_v4 (F := Ideal) (m (c.tc.loc main_arg0))
      ∧ r.2.mem (c.tc.loc main_v30) = val_main_v30 (F := Ideal) (m (c.tc.loc main_arg0)) (m (c.tc.loc main_arg1)) (m (c.tc.loc main_arg2)) (m (c.tc.loc main_arg3))
      ∧ r.2.mem (c.tc.loc main_v11) = val_main_v11 (F := Ideal) (m (c.tc.loc main_arg0)) (m (c.tc.loc main_arg2))
      ∧ r.2.mem (c.tc.loc main_v17) = val_main_v17 (F := Ideal) (m (c.tc.loc main_arg0)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run _ _ _).mono (fun r h c => ⟨(h c).1.trans (val_main_v4_eq _), (h c).2.1.trans (val_main_v30_eq _ _ _ _), (h c).2.2.1.trans (val_main_v11_eq _ _), (h c).2.2.2.1.trans (val_main_v17_eq _ _), (h c).2.2.2.2⟩) (Value.run m ρ)

end Cert.AdamDownRefIdeal.Tie

namespace Cert.AdamDownIdeal.Tie

open Cert.AdamDownRefIdeal.Read
open Cert.AdamDownIdeal Cert.AdamDownIdeal.Gen Idealize.ShloMosaic Idealize.ShloMosaic.TcCoe Idealize.SL.Sem Cert.Common

theorem ld (x : Vec Ideal S352x256 .f32) : View.ld x r0_8 = x := by
  funext j; idx_vars j; pointwise

theorem canon (x : Vec Ideal S352x256 .f32) : View.canon [⟨r0_8, x⟩] = x := by
  funext j; idx_vars j; canon_tiles y h
  exact congrArg x (funext fun a => Fin.ext (by fin_cases a; exacts [h0.symm, h1.symm]))

/-- Column `k` of tile `t`. -/
def col (t : Fin cfg0.N) (k : Fin 256) : Fin 1024 := ⟨t.val * 256 + k.val, by have := lt_of_lt_of_eq t.isLt N_0; omega⟩

section
variable (a0 : FVec Ideal S8x3x352x1024 .bf16) (a1 a2 a3 : FVec Ideal S1x352x1024 .f32) (t : Fin cfg0.N)

/-- An argument as the host hands it to the kernel. -/
abbrev flat (a : FVec Ideal S1x352x1024 .f32) : FVec Ideal S352x1024 .f32 :=
  shapeCast S352x1024 a Gen.shapeCasts_S1x352x1024_S352x1024

/-- A tile of the slots. -/
def slab (a : FVec Ideal S8x3x352x1024 .bf16) : FVec Ideal S8x1x352x256 .bf16 := fun y => a (ix4 (y 0) 2 (y 2) (col t (y 3)))

/-- A tile of columns. -/
def tile (a : FVec Ideal S352x1024 .f32) : FVec Ideal S352x256 .f32 := fun y => a (ix2 (y 0) (col t (y 1)))

theorem out4 : out0_4 (F := Ideal) (slab t a0) (tile t (flat a1)) (tile t (flat a2)) (tile t (flat a3))
    = tile t (val_main_v4 (F := Ideal) a0) := by
  rw [← val_main_v4_eq]
  unfold out0_4
  simp only [canon, ld]
  funext j
  idx_vars j
  pointwise! [k0_pay1, k0_pay2, k0_pay3, k0_pay4, k0_pay5, k0_pay6, slab, tile]
  simp only [Fin.sum_univ_eight]

theorem out5 : out0_5 (F := Ideal) (slab t a0) (tile t (flat a1)) (tile t (flat a2)) (tile t (flat a3))
    = tile t (val_main_v30 (F := Ideal) a0 a1 a2 a3) := by
  rw [← val_main_v30_eq]
  unfold out0_5
  simp only [canon, ld]
  funext j
  idx_vars j
  pointwise! [k0_pay1, k0_pay2, k0_pay3, k0_pay4, k0_pay5, k0_pay6, slab, tile]
  simp only [Fin.sum_univ_eight]

theorem out6 : out0_6 (F := Ideal) (slab t a0) (tile t (flat a1)) (tile t (flat a2)) (tile t (flat a3))
    = tile t (val_main_v11 (F := Ideal) a0 a2) := by
  rw [← val_main_v11_eq]
  unfold out0_6
  simp only [canon, ld]
  funext j
  idx_vars j
  pointwise! [k0_pay1, k0_pay2, k0_pay3, k0_pay4, k0_pay5, k0_pay6, slab, tile]
  simp only [Fin.sum_univ_eight]

theorem out7 : out0_7 (F := Ideal) (slab t a0) (tile t (flat a1)) (tile t (flat a2)) (tile t (flat a3))
    = tile t (val_main_v17 (F := Ideal) a0 a3) := by
  rw [← val_main_v17_eq]
  unfold out0_7
  simp only [canon, ld]
  funext j
  idx_vars j
  pointwise! [k0_pay1, k0_pay2, k0_pay3, k0_pay4, k0_pay5, k0_pay6, slab, tile]
  simp only [Fin.sum_univ_eight]

end

theorem idx : ∀ t : Fin cfg0.N, win0_0.index t = ![0, 2, 0, t.val] ∧ win0_1.index t = ![0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val] :=
  (by decide +kernel : ∀ t : Fin grid0.N, _)

variable (m : (ℓ : Loc nD τ sig) → Buf (Elt Ideal) ℓ)

theorem v0 (c : Dev nD) : V m c main_arg0 = m (c.tc.loc main_arg0) := V_main_arg0 m c

theorem b0 (c : Dev nD) (t : Fin cfg0.N) : iblk m c 0 t = slab t (m (c.tc.loc main_arg0)) := by
  obtain ⟨e, -⟩ := idx t
  rw [← v0 m c]
  funext j
  idx_vars j
  show V m c main_arg0 _ = V m c main_arg0 _
  blk_ext [e, col]

theorem v1 (c : Dev nD) : V m c main_v0 = flat (m (c.tc.loc main_arg1)) := by
  unfold_abbrev_sides
  after_results
  rfl

theorem b1 (c : Dev nD) (t : Fin cfg0.N) : iblk m c 1 t = tile t (flat (m (c.tc.loc main_arg1))) := by
  obtain ⟨-, e, -⟩ := idx t
  rw [← v1 m c]
  funext j
  idx_vars j
  show V m c main_v0 _ = V m c main_v0 _
  blk_ext [e, col]

theorem v2 (c : Dev nD) : V m c main_v1 = flat (m (c.tc.loc main_arg2)) := by
  unfold_abbrev_sides
  after_results
  rfl

theorem b2 (c : Dev nD) (t : Fin cfg0.N) : iblk m c 2 t = tile t (flat (m (c.tc.loc main_arg2))) := by
  obtain ⟨-, -, e, -⟩ := idx t
  rw [← v2 m c]
  funext j
  idx_vars j
  show V m c main_v1 _ = V m c main_v1 _
  blk_ext [e, col]

theorem v3 (c : Dev nD) : V m c main_v2 = flat (m (c.tc.loc main_arg3)) := by
  unfold_abbrev_sides
  after_results
  rfl

theorem b3 (c : Dev nD) (t : Fin cfg0.N) : iblk m c 3 t = tile t (flat (m (c.tc.loc main_arg3))) := by
  obtain ⟨-, -, -, e, -⟩ := idx t
  rw [← v3 m c]
  funext j
  idx_vars j
  show V m c main_v2 _ = V m c main_v2 _
  blk_ext [e, col]

theorem final4 (c : Dev nD) :
    (dats m 0 c).arrAt 4 (cfgs 0).N = val_main_v4 (F := Ideal) (m (c.tc.loc main_arg0)) := by
  refine (dats m 0 c).arrAt_eq_of_covers 4 _ (by decide +kernel) fun t hf y => ?_
  obtain ⟨-, -, -, -, e, -⟩ := idx t
  blk_simp; rw [after0_4, b0, b1, b2, b3, out4]
  refine congrArg (val_main_v4 (F := Ideal) (m (c.tc.loc main_arg0))) ?_
  funext a; apply Fin.ext; fin_cases a <;> simp [win0_4, e, col]

theorem final5 (c : Dev nD) :
    (dats m 0 c).arrAt 5 (cfgs 0).N = val_main_v30 (F := Ideal) (m (c.tc.loc main_arg0)) (m (c.tc.loc main_arg1)) (m (c.tc.loc main_arg2)) (m (c.tc.loc main_arg3)) := by
  refine (dats m 0 c).arrAt_eq_of_covers 5 _ (by decide +kernel) fun t hf y => ?_
  obtain ⟨-, -, -, -, -, e, -⟩ := idx t
  blk_simp; rw [after0_5, b0, b1, b2, b3, out5]
  refine congrArg (val_main_v30 (F := Ideal) (m (c.tc.loc main_arg0)) (m (c.tc.loc main_arg1)) (m (c.tc.loc main_arg2)) (m (c.tc.loc main_arg3))) ?_
  funext a; apply Fin.ext; fin_cases a <;> simp [win0_5, e, col]

theorem final6 (c : Dev nD) :
    (dats m 0 c).arrAt 6 (cfgs 0).N = val_main_v11 (F := Ideal) (m (c.tc.loc main_arg0)) (m (c.tc.loc main_arg2)) := by
  refine (dats m 0 c).arrAt_eq_of_covers 6 _ (by decide +kernel) fun t hf y => ?_
  obtain ⟨-, -, -, -, -, -, e, -⟩ := idx t
  blk_simp; rw [after0_6, b0, b1, b2, b3, out6]
  refine congrArg (val_main_v11 (F := Ideal) (m (c.tc.loc main_arg0)) (m (c.tc.loc main_arg2))) ?_
  funext a; apply Fin.ext; fin_cases a <;> simp [win0_6, e, col]

theorem final7 (c : Dev nD) :
    (dats m 0 c).arrAt 7 (cfgs 0).N = val_main_v17 (F := Ideal) (m (c.tc.loc main_arg0)) (m (c.tc.loc main_arg3)) := by
  refine (dats m 0 c).arrAt_eq_of_covers 7 _ (by decide +kernel) fun t hf y => ?_
  obtain ⟨-, -, -, -, -, -, -, e⟩ := idx t
  blk_simp; rw [after0_7, b0, b1, b2, b3, out7]
  refine congrArg (val_main_v17 (F := Ideal) (m (c.tc.loc main_arg0)) (m (c.tc.loc main_arg3))) ?_
  funext a; apply Fin.ext; fin_cases a <;> simp [win0_7, e, col]

set_option maxHeartbeats 2000000 in
/-- The kernel's four arrays are the reference's, for every argument. -/
theorem algebraic : Cert.algebraic_AdamDownIdeal_AdamDownRefIdeal := by
  pair_intro
  · run_from Cert.AdamDownIdeal.Gen.run_main m g
  · refine (θ_run _ _ _).mono (fun r h c => ?_) (Cert.AdamDownRefIdeal.Tie.run_read m' g')
    obtain ⟨a0, a1, a2, a3⟩ := hagree c
    obtain ⟨e0, e1, e2, e3, e⟩ := h c
    have w0 := (e0.trans (congrArg (val_main_v4 (F := Ideal)) a0)).trans (final4 m c).symm
    have w1 := (e1.trans (congr4 (val_main_v30 (F := Ideal)) a0 a1 a2 a3)).trans (final5 m c).symm
    have w2 := (e2.trans (congrArg₂ (val_main_v11 (F := Ideal)) a0 a2)).trans (final6 m c).symm
    have w3 := (e3.trans (congrArg₂ (val_main_v17 (F := Ideal)) a0 a3)).trans (final7 m c).symm
    exact ⟨w0, w1, w2, w3, e⟩

end Cert.AdamDownIdeal.Tie

end
-- ==== Proof.Wgrad.Blocks.lean ====
/- The feed-forward's weight gradients: what each window's block holds at a grid point, and what the body leaves in the carried
   tile and in the output, at an index. -/
module

public import proofs.«01_k».proof.Proof.Gen.WgradIdeal.Frame
public import proofs.«01_k».proof.Proof.Common.Rows
public import proofs.«01_k».proof.Proof.Common.Store
public import Idealize.ShloMosaic.Lib.Pipeline.ValueKit
public import Idealize.ShloMosaic.Lib.Pointwise
public import Idealize.ShloMosaic.Lib.Claim

@[expose] public section

set_option maxRecDepth 16384

noncomputable section

namespace Cert.WgradIdeal.Tie

open Cert.WgradIdeal Cert.WgradIdeal.Gen Cert.Common Idealize.ShloMosaic Idealize.ShloMosaic.TcCoe Idealize.SL.Sem
open Idealize.ShloMosaic.Pipeline (Dat)

variable (m : (ℓ : Loc nD τ sig) → Buf (Elt Ideal) ℓ)

/-- Each window's block index at every grid point. -/
theorem idx : ∀ t : Fin cfg0.N, win0_0.index t = ![t.val / 2, t.val % 2]
    ∧ (t.val < 8 → win0_1.index t = ![t.val % 2, 0]) ∧ (8 ≤ t.val → win0_2.index t = ![t.val % 2, 0])
    ∧ win0_3.index t = ![t.val / 2 % 2, t.val / 4, 0, 0] :=
  (by decide +kernel : ∀ t : Fin grid0.N, _)

/-! ## What the host line leaves -/

theorem padWide (a : FVec Ideal S4112x2816 .f32) (R : Fin 4352) (k : Fin 2816) :
    pad S4352x2816 ![240, 0] ![0, 0] ![0, 0] a (sitofp (F := Ideal) .f32 (constantI S_ 32 0#32)) pads_S4112x2816_S4352x2816_24000_000 h_S_ (ix2 R k)
      = padRow a R.val k := by
  pointwise; simp only [padRow, sitofp_zero]

theorem padNarrow (a : FVec Ideal S4112x1024 .f32) (R : Fin 4352) (k : Fin 1024) :
    pad S4352x1024 ![240, 0] ![0, 0] ![0, 0] a (sitofp (F := Ideal) .f32 (constantI S_ 32 0#32)) pads_S4112x1024_S4352x1024_24000_000 h_S_ (ix2 R k)
      = padRow a R.val k := by
  pointwise; simp only [padRow, sitofp_zero]

theorem V9_all (c : Dev nD) : V m c main_v9 = truncf (F := Ideal) .bf16 (pad S4352x1024 ![240, 0] ![0, 0] ![0, 0] (m (c.tc.loc main_arg3))
    (sitofp (F := Ideal) .f32 (constantI S_ 32 0#32)) pads_S4112x1024_S4352x1024_24000_000 h_S_) bitsLt_bf16_f32 := by
  unfold_abbrev_sides
  simp only [List.flatten_cons, List.flatten_nil, List.append_nil, List.cons_append, List.nil_append]
  after_results
  rfl

theorem V9 (c : Dev nD) (R : Fin 4352) (k : Fin 1024) : V m c main_v9 (ix2 R k) = padRow (m (c.tc.loc main_arg3)) R.val k := by
  rw [V9_all]
  exact padNarrow _ R k

theorem V11_all (c : Dev nD) : V m c main_v11 = truncf (F := Ideal) .bf16 (pad S4352x1024 ![240, 0] ![0, 0] ![0, 0] (m (c.tc.loc main_arg4))
    (sitofp (F := Ideal) .f32 (constantI S_ 32 0#32)) pads_S4112x1024_S4352x1024_24000_000 h_S_) bitsLt_bf16_f32 := by
  unfold_abbrev_sides
  simp only [List.flatten_cons, List.flatten_nil, List.append_nil, List.cons_append, List.nil_append]
  after_results
  rfl

theorem V11 (c : Dev nD) (R : Fin 4352) (k : Fin 1024) : V m c main_v11 (ix2 R k) = padRow (m (c.tc.loc main_arg4)) R.val k := by
  rw [V11_all]
  exact padNarrow _ R k

/-- The array the `p`-th third of the stacked rows comes from. -/
def lhs (c : Dev nD) (p : ℕ) : FVec Ideal S4112x2816 .f32 :=
  if p = 0 then m (c.tc.loc main_arg0) else if p = 1 then m (c.tc.loc main_arg1) else m (c.tc.loc main_arg2)

/-- A matrix as the host hands it to the kernel: below its rows of zeros, transposed. -/
abbrev flip (a : FVec Ideal S4112x2816 .f32) : FVec Ideal S2816x4352 .f32 :=
  transpose S2816x4352 [1, 0] (pad S4352x2816 ![240, 0] ![0, 0] ![0, 0] a (sitofp (F := Ideal) .f32 (constantI S_ 32 0#32)) pads_S4112x2816_S4352x2816_24000_000 h_S_)
    transposes_S4352x2816_S2816x4352_1_0

theorem flip_at (a : FVec Ideal S4112x2816 .f32) (R : Fin 2816) (l : Fin 4352) : flip a (ix2 R l) = padRow a l.val R := by
  rw [← padWide]
  pointwise

theorem stack (c : Dev nD) : V m c main_v7 = truncf (F := Ideal) .bf16 (concatenate S8448x4352 0 [⟨S2816x4352, flip (m (c.tc.loc main_arg0))⟩,
    ⟨S2816x4352, flip (m (c.tc.loc main_arg1))⟩, ⟨S2816x4352, flip (m (c.tc.loc main_arg2))⟩] concatenates_S2816x4352_S2816x4352_S2816x4352_S8448x4352_d0) bitsLt_bf16_f32 := by
  unfold_abbrev_sides
  simp only [List.flatten_cons, List.flatten_nil, List.append_nil, List.cons_append, List.nil_append]
  after_results
  rfl

theorem lhs_0 (c : Dev nD) {p : ℕ} (h : p = 0) : lhs m c p = m (c.tc.loc main_arg0) := if_pos h

theorem lhs_1 (c : Dev nD) {p : ℕ} (h : p = 1) : lhs m c p = m (c.tc.loc main_arg1) := by
  rw [lhs, if_neg (by omega), if_pos h]

theorem lhs_2 (c : Dev nD) {p : ℕ} (h : 2 ≤ p) : lhs m c p = m (c.tc.loc main_arg2) := by
  rw [lhs, if_neg (by omega), if_neg (by omega)]

theorem V7 (c : Dev nD) (R : Fin 8448) (l : Fin 4352) :
    V m c main_v7 (ix2 R l) = padRow (lhs m c (R.val / 2816)) l.val ⟨R.val % 2816, Nat.mod_lt _ (by omega)⟩ := by
  rw [stack]
  generalize ha : flip (m (c.tc.loc main_arg0)) = a
  generalize hb : flip (m (c.tc.loc main_arg1)) = b
  generalize hd : flip (m (c.tc.loc main_arg2)) = d
  pointwise
  subst ha hb hd
  simp only [flip_at]
  split
  · next h =>
    rw [lhs_0 m c (p := R.val / 2816) (by omega)]
    exact congrArg _ (Fin.ext (by show R.val = R.val % 2816; omega))
  · next h =>
    split
    · next h' =>
      rw [lhs_1 m c (p := R.val / 2816) (by omega)]
      exact congrArg _ (Fin.ext (by show R.val - 2816 = R.val % 2816; omega))
    · next h' =>
      rw [lhs_2 m c (p := R.val / 2816) (by omega)]
      exact congrArg _ (Fin.ext (by show R.val - 2816 - 2816 = R.val % 2816; omega))

/-! ## The blocks -/

/-- Row `x` of step `t % 2`. -/
abbrev row (t : Fin cfg0.N) (x : Fin 2176) : Fin 4352 := ⟨t.val % 2 * 2176 + x.val, by omega⟩

/-- Row `r` of tile `t / 2`. -/
abbrev out (t : Fin cfg0.N) (r : Fin 1408) : Fin 8448 := ⟨t.val / 2 * 1408 + r.val, by have := lt_of_lt_of_eq t.isLt N_0; omega⟩

theorem b0 (c : Dev nD) (t : Fin cfg0.N) (r : Fin 1408) (x : Fin 2176) :
    iblk m c 0 t (ix2 r x) = padRow (lhs m c ((out t r).val / 2816)) (row t x).val ⟨(out t r).val % 2816, Nat.mod_lt _ (by omega)⟩ := by
  obtain ⟨e, -⟩ := idx t
  rw [← V7]
  show V m c main_v7 _ = _
  blk_ext [e]

theorem b1 (c : Dev nD) (t : Fin cfg0.N) (h : t.val < 8) (x : Fin 2176) (k : Fin 1024) :
    iblk m c 1 t (ix2 x k) = padRow (m (c.tc.loc main_arg3)) (row t x).val k := by
  obtain ⟨-, e, -⟩ := idx t
  replace e := e h
  rw [← V9]
  show V m c main_v9 _ = _
  blk_ext [e]

theorem b2 (c : Dev nD) (t : Fin cfg0.N) (h : 8 ≤ t.val) (x : Fin 2176) (k : Fin 1024) :
    iblk m c 2 t (ix2 x k) = padRow (m (c.tc.loc main_arg4)) (row t x).val k := by
  obtain ⟨-, -, e, -⟩ := idx t
  replace e := e h
  rw [← V11]
  show V m c main_v11 _ = _
  blk_ext [e]

/-- The rows the `p`-th third is multiplied by. -/
def rhs (c : Dev nD) (p : ℕ) : FVec Ideal S4112x1024 .f32 := if p < 2 then m (c.tc.loc main_arg3) else m (c.tc.loc main_arg4)

/-- What row `R` of the padded arrays adds to the product at row `s` of the stacked rows and column `d`. -/
def term (c : Dev nD) (s : ℕ) (d : Fin 1024) (R : ℕ) : EReal :=
  padRow (lhs m c (s / 2816)) R ⟨s % 2816, Nat.mod_lt _ (by omega)⟩ * padRow (rhs m c (s / 2816)) R d

/-- What a grid point adds to the carried tile. -/
def step (c : Dev nD) (t : Fin cfg0.N) (r : Fin 1408) (d : Fin 1024) : EReal :=
  ∑ x : Fin 2176, term m c (out t r).val d (t.val % 2 * 2176 + x.val)

/-- The product of a block of the stacked rows and a block of the other rows, at an index. -/
def prod (a : Vec Ideal S1408x2176 .bf16) (b : Vec Ideal S2176x1024 .bf16) (r : Fin 1408) (d : Fin 1024) : EReal :=
  ∑ x : Fin 2176, a (ix2 r x) * b (ix2 x d)

theorem low (c : Dev nD) (t : Fin cfg0.N) (h : t.val < 8) (r : Fin 1408) (d : Fin 1024) :
    prod (iblk m c 0 t) (iblk m c 1 t) r d = step m c t r d := by
  refine Finset.sum_congr rfl fun x _ => ?_
  rw [b0, b1 m c t h, term, rhs, if_pos (by show (t.val / 2 * 1408 + r.val) / 2816 < 2; omega)]

theorem high (c : Dev nD) (t : Fin cfg0.N) (h : 8 ≤ t.val) (r : Fin 1408) (d : Fin 1024) :
    prod (iblk m c 0 t) (iblk m c 2 t) r d = step m c t r d := by
  refine Finset.sum_congr rfl fun x _ => ?_
  rw [b0, b2 m c t h, term, rhs, if_neg (by show ¬ (t.val / 2 * 1408 + r.val) / 2816 < 2; omega)]

/-! ## What the body leaves -/

theorem pay2_at (acc a b) (r : Fin 1408) (d : Fin 1024) : k0_pay2 (F := Ideal) acc a b (ix2 r d) = acc (ix2 r d) + prod a b r d := by
  unfold prod
  pointwise [k0_pay2]

theorem pay3_at (acc a b) (r : Fin 1408) (d : Fin 1024) : k0_pay3 (F := Ideal) acc a b (ix2 r d) = acc (ix2 r d) + prod a b r d := by
  unfold prod
  pointwise [k0_pay3]

theorem carried_reset (c : Dev nD) (t : Fin cfg0.N) (h0 : t.val % 2 = 0) (y : S1408x1024.Idx) :
    (outsAt0 m c t.val t.isLt).2 y = (0 : EReal) + step m c t (y 0) (y 1) := by
  by_cases h : t.val < 8
  · rw [outsAt0_A m c t h0 h (by omega) (by omega)]; frame_out
    idx_vars y
    rw [pay2_at, low m c t h]
    pointwise [k0_pay1]
  · rw [outsAt0_C m c t h0 h (by omega) (by omega)]; frame_out
    idx_vars y
    rw [pay3_at, high m c t (by omega)]
    pointwise [k0_pay1]

theorem carried_step (c : Dev nD) (t : Fin cfg0.N) (h0 : ¬ t.val % 2 = 0) (y : S1408x1024.Idx) :
    (outsAt0 m c t.val t.isLt).2 y = (outsAt0 m c (t.val - 1) (Nat.lt_of_le_of_lt (Nat.sub_le _ _) t.isLt)).2 y + step m c t (y 0) (y 1) := by
  generalize hp : (outsAt0 m c (t.val - 1) (Nat.lt_of_le_of_lt (Nat.sub_le _ _) t.isLt)).2 = prev
  by_cases h : t.val < 8
  · rw [outsAt0_B m c t h0 h (by omega) (by omega)]; frame_out
    idx_vars y
    rw [hp, pay2_at, low m c t h, read_unread_whole]
  · rw [outsAt0_D m c t h0 h (by omega) (by omega)]; frame_out
    idx_vars y
    rw [hp, pay3_at, high m c t (by omega), read_unread_whole]

/-- The carried tile, stored whole, holds what was stored. -/
theorem canon_whole (w : Vec Ideal S1408x1024 .f32) :
    View.canon [⟨Rect.unit ![0, 0] ![1408, 1024] inb_S1408x1024_S1408x1024_0_0, w⟩] = w := by
  funext j; idx_vars j; canon_tiles y h
  exact congrArg w (funext fun a => Fin.ext (by fin_cases a; exacts [h0.symm, h1.symm]))

/-- The four stores leave the carried tile's four runs of rows. -/
theorem gather (w : Vec Ideal S1408x1024 .f32) (s : Fin 4) (z : Fin 1) (r : Fin 352) (d : Fin 1024) :
    View.canon (Val := Elt Ideal) (e := .bf16)
      [⟨Rect.unit ![3, 0, 0, 0] ![1, 1, 352, 1024] inb_S4x1x352x1024_S1x1x352x1024_3_0_0_0,
          k0_pay7 (F := Ideal) (View.ld w (Rect.unit ![1056, 0] ![352, 1024] inb_S1408x1024_S352x1024_1056_0))⟩,
        ⟨Rect.unit ![2, 0, 0, 0] ![1, 1, 352, 1024] inb_S4x1x352x1024_S1x1x352x1024_2_0_0_0,
          k0_pay6 (F := Ideal) (View.ld w (Rect.unit ![704, 0] ![352, 1024] inb_S1408x1024_S352x1024_704_0))⟩,
        ⟨Rect.unit ![1, 0, 0, 0] ![1, 1, 352, 1024] inb_S4x1x352x1024_S1x1x352x1024_1_0_0_0,
          k0_pay5 (F := Ideal) (View.ld w (Rect.unit ![352, 0] ![352, 1024] inb_S1408x1024_S352x1024_352_0))⟩,
        ⟨Rect.unit ![0, 0, 0, 0] ![1, 1, 352, 1024] inb_S4x1x352x1024_S1x1x352x1024_0_0_0_0,
          k0_pay4 (F := Ideal) (View.ld w (Rect.unit ![0, 0] ![352, 1024] inb_S1408x1024_S352x1024_0_0))⟩]
      (ix4 s z r d) = w (ix2 ⟨s.val * 352 + r.val, by omega⟩ d) := by
  canon_tiles x e
  · idx_vars x
    pointwise [k0_pay7]
    exact congrArg w (funext fun a => Fin.ext (by fin_cases a <;> simp [*] <;> omega))
  · idx_vars x
    pointwise [k0_pay6]
    exact congrArg w (funext fun a => Fin.ext (by fin_cases a <;> simp [*] <;> omega))
  · idx_vars x
    pointwise [k0_pay5]
    exact congrArg w (funext fun a => Fin.ext (by fin_cases a <;> simp [*] <;> omega))
  · idx_vars x
    pointwise [k0_pay4]
    exact congrArg w (funext fun a => Fin.ext (by fin_cases a <;> simp [*] <;> omega))

/-- The tile written back at the second step is what is carried there. -/
theorem written (c : Dev nD) (t : Fin cfg0.N) (h1 : t.val % 2 = 1) (s : Fin 4) (z : Fin 1) (r : Fin 352) (d : Fin 1024) :
    (outsAt0 m c t.val t.isLt).1 (ix4 s z r d) = (outsAt0 m c t.val t.isLt).2 (ix2 ⟨s.val * 352 + r.val, by omega⟩ d) := by
  by_cases h : t.val < 8
  · rw [outsAt0_B m c t (by omega) h (by omega) h1]; frame_out
    simp only [View.readCov_eq_canon', canon_whole]
    exact gather _ s z r d
  · rw [outsAt0_D m c t (by omega) h (by omega) h1]; frame_out
    simp only [View.readCov_eq_canon', canon_whole]
    exact gather _ s z r d

end Cert.WgradIdeal.Tie

end
-- ==== Proof.Wgrad.Ref.lean ====
/- The feed-forward's weight gradients in the reference: each entry is one sum over the rows. -/
module

public import proofs.«01_k».proof.Proof.Gen.WgradRefIdeal.Read
public import proofs.«01_k».proof.Proof.Gen.WgradRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.WgradRefIdeal.Tie

open Cert.WgradRefIdeal.Read
open Cert.WgradRefIdeal Idealize.ShloMosaic Idealize.ShloMosaic.TcCoe Idealize.SL.Sem

/-- The reference's result, read in the stages of its own text. -/
theorem run_read (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v16) = val_main_v16 (F := Ideal) (m (c.tc.loc main_arg0)) (m (c.tc.loc main_arg1)) (m (c.tc.loc main_arg2)) (m (c.tc.loc main_arg3)) (m (c.tc.loc main_arg4))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run _ _ _).mono (fun r h c => ⟨(h c).1.trans (val_main_v16_eq _ _ _ _ _), (h c).2⟩) (Value.run m ρ)

/-- The entry at shard `S`, matrix `p`, row `r` and column `d`. -/
theorem v16_at (x0 x1 x2 : FVec Ideal S4112x2816 .f32) (x3 x4 : FVec Ideal S4112x1024 .f32) (S : Fin 8) (p : Fin 3) (r : Fin 352) (d : Fin 1024) :
    val_main_v16 (F := Ideal) x0 x1 x2 x3 x4 (ix4 S p r d)
      = ∑ l : Fin 4112, (if p.val = 0 then x0 else if p.val = 1 then x1 else x2) (ix2 l ⟨S.val * 352 + r.val, by omega⟩)
          * (if p.val < 2 then x3 else x4) (ix2 l d) := by
  rw [← val_main_v16_eq]
  fin_cases p
  · pointwise
  · pointwise
  · pointwise

end Cert.WgradRefIdeal.Tie

end
-- ==== Proof.Wgrad.Value.lean ====
/- The feed-forward's weight gradients: the kernel's array of tiles is the reference's three products. -/
module

public import proofs.«01_k».proof.Defs
public import proofs.«01_k».proof.Proof.Wgrad.Blocks
public import proofs.«01_k».proof.Proof.Wgrad.Ref
public import proofs.«01_k».proof.Proof.Common.Congr

@[expose] public section

set_option maxRecDepth 16384

noncomputable section

namespace Cert.WgradIdeal.Tie

open Cert.WgradRefIdeal.Read
open Cert.WgradIdeal Cert.WgradIdeal.Gen Cert.Common Idealize.ShloMosaic Idealize.ShloMosaic.TcCoe Idealize.SL.Sem
open Idealize.ShloMosaic.Pipeline (Dat)

variable (m : (ℓ : Loc nD τ sig) → Buf (Elt Ideal) ℓ)

/-- A row of zeros adds nothing. -/
theorem term_low (c : Dev nD) (s : ℕ) (d : Fin 1024) (R : ℕ) (h : R < 240) : term m c s d R = 0 := by
  rw [term, padRow_low _ (show ¬ (240 ≤ R ∧ R - 240 < 4112) by omega), zero_mul]

/-- What is carried at the second step: the whole sum over the rows. -/
theorem carried (c : Dev nD) (t : Fin cfg0.N) (h : t.val % 2 = 1) (r : Fin 1408) (d : Fin 1024) :
    (outsAt0 m c t.val t.isLt).2 (ix2 r d) = ∑ l : Fin 4112, term m c (out t r).val d (l.val + 240) := by
  refine (Pipeline.eq_sum_fin_of_reset_step_apply_of_flush (fun n h => (outsAt0 m c n h).2) 2 (fun _ => 0)
    (fun t y => step m c t (y 0) (y 1)) (carried_reset m c) (carried_step m c) t h (ix2 r d)).trans ?_
  rw [zero_add, ← sum_two _ (term_low m c _ d)]
  refine Finset.sum_congr rfl fun s _ => Finset.sum_congr rfl fun x _ => ?_
  have hs := s.isLt
  show term m c ((2 * (t.val / 2) + s.val) / 2 * 1408 + r.val) d ((2 * (t.val / 2) + s.val) % 2 * 2176 + x.val) = term m c (t.val / 2 * 1408 + r.val) d (s.val * 2176 + x.val)
  rw [show (2 * (t.val / 2) + s.val) / 2 = t.val / 2 by omega, show (2 * (t.val / 2) + s.val) % 2 = s.val by omega]

theorem final (c : Dev nD) :
    (dats m 0 c).arrAt 3 (cfgs 0).N = val_main_v16 (F := Ideal) (m (c.tc.loc main_arg0)) (m (c.tc.loc main_arg1)) (m (c.tc.loc main_arg2)) (m (c.tc.loc main_arg3)) (m (c.tc.loc main_arg4)) := by
  refine (dats m 0 c).arrAt_eq_of_covers 3 _ (by decide +kernel) fun t hf y => ?_
  obtain ⟨-, -, -, e⟩ := idx t
  have hr := (flush0_3 t).mp hf
  have ht := lt_of_lt_of_eq t.isLt N_0
  blk_simp; rw [after0_3]
  idx_vars y
  have hy := y0.isLt
  have hy' := y2.isLt
  refine (written m c t hr y0 y1 y2 y3).trans ((carried m c t hr _ y3).trans ?_)
  refine Eq.trans ?_ ((Cert.WgradRefIdeal.Tie.v16_at (m (c.tc.loc main_arg0)) (m (c.tc.loc main_arg1)) (m (c.tc.loc main_arg2)) (m (c.tc.loc main_arg3)) (m (c.tc.loc main_arg4))
    ⟨t.val / 2 % 2 * 4 + y0.val, by omega⟩ ⟨t.val / 4, by omega⟩ y2 y3).symm.trans (congrArg _ ?_))
  · refine Finset.sum_congr rfl fun l _ => ?_
    have e1 : (out t ⟨y0.val * 352 + y2.val, by omega⟩).val / 2816 = t.val / 4 := by
      show (t.val / 2 * 1408 + (y0.val * 352 + y2.val)) / 2816 = t.val / 4; omega
    have e2 : (out t ⟨y0.val * 352 + y2.val, by omega⟩).val % 2816 = (t.val / 2 % 2 * 4 + y0.val) * 352 + y2.val := by
      show (t.val / 2 * 1408 + (y0.val * 352 + y2.val)) % 2816 = (t.val / 2 % 2 * 4 + y0.val) * 352 + y2.val; omega
    rw [term, padRow_add, padRow_add, e1]
    simp only [e2]
    rfl
  · funext a; apply Fin.ext; fin_cases a <;> simp [win0_3, e]

set_option maxHeartbeats 2000000 in
/-- The kernel's array and the reference's agree on the same arguments. -/
theorem algebraic : Cert.algebraic_WgradIdeal_WgradRefIdeal := by
  pair_intro
  · run_from Cert.WgradIdeal.Gen.run_main m g
    · exact V_main_arg0 m c
    · exact V_main_arg1 m c
    · exact V_main_arg2 m c
    · exact V_main_arg3 m c
    · exact V_main_arg4 m c
  · refine (θ_run _ _ _).mono (fun r h c => ?_) (Cert.WgradRefIdeal.Tie.run_read m' g')
    obtain ⟨a0, a1, a2, a3, a4⟩ := hagree c
    obtain ⟨e0, e⟩ := h c
    have q0 := congr5 (val_main_v16 (F := Ideal)) a0 a1 a2 a3 a4
    exact ⟨(e0.trans q0).trans (final m c).symm, e⟩

end Cert.WgradIdeal.Tie

end
-- ==== Proof.Sums.Rows.lean ====
/- The small gradients packed into rows of 128 on the host, the sum over the slots, and the way back. -/
module

public import proofs.«01_k».proof.Proof.Gen.SumsIdeal
public import Idealize.ShloMosaic.Lib.Pipeline.ValueKit
public import Idealize.ShloMosaic.Lib.Pointwise
public import Idealize.ShloMosaic.Lib.Claim

@[expose] public section

set_option maxRecDepth 16384

noncomputable section

namespace Cert.SumsIdeal.Tie

open Cert.SumsIdeal Cert.SumsIdeal.Gen Idealize.ShloMosaic Idealize.ShloMosaic.TcCoe Idealize.SL.Sem

/-- The rows each gradient is packed in, slot by slot. -/
def lambdaReRows (x : Vec Ideal S8x1x32x64 .f32) : Vec Ideal S8x16x128 .bf16 :=
  shapeCast S8x16x128 (pad S8x2048 ![0, 0] ![0, 0] ![0, 0] (truncf (F := Ideal) .bf16 (shapeCast S8x2048 (shapeCast S8x32x64 x shapeCasts_S8x1x32x64_S8x32x64) shapeCasts_S8x32x64_S8x2048) bitsLt_bf16_f32) (sitofp (F := Ideal) .bf16 (constantI S_ 32 0#32)) pads_S8x2048_S8x2048_000_000 h_S_) shapeCasts_S8x2048_S8x16x128

def logStepRows (x : Vec Ideal S8x1x32 .f32) : Vec Ideal S8x8x128 .bf16 :=
  shapeCast S8x8x128 (pad S8x1024 ![0, 0] ![0, 992] ![0, 0] (truncf (F := Ideal) .bf16 (shapeCast S8x32 x shapeCasts_S8x1x32_S8x32) bitsLt_bf16_f32) (sitofp (F := Ideal) .bf16 (constantI S_ 32 0#32)) pads_S8x32_S8x1024_000_09920 h_S_) shapeCasts_S8x1024_S8x8x128

def bReRows (x : Vec Ideal S8x1x32x64x16 .f32) : Vec Ideal S8x256x128 .bf16 :=
  shapeCast S8x256x128 (pad S8x32768 ![0, 0] ![0, 0] ![0, 0] (truncf (F := Ideal) .bf16 (shapeCast S8x32768 (shapeCast S8x512x64 (transpose S8x32x16x64 [0, 1, 3, 2] (shapeCast S8x32x64x16 x shapeCasts_S8x1x32x64x16_S8x32x64x16) transposes_S8x32x64x16_S8x32x16x64_0_1_3_2) shapeCasts_S8x32x16x64_S8x512x64) shapeCasts_S8x512x64_S8x32768) bitsLt_bf16_f32) (sitofp (F := Ideal) .bf16 (constantI S_ 32 0#32)) pads_S8x32768_S8x32768_000_000 h_S_) shapeCasts_S8x32768_S8x256x128

def cReRows (x : Vec Ideal S8x1x32x16x64 .f32) : Vec Ideal S8x256x128 .bf16 :=
  shapeCast S8x256x128 (pad S8x32768 ![0, 0] ![0, 0] ![0, 0] (truncf (F := Ideal) .bf16 (shapeCast S8x32768 (shapeCast S8x512x64 x shapeCasts_S8x1x32x16x64_S8x512x64) shapeCasts_S8x512x64_S8x32768) bitsLt_bf16_f32) (sitofp (F := Ideal) .bf16 (constantI S_ 32 0#32)) pads_S8x32768_S8x32768_000_000 h_S_) shapeCasts_S8x32768_S8x256x128

def skipRows (x : Vec Ideal S8x1x32x16 .f32) : Vec Ideal S8x8x128 .bf16 :=
  shapeCast S8x8x128 (pad S8x1024 ![0, 0] ![0, 512] ![0, 0] (truncf (F := Ideal) .bf16 (shapeCast S8x512 (transpose S8x16x32 [0, 2, 1] (shapeCast S8x32x16 x shapeCasts_S8x1x32x16_S8x32x16) transposes_S8x32x16_S8x16x32_0_2_1) shapeCasts_S8x16x32_S8x512) bitsLt_bf16_f32) (sitofp (F := Ideal) .bf16 (constantI S_ 32 0#32)) pads_S8x512_S8x1024_000_05120 h_S_) shapeCasts_S8x1024_S8x8x128

def gluRows (x : Vec Ideal S8x1x32x16x16 .f32) : Vec Ideal S8x64x128 .bf16 :=
  shapeCast S8x64x128 (pad S8x8192 ![0, 0] ![0, 0] ![0, 0] (truncf (F := Ideal) .bf16 (shapeCast S8x8192 (shapeCast S8x256x32 (transpose S8x16x16x32 [0, 2, 3, 1] (shapeCast S8x32x16x16 x shapeCasts_S8x1x32x16x16_S8x32x16x16) transposes_S8x32x16x16_S8x16x16x32_0_2_3_1) shapeCasts_S8x16x16x32_S8x256x32) shapeCasts_S8x256x32_S8x8192) bitsLt_bf16_f32) (sitofp (F := Ideal) .bf16 (constantI S_ 32 0#32)) pads_S8x8192_S8x8192_000_000 h_S_) shapeCasts_S8x8192_S8x64x128

def ssmNormRows (x : Vec Ideal S8x1x512 .f32) : Vec Ideal S8x8x128 .bf16 :=
  shapeCast S8x8x128 (pad S8x1024 ![0, 0] ![0, 512] ![0, 0] (truncf (F := Ideal) .bf16 (shapeCast S8x512 x shapeCasts_S8x1x512_S8x512) bitsLt_bf16_f32) (sitofp (F := Ideal) .bf16 (constantI S_ 32 0#32)) pads_S8x512_S8x1024_000_05120 h_S_) shapeCasts_S8x1024_S8x8x128

def poolWRows (x : Vec Ideal S8x1x4x128x128 .f32) : Vec Ideal S8x512x128 .bf16 :=
  shapeCast S8x512x128 (pad S8x65536 ![0, 0] ![0, 0] ![0, 0] (truncf (F := Ideal) .bf16 (shapeCast S8x65536 (shapeCast S8x512x128 x shapeCasts_S8x1x4x128x128_S8x512x128) shapeCasts_S8x512x128_S8x65536) bitsLt_bf16_f32) (sitofp (F := Ideal) .bf16 (constantI S_ 32 0#32)) pads_S8x65536_S8x65536_000_000 h_S_) shapeCasts_S8x65536_S8x512x128

def poolScaleRows (x : Vec Ideal S8x1x4x128 .f32) : Vec Ideal S8x8x128 .bf16 :=
  shapeCast S8x8x128 (pad S8x1024 ![0, 0] ![0, 512] ![0, 0] (truncf (F := Ideal) .bf16 (shapeCast S8x512 (shapeCast S8x4x128 x shapeCasts_S8x1x4x128_S8x4x128) shapeCasts_S8x4x128_S8x512) bitsLt_bf16_f32) (sitofp (F := Ideal) .bf16 (constantI S_ 32 0#32)) pads_S8x512_S8x1024_000_05120 h_S_) shapeCasts_S8x1024_S8x8x128

def norm2Rows (x : Vec Ideal S8x1x1024 .f32) : Vec Ideal S8x8x128 .bf16 :=
  shapeCast S8x8x128 (pad S8x1024 ![0, 0] ![0, 0] ![0, 0] (truncf (F := Ideal) .bf16 (shapeCast S8x1024 x shapeCasts_S8x1x1024_S8x1024) bitsLt_bf16_f32) (sitofp (F := Ideal) .bf16 (constantI S_ 32 0#32)) pads_S8x1024_S8x1024_000_000 h_S_) shapeCasts_S8x1024_S8x8x128

def norm1Rows (x : Vec Ideal S8x1x1024 .f32) : Vec Ideal S8x8x128 .f32 :=
  shapeCast S8x8x128 (pad S8x1024 ![0, 0] ![0, 0] ![0, 0] (shapeCast S8x1024 x shapeCasts_S8x1x1024_S8x1024) (sitofp (F := Ideal) .f32 (constantI S_ 32 0#32)) pads_S8x1024_S8x1024_000_000 h_S_) shapeCasts_S8x1024_S8x8x128

def finalNormRows (x : Vec Ideal S8x1024 .f32) : Vec Ideal S8x8x128 .f32 :=
  shapeCast S8x8x128 (pad S8x1024 ![0, 0] ![0, 0] ![0, 0] (shapeCast S8x1024 (shapeCast S8x1x1024 x shapeCasts_S8x1024_S8x1x1024) shapeCasts_S8x1x1024_S8x1024) (sitofp (F := Ideal) .f32 (constantI S_ 32 0#32)) pads_S8x1024_S8x1024_000_000 h_S_) shapeCasts_S8x1024_S8x8x128

def metaRows (x : Vec Ideal S8x16x1024 .f32) : Vec Ideal S8x128x128 .f32 :=
  shapeCast S8x128x128 (pad S8x16384 ![0, 0] ![0, 0] ![0, 0] (shapeCast S8x16384 x shapeCasts_S8x16x1024_S8x16384) (sitofp (F := Ideal) .f32 (constantI S_ 32 0#32)) pads_S8x16384_S8x16384_000_000 h_S_) shapeCasts_S8x16384_S8x128x128

def lossRows (x : Vec Ideal S8x1x128 .f32) : Vec Ideal S8x8x128 .f32 :=
  shapeCast S8x8x128 (pad S8x1024 ![0, 0] ![0, 896] ![0, 0] (shapeCast S8x128 x shapeCasts_S8x1x128_S8x128) (sitofp (F := Ideal) .f32 (constantI S_ 32 0#32)) pads_S8x128_S8x1024_000_08960 h_S_) shapeCasts_S8x1024_S8x8x128

/-- The early rows, one array under the other, and eight rows of zeros. -/
def early (p0 : Vec Ideal S8x16x128 .bf16) (p1 : Vec Ideal S8x16x128 .bf16) (p2 : Vec Ideal S8x8x128 .bf16) (p3 : Vec Ideal S8x256x128 .bf16) (p4 : Vec Ideal S8x256x128 .bf16) (p5 : Vec Ideal S8x256x128 .bf16) (p6 : Vec Ideal S8x256x128 .bf16) (p7 : Vec Ideal S8x8x128 .bf16) (p8 : Vec Ideal S8x64x128 .bf16) (p9 : Vec Ideal S8x8x128 .bf16) (p10 : Vec Ideal S8x8x128 .bf16) (p11 : Vec Ideal S8x512x128 .bf16) (p12 : Vec Ideal S8x8x128 .bf16) (p13 : Vec Ideal S8x8x128 .bf16) (p14 : Vec Ideal S8x8x128 .bf16) : Vec Ideal S8x1696x128 .bf16 :=
  concatenate S8x1696x128 1 [⟨S8x16x128, p0⟩, ⟨S8x16x128, p1⟩, ⟨S8x8x128, p2⟩, ⟨S8x256x128, p3⟩, ⟨S8x256x128, p4⟩, ⟨S8x256x128, p5⟩, ⟨S8x256x128, p6⟩, ⟨S8x8x128, p7⟩, ⟨S8x64x128, p8⟩, ⟨S8x8x128, p9⟩, ⟨S8x8x128, p10⟩, ⟨S8x512x128, p11⟩, ⟨S8x8x128, p12⟩, ⟨S8x8x128, p13⟩, ⟨S8x8x128, p14⟩,
    ⟨S8x8x128, (broadcastInDim S8x8x128 ![1, 2] bcast_S8x128_S8x8x128_1_2 (broadcastInDim S8x128 ![] bcast_S_S8x128 (constant (F := Ideal) S_ .bf16 0x0000#16)))⟩]
    concatenates_S8x16x128_S8x16x128_S8x8x128_S8x256x128_S8x256x128_S8x256x128_S8x256x128_S8x8x128_S8x64x128_S8x8x128_S8x8x128_S8x512x128_S8x8x128_S8x8x128_S8x8x128_S8x8x128_S8x1696x128_d1

/-- The late rows likewise. -/
def late (p0 : Vec Ideal S8x8x128 .f32) (p1 : Vec Ideal S8x8x128 .f32) (p2 : Vec Ideal S8x128x128 .f32) (p3 : Vec Ideal S8x8x128 .f32) : Vec Ideal S8x160x128 .f32 :=
  concatenate S8x160x128 1 [⟨S8x8x128, p0⟩, ⟨S8x8x128, p1⟩, ⟨S8x128x128, p2⟩, ⟨S8x8x128, p3⟩,
    ⟨S8x8x128, (broadcastInDim S8x8x128 ![1, 2] bcast_S8x128_S8x8x128_1_2 (broadcastInDim S8x128 ![] bcast_S_S8x128 (constant (F := Ideal) S_ .f32 0x00000000#32)))⟩]
    concatenates_S8x8x128_S8x8x128_S8x128x128_S8x8x128_S8x8x128_S8x160x128_d1

/-- The sum over the slots, row by row. -/
def earlySum (x : Vec Ideal S8x1696x128 .bf16) : Vec Ideal S1696x128 .f32 := fun j => ∑ s : Fin 8, extf (F := Ideal) .f32 x bitsLt_bf16_f32 (ix3 s (j 0) (j 1))

def lateSum (x : Vec Ideal S8x160x128 .f32) : Vec Ideal S160x128 .f32 := fun j => ∑ s : Fin 8, x (ix3 s (j 0) (j 1))

/-- Each gradient taken out of the packed rows, in its own shape. -/
def lambdaReOut (t : Vec Ideal S1696x128 .f32) : Vec Ideal S1x32x64 .f32 :=
  shapeCast S1x32x64 (shapeCast S32x64 (shapeCast S2048 (extractStridedSlice S16x128 ![0, 0] t slices_S1696x128_S16x128_0_0) shapeCasts_S16x128_S2048) shapeCasts_S2048_S32x64) shapeCasts_S32x64_S1x32x64

def lambdaImOut (t : Vec Ideal S1696x128 .f32) : Vec Ideal S1x32x64 .f32 :=
  shapeCast S1x32x64 (shapeCast S32x64 (shapeCast S2048 (extractStridedSlice S16x128 ![16, 0] t slices_S1696x128_S16x128_16_0) shapeCasts_S16x128_S2048) shapeCasts_S2048_S32x64) shapeCasts_S32x64_S1x32x64

def logStepOut (t : Vec Ideal S1696x128 .f32) : Vec Ideal S1x32 .f32 :=
  shapeCast S1x32 (extractStridedSlice S32 ![0] (shapeCast S1024 (extractStridedSlice S8x128 ![32, 0] t slices_S1696x128_S8x128_32_0) shapeCasts_S8x128_S1024) slices_S1024_S32_0) shapeCasts_S32_S1x32

def bReOut (t : Vec Ideal S1696x128 .f32) : Vec Ideal S1x32x64x16 .f32 :=
  shapeCast S1x32x64x16 (transpose S32x64x16 [0, 2, 1] (shapeCast S32x16x64 (shapeCast S512x64 (shapeCast S32768 (extractStridedSlice S256x128 ![40, 0] t slices_S1696x128_S256x128_40_0) shapeCasts_S256x128_S32768) shapeCasts_S32768_S512x64) shapeCasts_S512x64_S32x16x64) transposes_S32x16x64_S32x64x16_0_2_1) shapeCasts_S32x64x16_S1x32x64x16

def bImOut (t : Vec Ideal S1696x128 .f32) : Vec Ideal S1x32x64x16 .f32 :=
  shapeCast S1x32x64x16 (transpose S32x64x16 [0, 2, 1] (shapeCast S32x16x64 (shapeCast S512x64 (shapeCast S32768 (extractStridedSlice S256x128 ![296, 0] t slices_S1696x128_S256x128_296_0) shapeCasts_S256x128_S32768) shapeCasts_S32768_S512x64) shapeCasts_S512x64_S32x16x64) transposes_S32x16x64_S32x64x16_0_2_1) shapeCasts_S32x64x16_S1x32x64x16

def cReOut (t : Vec Ideal S1696x128 .f32) : Vec Ideal S1x32x16x64 .f32 :=
  shapeCast S1x32x16x64 (shapeCast S512x64 (shapeCast S32768 (extractStridedSlice S256x128 ![552, 0] t slices_S1696x128_S256x128_552_0) shapeCasts_S256x128_S32768) shapeCasts_S32768_S512x64) shapeCasts_S512x64_S1x32x16x64

def cImOut (t : Vec Ideal S1696x128 .f32) : Vec Ideal S1x32x16x64 .f32 :=
  shapeCast S1x32x16x64 (shapeCast S512x64 (shapeCast S32768 (extractStridedSlice S256x128 ![808, 0] t slices_S1696x128_S256x128_808_0) shapeCasts_S256x128_S32768) shapeCasts_S32768_S512x64) shapeCasts_S512x64_S1x32x16x64

def skipOut (t : Vec Ideal S1696x128 .f32) : Vec Ideal S1x32x16 .f32 :=
  shapeCast S1x32x16 (transpose S32x16 [1, 0] (shapeCast S16x32 (extractStridedSlice S512 ![0] (shapeCast S1024 (extractStridedSlice S8x128 ![1064, 0] t slices_S1696x128_S8x128_1064_0) shapeCasts_S8x128_S1024) slices_S1024_S512_0) shapeCasts_S512_S16x32) transposes_S16x32_S32x16_1_0) shapeCasts_S32x16_S1x32x16

def gluOut (t : Vec Ideal S1696x128 .f32) : Vec Ideal S1x32x16x16 .f32 :=
  shapeCast S1x32x16x16 (transpose S32x16x16 [2, 0, 1] (shapeCast S16x16x32 (shapeCast S256x32 (shapeCast S8192 (extractStridedSlice S64x128 ![1072, 0] t slices_S1696x128_S64x128_1072_0) shapeCasts_S64x128_S8192) shapeCasts_S8192_S256x32) shapeCasts_S256x32_S16x16x32) transposes_S16x16x32_S32x16x16_2_0_1) shapeCasts_S32x16x16_S1x32x16x16

def gluBiasOut (t : Vec Ideal S1696x128 .f32) : Vec Ideal S1x32x16 .f32 :=
  shapeCast S1x32x16 (transpose S32x16 [1, 0] (shapeCast S16x32 (extractStridedSlice S512 ![0] (shapeCast S1024 (extractStridedSlice S8x128 ![1136, 0] t slices_S1696x128_S8x128_1136_0) shapeCasts_S8x128_S1024) slices_S1024_S512_0) shapeCasts_S512_S16x32) transposes_S16x32_S32x16_1_0) shapeCasts_S32x16_S1x32x16

def ssmNormOut (t : Vec Ideal S1696x128 .f32) : Vec Ideal S1x512 .f32 :=
  shapeCast S1x512 (extractStridedSlice S512 ![0] (shapeCast S1024 (extractStridedSlice S8x128 ![1144, 0] t slices_S1696x128_S8x128_1144_0) shapeCasts_S8x128_S1024) slices_S1024_S512_0) shapeCasts_S512_S1x512

def poolWOut (t : Vec Ideal S1696x128 .f32) : Vec Ideal S1x4x128x128 .f32 :=
  shapeCast S1x4x128x128 (shapeCast S512x128 (shapeCast S65536 (extractStridedSlice S512x128 ![1152, 0] t slices_S1696x128_S512x128_1152_0) shapeCasts_S512x128_S65536) shapeCasts_S65536_S512x128) shapeCasts_S512x128_S1x4x128x128

def poolScaleOut (t : Vec Ideal S1696x128 .f32) : Vec Ideal S1x4x128 .f32 :=
  shapeCast S1x4x128 (shapeCast S4x128 (extractStridedSlice S512 ![0] (shapeCast S1024 (extractStridedSlice S8x128 ![1664, 0] t slices_S1696x128_S8x128_1664_0) shapeCasts_S8x128_S1024) slices_S1024_S512_0) shapeCasts_S512_S4x128) shapeCasts_S4x128_S1x4x128

def poolNormOut (t : Vec Ideal S1696x128 .f32) : Vec Ideal S1x512 .f32 :=
  shapeCast S1x512 (extractStridedSlice S512 ![0] (shapeCast S1024 (extractStridedSlice S8x128 ![1672, 0] t slices_S1696x128_S8x128_1672_0) shapeCasts_S8x128_S1024) slices_S1024_S512_0) shapeCasts_S512_S1x512

def norm2Out (t : Vec Ideal S1696x128 .f32) : Vec Ideal S1x1024 .f32 :=
  shapeCast S1x1024 (shapeCast S1024 (extractStridedSlice S8x128 ![1680, 0] t slices_S1696x128_S8x128_1680_0) shapeCasts_S8x128_S1024) shapeCasts_S1024_S1x1024

def norm1Out (t : Vec Ideal S160x128 .f32) : Vec Ideal S1x1024 .f32 :=
  shapeCast S1x1024 (shapeCast S1024 (extractStridedSlice S8x128 ![0, 0] t slices_S160x128_S8x128_0_0) shapeCasts_S8x128_S1024) shapeCasts_S1024_S1x1024

def finalNormOut (t : Vec Ideal S160x128 .f32) : Vec Ideal S1024 .f32 :=
  shapeCast S1024 (shapeCast S1x1024 (shapeCast S1024 (extractStridedSlice S8x128 ![8, 0] t slices_S160x128_S8x128_8_0) shapeCasts_S8x128_S1024) shapeCasts_S1024_S1x1024) shapeCasts_S1x1024_S1024

def metaOut (t : Vec Ideal S160x128 .f32) : Vec Ideal S16x1024 .f32 :=
  shapeCast S16x1024 (shapeCast S16384 (extractStridedSlice S128x128 ![16, 0] t slices_S160x128_S128x128_16_0) shapeCasts_S128x128_S16384) shapeCasts_S16384_S16x1024

def lossOut (t : Vec Ideal S160x128 .f32) : Vec Ideal S_ .f32 :=
  shapeCast S_ (extractStridedSlice S1x1 ![0, 0] (shapeCast S1x128 (extractStridedSlice S128 ![0] (shapeCast S1024 (extractStridedSlice S8x128 ![144, 0] t slices_S160x128_S8x128_144_0) shapeCasts_S8x128_S1024) slices_S1024_S128_0) shapeCasts_S128_S1x128) slices_S1x128_S1x1_0_0) shapeCasts_S1x1_S_

end Cert.SumsIdeal.Tie

end
-- ==== Proof.Sums.Parts.lean ====
/- Each small gradient packed, summed and unpacked is its sum over the slots. -/
module

public import proofs.«01_k».proof.Proof.Gen.SumsIdeal
public import proofs.«01_k».proof.Proof.Sums.Rows
public import proofs.«01_k».proof.Proof.Gen.SumsRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.SumsIdeal.Tie

open Cert.SumsRefIdeal.Read
open Cert.SumsIdeal Cert.SumsIdeal.Gen Idealize.ShloMosaic Idealize.ShloMosaic.TcCoe Idealize.SL.Sem

set_option maxHeartbeats 8000000 in
/-- The early sums, each read where it was packed, -/
theorem earlySum_out (x0 : Vec Ideal S8x1x32x64 .f32) (x1 : Vec Ideal S8x1x32x64 .f32) (x2 : Vec Ideal S8x1x32 .f32) (x3 : Vec Ideal S8x1x32x64x16 .f32) (x4 : Vec Ideal S8x1x32x64x16 .f32) (x5 : Vec Ideal S8x1x32x16x64 .f32) (x6 : Vec Ideal S8x1x32x16x64 .f32) (x7 : Vec Ideal S8x1x32x16 .f32) (x8 : Vec Ideal S8x1x32x16x16 .f32) (x9 : Vec Ideal S8x1x32x16 .f32) (x10 : Vec Ideal S8x1x512 .f32) (x11 : Vec Ideal S8x1x4x128x128 .f32) (x12 : Vec Ideal S8x1x4x128 .f32) (x13 : Vec Ideal S8x1x512 .f32) (x14 : Vec Ideal S8x1x1024 .f32) :
    let t := earlySum (early (lambdaReRows x0) (lambdaReRows x1) (logStepRows x2) (bReRows x3) (bReRows x4) (cReRows x5) (cReRows x6) (skipRows x7) (gluRows x8) (skipRows x9) (ssmNormRows x10) (poolWRows x11) (poolScaleRows x12) (ssmNormRows x13) (norm2Rows x14))
    lambdaReOut t = val_main_v0 (F := Ideal) x0
    ∧ lambdaImOut t = val_main_v1 (F := Ideal) x1
    ∧ logStepOut t = val_main_v2 (F := Ideal) x2
    ∧ bReOut t = val_main_v3 (F := Ideal) x3
    ∧ bImOut t = val_main_v4 (F := Ideal) x4
    ∧ cReOut t = val_main_v5 (F := Ideal) x5
    ∧ cImOut t = val_main_v6 (F := Ideal) x6
    ∧ skipOut t = val_main_v7 (F := Ideal) x7
    ∧ gluOut t = val_main_v8 (F := Ideal) x8
    ∧ gluBiasOut t = val_main_v9 (F := Ideal) x9
    ∧ ssmNormOut t = val_main_v10 (F := Ideal) x10
    ∧ poolWOut t = val_main_v11 (F := Ideal) x11
    ∧ poolScaleOut t = val_main_v12 (F := Ideal) x12
    ∧ poolNormOut t = val_main_v13 (F := Ideal) x13
    ∧ norm2Out t = val_main_v14 (F := Ideal) x14 := by
  intro t
  refine ⟨?_, ?_, ?_, ?_, ?_, ?_, ?_, ?_, ?_, ?_, ?_, ?_, ?_, ?_, ?_⟩
  all_goals
    first | rw [← val_main_v0_eq] | rw [← val_main_v1_eq] | rw [← val_main_v2_eq] | rw [← val_main_v3_eq] | rw [← val_main_v4_eq] | rw [← val_main_v5_eq] | rw [← val_main_v6_eq] | rw [← val_main_v7_eq] | rw [← val_main_v8_eq] | rw [← val_main_v9_eq] | rw [← val_main_v10_eq] | rw [← val_main_v11_eq] | rw [← val_main_v12_eq] | rw [← val_main_v13_eq] | rw [← val_main_v14_eq]
    funext j
    idx_vars j
    pointwise! [t, earlySum, early, lambdaReOut, lambdaImOut, logStepOut, bReOut, bImOut, cReOut, cImOut, skipOut, gluOut, gluBiasOut, ssmNormOut, poolWOut, poolScaleOut, poolNormOut, norm2Out]
    refine Finset.sum_congr rfl fun s _ => ?_
    try simp (disch := omega) only [dif_pos, dif_neg]
    pointwise! [lambdaReRows, logStepRows, bReRows, cReRows, skipRows, gluRows, ssmNormRows, poolWRows, poolScaleRows, norm2Rows]
    try simp (disch := omega) only [dif_pos]
    try (refine congrArg _ (funext fun a => Fin.ext ?_); fin_cases a <;> first | rfl | (simp; omega))

set_option maxHeartbeats 8000000 in
/-- and the late ones. -/
theorem lateSum_out (x15 : Vec Ideal S8x1x1024 .f32) (x16 : Vec Ideal S8x1024 .f32) (x17 : Vec Ideal S8x16x1024 .f32) (x18 : Vec Ideal S8x1x128 .f32) :
    let t := lateSum (late (norm1Rows x15) (finalNormRows x16) (metaRows x17) (lossRows x18))
    norm1Out t = val_main_v15 (F := Ideal) x15
    ∧ finalNormOut t = val_main_v16 (F := Ideal) x16
    ∧ metaOut t = val_main_v17 (F := Ideal) x17
    ∧ lossOut t = val_main_v20 (F := Ideal) x18 := by
  intro t
  refine ⟨?_, ?_, ?_, ?_⟩
  all_goals
    first | rw [← val_main_v15_eq] | rw [← val_main_v16_eq] | rw [← val_main_v17_eq] | rw [← val_main_v20_eq]
    funext j
    try idx_vars j
    pointwise! [t, lateSum, late, norm1Out, finalNormOut, metaOut, lossOut]
    refine Finset.sum_congr rfl fun s _ => ?_
    try simp (disch := omega) only [dif_pos, dif_neg]
    pointwise! [norm1Rows, finalNormRows, metaRows, lossRows]
    try simp (disch := omega) only [dif_pos]
    try (refine congrArg _ (funext fun a => Fin.ext ?_); fin_cases a <;> first | rfl | (simp; omega))

end Cert.SumsIdeal.Tie

end
-- ==== Proof.Sums.Value.lean ====
/- The small gradients' sums over the eight devices: packed on the host, added slot by slot in the kernel, unpacked on the host. -/
module

public import proofs.«01_k».proof.Proof.Gen.SumsIdeal
public import proofs.«01_k».proof.Defs
public import proofs.«01_k».proof.Proof.Gen.SumsIdeal.Frame
public import proofs.«01_k».proof.Proof.Gen.SumsRefIdeal.Run
public import proofs.«01_k».proof.Proof.Sums.Parts
public import Idealize.ShloMosaic.Lib.Pipeline.ValueKit
public import Idealize.ShloMosaic.Lib.Pointwise
public import Idealize.ShloMosaic.Lib.Claim

@[expose] public section

set_option maxRecDepth 16384

noncomputable section

namespace Cert.SumsIdeal.Tie

open Cert.SumsRefIdeal.Read
open Cert.SumsIdeal Cert.SumsIdeal.Gen Idealize.ShloMosaic Idealize.ShloMosaic.TcCoe Idealize.SL.Sem

/-- A store of the whole early buffer leaves what it stores, -/
theorem canon_early (x : Vec Ideal S1696x128 .f32) : View.canon [⟨r0_8, x⟩] = x := by
  funext j; idx_vars j; canon_tiles y h
  exact congrArg x (funext fun a => Fin.ext (by fin_cases a; exacts [h0.symm, h1.symm]))

/-- and one of the whole late buffer too. -/
theorem canon_late (x : Vec Ideal S160x128 .f32) : View.canon [⟨r0_17, x⟩] = x := by
  funext j; idx_vars j; canon_tiles y h
  exact congrArg x (funext fun a => Fin.ext (by fin_cases a; exacts [h0.symm, h1.symm]))

theorem out2 (x0 : Vec Ideal S8x1696x128 .bf16) (x1 : Vec Ideal S8x160x128 .f32) : out0_2 (F := Ideal) x0 x1 = earlySum x0 := by
  unfold out0_2 earlySum
  simp only [canon_early]
  funext j
  idx_vars j
  pointwise! [k0_pay2]
  simp only [Fin.sum_univ_eight]

theorem out3 (x0 : Vec Ideal S8x1696x128 .bf16) (x1 : Vec Ideal S8x160x128 .f32) : out0_3 (F := Ideal) x0 x1 = lateSum x1 := by
  unfold out0_3 lateSum
  simp only [canon_late]
  funext j
  idx_vars j
  pointwise! [k0_pay1]
  simp only [Fin.sum_univ_eight]

theorem idx : ∀ t : Fin cfg0.N, win0_0.index t = ![0, 0, 0] ∧ win0_1.index t = ![0, 0, 0] ∧ win0_2.index t = ![0, 0] ∧ win0_3.index t = ![0, 0] :=
  (by decide +kernel : ∀ t : Fin grid0.N, _)

variable (m : (ℓ : Loc nD τ sig) → Buf (Elt Ideal) ℓ)

set_option maxHeartbeats 2000000 in
/-- The early array is the host's packing of fifteen of the arguments, -/
theorem V82 (c : Dev nD) : V m c main_v82 = early (lambdaReRows (m (c.tc.loc main_arg0))) (lambdaReRows (m (c.tc.loc main_arg1))) (logStepRows (m (c.tc.loc main_arg2))) (bReRows (m (c.tc.loc main_arg3))) (bReRows (m (c.tc.loc main_arg4))) (cReRows (m (c.tc.loc main_arg5))) (cReRows (m (c.tc.loc main_arg6))) (skipRows (m (c.tc.loc main_arg7))) (gluRows (m (c.tc.loc main_arg8))) (skipRows (m (c.tc.loc main_arg9))) (ssmNormRows (m (c.tc.loc main_arg10))) (poolWRows (m (c.tc.loc main_arg11))) (poolScaleRows (m (c.tc.loc main_arg12))) (ssmNormRows (m (c.tc.loc main_arg13))) (norm2Rows (m (c.tc.loc main_arg14))) := by
  unfold_abbrev_sides
  simp only [List.flatten_cons, List.flatten_nil, List.append_nil, List.cons_append, List.nil_append]
  after_results
  rfl

set_option maxHeartbeats 2000000 in
/-- and the late one that of the other four. -/
theorem V97 (c : Dev nD) : V m c main_v97 = late (norm1Rows (m (c.tc.loc main_arg15))) (finalNormRows (m (c.tc.loc main_arg16))) (metaRows (m (c.tc.loc main_arg17))) (lossRows (m (c.tc.loc main_arg18))) := by
  unfold_abbrev_sides
  simp only [List.flatten_cons, List.flatten_nil, List.append_nil, List.cons_append, List.nil_append]
  after_results
  rfl

theorem b0 (c : Dev nD) (t : Fin cfg0.N) : iblk m c 0 t = V m c main_v82 := by
  obtain ⟨e, -⟩ := idx t
  funext j
  show V m c main_v82 _ = _
  blk_ext [e]

theorem b1 (c : Dev nD) (t : Fin cfg0.N) : iblk m c 1 t = V m c main_v97 := by
  obtain ⟨-, e, -⟩ := idx t
  funext j
  show V m c main_v97 _ = _
  blk_ext [e]

theorem final2 (c : Dev nD) : (dats m 0 c).arrAt 2 (cfgs 0).N = earlySum (V m c main_v82) := by
  refine (dats m 0 c).arrAt_eq_of_covers 2 _ (by decide +kernel) fun t hf y => ?_
  obtain ⟨-, -, e, -⟩ := idx t
  blk_simp; rw [after0_2, b0, out2]
  refine congrArg _ ?_
  funext a; apply Fin.ext; fin_cases a <;> simp [win0_2, e]

theorem final3 (c : Dev nD) : (dats m 0 c).arrAt 3 (cfgs 0).N = lateSum (V m c main_v97) := by
  refine (dats m 0 c).arrAt_eq_of_covers 3 _ (by decide +kernel) fun t hf y => ?_
  obtain ⟨-, -, -, e⟩ := idx t
  blk_simp; rw [after0_3, b1, out3]
  refine congrArg _ ?_
  funext a; apply Fin.ext; fin_cases a <;> simp [win0_3, e]

/-- What the host operations after the kernel read: the early sums, -/
theorem read2 (c : Dev nD) : Pipeline.withArrays (cfgs 0).spec c (V0 m c) (fun w => (dats m 0 c).arrAt w (cfgs 0).N) (Proc.tc.devRef main_v98_0)
    = (dats m 0 c).arrAt 2 (cfgs 0).N :=
  Pipeline.withArrays_arr _ launch0.win.arr_inj c _ _ 2

/-- and the late sums. -/
theorem read3 (c : Dev nD) : Pipeline.withArrays (cfgs 0).spec c (V0 m c) (fun w => (dats m 0 c).arrAt w (cfgs 0).N) (Proc.tc.devRef main_v98_1)
    = (dats m 0 c).arrAt 3 (cfgs 0).N :=
  Pipeline.withArrays_arr _ launch0.win.arr_inj c _ _ 3

set_option maxHeartbeats 4000000 in
/-- The kernel's sums, packed and unpacked on the host, are the reference's, for every argument. -/
theorem algebraic : Cert.algebraic_SumsIdeal_SumsRefIdeal := by
  intro m g m' g' hpre hagree
  refine ⟨fun c => val_main_v0 (F := Ideal) (m (c.tc.loc main_arg0)), fun c => val_main_v1 (F := Ideal) (m (c.tc.loc main_arg1)), fun c => val_main_v2 (F := Ideal) (m (c.tc.loc main_arg2)), fun c => val_main_v3 (F := Ideal) (m (c.tc.loc main_arg3)), fun c => val_main_v4 (F := Ideal) (m (c.tc.loc main_arg4)), fun c => val_main_v5 (F := Ideal) (m (c.tc.loc main_arg5)), fun c => val_main_v6 (F := Ideal) (m (c.tc.loc main_arg6)), fun c => val_main_v7 (F := Ideal) (m (c.tc.loc main_arg7)), fun c => val_main_v8 (F := Ideal) (m (c.tc.loc main_arg8)), fun c => val_main_v9 (F := Ideal) (m (c.tc.loc main_arg9)), fun c => val_main_v10 (F := Ideal) (m (c.tc.loc main_arg10)), fun c => val_main_v11 (F := Ideal) (m (c.tc.loc main_arg11)), fun c => val_main_v12 (F := Ideal) (m (c.tc.loc main_arg12)), fun c => val_main_v13 (F := Ideal) (m (c.tc.loc main_arg13)), fun c => val_main_v14 (F := Ideal) (m (c.tc.loc main_arg14)), fun c => val_main_v15 (F := Ideal) (m (c.tc.loc main_arg15)), fun c => val_main_v16 (F := Ideal) (m (c.tc.loc main_arg16)), fun c => val_main_v17 (F := Ideal) (m (c.tc.loc main_arg17)), fun c => val_main_v20 (F := Ideal) (m (c.tc.loc main_arg18)), ?_, ?_⟩
  · refine (θ_run _ _ _).mono (fun r h c => ?_) (θ_run_and (run_main m g) (unchanged m g))
    have rest := fun b hb => (h.1 c).2 b hb
    have early := (read2 m c).trans ((final2 m c).trans (congrArg _ (V82 m c)))
    have late := (read3 m c).trans ((final3 m c).trans (congrArg _ (V97 m c)))
    obtain ⟨s0, s1, s2, s3, s4, s5, s6, s7, s8, s9, s10, s11, s12, s13, s14⟩ := earlySum_out (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14))
    obtain ⟨s15, s16, s17, s18⟩ := lateSum_out (m (c.tc.loc main_arg15)) (m (c.tc.loc main_arg16)) (m (c.tc.loc main_arg17)) (m (c.tc.loc main_arg18))
    refine ⟨(rest main_v163 (Pipeline.mem_restRefs_of _ (by decide) (by decide))).trans (Eq.trans ?_ s0),
      (rest main_v164 (Pipeline.mem_restRefs_of _ (by decide) (by decide))).trans (Eq.trans ?_ s1),
      (rest main_v108 (Pipeline.mem_restRefs_of _ (by decide) (by decide))).trans (Eq.trans ?_ s2),
      (rest main_v167 (Pipeline.mem_restRefs_of _ (by decide) (by decide))).trans (Eq.trans ?_ s3),
      (rest main_v170 (Pipeline.mem_restRefs_of _ (by decide) (by decide))).trans (Eq.trans ?_ s4),
      (rest main_v171 (Pipeline.mem_restRefs_of _ (by decide) (by decide))).trans (Eq.trans ?_ s5),
      (rest main_v172 (Pipeline.mem_restRefs_of _ (by decide) (by decide))).trans (Eq.trans ?_ s6),
      (rest main_v174 (Pipeline.mem_restRefs_of _ (by decide) (by decide))).trans (Eq.trans ?_ s7),
      (rest main_v177 (Pipeline.mem_restRefs_of _ (by decide) (by decide))).trans (Eq.trans ?_ s8),
      (rest main_v179 (Pipeline.mem_restRefs_of _ (by decide) (by decide))).trans (Eq.trans ?_ s9),
      (rest main_v135 (Pipeline.mem_restRefs_of _ (by decide) (by decide))).trans (Eq.trans ?_ s10),
      (rest main_v180 (Pipeline.mem_restRefs_of _ (by decide) (by decide))).trans (Eq.trans ?_ s11),
      (rest main_v181 (Pipeline.mem_restRefs_of _ (by decide) (by decide))).trans (Eq.trans ?_ s12),
      (rest main_v146 (Pipeline.mem_restRefs_of _ (by decide) (by decide))).trans (Eq.trans ?_ s13),
      (rest main_v149 (Pipeline.mem_restRefs_of _ (by decide) (by decide))).trans (Eq.trans ?_ s14),
      (rest main_v152 (Pipeline.mem_restRefs_of _ (by decide) (by decide))).trans (Eq.trans ?_ s15),
      (rest main_v182 (Pipeline.mem_restRefs_of _ (by decide) (by decide))).trans (Eq.trans ?_ s16),
      (rest main_v158 (Pipeline.mem_restRefs_of _ (by decide) (by decide))).trans (Eq.trans ?_ s17),
      (rest main_v184 (Pipeline.mem_restRefs_of _ (by decide) (by decide))).trans (Eq.trans ?_ s18), h.2 c⟩
    all_goals
      unfold Pipeline.afterTail₀
      simp only [List.flatten_cons, List.flatten_nil, List.append_nil, List.cons_append, List.nil_append]
      after_results
    · exact congrArg lambdaReOut early
    · exact congrArg lambdaImOut early
    · exact congrArg logStepOut early
    · exact congrArg bReOut early
    · exact congrArg bImOut early
    · exact congrArg cReOut early
    · exact congrArg cImOut early
    · exact congrArg skipOut early
    · exact congrArg gluOut early
    · exact congrArg gluBiasOut early
    · exact congrArg ssmNormOut early
    · exact congrArg poolWOut early
    · exact congrArg poolScaleOut early
    · exact congrArg poolNormOut early
    · exact congrArg norm2Out early
    · exact congrArg norm1Out late
    · exact congrArg finalNormOut late
    · exact congrArg metaOut late
    · exact congrArg lossOut late
  · refine (θ_run _ _ _).mono (fun r h c => ?_) (Cert.SumsRefIdeal.Value.run m' g')
    obtain ⟨a0, a1, a2, a3, a4, a5, a6, a7, a8, a9, a10, a11, a12, a13, a14, a15, a16, a17, a18⟩ := hagree c
    obtain ⟨e0, e1, e2, e3, e4, e5, e6, e7, e8, e9, e10, e11, e12, e13, e14, e15, e16, e17, e18, e⟩ := h c
    exact ⟨(e0.trans (val_main_v0_eq _)).trans (congrArg _ a0), (e1.trans (val_main_v1_eq _)).trans (congrArg _ a1), (e2.trans (val_main_v2_eq _)).trans (congrArg _ a2), (e3.trans (val_main_v3_eq _)).trans (congrArg _ a3), (e4.trans (val_main_v4_eq _)).trans (congrArg _ a4), (e5.trans (val_main_v5_eq _)).trans (congrArg _ a5), (e6.trans (val_main_v6_eq _)).trans (congrArg _ a6), (e7.trans (val_main_v7_eq _)).trans (congrArg _ a7), (e8.trans (val_main_v8_eq _)).trans (congrArg _ a8), (e9.trans (val_main_v9_eq _)).trans (congrArg _ a9), (e10.trans (val_main_v10_eq _)).trans (congrArg _ a10), (e11.trans (val_main_v11_eq _)).trans (congrArg _ a11), (e12.trans (val_main_v12_eq _)).trans (congrArg _ a12), (e13.trans (val_main_v13_eq _)).trans (congrArg _ a13), (e14.trans (val_main_v14_eq _)).trans (congrArg _ a14), (e15.trans (val_main_v15_eq _)).trans (congrArg _ a15), (e16.trans (val_main_v16_eq _)).trans (congrArg _ a16), (e17.trans (val_main_v17_eq _)).trans (congrArg _ a17), (e18.trans (val_main_v20_eq _)).trans (congrArg _ a18), e⟩

end Cert.SumsIdeal.Tie

end
-- ==== Proof.InProj.Frame.lean ====
/- The input projection's gradient: the kernel at the machine's floats is the idealized text, and its frame is that text's. -/
module

public import proofs.«01_k».proof.Proof.InProj.FrameIdeal
public import proofs.«01_k».proof.Proof.Gen.InProj

@[expose] public section

set_option maxRecDepth 65536

noncomputable section

namespace Cert.InProj.Hand

open Cert.InProj Idealize.ShloMosaic Idealize.ShloMosaic.TcCoe Idealize.SL.Sem

variable {F : FTy → Type} [FloatOps F] (m : (ℓ : Loc nD τ sig) → Buf (Elt F) ℓ) (ρ : Dev nD → PrngReg)

/-- The two programs' labels run the same bodies. -/
theorem defs_eq : defs (F := F) = Cert.InProjIdeal.defs (F := F) := by
  refine congrArg (Pipeline.defs (pcfgs (F := F))) (congrArg Defs.onTc (funext fun l => funext fun a => ?_))
  match l, a with
  | 0, (t, s) => rfl
  | ⟨n + 1, h⟩, _ => exact absurd h (by omega)

/-- Every argument ends as it began and every counter at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5))
      ∧ r.2.sem = fun _ => 0) := by
  rw [defs_eq]
  exact Cert.InProjIdeal.Hand.frame m ρ

end Cert.InProj.Hand

end
-- ==== Proof.Pool.Frame.lean ====
/- The pooling's gradient: the kernel at the machine's floats is the idealized text, and its frame is that text's. -/
module

public import proofs.«01_k».proof.Proof.Pool.FrameIdeal
public import proofs.«01_k».proof.Proof.Gen.Pool

@[expose] public section

set_option maxRecDepth 65536

noncomputable section

namespace Cert.Pool.Hand

open Cert.Pool Idealize.ShloMosaic Idealize.ShloMosaic.TcCoe Idealize.SL.Sem

variable {F : FTy → Type} [FloatOps F] (m : (ℓ : Loc nD τ sig) → Buf (Elt F) ℓ) (ρ : Dev nD → PrngReg)

/-- The two programs' labels run the same bodies. -/
theorem defs_eq : defs (F := F) = Cert.PoolIdeal.defs (F := F) := by
  refine congrArg (Pipeline.defs (pcfgs (F := F))) (congrArg Defs.onTc (funext fun l => funext fun a => ?_))
  match l, a with
  | 0, (t, s) => rfl
  | ⟨n + 1, h⟩, _ => exact absurd h (by omega)

/-- Every argument ends as it began and every counter at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
      ∧ r.2.sem = fun _ => 0) := by
  rw [defs_eq]
  exact Cert.PoolIdeal.Hand.frame m ρ

end Cert.Pool.Hand

end
-- ==== Proof.Ffn.Frame.lean ====
/- The feed-forward gradient: the kernel at the machine's floats is the idealized text, and its frame is that text's. -/
module

public import proofs.«01_k».proof.Proof.Ffn.FrameIdeal
public import proofs.«01_k».proof.Proof.Gen.Ffn

@[expose] public section

set_option maxRecDepth 65536

noncomputable section

namespace Cert.Ffn.Hand

open Cert.Ffn Idealize.ShloMosaic Idealize.ShloMosaic.TcCoe Idealize.SL.Sem

variable {F : FTy → Type} [FloatOps F] (m : (ℓ : Loc nD τ sig) → Buf (Elt F) ℓ) (ρ : Dev nD → PrngReg)

set_option maxHeartbeats 8000000 in
/-- The two programs' labels run the same bodies. -/
theorem defs_eq : defs (F := F) = Cert.FfnIdeal.defs (F := F) := by
  refine congrArg (Pipeline.defs (pcfgs (F := F))) (congrArg Defs.onTc (funext fun l => funext fun a => ?_))
  match l, a with
  | 0, (t, s) => rfl
  | ⟨n + 1, h⟩, _ => exact absurd h (by omega)

set_option maxHeartbeats 8000000 in
/-- Every argument ends as it began and every counter at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6))
      ∧ r.2.sem = fun _ => 0) := by
  rw [defs_eq]
  exact Cert.FfnIdeal.Hand.frame m ρ

end Cert.Ffn.Hand

end
-- ==== Proof.lean ====
/- The certificate: every claim from its own module, in the order they are stated. -/
module

public import proofs.«01_k».proof.Defs
public import proofs.«01_k».proof.Proof.Gen.DiscBRefIdeal
public import proofs.«01_k».proof.Proof.Gen.OutProjRefIdeal
public import proofs.«01_k».proof.Proof.Gen.InProjRefIdeal
public import proofs.«01_k».proof.Proof.Gen.PoolRefIdeal
public import proofs.«01_k».proof.Proof.Gen.FfnRefIdeal
public import proofs.«01_k».proof.Proof.Gen.DiscARefIdeal
public import proofs.«01_k».proof.Proof.Gen.DiscAFwdRefIdeal
public import proofs.«01_k».proof.Proof.Gen.DiscBFwdRefIdeal
public import proofs.«01_k».proof.Proof.Gen.InProjFwdRefIdeal
public import proofs.«01_k».proof.Proof.Gen.OutProjFwdRefIdeal
public import proofs.«01_k».proof.Proof.Gen.FfnFwdRefIdeal
public import proofs.«01_k».proof.Proof.Gen.PoolFwdRefIdeal
public import proofs.«01_k».proof.Proof.Gen.AdamRowsRefIdeal
public import proofs.«01_k».proof.Proof.Gen.AdamMetaRefIdeal
public import proofs.«01_k».proof.Proof.Gen.AdamGateRefIdeal
public import proofs.«01_k».proof.Proof.Gen.AdamUpRefIdeal
public import proofs.«01_k».proof.Proof.Gen.AdamDownRefIdeal
public import proofs.«01_k».proof.Proof.Gen.WgradRefIdeal
public import proofs.«01_k».proof.Proof.Gen.SumsRefIdeal
public import proofs.«01_k».proof.Proof.Gen.DiscB.Frame
public import proofs.«01_k».proof.Proof.Gen.DiscBIdeal.Frame
public import proofs.«01_k».proof.Proof.Gen.DiscBRefIdeal.Read
public import proofs.«01_k».proof.Proof.Gen.DiscBIdeal.Value
public import proofs.«01_k».proof.Proof.DiscB.Value
public import proofs.«01_k».proof.Proof.Gen.OutProj.Frame
public import proofs.«01_k».proof.Proof.Gen.OutProjIdeal.Frame
public import proofs.«01_k».proof.Proof.Gen.OutProjRefIdeal.Read
public import proofs.«01_k».proof.Proof.OutProj.Value
public import proofs.«01_k».proof.Proof.Gen.InProj.Frame
public import proofs.«01_k».proof.Proof.Gen.InProjIdeal.Frame
public import proofs.«01_k».proof.Proof.Gen.InProjRefIdeal.Read
public import proofs.«01_k».proof.Proof.InProj.Value
public import proofs.«01_k».proof.Proof.Gen.Pool.Frame.Runs
public import proofs.«01_k».proof.Proof.Gen.PoolIdeal.Frame.Runs
public import proofs.«01_k».proof.Proof.Gen.PoolRefIdeal.Read
public import proofs.«01_k».proof.Proof.Pool.Value
public import proofs.«01_k».proof.Proof.Gen.Ffn.Frame.RunB
public import proofs.«01_k».proof.Proof.Gen.FfnIdeal.Frame.RunB
public import proofs.«01_k».proof.Proof.Gen.FfnRefIdeal.Read
public import proofs.«01_k».proof.Proof.Ffn.Value
public import proofs.«01_k».proof.Proof.Gen.DiscA.Frame
public import proofs.«01_k».proof.Proof.Gen.DiscAIdeal.Frame
public import proofs.«01_k».proof.Proof.Gen.DiscARefIdeal.Read
public import proofs.«01_k».proof.Proof.DiscA.Value
public import proofs.«01_k».proof.Proof.Gen.DiscAFwd.Frame
public import proofs.«01_k».proof.Proof.Gen.DiscAFwdIdeal.Frame
public import proofs.«01_k».proof.Proof.Gen.DiscAFwdRefIdeal.Read
public import proofs.«01_k».proof.Proof.DiscAFwd.Value
public import proofs.«01_k».proof.Proof.Gen.DiscBFwd.Frame
public import proofs.«01_k».proof.Proof.Gen.DiscBFwdIdeal.Frame
public import proofs.«01_k».proof.Proof.Gen.DiscBFwdRefIdeal.Read
public import proofs.«01_k».proof.Proof.DiscBFwd.Value
public import proofs.«01_k».proof.Proof.Gen.InProjFwd.Frame
public import proofs.«01_k».proof.Proof.Gen.InProjFwdIdeal.Frame
public import proofs.«01_k».proof.Proof.Gen.InProjFwdRefIdeal.Read
public import proofs.«01_k».proof.Proof.InProjFwd.Value
public import proofs.«01_k».proof.Proof.Gen.OutProjFwd.Frame
public import proofs.«01_k».proof.Proof.Gen.OutProjFwdIdeal.Frame
public import proofs.«01_k».proof.Proof.Gen.OutProjFwdRefIdeal.Read
public import proofs.«01_k».proof.Proof.OutProjFwd.Value
public import proofs.«01_k».proof.Proof.Gen.FfnFwd.Frame
public import proofs.«01_k».proof.Proof.Gen.FfnFwdIdeal.Frame
public import proofs.«01_k».proof.Proof.Gen.FfnFwdRefIdeal.Read
public import proofs.«01_k».proof.Proof.FfnFwd.Value
public import proofs.«01_k».proof.Proof.Gen.PoolFwd.Frame
public import proofs.«01_k».proof.Proof.Gen.PoolFwdIdeal.Frame
public import proofs.«01_k».proof.Proof.Gen.PoolFwdRefIdeal.Read
public import proofs.«01_k».proof.Proof.PoolFwd.Value
public import proofs.«01_k».proof.Proof.Gen.AdamRows.Frame
public import proofs.«01_k».proof.Proof.Gen.AdamRowsIdeal.Frame
public import proofs.«01_k».proof.Proof.Gen.AdamRowsRefIdeal.Read
public import proofs.«01_k».proof.Proof.AdamRows.Value
public import proofs.«01_k».proof.Proof.Gen.AdamMeta.Frame
public import proofs.«01_k».proof.Proof.Gen.AdamMetaIdeal.Frame
public import proofs.«01_k».proof.Proof.Gen.AdamMetaRefIdeal.Read
public import proofs.«01_k».proof.Proof.AdamMeta.Value
public import proofs.«01_k».proof.Proof.Gen.AdamGate.Frame
public import proofs.«01_k».proof.Proof.Gen.AdamGateIdeal.Frame
public import proofs.«01_k».proof.Proof.Gen.AdamGateRefIdeal.Read
public import proofs.«01_k».proof.Proof.AdamGate.Value
public import proofs.«01_k».proof.Proof.Gen.AdamUp.Frame
public import proofs.«01_k».proof.Proof.Gen.AdamUpIdeal.Frame
public import proofs.«01_k».proof.Proof.Gen.AdamUpRefIdeal.Read
public import proofs.«01_k».proof.Proof.AdamUp.Value
public import proofs.«01_k».proof.Proof.Gen.AdamDown.Frame
public import proofs.«01_k».proof.Proof.Gen.AdamDownIdeal.Frame
public import proofs.«01_k».proof.Proof.Gen.AdamDownRefIdeal.Read
public import proofs.«01_k».proof.Proof.AdamDown.Value
public import proofs.«01_k».proof.Proof.Gen.Wgrad.Frame
public import proofs.«01_k».proof.Proof.Gen.WgradIdeal.Frame
public import proofs.«01_k».proof.Proof.Gen.WgradRefIdeal.Read
public import proofs.«01_k».proof.Proof.Wgrad.Value
public import proofs.«01_k».proof.Proof.Gen.Sums.Frame
public import proofs.«01_k».proof.Proof.Gen.SumsIdeal.Frame
public import proofs.«01_k».proof.Proof.Gen.SumsRefIdeal.Read
public import proofs.«01_k».proof.Proof.Sums.Value
public import proofs.«01_k».proof.Proof.InProj.Frame
public import proofs.«01_k».proof.Proof.InProj.FrameIdeal
public import proofs.«01_k».proof.Proof.Pool.Frame
public import proofs.«01_k».proof.Proof.Pool.FrameIdeal
public import proofs.«01_k».proof.Proof.Ffn.Frame
public import proofs.«01_k».proof.Proof.Ffn.FrameIdeal
public import Idealize.ShloMosaic.Adequacy
public import Idealize.ShloMosaic.Init
public import Idealize.ShloMosaic.Lib.Claim

@[expose] public section

noncomputable section

namespace Cert.Proof

open Idealize.ShloMosaic Idealize.SL.Sem

theorem frame_DiscBRefIdeal : Cert.quiescent_DiscBRefIdeal := fun m ρ _ =>
  (θ_run Cert.DiscBRefIdeal.defs _ _).mono (fun r h => ⟨fun c => (h c).2.2.2.2, sem_eq_zero_of_no_sems (by decide) r.2⟩) (Cert.DiscBRefIdeal.Value.run m ρ)

theorem frame_OutProjRefIdeal : Cert.quiescent_OutProjRefIdeal := fun m ρ _ =>
  (θ_run Cert.OutProjRefIdeal.defs _ _).mono (fun r h => ⟨fun c => (h c).2.2.2.2.2, sem_eq_zero_of_no_sems (by decide) r.2⟩) (Cert.OutProjRefIdeal.Value.run m ρ)

theorem frame_InProjRefIdeal : Cert.quiescent_InProjRefIdeal := fun m ρ _ =>
  (θ_run Cert.InProjRefIdeal.defs _ _).mono (fun r h => ⟨fun c => (h c).2.2.2.2, sem_eq_zero_of_no_sems (by decide) r.2⟩) (Cert.InProjRefIdeal.Value.run m ρ)

theorem frame_PoolRefIdeal : Cert.quiescent_PoolRefIdeal := fun m ρ _ =>
  (θ_run Cert.PoolRefIdeal.defs _ _).mono (fun r h => ⟨fun c => (h c).2.2.2, sem_eq_zero_of_no_sems (by decide) r.2⟩) (Cert.PoolRefIdeal.Value.run m ρ)

theorem frame_FfnRefIdeal : Cert.quiescent_FfnRefIdeal := fun m ρ _ =>
  (θ_run Cert.FfnRefIdeal.defs _ _).mono (fun r h => ⟨fun c => (h c).2.2.2.2.2.2, sem_eq_zero_of_no_sems (by decide) r.2⟩) (Cert.FfnRefIdeal.Value.run m ρ)

theorem frame_DiscARefIdeal : Cert.quiescent_DiscARefIdeal := fun m ρ _ =>
  (θ_run Cert.DiscARefIdeal.defs _ _).mono (fun r h => ⟨fun c => (h c).2.2.2, sem_eq_zero_of_no_sems (by decide) r.2⟩) (Cert.DiscARefIdeal.Value.run m ρ)

theorem frame_DiscAFwdRefIdeal : Cert.quiescent_DiscAFwdRefIdeal := fun m ρ _ =>
  (θ_run Cert.DiscAFwdRefIdeal.defs _ _).mono (fun r h => ⟨fun c => (h c).2.2.2.2, sem_eq_zero_of_no_sems (by decide) r.2⟩) (Cert.DiscAFwdRefIdeal.Value.run m ρ)

theorem frame_DiscBFwdRefIdeal : Cert.quiescent_DiscBFwdRefIdeal := fun m ρ _ =>
  (θ_run Cert.DiscBFwdRefIdeal.defs _ _).mono (fun r h => ⟨fun c => (h c).2.2, sem_eq_zero_of_no_sems (by decide) r.2⟩) (Cert.DiscBFwdRefIdeal.Value.run m ρ)

theorem frame_InProjFwdRefIdeal : Cert.quiescent_InProjFwdRefIdeal := fun m ρ _ =>
  (θ_run Cert.InProjFwdRefIdeal.defs _ _).mono (fun r h => ⟨fun c => (h c).2.2, sem_eq_zero_of_no_sems (by decide) r.2⟩) (Cert.InProjFwdRefIdeal.Value.run m ρ)

theorem frame_OutProjFwdRefIdeal : Cert.quiescent_OutProjFwdRefIdeal := fun m ρ _ =>
  (θ_run Cert.OutProjFwdRefIdeal.defs _ _).mono (fun r h => ⟨fun c => (h c).2, sem_eq_zero_of_no_sems (by decide) r.2⟩) (Cert.OutProjFwdRefIdeal.Value.run m ρ)

theorem frame_FfnFwdRefIdeal : Cert.quiescent_FfnFwdRefIdeal := fun m ρ _ =>
  (θ_run Cert.FfnFwdRefIdeal.defs _ _).mono (fun r h => ⟨fun c => (h c).2.2.2, sem_eq_zero_of_no_sems (by decide) r.2⟩) (Cert.FfnFwdRefIdeal.Value.run m ρ)

theorem frame_PoolFwdRefIdeal : Cert.quiescent_PoolFwdRefIdeal := fun m ρ _ =>
  (θ_run Cert.PoolFwdRefIdeal.defs _ _).mono (fun r h => ⟨fun c => (h c).2, sem_eq_zero_of_no_sems (by decide) r.2⟩) (Cert.PoolFwdRefIdeal.Value.run m ρ)

theorem frame_AdamRowsRefIdeal : Cert.quiescent_AdamRowsRefIdeal := fun m ρ _ =>
  (θ_run Cert.AdamRowsRefIdeal.defs _ _).mono (fun r h => ⟨fun c => (h c).2.2.2.2, sem_eq_zero_of_no_sems (by decide) r.2⟩) (Cert.AdamRowsRefIdeal.Value.run m ρ)

theorem frame_AdamMetaRefIdeal : Cert.quiescent_AdamMetaRefIdeal := fun m ρ _ =>
  (θ_run Cert.AdamMetaRefIdeal.defs _ _).mono (fun r h => ⟨fun c => (h c).2.2.2.2, sem_eq_zero_of_no_sems (by decide) r.2⟩) (Cert.AdamMetaRefIdeal.Value.run m ρ)

theorem frame_AdamGateRefIdeal : Cert.quiescent_AdamGateRefIdeal := fun m ρ _ =>
  (θ_run Cert.AdamGateRefIdeal.defs _ _).mono (fun r h => ⟨fun c => (h c).2.2.2.2, sem_eq_zero_of_no_sems (by decide) r.2⟩) (Cert.AdamGateRefIdeal.Value.run m ρ)

theorem frame_AdamUpRefIdeal : Cert.quiescent_AdamUpRefIdeal := fun m ρ _ =>
  (θ_run Cert.AdamUpRefIdeal.defs _ _).mono (fun r h => ⟨fun c => (h c).2.2.2.2, sem_eq_zero_of_no_sems (by decide) r.2⟩) (Cert.AdamUpRefIdeal.Value.run m ρ)

theorem frame_AdamDownRefIdeal : Cert.quiescent_AdamDownRefIdeal := fun m ρ _ =>
  (θ_run Cert.AdamDownRefIdeal.defs _ _).mono (fun r h => ⟨fun c => (h c).2.2.2.2, sem_eq_zero_of_no_sems (by decide) r.2⟩) (Cert.AdamDownRefIdeal.Value.run m ρ)

theorem frame_WgradRefIdeal : Cert.quiescent_WgradRefIdeal := fun m ρ _ =>
  (θ_run Cert.WgradRefIdeal.defs _ _).mono (fun r h => ⟨fun c => (h c).2, sem_eq_zero_of_no_sems (by decide) r.2⟩) (Cert.WgradRefIdeal.Value.run m ρ)

theorem frame_SumsRefIdeal : Cert.quiescent_SumsRefIdeal := fun m ρ _ =>
  (θ_run Cert.SumsRefIdeal.defs _ _).mono (fun r h => ⟨fun c => (h c).2.2.2.2.2.2.2.2.2.2.2.2.2.2.2.2.2.2.2, sem_eq_zero_of_no_sems (by decide) r.2⟩) (Cert.SumsRefIdeal.Value.run m ρ)

theorem claim : Cert.Claim :=
  ⟨Cert.DiscB.Gen.facts,
    Cert.DiscBIdeal.Gen.facts,
    Cert.DiscBRefIdeal.Gen.facts,
    Cert.OutProj.Gen.facts,
    Cert.OutProjIdeal.Gen.facts,
    Cert.OutProjRefIdeal.Gen.facts,
    Cert.InProj.Gen.facts,
    Cert.InProjIdeal.Gen.facts,
    Cert.InProjRefIdeal.Gen.facts,
    Cert.Pool.Gen.facts,
    Cert.PoolIdeal.Gen.facts,
    Cert.PoolRefIdeal.Gen.facts,
    Cert.Ffn.Gen.facts,
    Cert.FfnIdeal.Gen.facts,
    Cert.FfnRefIdeal.Gen.facts,
    Cert.DiscA.Gen.facts,
    Cert.DiscAIdeal.Gen.facts,
    Cert.DiscARefIdeal.Gen.facts,
    Cert.DiscAFwd.Gen.facts,
    Cert.DiscAFwdIdeal.Gen.facts,
    Cert.DiscAFwdRefIdeal.Gen.facts,
    Cert.DiscBFwd.Gen.facts,
    Cert.DiscBFwdIdeal.Gen.facts,
    Cert.DiscBFwdRefIdeal.Gen.facts,
    Cert.InProjFwd.Gen.facts,
    Cert.InProjFwdIdeal.Gen.facts,
    Cert.InProjFwdRefIdeal.Gen.facts,
    Cert.OutProjFwd.Gen.facts,
    Cert.OutProjFwdIdeal.Gen.facts,
    Cert.OutProjFwdRefIdeal.Gen.facts,
    Cert.FfnFwd.Gen.facts,
    Cert.FfnFwdIdeal.Gen.facts,
    Cert.FfnFwdRefIdeal.Gen.facts,
    Cert.PoolFwd.Gen.facts,
    Cert.PoolFwdIdeal.Gen.facts,
    Cert.PoolFwdRefIdeal.Gen.facts,
    Cert.AdamRows.Gen.facts,
    Cert.AdamRowsIdeal.Gen.facts,
    Cert.AdamRowsRefIdeal.Gen.facts,
    Cert.AdamMeta.Gen.facts,
    Cert.AdamMetaIdeal.Gen.facts,
    Cert.AdamMetaRefIdeal.Gen.facts,
    Cert.AdamGate.Gen.facts,
    Cert.AdamGateIdeal.Gen.facts,
    Cert.AdamGateRefIdeal.Gen.facts,
    Cert.AdamUp.Gen.facts,
    Cert.AdamUpIdeal.Gen.facts,
    Cert.AdamUpRefIdeal.Gen.facts,
    Cert.AdamDown.Gen.facts,
    Cert.AdamDownIdeal.Gen.facts,
    Cert.AdamDownRefIdeal.Gen.facts,
    Cert.Wgrad.Gen.facts,
    Cert.WgradIdeal.Gen.facts,
    Cert.WgradRefIdeal.Gen.facts,
    Cert.Sums.Gen.facts,
    Cert.SumsIdeal.Gen.facts,
    Cert.SumsRefIdeal.Gen.facts,
    Cert.Pre_out_proj_finite.Gen.facts,
    Cert.Pre_in_proj_finite.Gen.facts,
    Cert.Pre_pool_finite.Gen.facts,
    Cert.Pre_ffn_finite.Gen.facts,
    Cert.Pre_pool_fwd_finite.Gen.facts,
    Cert.On_sequence_rows.Gen.facts,
    fun m ρ _ => Cert.DiscB.Gen.frame m ρ,
    fun m ρ _ => Cert.DiscBIdeal.Gen.frame m ρ,
    fun m ρ _ => frame_DiscBRefIdeal m ρ trivial,
    fun m ρ _ => Cert.OutProj.Gen.frame m ρ,
    fun m ρ _ => Cert.OutProjIdeal.Gen.frame m ρ,
    fun m ρ _ => Cert.OutProjIdeal.Gen.frame m ρ,
    fun m ρ _ => frame_OutProjRefIdeal m ρ trivial,
    fun m ρ _ => frame_OutProjRefIdeal m ρ trivial,
    fun m ρ _ => Cert.InProj.Hand.frame m ρ,
    fun m ρ _ => Cert.InProjIdeal.Hand.frame m ρ,
    fun m ρ _ => Cert.InProjIdeal.Hand.frame m ρ,
    fun m ρ _ => frame_InProjRefIdeal m ρ trivial,
    fun m ρ _ => frame_InProjRefIdeal m ρ trivial,
    fun m ρ _ => Cert.Pool.Hand.frame m ρ,
    fun m ρ _ => Cert.PoolIdeal.Hand.frame m ρ,
    fun m ρ _ => Cert.PoolIdeal.Hand.frame m ρ,
    fun m ρ _ => frame_PoolRefIdeal m ρ trivial,
    fun m ρ _ => frame_PoolRefIdeal m ρ trivial,
    fun m ρ _ => Cert.Ffn.Hand.frame m ρ,
    fun m ρ _ => Cert.FfnIdeal.Hand.frame m ρ,
    fun m ρ _ => Cert.FfnIdeal.Hand.frame m ρ,
    fun m ρ _ => frame_FfnRefIdeal m ρ trivial,
    fun m ρ _ => frame_FfnRefIdeal m ρ trivial,
    fun m ρ _ => Cert.DiscA.Gen.frame m ρ,
    fun m ρ _ => Cert.DiscAIdeal.Gen.frame m ρ,
    fun m ρ _ => frame_DiscARefIdeal m ρ trivial,
    fun m ρ _ => Cert.DiscAFwd.Gen.frame m ρ,
    fun m ρ _ => Cert.DiscAFwdIdeal.Gen.frame m ρ,
    fun m ρ _ => frame_DiscAFwdRefIdeal m ρ trivial,
    fun m ρ _ => Cert.DiscBFwd.Gen.frame m ρ,
    fun m ρ _ => Cert.DiscBFwdIdeal.Gen.frame m ρ,
    fun m ρ _ => frame_DiscBFwdRefIdeal m ρ trivial,
    fun m ρ _ => Cert.InProjFwd.Gen.frame m ρ,
    fun m ρ _ => Cert.InProjFwdIdeal.Gen.frame m ρ,
    fun m ρ _ => frame_InProjFwdRefIdeal m ρ trivial,
    fun m ρ _ => Cert.OutProjFwd.Gen.frame m ρ,
    fun m ρ _ => Cert.OutProjFwdIdeal.Gen.frame m ρ,
    fun m ρ _ => frame_OutProjFwdRefIdeal m ρ trivial,
    fun m ρ _ => Cert.FfnFwd.Gen.frame m ρ,
    fun m ρ _ => Cert.FfnFwdIdeal.Gen.frame m ρ,
    fun m ρ _ => frame_FfnFwdRefIdeal m ρ trivial,
    fun m ρ _ => Cert.PoolFwd.Gen.frame m ρ,
    fun m ρ _ => Cert.PoolFwdIdeal.Gen.frame m ρ,
    fun m ρ _ => Cert.PoolFwdIdeal.Gen.frame m ρ,
    fun m ρ _ => frame_PoolFwdRefIdeal m ρ trivial,
    fun m ρ _ => frame_PoolFwdRefIdeal m ρ trivial,
    fun m ρ _ => Cert.AdamRows.Gen.frame m ρ,
    fun m ρ _ => Cert.AdamRowsIdeal.Gen.frame m ρ,
    fun m ρ _ => frame_AdamRowsRefIdeal m ρ trivial,
    fun m ρ _ => Cert.AdamMeta.Gen.frame m ρ,
    fun m ρ _ => Cert.AdamMetaIdeal.Gen.frame m ρ,
    fun m ρ _ => frame_AdamMetaRefIdeal m ρ trivial,
    fun m ρ _ => Cert.AdamGate.Gen.frame m ρ,
    fun m ρ _ => Cert.AdamGateIdeal.Gen.frame m ρ,
    fun m ρ _ => frame_AdamGateRefIdeal m ρ trivial,
    fun m ρ _ => Cert.AdamUp.Gen.frame m ρ,
    fun m ρ _ => Cert.AdamUpIdeal.Gen.frame m ρ,
    fun m ρ _ => frame_AdamUpRefIdeal m ρ trivial,
    fun m ρ _ => Cert.AdamDown.Gen.frame m ρ,
    fun m ρ _ => Cert.AdamDownIdeal.Gen.frame m ρ,
    fun m ρ _ => frame_AdamDownRefIdeal m ρ trivial,
    fun m ρ _ => Cert.Wgrad.Gen.frame m ρ,
    fun m ρ _ => Cert.WgradIdeal.Gen.frame m ρ,
    fun m ρ _ => frame_WgradRefIdeal m ρ trivial,
    fun m ρ _ => Cert.Sums.Gen.frame m ρ,
    fun m ρ _ => Cert.SumsIdeal.Gen.frame m ρ,
    fun m ρ _ => frame_SumsRefIdeal m ρ trivial,
    trivial,
    Cert.DiscBIdeal.Tie.algebraic,
    trivial,
    Cert.OutProjIdeal.Tie.algebraic,
    trivial,
    Cert.InProjIdeal.Tie.algebraic,
    trivial,
    Cert.PoolIdeal.Tie.algebraic,
    trivial,
    Cert.FfnIdeal.Tie.algebraic,
    trivial,
    Cert.DiscAIdeal.Tie.algebraic,
    trivial,
    Cert.DiscAFwdIdeal.Tie.algebraic,
    trivial,
    Cert.DiscBFwdIdeal.Tie.algebraic,
    trivial,
    Cert.InProjFwdIdeal.Tie.algebraic,
    trivial,
    Cert.OutProjFwdIdeal.Tie.algebraic,
    trivial,
    Cert.FfnFwdIdeal.Tie.algebraic,
    trivial,
    Cert.PoolFwdIdeal.Tie.algebraic,
    trivial,
    Cert.AdamRowsIdeal.Tie.algebraic,
    trivial,
    Cert.AdamMetaIdeal.Tie.algebraic,
    trivial,
    Cert.AdamGateIdeal.Tie.algebraic,
    trivial,
    Cert.AdamUpIdeal.Tie.algebraic,
    trivial,
    Cert.AdamDownIdeal.Tie.algebraic,
    trivial,
    Cert.WgradIdeal.Tie.algebraic,
    trivial,
    Cert.SumsIdeal.Tie.algebraic⟩

end Cert.Proof

end
